-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_QgGrad (m : (ℓ : Loc Cert.QgGrad.nD Cert.QgGrad.τ Cert.QgGrad.sig) → Buf (Elt Bits) ℓ) : Prop :=
  True

def Pre_QgGradIdeal (m : (ℓ : Loc Cert.QgGradIdeal.nD Cert.QgGradIdeal.τ Cert.QgGradIdeal.sig) → Buf (Elt Ideal) ℓ) : Prop :=
  True

def Pre_QgGradRefIdeal (m : (ℓ : Loc Cert.QgGradRefIdeal.nD Cert.QgGradRefIdeal.τ Cert.QgGradRefIdeal.sig) → Buf (Elt Ideal) ℓ) : Prop :=
  True

def Pre_KvfGrad (m : (ℓ : Loc Cert.KvfGrad.nD Cert.KvfGrad.τ Cert.KvfGrad.sig) → Buf (Elt Bits) ℓ) : Prop :=
  True

def Pre_KvfGradIdeal (m : (ℓ : Loc Cert.KvfGradIdeal.nD Cert.KvfGradIdeal.τ Cert.KvfGradIdeal.sig) → Buf (Elt Ideal) ℓ) : Prop :=
  True

def Pre_KvfGradRefIdeal (m : (ℓ : Loc Cert.KvfGradRefIdeal.nD Cert.KvfGradRefIdeal.τ Cert.KvfGradRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamKvNorm (m : (ℓ : Loc Cert.AdamKvNorm.nD Cert.AdamKvNorm.τ Cert.AdamKvNorm.sig) → Buf (Elt Bits) ℓ) : Prop :=
  True

def Pre_AdamKvNormIdeal (m : (ℓ : Loc Cert.AdamKvNormIdeal.nD Cert.AdamKvNormIdeal.τ Cert.AdamKvNormIdeal.sig) → Buf (Elt Ideal) ℓ) : Prop :=
  True

def Pre_AdamKvNormRefIdeal (m : (ℓ : Loc Cert.AdamKvNormRefIdeal.nD Cert.AdamKvNormRefIdeal.τ Cert.AdamKvNormRefIdeal.sig) → Buf (Elt Ideal) ℓ) : Prop :=
  True

def Pre_AdamKvf (m : (ℓ : Loc Cert.AdamKvf.nD Cert.AdamKvf.τ Cert.AdamKvf.sig) → Buf (Elt Bits) ℓ) : Prop :=
  True

def Pre_AdamKvfIdeal (m : (ℓ : Loc Cert.AdamKvfIdeal.nD Cert.AdamKvfIdeal.τ Cert.AdamKvfIdeal.sig) → Buf (Elt Ideal) ℓ) : Prop :=
  True

def Pre_AdamKvfRefIdeal (m : (ℓ : Loc Cert.AdamKvfRefIdeal.nD Cert.AdamKvfRefIdeal.τ Cert.AdamKvfRefIdeal.sig) → Buf (Elt Ideal) ℓ) : Prop :=
  True

def Pre_AdamBf (m : (ℓ : Loc Cert.AdamBf.nD Cert.AdamBf.τ Cert.AdamBf.sig) → Buf (Elt Bits) ℓ) : Prop :=
  True

def Pre_AdamBfIdeal (m : (ℓ : Loc Cert.AdamBfIdeal.nD Cert.AdamBfIdeal.τ Cert.AdamBfIdeal.sig) → Buf (Elt Ideal) ℓ) : Prop :=
  True

def Pre_AdamBfRefIdeal (m : (ℓ : Loc Cert.AdamBfRefIdeal.nD Cert.AdamBfRefIdeal.τ Cert.AdamBfRefIdeal.sig) → Buf (Elt Ideal) ℓ) : Prop :=
  True

def Pre_AdamKNorm (m : (ℓ : Loc Cert.AdamKNorm.nD Cert.AdamKNorm.τ Cert.AdamKNorm.sig) → Buf (Elt Bits) ℓ) : Prop :=
  True

def Pre_AdamKNormIdeal (m : (ℓ : Loc Cert.AdamKNormIdeal.nD Cert.AdamKNormIdeal.τ Cert.AdamKNormIdeal.sig) → Buf (Elt Ideal) ℓ) : Prop :=
  True

def Pre_AdamKNormRefIdeal (m : (ℓ : Loc Cert.AdamKNormRefIdeal.nD Cert.AdamKNormRefIdeal.τ Cert.AdamKNormRefIdeal.sig) → Buf (Elt Ideal) ℓ) : Prop :=
  True

def Pre_AdamQg (m : (ℓ : Loc Cert.AdamQg.nD Cert.AdamQg.τ Cert.AdamQg.sig) → Buf (Elt Bits) ℓ) : Prop :=
  True

def Pre_AdamQgIdeal (m : (ℓ : Loc Cert.AdamQgIdeal.nD Cert.AdamQgIdeal.τ Cert.AdamQgIdeal.sig) → Buf (Elt Ideal) ℓ) : Prop :=
  True

def Pre_AdamQgRefIdeal (m : (ℓ : Loc Cert.AdamQgRefIdeal.nD Cert.AdamQgRefIdeal.τ Cert.AdamQgRefIdeal.sig) → Buf (Elt Ideal) ℓ) : Prop :=
  True

def Pre_AdamQNorm (m : (ℓ : Loc Cert.AdamQNorm.nD Cert.AdamQNorm.τ Cert.AdamQNorm.sig) → Buf (Elt Bits) ℓ) : Prop :=
  True

def Pre_AdamQNormIdeal (m : (ℓ : Loc Cert.AdamQNormIdeal.nD Cert.AdamQNormIdeal.τ Cert.AdamQNormIdeal.sig) → Buf (Elt Ideal) ℓ) : Prop :=
  True

def Pre_AdamQNormRefIdeal (m : (ℓ : Loc Cert.AdamQNormRefIdeal.nD Cert.AdamQNormRefIdeal.τ Cert.AdamQNormRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamFConv (m : (ℓ : Loc Cert.AdamFConv.nD Cert.AdamFConv.τ Cert.AdamFConv.sig) → Buf (Elt Bits) ℓ) : Prop :=
  True

def Pre_AdamFConvIdeal (m : (ℓ : Loc Cert.AdamFConvIdeal.nD Cert.AdamFConvIdeal.τ Cert.AdamFConvIdeal.sig) → Buf (Elt Ideal) ℓ) : Prop :=
  True

def Pre_AdamFConvRefIdeal (m : (ℓ : Loc Cert.AdamFConvRefIdeal.nD Cert.AdamFConvRefIdeal.τ Cert.AdamFConvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_QgGrad [hQgGrad : Cert.QgGrad.Facts] : Prop :=
  ∀ (m : (ℓ : Loc Cert.QgGrad.nD Cert.QgGrad.τ Cert.QgGrad.sig) → Buf (Elt Bits) ℓ) (g : Dev Cert.QgGrad.nD → PrngReg), Pre_QgGrad m →
    θ_run (Cert.QgGrad.defs (F := Bits)) (onTc (τ := Cert.QgGrad.τ) (Cert.QgGrad.main (F := Bits))) ⟨m, fun _ => 0, g⟩ (fun r => (∀ c : Dev Cert.QgGrad.nD,
      r.2.mem ((c.tc : Thread Cert.QgGrad.nD Cert.QgGrad.τ).loc Cert.QgGrad.main_arg0) = m ((c.tc : Thread Cert.QgGrad.nD Cert.QgGrad.τ).loc Cert.QgGrad.main_arg0)
      ∧ r.2.mem ((c.tc : Thread Cert.QgGrad.nD Cert.QgGrad.τ).loc Cert.QgGrad.main_arg1) = m ((c.tc : Thread Cert.QgGrad.nD Cert.QgGrad.τ).loc Cert.QgGrad.main_arg1))
      ∧ r.2.sem = fun _ => 0)

def quiescent_QgGradIdeal [hQgGradIdeal : Cert.QgGradIdeal.Facts] : Prop :=
  ∀ (m : (ℓ : Loc Cert.QgGradIdeal.nD Cert.QgGradIdeal.τ Cert.QgGradIdeal.sig) → Buf (Elt Ideal) ℓ) (g : Dev Cert.QgGradIdeal.nD → PrngReg), Pre_QgGradIdeal m →
    θ_run (Cert.QgGradIdeal.defs (F := Ideal)) (onTc (τ := Cert.QgGradIdeal.τ) (Cert.QgGradIdeal.main (F := Ideal))) ⟨m, fun _ => 0, g⟩ (fun r => (∀ c : Dev Cert.QgGradIdeal.nD,
      r.2.mem ((c.tc : Thread Cert.QgGradIdeal.nD Cert.QgGradIdeal.τ).loc Cert.QgGradIdeal.main_arg0) = m ((c.tc : Thread Cert.QgGradIdeal.nD Cert.QgGradIdeal.τ).loc Cert.QgGradIdeal.main_arg0)
      ∧ r.2.mem ((c.tc : Thread Cert.QgGradIdeal.nD Cert.QgGradIdeal.τ).loc Cert.QgGradIdeal.main_arg1) = m ((c.tc : Thread Cert.QgGradIdeal.nD Cert.QgGradIdeal.τ).loc Cert.QgGradIdeal.main_arg1))
      ∧ r.2.sem = fun _ => 0)

def quiescent_QgGradRefIdeal [hQgGradRefIdeal : Cert.QgGradRefIdeal.Facts] : Prop :=
  ∀ (m : (ℓ : Loc Cert.QgGradRefIdeal.nD Cert.QgGradRefIdeal.τ Cert.QgGradRefIdeal.sig) → Buf (Elt Ideal) ℓ) (g : Dev Cert.QgGradRefIdeal.nD → PrngReg), Pre_QgGradRefIdeal m →
    θ_run (Cert.QgGradRefIdeal.defs (F := Ideal)) (onTc (τ := Cert.QgGradRefIdeal.τ) (Cert.QgGradRefIdeal.main (F := Ideal))) ⟨m, fun _ => 0, g⟩ (fun r => (∀ c : Dev Cert.QgGradRefIdeal.nD,
      r.2.mem ((c.tc : Thread Cert.QgGradRefIdeal.nD Cert.QgGradRefIdeal.τ).loc Cert.QgGradRefIdeal.main_arg0) = m ((c.tc : Thread Cert.QgGradRefIdeal.nD Cert.QgGradRefIdeal.τ).loc Cert.QgGradRefIdeal.main_arg0)
      ∧ r.2.mem ((c.tc : Thread Cert.QgGradRefIdeal.nD Cert.QgGradRefIdeal.τ).loc Cert.QgGradRefIdeal.main_arg1) = m ((c.tc : Thread Cert.QgGradRefIdeal.nD Cert.QgGradRefIdeal.τ).loc Cert.QgGradRefIdeal.main_arg1))
      ∧ r.2.sem = fun _ => 0)

def quiescent_KvfGrad [hKvfGrad : Cert.KvfGrad.Facts] : Prop :=
  ∀ (m : (ℓ : Loc Cert.KvfGrad.nD Cert.KvfGrad.τ Cert.KvfGrad.sig) → Buf (Elt Bits) ℓ) (g : Dev Cert.KvfGrad.nD → PrngReg), Pre_KvfGrad m →
    θ_run (Cert.KvfGrad.defs (F := Bits)) (onTc (τ := Cert.KvfGrad.τ) (Cert.KvfGrad.main (F := Bits))) ⟨m, fun _ => 0, g⟩ (fun r => (∀ c : Dev Cert.KvfGrad.nD,
      r.2.mem ((c.tc : Thread Cert.KvfGrad.nD Cert.KvfGrad.τ).loc Cert.KvfGrad.main_arg0) = m ((c.tc : Thread Cert.KvfGrad.nD Cert.KvfGrad.τ).loc Cert.KvfGrad.main_arg0)
      ∧ r.2.mem ((c.tc : Thread Cert.KvfGrad.nD Cert.KvfGrad.τ).loc Cert.KvfGrad.main_arg1) = m ((c.tc : Thread Cert.KvfGrad.nD Cert.KvfGrad.τ).loc Cert.KvfGrad.main_arg1))
      ∧ r.2.sem = fun _ => 0)

def quiescent_KvfGradIdeal [hKvfGradIdeal : Cert.KvfGradIdeal.Facts] : Prop :=
  ∀ (m : (ℓ : Loc Cert.KvfGradIdeal.nD Cert.KvfGradIdeal.τ Cert.KvfGradIdeal.sig) → Buf (Elt Ideal) ℓ) (g : Dev Cert.KvfGradIdeal.nD → PrngReg), Pre_KvfGradIdeal m →
    θ_run (Cert.KvfGradIdeal.defs (F := Ideal)) (onTc (τ := Cert.KvfGradIdeal.τ) (Cert.KvfGradIdeal.main (F := Ideal))) ⟨m, fun _ => 0, g⟩ (fun r => (∀ c : Dev Cert.KvfGradIdeal.nD,
      r.2.mem ((c.tc : Thread Cert.KvfGradIdeal.nD Cert.KvfGradIdeal.τ).loc Cert.KvfGradIdeal.main_arg0) = m ((c.tc : Thread Cert.KvfGradIdeal.nD Cert.KvfGradIdeal.τ).loc Cert.KvfGradIdeal.main_arg0)
      ∧ r.2.mem ((c.tc : Thread Cert.KvfGradIdeal.nD Cert.KvfGradIdeal.τ).loc Cert.KvfGradIdeal.main_arg1) = m ((c.tc : Thread Cert.KvfGradIdeal.nD Cert.KvfGradIdeal.τ).loc Cert.KvfGradIdeal.main_arg1))
      ∧ r.2.sem = fun _ => 0)

def quiescent_KvfGradRefIdeal [hKvfGradRefIdeal : Cert.KvfGradRefIdeal.Facts] : Prop :=
  ∀ (m : (ℓ : Loc Cert.KvfGradRefIdeal.nD Cert.KvfGradRefIdeal.τ Cert.KvfGradRefIdeal.sig) → Buf (Elt Ideal) ℓ) (g : Dev Cert.KvfGradRefIdeal.nD → PrngReg), Pre_KvfGradRefIdeal m →
    θ_run (Cert.KvfGradRefIdeal.defs (F := Ideal)) (onTc (τ := Cert.KvfGradRefIdeal.τ) (Cert.KvfGradRefIdeal.main (F := Ideal))) ⟨m, fun _ => 0, g⟩ (fun r => (∀ c : Dev Cert.KvfGradRefIdeal.nD,
      r.2.mem ((c.tc : Thread Cert.KvfGradRefIdeal.nD Cert.KvfGradRefIdeal.τ).loc Cert.KvfGradRefIdeal.main_arg0) = m ((c.tc : Thread Cert.KvfGradRefIdeal.nD Cert.KvfGradRefIdeal.τ).loc Cert.KvfGradRefIdeal.main_arg0)
      ∧ r.2.mem ((c.tc : Thread Cert.KvfGradRefIdeal.nD Cert.KvfGradRefIdeal.τ).loc Cert.KvfGradRefIdeal.main_arg1) = m ((c.tc : Thread Cert.KvfGradRefIdeal.nD Cert.KvfGradRefIdeal.τ).loc Cert.KvfGradRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamKvNorm [hAdamKvNorm : Cert.AdamKvNorm.Facts] : Prop :=
  ∀ (m : (ℓ : Loc Cert.AdamKvNorm.nD Cert.AdamKvNorm.τ Cert.AdamKvNorm.sig) → Buf (Elt Bits) ℓ) (g : Dev Cert.AdamKvNorm.nD → PrngReg), Pre_AdamKvNorm m →
    θ_run (Cert.AdamKvNorm.defs (F := Bits)) (onTc (τ := Cert.AdamKvNorm.τ) (Cert.AdamKvNorm.main (F := Bits))) ⟨m, fun _ => 0, g⟩ (fun r => (∀ c : Dev Cert.AdamKvNorm.nD,
      r.2.mem ((c.tc : Thread Cert.AdamKvNorm.nD Cert.AdamKvNorm.τ).loc Cert.AdamKvNorm.main_arg0) = m ((c.tc : Thread Cert.AdamKvNorm.nD Cert.AdamKvNorm.τ).loc Cert.AdamKvNorm.main_arg0)
      ∧ r.2.mem ((c.tc : Thread Cert.AdamKvNorm.nD Cert.AdamKvNorm.τ).loc Cert.AdamKvNorm.main_arg1) = m ((c.tc : Thread Cert.AdamKvNorm.nD Cert.AdamKvNorm.τ).loc Cert.AdamKvNorm.main_arg1)
      ∧ r.2.mem ((c.tc : Thread Cert.AdamKvNorm.nD Cert.AdamKvNorm.τ).loc Cert.AdamKvNorm.main_arg2) = m ((c.tc : Thread Cert.AdamKvNorm.nD Cert.AdamKvNorm.τ).loc Cert.AdamKvNorm.main_arg2)
      ∧ r.2.mem ((c.tc : Thread Cert.AdamKvNorm.nD Cert.AdamKvNorm.τ).loc Cert.AdamKvNorm.main_arg3) = m ((c.tc : Thread Cert.AdamKvNorm.nD Cert.AdamKvNorm.τ).loc Cert.AdamKvNorm.main_arg3))
      ∧ r.2.sem = fun _ => 0)

def quiescent_AdamKvNormIdeal [hAdamKvNormIdeal : Cert.AdamKvNormIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg), Pre_AdamKvNormIdeal m →
    θ_run (Cert.AdamKvNormIdeal.defs (F := Ideal)) (onTc (τ := Cert.AdamKvNormIdeal.τ) (Cert.AdamKvNormIdeal.main (F := Ideal))) ⟨m, fun _ => 0, g⟩ (fun r => (∀ c : Dev Cert.AdamKvNormIdeal.nD,
      r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
      ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
      ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
      ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ r.2.sem = fun _ => 0)

def quiescent_AdamKvNormRefIdeal [hAdamKvNormRefIdeal : Cert.AdamKvNormRefIdeal.Facts] : Prop :=
  ∀ (m : (ℓ : Loc Cert.AdamKvNormRefIdeal.nD Cert.AdamKvNormRefIdeal.τ Cert.AdamKvNormRefIdeal.sig) → Buf (Elt Ideal) ℓ) (g : Dev Cert.AdamKvNormRefIdeal.nD → PrngReg), Pre_AdamKvNormRefIdeal m →
    θ_run (Cert.AdamKvNormRefIdeal.defs (F := Ideal)) (onTc (τ := Cert.AdamKvNormRefIdeal.τ) (Cert.AdamKvNormRefIdeal.main (F := Ideal))) ⟨m, fun _ => 0, g⟩ (fun r => (∀ c : Dev Cert.AdamKvNormRefIdeal.nD,
      r.2.mem ((c.tc : Thread Cert.AdamKvNormRefIdeal.nD Cert.AdamKvNormRefIdeal.τ).loc Cert.AdamKvNormRefIdeal.main_arg0) = m ((c.tc : Thread Cert.AdamKvNormRefIdeal.nD Cert.AdamKvNormRefIdeal.τ).loc Cert.AdamKvNormRefIdeal.main_arg0)
      ∧ r.2.mem ((c.tc : Thread Cert.AdamKvNormRefIdeal.nD Cert.AdamKvNormRefIdeal.τ).loc Cert.AdamKvNormRefIdeal.main_arg1) = m ((c.tc : Thread Cert.AdamKvNormRefIdeal.nD Cert.AdamKvNormRefIdeal.τ).loc Cert.AdamKvNormRefIdeal.main_arg1)
      ∧ r.2.mem ((c.tc : Thread Cert.AdamKvNormRefIdeal.nD Cert.AdamKvNormRefIdeal.τ).loc Cert.AdamKvNormRefIdeal.main_arg2) = m ((c.tc : Thread Cert.AdamKvNormRefIdeal.nD Cert.AdamKvNormRefIdeal.τ).loc Cert.AdamKvNormRefIdeal.main_arg2)
      ∧ r.2.mem ((c.tc : Thread Cert.AdamKvNormRefIdeal.nD Cert.AdamKvNormRefIdeal.τ).loc Cert.AdamKvNormRefIdeal.main_arg3) = m ((c.tc : Thread Cert.AdamKvNormRefIdeal.nD Cert.AdamKvNormRefIdeal.τ).loc Cert.AdamKvNormRefIdeal.main_arg3))
      ∧ r.2.sem = fun _ => 0)

def quiescent_AdamKvf [hAdamKvf : Cert.AdamKvf.Facts] : Prop :=
  ∀ (m : (ℓ : Loc Cert.AdamKvf.nD Cert.AdamKvf.τ Cert.AdamKvf.sig) → Buf (Elt Bits) ℓ) (g : Dev Cert.AdamKvf.nD → PrngReg), Pre_AdamKvf m →
    θ_run (Cert.AdamKvf.defs (F := Bits)) (onTc (τ := Cert.AdamKvf.τ) (Cert.AdamKvf.main (F := Bits))) ⟨m, fun _ => 0, g⟩ (fun r => (∀ c : Dev Cert.AdamKvf.nD,
      r.2.mem ((c.tc : Thread Cert.AdamKvf.nD Cert.AdamKvf.τ).loc Cert.AdamKvf.main_arg0) = m ((c.tc : Thread Cert.AdamKvf.nD Cert.AdamKvf.τ).loc Cert.AdamKvf.main_arg0)
      ∧ r.2.mem ((c.tc : Thread Cert.AdamKvf.nD Cert.AdamKvf.τ).loc Cert.AdamKvf.main_arg1) = m ((c.tc : Thread Cert.AdamKvf.nD Cert.AdamKvf.τ).loc Cert.AdamKvf.main_arg1)
      ∧ r.2.mem ((c.tc : Thread Cert.AdamKvf.nD Cert.AdamKvf.τ).loc Cert.AdamKvf.main_arg2) = m ((c.tc : Thread Cert.AdamKvf.nD Cert.AdamKvf.τ).loc Cert.AdamKvf.main_arg2)
      ∧ r.2.mem ((c.tc : Thread Cert.AdamKvf.nD Cert.AdamKvf.τ).loc Cert.AdamKvf.main_arg3) = m ((c.tc : Thread Cert.AdamKvf.nD Cert.AdamKvf.τ).loc Cert.AdamKvf.main_arg3))
      ∧ r.2.sem = fun _ => 0)

def quiescent_AdamKvfIdeal [hAdamKvfIdeal : Cert.AdamKvfIdeal.Facts] : Prop :=
  ∀ (m : (ℓ : Loc Cert.AdamKvfIdeal.nD Cert.AdamKvfIdeal.τ Cert.AdamKvfIdeal.sig) → Buf (Elt Ideal) ℓ) (g : Dev Cert.AdamKvfIdeal.nD → PrngReg), Pre_AdamKvfIdeal m →
    θ_run (Cert.AdamKvfIdeal.defs (F := Ideal)) (onTc (τ := Cert.AdamKvfIdeal.τ) (Cert.AdamKvfIdeal.main (F := Ideal))) ⟨m, fun _ => 0, g⟩ (fun r => (∀ c : Dev Cert.AdamKvfIdeal.nD,
      r.2.mem ((c.tc : Thread Cert.AdamKvfIdeal.nD Cert.AdamKvfIdeal.τ).loc Cert.AdamKvfIdeal.main_arg0) = m ((c.tc : Thread Cert.AdamKvfIdeal.nD Cert.AdamKvfIdeal.τ).loc Cert.AdamKvfIdeal.main_arg0)
      ∧ r.2.mem ((c.tc : Thread Cert.AdamKvfIdeal.nD Cert.AdamKvfIdeal.τ).loc Cert.AdamKvfIdeal.main_arg1) = m ((c.tc : Thread Cert.AdamKvfIdeal.nD Cert.AdamKvfIdeal.τ).loc Cert.AdamKvfIdeal.main_arg1)
      ∧ r.2.mem ((c.tc : Thread Cert.AdamKvfIdeal.nD Cert.AdamKvfIdeal.τ).loc Cert.AdamKvfIdeal.main_arg2) = m ((c.tc : Thread Cert.AdamKvfIdeal.nD Cert.AdamKvfIdeal.τ).loc Cert.AdamKvfIdeal.main_arg2)
      ∧ r.2.mem ((c.tc : Thread Cert.AdamKvfIdeal.nD Cert.AdamKvfIdeal.τ).loc Cert.AdamKvfIdeal.main_arg3) = m ((c.tc : Thread Cert.AdamKvfIdeal.nD Cert.AdamKvfIdeal.τ).loc Cert.AdamKvfIdeal.main_arg3))
      ∧ r.2.sem = fun _ => 0)

def quiescent_AdamKvfRefIdeal [hAdamKvfRefIdeal : Cert.AdamKvfRefIdeal.Facts] : Prop :=
  ∀ (m : (ℓ : Loc Cert.AdamKvfRefIdeal.nD Cert.AdamKvfRefIdeal.τ Cert.AdamKvfRefIdeal.sig) → Buf (Elt Ideal) ℓ) (g : Dev Cert.AdamKvfRefIdeal.nD → PrngReg), Pre_AdamKvfRefIdeal m →
    θ_run (Cert.AdamKvfRefIdeal.defs (F := Ideal)) (onTc (τ := Cert.AdamKvfRefIdeal.τ) (Cert.AdamKvfRefIdeal.main (F := Ideal))) ⟨m, fun _ => 0, g⟩ (fun r => (∀ c : Dev Cert.AdamKvfRefIdeal.nD,
      r.2.mem ((c.tc : Thread Cert.AdamKvfRefIdeal.nD Cert.AdamKvfRefIdeal.τ).loc Cert.AdamKvfRefIdeal.main_arg0) = m ((c.tc : Thread Cert.AdamKvfRefIdeal.nD Cert.AdamKvfRefIdeal.τ).loc Cert.AdamKvfRefIdeal.main_arg0)
      ∧ r.2.mem ((c.tc : Thread Cert.AdamKvfRefIdeal.nD Cert.AdamKvfRefIdeal.τ).loc Cert.AdamKvfRefIdeal.main_arg1) = m ((c.tc : Thread Cert.AdamKvfRefIdeal.nD Cert.AdamKvfRefIdeal.τ).loc Cert.AdamKvfRefIdeal.main_arg1)
      ∧ r.2.mem ((c.tc : Thread Cert.AdamKvfRefIdeal.nD Cert.AdamKvfRefIdeal.τ).loc Cert.AdamKvfRefIdeal.main_arg2) = m ((c.tc : Thread Cert.AdamKvfRefIdeal.nD Cert.AdamKvfRefIdeal.τ).loc Cert.AdamKvfRefIdeal.main_arg2)
      ∧ r.2.mem ((c.tc : Thread Cert.AdamKvfRefIdeal.nD Cert.AdamKvfRefIdeal.τ).loc Cert.AdamKvfRefIdeal.main_arg3) = m ((c.tc : Thread Cert.AdamKvfRefIdeal.nD Cert.AdamKvfRefIdeal.τ).loc Cert.AdamKvfRefIdeal.main_arg3))
      ∧ r.2.sem = fun _ => 0)

def quiescent_AdamBf [hAdamBf : Cert.AdamBf.Facts] : Prop :=
  ∀ (m : (ℓ : Loc Cert.AdamBf.nD Cert.AdamBf.τ Cert.AdamBf.sig) → Buf (Elt Bits) ℓ) (g : Dev Cert.AdamBf.nD → PrngReg), Pre_AdamBf m →
    θ_run (Cert.AdamBf.defs (F := Bits)) (onTc (τ := Cert.AdamBf.τ) (Cert.AdamBf.main (F := Bits))) ⟨m, fun _ => 0, g⟩ (fun r => (∀ c : Dev Cert.AdamBf.nD,
      r.2.mem ((c.tc : Thread Cert.AdamBf.nD Cert.AdamBf.τ).loc Cert.AdamBf.main_arg0) = m ((c.tc : Thread Cert.AdamBf.nD Cert.AdamBf.τ).loc Cert.AdamBf.main_arg0)
      ∧ r.2.mem ((c.tc : Thread Cert.AdamBf.nD Cert.AdamBf.τ).loc Cert.AdamBf.main_arg1) = m ((c.tc : Thread Cert.AdamBf.nD Cert.AdamBf.τ).loc Cert.AdamBf.main_arg1)
      ∧ r.2.mem ((c.tc : Thread Cert.AdamBf.nD Cert.AdamBf.τ).loc Cert.AdamBf.main_arg2) = m ((c.tc : Thread Cert.AdamBf.nD Cert.AdamBf.τ).loc Cert.AdamBf.main_arg2)
      ∧ r.2.mem ((c.tc : Thread Cert.AdamBf.nD Cert.AdamBf.τ).loc Cert.AdamBf.main_arg3) = m ((c.tc : Thread Cert.AdamBf.nD Cert.AdamBf.τ).loc Cert.AdamBf.main_arg3))
      ∧ r.2.sem = fun _ => 0)

def quiescent_AdamBfIdeal [hAdamBfIdeal : Cert.AdamBfIdeal.Facts] : Prop :=
  ∀ (m : (ℓ : Loc Cert.AdamBfIdeal.nD Cert.AdamBfIdeal.τ Cert.AdamBfIdeal.sig) → Buf (Elt Ideal) ℓ) (g : Dev Cert.AdamBfIdeal.nD → PrngReg), Pre_AdamBfIdeal m →
    θ_run (Cert.AdamBfIdeal.defs (F := Ideal)) (onTc (τ := Cert.AdamBfIdeal.τ) (Cert.AdamBfIdeal.main (F := Ideal))) ⟨m, fun _ => 0, g⟩ (fun r => (∀ c : Dev Cert.AdamBfIdeal.nD,
      r.2.mem ((c.tc : Thread Cert.AdamBfIdeal.nD Cert.AdamBfIdeal.τ).loc Cert.AdamBfIdeal.main_arg0) = m ((c.tc : Thread Cert.AdamBfIdeal.nD Cert.AdamBfIdeal.τ).loc Cert.AdamBfIdeal.main_arg0)
      ∧ r.2.mem ((c.tc : Thread Cert.AdamBfIdeal.nD Cert.AdamBfIdeal.τ).loc Cert.AdamBfIdeal.main_arg1) = m ((c.tc : Thread Cert.AdamBfIdeal.nD Cert.AdamBfIdeal.τ).loc Cert.AdamBfIdeal.main_arg1)
      ∧ r.2.mem ((c.tc : Thread Cert.AdamBfIdeal.nD Cert.AdamBfIdeal.τ).loc Cert.AdamBfIdeal.main_arg2) = m ((c.tc : Thread Cert.AdamBfIdeal.nD Cert.AdamBfIdeal.τ).loc Cert.AdamBfIdeal.main_arg2)
      ∧ r.2.mem ((c.tc : Thread Cert.AdamBfIdeal.nD Cert.AdamBfIdeal.τ).loc Cert.AdamBfIdeal.main_arg3) = m ((c.tc : Thread Cert.AdamBfIdeal.nD Cert.AdamBfIdeal.τ).loc Cert.AdamBfIdeal.main_arg3))
      ∧ r.2.sem = fun _ => 0)

def quiescent_AdamBfRefIdeal [hAdamBfRefIdeal : Cert.AdamBfRefIdeal.Facts] : Prop :=
  ∀ (m : (ℓ : Loc Cert.AdamBfRefIdeal.nD Cert.AdamBfRefIdeal.τ Cert.AdamBfRefIdeal.sig) → Buf (Elt Ideal) ℓ) (g : Dev Cert.AdamBfRefIdeal.nD → PrngReg), Pre_AdamBfRefIdeal m →
    θ_run (Cert.AdamBfRefIdeal.defs (F := Ideal)) (onTc (τ := Cert.AdamBfRefIdeal.τ) (Cert.AdamBfRefIdeal.main (F := Ideal))) ⟨m, fun _ => 0, g⟩ (fun r => (∀ c : Dev Cert.AdamBfRefIdeal.nD,
      r.2.mem ((c.tc : Thread Cert.AdamBfRefIdeal.nD Cert.AdamBfRefIdeal.τ).loc Cert.AdamBfRefIdeal.main_arg0) = m ((c.tc : Thread Cert.AdamBfRefIdeal.nD Cert.AdamBfRefIdeal.τ).loc Cert.AdamBfRefIdeal.main_arg0)
      ∧ r.2.mem ((c.tc : Thread Cert.AdamBfRefIdeal.nD Cert.AdamBfRefIdeal.τ).loc Cert.AdamBfRefIdeal.main_arg1) = m ((c.tc : Thread Cert.AdamBfRefIdeal.nD Cert.AdamBfRefIdeal.τ).loc Cert.AdamBfRefIdeal.main_arg1)
      ∧ r.2.mem ((c.tc : Thread Cert.AdamBfRefIdeal.nD Cert.AdamBfRefIdeal.τ).loc Cert.AdamBfRefIdeal.main_arg2) = m ((c.tc : Thread Cert.AdamBfRefIdeal.nD Cert.AdamBfRefIdeal.τ).loc Cert.AdamBfRefIdeal.main_arg2)
      ∧ r.2.mem ((c.tc : Thread Cert.AdamBfRefIdeal.nD Cert.AdamBfRefIdeal.τ).loc Cert.AdamBfRefIdeal.main_arg3) = m ((c.tc : Thread Cert.AdamBfRefIdeal.nD Cert.AdamBfRefIdeal.τ).loc Cert.AdamBfRefIdeal.main_arg3))
      ∧ r.2.sem = fun _ => 0)

def quiescent_AdamKNorm [hAdamKNorm : Cert.AdamKNorm.Facts] : Prop :=
  ∀ (m : (ℓ : Loc Cert.AdamKNorm.nD Cert.AdamKNorm.τ Cert.AdamKNorm.sig) → Buf (Elt Bits) ℓ) (g : Dev Cert.AdamKNorm.nD → PrngReg), Pre_AdamKNorm m →
    θ_run (Cert.AdamKNorm.defs (F := Bits)) (onTc (τ := Cert.AdamKNorm.τ) (Cert.AdamKNorm.main (F := Bits))) ⟨m, fun _ => 0, g⟩ (fun r => (∀ c : Dev Cert.AdamKNorm.nD,
      r.2.mem ((c.tc : Thread Cert.AdamKNorm.nD Cert.AdamKNorm.τ).loc Cert.AdamKNorm.main_arg0) = m ((c.tc : Thread Cert.AdamKNorm.nD Cert.AdamKNorm.τ).loc Cert.AdamKNorm.main_arg0)
      ∧ r.2.mem ((c.tc : Thread Cert.AdamKNorm.nD Cert.AdamKNorm.τ).loc Cert.AdamKNorm.main_arg1) = m ((c.tc : Thread Cert.AdamKNorm.nD Cert.AdamKNorm.τ).loc Cert.AdamKNorm.main_arg1)
      ∧ r.2.mem ((c.tc : Thread Cert.AdamKNorm.nD Cert.AdamKNorm.τ).loc Cert.AdamKNorm.main_arg2) = m ((c.tc : Thread Cert.AdamKNorm.nD Cert.AdamKNorm.τ).loc Cert.AdamKNorm.main_arg2)
      ∧ r.2.mem ((c.tc : Thread Cert.AdamKNorm.nD Cert.AdamKNorm.τ).loc Cert.AdamKNorm.main_arg3) = m ((c.tc : Thread Cert.AdamKNorm.nD Cert.AdamKNorm.τ).loc Cert.AdamKNorm.main_arg3))
      ∧ r.2.sem = fun _ => 0)

def quiescent_AdamKNormIdeal [hAdamKNormIdeal : Cert.AdamKNormIdeal.Facts] : Prop :=
  ∀ (m : (ℓ : Loc Cert.AdamKNormIdeal.nD Cert.AdamKNormIdeal.τ Cert.AdamKNormIdeal.sig) → Buf (Elt Ideal) ℓ) (g : Dev Cert.AdamKNormIdeal.nD → PrngReg), Pre_AdamKNormIdeal m →
    θ_run (Cert.AdamKNormIdeal.defs (F := Ideal)) (onTc (τ := Cert.AdamKNormIdeal.τ) (Cert.AdamKNormIdeal.main (F := Ideal))) ⟨m, fun _ => 0, g⟩ (fun r => (∀ c : Dev Cert.AdamKNormIdeal.nD,
      r.2.mem ((c.tc : Thread Cert.AdamKNormIdeal.nD Cert.AdamKNormIdeal.τ).loc Cert.AdamKNormIdeal.main_arg0) = m ((c.tc : Thread Cert.AdamKNormIdeal.nD Cert.AdamKNormIdeal.τ).loc Cert.AdamKNormIdeal.main_arg0)
      ∧ r.2.mem ((c.tc : Thread Cert.AdamKNormIdeal.nD Cert.AdamKNormIdeal.τ).loc Cert.AdamKNormIdeal.main_arg1) = m ((c.tc : Thread Cert.AdamKNormIdeal.nD Cert.AdamKNormIdeal.τ).loc Cert.AdamKNormIdeal.main_arg1)
      ∧ r.2.mem ((c.tc : Thread Cert.AdamKNormIdeal.nD Cert.AdamKNormIdeal.τ).loc Cert.AdamKNormIdeal.main_arg2) = m ((c.tc : Thread Cert.AdamKNormIdeal.nD Cert.AdamKNormIdeal.τ).loc Cert.AdamKNormIdeal.main_arg2)
      ∧ r.2.mem ((c.tc : Thread Cert.AdamKNormIdeal.nD Cert.AdamKNormIdeal.τ).loc Cert.AdamKNormIdeal.main_arg3) = m ((c.tc : Thread Cert.AdamKNormIdeal.nD Cert.AdamKNormIdeal.τ).loc Cert.AdamKNormIdeal.main_arg3))
      ∧ r.2.sem = fun _ => 0)

def quiescent_AdamKNormRefIdeal [hAdamKNormRefIdeal : Cert.AdamKNormRefIdeal.Facts] : Prop :=
  ∀ (m : (ℓ : Loc Cert.AdamKNormRefIdeal.nD Cert.AdamKNormRefIdeal.τ Cert.AdamKNormRefIdeal.sig) → Buf (Elt Ideal) ℓ) (g : Dev Cert.AdamKNormRefIdeal.nD → PrngReg), Pre_AdamKNormRefIdeal m →
    θ_run (Cert.AdamKNormRefIdeal.defs (F := Ideal)) (onTc (τ := Cert.AdamKNormRefIdeal.τ) (Cert.AdamKNormRefIdeal.main (F := Ideal))) ⟨m, fun _ => 0, g⟩ (fun r => (∀ c : Dev Cert.AdamKNormRefIdeal.nD,
      r.2.mem ((c.tc : Thread Cert.AdamKNormRefIdeal.nD Cert.AdamKNormRefIdeal.τ).loc Cert.AdamKNormRefIdeal.main_arg0) = m ((c.tc : Thread Cert.AdamKNormRefIdeal.nD Cert.AdamKNormRefIdeal.τ).loc Cert.AdamKNormRefIdeal.main_arg0)
      ∧ r.2.mem ((c.tc : Thread Cert.AdamKNormRefIdeal.nD Cert.AdamKNormRefIdeal.τ).loc Cert.AdamKNormRefIdeal.main_arg1) = m ((c.tc : Thread Cert.AdamKNormRefIdeal.nD Cert.AdamKNormRefIdeal.τ).loc Cert.AdamKNormRefIdeal.main_arg1)
      ∧ r.2.mem ((c.tc : Thread Cert.AdamKNormRefIdeal.nD Cert.AdamKNormRefIdeal.τ).loc Cert.AdamKNormRefIdeal.main_arg2) = m ((c.tc : Thread Cert.AdamKNormRefIdeal.nD Cert.AdamKNormRefIdeal.τ).loc Cert.AdamKNormRefIdeal.main_arg2)
      ∧ r.2.mem ((c.tc : Thread Cert.AdamKNormRefIdeal.nD Cert.AdamKNormRefIdeal.τ).loc Cert.AdamKNormRefIdeal.main_arg3) = m ((c.tc : Thread Cert.AdamKNormRefIdeal.nD Cert.AdamKNormRefIdeal.τ).loc Cert.AdamKNormRefIdeal.main_arg3))
      ∧ r.2.sem = fun _ => 0)

def quiescent_AdamQg [hAdamQg : Cert.AdamQg.Facts] : Prop :=
  ∀ (m : (ℓ : Loc Cert.AdamQg.nD Cert.AdamQg.τ Cert.AdamQg.sig) → Buf (Elt Bits) ℓ) (g : Dev Cert.AdamQg.nD → PrngReg), Pre_AdamQg m →
    θ_run (Cert.AdamQg.defs (F := Bits)) (onTc (τ := Cert.AdamQg.τ) (Cert.AdamQg.main (F := Bits))) ⟨m, fun _ => 0, g⟩ (fun r => (∀ c : Dev Cert.AdamQg.nD,
      r.2.mem ((c.tc : Thread Cert.AdamQg.nD Cert.AdamQg.τ).loc Cert.AdamQg.main_arg0) = m ((c.tc : Thread Cert.AdamQg.nD Cert.AdamQg.τ).loc Cert.AdamQg.main_arg0)
      ∧ r.2.mem ((c.tc : Thread Cert.AdamQg.nD Cert.AdamQg.τ).loc Cert.AdamQg.main_arg1) = m ((c.tc : Thread Cert.AdamQg.nD Cert.AdamQg.τ).loc Cert.AdamQg.main_arg1)
      ∧ r.2.mem ((c.tc : Thread Cert.AdamQg.nD Cert.AdamQg.τ).loc Cert.AdamQg.main_arg2) = m ((c.tc : Thread Cert.AdamQg.nD Cert.AdamQg.τ).loc Cert.AdamQg.main_arg2)
      ∧ r.2.mem ((c.tc : Thread Cert.AdamQg.nD Cert.AdamQg.τ).loc Cert.AdamQg.main_arg3) = m ((c.tc : Thread Cert.AdamQg.nD Cert.AdamQg.τ).loc Cert.AdamQg.main_arg3))
      ∧ r.2.sem = fun _ => 0)

def quiescent_AdamQgIdeal [hAdamQgIdeal : Cert.AdamQgIdeal.Facts] : Prop :=
  ∀ (m : (ℓ : Loc Cert.AdamQgIdeal.nD Cert.AdamQgIdeal.τ Cert.AdamQgIdeal.sig) → Buf (Elt Ideal) ℓ) (g : Dev Cert.AdamQgIdeal.nD → PrngReg), Pre_AdamQgIdeal m →
    θ_run (Cert.AdamQgIdeal.defs (F := Ideal)) (onTc (τ := Cert.AdamQgIdeal.τ) (Cert.AdamQgIdeal.main (F := Ideal))) ⟨m, fun _ => 0, g⟩ (fun r => (∀ c : Dev Cert.AdamQgIdeal.nD,
      r.2.mem ((c.tc : Thread Cert.AdamQgIdeal.nD Cert.AdamQgIdeal.τ).loc Cert.AdamQgIdeal.main_arg0) = m ((c.tc : Thread Cert.AdamQgIdeal.nD Cert.AdamQgIdeal.τ).loc Cert.AdamQgIdeal.main_arg0)
      ∧ r.2.mem ((c.tc : Thread Cert.AdamQgIdeal.nD Cert.AdamQgIdeal.τ).loc Cert.AdamQgIdeal.main_arg1) = m ((c.tc : Thread Cert.AdamQgIdeal.nD Cert.AdamQgIdeal.τ).loc Cert.AdamQgIdeal.main_arg1)
      ∧ r.2.mem ((c.tc : Thread Cert.AdamQgIdeal.nD Cert.AdamQgIdeal.τ).loc Cert.AdamQgIdeal.main_arg2) = m ((c.tc : Thread Cert.AdamQgIdeal.nD Cert.AdamQgIdeal.τ).loc Cert.AdamQgIdeal.main_arg2)
      ∧ r.2.mem ((c.tc : Thread Cert.AdamQgIdeal.nD Cert.AdamQgIdeal.τ).loc Cert.AdamQgIdeal.main_arg3) = m ((c.tc : Thread Cert.AdamQgIdeal.nD Cert.AdamQgIdeal.τ).loc Cert.AdamQgIdeal.main_arg3))
      ∧ r.2.sem = fun _ => 0)

def quiescent_AdamQgRefIdeal [hAdamQgRefIdeal : Cert.AdamQgRefIdeal.Facts] : Prop :=
  ∀ (m : (ℓ : Loc Cert.AdamQgRefIdeal.nD Cert.AdamQgRefIdeal.τ Cert.AdamQgRefIdeal.sig) → Buf (Elt Ideal) ℓ) (g : Dev Cert.AdamQgRefIdeal.nD → PrngReg), Pre_AdamQgRefIdeal m →
    θ_run (Cert.AdamQgRefIdeal.defs (F := Ideal)) (onTc (τ := Cert.AdamQgRefIdeal.τ) (Cert.AdamQgRefIdeal.main (F := Ideal))) ⟨m, fun _ => 0, g⟩ (fun r => (∀ c : Dev Cert.AdamQgRefIdeal.nD,
      r.2.mem ((c.tc : Thread Cert.AdamQgRefIdeal.nD Cert.AdamQgRefIdeal.τ).loc Cert.AdamQgRefIdeal.main_arg0) = m ((c.tc : Thread Cert.AdamQgRefIdeal.nD Cert.AdamQgRefIdeal.τ).loc Cert.AdamQgRefIdeal.main_arg0)
      ∧ r.2.mem ((c.tc : Thread Cert.AdamQgRefIdeal.nD Cert.AdamQgRefIdeal.τ).loc Cert.AdamQgRefIdeal.main_arg1) = m ((c.tc : Thread Cert.AdamQgRefIdeal.nD Cert.AdamQgRefIdeal.τ).loc Cert.AdamQgRefIdeal.main_arg1)
      ∧ r.2.mem ((c.tc : Thread Cert.AdamQgRefIdeal.nD Cert.AdamQgRefIdeal.τ).loc Cert.AdamQgRefIdeal.main_arg2) = m ((c.tc : Thread Cert.AdamQgRefIdeal.nD Cert.AdamQgRefIdeal.τ).loc Cert.AdamQgRefIdeal.main_arg2)
      ∧ r.2.mem ((c.tc : Thread Cert.AdamQgRefIdeal.nD Cert.AdamQgRefIdeal.τ).loc Cert.AdamQgRefIdeal.main_arg3) = m ((c.tc : Thread Cert.AdamQgRefIdeal.nD Cert.AdamQgRefIdeal.τ).loc Cert.AdamQgRefIdeal.main_arg3))
      ∧ r.2.sem = fun _ => 0)

def quiescent_AdamQNorm [hAdamQNorm : Cert.AdamQNorm.Facts] : Prop :=
  ∀ (m : (ℓ : Loc Cert.AdamQNorm.nD Cert.AdamQNorm.τ Cert.AdamQNorm.sig) → Buf (Elt Bits) ℓ) (g : Dev Cert.AdamQNorm.nD → PrngReg), Pre_AdamQNorm m →
    θ_run (Cert.AdamQNorm.defs (F := Bits)) (onTc (τ := Cert.AdamQNorm.τ) (Cert.AdamQNorm.main (F := Bits))) ⟨m, fun _ => 0, g⟩ (fun r => (∀ c : Dev Cert.AdamQNorm.nD,
      r.2.mem ((c.tc : Thread Cert.AdamQNorm.nD Cert.AdamQNorm.τ).loc Cert.AdamQNorm.main_arg0) = m ((c.tc : Thread Cert.AdamQNorm.nD Cert.AdamQNorm.τ).loc Cert.AdamQNorm.main_arg0)
      ∧ r.2.mem ((c.tc : Thread Cert.AdamQNorm.nD Cert.AdamQNorm.τ).loc Cert.AdamQNorm.main_arg1) = m ((c.tc : Thread Cert.AdamQNorm.nD Cert.AdamQNorm.τ).loc Cert.AdamQNorm.main_arg1)
      ∧ r.2.mem ((c.tc : Thread Cert.AdamQNorm.nD Cert.AdamQNorm.τ).loc Cert.AdamQNorm.main_arg2) = m ((c.tc : Thread Cert.AdamQNorm.nD Cert.AdamQNorm.τ).loc Cert.AdamQNorm.main_arg2)
      ∧ r.2.mem ((c.tc : Thread Cert.AdamQNorm.nD Cert.AdamQNorm.τ).loc Cert.AdamQNorm.main_arg3) = m ((c.tc : Thread Cert.AdamQNorm.nD Cert.AdamQNorm.τ).loc Cert.AdamQNorm.main_arg3))
      ∧ r.2.sem = fun _ => 0)

def quiescent_AdamQNormIdeal [hAdamQNormIdeal : Cert.AdamQNormIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg), Pre_AdamQNormIdeal m →
    θ_run (Cert.AdamQNormIdeal.defs (F := Ideal)) (onTc (τ := Cert.AdamQNormIdeal.τ) (Cert.AdamQNormIdeal.main (F := Ideal))) ⟨m, fun _ => 0, g⟩ (fun r => (∀ c : Dev Cert.AdamQNormIdeal.nD,
      r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
      ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
      ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
      ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ r.2.sem = fun _ => 0)

def quiescent_AdamQNormRefIdeal [hAdamQNormRefIdeal : Cert.AdamQNormRefIdeal.Facts] : Prop :=
  ∀ (m : (ℓ : Loc Cert.AdamQNormRefIdeal.nD Cert.AdamQNormRefIdeal.τ Cert.AdamQNormRefIdeal.sig) → Buf (Elt Ideal) ℓ) (g : Dev Cert.AdamQNormRefIdeal.nD → PrngReg), Pre_AdamQNormRefIdeal m →
    θ_run (Cert.AdamQNormRefIdeal.defs (F := Ideal)) (onTc (τ := Cert.AdamQNormRefIdeal.τ) (Cert.AdamQNormRefIdeal.main (F := Ideal))) ⟨m, fun _ => 0, g⟩ (fun r => (∀ c : Dev Cert.AdamQNormRefIdeal.nD,
      r.2.mem ((c.tc : Thread Cert.AdamQNormRefIdeal.nD Cert.AdamQNormRefIdeal.τ).loc Cert.AdamQNormRefIdeal.main_arg0) = m ((c.tc : Thread Cert.AdamQNormRefIdeal.nD Cert.AdamQNormRefIdeal.τ).loc Cert.AdamQNormRefIdeal.main_arg0)
      ∧ r.2.mem ((c.tc : Thread Cert.AdamQNormRefIdeal.nD Cert.AdamQNormRefIdeal.τ).loc Cert.AdamQNormRefIdeal.main_arg1) = m ((c.tc : Thread Cert.AdamQNormRefIdeal.nD Cert.AdamQNormRefIdeal.τ).loc Cert.AdamQNormRefIdeal.main_arg1)
      ∧ r.2.mem ((c.tc : Thread Cert.AdamQNormRefIdeal.nD Cert.AdamQNormRefIdeal.τ).loc Cert.AdamQNormRefIdeal.main_arg2) = m ((c.tc : Thread Cert.AdamQNormRefIdeal.nD Cert.AdamQNormRefIdeal.τ).loc Cert.AdamQNormRefIdeal.main_arg2)
      ∧ r.2.mem ((c.tc : Thread Cert.AdamQNormRefIdeal.nD Cert.AdamQNormRefIdeal.τ).loc Cert.AdamQNormRefIdeal.main_arg3) = m ((c.tc : Thread Cert.AdamQNormRefIdeal.nD Cert.AdamQNormRefIdeal.τ).loc Cert.AdamQNormRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamFConv [hAdamFConv : Cert.AdamFConv.Facts] : Prop :=
  ∀ (m : (ℓ : Loc Cert.AdamFConv.nD Cert.AdamFConv.τ Cert.AdamFConv.sig) → Buf (Elt Bits) ℓ) (g : Dev Cert.AdamFConv.nD → PrngReg), Pre_AdamFConv m →
    θ_run (Cert.AdamFConv.defs (F := Bits)) (onTc (τ := Cert.AdamFConv.τ) (Cert.AdamFConv.main (F := Bits))) ⟨m, fun _ => 0, g⟩ (fun r => (∀ c : Dev Cert.AdamFConv.nD,
      r.2.mem ((c.tc : Thread Cert.AdamFConv.nD Cert.AdamFConv.τ).loc Cert.AdamFConv.main_arg0) = m ((c.tc : Thread Cert.AdamFConv.nD Cert.AdamFConv.τ).loc Cert.AdamFConv.main_arg0)
      ∧ r.2.mem ((c.tc : Thread Cert.AdamFConv.nD Cert.AdamFConv.τ).loc Cert.AdamFConv.main_arg1) = m ((c.tc : Thread Cert.AdamFConv.nD Cert.AdamFConv.τ).loc Cert.AdamFConv.main_arg1)
      ∧ r.2.mem ((c.tc : Thread Cert.AdamFConv.nD Cert.AdamFConv.τ).loc Cert.AdamFConv.main_arg2) = m ((c.tc : Thread Cert.AdamFConv.nD Cert.AdamFConv.τ).loc Cert.AdamFConv.main_arg2)
      ∧ r.2.mem ((c.tc : Thread Cert.AdamFConv.nD Cert.AdamFConv.τ).loc Cert.AdamFConv.main_arg3) = m ((c.tc : Thread Cert.AdamFConv.nD Cert.AdamFConv.τ).loc Cert.AdamFConv.main_arg3))
      ∧ r.2.sem = fun _ => 0)

def quiescent_AdamFConvIdeal [hAdamFConvIdeal : Cert.AdamFConvIdeal.Facts] : Prop :=
  ∀ (m : (ℓ : Loc Cert.AdamFConvIdeal.nD Cert.AdamFConvIdeal.τ Cert.AdamFConvIdeal.sig) → Buf (Elt Ideal) ℓ) (g : Dev Cert.AdamFConvIdeal.nD → PrngReg), Pre_AdamFConvIdeal m →
    θ_run (Cert.AdamFConvIdeal.defs (F := Ideal)) (onTc (τ := Cert.AdamFConvIdeal.τ) (Cert.AdamFConvIdeal.main (F := Ideal))) ⟨m, fun _ => 0, g⟩ (fun r => (∀ c : Dev Cert.AdamFConvIdeal.nD,
      r.2.mem ((c.tc : Thread Cert.AdamFConvIdeal.nD Cert.AdamFConvIdeal.τ).loc Cert.AdamFConvIdeal.main_arg0) = m ((c.tc : Thread Cert.AdamFConvIdeal.nD Cert.AdamFConvIdeal.τ).loc Cert.AdamFConvIdeal.main_arg0)
      ∧ r.2.mem ((c.tc : Thread Cert.AdamFConvIdeal.nD Cert.AdamFConvIdeal.τ).loc Cert.AdamFConvIdeal.main_arg1) = m ((c.tc : Thread Cert.AdamFConvIdeal.nD Cert.AdamFConvIdeal.τ).loc Cert.AdamFConvIdeal.main_arg1)
      ∧ r.2.mem ((c.tc : Thread Cert.AdamFConvIdeal.nD Cert.AdamFConvIdeal.τ).loc Cert.AdamFConvIdeal.main_arg2) = m ((c.tc : Thread Cert.AdamFConvIdeal.nD Cert.AdamFConvIdeal.τ).loc Cert.AdamFConvIdeal.main_arg2)
      ∧ r.2.mem ((c.tc : Thread Cert.AdamFConvIdeal.nD Cert.AdamFConvIdeal.τ).loc Cert.AdamFConvIdeal.main_arg3) = m ((c.tc : Thread Cert.AdamFConvIdeal.nD Cert.AdamFConvIdeal.τ).loc Cert.AdamFConvIdeal.main_arg3))
      ∧ r.2.sem = fun _ => 0)

def quiescent_AdamFConvRefIdeal [hAdamFConvRefIdeal : Cert.AdamFConvRefIdeal.Facts] : Prop :=
  ∀ (m : (ℓ : Loc Cert.AdamFConvRefIdeal.nD Cert.AdamFConvRefIdeal.τ Cert.AdamFConvRefIdeal.sig) → Buf (Elt Ideal) ℓ) (g : Dev Cert.AdamFConvRefIdeal.nD → PrngReg), Pre_AdamFConvRefIdeal m →
    θ_run (Cert.AdamFConvRefIdeal.defs (F := Ideal)) (onTc (τ := Cert.AdamFConvRefIdeal.τ) (Cert.AdamFConvRefIdeal.main (F := Ideal))) ⟨m, fun _ => 0, g⟩ (fun r => (∀ c : Dev Cert.AdamFConvRefIdeal.nD,
      r.2.mem ((c.tc : Thread Cert.AdamFConvRefIdeal.nD Cert.AdamFConvRefIdeal.τ).loc Cert.AdamFConvRefIdeal.main_arg0) = m ((c.tc : Thread Cert.AdamFConvRefIdeal.nD Cert.AdamFConvRefIdeal.τ).loc Cert.AdamFConvRefIdeal.main_arg0)
      ∧ r.2.mem ((c.tc : Thread Cert.AdamFConvRefIdeal.nD Cert.AdamFConvRefIdeal.τ).loc Cert.AdamFConvRefIdeal.main_arg1) = m ((c.tc : Thread Cert.AdamFConvRefIdeal.nD Cert.AdamFConvRefIdeal.τ).loc Cert.AdamFConvRefIdeal.main_arg1)
      ∧ r.2.mem ((c.tc : Thread Cert.AdamFConvRefIdeal.nD Cert.AdamFConvRefIdeal.τ).loc Cert.AdamFConvRefIdeal.main_arg2) = m ((c.tc : Thread Cert.AdamFConvRefIdeal.nD Cert.AdamFConvRefIdeal.τ).loc Cert.AdamFConvRefIdeal.main_arg2)
      ∧ r.2.mem ((c.tc : Thread Cert.AdamFConvRefIdeal.nD Cert.AdamFConvRefIdeal.τ).loc Cert.AdamFConvRefIdeal.main_arg3) = m ((c.tc : Thread Cert.AdamFConvRefIdeal.nD Cert.AdamFConvRefIdeal.τ).loc Cert.AdamFConvRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v118_0)) (v1 : (c : Dev Cert.KernelIdeal.nD) → Buf (Elt Ideal) ((c.tc : Thread Cert.KernelIdeal.nD Cert.KernelIdeal.τ).loc Cert.KernelIdeal.main_v118_1)) (v2 : (c : Dev Cert.KernelIdeal.nD) → Buf (Elt Ideal) ((c.tc : Thread Cert.KernelIdeal.nD Cert.KernelIdeal.τ).loc Cert.KernelIdeal.main_v118_2)) (v3 : (c : Dev Cert.KernelIdeal.nD) → Buf (Elt Ideal) ((c.tc : Thread Cert.KernelIdeal.nD Cert.KernelIdeal.τ).loc Cert.KernelIdeal.main_v118_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118_0) = v0 c
          ∧ r.2.mem ((c.tc : Thread Cert.KernelIdeal.nD Cert.KernelIdeal.τ).loc Cert.KernelIdeal.main_v118_1) = v1 c
          ∧ r.2.mem ((c.tc : Thread Cert.KernelIdeal.nD Cert.KernelIdeal.τ).loc Cert.KernelIdeal.main_v118_2) = v2 c
          ∧ r.2.mem ((c.tc : Thread Cert.KernelIdeal.nD Cert.KernelIdeal.τ).loc Cert.KernelIdeal.main_v118_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v2)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v2) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v5) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v2)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v2) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v3) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v2)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v2) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v5) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v3) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_QgGrad_QgGradIdeal : Prop :=
  True

def algebraic_QgGradIdeal_QgGradRefIdeal [hQgGradIdeal : Cert.QgGradIdeal.Facts] [hQgGradRefIdeal : Cert.QgGradRefIdeal.Facts] : Prop :=
  ∀ (m : (ℓ : Loc Cert.QgGradIdeal.nD Cert.QgGradIdeal.τ Cert.QgGradIdeal.sig) → Buf (Elt Ideal) ℓ) (g : Dev Cert.QgGradIdeal.nD → PrngReg)
    (m' : (ℓ : Loc Cert.QgGradRefIdeal.nD Cert.QgGradRefIdeal.τ Cert.QgGradRefIdeal.sig) → Buf (Elt Ideal) ℓ) (g' : Dev Cert.QgGradRefIdeal.nD → PrngReg), Pre_QgGradIdeal m →
    (∀ c : Dev Cert.QgGradIdeal.nD,
      m' ((c.tc : Thread Cert.QgGradRefIdeal.nD Cert.QgGradRefIdeal.τ).loc Cert.QgGradRefIdeal.main_arg0) = m ((c.tc : Thread Cert.QgGradIdeal.nD Cert.QgGradIdeal.τ).loc Cert.QgGradIdeal.main_arg0)
      ∧ m' ((c.tc : Thread Cert.QgGradRefIdeal.nD Cert.QgGradRefIdeal.τ).loc Cert.QgGradRefIdeal.main_arg1) = m ((c.tc : Thread Cert.QgGradIdeal.nD Cert.QgGradIdeal.τ).loc Cert.QgGradIdeal.main_arg1)) →
    ∃ (v0 : (c : Dev Cert.QgGradIdeal.nD) → Buf (Elt Ideal) ((c.tc : Thread Cert.QgGradIdeal.nD Cert.QgGradIdeal.τ).loc Cert.QgGradIdeal.main_v2)),
      θ_run (Cert.QgGradIdeal.defs (F := Ideal)) (onTc (τ := Cert.QgGradIdeal.τ) (Cert.QgGradIdeal.main (F := Ideal))) ⟨m, fun _ => 0, g⟩ (fun r => ∀ c : Dev Cert.QgGradIdeal.nD,
          r.2.mem ((c.tc : Thread Cert.QgGradIdeal.nD Cert.QgGradIdeal.τ).loc Cert.QgGradIdeal.main_v2) = v0 c
          ∧ r.2.mem ((c.tc : Thread Cert.QgGradIdeal.nD Cert.QgGradIdeal.τ).loc Cert.QgGradIdeal.main_arg0) = m ((c.tc : Thread Cert.QgGradIdeal.nD Cert.QgGradIdeal.τ).loc Cert.QgGradIdeal.main_arg0)
          ∧ r.2.mem ((c.tc : Thread Cert.QgGradIdeal.nD Cert.QgGradIdeal.τ).loc Cert.QgGradIdeal.main_arg1) = m ((c.tc : Thread Cert.QgGradIdeal.nD Cert.QgGradIdeal.τ).loc Cert.QgGradIdeal.main_arg1))
      ∧ θ_run (Cert.QgGradRefIdeal.defs (F := Ideal)) (onTc (τ := Cert.QgGradRefIdeal.τ) (Cert.QgGradRefIdeal.main (F := Ideal))) ⟨m', fun _ => 0, g'⟩ (fun r => ∀ c : Dev Cert.QgGradRefIdeal.nD,
          r.2.mem ((c.tc : Thread Cert.QgGradRefIdeal.nD Cert.QgGradRefIdeal.τ).loc Cert.QgGradRefIdeal.main_v5) = v0 c
          ∧ r.2.mem ((c.tc : Thread Cert.QgGradRefIdeal.nD Cert.QgGradRefIdeal.τ).loc Cert.QgGradRefIdeal.main_arg0) = m' ((c.tc : Thread Cert.QgGradRefIdeal.nD Cert.QgGradRefIdeal.τ).loc Cert.QgGradRefIdeal.main_arg0)
          ∧ r.2.mem ((c.tc : Thread Cert.QgGradRefIdeal.nD Cert.QgGradRefIdeal.τ).loc Cert.QgGradRefIdeal.main_arg1) = m' ((c.tc : Thread Cert.QgGradRefIdeal.nD Cert.QgGradRefIdeal.τ).loc Cert.QgGradRefIdeal.main_arg1))

def preserves_KvfGrad_KvfGradIdeal : Prop :=
  True

def algebraic_KvfGradIdeal_KvfGradRefIdeal [hKvfGradIdeal : Cert.KvfGradIdeal.Facts] [hKvfGradRefIdeal : Cert.KvfGradRefIdeal.Facts] : Prop :=
  ∀ (m : (ℓ : Loc Cert.KvfGradIdeal.nD Cert.KvfGradIdeal.τ Cert.KvfGradIdeal.sig) → Buf (Elt Ideal) ℓ) (g : Dev Cert.KvfGradIdeal.nD → PrngReg)
    (m' : (ℓ : Loc Cert.KvfGradRefIdeal.nD Cert.KvfGradRefIdeal.τ Cert.KvfGradRefIdeal.sig) → Buf (Elt Ideal) ℓ) (g' : Dev Cert.KvfGradRefIdeal.nD → PrngReg), Pre_KvfGradIdeal m →
    (∀ c : Dev Cert.KvfGradIdeal.nD,
      m' ((c.tc : Thread Cert.KvfGradRefIdeal.nD Cert.KvfGradRefIdeal.τ).loc Cert.KvfGradRefIdeal.main_arg0) = m ((c.tc : Thread Cert.KvfGradIdeal.nD Cert.KvfGradIdeal.τ).loc Cert.KvfGradIdeal.main_arg0)
      ∧ m' ((c.tc : Thread Cert.KvfGradRefIdeal.nD Cert.KvfGradRefIdeal.τ).loc Cert.KvfGradRefIdeal.main_arg1) = m ((c.tc : Thread Cert.KvfGradIdeal.nD Cert.KvfGradIdeal.τ).loc Cert.KvfGradIdeal.main_arg1)) →
    ∃ (v0 : (c : Dev Cert.KvfGradIdeal.nD) → Buf (Elt Ideal) ((c.tc : Thread Cert.KvfGradIdeal.nD Cert.KvfGradIdeal.τ).loc Cert.KvfGradIdeal.main_v2)),
      θ_run (Cert.KvfGradIdeal.defs (F := Ideal)) (onTc (τ := Cert.KvfGradIdeal.τ) (Cert.KvfGradIdeal.main (F := Ideal))) ⟨m, fun _ => 0, g⟩ (fun r => ∀ c : Dev Cert.KvfGradIdeal.nD,
          r.2.mem ((c.tc : Thread Cert.KvfGradIdeal.nD Cert.KvfGradIdeal.τ).loc Cert.KvfGradIdeal.main_v2) = v0 c
          ∧ r.2.mem ((c.tc : Thread Cert.KvfGradIdeal.nD Cert.KvfGradIdeal.τ).loc Cert.KvfGradIdeal.main_arg0) = m ((c.tc : Thread Cert.KvfGradIdeal.nD Cert.KvfGradIdeal.τ).loc Cert.KvfGradIdeal.main_arg0)
          ∧ r.2.mem ((c.tc : Thread Cert.KvfGradIdeal.nD Cert.KvfGradIdeal.τ).loc Cert.KvfGradIdeal.main_arg1) = m ((c.tc : Thread Cert.KvfGradIdeal.nD Cert.KvfGradIdeal.τ).loc Cert.KvfGradIdeal.main_arg1))
      ∧ θ_run (Cert.KvfGradRefIdeal.defs (F := Ideal)) (onTc (τ := Cert.KvfGradRefIdeal.τ) (Cert.KvfGradRefIdeal.main (F := Ideal))) ⟨m', fun _ => 0, g'⟩ (fun r => ∀ c : Dev Cert.KvfGradRefIdeal.nD,
          r.2.mem ((c.tc : Thread Cert.KvfGradRefIdeal.nD Cert.KvfGradRefIdeal.τ).loc Cert.KvfGradRefIdeal.main_v5) = v0 c
          ∧ r.2.mem ((c.tc : Thread Cert.KvfGradRefIdeal.nD Cert.KvfGradRefIdeal.τ).loc Cert.KvfGradRefIdeal.main_arg0) = m' ((c.tc : Thread Cert.KvfGradRefIdeal.nD Cert.KvfGradRefIdeal.τ).loc Cert.KvfGradRefIdeal.main_arg0)
          ∧ r.2.mem ((c.tc : Thread Cert.KvfGradRefIdeal.nD Cert.KvfGradRefIdeal.τ).loc Cert.KvfGradRefIdeal.main_arg1) = m' ((c.tc : Thread Cert.KvfGradRefIdeal.nD Cert.KvfGradRefIdeal.τ).loc Cert.KvfGradRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamKvNorm_AdamKvNormIdeal : Prop :=
  True

def algebraic_AdamKvNormIdeal_AdamKvNormRefIdeal [hAdamKvNormIdeal : Cert.AdamKvNormIdeal.Facts] [hAdamKvNormRefIdeal : Cert.AdamKvNormRefIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg)
    (m' : (ℓ : Loc Cert.AdamKvNormRefIdeal.nD Cert.AdamKvNormRefIdeal.τ Cert.AdamKvNormRefIdeal.sig) → Buf (Elt Ideal) ℓ) (g' : Dev Cert.AdamKvNormRefIdeal.nD → PrngReg), Pre_AdamKvNormIdeal m →
    (∀ c : Dev Cert.AdamKvNormIdeal.nD,
      m' ((c.tc : Thread Cert.AdamKvNormRefIdeal.nD Cert.AdamKvNormRefIdeal.τ).loc Cert.AdamKvNormRefIdeal.main_arg0) = m ((c.tc : Thread Cert.AdamKvNormIdeal.nD Cert.AdamKvNormIdeal.τ).loc Cert.AdamKvNormIdeal.main_arg0)
      ∧ m' ((c.tc : Thread Cert.AdamKvNormRefIdeal.nD Cert.AdamKvNormRefIdeal.τ).loc Cert.AdamKvNormRefIdeal.main_arg1) = m ((c.tc : Thread Cert.AdamKvNormIdeal.nD Cert.AdamKvNormIdeal.τ).loc Cert.AdamKvNormIdeal.main_arg1)
      ∧ m' ((c.tc : Thread Cert.AdamKvNormRefIdeal.nD Cert.AdamKvNormRefIdeal.τ).loc Cert.AdamKvNormRefIdeal.main_arg2) = m ((c.tc : Thread Cert.AdamKvNormIdeal.nD Cert.AdamKvNormIdeal.τ).loc Cert.AdamKvNormIdeal.main_arg2)
      ∧ m' ((c.tc : Thread Cert.AdamKvNormRefIdeal.nD Cert.AdamKvNormRefIdeal.τ).loc Cert.AdamKvNormRefIdeal.main_arg3) = m ((c.tc : Thread Cert.AdamKvNormIdeal.nD Cert.AdamKvNormIdeal.τ).loc Cert.AdamKvNormIdeal.main_arg3)) →
    ∃ (v0 : (c : Dev Cert.AdamKvNormIdeal.nD) → Buf (Elt Ideal) ((c.tc : Thread Cert.AdamKvNormIdeal.nD Cert.AdamKvNormIdeal.τ).loc Cert.AdamKvNormIdeal.main_v0_0)) (v1 : (c : Dev Cert.AdamKvNormIdeal.nD) → Buf (Elt Ideal) ((c.tc : Thread Cert.AdamKvNormIdeal.nD Cert.AdamKvNormIdeal.τ).loc Cert.AdamKvNormIdeal.main_v0_1)) (v2 : (c : Dev Cert.AdamKvNormIdeal.nD) → Buf (Elt Ideal) ((c.tc : Thread Cert.AdamKvNormIdeal.nD Cert.AdamKvNormIdeal.τ).loc Cert.AdamKvNormIdeal.main_v0_2)),
      θ_run (Cert.AdamKvNormIdeal.defs (F := Ideal)) (onTc (τ := Cert.AdamKvNormIdeal.τ) (Cert.AdamKvNormIdeal.main (F := Ideal))) ⟨m, fun _ => 0, g⟩ (fun r => ∀ c : Dev Cert.AdamKvNormIdeal.nD,
          r.2.mem ((c.tc : Thread Cert.AdamKvNormIdeal.nD Cert.AdamKvNormIdeal.τ).loc Cert.AdamKvNormIdeal.main_v0_0) = v0 c
          ∧ r.2.mem ((c.tc : Thread Cert.AdamKvNormIdeal.nD Cert.AdamKvNormIdeal.τ).loc Cert.AdamKvNormIdeal.main_v0_1) = v1 c
          ∧ r.2.mem ((c.tc : Thread Cert.AdamKvNormIdeal.nD Cert.AdamKvNormIdeal.τ).loc Cert.AdamKvNormIdeal.main_v0_2) = v2 c
          ∧ r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
          ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
          ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
          ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ θ_run (Cert.AdamKvNormRefIdeal.defs (F := Ideal)) (onTc (τ := Cert.AdamKvNormRefIdeal.τ) (Cert.AdamKvNormRefIdeal.main (F := Ideal))) ⟨m', fun _ => 0, g'⟩ (fun r => ∀ c : Dev Cert.AdamKvNormRefIdeal.nD,
          r.2.mem ((c.tc : Thread Cert.AdamKvNormRefIdeal.nD Cert.AdamKvNormRefIdeal.τ).loc Cert.AdamKvNormRefIdeal.main_v23) = v0 c
          ∧ r.2.mem ((c.tc : Thread Cert.AdamKvNormRefIdeal.nD Cert.AdamKvNormRefIdeal.τ).loc Cert.AdamKvNormRefIdeal.main_v4) = v1 c
          ∧ r.2.mem ((c.tc : Thread Cert.AdamKvNormRefIdeal.nD Cert.AdamKvNormRefIdeal.τ).loc Cert.AdamKvNormRefIdeal.main_v10) = v2 c
          ∧ r.2.mem ((c.tc : Thread Cert.AdamKvNormRefIdeal.nD Cert.AdamKvNormRefIdeal.τ).loc Cert.AdamKvNormRefIdeal.main_arg0) = m' ((c.tc : Thread Cert.AdamKvNormRefIdeal.nD Cert.AdamKvNormRefIdeal.τ).loc Cert.AdamKvNormRefIdeal.main_arg0)
          ∧ r.2.mem ((c.tc : Thread Cert.AdamKvNormRefIdeal.nD Cert.AdamKvNormRefIdeal.τ).loc Cert.AdamKvNormRefIdeal.main_arg1) = m' ((c.tc : Thread Cert.AdamKvNormRefIdeal.nD Cert.AdamKvNormRefIdeal.τ).loc Cert.AdamKvNormRefIdeal.main_arg1)
          ∧ r.2.mem ((c.tc : Thread Cert.AdamKvNormRefIdeal.nD Cert.AdamKvNormRefIdeal.τ).loc Cert.AdamKvNormRefIdeal.main_arg2) = m' ((c.tc : Thread Cert.AdamKvNormRefIdeal.nD Cert.AdamKvNormRefIdeal.τ).loc Cert.AdamKvNormRefIdeal.main_arg2)
          ∧ r.2.mem ((c.tc : Thread Cert.AdamKvNormRefIdeal.nD Cert.AdamKvNormRefIdeal.τ).loc Cert.AdamKvNormRefIdeal.main_arg3) = m' ((c.tc : Thread Cert.AdamKvNormRefIdeal.nD Cert.AdamKvNormRefIdeal.τ).loc Cert.AdamKvNormRefIdeal.main_arg3))

def preserves_AdamKvf_AdamKvfIdeal : Prop :=
  True

def algebraic_AdamKvfIdeal_AdamKvfRefIdeal [hAdamKvfIdeal : Cert.AdamKvfIdeal.Facts] [hAdamKvfRefIdeal : Cert.AdamKvfRefIdeal.Facts] : Prop :=
  ∀ (m : (ℓ : Loc Cert.AdamKvfIdeal.nD Cert.AdamKvfIdeal.τ Cert.AdamKvfIdeal.sig) → Buf (Elt Ideal) ℓ) (g : Dev Cert.AdamKvfIdeal.nD → PrngReg)
    (m' : (ℓ : Loc Cert.AdamKvfRefIdeal.nD Cert.AdamKvfRefIdeal.τ Cert.AdamKvfRefIdeal.sig) → Buf (Elt Ideal) ℓ) (g' : Dev Cert.AdamKvfRefIdeal.nD → PrngReg), Pre_AdamKvfIdeal m →
    (∀ c : Dev Cert.AdamKvfIdeal.nD,
      m' ((c.tc : Thread Cert.AdamKvfRefIdeal.nD Cert.AdamKvfRefIdeal.τ).loc Cert.AdamKvfRefIdeal.main_arg0) = m ((c.tc : Thread Cert.AdamKvfIdeal.nD Cert.AdamKvfIdeal.τ).loc Cert.AdamKvfIdeal.main_arg0)
      ∧ m' ((c.tc : Thread Cert.AdamKvfRefIdeal.nD Cert.AdamKvfRefIdeal.τ).loc Cert.AdamKvfRefIdeal.main_arg1) = m ((c.tc : Thread Cert.AdamKvfIdeal.nD Cert.AdamKvfIdeal.τ).loc Cert.AdamKvfIdeal.main_arg1)
      ∧ m' ((c.tc : Thread Cert.AdamKvfRefIdeal.nD Cert.AdamKvfRefIdeal.τ).loc Cert.AdamKvfRefIdeal.main_arg2) = m ((c.tc : Thread Cert.AdamKvfIdeal.nD Cert.AdamKvfIdeal.τ).loc Cert.AdamKvfIdeal.main_arg2)
      ∧ m' ((c.tc : Thread Cert.AdamKvfRefIdeal.nD Cert.AdamKvfRefIdeal.τ).loc Cert.AdamKvfRefIdeal.main_arg3) = m ((c.tc : Thread Cert.AdamKvfIdeal.nD Cert.AdamKvfIdeal.τ).loc Cert.AdamKvfIdeal.main_arg3)) →
    ∃ (v0 : (c : Dev Cert.AdamKvfIdeal.nD) → Buf (Elt Ideal) ((c.tc : Thread Cert.AdamKvfIdeal.nD Cert.AdamKvfIdeal.τ).loc Cert.AdamKvfIdeal.main_v0_0)) (v1 : (c : Dev Cert.AdamKvfIdeal.nD) → Buf (Elt Ideal) ((c.tc : Thread Cert.AdamKvfIdeal.nD Cert.AdamKvfIdeal.τ).loc Cert.AdamKvfIdeal.main_v0_1)) (v2 : (c : Dev Cert.AdamKvfIdeal.nD) → Buf (Elt Ideal) ((c.tc : Thread Cert.AdamKvfIdeal.nD Cert.AdamKvfIdeal.τ).loc Cert.AdamKvfIdeal.main_v0_2)),
      θ_run (Cert.AdamKvfIdeal.defs (F := Ideal)) (onTc (τ := Cert.AdamKvfIdeal.τ) (Cert.AdamKvfIdeal.main (F := Ideal))) ⟨m, fun _ => 0, g⟩ (fun r => ∀ c : Dev Cert.AdamKvfIdeal.nD,
          r.2.mem ((c.tc : Thread Cert.AdamKvfIdeal.nD Cert.AdamKvfIdeal.τ).loc Cert.AdamKvfIdeal.main_v0_0) = v0 c
          ∧ r.2.mem ((c.tc : Thread Cert.AdamKvfIdeal.nD Cert.AdamKvfIdeal.τ).loc Cert.AdamKvfIdeal.main_v0_1) = v1 c
          ∧ r.2.mem ((c.tc : Thread Cert.AdamKvfIdeal.nD Cert.AdamKvfIdeal.τ).loc Cert.AdamKvfIdeal.main_v0_2) = v2 c
          ∧ r.2.mem ((c.tc : Thread Cert.AdamKvfIdeal.nD Cert.AdamKvfIdeal.τ).loc Cert.AdamKvfIdeal.main_arg0) = m ((c.tc : Thread Cert.AdamKvfIdeal.nD Cert.AdamKvfIdeal.τ).loc Cert.AdamKvfIdeal.main_arg0)
          ∧ r.2.mem ((c.tc : Thread Cert.AdamKvfIdeal.nD Cert.AdamKvfIdeal.τ).loc Cert.AdamKvfIdeal.main_arg1) = m ((c.tc : Thread Cert.AdamKvfIdeal.nD Cert.AdamKvfIdeal.τ).loc Cert.AdamKvfIdeal.main_arg1)
          ∧ r.2.mem ((c.tc : Thread Cert.AdamKvfIdeal.nD Cert.AdamKvfIdeal.τ).loc Cert.AdamKvfIdeal.main_arg2) = m ((c.tc : Thread Cert.AdamKvfIdeal.nD Cert.AdamKvfIdeal.τ).loc Cert.AdamKvfIdeal.main_arg2)
          ∧ r.2.mem ((c.tc : Thread Cert.AdamKvfIdeal.nD Cert.AdamKvfIdeal.τ).loc Cert.AdamKvfIdeal.main_arg3) = m ((c.tc : Thread Cert.AdamKvfIdeal.nD Cert.AdamKvfIdeal.τ).loc Cert.AdamKvfIdeal.main_arg3))
      ∧ θ_run (Cert.AdamKvfRefIdeal.defs (F := Ideal)) (onTc (τ := Cert.AdamKvfRefIdeal.τ) (Cert.AdamKvfRefIdeal.main (F := Ideal))) ⟨m', fun _ => 0, g'⟩ (fun r => ∀ c : Dev Cert.AdamKvfRefIdeal.nD,
          r.2.mem ((c.tc : Thread Cert.AdamKvfRefIdeal.nD Cert.AdamKvfRefIdeal.τ).loc Cert.AdamKvfRefIdeal.main_v23) = v0 c
          ∧ r.2.mem ((c.tc : Thread Cert.AdamKvfRefIdeal.nD Cert.AdamKvfRefIdeal.τ).loc Cert.AdamKvfRefIdeal.main_v4) = v1 c
          ∧ r.2.mem ((c.tc : Thread Cert.AdamKvfRefIdeal.nD Cert.AdamKvfRefIdeal.τ).loc Cert.AdamKvfRefIdeal.main_v10) = v2 c
          ∧ r.2.mem ((c.tc : Thread Cert.AdamKvfRefIdeal.nD Cert.AdamKvfRefIdeal.τ).loc Cert.AdamKvfRefIdeal.main_arg0) = m' ((c.tc : Thread Cert.AdamKvfRefIdeal.nD Cert.AdamKvfRefIdeal.τ).loc Cert.AdamKvfRefIdeal.main_arg0)
          ∧ r.2.mem ((c.tc : Thread Cert.AdamKvfRefIdeal.nD Cert.AdamKvfRefIdeal.τ).loc Cert.AdamKvfRefIdeal.main_arg1) = m' ((c.tc : Thread Cert.AdamKvfRefIdeal.nD Cert.AdamKvfRefIdeal.τ).loc Cert.AdamKvfRefIdeal.main_arg1)
          ∧ r.2.mem ((c.tc : Thread Cert.AdamKvfRefIdeal.nD Cert.AdamKvfRefIdeal.τ).loc Cert.AdamKvfRefIdeal.main_arg2) = m' ((c.tc : Thread Cert.AdamKvfRefIdeal.nD Cert.AdamKvfRefIdeal.τ).loc Cert.AdamKvfRefIdeal.main_arg2)
          ∧ r.2.mem ((c.tc : Thread Cert.AdamKvfRefIdeal.nD Cert.AdamKvfRefIdeal.τ).loc Cert.AdamKvfRefIdeal.main_arg3) = m' ((c.tc : Thread Cert.AdamKvfRefIdeal.nD Cert.AdamKvfRefIdeal.τ).loc Cert.AdamKvfRefIdeal.main_arg3))

def preserves_AdamBf_AdamBfIdeal : Prop :=
  True

def algebraic_AdamBfIdeal_AdamBfRefIdeal [hAdamBfIdeal : Cert.AdamBfIdeal.Facts] [hAdamBfRefIdeal : Cert.AdamBfRefIdeal.Facts] : Prop :=
  ∀ (m : (ℓ : Loc Cert.AdamBfIdeal.nD Cert.AdamBfIdeal.τ Cert.AdamBfIdeal.sig) → Buf (Elt Ideal) ℓ) (g : Dev Cert.AdamBfIdeal.nD → PrngReg)
    (m' : (ℓ : Loc Cert.AdamBfRefIdeal.nD Cert.AdamBfRefIdeal.τ Cert.AdamBfRefIdeal.sig) → Buf (Elt Ideal) ℓ) (g' : Dev Cert.AdamBfRefIdeal.nD → PrngReg), Pre_AdamBfIdeal m →
    (∀ c : Dev Cert.AdamBfIdeal.nD,
      m' ((c.tc : Thread Cert.AdamBfRefIdeal.nD Cert.AdamBfRefIdeal.τ).loc Cert.AdamBfRefIdeal.main_arg0) = m ((c.tc : Thread Cert.AdamBfIdeal.nD Cert.AdamBfIdeal.τ).loc Cert.AdamBfIdeal.main_arg0)
      ∧ m' ((c.tc : Thread Cert.AdamBfRefIdeal.nD Cert.AdamBfRefIdeal.τ).loc Cert.AdamBfRefIdeal.main_arg1) = m ((c.tc : Thread Cert.AdamBfIdeal.nD Cert.AdamBfIdeal.τ).loc Cert.AdamBfIdeal.main_arg1)
      ∧ m' ((c.tc : Thread Cert.AdamBfRefIdeal.nD Cert.AdamBfRefIdeal.τ).loc Cert.AdamBfRefIdeal.main_arg2) = m ((c.tc : Thread Cert.AdamBfIdeal.nD Cert.AdamBfIdeal.τ).loc Cert.AdamBfIdeal.main_arg2)
      ∧ m' ((c.tc : Thread Cert.AdamBfRefIdeal.nD Cert.AdamBfRefIdeal.τ).loc Cert.AdamBfRefIdeal.main_arg3) = m ((c.tc : Thread Cert.AdamBfIdeal.nD Cert.AdamBfIdeal.τ).loc Cert.AdamBfIdeal.main_arg3)) →
    ∃ (v0 : (c : Dev Cert.AdamBfIdeal.nD) → Buf (Elt Ideal) ((c.tc : Thread Cert.AdamBfIdeal.nD Cert.AdamBfIdeal.τ).loc Cert.AdamBfIdeal.main_v0_0)) (v1 : (c : Dev Cert.AdamBfIdeal.nD) → Buf (Elt Ideal) ((c.tc : Thread Cert.AdamBfIdeal.nD Cert.AdamBfIdeal.τ).loc Cert.AdamBfIdeal.main_v0_1)) (v2 : (c : Dev Cert.AdamBfIdeal.nD) → Buf (Elt Ideal) ((c.tc : Thread Cert.AdamBfIdeal.nD Cert.AdamBfIdeal.τ).loc Cert.AdamBfIdeal.main_v0_2)),
      θ_run (Cert.AdamBfIdeal.defs (F := Ideal)) (onTc (τ := Cert.AdamBfIdeal.τ) (Cert.AdamBfIdeal.main (F := Ideal))) ⟨m, fun _ => 0, g⟩ (fun r => ∀ c : Dev Cert.AdamBfIdeal.nD,
          r.2.mem ((c.tc : Thread Cert.AdamBfIdeal.nD Cert.AdamBfIdeal.τ).loc Cert.AdamBfIdeal.main_v0_0) = v0 c
          ∧ r.2.mem ((c.tc : Thread Cert.AdamBfIdeal.nD Cert.AdamBfIdeal.τ).loc Cert.AdamBfIdeal.main_v0_1) = v1 c
          ∧ r.2.mem ((c.tc : Thread Cert.AdamBfIdeal.nD Cert.AdamBfIdeal.τ).loc Cert.AdamBfIdeal.main_v0_2) = v2 c
          ∧ r.2.mem ((c.tc : Thread Cert.AdamBfIdeal.nD Cert.AdamBfIdeal.τ).loc Cert.AdamBfIdeal.main_arg0) = m ((c.tc : Thread Cert.AdamBfIdeal.nD Cert.AdamBfIdeal.τ).loc Cert.AdamBfIdeal.main_arg0)
          ∧ r.2.mem ((c.tc : Thread Cert.AdamBfIdeal.nD Cert.AdamBfIdeal.τ).loc Cert.AdamBfIdeal.main_arg1) = m ((c.tc : Thread Cert.AdamBfIdeal.nD Cert.AdamBfIdeal.τ).loc Cert.AdamBfIdeal.main_arg1)
          ∧ r.2.mem ((c.tc : Thread Cert.AdamBfIdeal.nD Cert.AdamBfIdeal.τ).loc Cert.AdamBfIdeal.main_arg2) = m ((c.tc : Thread Cert.AdamBfIdeal.nD Cert.AdamBfIdeal.τ).loc Cert.AdamBfIdeal.main_arg2)
          ∧ r.2.mem ((c.tc : Thread Cert.AdamBfIdeal.nD Cert.AdamBfIdeal.τ).loc Cert.AdamBfIdeal.main_arg3) = m ((c.tc : Thread Cert.AdamBfIdeal.nD Cert.AdamBfIdeal.τ).loc Cert.AdamBfIdeal.main_arg3))
      ∧ θ_run (Cert.AdamBfRefIdeal.defs (F := Ideal)) (onTc (τ := Cert.AdamBfRefIdeal.τ) (Cert.AdamBfRefIdeal.main (F := Ideal))) ⟨m', fun _ => 0, g'⟩ (fun r => ∀ c : Dev Cert.AdamBfRefIdeal.nD,
          r.2.mem ((c.tc : Thread Cert.AdamBfRefIdeal.nD Cert.AdamBfRefIdeal.τ).loc Cert.AdamBfRefIdeal.main_v23) = v0 c
          ∧ r.2.mem ((c.tc : Thread Cert.AdamBfRefIdeal.nD Cert.AdamBfRefIdeal.τ).loc Cert.AdamBfRefIdeal.main_v4) = v1 c
          ∧ r.2.mem ((c.tc : Thread Cert.AdamBfRefIdeal.nD Cert.AdamBfRefIdeal.τ).loc Cert.AdamBfRefIdeal.main_v10) = v2 c
          ∧ r.2.mem ((c.tc : Thread Cert.AdamBfRefIdeal.nD Cert.AdamBfRefIdeal.τ).loc Cert.AdamBfRefIdeal.main_arg0) = m' ((c.tc : Thread Cert.AdamBfRefIdeal.nD Cert.AdamBfRefIdeal.τ).loc Cert.AdamBfRefIdeal.main_arg0)
          ∧ r.2.mem ((c.tc : Thread Cert.AdamBfRefIdeal.nD Cert.AdamBfRefIdeal.τ).loc Cert.AdamBfRefIdeal.main_arg1) = m' ((c.tc : Thread Cert.AdamBfRefIdeal.nD Cert.AdamBfRefIdeal.τ).loc Cert.AdamBfRefIdeal.main_arg1)
          ∧ r.2.mem ((c.tc : Thread Cert.AdamBfRefIdeal.nD Cert.AdamBfRefIdeal.τ).loc Cert.AdamBfRefIdeal.main_arg2) = m' ((c.tc : Thread Cert.AdamBfRefIdeal.nD Cert.AdamBfRefIdeal.τ).loc Cert.AdamBfRefIdeal.main_arg2)
          ∧ r.2.mem ((c.tc : Thread Cert.AdamBfRefIdeal.nD Cert.AdamBfRefIdeal.τ).loc Cert.AdamBfRefIdeal.main_arg3) = m' ((c.tc : Thread Cert.AdamBfRefIdeal.nD Cert.AdamBfRefIdeal.τ).loc Cert.AdamBfRefIdeal.main_arg3))

def preserves_AdamKNorm_AdamKNormIdeal : Prop :=
  True

def algebraic_AdamKNormIdeal_AdamKNormRefIdeal [hAdamKNormIdeal : Cert.AdamKNormIdeal.Facts] [hAdamKNormRefIdeal : Cert.AdamKNormRefIdeal.Facts] : Prop :=
  ∀ (m : (ℓ : Loc Cert.AdamKNormIdeal.nD Cert.AdamKNormIdeal.τ Cert.AdamKNormIdeal.sig) → Buf (Elt Ideal) ℓ) (g : Dev Cert.AdamKNormIdeal.nD → PrngReg)
    (m' : (ℓ : Loc Cert.AdamKNormRefIdeal.nD Cert.AdamKNormRefIdeal.τ Cert.AdamKNormRefIdeal.sig) → Buf (Elt Ideal) ℓ) (g' : Dev Cert.AdamKNormRefIdeal.nD → PrngReg), Pre_AdamKNormIdeal m →
    (∀ c : Dev Cert.AdamKNormIdeal.nD,
      m' ((c.tc : Thread Cert.AdamKNormRefIdeal.nD Cert.AdamKNormRefIdeal.τ).loc Cert.AdamKNormRefIdeal.main_arg0) = m ((c.tc : Thread Cert.AdamKNormIdeal.nD Cert.AdamKNormIdeal.τ).loc Cert.AdamKNormIdeal.main_arg0)
      ∧ m' ((c.tc : Thread Cert.AdamKNormRefIdeal.nD Cert.AdamKNormRefIdeal.τ).loc Cert.AdamKNormRefIdeal.main_arg1) = m ((c.tc : Thread Cert.AdamKNormIdeal.nD Cert.AdamKNormIdeal.τ).loc Cert.AdamKNormIdeal.main_arg1)
      ∧ m' ((c.tc : Thread Cert.AdamKNormRefIdeal.nD Cert.AdamKNormRefIdeal.τ).loc Cert.AdamKNormRefIdeal.main_arg2) = m ((c.tc : Thread Cert.AdamKNormIdeal.nD Cert.AdamKNormIdeal.τ).loc Cert.AdamKNormIdeal.main_arg2)
      ∧ m' ((c.tc : Thread Cert.AdamKNormRefIdeal.nD Cert.AdamKNormRefIdeal.τ).loc Cert.AdamKNormRefIdeal.main_arg3) = m ((c.tc : Thread Cert.AdamKNormIdeal.nD Cert.AdamKNormIdeal.τ).loc Cert.AdamKNormIdeal.main_arg3)) →
    ∃ (v0 : (c : Dev Cert.AdamKNormIdeal.nD) → Buf (Elt Ideal) ((c.tc : Thread Cert.AdamKNormIdeal.nD Cert.AdamKNormIdeal.τ).loc Cert.AdamKNormIdeal.main_v0_0)) (v1 : (c : Dev Cert.AdamKNormIdeal.nD) → Buf (Elt Ideal) ((c.tc : Thread Cert.AdamKNormIdeal.nD Cert.AdamKNormIdeal.τ).loc Cert.AdamKNormIdeal.main_v0_1)) (v2 : (c : Dev Cert.AdamKNormIdeal.nD) → Buf (Elt Ideal) ((c.tc : Thread Cert.AdamKNormIdeal.nD Cert.AdamKNormIdeal.τ).loc Cert.AdamKNormIdeal.main_v0_2)),
      θ_run (Cert.AdamKNormIdeal.defs (F := Ideal)) (onTc (τ := Cert.AdamKNormIdeal.τ) (Cert.AdamKNormIdeal.main (F := Ideal))) ⟨m, fun _ => 0, g⟩ (fun r => ∀ c : Dev Cert.AdamKNormIdeal.nD,
          r.2.mem ((c.tc : Thread Cert.AdamKNormIdeal.nD Cert.AdamKNormIdeal.τ).loc Cert.AdamKNormIdeal.main_v0_0) = v0 c
          ∧ r.2.mem ((c.tc : Thread Cert.AdamKNormIdeal.nD Cert.AdamKNormIdeal.τ).loc Cert.AdamKNormIdeal.main_v0_1) = v1 c
          ∧ r.2.mem ((c.tc : Thread Cert.AdamKNormIdeal.nD Cert.AdamKNormIdeal.τ).loc Cert.AdamKNormIdeal.main_v0_2) = v2 c
          ∧ r.2.mem ((c.tc : Thread Cert.AdamKNormIdeal.nD Cert.AdamKNormIdeal.τ).loc Cert.AdamKNormIdeal.main_arg0) = m ((c.tc : Thread Cert.AdamKNormIdeal.nD Cert.AdamKNormIdeal.τ).loc Cert.AdamKNormIdeal.main_arg0)
          ∧ r.2.mem ((c.tc : Thread Cert.AdamKNormIdeal.nD Cert.AdamKNormIdeal.τ).loc Cert.AdamKNormIdeal.main_arg1) = m ((c.tc : Thread Cert.AdamKNormIdeal.nD Cert.AdamKNormIdeal.τ).loc Cert.AdamKNormIdeal.main_arg1)
          ∧ r.2.mem ((c.tc : Thread Cert.AdamKNormIdeal.nD Cert.AdamKNormIdeal.τ).loc Cert.AdamKNormIdeal.main_arg2) = m ((c.tc : Thread Cert.AdamKNormIdeal.nD Cert.AdamKNormIdeal.τ).loc Cert.AdamKNormIdeal.main_arg2)
          ∧ r.2.mem ((c.tc : Thread Cert.AdamKNormIdeal.nD Cert.AdamKNormIdeal.τ).loc Cert.AdamKNormIdeal.main_arg3) = m ((c.tc : Thread Cert.AdamKNormIdeal.nD Cert.AdamKNormIdeal.τ).loc Cert.AdamKNormIdeal.main_arg3))
      ∧ θ_run (Cert.AdamKNormRefIdeal.defs (F := Ideal)) (onTc (τ := Cert.AdamKNormRefIdeal.τ) (Cert.AdamKNormRefIdeal.main (F := Ideal))) ⟨m', fun _ => 0, g'⟩ (fun r => ∀ c : Dev Cert.AdamKNormRefIdeal.nD,
          r.2.mem ((c.tc : Thread Cert.AdamKNormRefIdeal.nD Cert.AdamKNormRefIdeal.τ).loc Cert.AdamKNormRefIdeal.main_v23) = v0 c
          ∧ r.2.mem ((c.tc : Thread Cert.AdamKNormRefIdeal.nD Cert.AdamKNormRefIdeal.τ).loc Cert.AdamKNormRefIdeal.main_v4) = v1 c
          ∧ r.2.mem ((c.tc : Thread Cert.AdamKNormRefIdeal.nD Cert.AdamKNormRefIdeal.τ).loc Cert.AdamKNormRefIdeal.main_v10) = v2 c
          ∧ r.2.mem ((c.tc : Thread Cert.AdamKNormRefIdeal.nD Cert.AdamKNormRefIdeal.τ).loc Cert.AdamKNormRefIdeal.main_arg0) = m' ((c.tc : Thread Cert.AdamKNormRefIdeal.nD Cert.AdamKNormRefIdeal.τ).loc Cert.AdamKNormRefIdeal.main_arg0)
          ∧ r.2.mem ((c.tc : Thread Cert.AdamKNormRefIdeal.nD Cert.AdamKNormRefIdeal.τ).loc Cert.AdamKNormRefIdeal.main_arg1) = m' ((c.tc : Thread Cert.AdamKNormRefIdeal.nD Cert.AdamKNormRefIdeal.τ).loc Cert.AdamKNormRefIdeal.main_arg1)
          ∧ r.2.mem ((c.tc : Thread Cert.AdamKNormRefIdeal.nD Cert.AdamKNormRefIdeal.τ).loc Cert.AdamKNormRefIdeal.main_arg2) = m' ((c.tc : Thread Cert.AdamKNormRefIdeal.nD Cert.AdamKNormRefIdeal.τ).loc Cert.AdamKNormRefIdeal.main_arg2)
          ∧ r.2.mem ((c.tc : Thread Cert.AdamKNormRefIdeal.nD Cert.AdamKNormRefIdeal.τ).loc Cert.AdamKNormRefIdeal.main_arg3) = m' ((c.tc : Thread Cert.AdamKNormRefIdeal.nD Cert.AdamKNormRefIdeal.τ).loc Cert.AdamKNormRefIdeal.main_arg3))

def preserves_AdamQg_AdamQgIdeal : Prop :=
  True

def algebraic_AdamQgIdeal_AdamQgRefIdeal [hAdamQgIdeal : Cert.AdamQgIdeal.Facts] [hAdamQgRefIdeal : Cert.AdamQgRefIdeal.Facts] : Prop :=
  ∀ (m : (ℓ : Loc Cert.AdamQgIdeal.nD Cert.AdamQgIdeal.τ Cert.AdamQgIdeal.sig) → Buf (Elt Ideal) ℓ) (g : Dev Cert.AdamQgIdeal.nD → PrngReg)
    (m' : (ℓ : Loc Cert.AdamQgRefIdeal.nD Cert.AdamQgRefIdeal.τ Cert.AdamQgRefIdeal.sig) → Buf (Elt Ideal) ℓ) (g' : Dev Cert.AdamQgRefIdeal.nD → PrngReg), Pre_AdamQgIdeal m →
    (∀ c : Dev Cert.AdamQgIdeal.nD,
      m' ((c.tc : Thread Cert.AdamQgRefIdeal.nD Cert.AdamQgRefIdeal.τ).loc Cert.AdamQgRefIdeal.main_arg0) = m ((c.tc : Thread Cert.AdamQgIdeal.nD Cert.AdamQgIdeal.τ).loc Cert.AdamQgIdeal.main_arg0)
      ∧ m' ((c.tc : Thread Cert.AdamQgRefIdeal.nD Cert.AdamQgRefIdeal.τ).loc Cert.AdamQgRefIdeal.main_arg1) = m ((c.tc : Thread Cert.AdamQgIdeal.nD Cert.AdamQgIdeal.τ).loc Cert.AdamQgIdeal.main_arg1)
      ∧ m' ((c.tc : Thread Cert.AdamQgRefIdeal.nD Cert.AdamQgRefIdeal.τ).loc Cert.AdamQgRefIdeal.main_arg2) = m ((c.tc : Thread Cert.AdamQgIdeal.nD Cert.AdamQgIdeal.τ).loc Cert.AdamQgIdeal.main_arg2)
      ∧ m' ((c.tc : Thread Cert.AdamQgRefIdeal.nD Cert.AdamQgRefIdeal.τ).loc Cert.AdamQgRefIdeal.main_arg3) = m ((c.tc : Thread Cert.AdamQgIdeal.nD Cert.AdamQgIdeal.τ).loc Cert.AdamQgIdeal.main_arg3)) →
    ∃ (v0 : (c : Dev Cert.AdamQgIdeal.nD) → Buf (Elt Ideal) ((c.tc : Thread Cert.AdamQgIdeal.nD Cert.AdamQgIdeal.τ).loc Cert.AdamQgIdeal.main_v0_0)) (v1 : (c : Dev Cert.AdamQgIdeal.nD) → Buf (Elt Ideal) ((c.tc : Thread Cert.AdamQgIdeal.nD Cert.AdamQgIdeal.τ).loc Cert.AdamQgIdeal.main_v0_1)) (v2 : (c : Dev Cert.AdamQgIdeal.nD) → Buf (Elt Ideal) ((c.tc : Thread Cert.AdamQgIdeal.nD Cert.AdamQgIdeal.τ).loc Cert.AdamQgIdeal.main_v0_2)),
      θ_run (Cert.AdamQgIdeal.defs (F := Ideal)) (onTc (τ := Cert.AdamQgIdeal.τ) (Cert.AdamQgIdeal.main (F := Ideal))) ⟨m, fun _ => 0, g⟩ (fun r => ∀ c : Dev Cert.AdamQgIdeal.nD,
          r.2.mem ((c.tc : Thread Cert.AdamQgIdeal.nD Cert.AdamQgIdeal.τ).loc Cert.AdamQgIdeal.main_v0_0) = v0 c
          ∧ r.2.mem ((c.tc : Thread Cert.AdamQgIdeal.nD Cert.AdamQgIdeal.τ).loc Cert.AdamQgIdeal.main_v0_1) = v1 c
          ∧ r.2.mem ((c.tc : Thread Cert.AdamQgIdeal.nD Cert.AdamQgIdeal.τ).loc Cert.AdamQgIdeal.main_v0_2) = v2 c
          ∧ r.2.mem ((c.tc : Thread Cert.AdamQgIdeal.nD Cert.AdamQgIdeal.τ).loc Cert.AdamQgIdeal.main_arg0) = m ((c.tc : Thread Cert.AdamQgIdeal.nD Cert.AdamQgIdeal.τ).loc Cert.AdamQgIdeal.main_arg0)
          ∧ r.2.mem ((c.tc : Thread Cert.AdamQgIdeal.nD Cert.AdamQgIdeal.τ).loc Cert.AdamQgIdeal.main_arg1) = m ((c.tc : Thread Cert.AdamQgIdeal.nD Cert.AdamQgIdeal.τ).loc Cert.AdamQgIdeal.main_arg1)
          ∧ r.2.mem ((c.tc : Thread Cert.AdamQgIdeal.nD Cert.AdamQgIdeal.τ).loc Cert.AdamQgIdeal.main_arg2) = m ((c.tc : Thread Cert.AdamQgIdeal.nD Cert.AdamQgIdeal.τ).loc Cert.AdamQgIdeal.main_arg2)
          ∧ r.2.mem ((c.tc : Thread Cert.AdamQgIdeal.nD Cert.AdamQgIdeal.τ).loc Cert.AdamQgIdeal.main_arg3) = m ((c.tc : Thread Cert.AdamQgIdeal.nD Cert.AdamQgIdeal.τ).loc Cert.AdamQgIdeal.main_arg3))
      ∧ θ_run (Cert.AdamQgRefIdeal.defs (F := Ideal)) (onTc (τ := Cert.AdamQgRefIdeal.τ) (Cert.AdamQgRefIdeal.main (F := Ideal))) ⟨m', fun _ => 0, g'⟩ (fun r => ∀ c : Dev Cert.AdamQgRefIdeal.nD,
          r.2.mem ((c.tc : Thread Cert.AdamQgRefIdeal.nD Cert.AdamQgRefIdeal.τ).loc Cert.AdamQgRefIdeal.main_v23) = v0 c
          ∧ r.2.mem ((c.tc : Thread Cert.AdamQgRefIdeal.nD Cert.AdamQgRefIdeal.τ).loc Cert.AdamQgRefIdeal.main_v4) = v1 c
          ∧ r.2.mem ((c.tc : Thread Cert.AdamQgRefIdeal.nD Cert.AdamQgRefIdeal.τ).loc Cert.AdamQgRefIdeal.main_v10) = v2 c
          ∧ r.2.mem ((c.tc : Thread Cert.AdamQgRefIdeal.nD Cert.AdamQgRefIdeal.τ).loc Cert.AdamQgRefIdeal.main_arg0) = m' ((c.tc : Thread Cert.AdamQgRefIdeal.nD Cert.AdamQgRefIdeal.τ).loc Cert.AdamQgRefIdeal.main_arg0)
          ∧ r.2.mem ((c.tc : Thread Cert.AdamQgRefIdeal.nD Cert.AdamQgRefIdeal.τ).loc Cert.AdamQgRefIdeal.main_arg1) = m' ((c.tc : Thread Cert.AdamQgRefIdeal.nD Cert.AdamQgRefIdeal.τ).loc Cert.AdamQgRefIdeal.main_arg1)
          ∧ r.2.mem ((c.tc : Thread Cert.AdamQgRefIdeal.nD Cert.AdamQgRefIdeal.τ).loc Cert.AdamQgRefIdeal.main_arg2) = m' ((c.tc : Thread Cert.AdamQgRefIdeal.nD Cert.AdamQgRefIdeal.τ).loc Cert.AdamQgRefIdeal.main_arg2)
          ∧ r.2.mem ((c.tc : Thread Cert.AdamQgRefIdeal.nD Cert.AdamQgRefIdeal.τ).loc Cert.AdamQgRefIdeal.main_arg3) = m' ((c.tc : Thread Cert.AdamQgRefIdeal.nD Cert.AdamQgRefIdeal.τ).loc Cert.AdamQgRefIdeal.main_arg3))

def preserves_AdamQNorm_AdamQNormIdeal : Prop :=
  True

def algebraic_AdamQNormIdeal_AdamQNormRefIdeal [hAdamQNormIdeal : Cert.AdamQNormIdeal.Facts] [hAdamQNormRefIdeal : Cert.AdamQNormRefIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg)
    (m' : (ℓ : Loc Cert.AdamQNormRefIdeal.nD Cert.AdamQNormRefIdeal.τ Cert.AdamQNormRefIdeal.sig) → Buf (Elt Ideal) ℓ) (g' : Dev Cert.AdamQNormRefIdeal.nD → PrngReg), Pre_AdamQNormIdeal m →
    (∀ c : Dev Cert.AdamQNormIdeal.nD,
      m' ((c.tc : Thread Cert.AdamQNormRefIdeal.nD Cert.AdamQNormRefIdeal.τ).loc Cert.AdamQNormRefIdeal.main_arg0) = m ((c.tc : Thread Cert.AdamQNormIdeal.nD Cert.AdamQNormIdeal.τ).loc Cert.AdamQNormIdeal.main_arg0)
      ∧ m' ((c.tc : Thread Cert.AdamQNormRefIdeal.nD Cert.AdamQNormRefIdeal.τ).loc Cert.AdamQNormRefIdeal.main_arg1) = m ((c.tc : Thread Cert.AdamQNormIdeal.nD Cert.AdamQNormIdeal.τ).loc Cert.AdamQNormIdeal.main_arg1)
      ∧ m' ((c.tc : Thread Cert.AdamQNormRefIdeal.nD Cert.AdamQNormRefIdeal.τ).loc Cert.AdamQNormRefIdeal.main_arg2) = m ((c.tc : Thread Cert.AdamQNormIdeal.nD Cert.AdamQNormIdeal.τ).loc Cert.AdamQNormIdeal.main_arg2)
      ∧ m' ((c.tc : Thread Cert.AdamQNormRefIdeal.nD Cert.AdamQNormRefIdeal.τ).loc Cert.AdamQNormRefIdeal.main_arg3) = m ((c.tc : Thread Cert.AdamQNormIdeal.nD Cert.AdamQNormIdeal.τ).loc Cert.AdamQNormIdeal.main_arg3)) →
    ∃ (v0 : (c : Dev Cert.AdamQNormIdeal.nD) → Buf (Elt Ideal) ((c.tc : Thread Cert.AdamQNormIdeal.nD Cert.AdamQNormIdeal.τ).loc Cert.AdamQNormIdeal.main_v0_0)) (v1 : (c : Dev Cert.AdamQNormIdeal.nD) → Buf (Elt Ideal) ((c.tc : Thread Cert.AdamQNormIdeal.nD Cert.AdamQNormIdeal.τ).loc Cert.AdamQNormIdeal.main_v0_1)) (v2 : (c : Dev Cert.AdamQNormIdeal.nD) → Buf (Elt Ideal) ((c.tc : Thread Cert.AdamQNormIdeal.nD Cert.AdamQNormIdeal.τ).loc Cert.AdamQNormIdeal.main_v0_2)),
      θ_run (Cert.AdamQNormIdeal.defs (F := Ideal)) (onTc (τ := Cert.AdamQNormIdeal.τ) (Cert.AdamQNormIdeal.main (F := Ideal))) ⟨m, fun _ => 0, g⟩ (fun r => ∀ c : Dev Cert.AdamQNormIdeal.nD,
          r.2.mem ((c.tc : Thread Cert.AdamQNormIdeal.nD Cert.AdamQNormIdeal.τ).loc Cert.AdamQNormIdeal.main_v0_0) = v0 c
          ∧ r.2.mem ((c.tc : Thread Cert.AdamQNormIdeal.nD Cert.AdamQNormIdeal.τ).loc Cert.AdamQNormIdeal.main_v0_1) = v1 c
          ∧ r.2.mem ((c.tc : Thread Cert.AdamQNormIdeal.nD Cert.AdamQNormIdeal.τ).loc Cert.AdamQNormIdeal.main_v0_2) = v2 c
          ∧ r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
          ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
          ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
          ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ θ_run (Cert.AdamQNormRefIdeal.defs (F := Ideal)) (onTc (τ := Cert.AdamQNormRefIdeal.τ) (Cert.AdamQNormRefIdeal.main (F := Ideal))) ⟨m', fun _ => 0, g'⟩ (fun r => ∀ c : Dev Cert.AdamQNormRefIdeal.nD,
          r.2.mem ((c.tc : Thread Cert.AdamQNormRefIdeal.nD Cert.AdamQNormRefIdeal.τ).loc Cert.AdamQNormRefIdeal.main_v23) = v0 c
          ∧ r.2.mem ((c.tc : Thread Cert.AdamQNormRefIdeal.nD Cert.AdamQNormRefIdeal.τ).loc Cert.AdamQNormRefIdeal.main_v4) = v1 c
          ∧ r.2.mem ((c.tc : Thread Cert.AdamQNormRefIdeal.nD Cert.AdamQNormRefIdeal.τ).loc Cert.AdamQNormRefIdeal.main_v10) = v2 c
          ∧ r.2.mem ((c.tc : Thread Cert.AdamQNormRefIdeal.nD Cert.AdamQNormRefIdeal.τ).loc Cert.AdamQNormRefIdeal.main_arg0) = m' ((c.tc : Thread Cert.AdamQNormRefIdeal.nD Cert.AdamQNormRefIdeal.τ).loc Cert.AdamQNormRefIdeal.main_arg0)
          ∧ r.2.mem ((c.tc : Thread Cert.AdamQNormRefIdeal.nD Cert.AdamQNormRefIdeal.τ).loc Cert.AdamQNormRefIdeal.main_arg1) = m' ((c.tc : Thread Cert.AdamQNormRefIdeal.nD Cert.AdamQNormRefIdeal.τ).loc Cert.AdamQNormRefIdeal.main_arg1)
          ∧ r.2.mem ((c.tc : Thread Cert.AdamQNormRefIdeal.nD Cert.AdamQNormRefIdeal.τ).loc Cert.AdamQNormRefIdeal.main_arg2) = m' ((c.tc : Thread Cert.AdamQNormRefIdeal.nD Cert.AdamQNormRefIdeal.τ).loc Cert.AdamQNormRefIdeal.main_arg2)
          ∧ r.2.mem ((c.tc : Thread Cert.AdamQNormRefIdeal.nD Cert.AdamQNormRefIdeal.τ).loc Cert.AdamQNormRefIdeal.main_arg3) = m' ((c.tc : Thread Cert.AdamQNormRefIdeal.nD Cert.AdamQNormRefIdeal.τ).loc Cert.AdamQNormRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamFConv_AdamFConvIdeal : Prop :=
  True

def algebraic_AdamFConvIdeal_AdamFConvRefIdeal [hAdamFConvIdeal : Cert.AdamFConvIdeal.Facts] [hAdamFConvRefIdeal : Cert.AdamFConvRefIdeal.Facts] : Prop :=
  ∀ (m : (ℓ : Loc Cert.AdamFConvIdeal.nD Cert.AdamFConvIdeal.τ Cert.AdamFConvIdeal.sig) → Buf (Elt Ideal) ℓ) (g : Dev Cert.AdamFConvIdeal.nD → PrngReg)
    (m' : (ℓ : Loc Cert.AdamFConvRefIdeal.nD Cert.AdamFConvRefIdeal.τ Cert.AdamFConvRefIdeal.sig) → Buf (Elt Ideal) ℓ) (g' : Dev Cert.AdamFConvRefIdeal.nD → PrngReg), Pre_AdamFConvIdeal m →
    (∀ c : Dev Cert.AdamFConvIdeal.nD,
      m' ((c.tc : Thread Cert.AdamFConvRefIdeal.nD Cert.AdamFConvRefIdeal.τ).loc Cert.AdamFConvRefIdeal.main_arg0) = m ((c.tc : Thread Cert.AdamFConvIdeal.nD Cert.AdamFConvIdeal.τ).loc Cert.AdamFConvIdeal.main_arg0)
      ∧ m' ((c.tc : Thread Cert.AdamFConvRefIdeal.nD Cert.AdamFConvRefIdeal.τ).loc Cert.AdamFConvRefIdeal.main_arg1) = m ((c.tc : Thread Cert.AdamFConvIdeal.nD Cert.AdamFConvIdeal.τ).loc Cert.AdamFConvIdeal.main_arg1)
      ∧ m' ((c.tc : Thread Cert.AdamFConvRefIdeal.nD Cert.AdamFConvRefIdeal.τ).loc Cert.AdamFConvRefIdeal.main_arg2) = m ((c.tc : Thread Cert.AdamFConvIdeal.nD Cert.AdamFConvIdeal.τ).loc Cert.AdamFConvIdeal.main_arg2)
      ∧ m' ((c.tc : Thread Cert.AdamFConvRefIdeal.nD Cert.AdamFConvRefIdeal.τ).loc Cert.AdamFConvRefIdeal.main_arg3) = m ((c.tc : Thread Cert.AdamFConvIdeal.nD Cert.AdamFConvIdeal.τ).loc Cert.AdamFConvIdeal.main_arg3)) →
    ∃ (v0 : (c : Dev Cert.AdamFConvIdeal.nD) → Buf (Elt Ideal) ((c.tc : Thread Cert.AdamFConvIdeal.nD Cert.AdamFConvIdeal.τ).loc Cert.AdamFConvIdeal.main_v0_0)) (v1 : (c : Dev Cert.AdamFConvIdeal.nD) → Buf (Elt Ideal) ((c.tc : Thread Cert.AdamFConvIdeal.nD Cert.AdamFConvIdeal.τ).loc Cert.AdamFConvIdeal.main_v0_1)) (v2 : (c : Dev Cert.AdamFConvIdeal.nD) → Buf (Elt Ideal) ((c.tc : Thread Cert.AdamFConvIdeal.nD Cert.AdamFConvIdeal.τ).loc Cert.AdamFConvIdeal.main_v0_2)),
      θ_run (Cert.AdamFConvIdeal.defs (F := Ideal)) (onTc (τ := Cert.AdamFConvIdeal.τ) (Cert.AdamFConvIdeal.main (F := Ideal))) ⟨m, fun _ => 0, g⟩ (fun r => ∀ c : Dev Cert.AdamFConvIdeal.nD,
          r.2.mem ((c.tc : Thread Cert.AdamFConvIdeal.nD Cert.AdamFConvIdeal.τ).loc Cert.AdamFConvIdeal.main_v0_0) = v0 c
          ∧ r.2.mem ((c.tc : Thread Cert.AdamFConvIdeal.nD Cert.AdamFConvIdeal.τ).loc Cert.AdamFConvIdeal.main_v0_1) = v1 c
          ∧ r.2.mem ((c.tc : Thread Cert.AdamFConvIdeal.nD Cert.AdamFConvIdeal.τ).loc Cert.AdamFConvIdeal.main_v0_2) = v2 c
          ∧ r.2.mem ((c.tc : Thread Cert.AdamFConvIdeal.nD Cert.AdamFConvIdeal.τ).loc Cert.AdamFConvIdeal.main_arg0) = m ((c.tc : Thread Cert.AdamFConvIdeal.nD Cert.AdamFConvIdeal.τ).loc Cert.AdamFConvIdeal.main_arg0)
          ∧ r.2.mem ((c.tc : Thread Cert.AdamFConvIdeal.nD Cert.AdamFConvIdeal.τ).loc Cert.AdamFConvIdeal.main_arg1) = m ((c.tc : Thread Cert.AdamFConvIdeal.nD Cert.AdamFConvIdeal.τ).loc Cert.AdamFConvIdeal.main_arg1)
          ∧ r.2.mem ((c.tc : Thread Cert.AdamFConvIdeal.nD Cert.AdamFConvIdeal.τ).loc Cert.AdamFConvIdeal.main_arg2) = m ((c.tc : Thread Cert.AdamFConvIdeal.nD Cert.AdamFConvIdeal.τ).loc Cert.AdamFConvIdeal.main_arg2)
          ∧ r.2.mem ((c.tc : Thread Cert.AdamFConvIdeal.nD Cert.AdamFConvIdeal.τ).loc Cert.AdamFConvIdeal.main_arg3) = m ((c.tc : Thread Cert.AdamFConvIdeal.nD Cert.AdamFConvIdeal.τ).loc Cert.AdamFConvIdeal.main_arg3))
      ∧ θ_run (Cert.AdamFConvRefIdeal.defs (F := Ideal)) (onTc (τ := Cert.AdamFConvRefIdeal.τ) (Cert.AdamFConvRefIdeal.main (F := Ideal))) ⟨m', fun _ => 0, g'⟩ (fun r => ∀ c : Dev Cert.AdamFConvRefIdeal.nD,
          r.2.mem ((c.tc : Thread Cert.AdamFConvRefIdeal.nD Cert.AdamFConvRefIdeal.τ).loc Cert.AdamFConvRefIdeal.main_v23) = v0 c
          ∧ r.2.mem ((c.tc : Thread Cert.AdamFConvRefIdeal.nD Cert.AdamFConvRefIdeal.τ).loc Cert.AdamFConvRefIdeal.main_v4) = v1 c
          ∧ r.2.mem ((c.tc : Thread Cert.AdamFConvRefIdeal.nD Cert.AdamFConvRefIdeal.τ).loc Cert.AdamFConvRefIdeal.main_v10) = v2 c
          ∧ r.2.mem ((c.tc : Thread Cert.AdamFConvRefIdeal.nD Cert.AdamFConvRefIdeal.τ).loc Cert.AdamFConvRefIdeal.main_arg0) = m' ((c.tc : Thread Cert.AdamFConvRefIdeal.nD Cert.AdamFConvRefIdeal.τ).loc Cert.AdamFConvRefIdeal.main_arg0)
          ∧ r.2.mem ((c.tc : Thread Cert.AdamFConvRefIdeal.nD Cert.AdamFConvRefIdeal.τ).loc Cert.AdamFConvRefIdeal.main_arg1) = m' ((c.tc : Thread Cert.AdamFConvRefIdeal.nD Cert.AdamFConvRefIdeal.τ).loc Cert.AdamFConvRefIdeal.main_arg1)
          ∧ r.2.mem ((c.tc : Thread Cert.AdamFConvRefIdeal.nD Cert.AdamFConvRefIdeal.τ).loc Cert.AdamFConvRefIdeal.main_arg2) = m' ((c.tc : Thread Cert.AdamFConvRefIdeal.nD Cert.AdamFConvRefIdeal.τ).loc Cert.AdamFConvRefIdeal.main_arg2)
          ∧ r.2.mem ((c.tc : Thread Cert.AdamFConvRefIdeal.nD Cert.AdamFConvRefIdeal.τ).loc Cert.AdamFConvRefIdeal.main_arg3) = m' ((c.tc : Thread Cert.AdamFConvRefIdeal.nD Cert.AdamFConvRefIdeal.τ).loc Cert.AdamFConvRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def Claim : Prop :=
  ∃ (hKernel : Cert.Kernel.Facts) (hKernelIdeal : Cert.KernelIdeal.Facts) (hReferenceIdeal : Cert.ReferenceIdeal.Facts) (hUpGrad : Cert.UpGrad.Facts) (hUpGradIdeal : Cert.UpGradIdeal.Facts) (hUpGradRefIdeal : Cert.UpGradRefIdeal.Facts) (hDownGrad : Cert.DownGrad.Facts) (hDownGradIdeal : Cert.DownGradIdeal.Facts) (hDownGradRefIdeal : Cert.DownGradRefIdeal.Facts) (hInGrad : Cert.InGrad.Facts) (hInGradIdeal : Cert.InGradIdeal.Facts) (hInGradRefIdeal : Cert.InGradRefIdeal.Facts) (hOutGrad : Cert.OutGrad.Facts) (hOutGradIdeal : Cert.OutGradIdeal.Facts) (hOutGradRefIdeal : Cert.OutGradRefIdeal.Facts) (hQgGrad : Cert.QgGrad.Facts) (hQgGradIdeal : Cert.QgGradIdeal.Facts) (hQgGradRefIdeal : Cert.QgGradRefIdeal.Facts) (hKvfGrad : Cert.KvfGrad.Facts) (hKvfGradIdeal : Cert.KvfGradIdeal.Facts) (hKvfGradRefIdeal : Cert.KvfGradRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hAdamNorm : Cert.AdamNorm.Facts) (hAdamNormIdeal : Cert.AdamNormIdeal.Facts) (hAdamNormRefIdeal : Cert.AdamNormRefIdeal.Facts) (hAdamIn : Cert.AdamIn.Facts) (hAdamInIdeal : Cert.AdamInIdeal.Facts) (hAdamInRefIdeal : Cert.AdamInRefIdeal.Facts) (hAdamConv : Cert.AdamConv.Facts) (hAdamConvIdeal : Cert.AdamConvIdeal.Facts) (hAdamConvRefIdeal : Cert.AdamConvRefIdeal.Facts) (hAdamOut : Cert.AdamOut.Facts) (hAdamOutIdeal : Cert.AdamOutIdeal.Facts) (hAdamOutRefIdeal : Cert.AdamOutRefIdeal.Facts) (hAdamKvNorm : Cert.AdamKvNorm.Facts) (hAdamKvNormIdeal : Cert.AdamKvNormIdeal.Facts) (hAdamKvNormRefIdeal : Cert.AdamKvNormRefIdeal.Facts) (hAdamKvf : Cert.AdamKvf.Facts) (hAdamKvfIdeal : Cert.AdamKvfIdeal.Facts) (hAdamKvfRefIdeal : Cert.AdamKvfRefIdeal.Facts) (hAdamBf : Cert.AdamBf.Facts) (hAdamBfIdeal : Cert.AdamBfIdeal.Facts) (hAdamBfRefIdeal : Cert.AdamBfRefIdeal.Facts) (hAdamKNorm : Cert.AdamKNorm.Facts) (hAdamKNormIdeal : Cert.AdamKNormIdeal.Facts) (hAdamKNormRefIdeal : Cert.AdamKNormRefIdeal.Facts) (hAdamQg : Cert.AdamQg.Facts) (hAdamQgIdeal : Cert.AdamQgIdeal.Facts) (hAdamQgRefIdeal : Cert.AdamQgRefIdeal.Facts) (hAdamQNorm : Cert.AdamQNorm.Facts) (hAdamQNormIdeal : Cert.AdamQNormIdeal.Facts) (hAdamQNormRefIdeal : Cert.AdamQNormRefIdeal.Facts) (hAdamUp : Cert.AdamUp.Facts) (hAdamUpIdeal : Cert.AdamUpIdeal.Facts) (hAdamUpRefIdeal : Cert.AdamUpRefIdeal.Facts) (hAdamFConv : Cert.AdamFConv.Facts) (hAdamFConvIdeal : Cert.AdamFConvIdeal.Facts) (hAdamFConvRefIdeal : Cert.AdamFConvRefIdeal.Facts) (hAdamDown : Cert.AdamDown.Facts) (hAdamDownIdeal : Cert.AdamDownIdeal.Facts) (hAdamDownRefIdeal : Cert.AdamDownRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_QgGrad (hQgGrad := hQgGrad)
    ∧ quiescent_QgGradIdeal (hQgGradIdeal := hQgGradIdeal)
    ∧ quiescent_QgGradRefIdeal (hQgGradRefIdeal := hQgGradRefIdeal)
    ∧ quiescent_KvfGrad (hKvfGrad := hKvfGrad)
    ∧ quiescent_KvfGradIdeal (hKvfGradIdeal := hKvfGradIdeal)
    ∧ quiescent_KvfGradRefIdeal (hKvfGradRefIdeal := hKvfGradRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamKvNorm (hAdamKvNorm := hAdamKvNorm)
    ∧ quiescent_AdamKvNormIdeal (hAdamKvNormIdeal := hAdamKvNormIdeal)
    ∧ quiescent_AdamKvNormRefIdeal (hAdamKvNormRefIdeal := hAdamKvNormRefIdeal)
    ∧ quiescent_AdamKvf (hAdamKvf := hAdamKvf)
    ∧ quiescent_AdamKvfIdeal (hAdamKvfIdeal := hAdamKvfIdeal)
    ∧ quiescent_AdamKvfRefIdeal (hAdamKvfRefIdeal := hAdamKvfRefIdeal)
    ∧ quiescent_AdamBf (hAdamBf := hAdamBf)
    ∧ quiescent_AdamBfIdeal (hAdamBfIdeal := hAdamBfIdeal)
    ∧ quiescent_AdamBfRefIdeal (hAdamBfRefIdeal := hAdamBfRefIdeal)
    ∧ quiescent_AdamKNorm (hAdamKNorm := hAdamKNorm)
    ∧ quiescent_AdamKNormIdeal (hAdamKNormIdeal := hAdamKNormIdeal)
    ∧ quiescent_AdamKNormRefIdeal (hAdamKNormRefIdeal := hAdamKNormRefIdeal)
    ∧ quiescent_AdamQg (hAdamQg := hAdamQg)
    ∧ quiescent_AdamQgIdeal (hAdamQgIdeal := hAdamQgIdeal)
    ∧ quiescent_AdamQgRefIdeal (hAdamQgRefIdeal := hAdamQgRefIdeal)
    ∧ quiescent_AdamQNorm (hAdamQNorm := hAdamQNorm)
    ∧ quiescent_AdamQNormIdeal (hAdamQNormIdeal := hAdamQNormIdeal)
    ∧ quiescent_AdamQNormRefIdeal (hAdamQNormRefIdeal := hAdamQNormRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamFConv (hAdamFConv := hAdamFConv)
    ∧ quiescent_AdamFConvIdeal (hAdamFConvIdeal := hAdamFConvIdeal)
    ∧ quiescent_AdamFConvRefIdeal (hAdamFConvRefIdeal := hAdamFConvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpGrad_UpGradIdeal
    ∧ algebraic_UpGradIdeal_UpGradRefIdeal (hUpGradIdeal := hUpGradIdeal) (hUpGradRefIdeal := hUpGradRefIdeal)
    ∧ preserves_DownGrad_DownGradIdeal
    ∧ algebraic_DownGradIdeal_DownGradRefIdeal (hDownGradIdeal := hDownGradIdeal) (hDownGradRefIdeal := hDownGradRefIdeal)
    ∧ preserves_InGrad_InGradIdeal
    ∧ algebraic_InGradIdeal_InGradRefIdeal (hInGradIdeal := hInGradIdeal) (hInGradRefIdeal := hInGradRefIdeal)
    ∧ preserves_OutGrad_OutGradIdeal
    ∧ algebraic_OutGradIdeal_OutGradRefIdeal (hOutGradIdeal := hOutGradIdeal) (hOutGradRefIdeal := hOutGradRefIdeal)
    ∧ preserves_QgGrad_QgGradIdeal
    ∧ algebraic_QgGradIdeal_QgGradRefIdeal (hQgGradIdeal := hQgGradIdeal) (hQgGradRefIdeal := hQgGradRefIdeal)
    ∧ preserves_KvfGrad_KvfGradIdeal
    ∧ algebraic_KvfGradIdeal_KvfGradRefIdeal (hKvfGradIdeal := hKvfGradIdeal) (hKvfGradRefIdeal := hKvfGradRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamIn_AdamInIdeal
    ∧ algebraic_AdamInIdeal_AdamInRefIdeal (hAdamInIdeal := hAdamInIdeal) (hAdamInRefIdeal := hAdamInRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamKvNorm_AdamKvNormIdeal
    ∧ algebraic_AdamKvNormIdeal_AdamKvNormRefIdeal (hAdamKvNormIdeal := hAdamKvNormIdeal) (hAdamKvNormRefIdeal := hAdamKvNormRefIdeal)
    ∧ preserves_AdamKvf_AdamKvfIdeal
    ∧ algebraic_AdamKvfIdeal_AdamKvfRefIdeal (hAdamKvfIdeal := hAdamKvfIdeal) (hAdamKvfRefIdeal := hAdamKvfRefIdeal)
    ∧ preserves_AdamBf_AdamBfIdeal
    ∧ algebraic_AdamBfIdeal_AdamBfRefIdeal (hAdamBfIdeal := hAdamBfIdeal) (hAdamBfRefIdeal := hAdamBfRefIdeal)
    ∧ preserves_AdamKNorm_AdamKNormIdeal
    ∧ algebraic_AdamKNormIdeal_AdamKNormRefIdeal (hAdamKNormIdeal := hAdamKNormIdeal) (hAdamKNormRefIdeal := hAdamKNormRefIdeal)
    ∧ preserves_AdamQg_AdamQgIdeal
    ∧ algebraic_AdamQgIdeal_AdamQgRefIdeal (hAdamQgIdeal := hAdamQgIdeal) (hAdamQgRefIdeal := hAdamQgRefIdeal)
    ∧ preserves_AdamQNorm_AdamQNormIdeal
    ∧ algebraic_AdamQNormIdeal_AdamQNormRefIdeal (hAdamQNormIdeal := hAdamQNormIdeal) (hAdamQNormRefIdeal := hAdamQNormRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamFConv_AdamFConvIdeal
    ∧ algebraic_AdamFConvIdeal_AdamFConvRefIdeal (hAdamFConvIdeal := hAdamFConvIdeal) (hAdamFConvRefIdeal := hAdamFConvRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite.lean ====
abbrev S8192x1024 : Shape := ⟨2, ![8192, 1024]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x1024 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8192x16 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_v13 main_v16
-- ==== Kernel.lean ====
abbrev S8192x1024 : Shape := ⟨2, ![8192, 1024]⟩
abbrev S8192x16 : Shape := ⟨2, ![8192, 16]⟩
abbrev S8192x8192 : Shape := ⟨2, ![8192, 8192]⟩
abbrev S16x8192 : Shape := ⟨2, ![16, 8192]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192x8x2x64 : Shape := ⟨4, ![8192, 8, 2, 64]⟩
abbrev S8192x16x1 : Shape := ⟨3, ![8192, 16, 1]⟩
abbrev S8192x16x58 : Shape := ⟨3, ![8192, 16, 58]⟩
abbrev S8192x8x1x64 : Shape := ⟨4, ![8192, 8, 1, 64]⟩
abbrev S8192x8x64 : Shape := ⟨3, ![8192, 8, 64]⟩
abbrev S8192x8x128 : Shape := ⟨3, ![8192, 8, 128]⟩
abbrev S8x2x16x512 : Shape := ⟨4, ![8, 2, 16, 512]⟩
abbrev S8x16x2x512 : Shape := ⟨4, ![8, 16, 2, 512]⟩
abbrev S8x8192x2 : Shape := ⟨3, ![8, 8192, 2]⟩
abbrev S8192x128 : Shape := ⟨2, ![8192, 128]⟩
abbrev S512x128 : Shape := ⟨2, ![512, 128]⟩
abbrev S1x16x2x512 : Shape := ⟨4, ![1, 16, 2, 512]⟩
abbrev S1x512x2 : Shape := ⟨3, ![1, 512, 2]⟩
abbrev S2x2x512x512 : Shape := ⟨4, ![2, 2, 512, 512]⟩
abbrev S512x512 : Shape := ⟨2, ![512, 512]⟩
abbrev S512x1 : Shape := ⟨2, ![512, 1]⟩
abbrev S1x1x512x512 : Shape := ⟨4, ![1, 1, 512, 512]⟩
abbrev S1x1x2x512 : Shape := ⟨4, ![1, 1, 2, 512]⟩
abbrev S2x512 : Shape := ⟨2, ![2, 512]⟩
abbrev S1x512 : Shape := ⟨2, ![1, 512]⟩
abbrev S512 : Shape := ⟨1, ![512]⟩
abbrev S512x2 : Shape := ⟨2, ![512, 2]⟩

abbrev nBuf : Space → Nat
  | .hbm => 145
  | .vmem => 26
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x16, .f32⟩
  | 4 => ⟨S8192x1024, .f32⟩
  | 5 => ⟨S8192x8192, .i32⟩
  | 6 => ⟨S8192x8192, .i32⟩
  | 7 => ⟨S8192x8192, .i1⟩
  | 8 => ⟨S16x8192, .f32⟩
  | 9 => ⟨S8192x16x64, .f32⟩
  | 10 => ⟨S16x8192x64, .f32⟩
  | 11 => ⟨S8192x16x64, .f32⟩
  | 12 => ⟨S16x8192x64, .f32⟩
  | 13 => ⟨S16x8192x8192, .f32⟩
  | 14 => ⟨S_, .f32⟩
  | 15 => ⟨S16x8192x8192, .f32⟩
  | 16 => ⟨S16x8192x8192, .f32⟩
  | 17 => ⟨S16x8192x1, .f32⟩
  | 18 => ⟨S16x8192x8192, .f32⟩
  | 19 => ⟨S16x8192x8192, .f32⟩
  | 20 => ⟨S16x1x8192, .f32⟩
  | 21 => ⟨S16x8192x8192, .f32⟩
  | 22 => ⟨S16x8192x8192, .f32⟩
  | 23 => ⟨S_, .f32⟩
  | 24 => ⟨S_, .f32⟩
  | 25 => ⟨S16x8192x8192, .i1⟩
  | 26 => ⟨S16x8192x8192, .f32⟩
  | 27 => ⟨S16x8192x8192, .f32⟩
  | 28 => ⟨S_, .f32⟩
  | 29 => ⟨S16x8192, .f32⟩
  | 30 => ⟨S16x8192x1, .f32⟩
  | 31 => ⟨S16x8192x8192, .f32⟩
  | 32 => ⟨S16x8192x8192, .f32⟩
  | 33 => ⟨S16x8192x8192, .f32⟩
  | 34 => ⟨S_, .f32⟩
  | 35 => ⟨S16x8192, .f32⟩
  | 36 => ⟨S16x8192x1, .f32⟩
  | 37 => ⟨S16x8192x8192, .f32⟩
  | 38 => ⟨S16x8192x8192, .f32⟩
  | 39 => ⟨S8192x16x64, .f32⟩
  | 40 => ⟨S16x8192x64, .f32⟩
  | 41 => ⟨S16x8192x64, .f32⟩
  | 42 => ⟨S8192x16x64, .f32⟩
  | 43 => ⟨S16x8192x64, .f32⟩
  | 44 => ⟨S16x8192x1, .f32⟩
  | 45 => ⟨S16x8192x64, .f32⟩
  | 46 => ⟨S16x8192x64, .f32⟩
  | 47 => ⟨S16x8192x64, .f32⟩
  | 48 => ⟨S_, .f32⟩
  | 49 => ⟨S16x8192, .f32⟩
  | 50 => ⟨S8192x16x64, .f32⟩
  | 51 => ⟨S8192x1024, .f32⟩
  | 52 => ⟨S8192x1024, .bf16⟩
  | 53 => ⟨S_, .f32⟩
  | 54 => ⟨S_, .f32⟩
  | 55 => ⟨S8192x16, .f32⟩
  | 56 => ⟨S8192x16, .f32⟩
  | 57 => ⟨S8192x16, .bf16⟩
  | 58 => ⟨S8192x16, .f32⟩
  | 59 => ⟨S8192x16, .f32⟩
  | 60 => ⟨S8192x16, .bf16⟩
  | 61 => ⟨S8192x16, .f32⟩
  | 62 => ⟨S8192x16, .f32⟩
  | 63 => ⟨S8192x16, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x8x2x64, .f32⟩
  | 70 => ⟨S8192x16x1, .f32⟩
  | 71 => ⟨S8192x16x1, .f32⟩
  | 72 => ⟨S8192x16x1, .f32⟩
  | 73 => ⟨S_, .f32⟩
  | 74 => ⟨S8192x16, .f32⟩
  | 75 => ⟨S8192x16x1, .f32⟩
  | 76 => ⟨S_, .f32⟩
  | 77 => ⟨S8192x16, .f32⟩
  | 78 => ⟨S8192x16x1, .f32⟩
  | 79 => ⟨S_, .f32⟩
  | 80 => ⟨S8192x16, .f32⟩
  | 81 => ⟨S8192x16x1, .f32⟩
  | 82 => ⟨S_, .f32⟩
  | 83 => ⟨S8192x16x58, .f32⟩
  | 84 => ⟨S8192x16x64, .f32⟩
  | 85 => ⟨S8192x8x2x64, .f32⟩
  | 86 => ⟨S8192x8x1x64, .f32⟩
  | 87 => ⟨S8192x8x64, .f32⟩
  | 88 => ⟨S8192x8x1x64, .f32⟩
  | 89 => ⟨S8192x8x64, .f32⟩
  | 90 => ⟨S8192x8x128, .f32⟩
  | 91 => ⟨S8192x1024, .f32⟩
  | 92 => ⟨S8192x8x1x64, .f32⟩
  | 93 => ⟨S8192x8x64, .f32⟩
  | 94 => ⟨S8192x8x1x64, .f32⟩
  | 95 => ⟨S8192x8x64, .f32⟩
  | 96 => ⟨S8192x8x128, .f32⟩
  | 97 => ⟨S8192x1024, .f32⟩
  | 98 => ⟨S8192x1024, .bf16⟩
  | 99 => ⟨S8192x1024, .bf16⟩
  | 100 => ⟨S8192x16, .f32⟩
  | 101 => ⟨S8192x16, .f32⟩
  | 102 => ⟨S8192x16, .f32⟩
  | 103 => ⟨S8192x8x2x64, .f32⟩
  | 104 => ⟨S_, .f32⟩
  | 105 => ⟨S8192x16, .f32⟩
  | 106 => ⟨S8192x16x1, .f32⟩
  | 107 => ⟨S_, .f32⟩
  | 108 => ⟨S8192x16, .f32⟩
  | 109 => ⟨S8192x16x1, .f32⟩
  | 110 => ⟨S_, .f32⟩
  | 111 => ⟨S8192x16, .f32⟩
  | 112 => ⟨S8192x16x1, .f32⟩
  | 113 => ⟨S8192x16x1, .f32⟩
  | 114 => ⟨S8192x16x1, .f32⟩
  | 115 => ⟨S8192x16x1, .f32⟩
  | 116 => ⟨S_, .f32⟩
  | 117 => ⟨S8192x16x58, .f32⟩
  | 118 => ⟨S8192x16x64, .f32⟩
  | 119 => ⟨S8192x8x2x64, .f32⟩
  | 120 => ⟨S8192x8x1x64, .f32⟩
  | 121 => ⟨S8192x8x64, .f32⟩
  | 122 => ⟨S8192x8x1x64, .f32⟩
  | 123 => ⟨S8192x8x64, .f32⟩
  | 124 => ⟨S8192x8x128, .f32⟩
  | 125 => ⟨S8192x1024, .f32⟩
  | 126 => ⟨S8192x8x1x64, .f32⟩
  | 127 => ⟨S8192x8x64, .f32⟩
  | _ => ⟨S8192x1024, .f32⟩

abbrev hbmTy0_1 (i : Nat) : BufTy := match i % 128 with
  | 0 => ⟨S8192x8x1x64, .f32⟩
  | 1 => ⟨S8192x8x64, .f32⟩
  | 2 => ⟨S8192x8x128, .f32⟩
  | 3 => ⟨S8192x1024, .f32⟩
  | 4 => ⟨S8192x1024, .bf16⟩
  | 5 => ⟨S8192x1024, .bf16⟩
  | 6 => ⟨S8192x1024, .bf16⟩
  | 7 => ⟨S16x8192, .f32⟩
  | 8 => ⟨S16x8192, .f32⟩
  | 9 => ⟨S8x2x16x512, .f32⟩
  | 10 => ⟨S8x16x2x512, .f32⟩
  | 11 => ⟨S8x2x16x512, .f32⟩
  | 12 => ⟨S8x16x2x512, .f32⟩
  | 13 => ⟨S8192x1024, .f32⟩
  | 14 => ⟨S8192x1024, .f32⟩
  | 15 => ⟨S8192x1024, .f32⟩
  | 16 => ⟨S8x8192x2, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x16x2x512, .f32⟩
  | .local _ .vmem, ⟨13, _⟩ => ⟨S1x16x2x512, .f32⟩
  | .local _ .vmem, ⟨14, _⟩ => ⟨S1x16x2x512, .f32⟩
  | .local _ .vmem, ⟨15, _⟩ => ⟨S1x16x2x512, .f32⟩
  | .local _ .vmem, ⟨16, _⟩ => ⟨S8192x128, .f32⟩
  | .local _ .vmem, ⟨17, _⟩ => ⟨S8192x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x512x2, .f32⟩
  | .local _ .vmem, ⟨23, _⟩ => ⟨S1x512x2, .f32⟩
  | .local _ .vmem, ⟨24, _⟩ => ⟨S2x2x512x512, .f32⟩
  | .local _ .vmem, ⟨25, _⟩ => ⟨S2x2x512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_cst_12 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_13 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118_0 : Ref sig .tc := ⟨.hbm, 141, rfl⟩
abbrev main_v118_1 : Ref sig .tc := ⟨.hbm, 142, rfl⟩
abbrev main_v118_2 : Ref sig .tc := ⟨.hbm, 143, rfl⟩
abbrev main_v118_3 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v25 : BitVec 32 := Scalar.muli arg1 c512_i32
  v25
def k0_off1 (i : grid0.Coords) : Fin 2 → Nat :=
  let arg1 : BitVec 32 := BitVec.ofNat 32 (i 1).val
  let c512_i32 : BitVec 32 := 512#32
  let v25 : BitVec 32 := Scalar.muli arg1 c512_i32
  let v26 : BitVec 32 := v25
  let v27 : Index := Scalar.indexCast v26
  let c0_12 : Index := 0#32
  ![v27.toNat, 0]
def k0_mult2 (i : grid0.Coords) : BitVec 32 :=
  let arg1 : BitVec 32 := BitVec.ofNat 32 (i 1).val
  let c1_i32 : BitVec 32 := 1#32
  let v52 : BitVec 32 := Scalar.addi arg1 c1_i32
  let c15_i32_34 : BitVec 32 := 15#32
  let v53 : BitVec 32 := Scalar.minsi v52 c15_i32_34
  let c512_i32_35 : BitVec 32 := 512#32
  let v54 : BitVec 32 := Scalar.muli v53 c512_i32_35
  v54
def k0_off2 (i : grid0.Coords) : Fin 2 → Nat :=
  let arg1 : BitVec 32 := BitVec.ofNat 32 (i 1).val
  let c1_i32 : BitVec 32 := 1#32
  let v52 : BitVec 32 := Scalar.addi arg1 c1_i32
  let c15_i32_34 : BitVec 32 := 15#32
  let v53 : BitVec 32 := Scalar.minsi v52 c15_i32_34
  let c512_i32_35 : BitVec 32 := 512#32
  let v54 : BitVec 32 := Scalar.muli v53 c512_i32_35
  let v55 : BitVec 32 := v54
  let v56 : Index := Scalar.indexCast v55
  let c0_36 : Index := 0#32
  ![v56.toNat, 0]
def k0_mult3 (i : grid0.Coords) : BitVec 32 :=
  let arg1 : BitVec 32 := BitVec.ofNat 32 (i 1).val
  let c512_i32_59 : BitVec 32 := 512#32
  let v81 : BitVec 32 := Scalar.muli arg1 c512_i32_59
  v81
def k0_off3 (i : grid0.Coords) : Fin 4 → Nat :=
  let c0_61 : Index := 0#32
  let arg1 : BitVec 32 := BitVec.ofNat 32 (i 1).val
  let v86 : Index := Scalar.indexCast arg1
  let c0_62 : Index := 0#32
  let c0_63 : Index := 0#32
  ![0, v86.toNat, 0, 0]
@[reducible] def k0_t1_loop (i : grid0.Coords) : Scf.Loop 32 :=
  let c0_i32_105 : BitVec 32 := 0#32
  let c15_i32 : BitVec 32 := 15#32
  let arg1 : BitVec 32 := BitVec.ofNat 32 (i 1).val
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_107 : BitVec 32 := 1#32
  ⟨c0_i32_105, v179, c1_i32_107⟩
def k0_mult4 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c1_i32_132 : BitVec 32 := 1#32
  let v219 : BitVec 32 := Scalar.addi v218 c1_i32_132
  let c512_i32_133 : BitVec 32 := 512#32
  let v220 : BitVec 32 := Scalar.muli v219 c512_i32_133
  v220
def k0_off4 (i : grid0.Coords) (k0_t1 : Fin (k0_t1_loop i).trips) (c1_i32_132 : BitVec 32) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let v219 : BitVec 32 := Scalar.addi v218 c1_i32_132
  let c512_i32_133 : BitVec 32 := 512#32
  let v220 : BitVec 32 := Scalar.muli v219 c512_i32_133
  let v221 : BitVec 32 := v220
  let v222 : Index := Scalar.indexCast v221
  let c0_134 : Index := 0#32
  ![v222.toNat, 0]
def k0_mult5 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c512_i32_157 : BitVec 32 := 512#32
  let v247 : BitVec 32 := Scalar.muli v218 c512_i32_157
  v247
def k0_off5 (i : grid0.Coords) (k0_t1 : Fin (k0_t1_loop i).trips) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c512_i32_157 : BitVec 32 := 512#32
  let v247 : BitVec 32 := Scalar.muli v218 c512_i32_157
  let v248 : BitVec 32 := v247
  let v249 : Index := Scalar.indexCast v248
  let c0_158 : Index := 0#32
  ![v249.toNat, 0]
def k0_off6 (i : grid0.Coords) (k0_t1 : Fin (k0_t1_loop i).trips) : Fin 4 → Nat :=
  let c0_159 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let v252 : Index := Scalar.indexCast v218
  let c0_160 : Index := 0#32
  let c0_161 : Index := 0#32
  ![0, v252.toNat, 0, 0]
def k0_mult6 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c2_i32_194 : BitVec 32 := 2#32
  let v319 : BitVec 32 := Scalar.addi v218 c2_i32_194
  let c512_i32_195 : BitVec 32 := 512#32
  let v320 : BitVec 32 := Scalar.muli v319 c512_i32_195
  v320
def k0_mult7 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c1_i32_219 : BitVec 32 := 1#32
  let v347 : BitVec 32 := Scalar.addi v218 c1_i32_219
  let c512_i32_220 : BitVec 32 := 512#32
  let v348 : BitVec 32 := Scalar.muli v347 c512_i32_220
  v348
def k0_off7 (i : grid0.Coords) (k0_t1 : Fin (k0_t1_loop i).trips) : Fin 4 → Nat :=
  let c0_222 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c1_i32_219 : BitVec 32 := 1#32
  let v347 : BitVec 32 := Scalar.addi v218 c1_i32_219
  let v353 : Index := Scalar.indexCast v347
  let c0_223 : Index := 0#32
  let c0_224 : Index := 0#32
  ![0, v353.toNat, 0, 0]
@[reducible] def k0_t2_loop (i : grid0.Coords) : Scf.Loop 32 :=
  let c0_i32_105 : BitVec 32 := 0#32
  let c15_i32 : BitVec 32 := 15#32
  let arg1 : BitVec 32 := BitVec.ofNat 32 (i 1).val
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let v176 : BitVec 32 := Scalar.addi c0_i32_105 v175
  let c1_i32_108 : BitVec 32 := 1#32
  ⟨v179, v176, c1_i32_108⟩
def k0_mult8 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c1_i32_132 : BitVec 32 := 1#32
  let v219 : BitVec 32 := Scalar.addi v218 c1_i32_132
  let c512_i32_133 : BitVec 32 := 512#32
  let v220 : BitVec 32 := Scalar.muli v219 c512_i32_133
  v220
def k0_off8 (i : grid0.Coords) (k0_t2 : Fin (k0_t2_loop i).trips) (c1_i32_132 : BitVec 32) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let v219 : BitVec 32 := Scalar.addi v218 c1_i32_132
  let c512_i32_133 : BitVec 32 := 512#32
  let v220 : BitVec 32 := Scalar.muli v219 c512_i32_133
  let v221 : BitVec 32 := v220
  let v222 : Index := Scalar.indexCast v221
  let c0_134 : Index := 0#32
  ![v222.toNat, 0]
def k0_mult9 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c512_i32_157 : BitVec 32 := 512#32
  let v247 : BitVec 32 := Scalar.muli v218 c512_i32_157
  v247
def k0_off9 (i : grid0.Coords) (k0_t2 : Fin (k0_t2_loop i).trips) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c512_i32_157 : BitVec 32 := 512#32
  let v247 : BitVec 32 := Scalar.muli v218 c512_i32_157
  let v248 : BitVec 32 := v247
  let v249 : Index := Scalar.indexCast v248
  let c0_158 : Index := 0#32
  ![v249.toNat, 0]
def k0_off10 (i : grid0.Coords) (k0_t2 : Fin (k0_t2_loop i).trips) : Fin 4 → Nat :=
  let c0_159 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let v252 : Index := Scalar.indexCast v218
  let c0_160 : Index := 0#32
  let c0_161 : Index := 0#32
  ![0, v252.toNat, 0, 0]
def k0_mult10 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c2_i32_194 : BitVec 32 := 2#32
  let v319 : BitVec 32 := Scalar.addi v218 c2_i32_194
  let c512_i32_195 : BitVec 32 := 512#32
  let v320 : BitVec 32 := Scalar.muli v319 c512_i32_195
  v320
def k0_mult11 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c1_i32_219 : BitVec 32 := 1#32
  let v347 : BitVec 32 := Scalar.addi v218 c1_i32_219
  let c512_i32_220 : BitVec 32 := 512#32
  let v348 : BitVec 32 := Scalar.muli v347 c512_i32_220
  v348
def k0_off11 (i : grid0.Coords) (k0_t2 : Fin (k0_t2_loop i).trips) : Fin 4 → Nat :=
  let c0_222 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c1_i32_219 : BitVec 32 := 1#32
  let v347 : BitVec 32 := Scalar.addi v218 c1_i32_219
  let v353 : Index := Scalar.indexCast v347
  let c0_223 : Index := 0#32
  let c0_224 : Index := 0#32
  ![0, v353.toNat, 0, 0]
def k0_cond2 (i : grid0.Coords) : BitVec 1 :=
  let c15_i32 : BitVec 32 := 15#32
  let arg1 : BitVec 32 := BitVec.ofNat 32 (i 1).val
  let v18 : BitVec 32 := Scalar.subi c15_i32 arg1
  let c0_i32_109 : BitVec 32 := 0#32
  let v182 : BitVec 1 := Scalar.cmpi .eq v18 c0_i32_109
  let c0_i32_117 : BitVec 32 := 0#32
  let c2_i32_116 : BitVec 32 := 2#32
  let c2_i32_110 : BitVec 32 := 2#32
  let c0_i32_111 : BitVec 32 := 0#32
  let v183 : BitVec 1 := Scalar.cmpi .eq c2_i32_110 c0_i32_111
  let c1_i32_112 : BitVec 32 := 1#32
  let v184 : BitVec 32 := Scalar.select v183 c1_i32_112 c2_i32_110
  let v185 : BitVec 32 := Scalar.remsi v18 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let v193 : BitVec 32 := Scalar.subi c2_i32_116 v192
  let v194 : BitVec 32 := Scalar.select v182 c0_i32_117 v193
  let c0_i32_118 : BitVec 32 := 0#32
  let v195 : BitVec 32 := Scalar.maxsi v194 c0_i32_118
  let c2_i32_119 : BitVec 32 := 2#32
  let v196 : BitVec 32 := Scalar.minsi v195 c2_i32_119
  let c0_i32_120 : BitVec 32 := 0#32
  let v197 : BitVec 1 := Scalar.cmpi .ne v196 c0_i32_120
  v197

def k0_cond3 (i : grid0.Coords) : BitVec 1 :=
  let c15_i32 : BitVec 32 := 15#32
  let arg1 : BitVec 32 := BitVec.ofNat 32 (i 1).val
  let v18 : BitVec 32 := Scalar.subi c15_i32 arg1
  let c0_i32_109 : BitVec 32 := 0#32
  let v182 : BitVec 1 := Scalar.cmpi .eq v18 c0_i32_109
  let c0_i32_117 : BitVec 32 := 0#32
  let c2_i32_116 : BitVec 32 := 2#32
  let c2_i32_110 : BitVec 32 := 2#32
  let c0_i32_111 : BitVec 32 := 0#32
  let v183 : BitVec 1 := Scalar.cmpi .eq c2_i32_110 c0_i32_111
  let c1_i32_112 : BitVec 32 := 1#32
  let v184 : BitVec 32 := Scalar.select v183 c1_i32_112 c2_i32_110
  let v185 : BitVec 32 := Scalar.remsi v18 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let v193 : BitVec 32 := Scalar.subi c2_i32_116 v192
  let v194 : BitVec 32 := Scalar.select v182 c0_i32_117 v193
  let c0_i32_118 : BitVec 32 := 0#32
  let v195 : BitVec 32 := Scalar.maxsi v194 c0_i32_118
  let c2_i32_119 : BitVec 32 := 2#32
  let v196 : BitVec 32 := Scalar.minsi v195 c2_i32_119
  let c1_i32_130 : BitVec 32 := 1#32
  let v216 : BitVec 32 := Scalar.subi v196 c1_i32_130
  let c0_i32_131 : BitVec 32 := 0#32
  let v217 : BitVec 1 := Scalar.cmpi .ne v216 c0_i32_131
  v217

def k0_mult12 : BitVec 32 :=
  let c7680_i32 : BitVec 32 := 7680#32
  c7680_i32
def k0_mult13 : BitVec 32 :=
  let c7168_i32 : BitVec 32 := 7168#32
  c7168_i32
def k0_mult14 : BitVec 32 :=
  let c7680_i32_192 : BitVec 32 := 7680#32
  c7680_i32_192
def k0_mult15 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
abbrev S8192x1024 : Shape := ⟨2, ![8192, 1024]⟩
abbrev S8192x16 : Shape := ⟨2, ![8192, 16]⟩
abbrev S8192x8192 : Shape := ⟨2, ![8192, 8192]⟩
abbrev S16x8192 : Shape := ⟨2, ![16, 8192]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192x8x2x64 : Shape := ⟨4, ![8192, 8, 2, 64]⟩
abbrev S8192x16x1 : Shape := ⟨3, ![8192, 16, 1]⟩
abbrev S8192x16x58 : Shape := ⟨3, ![8192, 16, 58]⟩
abbrev S8192x8x1x64 : Shape := ⟨4, ![8192, 8, 1, 64]⟩
abbrev S8192x8x64 : Shape := ⟨3, ![8192, 8, 64]⟩
abbrev S8192x8x128 : Shape := ⟨3, ![8192, 8, 128]⟩
abbrev S8x2x16x512 : Shape := ⟨4, ![8, 2, 16, 512]⟩
abbrev S8x16x2x512 : Shape := ⟨4, ![8, 16, 2, 512]⟩
abbrev S8x8192x2 : Shape := ⟨3, ![8, 8192, 2]⟩
abbrev S8192x128 : Shape := ⟨2, ![8192, 128]⟩
abbrev S512x128 : Shape := ⟨2, ![512, 128]⟩
abbrev S1x16x2x512 : Shape := ⟨4, ![1, 16, 2, 512]⟩
abbrev S1x512x2 : Shape := ⟨3, ![1, 512, 2]⟩
abbrev S2x2x512x512 : Shape := ⟨4, ![2, 2, 512, 512]⟩
abbrev S512x512 : Shape := ⟨2, ![512, 512]⟩
abbrev S512x1 : Shape := ⟨2, ![512, 1]⟩
abbrev S1x1x512x512 : Shape := ⟨4, ![1, 1, 512, 512]⟩
abbrev S1x1x2x512 : Shape := ⟨4, ![1, 1, 2, 512]⟩
abbrev S2x512 : Shape := ⟨2, ![2, 512]⟩
abbrev S1x512 : Shape := ⟨2, ![1, 512]⟩
abbrev S512 : Shape := ⟨1, ![512]⟩
abbrev S512x2 : Shape := ⟨2, ![512, 2]⟩

abbrev nBuf : Space → Nat
  | .hbm => 145
  | .vmem => 26
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x16, .f32⟩
  | 4 => ⟨S8192x1024, .f32⟩
  | 5 => ⟨S8192x8192, .i32⟩
  | 6 => ⟨S8192x8192, .i32⟩
  | 7 => ⟨S8192x8192, .i1⟩
  | 8 => ⟨S16x8192, .f32⟩
  | 9 => ⟨S8192x16x64, .f32⟩
  | 10 => ⟨S16x8192x64, .f32⟩
  | 11 => ⟨S8192x16x64, .f32⟩
  | 12 => ⟨S16x8192x64, .f32⟩
  | 13 => ⟨S16x8192x8192, .f32⟩
  | 14 => ⟨S_, .f32⟩
  | 15 => ⟨S16x8192x8192, .f32⟩
  | 16 => ⟨S16x8192x8192, .f32⟩
  | 17 => ⟨S16x8192x1, .f32⟩
  | 18 => ⟨S16x8192x8192, .f32⟩
  | 19 => ⟨S16x8192x8192, .f32⟩
  | 20 => ⟨S16x1x8192, .f32⟩
  | 21 => ⟨S16x8192x8192, .f32⟩
  | 22 => ⟨S16x8192x8192, .f32⟩
  | 23 => ⟨S_, .f32⟩
  | 24 => ⟨S_, .f32⟩
  | 25 => ⟨S16x8192x8192, .i1⟩
  | 26 => ⟨S16x8192x8192, .f32⟩
  | 27 => ⟨S16x8192x8192, .f32⟩
  | 28 => ⟨S_, .f32⟩
  | 29 => ⟨S16x8192, .f32⟩
  | 30 => ⟨S16x8192x1, .f32⟩
  | 31 => ⟨S16x8192x8192, .f32⟩
  | 32 => ⟨S16x8192x8192, .f32⟩
  | 33 => ⟨S16x8192x8192, .f32⟩
  | 34 => ⟨S_, .f32⟩
  | 35 => ⟨S16x8192, .f32⟩
  | 36 => ⟨S16x8192x1, .f32⟩
  | 37 => ⟨S16x8192x8192, .f32⟩
  | 38 => ⟨S16x8192x8192, .f32⟩
  | 39 => ⟨S8192x16x64, .f32⟩
  | 40 => ⟨S16x8192x64, .f32⟩
  | 41 => ⟨S16x8192x64, .f32⟩
  | 42 => ⟨S8192x16x64, .f32⟩
  | 43 => ⟨S16x8192x64, .f32⟩
  | 44 => ⟨S16x8192x1, .f32⟩
  | 45 => ⟨S16x8192x64, .f32⟩
  | 46 => ⟨S16x8192x64, .f32⟩
  | 47 => ⟨S16x8192x64, .f32⟩
  | 48 => ⟨S_, .f32⟩
  | 49 => ⟨S16x8192, .f32⟩
  | 50 => ⟨S8192x16x64, .f32⟩
  | 51 => ⟨S8192x1024, .f32⟩
  | 52 => ⟨S8192x1024, .bf16⟩
  | 53 => ⟨S_, .f32⟩
  | 54 => ⟨S_, .f32⟩
  | 55 => ⟨S8192x16, .f32⟩
  | 56 => ⟨S8192x16, .f32⟩
  | 57 => ⟨S8192x16, .bf16⟩
  | 58 => ⟨S8192x16, .f32⟩
  | 59 => ⟨S8192x16, .f32⟩
  | 60 => ⟨S8192x16, .bf16⟩
  | 61 => ⟨S8192x16, .f32⟩
  | 62 => ⟨S8192x16, .f32⟩
  | 63 => ⟨S8192x16, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x8x2x64, .f32⟩
  | 70 => ⟨S8192x16x1, .f32⟩
  | 71 => ⟨S8192x16x1, .f32⟩
  | 72 => ⟨S8192x16x1, .f32⟩
  | 73 => ⟨S_, .f32⟩
  | 74 => ⟨S8192x16, .f32⟩
  | 75 => ⟨S8192x16x1, .f32⟩
  | 76 => ⟨S_, .f32⟩
  | 77 => ⟨S8192x16, .f32⟩
  | 78 => ⟨S8192x16x1, .f32⟩
  | 79 => ⟨S_, .f32⟩
  | 80 => ⟨S8192x16, .f32⟩
  | 81 => ⟨S8192x16x1, .f32⟩
  | 82 => ⟨S_, .f32⟩
  | 83 => ⟨S8192x16x58, .f32⟩
  | 84 => ⟨S8192x16x64, .f32⟩
  | 85 => ⟨S8192x8x2x64, .f32⟩
  | 86 => ⟨S8192x8x1x64, .f32⟩
  | 87 => ⟨S8192x8x64, .f32⟩
  | 88 => ⟨S8192x8x1x64, .f32⟩
  | 89 => ⟨S8192x8x64, .f32⟩
  | 90 => ⟨S8192x8x128, .f32⟩
  | 91 => ⟨S8192x1024, .f32⟩
  | 92 => ⟨S8192x8x1x64, .f32⟩
  | 93 => ⟨S8192x8x64, .f32⟩
  | 94 => ⟨S8192x8x1x64, .f32⟩
  | 95 => ⟨S8192x8x64, .f32⟩
  | 96 => ⟨S8192x8x128, .f32⟩
  | 97 => ⟨S8192x1024, .f32⟩
  | 98 => ⟨S8192x1024, .bf16⟩
  | 99 => ⟨S8192x1024, .bf16⟩
  | 100 => ⟨S8192x16, .f32⟩
  | 101 => ⟨S8192x16, .f32⟩
  | 102 => ⟨S8192x16, .f32⟩
  | 103 => ⟨S8192x8x2x64, .f32⟩
  | 104 => ⟨S_, .f32⟩
  | 105 => ⟨S8192x16, .f32⟩
  | 106 => ⟨S8192x16x1, .f32⟩
  | 107 => ⟨S_, .f32⟩
  | 108 => ⟨S8192x16, .f32⟩
  | 109 => ⟨S8192x16x1, .f32⟩
  | 110 => ⟨S_, .f32⟩
  | 111 => ⟨S8192x16, .f32⟩
  | 112 => ⟨S8192x16x1, .f32⟩
  | 113 => ⟨S8192x16x1, .f32⟩
  | 114 => ⟨S8192x16x1, .f32⟩
  | 115 => ⟨S8192x16x1, .f32⟩
  | 116 => ⟨S_, .f32⟩
  | 117 => ⟨S8192x16x58, .f32⟩
  | 118 => ⟨S8192x16x64, .f32⟩
  | 119 => ⟨S8192x8x2x64, .f32⟩
  | 120 => ⟨S8192x8x1x64, .f32⟩
  | 121 => ⟨S8192x8x64, .f32⟩
  | 122 => ⟨S8192x8x1x64, .f32⟩
  | 123 => ⟨S8192x8x64, .f32⟩
  | 124 => ⟨S8192x8x128, .f32⟩
  | 125 => ⟨S8192x1024, .f32⟩
  | 126 => ⟨S8192x8x1x64, .f32⟩
  | 127 => ⟨S8192x8x64, .f32⟩
  | _ => ⟨S8192x1024, .f32⟩

abbrev hbmTy0_1 (i : Nat) : BufTy := match i % 128 with
  | 0 => ⟨S8192x8x1x64, .f32⟩
  | 1 => ⟨S8192x8x64, .f32⟩
  | 2 => ⟨S8192x8x128, .f32⟩
  | 3 => ⟨S8192x1024, .f32⟩
  | 4 => ⟨S8192x1024, .bf16⟩
  | 5 => ⟨S8192x1024, .bf16⟩
  | 6 => ⟨S8192x1024, .bf16⟩
  | 7 => ⟨S16x8192, .f32⟩
  | 8 => ⟨S16x8192, .f32⟩
  | 9 => ⟨S8x2x16x512, .f32⟩
  | 10 => ⟨S8x16x2x512, .f32⟩
  | 11 => ⟨S8x2x16x512, .f32⟩
  | 12 => ⟨S8x16x2x512, .f32⟩
  | 13 => ⟨S8192x1024, .f32⟩
  | 14 => ⟨S8192x1024, .f32⟩
  | 15 => ⟨S8192x1024, .f32⟩
  | 16 => ⟨S8x8192x2, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x16x2x512, .f32⟩
  | .local _ .vmem, ⟨13, _⟩ => ⟨S1x16x2x512, .f32⟩
  | .local _ .vmem, ⟨14, _⟩ => ⟨S1x16x2x512, .f32⟩
  | .local _ .vmem, ⟨15, _⟩ => ⟨S1x16x2x512, .f32⟩
  | .local _ .vmem, ⟨16, _⟩ => ⟨S8192x128, .f32⟩
  | .local _ .vmem, ⟨17, _⟩ => ⟨S8192x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x512x2, .f32⟩
  | .local _ .vmem, ⟨23, _⟩ => ⟨S1x512x2, .f32⟩
  | .local _ .vmem, ⟨24, _⟩ => ⟨S2x2x512x512, .f32⟩
  | .local _ .vmem, ⟨25, _⟩ => ⟨S2x2x512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_cst_12 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_13 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118_0 : Ref sig .tc := ⟨.hbm, 141, rfl⟩
abbrev main_v118_1 : Ref sig .tc := ⟨.hbm, 142, rfl⟩
abbrev main_v118_2 : Ref sig .tc := ⟨.hbm, 143, rfl⟩
abbrev main_v118_3 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v25 : BitVec 32 := Scalar.muli arg1 c512_i32
  v25
def k0_off1 (i : grid0.Coords) : Fin 2 → Nat :=
  let arg1 : BitVec 32 := BitVec.ofNat 32 (i 1).val
  let c512_i32 : BitVec 32 := 512#32
  let v25 : BitVec 32 := Scalar.muli arg1 c512_i32
  let v26 : BitVec 32 := v25
  let v27 : Index := Scalar.indexCast v26
  let c0_12 : Index := 0#32
  ![v27.toNat, 0]
def k0_mult2 (i : grid0.Coords) : BitVec 32 :=
  let arg1 : BitVec 32 := BitVec.ofNat 32 (i 1).val
  let c1_i32 : BitVec 32 := 1#32
  let v52 : BitVec 32 := Scalar.addi arg1 c1_i32
  let c15_i32_34 : BitVec 32 := 15#32
  let v53 : BitVec 32 := Scalar.minsi v52 c15_i32_34
  let c512_i32_35 : BitVec 32 := 512#32
  let v54 : BitVec 32 := Scalar.muli v53 c512_i32_35
  v54
def k0_off2 (i : grid0.Coords) : Fin 2 → Nat :=
  let arg1 : BitVec 32 := BitVec.ofNat 32 (i 1).val
  let c1_i32 : BitVec 32 := 1#32
  let v52 : BitVec 32 := Scalar.addi arg1 c1_i32
  let c15_i32_34 : BitVec 32 := 15#32
  let v53 : BitVec 32 := Scalar.minsi v52 c15_i32_34
  let c512_i32_35 : BitVec 32 := 512#32
  let v54 : BitVec 32 := Scalar.muli v53 c512_i32_35
  let v55 : BitVec 32 := v54
  let v56 : Index := Scalar.indexCast v55
  let c0_36 : Index := 0#32
  ![v56.toNat, 0]
def k0_mult3 (i : grid0.Coords) : BitVec 32 :=
  let arg1 : BitVec 32 := BitVec.ofNat 32 (i 1).val
  let c512_i32_59 : BitVec 32 := 512#32
  let v81 : BitVec 32 := Scalar.muli arg1 c512_i32_59
  v81
def k0_off3 (i : grid0.Coords) : Fin 4 → Nat :=
  let c0_61 : Index := 0#32
  let arg1 : BitVec 32 := BitVec.ofNat 32 (i 1).val
  let v86 : Index := Scalar.indexCast arg1
  let c0_62 : Index := 0#32
  let c0_63 : Index := 0#32
  ![0, v86.toNat, 0, 0]
@[reducible] def k0_t1_loop (i : grid0.Coords) : Scf.Loop 32 :=
  let c0_i32_105 : BitVec 32 := 0#32
  let c15_i32 : BitVec 32 := 15#32
  let arg1 : BitVec 32 := BitVec.ofNat 32 (i 1).val
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_107 : BitVec 32 := 1#32
  ⟨c0_i32_105, v179, c1_i32_107⟩
def k0_mult4 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c1_i32_132 : BitVec 32 := 1#32
  let v219 : BitVec 32 := Scalar.addi v218 c1_i32_132
  let c512_i32_133 : BitVec 32 := 512#32
  let v220 : BitVec 32 := Scalar.muli v219 c512_i32_133
  v220
def k0_off4 (i : grid0.Coords) (k0_t1 : Fin (k0_t1_loop i).trips) (c1_i32_132 : BitVec 32) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let v219 : BitVec 32 := Scalar.addi v218 c1_i32_132
  let c512_i32_133 : BitVec 32 := 512#32
  let v220 : BitVec 32 := Scalar.muli v219 c512_i32_133
  let v221 : BitVec 32 := v220
  let v222 : Index := Scalar.indexCast v221
  let c0_134 : Index := 0#32
  ![v222.toNat, 0]
def k0_mult5 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c512_i32_157 : BitVec 32 := 512#32
  let v247 : BitVec 32 := Scalar.muli v218 c512_i32_157
  v247
def k0_off5 (i : grid0.Coords) (k0_t1 : Fin (k0_t1_loop i).trips) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c512_i32_157 : BitVec 32 := 512#32
  let v247 : BitVec 32 := Scalar.muli v218 c512_i32_157
  let v248 : BitVec 32 := v247
  let v249 : Index := Scalar.indexCast v248
  let c0_158 : Index := 0#32
  ![v249.toNat, 0]
def k0_off6 (i : grid0.Coords) (k0_t1 : Fin (k0_t1_loop i).trips) : Fin 4 → Nat :=
  let c0_159 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let v252 : Index := Scalar.indexCast v218
  let c0_160 : Index := 0#32
  let c0_161 : Index := 0#32
  ![0, v252.toNat, 0, 0]
def k0_mult6 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c2_i32_194 : BitVec 32 := 2#32
  let v319 : BitVec 32 := Scalar.addi v218 c2_i32_194
  let c512_i32_195 : BitVec 32 := 512#32
  let v320 : BitVec 32 := Scalar.muli v319 c512_i32_195
  v320
def k0_mult7 (i : grid0.Coords) (k0_t1 : Fin (k0_t1_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c1_i32_219 : BitVec 32 := 1#32
  let v347 : BitVec 32 := Scalar.addi v218 c1_i32_219
  let c512_i32_220 : BitVec 32 := 512#32
  let v348 : BitVec 32 := Scalar.muli v347 c512_i32_220
  v348
def k0_off7 (i : grid0.Coords) (k0_t1 : Fin (k0_t1_loop i).trips) : Fin 4 → Nat :=
  let c0_222 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c1_i32_107 : BitVec 32 := 1#32
  let arg16 : BitVec 32 := Scf.iv c0_i32_105 c1_i32_107 k0_t1
  let v217 : BitVec 32 := Scalar.muli c2_i32_131 arg16
  let v218 : BitVec 32 := Scalar.addi v216 v217
  let c1_i32_219 : BitVec 32 := 1#32
  let v347 : BitVec 32 := Scalar.addi v218 c1_i32_219
  let v353 : Index := Scalar.indexCast v347
  let c0_223 : Index := 0#32
  let c0_224 : Index := 0#32
  ![0, v353.toNat, 0, 0]
@[reducible] def k0_t2_loop (i : grid0.Coords) : Scf.Loop 32 :=
  let c0_i32_105 : BitVec 32 := 0#32
  let c15_i32 : BitVec 32 := 15#32
  let arg1 : BitVec 32 := BitVec.ofNat 32 (i 1).val
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let v176 : BitVec 32 := Scalar.addi c0_i32_105 v175
  let c1_i32_108 : BitVec 32 := 1#32
  ⟨v179, v176, c1_i32_108⟩
def k0_mult8 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c1_i32_132 : BitVec 32 := 1#32
  let v219 : BitVec 32 := Scalar.addi v218 c1_i32_132
  let c512_i32_133 : BitVec 32 := 512#32
  let v220 : BitVec 32 := Scalar.muli v219 c512_i32_133
  v220
def k0_off8 (i : grid0.Coords) (k0_t2 : Fin (k0_t2_loop i).trips) (c1_i32_132 : BitVec 32) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let v219 : BitVec 32 := Scalar.addi v218 c1_i32_132
  let c512_i32_133 : BitVec 32 := 512#32
  let v220 : BitVec 32 := Scalar.muli v219 c512_i32_133
  let v221 : BitVec 32 := v220
  let v222 : Index := Scalar.indexCast v221
  let c0_134 : Index := 0#32
  ![v222.toNat, 0]
def k0_mult9 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c512_i32_157 : BitVec 32 := 512#32
  let v247 : BitVec 32 := Scalar.muli v218 c512_i32_157
  v247
def k0_off9 (i : grid0.Coords) (k0_t2 : Fin (k0_t2_loop i).trips) : Fin 2 → Nat :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c512_i32_157 : BitVec 32 := 512#32
  let v247 : BitVec 32 := Scalar.muli v218 c512_i32_157
  let v248 : BitVec 32 := v247
  let v249 : Index := Scalar.indexCast v248
  let c0_158 : Index := 0#32
  ![v249.toNat, 0]
def k0_off10 (i : grid0.Coords) (k0_t2 : Fin (k0_t2_loop i).trips) : Fin 4 → Nat :=
  let c0_159 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let v252 : Index := Scalar.indexCast v218
  let c0_160 : Index := 0#32
  let c0_161 : Index := 0#32
  ![0, v252.toNat, 0, 0]
def k0_mult10 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c2_i32_194 : BitVec 32 := 2#32
  let v319 : BitVec 32 := Scalar.addi v218 c2_i32_194
  let c512_i32_195 : BitVec 32 := 512#32
  let v320 : BitVec 32 := Scalar.muli v319 c512_i32_195
  v320
def k0_mult11 (i : grid0.Coords) (k0_t2 : Fin (k0_t2_loop i).trips) : BitVec 32 :=
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c1_i32_219 : BitVec 32 := 1#32
  let v347 : BitVec 32 := Scalar.addi v218 c1_i32_219
  let c512_i32_220 : BitVec 32 := 512#32
  let v348 : BitVec 32 := Scalar.muli v347 c512_i32_220
  v348
def k0_off11 (i : grid0.Coords) (k0_t2 : Fin (k0_t2_loop i).trips) : Fin 4 → Nat :=
  let c0_222 : Index := 0#32
  let arg1 : BitVec 32 := BitVec.ofNat 32 (i 1).val
  let c1_i32_130 : BitVec 32 := 1#32
  let v216 : BitVec 32 := Scalar.addi arg1 c1_i32_130
  let c2_i32_131 : BitVec 32 := 2#32
  let c0_i32_105 : BitVec 32 := 0#32
  let c15_i32 : BitVec 32 := 15#32
  let v18 : BitVec 32 := Scalar.subi c15_i32 arg1
  let c1_i32_98 : BitVec 32 := 1#32
  let v157 : BitVec 32 := Scalar.subi v18 c1_i32_98
  let c0_i32_99 : BitVec 32 := 0#32
  let v159 : BitVec 1 := Scalar.cmpi .sgt v157 c0_i32_99
  let v160 : BitVec 32 := Scalar.extui v159
  let c0_i32_100 : BitVec 32 := 0#32
  let v161 : BitVec 1 := Scalar.cmpi .slt v157 c0_i32_100
  let v162 : BitVec 32 := Scalar.extui v161
  let v163 : BitVec 32 := Scalar.subi v160 v162
  let c2_i32 : BitVec 32 := 2#32
  let c0_i32_101 : BitVec 32 := 0#32
  let v164 : BitVec 1 := Scalar.cmpi .sgt c2_i32 c0_i32_101
  let v165 : BitVec 32 := Scalar.extui v164
  let c0_i32_102 : BitVec 32 := 0#32
  let v166 : BitVec 1 := Scalar.cmpi .slt c2_i32 c0_i32_102
  let v167 : BitVec 32 := Scalar.extui v166
  let v168 : BitVec 32 := Scalar.subi v165 v167
  let v169 : BitVec 1 := Scalar.cmpi .ne v163 v168
  let v170 : BitVec 32 := Scalar.remsi v157 c2_i32
  let c0_i32_103 : BitVec 32 := 0#32
  let v171 : BitVec 1 := Scalar.cmpi .ne v170 c0_i32_103
  let v172 : BitVec 1 := Scalar.andi v169 v171
  let v158 : BitVec 32 := Scalar.divsi v157 c2_i32
  let c1_i32_104 : BitVec 32 := 1#32
  let v173 : BitVec 32 := Scalar.subi v158 c1_i32_104
  let v174 : BitVec 32 := Scalar.select v172 v173 v158
  let v175 : BitVec 32 := Scalar.subi v174 c0_i32_105
  let c1_i32_106 : BitVec 32 := 1#32
  let v177 : BitVec 32 := Scalar.divsi v175 c1_i32_106
  let v178 : BitVec 32 := Scalar.muli v177 c1_i32_106
  let v179 : BitVec 32 := Scalar.addi c0_i32_105 v178
  let c1_i32_108 : BitVec 32 := 1#32
  let arg16 : BitVec 32 := Scf.iv v179 c1_i32_108 k0_t2
  let v217 : BitVec 32 := Scalar.muli c2_i32_131 arg16
  let v218 : BitVec 32 := Scalar.addi v216 v217
  let c1_i32_219 : BitVec 32 := 1#32
  let v347 : BitVec 32 := Scalar.addi v218 c1_i32_219
  let v353 : Index := Scalar.indexCast v347
  let c0_223 : Index := 0#32
  let c0_224 : Index := 0#32
  ![0, v353.toNat, 0, 0]
def k0_cond2 (i : grid0.Coords) : BitVec 1 :=
  let c15_i32 : BitVec 32 := 15#32
  let arg1 : BitVec 32 := BitVec.ofNat 32 (i 1).val
  let v18 : BitVec 32 := Scalar.subi c15_i32 arg1
  let c0_i32_109 : BitVec 32 := 0#32
  let v182 : BitVec 1 := Scalar.cmpi .eq v18 c0_i32_109
  let c0_i32_117 : BitVec 32 := 0#32
  let c2_i32_116 : BitVec 32 := 2#32
  let c2_i32_110 : BitVec 32 := 2#32
  let c0_i32_111 : BitVec 32 := 0#32
  let v183 : BitVec 1 := Scalar.cmpi .eq c2_i32_110 c0_i32_111
  let c1_i32_112 : BitVec 32 := 1#32
  let v184 : BitVec 32 := Scalar.select v183 c1_i32_112 c2_i32_110
  let v185 : BitVec 32 := Scalar.remsi v18 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let v193 : BitVec 32 := Scalar.subi c2_i32_116 v192
  let v194 : BitVec 32 := Scalar.select v182 c0_i32_117 v193
  let c0_i32_118 : BitVec 32 := 0#32
  let v195 : BitVec 32 := Scalar.maxsi v194 c0_i32_118
  let c2_i32_119 : BitVec 32 := 2#32
  let v196 : BitVec 32 := Scalar.minsi v195 c2_i32_119
  let c0_i32_120 : BitVec 32 := 0#32
  let v197 : BitVec 1 := Scalar.cmpi .ne v196 c0_i32_120
  v197

def k0_cond3 (i : grid0.Coords) : BitVec 1 :=
  let c15_i32 : BitVec 32 := 15#32
  let arg1 : BitVec 32 := BitVec.ofNat 32 (i 1).val
  let v18 : BitVec 32 := Scalar.subi c15_i32 arg1
  let c0_i32_109 : BitVec 32 := 0#32
  let v182 : BitVec 1 := Scalar.cmpi .eq v18 c0_i32_109
  let c0_i32_117 : BitVec 32 := 0#32
  let c2_i32_116 : BitVec 32 := 2#32
  let c2_i32_110 : BitVec 32 := 2#32
  let c0_i32_111 : BitVec 32 := 0#32
  let v183 : BitVec 1 := Scalar.cmpi .eq c2_i32_110 c0_i32_111
  let c1_i32_112 : BitVec 32 := 1#32
  let v184 : BitVec 32 := Scalar.select v183 c1_i32_112 c2_i32_110
  let v185 : BitVec 32 := Scalar.remsi v18 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let v193 : BitVec 32 := Scalar.subi c2_i32_116 v192
  let v194 : BitVec 32 := Scalar.select v182 c0_i32_117 v193
  let c0_i32_118 : BitVec 32 := 0#32
  let v195 : BitVec 32 := Scalar.maxsi v194 c0_i32_118
  let c2_i32_119 : BitVec 32 := 2#32
  let v196 : BitVec 32 := Scalar.minsi v195 c2_i32_119
  let c1_i32_130 : BitVec 32 := 1#32
  let v216 : BitVec 32 := Scalar.subi v196 c1_i32_130
  let c0_i32_131 : BitVec 32 := 0#32
  let v217 : BitVec 1 := Scalar.cmpi .ne v216 c0_i32_131
  v217

def k0_mult12 : BitVec 32 :=
  let c7680_i32 : BitVec 32 := 7680#32
  c7680_i32
def k0_mult13 : BitVec 32 :=
  let c7168_i32 : BitVec 32 := 7168#32
  c7168_i32
def k0_mult14 : BitVec 32 :=
  let c7680_i32_192 : BitVec 32 := 7680#32
  c7680_i32_192
def k0_mult15 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8192x1024 : Shape := ⟨2, ![8192, 1024]⟩
abbrev S8192x16 : Shape := ⟨2, ![8192, 16]⟩
abbrev S8192x16x64 : Shape := ⟨3, ![8192, 16, 64]⟩
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S8192x8x2 : Shape := ⟨3, ![8192, 8, 2]⟩
abbrev S8x8192x2 : Shape := ⟨3, ![8, 8192, 2]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S16x8192x64, .f32⟩
  | .hbm, ⟨7, _⟩ => ⟨S8192x16x64, .f32⟩
  | .hbm, ⟨8, _⟩ => ⟨S16x8192x64, .f32⟩
  | .hbm, ⟨9, _⟩ => ⟨S8192x16x64, .f32⟩
  | .hbm, ⟨10, _⟩ => ⟨S16x8192x64, .f32⟩
  | .hbm, ⟨11, _⟩ => ⟨S16x8192, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S16x8192x1, .f32⟩
  | .hbm, ⟨17, _⟩ => ⟨S16x8192x8192, .f32⟩
  | .hbm, ⟨18, _⟩ => ⟨S16x8192x8192, .f32⟩
  | .hbm, ⟨19, _⟩ => ⟨S16x1x8192, .f32⟩
  | .hbm, ⟨20, _⟩ => ⟨S16x8192x8192, .f32⟩
  | .hbm, ⟨21, _⟩ => ⟨S16x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S16x8192x8192, .i1⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .i1⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S16x8192, .i1⟩
  | .hbm, ⟨52, _⟩ => ⟨S_, .f32⟩
  | .hbm, ⟨53, _⟩ => ⟨S16x8192, .f32⟩
  | .hbm, ⟨54, _⟩ => ⟨S_, .f32⟩
  | .hbm, ⟨55, _⟩ => ⟨S16x8192, .f32⟩
  | .hbm, ⟨56, _⟩ => ⟨S_, .f32⟩
  | .hbm, ⟨57, _⟩ => ⟨S16x8192, .f32⟩
  | .hbm, ⟨58, _⟩ => ⟨S16x8192, .f32⟩
  | .hbm, ⟨59, _⟩ => ⟨S16x8192, .f32⟩
  | .hbm, ⟨60, _⟩ => ⟨S16x8192x1, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S16x8192, .f32⟩
  | .hbm, ⟨66, _⟩ => ⟨S16x8192x1, .f32⟩
  | .hbm, ⟨67, _⟩ => ⟨S16x8192x8192, .f32⟩
  | .hbm, ⟨68, _⟩ => ⟨S16x8192x8192, .f32⟩
  | .hbm, ⟨69, _⟩ => ⟨S16x8192x1, .f32⟩
  | .hbm, ⟨70, _⟩ => ⟨S_, .f32⟩
  | .hbm, ⟨71, _⟩ => ⟨S16x8192x1, .f32⟩
  | .hbm, ⟨72, _⟩ => ⟨S16x8192x1, .f32⟩
  | .hbm, ⟨73, _⟩ => ⟨S16x8192x64, .f32⟩
  | .hbm, ⟨74, _⟩ => ⟨S8192x16x64, .f32⟩
  | .hbm, ⟨75, _⟩ => ⟨S8192x1024, .f32⟩
  | .hbm, ⟨76, _⟩ => ⟨S8192x16x64, .f32⟩
  | .hbm, ⟨77, _⟩ => ⟨S16x8192x64, .f32⟩
  | .hbm, ⟨78, _⟩ => ⟨S16x64x8192, .f32⟩
  | .hbm, ⟨79, _⟩ => ⟨S16x8192x64, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S_, .f32⟩
  | .hbm, ⟨85, _⟩ => ⟨S16x8192, .f32⟩
  | .hbm, ⟨86, _⟩ => ⟨S16x8192x1, .f32⟩
  | .hbm, ⟨87, _⟩ => ⟨S16x8192x1, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S16x8192, .f32⟩
  | .hbm, ⟨92, _⟩ => ⟨S16x8192x8192, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192x8192, .f32⟩
  | .hbm, ⟨97, _⟩ => ⟨S16x8192x8192, .f32⟩
  | .hbm, ⟨98, _⟩ => ⟨S16x8192x8192, .f32⟩
  | .hbm, ⟨99, _⟩ => ⟨S_, .f32⟩
  | .hbm, ⟨100, _⟩ => ⟨S16x8192, .f32⟩
  | .hbm, ⟨101, _⟩ => ⟨S16x1x8192, .f32⟩
  | .hbm, ⟨102, _⟩ => ⟨S_, .f32⟩
  | .hbm, ⟨103, _⟩ => ⟨S16x8192, .f32⟩
  | .hbm, ⟨104, _⟩ => ⟨S_, .f32⟩
  | .hbm, ⟨105, _⟩ => ⟨S16x8192, .f32⟩
  | .hbm, ⟨106, _⟩ => ⟨S16x8192x1, .f32⟩
  | .hbm, ⟨107, _⟩ => ⟨S_, .f32⟩
  | .hbm, ⟨108, _⟩ => ⟨S16x8192, .f32⟩
  | .hbm, ⟨109, _⟩ => ⟨S16x8192, .f32⟩
  | .hbm, ⟨110, _⟩ => ⟨S_, .f32⟩
  | .hbm, ⟨111, _⟩ => ⟨S16x8192x8192, .f32⟩
  | .hbm, ⟨112, _⟩ => ⟨S16x8192x8192, .f32⟩
  | .hbm, ⟨113, _⟩ => ⟨S16x8192x64, .f32⟩
  | .hbm, ⟨114, _⟩ => ⟨S16x8192x64, .f32⟩
  | .hbm, ⟨115, _⟩ => ⟨S8192x16, .f32⟩
  | .hbm, ⟨116, _⟩ => ⟨S8192x16x64, .f32⟩
  | .hbm, ⟨117, _⟩ => ⟨S8192x1024, .f32⟩
  | .hbm, ⟨118, _⟩ => ⟨S8192x16x64, .f32⟩
  | .hbm, ⟨119, _⟩ => ⟨S8192x1024, .f32⟩
  | .hbm, ⟨120, _⟩ => ⟨S8192x16x64, .f32⟩
  | .hbm, ⟨121, _⟩ => ⟨S8192x1024, .f32⟩
  | .hbm, ⟨122, _⟩ => ⟨S8192x8x2, .f32⟩
  | .hbm, ⟨123, _⟩ => ⟨S8x8192x2, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== UpGrad.lean ====
abbrev S8192x1024 : Shape := ⟨2, ![8192, 1024]⟩
abbrev S2x8192x2816 : Shape := ⟨3, ![2, 8192, 2816]⟩
abbrev S1024x5632 : Shape := ⟨2, ![1024, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .f32⟩
  | .hbm, ⟨2, _⟩ => ⟨S8192x1024, .bf16⟩
  | .hbm, ⟨3, _⟩ => ⟨S2x8192x2816, .bf16⟩
  | .hbm, ⟨4, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradIdeal.lean ====
abbrev S8192x1024 : Shape := ⟨2, ![8192, 1024]⟩
abbrev S2x8192x2816 : Shape := ⟨3, ![2, 8192, 2816]⟩
abbrev S1024x5632 : Shape := ⟨2, ![1024, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .f32⟩
  | .hbm, ⟨2, _⟩ => ⟨S8192x1024, .bf16⟩
  | .hbm, ⟨3, _⟩ => ⟨S2x8192x2816, .bf16⟩
  | .hbm, ⟨4, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S8192x1024 : Shape := ⟨2, ![8192, 1024]⟩
abbrev S2x8192x2816 : Shape := ⟨3, ![2, 8192, 2816]⟩
abbrev S8192x2x2816 : Shape := ⟨3, ![8192, 2, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .f32⟩
  | .hbm, ⟨2, _⟩ => ⟨S8192x2x2816, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownGrad.lean ====
abbrev S8192x2816 : Shape := ⟨2, ![8192, 2816]⟩
abbrev S8192x1024 : Shape := ⟨2, ![8192, 1024]⟩
abbrev S1x8192x1024 : Shape := ⟨3, ![1, 8192, 1024]⟩
abbrev S2816x1024 : Shape := ⟨2, ![2816, 1024]⟩
abbrev S1024x1408 : Shape := ⟨2, ![1024, 1408]⟩
abbrev S1x1024x1024 : Shape := ⟨3, ![1, 1024, 1024]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S1x8192x1024, .f32⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1024, .f32⟩
  | .local _ .vmem, ⟨3, _⟩ => ⟨S1x1024x1024, .f32⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradIdeal.lean ====
abbrev S8192x2816 : Shape := ⟨2, ![8192, 2816]⟩
abbrev S8192x1024 : Shape := ⟨2, ![8192, 1024]⟩
abbrev S1x8192x1024 : Shape := ⟨3, ![1, 8192, 1024]⟩
abbrev S2816x1024 : Shape := ⟨2, ![2816, 1024]⟩
abbrev S1024x1408 : Shape := ⟨2, ![1024, 1408]⟩
abbrev S1x1024x1024 : Shape := ⟨3, ![1, 1024, 1024]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S1x8192x1024, .f32⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1024, .f32⟩
  | .local _ .vmem, ⟨3, _⟩ => ⟨S1x1024x1024, .f32⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InGrad.lean ====
abbrev S8192x1024 : Shape := ⟨2, ![8192, 1024]⟩
abbrev S3x8192x1024 : Shape := ⟨3, ![3, 8192, 1024]⟩
abbrev S1024x3072 : Shape := ⟨2, ![1024, 3072]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S3x8192x1024, .f32⟩
  | .hbm, ⟨2, _⟩ => ⟨S8192x1024, .bf16⟩
  | .hbm, ⟨3, _⟩ => ⟨S3x8192x1024, .bf16⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradIdeal.lean ====
abbrev S8192x1024 : Shape := ⟨2, ![8192, 1024]⟩
abbrev S3x8192x1024 : Shape := ⟨3, ![3, 8192, 1024]⟩
abbrev S1024x3072 : Shape := ⟨2, ![1024, 3072]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S3x8192x1024, .f32⟩
  | .hbm, ⟨2, _⟩ => ⟨S8192x1024, .bf16⟩
  | .hbm, ⟨3, _⟩ => ⟨S3x8192x1024, .bf16⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S8192x1024 : Shape := ⟨2, ![8192, 1024]⟩
abbrev S3x8192x1024 : Shape := ⟨3, ![3, 8192, 1024]⟩
abbrev S8192x3x1024 : Shape := ⟨3, ![8192, 3, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3x8192x1024, .f32⟩
  | .hbm, ⟨2, _⟩ => ⟨S8192x3x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S8192x1024 : Shape := ⟨2, ![8192, 1024]⟩
abbrev S1x8192x1024 : Shape := ⟨3, ![1, 8192, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x8192x1024, .f32⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradIdeal.lean ====
abbrev S8192x1024 : Shape := ⟨2, ![8192, 1024]⟩
abbrev S1x8192x1024 : Shape := ⟨3, ![1, 8192, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x8192x1024, .f32⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QgGrad.lean ====
abbrev S8192x1024 : Shape := ⟨2, ![8192, 1024]⟩
abbrev S2x8192x1024 : Shape := ⟨3, ![2, 8192, 1024]⟩
abbrev S1024x2048 : Shape := ⟨2, ![1024, 2048]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x8192x1024, .f32⟩
  | .hbm, ⟨2, _⟩ => ⟨S8192x1024, .bf16⟩
  | .hbm, ⟨3, _⟩ => ⟨S2x8192x1024, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QgGradIdeal.lean ====
abbrev S8192x1024 : Shape := ⟨2, ![8192, 1024]⟩
abbrev S2x8192x1024 : Shape := ⟨3, ![2, 8192, 1024]⟩
abbrev S1024x2048 : Shape := ⟨2, ![1024, 2048]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x8192x1024, .f32⟩
  | .hbm, ⟨2, _⟩ => ⟨S8192x1024, .bf16⟩
  | .hbm, ⟨3, _⟩ => ⟨S2x8192x1024, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QgGradRefIdeal.lean ====
abbrev S8192x1024 : Shape := ⟨2, ![8192, 1024]⟩
abbrev S2x8192x1024 : Shape := ⟨3, ![2, 8192, 1024]⟩
abbrev S8192x2x1024 : Shape := ⟨3, ![8192, 2, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x1024, .f32⟩
  | .hbm, ⟨2, _⟩ => ⟨S8192x2x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvfGrad.lean ====
abbrev S8192x1024 : Shape := ⟨2, ![8192, 1024]⟩
abbrev S1x8192x2176 : Shape := ⟨3, ![1, 8192, 2176]⟩
abbrev S1024x2176 : Shape := ⟨2, ![1024, 2176]⟩
abbrev S1024x1024 : Shape := ⟨2, ![1024, 1024]⟩
abbrev S1x1024x2176 : Shape := ⟨3, ![1, 1024, 2176]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x8192x2176, .f32⟩
  | .hbm, ⟨2, _⟩ => ⟨S8192x1024, .bf16⟩
  | .hbm, ⟨3, _⟩ => ⟨S1x8192x2176, .bf16⟩
  | .hbm, ⟨4, _⟩ => ⟨S1024x2176, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2176, .bf16⟩
  | .local _ .vmem, ⟨3, _⟩ => ⟨S1x1024x2176, .bf16⟩
  | .local _ .vmem, ⟨4, _⟩ => ⟨S1024x2176, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvfGradIdeal.lean ====
abbrev S8192x1024 : Shape := ⟨2, ![8192, 1024]⟩
abbrev S1x8192x2176 : Shape := ⟨3, ![1, 8192, 2176]⟩
abbrev S1024x2176 : Shape := ⟨2, ![1024, 2176]⟩
abbrev S1024x1024 : Shape := ⟨2, ![1024, 1024]⟩
abbrev S1x1024x2176 : Shape := ⟨3, ![1, 1024, 2176]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x8192x2176, .f32⟩
  | .hbm, ⟨2, _⟩ => ⟨S8192x1024, .bf16⟩
  | .hbm, ⟨3, _⟩ => ⟨S1x8192x2176, .bf16⟩
  | .hbm, ⟨4, _⟩ => ⟨S1024x2176, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2176, .bf16⟩
  | .local _ .vmem, ⟨3, _⟩ => ⟨S1x1024x2176, .bf16⟩
  | .local _ .vmem, ⟨4, _⟩ => ⟨S1024x2176, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvfGradRefIdeal.lean ====
abbrev S8192x1024 : Shape := ⟨2, ![8192, 1024]⟩
abbrev S1x8192x2176 : Shape := ⟨3, ![1, 8192, 2176]⟩
abbrev S8192x1x2176 : Shape := ⟨3, ![8192, 1, 2176]⟩
abbrev S8192x2176 : Shape := ⟨2, ![8192, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x8192x2176, .f32⟩
  | .hbm, ⟨2, _⟩ => ⟨S8192x1x2176, .f32⟩
  | .hbm, ⟨3, _⟩ => ⟨S8192x2176, .f32⟩
  | .hbm, ⟨4, _⟩ => ⟨S_, .f32⟩
  | .hbm, ⟨5, _⟩ => ⟨S1024x2176, .f32⟩
  | .hbm, ⟨6, _⟩ => ⟨S8192x2176, .f32⟩
  | .hbm, ⟨7, _⟩ => ⟨S2176x1024, .f32⟩
  | .hbm, ⟨8, _⟩ => ⟨S1024x2176, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownIdeal.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S6x256 : Shape := ⟨2, ![6, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S_, .f32⟩
  | .hbm, ⟨5, _⟩ => ⟨S6x256, .f32⟩
  | .hbm, ⟨6, _⟩ => ⟨S6x256, .f32⟩
  | .hbm, ⟨7, _⟩ => ⟨S_, .f32⟩
  | .hbm, ⟨8, _⟩ => ⟨S6x256, .f32⟩
  | .hbm, ⟨9, _⟩ => ⟨S6x256, .f32⟩
  | .hbm, ⟨10, _⟩ => ⟨S6x256, .f32⟩
  | .hbm, ⟨11, _⟩ => ⟨S_, .f32⟩
  | .hbm, ⟨12, _⟩ => ⟨S6x256, .f32⟩
  | .hbm, ⟨13, _⟩ => ⟨S6x256, .f32⟩
  | .hbm, ⟨14, _⟩ => ⟨S6x256, .f32⟩
  | .hbm, ⟨15, _⟩ => ⟨S_, .f32⟩
  | .hbm, ⟨16, _⟩ => ⟨S6x256, .f32⟩
  | .hbm, ⟨17, _⟩ => ⟨S6x256, .f32⟩
  | .hbm, ⟨18, _⟩ => ⟨S6x256, .f32⟩
  | .hbm, ⟨19, _⟩ => ⟨S_, .f32⟩
  | .hbm, ⟨20, _⟩ => ⟨S6x256, .f32⟩
  | .hbm, ⟨21, _⟩ => ⟨S6x256, .f32⟩
  | .hbm, ⟨22, _⟩ => ⟨S_, .f32⟩
  | .hbm, ⟨23, _⟩ => ⟨S6x256, .f32⟩
  | .hbm, ⟨24, _⟩ => ⟨S6x256, .f32⟩
  | .hbm, ⟨25, _⟩ => ⟨S6x256, .f32⟩
  | .hbm, ⟨26, _⟩ => ⟨S_, .f32⟩
  | .hbm, ⟨27, _⟩ => ⟨S6x256, .f32⟩
  | .hbm, ⟨28, _⟩ => ⟨S6x256, .f32⟩
  | .hbm, ⟨29, _⟩ => ⟨S6x256, .f32⟩
  | .hbm, ⟨30, _⟩ => ⟨S_, .f32⟩
  | .hbm, ⟨31, _⟩ => ⟨S6x256, .f32⟩
  | .hbm, ⟨32, _⟩ => ⟨S6x256, .f32⟩
  | .hbm, ⟨33, _⟩ => ⟨S6x256, .f32⟩
  | .hbm, ⟨34, _⟩ => ⟨S_, .f32⟩
  | .hbm, ⟨35, _⟩ => ⟨S6x256, .f32⟩
  | .hbm, ⟨36, _⟩ => ⟨S6x256, .f32⟩
  | _, _ => ⟨S6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvf.lean ====
abbrev S1024x516 : Shape := ⟨2, ![1024, 516]⟩
abbrev S256x516 : Shape := ⟨2, ![256, 516]⟩

abbrev nBuf : Space → Nat
  | .hbm => 7
  | .vmem => 14
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S1024x516, .f32⟩
  | .hbm, ⟨5, _⟩ => ⟨S1024x516, .f32⟩
  | .hbm, ⟨6, _⟩ => ⟨S1024x516, .f32⟩
  | .local _ .vmem, ⟨0, _⟩ => ⟨S256x516, .f32⟩
  | .local _ .vmem, ⟨1, _⟩ => ⟨S256x516, .f32⟩
  | .local _ .vmem, ⟨2, _⟩ => ⟨S256x516, .f32⟩
  | .local _ .vmem, ⟨3, _⟩ => ⟨S256x516, .f32⟩
  | .local _ .vmem, ⟨4, _⟩ => ⟨S256x516, .f32⟩
  | .local _ .vmem, ⟨5, _⟩ => ⟨S256x516, .f32⟩
  | .local _ .vmem, ⟨6, _⟩ => ⟨S256x516, .f32⟩
  | .local _ .vmem, ⟨7, _⟩ => ⟨S256x516, .f32⟩
  | .local _ .vmem, ⟨8, _⟩ => ⟨S256x516, .f32⟩
  | .local _ .vmem, ⟨9, _⟩ => ⟨S256x516, .f32⟩
  | .local _ .vmem, ⟨10, _⟩ => ⟨S256x516, .f32⟩
  | .local _ .vmem, ⟨11, _⟩ => ⟨S256x516, .f32⟩
  | .local _ .vmem, ⟨12, _⟩ => ⟨S256x516, .f32⟩
  | .local _ .vmem, ⟨13, _⟩ => ⟨S256x516, .f32⟩
  | _, _ => ⟨S1024x516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x516 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x516 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x516 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x516 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x516 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvfIdeal.lean ====
abbrev S1024x516 : Shape := ⟨2, ![1024, 516]⟩
abbrev S256x516 : Shape := ⟨2, ![256, 516]⟩

abbrev nBuf : Space → Nat
  | .hbm => 7
  | .vmem => 14
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S1024x516, .f32⟩
  | .hbm, ⟨5, _⟩ => ⟨S1024x516, .f32⟩
  | .hbm, ⟨6, _⟩ => ⟨S1024x516, .f32⟩
  | .local _ .vmem, ⟨0, _⟩ => ⟨S256x516, .f32⟩
  | .local _ .vmem, ⟨1, _⟩ => ⟨S256x516, .f32⟩
  | .local _ .vmem, ⟨2, _⟩ => ⟨S256x516, .f32⟩
  | .local _ .vmem, ⟨3, _⟩ => ⟨S256x516, .f32⟩
  | .local _ .vmem, ⟨4, _⟩ => ⟨S256x516, .f32⟩
  | .local _ .vmem, ⟨5, _⟩ => ⟨S256x516, .f32⟩
  | .local _ .vmem, ⟨6, _⟩ => ⟨S256x516, .f32⟩
  | .local _ .vmem, ⟨7, _⟩ => ⟨S256x516, .f32⟩
  | .local _ .vmem, ⟨8, _⟩ => ⟨S256x516, .f32⟩
  | .local _ .vmem, ⟨9, _⟩ => ⟨S256x516, .f32⟩
  | .local _ .vmem, ⟨10, _⟩ => ⟨S256x516, .f32⟩
  | .local _ .vmem, ⟨11, _⟩ => ⟨S256x516, .f32⟩
  | .local _ .vmem, ⟨12, _⟩ => ⟨S256x516, .f32⟩
  | .local _ .vmem, ⟨13, _⟩ => ⟨S256x516, .f32⟩
  | _, _ => ⟨S1024x516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x516 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x516 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x516 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x516 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x516 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvfRefIdeal.lean ====
abbrev S1024x516 : Shape := ⟨2, ![1024, 516]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x516, .f32⟩
  | .hbm, ⟨1, _⟩ => ⟨S1024x516, .f32⟩
  | .hbm, ⟨2, _⟩ => ⟨S1024x516, .f32⟩
  | .hbm, ⟨3, _⟩ => ⟨S1024x516, .f32⟩
  | .hbm, ⟨4, _⟩ => ⟨S_, .f32⟩
  | .hbm, ⟨5, _⟩ => ⟨S1024x516, .f32⟩
  | .hbm, ⟨6, _⟩ => ⟨S1024x516, .f32⟩
  | .hbm, ⟨7, _⟩ => ⟨S_, .f32⟩
  | .hbm, ⟨8, _⟩ => ⟨S1024x516, .f32⟩
  | .hbm, ⟨9, _⟩ => ⟨S1024x516, .f32⟩
  | .hbm, ⟨10, _⟩ => ⟨S1024x516, .f32⟩
  | .hbm, ⟨11, _⟩ => ⟨S_, .f32⟩
  | .hbm, ⟨12, _⟩ => ⟨S1024x516, .f32⟩
  | .hbm, ⟨13, _⟩ => ⟨S1024x516, .f32⟩
  | .hbm, ⟨14, _⟩ => ⟨S1024x516, .f32⟩
  | .hbm, ⟨15, _⟩ => ⟨S_, .f32⟩
  | .hbm, ⟨16, _⟩ => ⟨S1024x516, .f32⟩
  | .hbm, ⟨17, _⟩ => ⟨S1024x516, .f32⟩
  | .hbm, ⟨18, _⟩ => ⟨S1024x516, .f32⟩
  | .hbm, ⟨19, _⟩ => ⟨S_, .f32⟩
  | .hbm, ⟨20, _⟩ => ⟨S1024x516, .f32⟩
  | .hbm, ⟨21, _⟩ => ⟨S1024x516, .f32⟩
  | .hbm, ⟨22, _⟩ => ⟨S_, .f32⟩
  | .hbm, ⟨23, _⟩ => ⟨S1024x516, .f32⟩
  | .hbm, ⟨24, _⟩ => ⟨S1024x516, .f32⟩
  | .hbm, ⟨25, _⟩ => ⟨S1024x516, .f32⟩
  | .hbm, ⟨26, _⟩ => ⟨S_, .f32⟩
  | .hbm, ⟨27, _⟩ => ⟨S1024x516, .f32⟩
  | .hbm, ⟨28, _⟩ => ⟨S1024x516, .f32⟩
  | .hbm, ⟨29, _⟩ => ⟨S1024x516, .f32⟩
  | .hbm, ⟨30, _⟩ => ⟨S_, .f32⟩
  | .hbm, ⟨31, _⟩ => ⟨S1024x516, .f32⟩
  | .hbm, ⟨32, _⟩ => ⟨S1024x516, .f32⟩
  | .hbm, ⟨33, _⟩ => ⟨S1024x516, .f32⟩
  | .hbm, ⟨34, _⟩ => ⟨S_, .f32⟩
  | .hbm, ⟨35, _⟩ => ⟨S1024x516, .f32⟩
  | .hbm, ⟨36, _⟩ => ⟨S1024x516, .f32⟩
  | _, _ => ⟨S1024x516, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBf.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBfIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBfRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKNorm.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKNormIdeal.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKNormRefIdeal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQg.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQgIdeal.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQgRefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQNorm.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQNormIdeal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQNormRefIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFConv.lean ====
abbrev S12x704 : Shape := ⟨2, ![12, 704]⟩

abbrev nBuf : Space → Nat
  | .hbm => 7
  | .vmem => 7
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S12x704, .f32⟩
  | .hbm, ⟨5, _⟩ => ⟨S12x704, .f32⟩
  | .hbm, ⟨6, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S12x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFConvIdeal.lean ====
abbrev S12x704 : Shape := ⟨2, ![12, 704]⟩

abbrev nBuf : Space → Nat
  | .hbm => 7
  | .vmem => 7
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S12x704, .f32⟩
  | .hbm, ⟨5, _⟩ => ⟨S12x704, .f32⟩
  | .hbm, ⟨6, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S12x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFConvRefIdeal.lean ====
abbrev S12x704 : Shape := ⟨2, ![12, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x704, .f32⟩
  | .hbm, ⟨1, _⟩ => ⟨S12x704, .f32⟩
  | .hbm, ⟨2, _⟩ => ⟨S12x704, .f32⟩
  | .hbm, ⟨3, _⟩ => ⟨S12x704, .f32⟩
  | .hbm, ⟨4, _⟩ => ⟨S_, .f32⟩
  | .hbm, ⟨5, _⟩ => ⟨S12x704, .f32⟩
  | .hbm, ⟨6, _⟩ => ⟨S12x704, .f32⟩
  | .hbm, ⟨7, _⟩ => ⟨S_, .f32⟩
  | .hbm, ⟨8, _⟩ => ⟨S12x704, .f32⟩
  | .hbm, ⟨9, _⟩ => ⟨S12x704, .f32⟩
  | .hbm, ⟨10, _⟩ => ⟨S12x704, .f32⟩
  | .hbm, ⟨11, _⟩ => ⟨S_, .f32⟩
  | .hbm, ⟨12, _⟩ => ⟨S12x704, .f32⟩
  | .hbm, ⟨13, _⟩ => ⟨S12x704, .f32⟩
  | .hbm, ⟨14, _⟩ => ⟨S12x704, .f32⟩
  | .hbm, ⟨15, _⟩ => ⟨S_, .f32⟩
  | .hbm, ⟨16, _⟩ => ⟨S12x704, .f32⟩
  | .hbm, ⟨17, _⟩ => ⟨S12x704, .f32⟩
  | .hbm, ⟨18, _⟩ => ⟨S12x704, .f32⟩
  | .hbm, ⟨19, _⟩ => ⟨S_, .f32⟩
  | .hbm, ⟨20, _⟩ => ⟨S12x704, .f32⟩
  | .hbm, ⟨21, _⟩ => ⟨S12x704, .f32⟩
  | .hbm, ⟨22, _⟩ => ⟨S_, .f32⟩
  | .hbm, ⟨23, _⟩ => ⟨S12x704, .f32⟩
  | .hbm, ⟨24, _⟩ => ⟨S12x704, .f32⟩
  | .hbm, ⟨25, _⟩ => ⟨S12x704, .f32⟩
  | .hbm, ⟨26, _⟩ => ⟨S_, .f32⟩
  | .hbm, ⟨27, _⟩ => ⟨S12x704, .f32⟩
  | .hbm, ⟨28, _⟩ => ⟨S12x704, .f32⟩
  | .hbm, ⟨29, _⟩ => ⟨S12x704, .f32⟩
  | .hbm, ⟨30, _⟩ => ⟨S_, .f32⟩
  | .hbm, ⟨31, _⟩ => ⟨S12x704, .f32⟩
  | .hbm, ⟨32, _⟩ => ⟨S12x704, .f32⟩
  | .hbm, ⟨33, _⟩ => ⟨S12x704, .f32⟩
  | .hbm, ⟨34, _⟩ => ⟨S_, .f32⟩
  | .hbm, ⟨35, _⟩ => ⟨S12x704, .f32⟩
  | .hbm, ⟨36, _⟩ => ⟨S12x704, .f32⟩
  | _, _ => ⟨S12x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Offsets.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Affine
public import Idealize.ShloMosaic.Lib.Tactic

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.none

/-! ## Offsets: the tile a trip of the loop reads and writes -/

theorem trips1 : ∀ i : grid0.Coords, (k0_t1_loop i).trips = (14 - (i 1).val) / 2 := by decide +kernel
theorem trips2 : ∀ i : grid0.Coords, (k0_t2_loop i).trips = 0 := by decide +kernel
theorem off2_eq : ∀ i : grid0.Coords, k0_off2 i = ![512 * min ((i 1).val + 1) 15, 0] := by decide +kernel
theorem off4_eq : ∀ (i : grid0.Coords) (k : Fin (k0_t1_loop i).trips), k0_off4 i k 1#32 = ![512 * ((i 1).val + 2 * k.val + 2), 0] := by decide +kernel
theorem off4_eq' : ∀ (i : grid0.Coords) (k : Fin (k0_t1_loop i).trips), k0_off4 i k 2#32 = ![512 * ((i 1).val + 2 * k.val + 3), 0] := by decide +kernel
theorem off5_eq : ∀ (i : grid0.Coords) (k : Fin (k0_t1_loop i).trips), k0_off5 i k = ![512 * ((i 1).val + 2 * k.val + 1), 0] := by decide +kernel
theorem off6_eq : ∀ (i : grid0.Coords) (k : Fin (k0_t1_loop i).trips), k0_off6 i k = ![0, (i 1).val + 2 * k.val + 1, 0, 0] := by decide +kernel
theorem off7_eq : ∀ (i : grid0.Coords) (k : Fin (k0_t1_loop i).trips), k0_off7 i k = ![0, (i 1).val + 2 * k.val + 2, 0, 0] := by decide +kernel
instance (i : grid0.Coords) : ClosedOff (k0_off2 i) := ⟨_, off2_eq i⟩
instance (i : grid0.Coords) (k : Fin (k0_t1_loop i).trips) : ClosedOff (k0_off4 i k 1#32) := ⟨_, off4_eq i k⟩
instance (i : grid0.Coords) (k : Fin (k0_t1_loop i).trips) : ClosedOff (k0_off4 i k 2#32) := ⟨_, off4_eq' i k⟩
instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
theorem cond2_iff : ∀ i : grid0.Coords, k0_cond2 i = 1#1 ↔ (i 1).val < 15 := by decide +kernel
theorem cond3_iff : ∀ i : grid0.Coords, (i 1).val < 15 → (k0_cond3 i = 1#1 ↔ (i 1).val % 2 = 1) := by decide +kernel

end Cert.Proof.Attn
-- ==== Proof.Trip.lean ====
module

public import proofs.«01_k».proof.Proof.Offsets

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section Trip

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)
  (arg1 : BitVec 32) (v5 : IVec S512x128 1) (v7 v9 v13 v14 : FVec F S512x128 .bf16)
  (v18 : BitVec 32) (v105 v115 : FVec F S512x128 .f32) (v118 : FVec F S512x1 .f32) (v133 v143 : FVec F S512x128 .f32) (v146 : FVec F S512x1 .f32) (v158 : BitVec 32) (v172 : BitVec 1) (v173 : BitVec 32)

abbrev At {sp : Space} {S : Shape} {e : EltTy} (M : Memref sig .tc sp S e) : Type := Buf (Elt F) (M.view.loc (c : Thread nD τ))
abbrev pt {sp : Space} {S : Shape} {e : EltTy} (M : Memref sig .tc sp S e) (f : At (F := F) c M) : sProp 𝕄 :=
  M.view.loc (c : Thread nD τ) ↦[M.view.set]{fullShare} f

/-- The buffers a trip touches: the query side's three operands and two rows, and the three it writes. -/
abbrev Res (f2 : At (F := F) c arg2) (f3 : At (F := F) c arg3) (f4 : At (F := F) c arg4) (f8 : At (F := F) c arg8) (f9 : At (F := F) c arg9)
    (f10 : At (F := F) c arg10) (f14 : At (F := F) c arg14) (f15 : At (F := F) c arg15) : sProp 𝕄 :=
  iprop(pt c arg2 f2 ∗ pt c arg3 f3 ∗ pt c arg4 f4 ∗ pt c arg8 f8 ∗ pt c arg9 f9 ∗ pt c arg10 f10 ∗ pt c arg14 f14 ∗ pt c arg15 f15)

abbrev Car (F : FTy → Type) : Type := FVec F S512x128 .f32 × FVec F S512x128 .f32 × FVec F S512x1 .f32 × FVec F S512x128 .f32 × FVec F S512x128 .f32 × FVec F S512x1 .f32

set_option maxHeartbeats 4000000 in
set_option backward.proofsInPublic true in
def tripRun (k : Fin (k0_t1_loop i).trips) (f2 : At (F := F) c arg2) (f3 : At (F := F) c arg3) (f4 : At (F := F) c arg4) (f8 : At (F := F) c arg8) (f9 : At (F := F) c arg9)
    (f10 : At (F := F) c arg10) (f14 : At (F := F) c arg14) (f15 : At (F := F) c arg15)
    (a0 a1 : FVec F S512x128 .f32) (a2 : FVec F S512x1 .f32) (a3 a4 : FVec F S512x128 .f32) (a5 : FVec F S512x1 .f32) :
    Σ' (L10 : List (View.Piece (Elt F) S8192x128 .f32)) (L14 L15 : List (View.Piece (Elt F) S2x2x512x512 .f32)), { y : Car F //
      Res c arg2 arg3 arg4 arg8 arg9 arg10 arg14 arg15 f2 f3 f4 f8 f9 f10 f14 f15 ⊢
        wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k (a0, a1, a2, a3, a4, a5))
          (fun r => iprop(⌜r = y⌝ ∗ Res c arg2 arg3 arg4 arg8 arg9 arg10 arg14 arg15 f2 f3 f4 f8 f9 (arg10.view.writes (Elt F) f10 L10)
            (arg14.view.writes (Elt F) f14 L14) (arg15.view.writes (Elt F) f15 L15))) } := by
  refine ⟨?_, ?_, ?_, ?_, ?run⟩
  case run =>
    unfold Res
    iintro ⟨H2, H3, H4, H8, H9, H10, H14, H15⟩
    sl_unfold [k0_t1_body]
    simp only [k0_part1_eq_skeleton, k0_part2_eq_skeleton, k0_part3_eq_skeleton, k0_part4_eq_skeleton, k0_part5_eq_skeleton]
    sl_unfold [k0_part1_skel, k0_part2_skel, k0_part3_skel, k0_part4_skel, k0_part5_skel]
    sl_exec
    sl_step

    sl_close

end Trip

end Cert.Proof.Attn
-- ==== Proof.Loop.lean ====
module

public import proofs.«01_k».proof.Proof.Trip

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section Loop

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)
  (arg1 : BitVec 32) (v5 : IVec S512x128 1) (v7 v9 v13 v14 : FVec F S512x128 .bf16)
  (v18 : BitVec 32) (v105 v115 : FVec F S512x128 .f32) (v118 : FVec F S512x1 .f32) (v133 v143 : FVec F S512x128 .f32) (v146 : FVec F S512x1 .f32) (v158 : BitVec 32) (v172 : BitVec 1) (v173 : BitVec 32)

/-- What a trip changes: the query gradient's block, the two staging scratches and the six carried sums. -/
abbrev St : Type := At (F := F) c arg10 × At (F := F) c arg14 × At (F := F) c arg15 × Car F

/-- The state before trip `k`, from the state at the loop's entry. -/
def loopSt (f2 : At (F := F) c arg2) (f3 : At (F := F) c arg3) (f4 : At (F := F) c arg4) (f8 : At (F := F) c arg8) (f9 : At (F := F) c arg9) (s : St (F := F) c arg10 arg14 arg15) : ℕ → St (F := F) c arg10 arg14 arg15
  | 0 => s
  | k + 1 =>
    if hk : k < (k0_t1_loop i).trips then
      let p := loopSt f2 f3 f4 f8 f9 s k
      let r := tripRun c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 ⟨k, hk⟩ f2 f3 f4 f8 f9 p.1 p.2.1 p.2.2.1 p.2.2.2.1 p.2.2.2.2.1 p.2.2.2.2.2.1 p.2.2.2.2.2.2.1 p.2.2.2.2.2.2.2.1 p.2.2.2.2.2.2.2.2
      (arg10.view.writes (Elt F) p.1 r.1, arg14.view.writes (Elt F) p.2.1 r.2.1, arg15.view.writes (Elt F) p.2.2.1 r.2.2.1, r.2.2.2.1)
    else s

theorem loopSt_succ (f2 : At (F := F) c arg2) (f3 : At (F := F) c arg3) (f4 : At (F := F) c arg4) (f8 : At (F := F) c arg8) (f9 : At (F := F) c arg9) (s : St (F := F) c arg10 arg14 arg15) (k : Fin (k0_t1_loop i).trips) :
    loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 s (k.val + 1) =
      (let p := loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 s k.val
       let r := tripRun c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 p.1 p.2.1 p.2.2.1 p.2.2.2.1 p.2.2.2.2.1 p.2.2.2.2.2.1 p.2.2.2.2.2.2.1 p.2.2.2.2.2.2.2.1 p.2.2.2.2.2.2.2.2
       (arg10.view.writes (Elt F) p.1 r.1, arg14.view.writes (Elt F) p.2.1 r.2.1, arg15.view.writes (Elt F) p.2.2.1 r.2.2.1, r.2.2.2.1)) := by
  rw [loopSt, dif_pos k.isLt]

/-- `arg10`'s buffer before trip `k`. -/
def lo10 (f2 : At (F := F) c arg2) (f3 : At (F := F) c arg3) (f4 : At (F := F) c arg4) (f8 : At (F := F) c arg8) (f9 : At (F := F) c arg9) (f10 : At (F := F) c arg10) (f14 : At (F := F) c arg14) (f15 : At (F := F) c arg15) (car : Car F) : ℕ → At (F := F) c arg10
  | 0 => f10
  | k + 1 => (loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, car) (k + 1)).1

theorem lo10_eq (f2 : At (F := F) c arg2) (f3 : At (F := F) c arg3) (f4 : At (F := F) c arg4) (f8 : At (F := F) c arg8) (f9 : At (F := F) c arg9) (f10 : At (F := F) c arg10) (f14 : At (F := F) c arg14) (f15 : At (F := F) c arg15) (car : Car F) (k : ℕ) :
    lo10 c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 f10 f14 f15 car k = (loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, car) k).1 := by
  cases k <;> rfl

/-- `arg14`'s buffer before trip `k`. -/
def lo14 (f2 : At (F := F) c arg2) (f3 : At (F := F) c arg3) (f4 : At (F := F) c arg4) (f8 : At (F := F) c arg8) (f9 : At (F := F) c arg9) (f10 : At (F := F) c arg10) (f14 : At (F := F) c arg14) (f15 : At (F := F) c arg15) (car : Car F) : ℕ → At (F := F) c arg14
  | 0 => f14
  | k + 1 => (loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, car) (k + 1)).2.1

theorem lo14_eq (f2 : At (F := F) c arg2) (f3 : At (F := F) c arg3) (f4 : At (F := F) c arg4) (f8 : At (F := F) c arg8) (f9 : At (F := F) c arg9) (f10 : At (F := F) c arg10) (f14 : At (F := F) c arg14) (f15 : At (F := F) c arg15) (car : Car F) (k : ℕ) :
    lo14 c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 f10 f14 f15 car k = (loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, car) k).2.1 := by
  cases k <;> rfl

/-- `arg15`'s buffer before trip `k`. -/
def lo15 (f2 : At (F := F) c arg2) (f3 : At (F := F) c arg3) (f4 : At (F := F) c arg4) (f8 : At (F := F) c arg8) (f9 : At (F := F) c arg9) (f10 : At (F := F) c arg10) (f14 : At (F := F) c arg14) (f15 : At (F := F) c arg15) (car : Car F) : ℕ → At (F := F) c arg15
  | 0 => f15
  | k + 1 => (loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, car) (k + 1)).2.2.1

theorem lo15_eq (f2 : At (F := F) c arg2) (f3 : At (F := F) c arg3) (f4 : At (F := F) c arg4) (f8 : At (F := F) c arg8) (f9 : At (F := F) c arg9) (f10 : At (F := F) c arg10) (f14 : At (F := F) c arg14) (f15 : At (F := F) c arg15) (car : Car F) (k : ℕ) :
    lo15 c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 f10 f14 f15 car k = (loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, car) k).2.2.1 := by
  cases k <;> rfl

set_option warn.classDefReducibility false in
/-- The main loop's invariant: the buffers and the carried sums are those of the state before trip `k`. -/
@[sl_loop] def loopInv1 (f2 : At (F := F) c arg2)
    (f3 : At (F := F) c arg3)
    (f4 : At (F := F) c arg4)
    (f8 : At (F := F) c arg8)
    (f9 : At (F := F) c arg9)
    (f10 : At (F := F) c arg10)
    (f14 : At (F := F) c arg14)
    (f15 : At (F := F) c arg15)
    (a0 a1 : FVec F S512x128 .f32) (a2 : FVec F S512x1 .f32) (a3 a4 : FVec F S512x128 .f32) (a5 : FVec F S512x1 .f32) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 (a0, a1, a2, a3, a4, a5) where
  inv k acc := iprop(⌜acc = (loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, a0, a1, a2, a3, a4, a5) k).2.2.2⌝
    ∗ Res c arg2 arg3 arg4 arg8 arg9 arg10 arg14 arg15 f2 f3 f4 f8 f9 (lo10 c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 f10 f14 f15 (a0, a1, a2, a3, a4, a5) k) (lo14 c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 f10 f14 f15 (a0, a1, a2, a3, a4, a5) k) (lo15 c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 f10 f14 f15 (a0, a1, a2, a3, a4, a5) k))
  step k acc := by
    rw [lo10_eq, lo14_eq, lo15_eq, lo10_eq, lo14_eq, lo15_eq]
    rw [loopSt_succ c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, a0, a1, a2, a3, a4, a5) k]
    generalize loopSt c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, a0, a1, a2, a3, a4, a5) k.val = p
    obtain ⟨p10, p14, p15, b0, b1, b2, b3, b4, b5⟩ := p
    iintro ⟨%h, H⟩
    subst h
    iapply (wp_wand_r Idealize.ShloMosaic.frame (wpE (defs₀ (F := F)) 𝒱₀ (c : Thread nD τ) none) Set.univ)
    isplitl [H]
    · iapply (tripRun c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 p10 p14 p15 b0 b1 b2 b3 b4 b5).2.2.2.2; iexact H
    · iintro %r ⟨%h, H'⟩
      isplitr; · ipureintro; exact h
      iexact H'

set_option warn.classDefReducibility false in
/-- The remainder loop has no trip (`trips2`): its invariant is what it is entered with. -/
@[sl_loop] def loopInv2 (f2 : At (F := F) c arg2)
    (f3 : At (F := F) c arg3)
    (f4 : At (F := F) c arg4)
    (f8 : At (F := F) c arg8)
    (f9 : At (F := F) c arg9)
    (f10 : At (F := F) c arg10)
    (f14 : At (F := F) c arg14)
    (f15 : At (F := F) c arg15) (v179 : BitVec 32) (init : Car F) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 v179 init where
  inv _ acc := iprop(⌜acc = init⌝ ∗ Res c arg2 arg3 arg4 arg8 arg9 arg10 arg14 arg15 f2 f3 f4 f8 f9 f10 f14 f15)
  step k _ := (Nat.not_lt_zero _ (Nat.lt_of_lt_of_eq k.isLt (trips2 i))).elim

end Loop

end Cert.Proof.Attn
-- ==== Proof.Body.lean ====
module

public import proofs.«01_k».proof.Proof.Loop

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

theorem zero_iff : ∀ n : Fin 16, Scalar.cmpi .ne (Scalar.extui (Scalar.cmpi .eq (BitVec.ofNat 32 n.val) 0#32)) 0#32 = 1#1 ↔ n.val = 0 := by decide +kernel

section Body

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

set_option maxHeartbeats 16000000 in
set_option backward.proofsInPublic true in
/-- The last key tile: nothing is left after the loops. -/
def runLast (hz : ¬ Scalar.cmpi .ne (Scalar.extui (Scalar.cmpi .eq (BitVec.ofNat 32 (i 1).val) 0#32)) 0#32 = 1#1) (h2 : ¬ k0_cond2 i = 1#1)
    (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15) :
    Σ' (g10 : At (F := F) c arg10) (g11 : At (F := F) c arg11) (g12 : At (F := F) c arg12) (g13 : At (F := F) c arg13) (g14 : At (F := F) c arg14), { g15 : At (F := F) c arg15 //
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15) ⊢
        wp frame (wpE (defs₀ (F := F)) 𝒱₀ (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 g10 ∗ pt c arg11 g11 ∗ pt c arg12 g12 ∗ pt c arg13 g13 ∗ pt c arg14 g14 ∗ pt c arg15 g15)) } := by
  refine ⟨?_, ?_, ?_, ?_, ?_, ?_, ?run⟩
  case run =>
    iintro ⟨H2, H3, H4, H5, H6, H7, H8, H9, H10, H11, H12, H13, H14, H15⟩
    simp only [cc0_attn_bwd_eq_skeleton]
    sl_unfold [cc0_attn_bwd_skel]
    sl_exec_parts!
    sl_step
    sl_close

set_option maxHeartbeats 16000000 in
set_option backward.proofsInPublic true in
/-- The first key tile: the query gradient's block starts at zero, and one query tile is left after the loops. -/
def runFirst (hz : Scalar.cmpi .ne (Scalar.extui (Scalar.cmpi .eq (BitVec.ofNat 32 (i 1).val) 0#32)) 0#32 = 1#1) (h2 : k0_cond2 i = 1#1) (h3 : ¬ k0_cond3 i = 1#1)
    (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15) :
    Σ' (g10 : At (F := F) c arg10) (g11 : At (F := F) c arg11) (g12 : At (F := F) c arg12) (g13 : At (F := F) c arg13) (g14 : At (F := F) c arg14), { g15 : At (F := F) c arg15 //
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15) ⊢
        wp frame (wpE (defs₀ (F := F)) 𝒱₀ (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 g10 ∗ pt c arg11 g11 ∗ pt c arg12 g12 ∗ pt c arg13 g13 ∗ pt c arg14 g14 ∗ pt c arg15 g15)) } := by
  refine ⟨?_, ?_, ?_, ?_, ?_, ?_, ?run⟩
  case run =>
    iintro ⟨H2, H3, H4, H5, H6, H7, H8, H9, H10, H11, H12, H13, H14, H15⟩
    simp only [cc0_attn_bwd_eq_skeleton]
    sl_unfold [cc0_attn_bwd_skel]
    sl_exec_parts!
    sl_step
    sl_close

set_option maxHeartbeats 16000000 in
set_option backward.proofsInPublic true in
/-- An even key tile: one query tile is left after the loops. -/
def runEven (hz : ¬ Scalar.cmpi .ne (Scalar.extui (Scalar.cmpi .eq (BitVec.ofNat 32 (i 1).val) 0#32)) 0#32 = 1#1) (h2 : k0_cond2 i = 1#1) (h3 : ¬ k0_cond3 i = 1#1)
    (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15) :
    Σ' (g10 : At (F := F) c arg10) (g11 : At (F := F) c arg11) (g12 : At (F := F) c arg12) (g13 : At (F := F) c arg13) (g14 : At (F := F) c arg14), { g15 : At (F := F) c arg15 //
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15) ⊢
        wp frame (wpE (defs₀ (F := F)) 𝒱₀ (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 g10 ∗ pt c arg11 g11 ∗ pt c arg12 g12 ∗ pt c arg13 g13 ∗ pt c arg14 g14 ∗ pt c arg15 g15)) } := by
  refine ⟨?_, ?_, ?_, ?_, ?_, ?_, ?run⟩
  case run =>
    iintro ⟨H2, H3, H4, H5, H6, H7, H8, H9, H10, H11, H12, H13, H14, H15⟩
    simp only [cc0_attn_bwd_eq_skeleton]
    sl_unfold [cc0_attn_bwd_skel]
    sl_exec_parts!
    sl_step
    sl_close

set_option maxHeartbeats 16000000 in
set_option backward.proofsInPublic true in
/-- An odd key tile: two query tiles are left after the loops. -/
def runOdd (hz : ¬ Scalar.cmpi .ne (Scalar.extui (Scalar.cmpi .eq (BitVec.ofNat 32 (i 1).val) 0#32)) 0#32 = 1#1) (h2 : k0_cond2 i = 1#1) (h3 : k0_cond3 i = 1#1)
    (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15) :
    Σ' (g10 : At (F := F) c arg10) (g11 : At (F := F) c arg11) (g12 : At (F := F) c arg12) (g13 : At (F := F) c arg13) (g14 : At (F := F) c arg14), { g15 : At (F := F) c arg15 //
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15) ⊢
        wp frame (wpE (defs₀ (F := F)) 𝒱₀ (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(pt c arg2 f2 ∗ pt c arg3 f3 ∗ pt c arg4 f4 ∗ pt c arg5 f5 ∗ pt c arg6 f6 ∗ pt c arg7 f7 ∗ pt c arg8 f8 ∗ pt c arg9 f9 ∗ pt c arg10 g10 ∗ pt c arg11 g11 ∗ pt c arg12 g12 ∗ pt c arg13 g13 ∗ pt c arg14 g14 ∗ pt c arg15 g15)) } := by
  refine ⟨?_, ?_, ?_, ?_, ?_, ?_, ?run⟩
  case run =>
    iintro ⟨H2, H3, H4, H5, H6, H7, H8, H9, H10, H11, H12, H13, H14, H15⟩
    simp only [cc0_attn_bwd_eq_skeleton]
    sl_unfold [cc0_attn_bwd_skel]
    sl_exec_parts!
    sl_step
    sl_close

end Body

end Cert.Proof.Attn
-- ==== Proof.FrameLight.lean ====
module

public import proofs.«01_k».proof.Proof.Gen.KernelIdeal.Frame
public import proofs.«01_k».proof.Proof.Body

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section Any

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

/-- The body at a grid point, from any contents: what it only reads is left as it was, the rest is left at something. -/
theorem body_any (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15) ⊢
      wp frame (wpE (defs₀ (F := F)) 𝒱₀ (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(pt c arg2 f2 ∗ pt c arg3 f3 ∗ pt c arg4 f4 ∗ pt c arg5 f5 ∗ pt c arg6 f6 ∗ pt c arg7 f7 ∗ pt c arg8 f8 ∗ pt c arg9 f9 ∗ (∃ g, pt c arg10 g) ∗ (∃ g, pt c arg11 g) ∗ (∃ g, pt c arg12 g) ∗ (∃ g, pt c arg13 g) ∗ (∃ g, pt c arg14 g) ∗ (∃ g, pt c arg15 g))) := by
  by_cases hz : Scalar.cmpi .ne (Scalar.extui (Scalar.cmpi .eq (BitVec.ofNat 32 (i 1).val) 0#32)) 0#32 = 1#1
  · have h0 : (i 1).val = 0 := (zero_iff (i 1)).mp hz
    have h2 : k0_cond2 i = 1#1 := (cond2_iff i).mpr (by omega)
    have h3 : ¬ k0_cond3 i = 1#1 := fun h => by have := (cond3_iff i (by omega)).mp h; omega
    refine (runFirst c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.2.2.2.2.trans (wp_mono _ _ _ fun _ => ?_)
    iintro ⟨H2, H3, H4, H5, H6, H7, H8, H9, H10, H11, H12, H13, H14, H15⟩
    sl_close
  · by_cases h2 : k0_cond2 i = 1#1
    · by_cases h3 : k0_cond3 i = 1#1
      · refine (runOdd c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.2.2.2.2.trans (wp_mono _ _ _ fun _ => ?_)
        iintro ⟨H2, H3, H4, H5, H6, H7, H8, H9, H10, H11, H12, H13, H14, H15⟩
        sl_close
      · refine (runEven c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.2.2.2.2.trans (wp_mono _ _ _ fun _ => ?_)
        iintro ⟨H2, H3, H4, H5, H6, H7, H8, H9, H10, H11, H12, H13, H14, H15⟩
        sl_close
    · refine (runLast c i arg2 harg2 arg3 harg3 arg4 harg4 arg5 harg5 arg6 harg6 arg7 harg7 arg8 harg8 arg9 harg9 arg10 harg10 arg11 harg11 arg12 harg12 arg13 harg13 arg14 harg14 arg15 harg15 hz h2 f2 f3 f4 f5 f6 f7 f8 f9 f10 f11 f12 f13 f14 f15).2.2.2.2.2.2.trans (wp_mono _ _ _ fun _ => ?_)
      iintro ⟨H2, H3, H4, H5, H6, H7, H8, H9, H10, H11, H12, H13, H14, H15⟩
      sl_close

end Any

variable (m : (ℓ : Loc nD τ sig) → Buf (Elt F) ℓ) (ρ : Dev nD → PrngReg)

/-- The four results' windows: nothing is said of what they are left at. -/
def forgets : Fin cfg0.W → Bool := fun w => decide (8 ≤ w.val)

/-- The proof data: the inputs' windows hold their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, hw⟩ => Pipeline.Dat.unnamed (cfg := cfg0) ⟨8, hw⟩ t
    | ⟨9, hw⟩ => Pipeline.Dat.unnamed (cfg := cfg0) ⟨9, hw⟩ t
    | ⟨10, hw⟩ => Pipeline.Dat.unnamed (cfg := cfg0) ⟨10, hw⟩ t
    | ⟨11, hw⟩ => Pipeline.Dat.unnamed (cfg := cfg0) ⟨11, hw⟩ t
  Φ _ := Pipeline.ΦA spec0 c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))

theorem PhiA_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ ∃ r, prngReg c r) := by
  rw [Pipeline.ΦA, scopedRest0_eq]; simp only [owns_whole]; try rfl

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d

set_option maxHeartbeats 2000000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦA spec0 c from rfl, PhiA_eq]
  unfold Dat.owesAt Pipeline.owesWithin
  rw [show (dats m 0 c).owed t.castSucc = 0 from rfl, show (dats m 0 c).owed t.succ = 0 from rfl]
  rw [after_0, after_1, after_2, after_3, after_4, after_5, after_6, after_7]
  simp only [before_0, before_1, before_2, before_3, before_4, before_5, before_6, before_7]
  unfold owns
  iintro ⟨⟨⟨⟨%d14, %f14, %e14, H14⟩, ⟨%d15, %f15, %e15, H15⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  iapply (wp_wand_r Idealize.ShloMosaic.frame (wpE (defs₀ (F := F)) 𝒱₀ (c : Thread nD τ) none) Set.univ)
  isplitl [H0 H1 H2 H3 H4 H5 H6 H7 H8 H9 H10 H11 H14 H15]
  · iapply (body_any c (grid0.coords t) _ _ _ _ _ _ _ _ _ _ _ _ _ _ _ _ _ _ _ _ _ _ _ _ (Memref.whole cc0_scratch0) (Memref.isWhole_whole _) (Memref.whole cc0_scratch1) (Memref.isWhole_whole _) f0 f1 f2 f3 f4 f5 f6 f7 f8 f9 f10 f11 f14 f15)
    sl_close
  iintro %_ ⟨H0, H1, H2, H3, H4, H5, H6, H7, ⟨%g8, H8⟩, ⟨%g9, H9⟩, ⟨%g10, H10⟩, ⟨%g11, H11⟩, ⟨%g14, H14⟩, ⟨%g15, H15⟩⟩
  isplitl [H14 H15 Hg]
  · isplitl [H14 H15]
    · isplitl [H14]
      · iexists _; iexists g14; isplitr; (· ipureintro; rfl); iexact H14
      · iexists _; iexists g15; isplitr; (· ipureintro; rfl); iexact H15
    · iexact Hg
  isplitl [HW]; · iexact HW
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists _; iexists g8; isplitr; (· ipureintro; rfl); iexact H8
  isplitl [H9]; · iexists _; iexists g9; isplitr; (· ipureintro; rfl); iexact H9
  isplitl [H10]; · iexists _; iexists g10; isplitr; (· ipureintro; rfl); iexact H10
  iexists _; iexists g11; isplitr; (· ipureintro; rfl); iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame: the arguments unchanged, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩) (run_main m ρ)

end Cert.Proof.Attn
-- ==== Proof.PrintedOffsets.lean ====
module

public import proofs.«01_k».proof.Proof.FrameLight
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points

@[expose] public section

noncomputable section

namespace Cert.Proof.AttnPrinted

open Cert.Kernel Cert.Kernel.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-! ## Offsets: the tile a trip of the loop reads and writes -/

theorem trips1 : ∀ i : grid0.Coords, (k0_t1_loop i).trips = (14 - (i 1).val) / 2 := by decide +kernel
theorem trips2 : ∀ i : grid0.Coords, (k0_t2_loop i).trips = 0 := by decide +kernel
theorem off2_eq : ∀ i : grid0.Coords, k0_off2 i = ![512 * min ((i 1).val + 1) 15, 0] := by decide +kernel
theorem off4_eq : ∀ (i : grid0.Coords) (k : Fin (k0_t1_loop i).trips), k0_off4 i k 1#32 = ![512 * ((i 1).val + 2 * k.val + 2), 0] := by decide +kernel
theorem off4_eq' : ∀ (i : grid0.Coords) (k : Fin (k0_t1_loop i).trips), k0_off4 i k 2#32 = ![512 * ((i 1).val + 2 * k.val + 3), 0] := by decide +kernel
theorem off5_eq : ∀ (i : grid0.Coords) (k : Fin (k0_t1_loop i).trips), k0_off5 i k = ![512 * ((i 1).val + 2 * k.val + 1), 0] := by decide +kernel
theorem off6_eq : ∀ (i : grid0.Coords) (k : Fin (k0_t1_loop i).trips), k0_off6 i k = ![0, (i 1).val + 2 * k.val + 1, 0, 0] := by decide +kernel
theorem off7_eq : ∀ (i : grid0.Coords) (k : Fin (k0_t1_loop i).trips), k0_off7 i k = ![0, (i 1).val + 2 * k.val + 2, 0, 0] := by decide +kernel
instance (i : grid0.Coords) : ClosedOff (k0_off2 i) := ⟨_, off2_eq i⟩
instance (i : grid0.Coords) (k : Fin (k0_t1_loop i).trips) : ClosedOff (k0_off4 i k 1#32) := ⟨_, off4_eq i k⟩
instance (i : grid0.Coords) (k : Fin (k0_t1_loop i).trips) : ClosedOff (k0_off4 i k 2#32) := ⟨_, off4_eq' i k⟩
instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩
instance (i : grid0.Coords) (k : Fin (k0_t1_loop i).trips) : ClosedOff (k0_off7 i k) := ⟨_, off7_eq i k⟩
theorem cond2_iff : ∀ i : grid0.Coords, k0_cond2 i = 1#1 ↔ (i 1).val < 15 := by decide +kernel
theorem cond3_iff : ∀ i : grid0.Coords, (i 1).val < 15 → (k0_cond3 i = 1#1 ↔ (i 1).val % 2 = 1) := by decide +kernel

end Cert.Proof.AttnPrinted
-- ==== Proof.Frames.lean ====
/- The frames of the three programs, and the one named constant of the idealized kernel. -/
module

public import proofs.«01_k».proof.Proof.PrintedFrameLight
public import proofs.«01_k».proof.Proof.Gen.ReferenceIdeal.Run
public import Idealize.ShloMosaic.Lib.Quiescent

@[expose] public section

noncomputable section

namespace Cert.Proof.Claims

open Idealize.ShloMosaic Idealize.ShloMosaic.TcCoe Idealize.SL.Sem

/-- The kernel as printed runs, leaves its arguments as they were and ends with every counter at zero. -/
theorem frame_p : Cert.quiescent_Kernel := fun m ρ _ => Cert.Proof.AttnPrinted.frame m ρ

/-- The same of the idealized kernel. -/
theorem frame_pi : Cert.quiescent_KernelIdeal := fun m ρ _ => Cert.Proof.Attn.frame m ρ

/-- The same of the idealized reference, which has no semaphores. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The same two of finite arguments. -/
theorem frame_pi_pre [Cert.Pre_finite.Facts] : Cert.quiescent_KernelIdeal_pre_finite := fun m ρ _ => Cert.Proof.Attn.frame m ρ
theorem frame_ri_pre [Cert.Pre_finite.Facts] : Cert.quiescent_ReferenceIdeal_pre_finite := fun m ρ _ => frame_ri m ρ trivial

/-- The idealized kernel's constant is the logarithm of two, whose f32 rounding is the printed one. -/
theorem preserves : Cert.preserves_Kernel_KernelIdeal :=
  IdealRules.named_const.statement Cert.KernelIdeal.κ "ln2" .f32 0x3F317218#32 ((Real.log 2 : ℝ) : EReal) rfl

end Cert.Proof.Claims

end
-- ==== Proof.HostDef.lean ====
/- The operations that prepare the kernel's operands, each as a function of the arguments. -/
module

public import proofs.«01_k».proof.Defs
public import proofs.«01_k».proof.Proof.Gen.KernelIdeal.Launch
public import proofs.«01_k».proof.Proof.Gen.KernelIdeal.Frame
public import Idealize.ShloMosaic.Lib.StableHlo.Run

@[expose] public section

noncomputable section

namespace Cert.Proof.Attn.Host

open Cert.KernelIdeal Cert.KernelIdeal.Gen
open Idealize.ShloMosaic Idealize.ShloMosaic.TcCoe Idealize.SL.Sem Idealize.ShloMosaic.StableHlo

/-- An array of shape `s` and element type `e`. -/
abbrev B (s : Shape) (e : EltTy) := (⟨s, e⟩ : BufTy).Contents (Elt Ideal)
/-- An array of numbers of shape `s` in format `φ`. -/
abbrev T (s : Shape) (φ : FTy) := FVec Ideal s φ
/-- A row for each position, a column for each lane of every head. -/
abbrev XA := T S8192x1024 .f32
/-- A row for each position, a column for each head. -/
abbrev XC := T S8192x16 .f32

/-! The name `hN` is the value of the program's `N`th operation; `hwN` are those of the masking, `hcst…` the constants. -/

def h0 : B S8192x8192 .i32 :=
  iotaInDim S8192x8192 32 1
def h1 : B S8192x8192 .i32 :=
  iotaInDim S8192x8192 32 0
def h2 : B S8192x8192 .i1 :=
  cmpi .sle h0 h1
def h3 (x3 : XC) : T S16x8192 .f32 :=
  transpose S16x8192 [1, 0] (x3) transposes_S8192x16_S16x8192_1_0
def h4 (x0 : XA) : T S8192x16x64 .f32 :=
  shapeCast _ (x0) shapeCasts_S8192x1024_S8192x16x64
def h5 (x0 : XA) : T S16x8192x64 .f32 :=
  transpose S16x8192x64 [1, 0, 2] (h4 x0) transposes_S8192x16x64_S16x8192x64_1_0_2
def h6 (x1 : XA) : T S8192x16x64 .f32 :=
  shapeCast _ (x1) shapeCasts_S8192x1024_S8192x16x64
def h7 (x1 : XA) : T S16x8192x64 .f32 :=
  transpose S16x8192x64 [1, 0, 2] (h6 x1) transposes_S8192x16x64_S16x8192x64_1_0_2
def h8 (x0 x1 : XA) : T S16x8192x8192 .f32 :=
  Host.dotGeneral dot_S16x8192x64_S16x8192x64_S16x8192x8192_2_2_1_1_0_0 none (h5 x0) (h7 x1)
def hcst : T S_ .f32 :=
  constant S_ .f32 0x3E000000#32
def h9 : T S16x8192x8192 .f32 :=
  broadcastInDim S16x8192x8192 ![] bcast_S_S16x8192x8192 hcst
def h10 (x0 x1 : XA) : T S16x8192x8192 .f32 :=
  mulf (h8 x0 x1) h9
def h11 (x3 : XC) : T S16x8192x1 .f32 :=
  broadcastInDim S16x8192x1 ![0, 1] bcast_S16x8192_S16x8192x1_0_1 (h3 x3)
def h12 (x3 : XC) : T S16x8192x8192 .f32 :=
  broadcastInDim S16x8192x8192 ![0, 1, 2] bcast_S16x8192x1_S16x8192x8192_0_1_2 (h11 x3)
def h13 (x0 x1 : XA) (x3 : XC) : T S16x8192x8192 .f32 :=
  addf (h10 x0 x1) (h12 x3)
def h14 (x3 : XC) : T S16x1x8192 .f32 :=
  broadcastInDim S16x1x8192 ![0, 2] bcast_S16x8192_S16x1x8192_0_2 (h3 x3)
def h15 (x3 : XC) : T S16x8192x8192 .f32 :=
  broadcastInDim S16x8192x8192 ![0, 1, 2] bcast_S16x1x8192_S16x8192x8192_0_1_2 (h14 x3)
def h16 (x0 x1 : XA) (x3 : XC) : T S16x8192x8192 .f32 :=
  subf (h13 x0 x1 x3) (h15 x3)
def hcst_0 : T S_ .f32 :=
  constant S_ .f32 0xFF800000#32
def hw0 : T S_ .f32 :=
  id hcst_0
def hw1 : B S16x8192x8192 .i1 :=
  broadcastInDim S16x8192x8192 ![1, 2] bcast_S8192x8192_S16x8192x8192_1_2 h2
def hw2 : T S16x8192x8192 .f32 :=
  broadcastInDim S16x8192x8192 ![] bcast_S_S16x8192x8192 hw0
def h17 (x0 x1 : XA) (x3 : XC) : T S16x8192x8192 .f32 :=
  select hw1 (h16 x0 x1 x3) hw2
def hcst_1 : T S_ .f32 :=
  constant S_ .f32 0xFF800000#32
def h18 (x0 x1 : XA) (x3 : XC) : T S16x8192 .f32 :=
  Host.reduce FloatOps.maximumf (h17 x0 x1 x3) hcst_1 reducesTo_S16x8192x8192_S16x8192_d2 h_S_
def h19 (x0 x1 : XA) (x3 : XC) : T S16x8192x1 .f32 :=
  broadcastInDim S16x8192x1 ![0, 1] bcast_S16x8192_S16x8192x1_0_1 (h18 x0 x1 x3)
def h20 (x0 x1 : XA) (x3 : XC) : T S16x8192x8192 .f32 :=
  broadcastInDim S16x8192x8192 ![0, 1, 2] bcast_S16x8192x1_S16x8192x8192_0_1_2 (h19 x0 x1 x3)
def h21 (x0 x1 : XA) (x3 : XC) : T S16x8192x8192 .f32 :=
  subf (h17 x0 x1 x3) (h20 x0 x1 x3)
def h22 (x0 x1 : XA) (x3 : XC) : T S16x8192x8192 .f32 :=
  Host.exp (h21 x0 x1 x3)
def hcst_2 : T S_ .f32 :=
  constant S_ .f32 0x00000000#32
def h23 (x0 x1 : XA) (x3 : XC) : T S16x8192 .f32 :=
  Host.reduceAdd (h22 x0 x1 x3) hcst_2 reducesTo_S16x8192x8192_S16x8192_d2 h_S_
def h24 (x0 x1 : XA) (x3 : XC) : T S16x8192x1 .f32 :=
  broadcastInDim S16x8192x1 ![0, 1] bcast_S16x8192_S16x8192x1_0_1 (h23 x0 x1 x3)
def h25 (x0 x1 : XA) (x3 : XC) : T S16x8192x8192 .f32 :=
  broadcastInDim S16x8192x8192 ![0, 1, 2] bcast_S16x8192x1_S16x8192x8192_0_1_2 (h24 x0 x1 x3)
def h26 (x0 x1 : XA) (x3 : XC) : T S16x8192x8192 .f32 :=
  Host.divf (h22 x0 x1 x3) (h25 x0 x1 x3)
def h27 (x2 : XA) : T S8192x16x64 .f32 :=
  shapeCast _ (x2) shapeCasts_S8192x1024_S8192x16x64
def h28 (x2 : XA) : T S16x8192x64 .f32 :=
  transpose S16x8192x64 [1, 0, 2] (h27 x2) transposes_S8192x16x64_S16x8192x64_1_0_2
def h29 (x0 x1 x2 : XA) (x3 : XC) : T S16x8192x64 .f32 :=
  Host.dotGeneral dot_S16x8192x8192_S16x8192x64_S16x8192x64_2_1_1_2_0_0 none (h26 x0 x1 x3) (h28 x2)
def h30 (x4 : XA) : T S8192x16x64 .f32 :=
  shapeCast _ (x4) shapeCasts_S8192x1024_S8192x16x64
def h31 (x4 : XA) : T S16x8192x64 .f32 :=
  transpose S16x8192x64 [1, 0, 2] (h30 x4) transposes_S8192x16x64_S16x8192x64_1_0_2
def h32 (x0 x1 : XA) (x3 : XC) : T S16x8192x1 .f32 :=
  broadcastInDim S16x8192x1 ![0, 1] bcast_S16x8192_S16x8192x1_0_1 (h23 x0 x1 x3)
def h33 (x0 x1 : XA) (x3 : XC) : T S16x8192x64 .f32 :=
  broadcastInDim S16x8192x64 ![0, 1, 2] bcast_S16x8192x1_S16x8192x64_0_1_2 (h32 x0 x1 x3)
def h34 (x0 x1 : XA) (x3 : XC) (x4 : XA) : T S16x8192x64 .f32 :=
  Host.divf (h31 x4) (h33 x0 x1 x3)
def h35 (x0 x1 x2 : XA) (x3 : XC) (x4 : XA) : T S16x8192x64 .f32 :=
  mulf (h34 x0 x1 x3 x4) (h29 x0 x1 x2 x3)
def hcst_3 : T S_ .f32 :=
  constant S_ .f32 0x00000000#32
def h36 (x0 x1 x2 : XA) (x3 : XC) (x4 : XA) : T S16x8192 .f32 :=
  Host.reduceAdd (h35 x0 x1 x2 x3 x4) hcst_3 reducesTo_S16x8192x64_S16x8192_d2 h_S_
def h37 (x0 x1 : XA) (x3 : XC) (x4 : XA) : T S8192x16x64 .f32 :=
  transpose S8192x16x64 [1, 0, 2] (h34 x0 x1 x3 x4) transposes_S16x8192x64_S8192x16x64_1_0_2
def h38 (x0 x1 : XA) (x3 : XC) (x4 : XA) : XA :=
  shapeCast _ (h37 x0 x1 x3 x4) shapeCasts_S8192x16x64_S8192x1024
def h39 (x0 x1 : XA) (x3 : XC) (x4 : XA) : T S8192x1024 .bf16 :=
  truncf .bf16 (h38 x0 x1 x3 x4) bitsLt_bf16_f32
def hcst_4 : T S_ .f32 :=
  constant S_ .f32 0x40000000#32
def h40 : T S_ .f32 :=
  Host.log hcst_4
def h41 : XC :=
  broadcastInDim S8192x16 ![] bcast_S_S8192x16 h40
def h42 (x3 : XC) : XC :=
  Host.divf (x3) h41
def h43 (x3 : XC) : T S8192x16 .bf16 :=
  truncf .bf16 (h42 x3) bitsLt_bf16_f32
def h44 (x3 : XC) : XC :=
  extf .f32 (h43 x3) bitsLt_bf16_f32
def h45 (x3 : XC) : XC :=
  subf (h42 x3) (h44 x3)
def h46 (x3 : XC) : T S8192x16 .bf16 :=
  truncf .bf16 (h45 x3) bitsLt_bf16_f32
def h47 (x3 : XC) : XC :=
  extf .f32 (h46 x3) bitsLt_bf16_f32
def h48 (x3 : XC) : XC :=
  subf (h42 x3) (h44 x3)
def h49 (x3 : XC) : XC :=
  subf (h48 x3) (h47 x3)
def hcst_5 : T S_ .f32 :=
  constant S_ .f32 0x3E000000#32
def h50 : XA :=
  broadcastInDim S8192x1024 ![] bcast_S_S8192x1024 hcst_5
def h51 (x0 : XA) : XA :=
  mulf (x0) h50
def h52 : XA :=
  broadcastInDim S8192x1024 ![] bcast_S_S8192x1024 h40
def h53 (x0 : XA) : XA :=
  Host.divf (h51 x0) h52
def h54 (x0 : XA) : T S8192x8x2x64 .f32 :=
  shapeCast _ (h53 x0) shapeCasts_S8192x1024_S8192x8x2x64
def h55 (x3 : XC) : T S8192x16x1 .f32 :=
  broadcastInDim S8192x16x1 ![0, 1] bcast_S8192x16_S8192x16x1_0_1 (h44 x3)
def h56 (x3 : XC) : T S8192x16x1 .f32 :=
  broadcastInDim S8192x16x1 ![0, 1] bcast_S8192x16_S8192x16x1_0_1 (h47 x3)
def h57 (x3 : XC) : T S8192x16x1 .f32 :=
  broadcastInDim S8192x16x1 ![0, 1] bcast_S8192x16_S8192x16x1_0_1 (h49 x3)
def hcst_6 : T S_ .f32 :=
  constant S_ .f32 0x3F800000#32
def h58 : XC :=
  broadcastInDim S8192x16 ![] bcast_S_S8192x16 hcst_6
def h59 : T S8192x16x1 .f32 :=
  broadcastInDim S8192x16x1 ![0, 1] bcast_S8192x16_S8192x16x1_0_1 h58
def hcst_7 : T S_ .f32 :=
  constant S_ .f32 0x3F800000#32
def h60 : XC :=
  broadcastInDim S8192x16 ![] bcast_S_S8192x16 hcst_7
def h61 : T S8192x16x1 .f32 :=
  broadcastInDim S8192x16x1 ![0, 1] bcast_S8192x16_S8192x16x1_0_1 h60
def hcst_8 : T S_ .f32 :=
  constant S_ .f32 0x3F800000#32
def h62 : XC :=
  broadcastInDim S8192x16 ![] bcast_S_S8192x16 hcst_8
def h63 : T S8192x16x1 .f32 :=
  broadcastInDim S8192x16x1 ![0, 1] bcast_S8192x16_S8192x16x1_0_1 h62
def hcst_9 : T S_ .f32 :=
  constant S_ .f32 0x00000000#32
def h64 : T S8192x16x58 .f32 :=
  broadcastInDim S8192x16x58 ![] bcast_S_S8192x16x58 hcst_9
def h65 (x3 : XC) : T S8192x16x64 .f32 :=
  (concatenate S8192x16x64 2 [⟨S8192x16x1, ((h55 x3) : T S8192x16x1 .f32)⟩, ⟨S8192x16x1, ((h56 x3) : T S8192x16x1 .f32)⟩, ⟨S8192x16x1, ((h57 x3) : T S8192x16x1 .f32)⟩, ⟨S8192x16x1, (h59 : T S8192x16x1 .f32)⟩, ⟨S8192x16x1, (h61 : T S8192x16x1 .f32)⟩, ⟨S8192x16x1, (h63 : T S8192x16x1 .f32)⟩, ⟨S8192x16x58, (h64 : T S8192x16x58 .f32)⟩] concatenates_S8192x16x1_S8192x16x1_S8192x16x1_S8192x16x1_S8192x16x1_S8192x16x1_S8192x16x58_S8192x16x64_d2 : T S8192x16x64 .f32)
def h66 (x3 : XC) : T S8192x8x2x64 .f32 :=
  shapeCast _ (h65 x3) shapeCasts_S8192x16x64_S8192x8x2x64
def h67 (x0 : XA) : T S8192x8x1x64 .f32 :=
  extractStridedSlice S8192x8x1x64 ![0, 0, 0, 0] (h54 x0) slices_S8192x8x2x64_S8192x8x1x64_0_0_0_0
def h68 (x0 : XA) : T S8192x8x64 .f32 :=
  shapeCast _ (h67 x0) shapeCasts_S8192x8x1x64_S8192x8x64
def h69 (x3 : XC) : T S8192x8x1x64 .f32 :=
  extractStridedSlice S8192x8x1x64 ![0, 0, 0, 0] (h66 x3) slices_S8192x8x2x64_S8192x8x1x64_0_0_0_0
def h70 (x3 : XC) : T S8192x8x64 .f32 :=
  shapeCast _ (h69 x3) shapeCasts_S8192x8x1x64_S8192x8x64
def h71 (x0 : XA) (x3 : XC) : T S8192x8x128 .f32 :=
  concatenate S8192x8x128 2 [⟨S8192x8x64, (h68 x0)⟩, ⟨S8192x8x64, (h70 x3)⟩] concatenates_S8192x8x64_S8192x8x64_S8192x8x128_d2
def h72 (x0 : XA) (x3 : XC) : XA :=
  shapeCast _ (h71 x0 x3) shapeCasts_S8192x8x128_S8192x1024
def h73 (x3 : XC) : T S8192x8x1x64 .f32 :=
  extractStridedSlice S8192x8x1x64 ![0, 0, 1, 0] (h66 x3) slices_S8192x8x2x64_S8192x8x1x64_0_0_1_0
def h74 (x3 : XC) : T S8192x8x64 .f32 :=
  shapeCast _ (h73 x3) shapeCasts_S8192x8x1x64_S8192x8x64
def h75 (x0 : XA) : T S8192x8x1x64 .f32 :=
  extractStridedSlice S8192x8x1x64 ![0, 0, 1, 0] (h54 x0) slices_S8192x8x2x64_S8192x8x1x64_0_0_1_0
def h76 (x0 : XA) : T S8192x8x64 .f32 :=
  shapeCast _ (h75 x0) shapeCasts_S8192x8x1x64_S8192x8x64
def h77 (x0 : XA) (x3 : XC) : T S8192x8x128 .f32 :=
  concatenate S8192x8x128 2 [⟨S8192x8x64, (h74 x3)⟩, ⟨S8192x8x64, (h76 x0)⟩] concatenates_S8192x8x64_S8192x8x64_S8192x8x128_d2
def h78 (x0 : XA) (x3 : XC) : XA :=
  shapeCast _ (h77 x0 x3) shapeCasts_S8192x8x128_S8192x1024
def h79 (x0 : XA) (x3 : XC) : T S8192x1024 .bf16 :=
  truncf .bf16 (h72 x0 x3) bitsLt_bf16_f32
def h80 (x0 : XA) (x3 : XC) : T S8192x1024 .bf16 :=
  truncf .bf16 (h78 x0 x3) bitsLt_bf16_f32
def h81 (x3 : XC) : XC :=
  Host.negf (h44 x3)
def h82 (x3 : XC) : XC :=
  Host.negf (h47 x3)
def h83 (x3 : XC) : XC :=
  Host.negf (h49 x3)
def h84 (x1 : XA) : T S8192x8x2x64 .f32 :=
  shapeCast _ (x1) shapeCasts_S8192x1024_S8192x8x2x64
def hcst_10 : T S_ .f32 :=
  constant S_ .f32 0x3F800000#32
def h85 : XC :=
  broadcastInDim S8192x16 ![] bcast_S_S8192x16 hcst_10
def h86 : T S8192x16x1 .f32 :=
  broadcastInDim S8192x16x1 ![0, 1] bcast_S8192x16_S8192x16x1_0_1 h85
def hcst_11 : T S_ .f32 :=
  constant S_ .f32 0x3F800000#32
def h87 : XC :=
  broadcastInDim S8192x16 ![] bcast_S_S8192x16 hcst_11
def h88 : T S8192x16x1 .f32 :=
  broadcastInDim S8192x16x1 ![0, 1] bcast_S8192x16_S8192x16x1_0_1 h87
def hcst_12 : T S_ .f32 :=
  constant S_ .f32 0x3F800000#32
def h89 : XC :=
  broadcastInDim S8192x16 ![] bcast_S_S8192x16 hcst_12
def h90 : T S8192x16x1 .f32 :=
  broadcastInDim S8192x16x1 ![0, 1] bcast_S8192x16_S8192x16x1_0_1 h89
def h91 (x3 : XC) : T S8192x16x1 .f32 :=
  broadcastInDim S8192x16x1 ![0, 1] bcast_S8192x16_S8192x16x1_0_1 (h81 x3)
def h92 (x3 : XC) : T S8192x16x1 .f32 :=
  broadcastInDim S8192x16x1 ![0, 1] bcast_S8192x16_S8192x16x1_0_1 (h82 x3)
def h93 (x3 : XC) : T S8192x16x1 .f32 :=
  broadcastInDim S8192x16x1 ![0, 1] bcast_S8192x16_S8192x16x1_0_1 (h83 x3)
def hcst_13 : T S_ .f32 :=
  constant S_ .f32 0x00000000#32
def h94 : T S8192x16x58 .f32 :=
  broadcastInDim S8192x16x58 ![] bcast_S_S8192x16x58 hcst_13
def h95 (x3 : XC) : T S8192x16x64 .f32 :=
  (concatenate S8192x16x64 2 [⟨S8192x16x1, (h86 : T S8192x16x1 .f32)⟩, ⟨S8192x16x1, (h88 : T S8192x16x1 .f32)⟩, ⟨S8192x16x1, (h90 : T S8192x16x1 .f32)⟩, ⟨S8192x16x1, ((h91 x3) : T S8192x16x1 .f32)⟩, ⟨S8192x16x1, ((h92 x3) : T S8192x16x1 .f32)⟩, ⟨S8192x16x1, ((h93 x3) : T S8192x16x1 .f32)⟩, ⟨S8192x16x58, (h94 : T S8192x16x58 .f32)⟩] concatenates_S8192x16x1_S8192x16x1_S8192x16x1_S8192x16x1_S8192x16x1_S8192x16x1_S8192x16x58_S8192x16x64_d2 : T S8192x16x64 .f32)
def h96 (x3 : XC) : T S8192x8x2x64 .f32 :=
  shapeCast _ (h95 x3) shapeCasts_S8192x16x64_S8192x8x2x64
def h97 (x1 : XA) : T S8192x8x1x64 .f32 :=
  extractStridedSlice S8192x8x1x64 ![0, 0, 0, 0] (h84 x1) slices_S8192x8x2x64_S8192x8x1x64_0_0_0_0
def h98 (x1 : XA) : T S8192x8x64 .f32 :=
  shapeCast _ (h97 x1) shapeCasts_S8192x8x1x64_S8192x8x64
def h99 (x3 : XC) : T S8192x8x1x64 .f32 :=
  extractStridedSlice S8192x8x1x64 ![0, 0, 0, 0] (h96 x3) slices_S8192x8x2x64_S8192x8x1x64_0_0_0_0
def h100 (x3 : XC) : T S8192x8x64 .f32 :=
  shapeCast _ (h99 x3) shapeCasts_S8192x8x1x64_S8192x8x64
def h101 (x1 : XA) (x3 : XC) : T S8192x8x128 .f32 :=
  concatenate S8192x8x128 2 [⟨S8192x8x64, (h98 x1)⟩, ⟨S8192x8x64, (h100 x3)⟩] concatenates_S8192x8x64_S8192x8x64_S8192x8x128_d2
def h102 (x1 : XA) (x3 : XC) : XA :=
  shapeCast _ (h101 x1 x3) shapeCasts_S8192x8x128_S8192x1024
def h103 (x3 : XC) : T S8192x8x1x64 .f32 :=
  extractStridedSlice S8192x8x1x64 ![0, 0, 1, 0] (h96 x3) slices_S8192x8x2x64_S8192x8x1x64_0_0_1_0
def h104 (x3 : XC) : T S8192x8x64 .f32 :=
  shapeCast _ (h103 x3) shapeCasts_S8192x8x1x64_S8192x8x64
def h105 (x1 : XA) : T S8192x8x1x64 .f32 :=
  extractStridedSlice S8192x8x1x64 ![0, 0, 1, 0] (h84 x1) slices_S8192x8x2x64_S8192x8x1x64_0_0_1_0
def h106 (x1 : XA) : T S8192x8x64 .f32 :=
  shapeCast _ (h105 x1) shapeCasts_S8192x8x1x64_S8192x8x64
def h107 (x1 : XA) (x3 : XC) : T S8192x8x128 .f32 :=
  concatenate S8192x8x128 2 [⟨S8192x8x64, (h104 x3)⟩, ⟨S8192x8x64, (h106 x1)⟩] concatenates_S8192x8x64_S8192x8x64_S8192x8x128_d2
def h108 (x1 : XA) (x3 : XC) : XA :=
  shapeCast _ (h107 x1 x3) shapeCasts_S8192x8x128_S8192x1024
def h109 (x1 : XA) (x3 : XC) : T S8192x1024 .bf16 :=
  truncf .bf16 (h102 x1 x3) bitsLt_bf16_f32
def h110 (x1 : XA) (x3 : XC) : T S8192x1024 .bf16 :=
  truncf .bf16 (h108 x1 x3) bitsLt_bf16_f32
def h111 (x2 : XA) : T S8192x1024 .bf16 :=
  truncf .bf16 (x2) bitsLt_bf16_f32
def h112 : T S16x8192 .f32 :=
  broadcastInDim S16x8192 ![] bcast_S_S16x8192 h40
def h113 (x0 x1 : XA) (x3 : XC) : T S16x8192 .f32 :=
  Host.divf (h18 x0 x1 x3) h112
def h114 (x0 x1 : XA) (x3 : XC) : T S8x2x16x512 .f32 :=
  shapeCast _ (h113 x0 x1 x3) shapeCasts_S16x8192_S8x2x16x512
def h115 (x0 x1 : XA) (x3 : XC) : T S8x16x2x512 .f32 :=
  transpose S8x16x2x512 [0, 2, 1, 3] (h114 x0 x1 x3) transposes_S8x2x16x512_S8x16x2x512_0_2_1_3
def h116 (x0 x1 x2 : XA) (x3 : XC) (x4 : XA) : T S8x2x16x512 .f32 :=
  shapeCast _ (h36 x0 x1 x2 x3 x4) shapeCasts_S16x8192_S8x2x16x512
def h117 (x0 x1 x2 : XA) (x3 : XC) (x4 : XA) : T S8x16x2x512 .f32 :=
  transpose S8x16x2x512 [0, 2, 1, 3] (h116 x0 x1 x2 x3 x4) transposes_S8x2x16x512_S8x16x2x512_0_2_1_3

end Cert.Proof.Attn.Host
end
-- ==== Proof.HostRun.lean ====
/- What the kernel's operands hold when the kernel starts. -/
module

public import proofs.«01_k».proof.Proof.HostDef

@[expose] public section

noncomputable section

namespace Cert.Proof.Attn.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- An argument's array. -/
abbrev a0 : XA := m ((c.tc : Thread nD τ).loc main_arg0)
abbrev a1 : XA := m ((c.tc : Thread nD τ).loc main_arg1)
abbrev a2 : XA := m ((c.tc : Thread nD τ).loc main_arg2)
abbrev a3 : XC := m ((c.tc : Thread nD τ).loc main_arg3)
abbrev a4 : XA := m ((c.tc : Thread nD τ).loc main_arg4)

set_option maxHeartbeats 4000000 in
set_option maxRecDepth 16384 in
theorem V_111 : V m c main_v111 = h111 (a2 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

set_option maxHeartbeats 4000000 in
set_option maxRecDepth 16384 in
theorem V_39 : V m c main_v39 = h39 (a0 m c) (a1 m c) (a3 m c) (a4 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

set_option maxHeartbeats 4000000 in
set_option maxRecDepth 16384 in
theorem V_115 : V m c main_v115 = h115 (a0 m c) (a1 m c) (a3 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

set_option maxHeartbeats 4000000 in
set_option maxRecDepth 16384 in
theorem V_117 : V m c main_v117 = h117 (a0 m c) (a1 m c) (a2 m c) (a3 m c) (a4 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

set_option maxHeartbeats 4000000 in
set_option maxRecDepth 16384 in
theorem V_79 : V m c main_v79 = h79 (a0 m c) (a3 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

set_option maxHeartbeats 4000000 in
set_option maxRecDepth 16384 in
theorem V_80 : V m c main_v80 = h80 (a0 m c) (a3 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

set_option maxHeartbeats 4000000 in
set_option maxRecDepth 16384 in
theorem V_109 : V m c main_v109 = h109 (a1 m c) (a3 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

set_option maxHeartbeats 4000000 in
set_option maxRecDepth 16384 in
theorem V_110 : V m c main_v110 = h110 (a1 m c) (a3 m c) := by
  unfold V
  simp only [hostOps0, hostOps0_1, hostOps0_2, List.flatten_cons, List.flatten_nil, List.append_nil, List.cons_append, List.nil_append, TRef.ternary, TRef.unary, TRef.toBuf, TRef.ofBuf, cast_eq]
  after_results_simp <;> (try dsimp only [Matrix.cons_val]) <;> (try after_results_simp) <;> rfl

end Cert.Proof.Attn.Host
end
-- ==== Proof.Tile.lean ====
/- One tile of the kernel's work, read over the real numbers: the staged products, the probabilities and what a query tile
   adds to the gradients. -/
module

public import proofs.«01_k».proof.Defs
public import proofs.«01_k».proof.Proof.Gen.KernelIdeal.Skeleton
public import Idealize.ShloMosaic.Lib.Pointwise
public import Idealize.ShloMosaic.Lib.WritesUnit

@[expose] public section

noncomputable section

namespace Cert.Proof.Attn

open Cert.KernelIdeal Cert.KernelIdeal.Gen
open Idealize.ShloMosaic Idealize.ShloMosaic.TcCoe

/-- A two-axis array of real numbers, as the extended reals that a float array holds. -/
def up2 {a b : ℕ} {φ : FTy} (f : ℕ → ℕ → ℝ) : FVec Ideal ⟨2, ![a, b]⟩ φ := fun i => ((f (i 0).val (i 1).val : ℝ) : EReal)

/-- The same under two leading axes that are not looked at. -/
def upT {a b x y : ℕ} {φ : FTy} (f : ℕ → ℕ → ℝ) : FVec Ideal ⟨4, ![x, y, a, b]⟩ φ := fun i => ((f (i 2).val (i 3).val : ℝ) : EReal)

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem exp2_real (r : ℝ) : FloatOps.exp2 (F := Ideal) (φ := .f32) ((r : ℝ) : EReal) = (((2 : ℝ) ^ r : ℝ) : EReal) := rfl

theorem sub_real (a b : ℝ) : ((a : ℝ) : EReal) - ((b : ℝ) : EReal) = ((a - b : ℝ) : EReal) := (EReal.coe_sub a b).symm
theorem add_real (a b : ℝ) : ((a : ℝ) : EReal) + ((b : ℝ) : EReal) = ((a + b : ℝ) : EReal) := (EReal.coe_add a b).symm
theorem mul_real (a b : ℝ) : ((a : ℝ) : EReal) * ((b : ℝ) : EReal) = ((a * b : ℝ) : EReal) := (EReal.coe_mul a b).symm
theorem ite_real (p : Prop) [Decidable p] (a b : ℝ) : (if p then ((a : ℝ) : EReal) else ((b : ℝ) : EReal)) = ((if p then a else b : ℝ) : EReal) := by
  split <;> rfl

theorem st0_val (K Q : ℕ → ℕ → ℝ) :
    k0_pay3 (F := Ideal) (up2 (φ := .bf16) K) (up2 (φ := .bf16) Q) = upT fun s t => ∑ l : Fin 128, K s l * Q t l := by
  funext j
  pointwise [k0_pay3, up2, upT]
  simp only [exp2_real, sub_real, mul_real, coe_sum, add_real, ite_real]

theorem p0_val (M T : ℕ → ℕ → ℝ) :
    k0_pay11 (F := Ideal) (upT (φ := .f32) M) (upT (φ := .f32) T) = up2 fun s t => ((2 : ℝ) ^ (T s t - M 0 t)) := by
  funext j
  pointwise [k0_pay11, k0_pay9, up2, upT]
  simp only [exp2_real, sub_real, mul_real, coe_sum, add_real, ite_real]

theorem p1_val (M T : ℕ → ℕ → ℝ) :
    k0_pay17 (F := Ideal) (k0_pay9 (upT (φ := .f32) M)) (upT (φ := .f32) T) = up2 fun s t => ((2 : ℝ) ^ (T s t - M 1 t)) := by
  funext j
  pointwise [k0_pay17, k0_pay9, up2, upT]
  simp only [exp2_real, sub_real, mul_real, coe_sum, add_real, ite_real]

theorem d0_val (M E T U : ℕ → ℕ → ℝ) :
    k0_pay13 (F := Ideal) (upT (φ := .f32) M) (upT (φ := .f32) E) (upT (φ := .f32) T) (upT (φ := .f32) U) = up2 fun s t => (((2 : ℝ) ^ (T s t - M 0 t)) * (U s t - E 0 t)) := by
  funext j
  unfold k0_pay13 k0_pay10
  rw [p0_val]
  pointwise [up2, upT, k0_pay8]
  simp only [exp2_real, sub_real, mul_real, coe_sum, add_real, ite_real]

theorem d1_val (M E T U : ℕ → ℕ → ℝ) :
    k0_pay19 (F := Ideal) (k0_pay9 (upT (φ := .f32) M)) (k0_pay10 (upT (φ := .f32) E)) (upT (φ := .f32) T) (upT (φ := .f32) U) = up2 fun s t => (((2 : ℝ) ^ (T s t - M 1 t)) * (U s t - E 1 t)) := by
  funext j
  unfold k0_pay19 k0_pay10
  rw [p1_val]
  pointwise [up2, upT, k0_pay8]
  simp only [exp2_real, sub_real, mul_real, coe_sum, add_real, ite_real]

theorem db0_val (M E T U : ℕ → ℕ → ℝ) :
    k0_pay14 (F := Ideal) (upT (φ := .f32) M) (upT (φ := .f32) E) (upT (φ := .f32) T) (upT (φ := .f32) U) = up2 fun s t => (((2 : ℝ) ^ (T s t - M 0 t)) * (U s t - E 0 t)) := by
  funext j
  unfold k0_pay14
  rw [d0_val]
  pointwise [up2, upT, k0_pay8]

theorem db1_val (M E T U : ℕ → ℕ → ℝ) :
    k0_pay20 (F := Ideal) (k0_pay9 (upT (φ := .f32) M)) (k0_pay10 (upT (φ := .f32) E)) (upT (φ := .f32) T) (upT (φ := .f32) U) = up2 fun s t => (((2 : ℝ) ^ (T s t - M 1 t)) * (U s t - E 1 t)) := by
  funext j
  unfold k0_pay20
  rw [d1_val]
  pointwise [up2, upT, k0_pay8]

theorem dv0_val (A G M T : ℕ → ℕ → ℝ) :
    k0_pay12 (F := Ideal) (up2 (φ := .f32) A) (up2 (φ := .bf16) G) (upT (φ := .f32) M) (upT (φ := .f32) T) = up2 fun s l => A s l + ∑ t : Fin 512, ((2 : ℝ) ^ (T s t - M 0 t)) * G t l := by
  funext j
  unfold k0_pay12
  rw [p0_val]
  pointwise [up2, upT, k0_pay8]
  simp only [exp2_real, sub_real, mul_real, coe_sum, add_real, ite_real]

theorem dv1_val (A G M T : ℕ → ℕ → ℝ) :
    k0_pay18 (F := Ideal) (up2 (φ := .f32) A) (k0_pay8 (up2 (φ := .bf16) G)) (k0_pay9 (upT (φ := .f32) M)) (upT (φ := .f32) T) = up2 fun s l => A s l + ∑ t : Fin 512, ((2 : ℝ) ^ (T s t - M 1 t)) * G t l := by
  funext j
  unfold k0_pay18
  rw [p1_val]
  pointwise [up2, upT, k0_pay8]
  simp only [exp2_real, sub_real, mul_real, coe_sum, add_real, ite_real]

theorem dk0_val (A M E Q T U : ℕ → ℕ → ℝ) :
    k0_pay15 (F := Ideal) (up2 (φ := .f32) A) (upT (φ := .f32) M) (upT (φ := .f32) E) (up2 (φ := .bf16) Q) (upT (φ := .f32) T) (upT (φ := .f32) U) = up2 fun s l => A s l + ∑ t : Fin 512, (((2 : ℝ) ^ (T s t - M 0 t)) * (U s t - E 0 t)) * Q t l := by
  funext j
  unfold k0_pay15
  rw [db0_val]
  pointwise [up2, upT, k0_pay8]
  simp only [exp2_real, sub_real, mul_real, coe_sum, add_real, ite_real]

theorem dk1_val (A M E Q T U : ℕ → ℕ → ℝ) :
    k0_pay21 (F := Ideal) (up2 (φ := .f32) A) (k0_pay9 (upT (φ := .f32) M)) (k0_pay10 (upT (φ := .f32) E)) (up2 (φ := .bf16) Q) (upT (φ := .f32) T) (upT (φ := .f32) U) = up2 fun s l => A s l + ∑ t : Fin 512, (((2 : ℝ) ^ (T s t - M 1 t)) * (U s t - E 1 t)) * Q t l := by
  funext j
  unfold k0_pay21
  rw [db1_val]
  pointwise [up2, upT, k0_pay8]
  simp only [exp2_real, sub_real, mul_real, coe_sum, add_real, ite_real]

theorem dc0_val (A M E T U : ℕ → ℕ → ℝ) :
    k0_pay16 (F := Ideal) (up2 (φ := .f32) A : FVec Ideal S512x1 .f32) (upT (φ := .f32) M) (upT (φ := .f32) E) (upT (φ := .f32) T) (upT (φ := .f32) U) = up2 fun s l => A s l - ∑ t : Fin 512, (((2 : ℝ) ^ (T s t - M 0 t)) * (U s t - E 0 t)) := by
  funext j
  unfold k0_pay16
  rw [d0_val]
  pointwise [up2, upT, k0_pay8]
  simp only [exp2_real, sub_real, mul_real, coe_sum, add_real, ite_real]

theorem dc1_val (A M E T U : ℕ → ℕ → ℝ) :
    k0_pay22 (F := Ideal) (up2 (φ := .f32) A : FVec Ideal S512x1 .f32) (k0_pay9 (upT (φ := .f32) M)) (k0_pay10 (upT (φ := .f32) E)) (upT (φ := .f32) T) (upT (φ := .f32) U) = up2 fun s l => A s l - ∑ t : Fin 512, (((2 : ℝ) ^ (T s t - M 1 t)) * (U s t - E 1 t)) := by
  funext j
  unfold k0_pay22
  rw [d1_val]
  pointwise [up2, upT, k0_pay8]
  simp only [exp2_real, sub_real, mul_real, coe_sum, add_real, ite_real]

theorem eighth_val : Ideal.ofBits .f32 0x3E000000#32 = ((1 / 8 : ℝ) : EReal) := by
  simp [Ideal.ofBits, Ideal.ieee]
  norm_num [← EReal.coe_mul]

theorem select_ite {α : Type} (p : Prop) [Decidable p] (x y : α) : Scalar.select (if p then 1#1 else 0#1) x y = if p then x else y := by
  by_cases h : p <;> simp [h, Scalar.select]

theorem slt64 : ∀ l : Fin 128, Scalar.cmpi .slt (BitVec.ofNat 32 l.val) 64#32 = if l.val < 64 then 1#1 else 0#1 := by decide +kernel

theorem sle512 (a b : ℕ) (ha : a < 512) (hb : b < 512) : Scalar.cmpi .sle (BitVec.ofNat 32 a) (BitVec.ofNat 32 b) = if a ≤ b then 1#1 else 0#1 := by
  have : (BitVec.ofNat 32 a).sle (BitVec.ofNat 32 b) = decide (a ≤ b) := by
    rw [BitVec.sle_eq_decide, BitVec.toInt_eq_toNat_cond, BitVec.toInt_eq_toNat_cond]
    simp only [BitVec.toNat_ofNat]
    have h1 : a % 2 ^ 32 = a := Nat.mod_eq_of_lt (by omega)
    have h2 : b % 2 ^ 32 = b := Nat.mod_eq_of_lt (by omega)
    rw [h1, h2, if_pos (by omega), if_pos (by omega)]
    simp
  by_cases h : a ≤ b <;> simp [Scalar.cmpi, IntOp.cmpi, this, h]

theorem lane_apply (j : S512x128.Idx) : k0_pay128 j = if (j 1).val < 64 then 1#1 else 0#1 := by
  refine Eq.trans ?_ (slt64 (j 1))
  pointwise [k0_pay128]
  rfl

theorem diag_apply (j : S512x512.Idx) : k0_pay135 j = if (j 0).val ≤ (j 1).val then 1#1 else 0#1 := by
  refine Eq.trans ?_ (sle512 _ _ (j 0).isLt (j 1).isLt)
  pointwise [k0_pay135]
  rfl

theorem vlo_val (V : ℕ → ℕ → ℝ) : k0_pay133 (F := Ideal) (up2 (φ := .bf16) V) = up2 fun s l => if l < 64 then V s l else 0 := by
  funext j
  unfold k0_pay133 k0_pay131 k0_pay132
  show Scalar.select (k0_pay128 j) _ _ = _
  rw [lane_apply, select_ite]
  pointwise [up2]
  rw [← EReal.coe_zero, ite_real]

theorem vhi_val (V : ℕ → ℕ → ℝ) : k0_pay134 (F := Ideal) (up2 (φ := .bf16) V) = up2 fun s l => if l < 64 then 0 else V s l := by
  funext j
  unfold k0_pay134 k0_pay131 k0_pay132
  show Scalar.select (k0_pay128 j) _ _ = _
  rw [lane_apply, select_ite]
  pointwise [up2]
  rw [← EReal.coe_zero, ite_real]

theorem dq_val (A K L M E T U T' U' : ℕ → ℕ → ℝ) :
    k0_pay23 (F := Ideal) k0_pay128 (up2 (φ := .bf16) K) (up2 (φ := .bf16) L) (k0_pay9 (upT (φ := .f32) M)) (k0_pay10 (upT (φ := .f32) E)) (k0_pay14 (upT (φ := .f32) M) (upT (φ := .f32) E) (upT (φ := .f32) T) (upT (φ := .f32) U)) (constant S512x128 .f32 0x00000000#32) (upT (φ := .f32) T') (upT (φ := .f32) U') (up2 (φ := .f32) A)
    = up2 fun t l => A t l + (if l < 64 then ∑ s : Fin 512, (((2 : ℝ) ^ (T s t - M 0 t)) * (U s t - E 0 t)) * K s l else ∑ s : Fin 512, (((2 : ℝ) ^ (T' s t - M 1 t)) * (U' s t - E 1 t)) * L s l) * (1 / 8) := by
  funext j
  unfold k0_pay23
  rw [db0_val, db1_val]
  pointwise [up2, upT, k0_pay8]
  rw [lane_apply, select_ite, eighth_val]
  simp only [exp2_real, sub_real, mul_real, coe_sum, add_real, ite_real]

/-! The second consuming step of a trip, and the stagings, are the same functions. -/

theorem st_pay4_val (K Q : ℕ → ℕ → ℝ) :
    k0_pay4 (F := Ideal) (up2 (φ := .bf16) K) (up2 (φ := .bf16) Q) = upT fun s t => ∑ l : Fin 128, K s l * Q t l := st0_val K Q

theorem st_pay5_val (K Q : ℕ → ℕ → ℝ) :
    k0_pay5 (F := Ideal) (up2 (φ := .bf16) K) (up2 (φ := .bf16) Q) = upT fun s t => ∑ l : Fin 128, K s l * Q t l := st0_val K Q

theorem st_pay25_val (K Q : ℕ → ℕ → ℝ) :
    k0_pay25 (F := Ideal) (up2 (φ := .bf16) K) (up2 (φ := .bf16) Q) = upT fun s t => ∑ l : Fin 128, K s l * Q t l := st0_val K Q

theorem st_pay26_val (K Q : ℕ → ℕ → ℝ) :
    k0_pay26 (F := Ideal) (up2 (φ := .bf16) K) (up2 (φ := .bf16) Q) = upT fun s t => ∑ l : Fin 128, K s l * Q t l := st0_val K Q

theorem st_pay27_val (K Q : ℕ → ℕ → ℝ) :
    k0_pay27 (F := Ideal) (up2 (φ := .bf16) K) (up2 (φ := .bf16) Q) = upT fun s t => ∑ l : Fin 128, K s l * Q t l := st0_val K Q

theorem st_pay28_val (K Q : ℕ → ℕ → ℝ) :
    k0_pay28 (F := Ideal) (up2 (φ := .bf16) K) (up2 (φ := .bf16) Q) = upT fun s t => ∑ l : Fin 128, K s l * Q t l := st0_val K Q

theorem st_pay7_val (K Q : ℕ → ℕ → ℝ) :
    k0_pay7 (k0_pay6 (F := Ideal) (up2 (φ := .bf16) K) (up2 (φ := .bf16) Q)) = upT fun s t => ∑ l : Fin 128, K s l * Q t l := st0_val K Q

theorem dv0_val2 (A G M T : ℕ → ℕ → ℝ) :
    k0_pay33 (F := Ideal) (up2 (φ := .f32) A) (k0_pay29 (up2 (φ := .bf16) G)) (upT (φ := .f32) M) (upT (φ := .f32) T) = up2 fun s l => A s l + ∑ t : Fin 512, ((2 : ℝ) ^ (T s t - M 0 t)) * G t l := dv0_val A G M T

theorem dv1_val2 (A G M T : ℕ → ℕ → ℝ) :
    k0_pay174 (F := Ideal) (up2 (φ := .f32) A) (k0_pay29 (up2 (φ := .bf16) G)) (k0_pay30 (upT (φ := .f32) M)) (k0_pay40 (upT (φ := .f32) T)) = up2 fun s l => A s l + ∑ t : Fin 512, ((2 : ℝ) ^ (T s t - M 1 t)) * G t l := dv1_val A G M T

theorem dk0_val2 (A M E Q T U : ℕ → ℕ → ℝ) :
    k0_pay36 (F := Ideal) (up2 (φ := .f32) A) (upT (φ := .f32) M) (upT (φ := .f32) E) (up2 (φ := .bf16) Q) (upT (φ := .f32) T) (upT (φ := .f32) U) = up2 fun s l => A s l + ∑ t : Fin 512, (((2 : ℝ) ^ (T s t - M 0 t)) * (U s t - E 0 t)) * Q t l := dk0_val A M E Q T U

theorem dk1_val2 (A M E Q T U : ℕ → ℕ → ℝ) :
    k0_pay177 (F := Ideal) (up2 (φ := .f32) A) (k0_pay30 (upT (φ := .f32) M)) (k0_pay31 (upT (φ := .f32) E)) (k0_pay39 (up2 (φ := .bf16) Q)) (k0_pay40 (upT (φ := .f32) T)) (upT (φ := .f32) U) = up2 fun s l => A s l + ∑ t : Fin 512, (((2 : ℝ) ^ (T s t - M 1 t)) * (U s t - E 1 t)) * Q t l := dk1_val A M E Q T U

theorem dc0_val2 (A M E T U : ℕ → ℕ → ℝ) :
    k0_pay37 (F := Ideal) (up2 (φ := .f32) A : FVec Ideal S512x1 .f32) (upT (φ := .f32) M) (upT (φ := .f32) E) (upT (φ := .f32) T) (upT (φ := .f32) U) = up2 fun s l => A s l - ∑ t : Fin 512, (((2 : ℝ) ^ (T s t - M 0 t)) * (U s t - E 0 t)) := dc0_val A M E T U

theorem dc1_val2 (A M E T U : ℕ → ℕ → ℝ) :
    k0_pay178 (F := Ideal) (up2 (φ := .f32) A : FVec Ideal S512x1 .f32) (k0_pay30 (upT (φ := .f32) M)) (k0_pay31 (upT (φ := .f32) E)) (k0_pay40 (upT (φ := .f32) T)) (upT (φ := .f32) U) = up2 fun s l => A s l - ∑ t : Fin 512, (((2 : ℝ) ^ (T s t - M 1 t)) * (U s t - E 1 t)) := dc1_val A M E T U

theorem dq_val2 (A K L M E T U T' U' : ℕ → ℕ → ℝ) :
    k0_pay179 (F := Ideal) k0_pay128 (up2 (φ := .bf16) L) (k0_pay30 (upT (φ := .f32) M)) (k0_pay31 (upT (φ := .f32) E)) (k0_pay38 (up2 (φ := .bf16) K) (upT (φ := .f32) M) (upT (φ := .f32) E) (upT (φ := .f32) T) (upT (φ := .f32) U)) (k0_pay40 (upT (φ := .f32) T')) (upT (φ := .f32) U') (up2 (φ := .f32) A) = up2 fun t l => A t l + (if l < 64 then ∑ s : Fin 512, (((2 : ℝ) ^ (T s t - M 0 t)) * (U s t - E 0 t)) * K s l else ∑ s : Fin 512, (((2 : ℝ) ^ (T' s t - M 1 t)) * (U' s t - E 1 t)) * L s l) * (1 / 8) := dq_val A K L M E T U T' U'

/-! ## What one key block's program reads, and what each query tile adds -/

/-- The real numbers behind one grid point's operands: per head the key tile's rows, the value tile's and the query side's,
    the gradient of the output, and the two rows per query tile; `ki` is the key tile's number. -/
structure Wd where
  ki : ℕ
  K : ℕ → ℕ → ℕ → ℝ
  V : ℕ → ℕ → ℕ → ℝ
  Q : ℕ → ℕ → ℕ → ℝ
  G : ℕ → ℕ → ℝ
  M : ℕ → ℕ → ℕ → ℝ
  E : ℕ → ℕ → ℕ → ℝ

namespace Wd
variable (w : Wd)

def ST (h n s t : ℕ) : ℝ := ∑ l : Fin 128, w.K h s l * w.Q h (512 * n + t) l
def DP (h n s t : ℕ) : ℝ := ∑ l : Fin 128, w.V h s l * w.G (512 * n + t) l
def p (h n s t : ℕ) : ℝ := if n = w.ki ∧ ¬ s ≤ t then 0 else (2 : ℝ) ^ (w.ST h n s t - w.M n h t)
def ds (h n s t : ℕ) : ℝ := w.p h n s t * (w.DP h n s t - w.E n h t)
def dvC (h n s l : ℕ) : ℝ := ∑ t : Fin 512, w.p h n s t * w.G (512 * n + t) l
def dkC (h n s l : ℕ) : ℝ := ∑ t : Fin 512, w.ds h n s t * w.Q h (512 * n + t) l
def dcC (h n s : ℕ) : ℝ := ∑ t : Fin 512, w.ds h n s t
def dqC (n t l : ℕ) : ℝ := (if l < 64 then ∑ s : Fin 512, w.ds 0 n s t * w.K 0 s l else ∑ s : Fin 512, w.ds 1 n s t * w.K 1 s l) * (1 / 8)

/-- The sums over the query tiles from the key tile's own to before tile `b`. -/
def dv (h b s l : ℕ) : ℝ := ∑ n ∈ Finset.Ico w.ki b, w.dvC h n s l
def dk (h b s l : ℕ) : ℝ := ∑ n ∈ Finset.Ico w.ki b, w.dkC h n s l
def dc (h b s : ℕ) : ℝ := - ∑ n ∈ Finset.Ico w.ki b, w.dcC h n s
def dq (D : ℕ → ℕ → ℝ) (b r l : ℕ) : ℝ := D r l + ∑ n ∈ Finset.Ico w.ki b, if r / 512 = n then w.dqC n (r % 512) l else 0

theorem p_off {n : ℕ} (h : w.ki < n) (e s t : ℕ) : w.p e n s t = (2 : ℝ) ^ (w.ST e n s t - w.M n e t) :=
  if_neg fun hn => absurd hn.1 (by omega)

theorem dv_succ {b : ℕ} (h : w.ki ≤ b) (e s l : ℕ) : w.dv e (b + 1) s l = w.dv e b s l + w.dvC e b s l := Finset.sum_Ico_succ_top h _
theorem dk_succ {b : ℕ} (h : w.ki ≤ b) (e s l : ℕ) : w.dk e (b + 1) s l = w.dk e b s l + w.dkC e b s l := Finset.sum_Ico_succ_top h _
theorem dc_succ {b : ℕ} (h : w.ki ≤ b) (e s : ℕ) : w.dc e (b + 1) s = w.dc e b s - w.dcC e b s := by
  unfold dc; rw [Finset.sum_Ico_succ_top h]; ring
theorem dq_succ (D : ℕ → ℕ → ℝ) {b : ℕ} (h : w.ki ≤ b) (r l : ℕ) : w.dq D (b + 1) r l = w.dq D b r l + if r / 512 = b then w.dqC b (r % 512) l else 0 := by
  unfold dq; rw [Finset.sum_Ico_succ_top h]; ring

end Wd

/-! ## Reading windows and scratch slots -/

/-- A row operand of a pair: tile, head and place in the tile. -/
def upR {φ : FTy} (f : ℕ → ℕ → ℕ → ℝ) : FVec Ideal S1x16x2x512 φ := fun i => ((f (i 1).val (i 2).val (i 3).val : ℝ) : EReal)

section Views
variable {sp : Space} {s : Shape} {e : EltTy} (v : View sig .tc sp s e) (f : v.ty.Contents (Elt Ideal))

theorem rd_hit {off size : Fin s.rank → ℕ} (inb inb' : ∀ a, off a + size a ≤ s.size a) (x : (Rect.unit off size inb').shape.Idx → Elt Ideal e)
    (L : List (View.Piece (Elt Ideal) s e)) :
    v.readAt (Elt Ideal) (Rect.unit off size inb).toLoadRect (v.writes (Elt Ideal) f ((⟨Rect.unit off size inb', x⟩ : View.Piece (Elt Ideal) s e) :: L)) = x :=
  funext fun y => View.read_writes_cons_unit_of_mem v f inb' x L _ y rfl (fun a => by
    show off a + 1 * (y a).val = off a + (y a).val
    omega)

theorem rd_miss {off size off' size' : Fin s.rank → ℕ} (inb : ∀ a, off a + size a ≤ s.size a) (inb' : ∀ a, off' a + size' a ≤ s.size a)
    (x : (Rect.unit off' size' inb').shape.Idx → Elt Ideal e) (L : List (View.Piece (Elt Ideal) s e)) (a : Fin s.rank) (h : off a + size a ≤ off' a ∨ off' a + size' a ≤ off a) :
    v.readAt (Elt Ideal) (Rect.unit off size inb).toLoadRect (v.writes (Elt Ideal) f ((⟨Rect.unit off' size' inb', x⟩ : View.Piece (Elt Ideal) s e) :: L))
    = v.readAt (Elt Ideal) (Rect.unit off size inb).toLoadRect (v.writes (Elt Ideal) f L) :=
  funext fun y => View.read_writes_cons_unit_of_not_mem v f inb' x L _ rfl a (by
    have hy : (y a).val < size a := (y a).isLt
    show off a + 1 * (y a).val < off' a ∨ off' a + size' a ≤ off a + 1 * (y a).val
    omega)
end Views

theorem rd_tile {sp : Space} (v : View sig .tc sp S8192x128 .bf16) (f : v.ty.Contents (Elt Ideal)) (Q : ℕ → ℕ → ℝ) (h : v.read (Elt Ideal) f = up2 (φ := .bf16) Q)
    {off : Fin 2 → ℕ} (inb : ∀ a, off a + S512x128.size a ≤ S8192x128.size a) (n : ℕ) (ho : off = ![512 * n, 0]) :
    v.readAt (Elt Ideal) (Rect.unit (s := S8192x128) off S512x128.size inb).toLoadRect f = up2 (φ := .bf16) fun t l => Q (512 * n + t) l := by
  subst ho
  funext y
  rw [View.readAt_apply, h]
  show ((Q (512 * n + 1 * (y 0).val) (0 + 1 * (y 1).val) : ℝ) : EReal) = _
  rw [one_mul, one_mul, zero_add]
  rfl

theorem rd_tile32 {sp : Space} (v : View sig .tc sp S8192x128 .f32) (f : v.ty.Contents (Elt Ideal)) (Q : ℕ → ℕ → ℝ) (h : v.read (Elt Ideal) f = up2 (φ := .f32) Q)
    {off : Fin 2 → ℕ} (inb : ∀ a, off a + S512x128.size a ≤ S8192x128.size a) (n : ℕ) (ho : off = ![512 * n, 0]) :
    v.readAt (Elt Ideal) (Rect.unit (s := S8192x128) off S512x128.size inb).toLoadRect f = up2 (φ := .f32) fun t l => Q (512 * n + t) l := by
  subst ho
  funext y
  rw [View.readAt_apply, h]
  show ((Q (512 * n + 1 * (y 0).val) (0 + 1 * (y 1).val) : ℝ) : EReal) = _
  rw [one_mul, one_mul, zero_add]
  rfl

theorem rd_row {sp : Space} (v : View sig .tc sp S1x16x2x512 .f32) (f : v.ty.Contents (Elt Ideal)) (M : ℕ → ℕ → ℕ → ℝ) (h : v.read (Elt Ideal) f = upR (φ := .f32) M)
    {off : Fin 4 → ℕ} (inb : ∀ a, off a + S1x1x2x512.size a ≤ S1x16x2x512.size a) (n : ℕ) (ho : off = ![0, n, 0, 0]) :
    v.readAt (Elt Ideal) (Rect.unit (s := S1x16x2x512) off S1x1x2x512.size inb).toLoadRect f = upT (φ := .f32) (M n) := by
  subst ho
  funext y
  have h1 : (y 1).val = 0 := Nat.lt_one_iff.mp (y 1).isLt
  rw [View.readAt_apply, h]
  show ((M (n + 1 * (y 1).val) (0 + 1 * (y 2).val) (0 + 1 * (y 3).val) : ℝ) : EReal) = _
  rw [h1]
  simp only [one_mul, zero_add, mul_zero, add_zero]
  rfl

/-- Adding `W` to the rows of one tile. -/
theorem wr_tile {sp : Space} (v : View sig .tc sp S8192x128 .f32) (f : v.ty.Contents (Elt Ideal)) (L : List (View.Piece (Elt Ideal) S8192x128 .f32))
    (D W : ℕ → ℕ → ℝ) (h : v.read (Elt Ideal) (v.writes (Elt Ideal) f L) = up2 (φ := .f32) D)
    {off : Fin 2 → ℕ} (inb : ∀ a, off a + S512x128.size a ≤ S8192x128.size a) (n : ℕ) (ho : off = ![512 * n, 0]) :
    v.read (Elt Ideal) (v.writes (Elt Ideal) f (⟨Rect.unit (s := S8192x128) off S512x128.size inb, up2 (φ := .f32) fun t l => D (512 * n + t) l + W t l⟩ :: L))
    = up2 (φ := .f32) fun r l => D r l + if r / 512 = n then W (r % 512) l else 0 := by
  subst ho
  funext y
  by_cases hr : (y 0).val / 512 = n
  · have hm := Nat.div_add_mod (y 0).val 512
    refine (View.read_writes_cons_unit_of_mem v f inb _ L y (show S512x128.Idx from fun a => match a with | 0 => ⟨(y 0).val % 512, Nat.mod_lt _ (by omega)⟩ | 1 => ⟨(y 1).val, (y 1).isLt⟩) rfl ?_).trans ?_
    · intro a
      match a with
      | 0 => show (y 0).val = 512 * n + (y 0).val % 512; omega
      | 1 => show (y 1).val = 0 + (y 1).val; omega
    · show ((D (512 * n + (y 0).val % 512) (y 1).val + W ((y 0).val % 512) (y 1).val : ℝ) : EReal) = ((D (y 0).val (y 1).val + (if (y 0).val / 512 = n then W ((y 0).val % 512) (y 1).val else 0) : ℝ) : EReal)
      rw [if_pos hr, ← hr, hm]
  · refine (View.read_writes_cons_unit_of_not_mem v f inb _ L y rfl 0 ?_).trans ?_
    · show (y 0).val < 512 * n ∨ 512 * n + 512 ≤ (y 0).val
      omega
    · rw [h]
      show ((D (y 0).val (y 1).val : ℝ) : EReal) = ((D (y 0).val (y 1).val + (if (y 0).val / 512 = n then W ((y 0).val % 512) (y 1).val else 0) : ℝ) : EReal)
      rw [if_neg hr, add_zero]

/-- Two tiles' rows written one after the other, each with its own addend. -/
theorem wr_two {sp : Space} (v : View sig .tc sp S8192x128 .f32) (f : v.ty.Contents (Elt Ideal)) (D W W' : ℕ → ℕ → ℝ) (h : v.read (Elt Ideal) f = up2 (φ := .f32) D)
    {off off' : Fin 2 → ℕ} (inb : ∀ a, off a + S512x128.size a ≤ S8192x128.size a) (inb' : ∀ a, off' a + S512x128.size a ≤ S8192x128.size a)
    (n n' : ℕ) (ho : off = ![512 * n, 0]) (ho' : off' = ![512 * n', 0]) (hn : n ≠ n') {x x' : FVec Ideal S512x128 .f32}
    (hx : x = up2 fun t l => D (512 * n + t) l + W t l) (hx' : x' = up2 fun t l => D (512 * n' + t) l + W' t l) :
    v.read (Elt Ideal) (v.writes (Elt Ideal) f [⟨Rect.unit (s := S8192x128) off' S512x128.size inb', x'⟩, ⟨Rect.unit (s := S8192x128) off S512x128.size inb, x⟩])
    = up2 (φ := .f32) fun r l => (D r l + if r / 512 = n then W (r % 512) l else 0) + if r / 512 = n' then W' (r % 512) l else 0 := by
  subst hx hx'
  refine Eq.trans ?_ (wr_tile v f [⟨Rect.unit (s := S8192x128) off S512x128.size inb, up2 (φ := .f32) fun t l => D (512 * n + t) l + W t l⟩]
    (fun r l => D r l + if r / 512 = n then W (r % 512) l else 0) W' (wr_tile v f [] D W h inb n ho) inb' n' ho')
  refine congrArg (fun z => v.read (Elt Ideal) (v.writes (Elt Ideal) f [⟨Rect.unit (s := S8192x128) off' S512x128.size inb', z⟩, ⟨Rect.unit (s := S8192x128) off S512x128.size inb, up2 (φ := .f32) fun t l => D (512 * n + t) l + W t l⟩])) ?_
  funext y
  have hy : (y 0).val < 512 := (y 0).isLt
  show ((D (512 * n' + (y 0).val) (y 1).val + W' (y 0).val (y 1).val : ℝ) : EReal) = ((D (512 * n' + (y 0).val) (y 1).val + (if (512 * n' + (y 0).val) / 512 = n then W ((512 * n' + (y 0).val) % 512) (y 1).val else 0) + W' (y 0).val (y 1).val : ℝ) : EReal)
  rw [if_neg (by omega), add_zero]

end Cert.Proof.Attn
end
-- ==== Proof.Diag.lean ====
/- The tile on the diagonal, and the last selections, on real numbers. -/
module

public import proofs.«01_k».proof.Proof.Tile

@[expose] public section

noncomputable section

namespace Cert.Proof.Attn

open Cert.KernelIdeal Cert.KernelIdeal.Gen
open Idealize.ShloMosaic
open Idealize.ShloMosaic.TcCoe

theorem Wd.p_on (w : Wd) (h s t : ℕ) : w.p h w.ki s t = if s ≤ t then (2 : ℝ) ^ (w.ST h w.ki s t - w.M w.ki h t) else 0 := by
  unfold Wd.p
  by_cases hs : s ≤ t <;> simp [hs]

theorem id129_val (K : ℕ → ℕ → ℝ) : k0_pay129 (F := Ideal) (up2 (φ := .bf16) K) = up2 K := by
  funext j; pointwise [k0_pay129, up2]
theorem id130_val (K : ℕ → ℕ → ℝ) : k0_pay130 (F := Ideal) (up2 (φ := .bf16) K) = up2 K := by
  funext j; pointwise [k0_pay130, up2]
theorem id154_val (K : ℕ → ℕ → ℝ) : k0_pay154 (F := Ideal) (up2 (φ := .bf16) K) = up2 K := by
  funext j; pointwise [k0_pay154, up2]
theorem id164_val (K : ℕ → ℕ → ℝ) : k0_pay164 (F := Ideal) (up2 (φ := .bf16) K) = up2 K := by
  funext j; pointwise [k0_pay164, up2]

theorem dgp0_val (M T : ℕ → ℕ → ℝ) :
    k0_pay157 (F := Ideal) k0_pay135 (k0_pay155 (upT (φ := .f32) M)) (upT (φ := .f32) T) = up2 fun s t => if s ≤ t then (2 : ℝ) ^ (T s t - M 0 t) else 0 := by
  funext j
  pointwise [k0_pay157, k0_pay155, up2, upT]
  rw [diag_apply, select_ite]
  simp only [exp2_real, sub_real, mul_real, coe_sum, add_real, ← EReal.coe_zero, ite_real]

theorem dgp1_val (M T : ℕ → ℕ → ℝ) :
    k0_pay165 (F := Ideal) k0_pay135 (k0_pay155 (upT (φ := .f32) M)) (upT (φ := .f32) T) = up2 fun s t => if s ≤ t then (2 : ℝ) ^ (T s t - M 1 t) else 0 := by
  funext j
  pointwise [k0_pay165, k0_pay155, up2, upT]
  rw [diag_apply, select_ite]
  simp only [exp2_real, sub_real, mul_real, coe_sum, add_real, ← EReal.coe_zero, ite_real]

theorem dgd0_val (M E T U : ℕ → ℕ → ℝ) :
    k0_pay159 (F := Ideal) k0_pay135 (k0_pay155 (upT (φ := .f32) M)) (k0_pay156 (upT (φ := .f32) E)) (upT (φ := .f32) T) (upT (φ := .f32) U) = up2 fun s t => (if s ≤ t then (2 : ℝ) ^ (T s t - M 0 t) else 0) * (U s t - E 0 t) := by
  funext j
  unfold k0_pay159
  rw [dgp0_val]
  pointwise [k0_pay156, up2, upT]
  simp only [exp2_real, sub_real, mul_real, coe_sum, add_real, ite_real]

theorem dgd1_val (P E U : ℕ → ℕ → ℝ) :
    k0_pay168 (F := Ideal) (k0_pay156 (upT (φ := .f32) E)) (up2 (φ := .bf16) P) (upT (φ := .f32) U) = up2 fun s t => P s t * (U s t - E 1 t) := by
  funext j
  pointwise [k0_pay168, k0_pay156, up2, upT]
  simp only [exp2_real, sub_real, mul_real, coe_sum, add_real, ite_real]

theorem dgdb0_val (M E T U : ℕ → ℕ → ℝ) :
    k0_pay160 (F := Ideal) k0_pay135 (k0_pay155 (upT (φ := .f32) M)) (k0_pay156 (upT (φ := .f32) E)) (upT (φ := .f32) T) (upT (φ := .f32) U) = up2 fun s t => (if s ≤ t then (2 : ℝ) ^ (T s t - M 0 t) else 0) * (U s t - E 0 t) := by
  unfold k0_pay160
  rw [dgd0_val]
  funext j
  pointwise [up2]

theorem dgdb1_val (P E U : ℕ → ℕ → ℝ) :
    k0_pay169 (F := Ideal) (k0_pay156 (upT (φ := .f32) E)) (up2 (φ := .bf16) P) (upT (φ := .f32) U) = up2 fun s t => P s t * (U s t - E 1 t) := by
  unfold k0_pay169
  rw [dgd1_val]
  funext j
  pointwise [up2]

section
variable (w : Wd) {g q q1 : FVec Ideal S512x128 .bf16} {m e : FVec Ideal S1x1x2x512 .f32} {s d s1 d1 : FVec Ideal S1x1x512x512 .f32} {b : ℕ} (hb : w.ki = b)
  (hg : g = up2 (φ := .bf16) fun t l => w.G (512 * b + t) l) (hm : m = upT (φ := .f32) (w.M b)) (he : e = upT (φ := .f32) (w.E b))
  (hq : q = up2 (φ := .bf16) fun t l => w.Q 0 (512 * b + t) l) (hq1 : q1 = up2 (φ := .bf16) fun t l => w.Q 1 (512 * b + t) l)
  (hs : s = upT (φ := .f32) (w.ST 0 b)) (hd : d = upT (φ := .f32) (w.DP 0 b)) (hs1 : s1 = upT (φ := .f32) (w.ST 1 b)) (hd1 : d1 = upT (φ := .f32) (w.DP 1 b))

include hb hg hm hs in
theorem dg_dv0 : k0_pay158 (F := Ideal) k0_pay135 k0_pay137 (k0_pay154 g) (k0_pay155 m) s = up2 (w.dvC 0 b) := by
  subst hg hm hs hb
  unfold k0_pay158
  rw [dgp0_val, id154_val]
  funext j
  pointwise [k0_pay137, up2]
  simp only [mul_real, coe_sum, Wd.dvC, Wd.p_on, zero_add]

include hb hg hm hs1 in
theorem dg_dv1 : k0_pay167 (F := Ideal) k0_pay140 (k0_pay166 k0_pay135 (k0_pay154 g) (k0_pay155 m) s1) = up2 (w.dvC 1 b) := by
  subst hg hm hs1 hb
  unfold k0_pay166
  rw [dgp1_val, id154_val]
  funext j
  pointwise [k0_pay167, k0_pay140, up2]
  simp only [mul_real, coe_sum, Wd.dvC, Wd.p_on, zero_add]

include hb hm he hq hs hd in
theorem dg_dk0 : k0_pay161 (F := Ideal) k0_pay135 k0_pay136 (k0_pay155 m) (k0_pay156 e) q s d = up2 (w.dkC 0 b) := by
  subst hm he hq hs hd hb
  unfold k0_pay161
  rw [dgdb0_val]
  funext j
  pointwise [k0_pay136, up2]
  simp only [mul_real, coe_sum, Wd.dkC, Wd.ds, Wd.p_on, zero_add]

include hb hm he hq1 hs1 hd1 in
theorem dg_dk1 : k0_pay170 (F := Ideal) k0_pay139 (k0_pay156 e) (k0_pay164 q1) (k0_pay165 k0_pay135 (k0_pay155 m) s1) d1 = up2 (w.dkC 1 b) := by
  subst hm he hq1 hs1 hd1 hb
  unfold k0_pay170
  rw [dgp1_val, dgdb1_val, id164_val]
  funext j
  pointwise [k0_pay139, up2]
  simp only [mul_real, coe_sum, Wd.dkC, Wd.ds, Wd.p_on, zero_add]

include hb hm he hs hd in
theorem dg_dc0 : k0_pay162 (F := Ideal) k0_pay135 k0_pay138 (k0_pay155 m) (k0_pay156 e) s d = up2 fun s _ => - w.dcC 0 b s := by
  subst hm he hs hd hb
  unfold k0_pay162
  rw [dgd0_val]
  funext j
  pointwise [k0_pay138, up2]
  simp only [mul_real, coe_sum, Wd.dcC, Wd.ds, Wd.p_on, ← EReal.coe_zero, sub_real, zero_sub]

include hb hm he hs1 hd1 in
theorem dg_dc1 : k0_pay171 (F := Ideal) k0_pay141 (k0_pay156 e) (k0_pay165 k0_pay135 (k0_pay155 m) s1) d1 = up2 fun s _ => - w.dcC 1 b s := by
  subst hm he hs1 hd1 hb
  unfold k0_pay171
  rw [dgp1_val, dgd1_val]
  funext j
  pointwise [k0_pay141, up2]
  simp only [mul_real, coe_sum, Wd.dcC, Wd.ds, Wd.p_on, ← EReal.coe_zero, sub_real, zero_sub]

include hb hm he hs hd hs1 hd1 in
theorem dg_dq (D : ℕ → ℕ → ℝ) {a : FVec Ideal S512x128 .f32} (ha : a = up2 (φ := .f32) fun t l => D (512 * b + t) l) :
    k0_pay172 (F := Ideal) k0_pay128 (up2 (φ := .bf16) (w.K 1)) (k0_pay156 e) (k0_pay163 (up2 (φ := .bf16) (w.K 0)) k0_pay135 (k0_pay155 m) (k0_pay156 e) s d) (k0_pay165 k0_pay135 (k0_pay155 m) s1) d1 a
    = up2 fun t l => D (512 * b + t) l + w.dqC b t l := by
  subst hm he hs hd hs1 hd1 hb ha
  unfold k0_pay172 k0_pay163
  rw [dgp1_val, dgdb1_val, dgdb0_val]
  funext j
  pointwise [up2]
  rw [lane_apply, select_ite, eighth_val]
  simp only [mul_real, coe_sum, add_real, ite_real, Wd.dqC, Wd.ds, Wd.p_on, zero_add]
end

theorem fin_dk (A B : ℕ → ℕ → ℝ) : k0_pay199 (F := Ideal) k0_pay128 (up2 (φ := .f32) A) (up2 (φ := .f32) B) = up2 fun s l => (if l < 64 then A s l else B s l) * Real.log 2 := by
  funext j
  pointwise [k0_pay199, up2]
  rw [lane_apply, select_ite, IdealRules.named_const.ideal_named_scalar _ _ _ _ rfl]
  simp only [mul_real, ite_real]

theorem fin_dv (A B : ℕ → ℕ → ℝ) : k0_pay200 (F := Ideal) k0_pay128 (up2 (φ := .f32) A) (up2 (φ := .f32) B) = up2 fun s l => if l < 64 then A s l else B s l := by
  funext j
  pointwise [k0_pay200, up2]
  rw [lane_apply, select_ite, ite_real]

theorem eq02 : ∀ l : Fin 2, Scalar.cmpi .eq (BitVec.ofNat 32 l.val) 0#32 = if l.val = 0 then 1#1 else 0#1 := by decide +kernel

theorem half_apply (j : S512x2.Idx) : k0_pay201 j = if (j 1).val = 0 then 1#1 else 0#1 := by
  refine Eq.trans ?_ (eq02 (j 1))
  pointwise [k0_pay201]
  rfl

/-- The two heads' columns beside each other. -/
def upC {φ : FTy} (f : ℕ → ℕ → ℝ) : FVec Ideal S1x512x2 φ := fun i => ((f (i 1).val (i 2).val : ℝ) : EReal)

theorem fin_dc (A B : ℕ → ℕ → ℝ) : k0_pay1 (F := Ideal) (up2 (φ := .f32) B : FVec Ideal S512x1 .f32) k0_pay201 (k0_pay202 (up2 (φ := .f32) A : FVec Ideal S512x1 .f32)) = upC fun s h => if h = 0 then A s 0 else B s 0 := by
  funext j
  pointwise [k0_pay1, k0_pay202, up2, upC]
  rw [half_apply, select_ite]
  simp only [ite_real]
  rfl

theorem zeros_val : k0_pay127 (F := Ideal) = up2 fun _ _ => 0 := by
  funext j
  pointwise [k0_pay127, up2]
  rfl

end Cert.Proof.Attn
end
-- ==== Proof.TripRead.lean ====
/- What a trip of the main loop leaves, in closed form. -/
module

public import proofs.«01_k».proof.Proof.Trip

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section Trip

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)
  (arg1 : BitVec 32) (v5 : IVec S512x128 1) (v7 v9 v13 v14 : FVec F S512x128 .bf16)
  (v18 : BitVec 32) (v105 v115 : FVec F S512x128 .f32) (v118 : FVec F S512x1 .f32) (v133 v143 : FVec F S512x128 .f32) (v146 : FVec F S512x1 .f32) (v158 : BitVec 32) (v172 : BitVec 1) (v173 : BitVec 32)

  (k : Fin (k0_t1_loop i).trips) (f2 : At (F := F) c arg2) (f3 : At (F := F) c arg3) (f4 : At (F := F) c arg4) (f8 : At (F := F) c arg8) (f9 : At (F := F) c arg9)
    (f10 : At (F := F) c arg10) (f14 : At (F := F) c arg14) (f15 : At (F := F) c arg15)
    (a0 a1 : FVec F S512x128 .f32) (a2 : FVec F S512x1 .f32) (a3 a4 : FVec F S512x128 .f32) (a5 : FVec F S512x1 .f32)

theorem trip_dk0 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.2.2.1.1 = k0_pay36 (k0_pay15 a0 (arg8.view.readAt (Elt F) (Rect.unit (s := S1x16x2x512) (k0_off6 i k) S1x1x2x512.size (k0_off6_inb i k)).toLoadRect f8) (arg9.view.readAt (Elt F) (Rect.unit (s := S1x16x2x512) (k0_off6 i k) S1x1x2x512.size (k0_off6_inb i k)).toLoadRect f9) (arg2.view.readAt (Elt F) (Rect.unit (s := S8192x128) (k0_off5 i k) S512x128.size (k0_off5_inb i k)).toLoadRect f2) (tripRun.sl.v261 c arg14 f14) (tripRun.sl.v271 c arg15 f15)) (arg8.view.readAt (Elt F) (Rect.unit (s := S1x16x2x512) (k0_off7 i k) S1x1x2x512.size (k0_off7_inb i k)).toLoadRect f8) (arg9.view.readAt (Elt F) (Rect.unit (s := S1x16x2x512) (k0_off7 i k) S1x1x2x512.size (k0_off7_inb i k)).toLoadRect f9) (arg2.view.readAt (Elt F) (Rect.unit (s := S8192x128) (k0_off4 i k 1#32) S512x128.size (k0_off4_inb i k 0)).toLoadRect f2) (tripRun.sl.v362 c i arg2 arg3 arg14 v7 v9 k f2 f3) (tripRun.sl.v372 c i arg4 arg15 arg1 v13 v14 k f4 f15) := rfl

theorem trip_dv0 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.2.2.1.2.1 = k0_pay33 (k0_pay12 a1 (arg4.view.readAt (Elt F) (Rect.unit (s := S8192x128) (k0_off5 i k) S512x128.size (k0_off5_inb i k)).toLoadRect f4) (arg8.view.readAt (Elt F) (Rect.unit (s := S1x16x2x512) (k0_off6 i k) S1x1x2x512.size (k0_off6_inb i k)).toLoadRect f8) (tripRun.sl.v261 c arg14 f14)) (k0_pay29 (arg4.view.readAt (Elt F) (Rect.unit (s := S8192x128) (k0_off4 i k 1#32) S512x128.size (k0_off4_inb i k 0)).toLoadRect f4)) (arg8.view.readAt (Elt F) (Rect.unit (s := S1x16x2x512) (k0_off7 i k) S1x1x2x512.size (k0_off7_inb i k)).toLoadRect f8) (tripRun.sl.v362 c i arg2 arg3 arg14 v7 v9 k f2 f3) := rfl

theorem trip_dc0 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.2.2.1.2.2.1 = k0_pay37 (k0_pay16 a2 (arg8.view.readAt (Elt F) (Rect.unit (s := S1x16x2x512) (k0_off6 i k) S1x1x2x512.size (k0_off6_inb i k)).toLoadRect f8) (arg9.view.readAt (Elt F) (Rect.unit (s := S1x16x2x512) (k0_off6 i k) S1x1x2x512.size (k0_off6_inb i k)).toLoadRect f9) (tripRun.sl.v261 c arg14 f14) (tripRun.sl.v271 c arg15 f15)) (arg8.view.readAt (Elt F) (Rect.unit (s := S1x16x2x512) (k0_off7 i k) S1x1x2x512.size (k0_off7_inb i k)).toLoadRect f8) (arg9.view.readAt (Elt F) (Rect.unit (s := S1x16x2x512) (k0_off7 i k) S1x1x2x512.size (k0_off7_inb i k)).toLoadRect f9) (tripRun.sl.v362 c i arg2 arg3 arg14 v7 v9 k f2 f3) (tripRun.sl.v372 c i arg4 arg15 arg1 v13 v14 k f4 f15) := rfl

theorem trip_dk1 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.2.2.1.2.2.2.1 = k0_pay177 (k0_pay21 a3 (k0_pay9 (arg8.view.readAt (Elt F) (Rect.unit (s := S1x16x2x512) (k0_off6 i k) S1x1x2x512.size (k0_off6_inb i k)).toLoadRect f8)) (k0_pay10 (arg9.view.readAt (Elt F) (Rect.unit (s := S1x16x2x512) (k0_off6 i k) S1x1x2x512.size (k0_off6_inb i k)).toLoadRect f9)) (arg3.view.readAt (Elt F) (Rect.unit (s := S8192x128) (k0_off5 i k) S512x128.size (k0_off5_inb i k)).toLoadRect f3) (tripRun.sl.v287 c arg14 f14) (tripRun.sl.v297 c arg15 f15)) (k0_pay30 (arg8.view.readAt (Elt F) (Rect.unit (s := S1x16x2x512) (k0_off7 i k) S1x1x2x512.size (k0_off7_inb i k)).toLoadRect f8)) (k0_pay31 (arg9.view.readAt (Elt F) (Rect.unit (s := S1x16x2x512) (k0_off7 i k) S1x1x2x512.size (k0_off7_inb i k)).toLoadRect f9)) (k0_pay39 (arg3.view.readAt (Elt F) (Rect.unit (s := S8192x128) (k0_off4 i k 1#32) S512x128.size (k0_off4_inb i k 0)).toLoadRect f3)) (k0_pay40 (tripRun.sl.v388 c i arg2 arg3 arg14 v7 v9 k f2 f3)) (tripRun.sl.v398 c i arg4 arg15 arg1 v13 v14 k f4 f15) := rfl

theorem trip_dv1 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.2.2.1.2.2.2.2.1 = k0_pay174 (k0_pay18 a4 (k0_pay8 (arg4.view.readAt (Elt F) (Rect.unit (s := S8192x128) (k0_off5 i k) S512x128.size (k0_off5_inb i k)).toLoadRect f4)) (k0_pay9 (arg8.view.readAt (Elt F) (Rect.unit (s := S1x16x2x512) (k0_off6 i k) S1x1x2x512.size (k0_off6_inb i k)).toLoadRect f8)) (tripRun.sl.v287 c arg14 f14)) (k0_pay29 (arg4.view.readAt (Elt F) (Rect.unit (s := S8192x128) (k0_off4 i k 1#32) S512x128.size (k0_off4_inb i k 0)).toLoadRect f4)) (k0_pay30 (arg8.view.readAt (Elt F) (Rect.unit (s := S1x16x2x512) (k0_off7 i k) S1x1x2x512.size (k0_off7_inb i k)).toLoadRect f8)) (k0_pay40 (tripRun.sl.v388 c i arg2 arg3 arg14 v7 v9 k f2 f3)) := rfl

theorem trip_dc1 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.2.2.1.2.2.2.2.2 = k0_pay178 (k0_pay22 a5 (k0_pay9 (arg8.view.readAt (Elt F) (Rect.unit (s := S1x16x2x512) (k0_off6 i k) S1x1x2x512.size (k0_off6_inb i k)).toLoadRect f8)) (k0_pay10 (arg9.view.readAt (Elt F) (Rect.unit (s := S1x16x2x512) (k0_off6 i k) S1x1x2x512.size (k0_off6_inb i k)).toLoadRect f9)) (tripRun.sl.v287 c arg14 f14) (tripRun.sl.v297 c arg15 f15)) (k0_pay30 (arg8.view.readAt (Elt F) (Rect.unit (s := S1x16x2x512) (k0_off7 i k) S1x1x2x512.size (k0_off7_inb i k)).toLoadRect f8)) (k0_pay31 (arg9.view.readAt (Elt F) (Rect.unit (s := S1x16x2x512) (k0_off7 i k) S1x1x2x512.size (k0_off7_inb i k)).toLoadRect f9)) (k0_pay40 (tripRun.sl.v388 c i arg2 arg3 arg14 v7 v9 k f2 f3)) (tripRun.sl.v398 c i arg4 arg15 arg1 v13 v14 k f4 f15) := rfl

theorem trip_l14 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.1 = tripRun.sl.H14_4 c i arg2 arg3 v7 v9 k f2 f3 := rfl

theorem trip_l15 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).2.2.1 = tripRun.sl.H15_4 c i arg4 arg15 arg1 v13 v14 k f4 f15 := rfl

theorem trip_l10 : (tripRun (F := F) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 k f2 f3 f4 f8 f9 f10 f14 f15 a0 a1 a2 a3 a4 a5).1 = [⟨Rect.unit (s := S8192x128) (k0_off4 i k 1#32) S512x128.size (k0_off4_inb i k 0), k0_pay179 v5 v9 (k0_pay30 (arg8.view.readAt (Elt F) (Rect.unit (s := S1x16x2x512) (k0_off7 i k) S1x1x2x512.size (k0_off7_inb i k)).toLoadRect f8)) (k0_pay31 (arg9.view.readAt (Elt F) (Rect.unit (s := S1x16x2x512) (k0_off7 i k) S1x1x2x512.size (k0_off7_inb i k)).toLoadRect f9)) (k0_pay38 v7 (arg8.view.readAt (Elt F) (Rect.unit (s := S1x16x2x512) (k0_off7 i k) S1x1x2x512.size (k0_off7_inb i k)).toLoadRect f8) (arg9.view.readAt (Elt F) (Rect.unit (s := S1x16x2x512) (k0_off7 i k) S1x1x2x512.size (k0_off7_inb i k)).toLoadRect f9) (tripRun.sl.v362 c i arg2 arg3 arg14 v7 v9 k f2 f3) (tripRun.sl.v372 c i arg4 arg15 arg1 v13 v14 k f4 f15)) (k0_pay40 (tripRun.sl.v388 c i arg2 arg3 arg14 v7 v9 k f2 f3)) (tripRun.sl.v398 c i arg4 arg15 arg1 v13 v14 k f4 f15) (arg10.view.readAt (Elt F) (Rect.unit (s := S8192x128) (k0_off4 i k 1#32) S512x128.size (k0_off4_inb i k 0)).toLoadRect f10)⟩, ⟨Rect.unit (s := S8192x128) (k0_off5 i k) S512x128.size (k0_off5_inb i k), k0_pay23 v5 v7 v9 (k0_pay9 (arg8.view.readAt (Elt F) (Rect.unit (s := S1x16x2x512) (k0_off6 i k) S1x1x2x512.size (k0_off6_inb i k)).toLoadRect f8)) (k0_pay10 (arg9.view.readAt (Elt F) (Rect.unit (s := S1x16x2x512) (k0_off6 i k) S1x1x2x512.size (k0_off6_inb i k)).toLoadRect f9)) (k0_pay14 (arg8.view.readAt (Elt F) (Rect.unit (s := S1x16x2x512) (k0_off6 i k) S1x1x2x512.size (k0_off6_inb i k)).toLoadRect f8) (arg9.view.readAt (Elt F) (Rect.unit (s := S1x16x2x512) (k0_off6 i k) S1x1x2x512.size (k0_off6_inb i k)).toLoadRect f9) (tripRun.sl.v261 c arg14 f14) (tripRun.sl.v271 c arg15 f15)) (constant S512x128 .f32 0x00000000#32) (tripRun.sl.v287 c arg14 f14) (tripRun.sl.v297 c arg15 f15) (arg10.view.readAt (Elt F) (Rect.unit (s := S8192x128) (k0_off5 i k) S512x128.size (k0_off5_inb i k)).toLoadRect f10)⟩] := rfl

end Trip

end Cert.Proof.Attn
-- ==== Proof.ValLoop.lean ====
/- The kernel's main loop over query tiles, two tiles a trip, read over the real numbers. -/
module

public import proofs.«01_k».proof.Proof.Loop
public import proofs.«01_k».proof.Proof.TripRead
public import proofs.«01_k».proof.Proof.Tile

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

section Two
variable (w : Wd) {b b' : ℕ} (hb : w.ki < b) (hb' : w.ki < b') (A K L : ℕ → ℕ → ℝ)
  {g g' q q' : FVec Ideal S512x128 .bf16} {m m' e e' : FVec Ideal S1x1x2x512 .f32} {s s' d d' : FVec Ideal S1x1x512x512 .f32}
  {r r' r2 r2' : FVec Ideal S1x1x512x512 .f32}

include hb hb' in
theorem dv0_two (hg : g = up2 (φ := .bf16) fun t l => w.G (512 * b + t) l) (hg' : g' = up2 (φ := .bf16) fun t l => w.G (512 * b' + t) l) (hm : m = upT (φ := .f32) (w.M b)) (hm' : m' = upT (φ := .f32) (w.M b')) (hs : s = upT (φ := .f32) (w.ST 0 b)) (hs' : s' = upT (φ := .f32) (w.ST 0 b')) :
    k0_pay33 (F := Ideal) (k0_pay12 (up2 (φ := .f32) A) g m s) (k0_pay29 g') m' s' = up2 fun s l => A s l + w.dvC 0 b s l + w.dvC 0 b' s l := by
  subst hg hg' hm hm' hs hs'
  rw [dv0_val, dv0_val2]
  simp only [Wd.dvC, Wd.p_off _ hb, Wd.p_off _ hb']

include hb hb' in
theorem dv1_two (hg : g = up2 (φ := .bf16) fun t l => w.G (512 * b + t) l) (hg' : g' = up2 (φ := .bf16) fun t l => w.G (512 * b' + t) l) (hm : m = upT (φ := .f32) (w.M b)) (hm' : m' = upT (φ := .f32) (w.M b')) (hs : s = upT (φ := .f32) (w.ST 1 b)) (hs' : s' = upT (φ := .f32) (w.ST 1 b')) :
    k0_pay174 (F := Ideal) (k0_pay18 (up2 (φ := .f32) A) (k0_pay8 g) (k0_pay9 m) s) (k0_pay29 g') (k0_pay30 m') (k0_pay40 s') = up2 fun s l => A s l + w.dvC 1 b s l + w.dvC 1 b' s l := by
  subst hg hg' hm hm' hs hs'
  rw [dv1_val, dv1_val2]
  simp only [Wd.dvC, Wd.p_off _ hb, Wd.p_off _ hb']

include hb hb' in
theorem dk0_two (hm : m = upT (φ := .f32) (w.M b)) (hm' : m' = upT (φ := .f32) (w.M b')) (he : e = upT (φ := .f32) (w.E b)) (he' : e' = upT (φ := .f32) (w.E b')) (hq : q = up2 (φ := .bf16) fun t l => w.Q 0 (512 * b + t) l) (hq' : q' = up2 (φ := .bf16) fun t l => w.Q 0 (512 * b' + t) l) (hs : s = upT (φ := .f32) (w.ST 0 b)) (hs' : s' = upT (φ := .f32) (w.ST 0 b')) (hd : d = upT (φ := .f32) (w.DP 0 b)) (hd' : d' = upT (φ := .f32) (w.DP 0 b')) :
    k0_pay36 (F := Ideal) (k0_pay15 (up2 (φ := .f32) A) m e q s d) m' e' q' s' d' = up2 fun s l => A s l + w.dkC 0 b s l + w.dkC 0 b' s l := by
  subst hm hm' he he' hq hq' hs hs' hd hd'
  rw [dk0_val, dk0_val2]
  simp only [Wd.dkC, Wd.ds, Wd.p_off _ hb, Wd.p_off _ hb']

include hb hb' in
theorem dk1_two (hm : m = upT (φ := .f32) (w.M b)) (hm' : m' = upT (φ := .f32) (w.M b')) (he : e = upT (φ := .f32) (w.E b)) (he' : e' = upT (φ := .f32) (w.E b')) (hq : q = up2 (φ := .bf16) fun t l => w.Q 1 (512 * b + t) l) (hq' : q' = up2 (φ := .bf16) fun t l => w.Q 1 (512 * b' + t) l) (hs : s = upT (φ := .f32) (w.ST 1 b)) (hs' : s' = upT (φ := .f32) (w.ST 1 b')) (hd : d = upT (φ := .f32) (w.DP 1 b)) (hd' : d' = upT (φ := .f32) (w.DP 1 b')) :
    k0_pay177 (F := Ideal) (k0_pay21 (up2 (φ := .f32) A) (k0_pay9 m) (k0_pay10 e) q s d) (k0_pay30 m') (k0_pay31 e') (k0_pay39 q') (k0_pay40 s') d' = up2 fun s l => A s l + w.dkC 1 b s l + w.dkC 1 b' s l := by
  subst hm hm' he he' hq hq' hs hs' hd hd'
  rw [dk1_val, dk1_val2]
  simp only [Wd.dkC, Wd.ds, Wd.p_off _ hb, Wd.p_off _ hb']

include hb hb' in
theorem dc0_two (hm : m = upT (φ := .f32) (w.M b)) (hm' : m' = upT (φ := .f32) (w.M b')) (he : e = upT (φ := .f32) (w.E b)) (he' : e' = upT (φ := .f32) (w.E b')) (hs : s = upT (φ := .f32) (w.ST 0 b)) (hs' : s' = upT (φ := .f32) (w.ST 0 b')) (hd : d = upT (φ := .f32) (w.DP 0 b)) (hd' : d' = upT (φ := .f32) (w.DP 0 b')) :
    k0_pay37 (F := Ideal) (k0_pay16 (up2 (φ := .f32) A : FVec Ideal S512x1 .f32) m e s d) m' e' s' d' = up2 fun s l => A s l - w.dcC 0 b s - w.dcC 0 b' s := by
  subst hm hm' he he' hs hs' hd hd'
  rw [dc0_val, dc0_val2]
  simp only [Wd.dcC, Wd.ds, Wd.p_off _ hb, Wd.p_off _ hb']

include hb hb' in
theorem dc1_two (hm : m = upT (φ := .f32) (w.M b)) (hm' : m' = upT (φ := .f32) (w.M b')) (he : e = upT (φ := .f32) (w.E b)) (he' : e' = upT (φ := .f32) (w.E b')) (hs : s = upT (φ := .f32) (w.ST 1 b)) (hs' : s' = upT (φ := .f32) (w.ST 1 b')) (hd : d = upT (φ := .f32) (w.DP 1 b)) (hd' : d' = upT (φ := .f32) (w.DP 1 b')) :
    k0_pay178 (F := Ideal) (k0_pay22 (up2 (φ := .f32) A : FVec Ideal S512x1 .f32) (k0_pay9 m) (k0_pay10 e) s d) (k0_pay30 m') (k0_pay31 e') (k0_pay40 s') d' = up2 fun s l => A s l - w.dcC 1 b s - w.dcC 1 b' s := by
  subst hm hm' he he' hs hs' hd hd'
  rw [dc1_val, dc1_val2]
  simp only [Wd.dcC, Wd.ds, Wd.p_off _ hb, Wd.p_off _ hb']

include hb in
theorem dq_one (D : ℕ → ℕ → ℝ) {a : FVec Ideal S512x128 .f32} (ha : a = up2 (φ := .f32) fun t l => D (512 * b + t) l)
    (hm : m = upT (φ := .f32) (w.M b)) (he : e = upT (φ := .f32) (w.E b)) (hs : s = upT (φ := .f32) (w.ST 0 b)) (hd : d = upT (φ := .f32) (w.DP 0 b)) (hr : r = upT (φ := .f32) (w.ST 1 b)) (hr2 : r2 = upT (φ := .f32) (w.DP 1 b)) :
    k0_pay23 (F := Ideal) k0_pay128 (up2 (φ := .bf16) (w.K 0)) (up2 (φ := .bf16) (w.K 1)) (k0_pay9 m) (k0_pay10 e) (k0_pay14 m e s d) (constant S512x128 .f32 0x00000000#32) r r2 a
    = up2 fun t l => D (512 * b + t) l + w.dqC b t l := by
  subst ha hm he hs hd hr hr2
  rw [dq_val]
  simp only [Wd.dqC, Wd.ds, Wd.p_off _ hb]

include hb in
theorem dq_one' (D : ℕ → ℕ → ℝ) {a : FVec Ideal S512x128 .f32} (ha : a = up2 (φ := .f32) fun t l => D (512 * b + t) l)
    (hm : m = upT (φ := .f32) (w.M b)) (he : e = upT (φ := .f32) (w.E b)) (hs : s = upT (φ := .f32) (w.ST 0 b)) (hd : d = upT (φ := .f32) (w.DP 0 b)) (hr : r = upT (φ := .f32) (w.ST 1 b)) (hr2 : r2 = upT (φ := .f32) (w.DP 1 b)) :
    k0_pay179 (F := Ideal) k0_pay128 (up2 (φ := .bf16) (w.K 1)) (k0_pay30 m) (k0_pay31 e) (k0_pay38 (up2 (φ := .bf16) (w.K 0)) m e s d) (k0_pay40 r) r2 a
    = up2 fun t l => D (512 * b + t) l + w.dqC b t l := dq_one w hb D ha hm he hs hd hr hr2

end Two

section Vals

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)
  (arg1 : BitVec 32)
  (v18 : BitVec 32) (v105 v115 : FVec Ideal S512x128 .f32) (v118 : FVec Ideal S512x1 .f32) (v133 v143 : FVec Ideal S512x128 .f32) (v146 : FVec Ideal S512x1 .f32) (v158 : BitVec 32) (v172 : BitVec 1) (v173 : BitVec 32)

/-- What one trip leaves: the carried sums and the query gradient with two more tiles added, and the tile after those staged. -/
structure TripVal (w : Wd) (b : ℕ) (D : ℕ → ℕ → ℝ) (A0 A1 A2 A3 A4 A5 : ℕ → ℕ → ℝ) (f10 : At (F := Ideal) c arg10) (f14 : At (F := Ideal) c arg14) (f15 : At (F := Ideal) c arg15) (y : Car Ideal) : Prop where
  dk0 : y.1 = up2 A0
  dv0 : y.2.1 = up2 A1
  dc0 : y.2.2.1 = up2 A2
  dk1 : y.2.2.2.1 = up2 A3
  dv1 : y.2.2.2.2.1 = up2 A4
  dc1 : y.2.2.2.2.2 = up2 A5
  dq : arg10.view.read (Elt Ideal) f10 = up2 (φ := .f32) D
  s0 : arg14.view.readAt (Elt Ideal) (Rect.unit (s := S2x2x512x512) ![1, 0, 0, 0] S1x1x512x512.size inb_S2x2x512x512_S1x1x512x512_1_0_0_0).toLoadRect f14 = upT (φ := .f32) (w.ST 0 b)
  s1 : arg14.view.readAt (Elt Ideal) (Rect.unit (s := S2x2x512x512) ![1, 1, 0, 0] S1x1x512x512.size inb_S2x2x512x512_S1x1x512x512_1_1_0_0).toLoadRect f14 = upT (φ := .f32) (w.ST 1 b)
  d0 : arg15.view.readAt (Elt Ideal) (Rect.unit (s := S2x2x512x512) ![1, 0, 0, 0] S1x1x512x512.size inb_S2x2x512x512_S1x1x512x512_1_0_0_0).toLoadRect f15 = upT (φ := .f32) (w.DP 0 b)
  d1 : arg15.view.readAt (Elt Ideal) (Rect.unit (s := S2x2x512x512) ![1, 1, 0, 0] S1x1x512x512.size inb_S2x2x512x512_S1x1x512x512_1_1_0_0).toLoadRect f15 = upT (φ := .f32) (w.DP 1 b)

theorem st14_10 (w : Wd) (k : Fin (k0_t1_loop i).trips) (f2 : At (F := Ideal) c arg2) (f3 : At (F := Ideal) c arg3) (h2 : arg2.view.read (Elt Ideal) f2 = up2 (φ := .bf16) (w.Q 0)) (h3 : arg3.view.read (Elt Ideal) f3 = up2 (φ := .bf16) (w.Q 1)) (g : At (F := Ideal) c arg14) : arg14.view.readAt (Elt Ideal) (Rect.unit (s := S2x2x512x512) ![1, 0, 0, 0] S1x1x512x512.size inb_S2x2x512x512_S1x1x512x512_1_0_0_0).toLoadRect (arg14.view.writes (Elt Ideal) g (tripRun.sl.H14_4 c i arg2 arg3 (up2 (w.K 0)) (up2 (w.K 1)) k f2 f3)) = upT (φ := .f32) (w.ST 0 ((i 1).val + 2 * k.val + 3)) := by
  unfold tripRun.sl.H14_4
  rw [rd_miss _ _ _ _ _ _ 1 (by decide), rd_hit]
  exact (congrArg (fun q => k0_pay25 (F := Ideal) (up2 (w.K 0)) q) (rd_tile arg2.view f2 (w.Q 0) h2 (off := k0_off4 i k 2#32) (k0_off4_inb i k 1) _ (off4_eq' i k))).trans (st_pay25_val _ _)

theorem st14_11 (w : Wd) (k : Fin (k0_t1_loop i).trips) (f2 : At (F := Ideal) c arg2) (f3 : At (F := Ideal) c arg3) (h2 : arg2.view.read (Elt Ideal) f2 = up2 (φ := .bf16) (w.Q 0)) (h3 : arg3.view.read (Elt Ideal) f3 = up2 (φ := .bf16) (w.Q 1)) (g : At (F := Ideal) c arg14) : arg14.view.readAt (Elt Ideal) (Rect.unit (s := S2x2x512x512) ![1, 1, 0, 0] S1x1x512x512.size inb_S2x2x512x512_S1x1x512x512_1_1_0_0).toLoadRect (arg14.view.writes (Elt Ideal) g (tripRun.sl.H14_4 c i arg2 arg3 (up2 (w.K 0)) (up2 (w.K 1)) k f2 f3)) = upT (φ := .f32) (w.ST 1 ((i 1).val + 2 * k.val + 3)) := by
  unfold tripRun.sl.H14_4
  rw [rd_hit]
  exact (congrArg (fun q => k0_pay27 (F := Ideal) (up2 (w.K 1)) q) (rd_tile arg3.view f3 (w.Q 1) h3 (off := k0_off4 i k 2#32) (k0_off4_inb i k 1) _ (off4_eq' i k))).trans (st_pay27_val _ _)

theorem st14_00 (w : Wd) (k : Fin (k0_t1_loop i).trips) (f2 : At (F := Ideal) c arg2) (f3 : At (F := Ideal) c arg3) (h2 : arg2.view.read (Elt Ideal) f2 = up2 (φ := .bf16) (w.Q 0)) (h3 : arg3.view.read (Elt Ideal) f3 = up2 (φ := .bf16) (w.Q 1)) (g : At (F := Ideal) c arg14) : arg14.view.readAt (Elt Ideal) (Rect.unit (s := S2x2x512x512) ![0, 0, 0, 0] S1x1x512x512.size inb_S2x2x512x512_S1x1x512x512_0_0_0_0).toLoadRect (arg14.view.writes (Elt Ideal) g (tripRun.sl.H14_4 c i arg2 arg3 (up2 (w.K 0)) (up2 (w.K 1)) k f2 f3)) = upT (φ := .f32) (w.ST 0 ((i 1).val + 2 * k.val + 2)) := by
  unfold tripRun.sl.H14_4
  rw [rd_miss _ _ _ _ _ _ 0 (by decide), rd_miss _ _ _ _ _ _ 0 (by decide), rd_miss _ _ _ _ _ _ 1 (by decide), rd_hit]
  exact (congrArg (fun q => k0_pay3 (F := Ideal) (up2 (w.K 0)) q) (rd_tile arg2.view f2 (w.Q 0) h2 (off := k0_off4 i k 1#32) (k0_off4_inb i k 0) _ (off4_eq i k))).trans (st0_val _ _)

theorem st14_01 (w : Wd) (k : Fin (k0_t1_loop i).trips) (f2 : At (F := Ideal) c arg2) (f3 : At (F := Ideal) c arg3) (h2 : arg2.view.read (Elt Ideal) f2 = up2 (φ := .bf16) (w.Q 0)) (h3 : arg3.view.read (Elt Ideal) f3 = up2 (φ := .bf16) (w.Q 1)) (g : At (F := Ideal) c arg14) : arg14.view.readAt (Elt Ideal) (Rect.unit (s := S2x2x512x512) ![0, 1, 0, 0] S1x1x512x512.size inb_S2x2x512x512_S1x1x512x512_0_1_0_0).toLoadRect (arg14.view.writes (Elt Ideal) g (tripRun.sl.H14_4 c i arg2 arg3 (up2 (w.K 0)) (up2 (w.K 1)) k f2 f3)) = upT (φ := .f32) (w.ST 1 ((i 1).val + 2 * k.val + 2)) := by
  unfold tripRun.sl.H14_4
  rw [rd_miss _ _ _ _ _ _ 0 (by decide), rd_miss _ _ _ _ _ _ 0 (by decide), rd_hit]
  exact (congrArg (fun q => k0_pay5 (F := Ideal) (up2 (w.K 1)) q) (rd_tile arg3.view f3 (w.Q 1) h3 (off := k0_off4 i k 1#32) (k0_off4_inb i k 0) _ (off4_eq i k))).trans (st_pay5_val _ _)

theorem st15_10 (w : Wd) (k : Fin (k0_t1_loop i).trips) (f4 : At (F := Ideal) c arg4) (f15 : At (F := Ideal) c arg15) (h4 : arg4.view.read (Elt Ideal) f4 = up2 (φ := .bf16) w.G) (g : At (F := Ideal) c arg15) : arg15.view.readAt (Elt Ideal) (Rect.unit (s := S2x2x512x512) ![1, 0, 0, 0] S1x1x512x512.size inb_S2x2x512x512_S1x1x512x512_1_0_0_0).toLoadRect (arg15.view.writes (Elt Ideal) g (tripRun.sl.H15_4 c i arg4 arg15 arg1 (up2 (w.V 0)) (up2 (w.V 1)) k f4 f15)) = upT (φ := .f32) (w.DP 0 ((i 1).val + 2 * k.val + 3)) := by
  unfold tripRun.sl.H15_4
  rw [rd_miss _ _ _ _ _ _ 1 (by decide), rd_hit]
  exact (congrArg (fun q => k0_pay26 (F := Ideal) (up2 (w.V 0)) q) (rd_tile arg4.view f4 w.G h4 (off := k0_off4 i k 2#32) (k0_off4_inb i k 1) _ (off4_eq' i k))).trans (st_pay26_val _ _)

theorem st15_11 (w : Wd) (k : Fin (k0_t1_loop i).trips) (f4 : At (F := Ideal) c arg4) (f15 : At (F := Ideal) c arg15) (h4 : arg4.view.read (Elt Ideal) f4 = up2 (φ := .bf16) w.G) (g : At (F := Ideal) c arg15) : arg15.view.readAt (Elt Ideal) (Rect.unit (s := S2x2x512x512) ![1, 1, 0, 0] S1x1x512x512.size inb_S2x2x512x512_S1x1x512x512_1_1_0_0).toLoadRect (arg15.view.writes (Elt Ideal) g (tripRun.sl.H15_4 c i arg4 arg15 arg1 (up2 (w.V 0)) (up2 (w.V 1)) k f4 f15)) = upT (φ := .f32) (w.DP 1 ((i 1).val + 2 * k.val + 3)) := by
  unfold tripRun.sl.H15_4
  rw [rd_hit]
  exact (congrArg (fun q => k0_pay28 (F := Ideal) (up2 (w.V 1)) q) (rd_tile arg4.view f4 w.G h4 (off := k0_off4 i k 2#32) (k0_off4_inb i k 1) _ (off4_eq' i k))).trans (st_pay28_val _ _)

theorem st15_00 (w : Wd) (k : Fin (k0_t1_loop i).trips) (f4 : At (F := Ideal) c arg4) (f15 : At (F := Ideal) c arg15) (h4 : arg4.view.read (Elt Ideal) f4 = up2 (φ := .bf16) w.G) (g : At (F := Ideal) c arg15) : arg15.view.readAt (Elt Ideal) (Rect.unit (s := S2x2x512x512) ![0, 0, 0, 0] S1x1x512x512.size inb_S2x2x512x512_S1x1x512x512_0_0_0_0).toLoadRect (arg15.view.writes (Elt Ideal) g (tripRun.sl.H15_4 c i arg4 arg15 arg1 (up2 (w.V 0)) (up2 (w.V 1)) k f4 f15)) = upT (φ := .f32) (w.DP 0 ((i 1).val + 2 * k.val + 2)) := by
  unfold tripRun.sl.H15_4
  rw [rd_miss _ _ _ _ _ _ 0 (by decide), rd_miss _ _ _ _ _ _ 0 (by decide), rd_miss _ _ _ _ _ _ 1 (by decide), rd_hit]
  exact (congrArg (fun q => k0_pay4 (F := Ideal) (up2 (w.V 0)) q) (rd_tile arg4.view f4 w.G h4 (off := k0_off4 i k 1#32) (k0_off4_inb i k 0) _ (off4_eq i k))).trans (st_pay4_val _ _)

theorem st15_01 (w : Wd) (k : Fin (k0_t1_loop i).trips) (f4 : At (F := Ideal) c arg4) (f15 : At (F := Ideal) c arg15) (h4 : arg4.view.read (Elt Ideal) f4 = up2 (φ := .bf16) w.G) (g : At (F := Ideal) c arg15) : arg15.view.readAt (Elt Ideal) (Rect.unit (s := S2x2x512x512) ![0, 1, 0, 0] S1x1x512x512.size inb_S2x2x512x512_S1x1x512x512_0_1_0_0).toLoadRect (arg15.view.writes (Elt Ideal) g (tripRun.sl.H15_4 c i arg4 arg15 arg1 (up2 (w.V 0)) (up2 (w.V 1)) k f4 f15)) = upT (φ := .f32) (w.DP 1 ((i 1).val + 2 * k.val + 2)) := by
  unfold tripRun.sl.H15_4
  rw [rd_miss _ _ _ _ _ _ 0 (by decide), rd_miss _ _ _ _ _ _ 0 (by decide), rd_hit]
  exact (congrArg (fun q => k0_pay7 (k0_pay6 (F := Ideal) (up2 (w.V 1)) q)) (rd_tile arg4.view f4 w.G h4 (off := k0_off4 i k 1#32) (k0_off4_inb i k 0) _ (off4_eq i k))).trans (st_pay7_val _ _)

/-- A trip read over the real numbers. -/
theorem trip_val (w : Wd) (k : Fin (k0_t1_loop i).trips) (f2 : At (F := Ideal) c arg2) (f3 : At (F := Ideal) c arg3) (f4 : At (F := Ideal) c arg4) (f8 : At (F := Ideal) c arg8) (f9 : At (F := Ideal) c arg9)
    (f10 : At (F := Ideal) c arg10) (f14 : At (F := Ideal) c arg14) (f15 : At (F := Ideal) c arg15) (D A0 A1 A2 A3 A4 A5 : ℕ → ℕ → ℝ)
    (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
    (h8 : arg8.view.read (Elt Ideal) f8 = upR (φ := .f32) w.M) (h9 : arg9.view.read (Elt Ideal) f9 = upR (φ := .f32) w.E) (hki : w.ki = (i 1).val)
    (h10 : arg10.view.read (Elt Ideal) f10 = up2 (φ := .f32) D)
    (hs0 : arg14.view.readAt (Elt Ideal) (Rect.unit (s := S2x2x512x512) ![1, 0, 0, 0] S1x1x512x512.size inb_S2x2x512x512_S1x1x512x512_1_0_0_0).toLoadRect f14 = upT (φ := .f32) (w.ST 0 ((i 1).val + 2 * k.val + 1)))
    (hs1 : arg14.view.readAt (Elt Ideal) (Rect.unit (s := S2x2x512x512) ![1, 1, 0, 0] S1x1x512x512.size inb_S2x2x512x512_S1x1x512x512_1_1_0_0).toLoadRect f14 = upT (φ := .f32) (w.ST 1 ((i 1).val + 2 * k.val + 1)))
    (hd0 : arg15.view.readAt (Elt Ideal) (Rect.unit (s := S2x2x512x512) ![1, 0, 0, 0] S1x1x512x512.size inb_S2x2x512x512_S1x1x512x512_1_0_0_0).toLoadRect f15 = upT (φ := .f32) (w.DP 0 ((i 1).val + 2 * k.val + 1)))
    (hd1 : arg15.view.readAt (Elt Ideal) (Rect.unit (s := S2x2x512x512) ![1, 1, 0, 0] S1x1x512x512.size inb_S2x2x512x512_S1x1x512x512_1_1_0_0).toLoadRect f15 = upT (φ := .f32) (w.DP 1 ((i 1).val + 2 * k.val + 1))) :
    (let r := tripRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)
    TripVal c arg10 arg14 arg15 w ((i 1).val + 2 * k.val + 3) (fun r l => (D r l + if r / 512 = ((i 1).val + 2 * k.val + 1) then w.dqC ((i 1).val + 2 * k.val + 1) (r % 512) l else 0) + if r / 512 = ((i 1).val + 2 * k.val + 2) then w.dqC ((i 1).val + 2 * k.val + 2) (r % 512) l else 0)
      (fun s l => A0 s l + w.dkC 0 ((i 1).val + 2 * k.val + 1) s l + w.dkC 0 ((i 1).val + 2 * k.val + 2) s l) (fun s l => A1 s l + w.dvC 0 ((i 1).val + 2 * k.val + 1) s l + w.dvC 0 ((i 1).val + 2 * k.val + 2) s l) (fun s l => A2 s l - w.dcC 0 ((i 1).val + 2 * k.val + 1) s - w.dcC 0 ((i 1).val + 2 * k.val + 2) s)
      (fun s l => A3 s l + w.dkC 1 ((i 1).val + 2 * k.val + 1) s l + w.dkC 1 ((i 1).val + 2 * k.val + 2) s l) (fun s l => A4 s l + w.dvC 1 ((i 1).val + 2 * k.val + 1) s l + w.dvC 1 ((i 1).val + 2 * k.val + 2) s l) (fun s l => A5 s l - w.dcC 1 ((i 1).val + 2 * k.val + 1) s - w.dcC 1 ((i 1).val + 2 * k.val + 2) s)
      (arg10.view.writes (Elt Ideal) f10 r.1) (arg14.view.writes (Elt Ideal) f14 r.2.1) (arg15.view.writes (Elt Ideal) f15 r.2.2.1) r.2.2.2.1) := by
  have hb : w.ki < ((i 1).val + 2 * k.val + 1) := by omega
  have hb' : w.ki < ((i 1).val + 2 * k.val + 2) := by omega
  have q0 := rd_tile arg2.view f2 (w.Q 0) h2 (k0_off5_inb i k) _ (off5_eq i k)
  have q0' := rd_tile arg2.view f2 (w.Q 0) h2 (off := k0_off4 i k 1#32) (k0_off4_inb i k 0) _ (off4_eq i k)
  have q1 := rd_tile arg3.view f3 (w.Q 1) h3 (k0_off5_inb i k) _ (off5_eq i k)
  have q1' := rd_tile arg3.view f3 (w.Q 1) h3 (off := k0_off4 i k 1#32) (k0_off4_inb i k 0) _ (off4_eq i k)
  have g := rd_tile arg4.view f4 w.G h4 (k0_off5_inb i k) _ (off5_eq i k)
  have g' := rd_tile arg4.view f4 w.G h4 (off := k0_off4 i k 1#32) (k0_off4_inb i k 0) _ (off4_eq i k)
  have m := rd_row arg8.view f8 w.M h8 (k0_off6_inb i k) _ (off6_eq i k)
  have m' := rd_row arg8.view f8 w.M h8 (k0_off7_inb i k) _ (off7_eq i k)
  have e := rd_row arg9.view f9 w.E h9 (k0_off6_inb i k) _ (off6_eq i k)
  have e' := rd_row arg9.view f9 w.E h9 (k0_off7_inb i k) _ (off7_eq i k)
  have a := rd_tile32 arg10.view f10 D h10 (k0_off5_inb i k) _ (off5_eq i k)
  have a' := rd_tile32 arg10.view f10 D h10 (off := k0_off4 i k 1#32) (k0_off4_inb i k 0) _ (off4_eq i k)
  have s0' : tripRun.sl.v362 c i arg2 arg3 arg14 (up2 (w.K 0)) (up2 (w.K 1)) k f2 f3 = upT (φ := .f32) (w.ST 0 ((i 1).val + 2 * k.val + 2)) := st14_00 c i arg2 arg3 arg14 w k f2 f3 h2 h3 arg14.view.junk
  have s1' : tripRun.sl.v388 c i arg2 arg3 arg14 (up2 (w.K 0)) (up2 (w.K 1)) k f2 f3 = upT (φ := .f32) (w.ST 1 ((i 1).val + 2 * k.val + 2)) := st14_01 c i arg2 arg3 arg14 w k f2 f3 h2 h3 arg14.view.junk
  have d0' : tripRun.sl.v372 c i arg4 arg15 arg1 (up2 (w.V 0)) (up2 (w.V 1)) k f4 f15 = upT (φ := .f32) (w.DP 0 ((i 1).val + 2 * k.val + 2)) := st15_00 c i arg4 arg15 arg1 w k f4 f15 h4 arg15.view.junk
  have d1' : tripRun.sl.v398 c i arg4 arg15 arg1 (up2 (w.V 0)) (up2 (w.V 1)) k f4 f15 = upT (φ := .f32) (w.DP 1 ((i 1).val + 2 * k.val + 2)) := st15_01 c i arg4 arg15 arg1 w k f4 f15 h4 arg15.view.junk
  refine ⟨?_, ?_, ?_, ?_, ?_, ?_, ?_, ?_, ?_, ?_, ?_⟩
  · refine (trip_dk0 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)).trans ?_
    exact dk0_two w hb hb' A0 m m' e e' q0 q0' hs0 s0' hd0 d0'
  · refine (trip_dv0 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)).trans ?_
    exact dv0_two w hb hb' A1 g g' m m' hs0 s0'
  · refine (trip_dc0 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)).trans ?_
    exact dc0_two w hb hb' A2 m m' e e' hs0 s0' hd0 d0'
  · refine (trip_dk1 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)).trans ?_
    exact dk1_two w hb hb' A3 m m' e e' q1 q1' hs1 s1' hd1 d1'
  · refine (trip_dv1 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)).trans ?_
    exact dv1_two w hb hb' A4 g g' m m' hs1 s1'
  · refine (trip_dc1 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)).trans ?_
    exact dc1_two w hb hb' A5 m m' e e' hs1 s1' hd1 d1'
  · have x := dq_one w hb D a m e hs0 hd0 hs1 hd1
    have x' := dq_one' w hb' D a' m' e' s0' d0' s1' d1'
    rw [trip_l10 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)]
    exact wr_two arg10.view f10 D (w.dqC ((i 1).val + 2 * k.val + 1)) (w.dqC ((i 1).val + 2 * k.val + 2)) h10 (k0_off5_inb i k) (k0_off4_inb i k 0) _ _ (off5_eq i k) (off4_eq i k) (by omega) x x'
  · rw [trip_l14 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)]
    exact st14_10 c i arg2 arg3 arg14 w k f2 f3 h2 h3 f14
  · rw [trip_l14 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)]
    exact st14_11 c i arg2 arg3 arg14 w k f2 f3 h2 h3 f14
  · rw [trip_l15 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)]
    exact st15_10 c i arg4 arg15 arg1 w k f4 f15 h4 f15
  · rw [trip_l15 c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 k f2 f3 f4 f8 f9 f10 f14 f15 (up2 A0) (up2 A1) (up2 A2) (up2 A3) (up2 A4) (up2 A5)]
    exact st15_11 c i arg4 arg15 arg1 w k f4 f15 h4 f15

/-- The state before trip `k` of the main loop holds the sums over the tiles before it. -/
theorem loop_val (w : Wd) (f2 : At (F := Ideal) c arg2) (f3 : At (F := Ideal) c arg3) (f4 : At (F := Ideal) c arg4) (f8 : At (F := Ideal) c arg8) (f9 : At (F := Ideal) c arg9)
    (f10 : At (F := Ideal) c arg10) (f14 : At (F := Ideal) c arg14) (f15 : At (F := Ideal) c arg15) (car : Car Ideal) (D : ℕ → ℕ → ℝ)
    (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
    (h8 : arg8.view.read (Elt Ideal) f8 = upR (φ := .f32) w.M) (h9 : arg9.view.read (Elt Ideal) f9 = upR (φ := .f32) w.E) (hki : w.ki = (i 1).val)
    (h0 : TripVal c arg10 arg14 arg15 w ((i 1).val + 2 * 0 + 1) (w.dq D ((i 1).val + 2 * 0 + 1)) (w.dk 0 ((i 1).val + 2 * 0 + 1)) (w.dv 0 ((i 1).val + 2 * 0 + 1)) (fun s _ => w.dc 0 ((i 1).val + 2 * 0 + 1) s) (w.dk 1 ((i 1).val + 2 * 0 + 1)) (w.dv 1 ((i 1).val + 2 * 0 + 1)) (fun s _ => w.dc 1 ((i 1).val + 2 * 0 + 1) s) f10 f14 f15 car) (k : ℕ) (hk : k ≤ (k0_t1_loop i).trips) :
    (let s := loopSt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 f2 f3 f4 f8 f9 (f10, f14, f15, car) k
     TripVal c arg10 arg14 arg15 w ((i 1).val + 2 * k + 1) (w.dq D ((i 1).val + 2 * k + 1)) (w.dk 0 ((i 1).val + 2 * k + 1)) (w.dv 0 ((i 1).val + 2 * k + 1)) (fun s _ => w.dc 0 ((i 1).val + 2 * k + 1) s) (w.dk 1 ((i 1).val + 2 * k + 1)) (w.dv 1 ((i 1).val + 2 * k + 1)) (fun s _ => w.dc 1 ((i 1).val + 2 * k + 1) s) s.1 s.2.1 s.2.2.1 s.2.2.2) := by
  induction k with
  | zero => exact h0
  | succ k ih =>
    have ih := ih (by omega)
    rw [loopSt_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 f2 f3 f4 f8 f9 (f10, f14, f15, car) ⟨k, hk⟩]
    dsimp only at ih ⊢
    generalize loopSt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg1 k0_pay128 (up2 (w.K 0)) (up2 (w.K 1)) (up2 (w.V 0)) (up2 (w.V 1)) v18 v105 v115 v118 v133 v143 v146 v158 v172 v173 f2 f3 f4 f8 f9 (f10, f14, f15, car) k = p at ih ⊢
    obtain ⟨p10, p14, p15, b0, b1, b2, b3, b4, b5⟩ := p
    obtain ⟨e0, e1, e2, e3, e4, e5, e6, e7, e8, e9, e10⟩ := ih
    dsimp only at e0 e1 e2 e3 e4 e5 e6 e7 e8 e9 e10 ⊢
    subst e0 e1 e2 e3 e4 e5
    have t := trip_val c i arg2 harg2 arg3 harg3 arg4 harg4 arg5 harg5 arg6 harg6 arg7 harg7 arg8 harg8 arg9 harg9 arg10 harg10 arg11 harg11 arg12 harg12 arg13 harg13 arg14 harg14 arg15 harg15 arg1 v18 v105 v115 v118 v133 v143 v146 v158 v172 v173 w ⟨k, hk⟩ f2 f3 f4 f8 f9 p10 p14 p15 (w.dq D ((i 1).val + 2 * k + 1)) (w.dk 0 ((i 1).val + 2 * k + 1)) (w.dv 0 ((i 1).val + 2 * k + 1)) (fun s _ => w.dc 0 ((i 1).val + 2 * k + 1) s) (w.dk 1 ((i 1).val + 2 * k + 1)) (w.dv 1 ((i 1).val + 2 * k + 1)) (fun s _ => w.dc 1 ((i 1).val + 2 * k + 1) s) h2 h3 h4 h8 h9 hki e6 e7 e8 e9 e10
    have l1 : w.ki ≤ (i 1).val + 2 * k + 1 := by omega
    have l2 : w.ki ≤ (i 1).val + 2 * k + 2 := by omega
    have e : (i 1).val + 2 * (k + 1) + 1 = (i 1).val + 2 * k + 1 + 1 + 1 := by omega
    rw [e]
    have u : ∀ h, w.dk h ((i 1).val + 2 * k + 1 + 1 + 1) = fun s l => w.dk h ((i 1).val + 2 * k + 1) s l + w.dkC h ((i 1).val + 2 * k + 1) s l + w.dkC h ((i 1).val + 2 * k + 2) s l :=
      fun h => by funext s l; rw [w.dk_succ (b := (i 1).val + 2 * k + 1 + 1) l2, w.dk_succ l1]
    have u' : ∀ h, w.dv h ((i 1).val + 2 * k + 1 + 1 + 1) = fun s l => w.dv h ((i 1).val + 2 * k + 1) s l + w.dvC h ((i 1).val + 2 * k + 1) s l + w.dvC h ((i 1).val + 2 * k + 2) s l :=
      fun h => by funext s l; rw [w.dv_succ (b := (i 1).val + 2 * k + 1 + 1) l2, w.dv_succ l1]
    have u'' : ∀ h, (fun s (_ : ℕ) => w.dc h ((i 1).val + 2 * k + 1 + 1 + 1) s) = fun s _ => w.dc h ((i 1).val + 2 * k + 1) s - w.dcC h ((i 1).val + 2 * k + 1) s - w.dcC h ((i 1).val + 2 * k + 2) s :=
      fun h => by funext s l; rw [w.dc_succ (b := (i 1).val + 2 * k + 1 + 1) l2, w.dc_succ l1]
    have q : w.dq D ((i 1).val + 2 * k + 1 + 1 + 1) = fun r l => (w.dq D ((i 1).val + 2 * k + 1) r l + if r / 512 = (i 1).val + 2 * k + 1 then w.dqC ((i 1).val + 2 * k + 1) (r % 512) l else 0) + if r / 512 = (i 1).val + 2 * k + 2 then w.dqC ((i 1).val + 2 * k + 2) (r % 512) l else 0 := by
      funext r l; rw [w.dq_succ D (b := (i 1).val + 2 * k + 1 + 1) l2, w.dq_succ D l1]
    rw [u, u, u', u', u'', u'', q]
    exact t

end Vals
end Cert.Proof.Attn
-- ==== Proof.ValStep.lean ====
/- Single query tiles, whole windows, and the loop from any equal operands. -/
module

public import proofs.«01_k».proof.Proof.Diag
public import proofs.«01_k».proof.Proof.ValLoop

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

theorem off1_eq : ∀ i : grid0.Coords, k0_off1 i = ![512 * (i 1).val, 0] := by decide +kernel
theorem off3_eq : ∀ i : grid0.Coords, k0_off3 i = ![0, (i 1).val, 0, 0] := by decide +kernel
theorem at1 {i : grid0.Coords} {n : ℕ} (h : n = (i 1).val) : k0_off1 i = ![512 * n, 0] := (off1_eq i).trans (by rw [h])
theorem at3 {i : grid0.Coords} {n : ℕ} (h : n = (i 1).val) : k0_off3 i = ![0, n, 0, 0] := (off3_eq i).trans (by rw [h])

theorem rd_win {sp : Space} (v : View sig .tc sp S512x128 .bf16) (f : v.ty.Contents (Elt Ideal)) (K : ℕ → ℕ → ℝ) (h : v.read (Elt Ideal) f = up2 (φ := .bf16) K)
    (inb : ∀ a, (![0, 0] : Fin 2 → ℕ) a + S512x128.size a ≤ S512x128.size a) :
    v.readAt (Elt Ideal) (Rect.unit (s := S512x128) ![0, 0] S512x128.size inb).toLoadRect f = up2 (φ := .bf16) K := by
  funext y
  rw [View.readAt_apply, h]
  show ((K (0 + 1 * (y 0).val) (0 + 1 * (y 1).val) : ℝ) : EReal) = _
  rw [one_mul, one_mul, zero_add, zero_add]
  rfl

/-- A write of the whole of a view leaves what is written. -/
theorem wr_all {sp : Space} {s : Shape} {e : EltTy} (v : View sig .tc sp s e) (f : v.ty.Contents (Elt Ideal)) {off : Fin s.rank → ℕ} (h0 : ∀ a, off a = 0)
    (inb : ∀ a, off a + s.size a ≤ s.size a) (x : s.Idx → Elt Ideal e) :
    v.read (Elt Ideal) (v.writes (Elt Ideal) f [(⟨Rect.unit off s.size inb, x⟩ : View.Piece (Elt Ideal) s e)]) = x :=
  funext fun y => View.read_writes_cons_unit_of_mem v f inb x [] y y rfl (fun a => by rw [h0, zero_add])

theorem z2 : ∀ a : Fin 2, (![0, 0] : Fin 2 → ℕ) a = 0 := by decide
theorem z3 : ∀ a : Fin 3, (![0, 0, 0] : Fin 3 → ℕ) a = 0 := by decide

namespace Wd
variable (w : Wd)
theorem dk_one (h s l : ℕ) : w.dk h (w.ki + 1) s l = w.dkC h w.ki s l := by rw [w.dk_succ le_rfl, dk, Finset.Ico_self, Finset.sum_empty, zero_add]
theorem dv_one (h s l : ℕ) : w.dv h (w.ki + 1) s l = w.dvC h w.ki s l := by rw [w.dv_succ le_rfl, dv, Finset.Ico_self, Finset.sum_empty, zero_add]
theorem dc_one (h s : ℕ) : w.dc h (w.ki + 1) s = - w.dcC h w.ki s := by rw [w.dc_succ le_rfl, dc, Finset.Ico_self, Finset.sum_empty, neg_zero, zero_sub]
theorem dq_base (D : ℕ → ℕ → ℝ) (r l : ℕ) : w.dq D (w.ki + 1) r l = D r l + if r / 512 = w.ki then w.dqC w.ki (r % 512) l else 0 := by
  rw [w.dq_succ D le_rfl, dq, Finset.Ico_self, Finset.sum_empty, add_zero]
end Wd

section
variable (w : Wd) {b : ℕ} (hb : w.ki < b) (A : ℕ → ℕ → ℝ)
  {g q q1 : FVec Ideal S512x128 .bf16} {m e : FVec Ideal S1x1x2x512 .f32} {s d s1 d1 : FVec Ideal S1x1x512x512 .f32}
  (hg : g = up2 (φ := .bf16) fun t l => w.G (512 * b + t) l) (hm : m = upT (φ := .f32) (w.M b)) (he : e = upT (φ := .f32) (w.E b))
  (hq : q = up2 (φ := .bf16) fun t l => w.Q 0 (512 * b + t) l) (hq1 : q1 = up2 (φ := .bf16) fun t l => w.Q 1 (512 * b + t) l)
  (hs : s = upT (φ := .f32) (w.ST 0 b)) (hd : d = upT (φ := .f32) (w.DP 0 b)) (hs1 : s1 = upT (φ := .f32) (w.ST 1 b)) (hd1 : d1 = upT (φ := .f32) (w.DP 1 b))
include hb hg hm hs in
theorem dv0_one : k0_pay12 (F := Ideal) (up2 (φ := .f32) A) g m s = up2 fun s l => A s l + w.dvC 0 b s l := by
  subst hg hm hs; rw [dv0_val]; simp only [Wd.dvC, Wd.p_off _ hb]
include hb hg hm hs1 in
theorem dv1_one : k0_pay18 (F := Ideal) (up2 (φ := .f32) A) (k0_pay8 g) (k0_pay9 m) s1 = up2 fun s l => A s l + w.dvC 1 b s l := by
  subst hg hm hs1; rw [dv1_val]; simp only [Wd.dvC, Wd.p_off _ hb]
include hb hq hm he hs hd in
theorem dk0_one : k0_pay15 (F := Ideal) (up2 (φ := .f32) A) m e q s d = up2 fun s l => A s l + w.dkC 0 b s l := by
  subst hq hm he hs hd; rw [dk0_val]; simp only [Wd.dkC, Wd.ds, Wd.p_off _ hb]
include hb hq1 hm he hs1 hd1 in
theorem dk1_one : k0_pay21 (F := Ideal) (up2 (φ := .f32) A) (k0_pay9 m) (k0_pay10 e) q1 s1 d1 = up2 fun s l => A s l + w.dkC 1 b s l := by
  subst hq1 hm he hs1 hd1; rw [dk1_val]; simp only [Wd.dkC, Wd.ds, Wd.p_off _ hb]
include hb hm he hs hd in
theorem dc0_one : k0_pay16 (F := Ideal) (up2 (φ := .f32) A : FVec Ideal S512x1 .f32) m e s d = up2 fun s l => A s l - w.dcC 0 b s := by
  subst hm he hs hd; rw [dc0_val]; simp only [Wd.dcC, Wd.ds, Wd.p_off _ hb]
include hb hm he hs1 hd1 in
theorem dc1_one : k0_pay22 (F := Ideal) (up2 (φ := .f32) A : FVec Ideal S512x1 .f32) (k0_pay9 m) (k0_pay10 e) s1 d1 = up2 fun s l => A s l - w.dcC 1 b s := by
  subst hm he hs1 hd1; rw [dc1_val]; simp only [Wd.dcC, Wd.ds, Wd.p_off _ hb]
end

section
variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

/-- The loop's state, from operands that equal the tile's. -/
theorem loop_val' (arg1 v18 : BitVec 32) (v105 v115 : FVec Ideal S512x128 .f32) (v118 : FVec Ideal S512x1 .f32) (v133 v143 : FVec Ideal S512x128 .f32) (v146 : FVec Ideal S512x1 .f32) (v158 : BitVec 32) (v172 : BitVec 1) (v173 : BitVec 32)
    (v5 : IVec S512x128 1) (v7 v9 v13 v14 : FVec Ideal S512x128 .bf16) (w : Wd) (f2 : At (F := Ideal) c arg2) (f3 : At (F := Ideal) c arg3) (f4 : At (F := Ideal) c arg4) (f8 : At (F := Ideal) c arg8) (f9 : At (F := Ideal) c arg9)
    (f10 : At (F := Ideal) c arg10) (f14 : At (F := Ideal) c arg14) (f15 : At (F := Ideal) c arg15) (car : Car Ideal) (D : ℕ → ℕ → ℝ)
    (e5 : v5 = k0_pay128) (e7 : v7 = up2 (w.K 0)) (e9 : v9 = up2 (w.K 1)) (e13 : v13 = up2 (w.V 0)) (e14 : v14 = up2 (w.V 1))
    (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
    (h8 : arg8.view.read (Elt Ideal) f8 = upR (φ := .f32) w.M) (h9 : arg9.view.read (Elt Ideal) f9 = upR (φ := .f32) w.E) (hki : w.ki = (i 1).val)
    (h0 : TripVal c arg10 arg14 arg15 w (w.ki + 1) (w.dq D (w.ki + 1)) (w.dk 0 (w.ki + 1)) (w.dv 0 (w.ki + 1)) (fun s _ => w.dc 0 (w.ki + 1) s) (w.dk 1 (w.ki + 1)) (w.dv 1 (w.ki + 1)) (fun s _ => w.dc 1 (w.ki + 1) s) f10 f14 f15 car)
    (b : ℕ) (hb : b = w.ki + 2 * (k0_t1_loop i).trips + 1) :
    (let s := loopSt (F := Ideal) c i arg2 harg2 arg3 harg3 arg4 harg4 arg5 harg5 arg6 harg6 arg7 harg7 arg8 harg8 arg9 harg9 arg10 harg10 arg11 harg11 arg12 harg12 arg13 harg13 arg14 harg14 arg15 harg15 arg1 v5 v7 v9 v13 v14 v18 v105 v115 v118 v133 v143 v146 v158 v172 v173 f2 f3 f4 f8 f9 (f10, f14, f15, car) (k0_t1_loop i).trips
     TripVal c arg10 arg14 arg15 w b (w.dq D b) (w.dk 0 b) (w.dv 0 b) (fun s _ => w.dc 0 b s) (w.dk 1 b) (w.dv 1 b) (fun s _ => w.dc 1 b s) s.1 s.2.1 s.2.2.1 s.2.2.2) := by
  subst e5 e7 e9 e13 e14 hb
  rw [hki] at h0 ⊢
  exact loop_val c i arg2 harg2 arg3 harg3 arg4 harg4 arg5 harg5 arg6 harg6 arg7 harg7 arg8 harg8 arg9 harg9 arg10 harg10 arg11 harg11 arg12 harg12 arg13 harg13 arg14 harg14 arg15 harg15 arg1 v18 v105 v115 v118 v133 v143 v146 v158 v172 v173 w f2 f3 f4 f8 f9 f10 f14 f15 car D h2 h3 h4 h8 h9 hki h0 _ le_rfl

/-- What a grid point leaves in its four results. -/
structure PointVal (w : Wd) (D : ℕ → ℕ → ℝ) (g10 : At (F := Ideal) c arg10) (g11 : At (F := Ideal) c arg11) (g12 : At (F := Ideal) c arg12) (g13 : At (F := Ideal) c arg13) : Prop where
  dq : arg10.view.read (Elt Ideal) g10 = up2 (φ := .f32) (w.dq D 16)
  dk : arg11.view.read (Elt Ideal) g11 = up2 (φ := .f32) fun s l => (if l < 64 then w.dk 0 16 s l else w.dk 1 16 s l) * Real.log 2
  dv : arg12.view.read (Elt Ideal) g12 = up2 (φ := .f32) fun s l => if l < 64 then w.dv 0 16 s l else w.dv 1 16 s l
  dc : arg13.view.read (Elt Ideal) g13 = upC (φ := .f32) fun s h => if h = 0 then w.dc 0 16 s else w.dc 1 16 s
end

end Cert.Proof.Attn
end
-- ==== Proof.PointLast.lean ====
/- What one kind of grid point leaves, value by value. -/
module

public import proofs.«01_k».proof.Proof.Body

@[expose] public section

set_option maxHeartbeats 1000000

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15)

/-- Everything the loop leaves. -/
def midLast : St (F := F) c arg10 arg14 arg15 :=
  loopSt c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (cmpi CmpIPredicate.slt runLast.sl.v3 runLast.sl.v4) (runLast.sl.v7 c arg5 f5) (runLast.sl.v9 c arg6 f6) (runLast.sl.v13 c arg7 f7) (runLast.sl.v14 c arg7 f7) (runLast.sl.v18 i) (runLast.sl.v105 c i arg2 arg3 arg4 arg5 arg6 arg8 arg14 f2 f3 f4 f5 f6 f8) (runLast.sl.v115 c i arg2 arg3 arg4 arg5 arg6 arg7 arg8 arg9 arg14 arg15 f2 f3 f4 f5 f6 f7 f8 f9) (runLast.sl.v118 c i arg2 arg3 arg4 arg5 arg6 arg7 arg8 arg9 arg14 arg15 f2 f3 f4 f5 f6 f7 f8 f9) (runLast.sl.v133 c i arg2 arg3 arg4 arg5 arg6 arg8 arg14 f2 f3 f4 f5 f6 f8) (runLast.sl.v143 c i arg2 arg3 arg4 arg5 arg6 arg7 arg8 arg9 arg14 arg15 f2 f3 f4 f5 f6 f7 f8 f9) (runLast.sl.v146 c i arg2 arg3 arg4 arg5 arg6 arg7 arg8 arg9 arg14 arg15 f2 f3 f4 f5 f6 f7 f8 f9) (runLast.sl.v158 i) (runLast.sl.v172 i) (runLast.sl.v173 i) f2 f3 f4 f8 f9 (View.write (Elt F) (arg10.view.slice (Rect.unit (s := S8192x128) (k0_off1 i) S512x128.size (k0_off1_inb i))) (arg10.view.writes (Elt F) f10 []) (runLast.sl.v154 c i arg2 arg3 arg4 arg5 arg6 arg7 arg8 arg9 arg10 arg14 arg15 f2 f3 f4 f5 f6 f7 f8 f9 f10) Finset.univ, View.write (Elt F) (arg14.view.slice (Rect.unit (s := S2x2x512x512) ![1, 1, 0, 0] S1x1x512x512.size inb_S2x2x512x512_S1x1x512x512_1_1_0_0)) (arg14.view.writes (Elt F) arg14.view.junk (⟨Rect.unit (s := S2x2x512x512) ![1, 0, 0, 0] S1x1x512x512.size inb_S2x2x512x512_S1x1x512x512_1_0_0_0, runLast.sl.v65 c i arg2 arg5 f2 f5⟩ :: runLast.sl.H14_2 c i arg2 arg3 arg5 arg6 f2 f3 f5 f6)) (runLast.sl.v76 c i arg3 arg6 f3 f6) Finset.univ, View.write (Elt F) (arg15.view.slice (Rect.unit (s := S2x2x512x512) ![1, 1, 0, 0] S1x1x512x512.size inb_S2x2x512x512_S1x1x512x512_1_1_0_0)) (arg15.view.writes (Elt F) arg15.view.junk (⟨Rect.unit (s := S2x2x512x512) ![1, 0, 0, 0] S1x1x512x512.size inb_S2x2x512x512_S1x1x512x512_1_0_0_0, runLast.sl.v69 c i arg4 arg7 f4 f7⟩ :: runLast.sl.H15_2 c i arg4 arg7 f4 f7)) (runLast.sl.v80 c i arg4 arg7 f4 f7) Finset.univ, runLast.sl.v115 c i arg2 arg3 arg4 arg5 arg6 arg7 arg8 arg9 arg14 arg15 f2 f3 f4 f5 f6 f7 f8 f9, runLast.sl.v105 c i arg2 arg3 arg4 arg5 arg6 arg8 arg14 f2 f3 f4 f5 f6 f8, runLast.sl.v118 c i arg2 arg3 arg4 arg5 arg6 arg7 arg8 arg9 arg14 arg15 f2 f3 f4 f5 f6 f7 f8 f9, runLast.sl.v143 c i arg2 arg3 arg4 arg5 arg6 arg7 arg8 arg9 arg14 arg15 f2 f3 f4 f5 f6 f7 f8 f9, runLast.sl.v133 c i arg2 arg3 arg4 arg5 arg6 arg8 arg14 f2 f3 f4 f5 f6 f8, runLast.sl.v146 c i arg2 arg3 arg4 arg5 arg6 arg7 arg8 arg9 arg14 arg15 f2 f3 f4 f5 f6 f7 f8 f9) (Scf.trips (k0_t1_loop i).lb (k0_t1_loop i).ub (k0_t1_loop i).st)

theorem last_v5 :
    (cmpi .slt runLast.sl.v3 runLast.sl.v4)
      = k0_pay128 := rfl

theorem last_v7 :
    (runLast.sl.v7 (F := F) c arg5 f5)
      = k0_pay129 (arg5.view.readAt (Elt F) (Rect.unit (s := S512x128) ![0, 0] S512x128.size inb_S512x128_S512x128_0_0).toLoadRect f5) := rfl

theorem last_v9 :
    (runLast.sl.v9 (F := F) c arg6 f6)
      = k0_pay130 (arg6.view.readAt (Elt F) (Rect.unit (s := S512x128) ![0, 0] S512x128.size inb_S512x128_S512x128_0_0).toLoadRect f6) := rfl

theorem last_v13 :
    (runLast.sl.v13 (F := F) c arg7 f7)
      = k0_pay133 (arg7.view.readAt (Elt F) (Rect.unit (s := S512x128) ![0, 0] S512x128.size inb_S512x128_S512x128_0_0).toLoadRect f7) := rfl

theorem last_v14 :
    (runLast.sl.v14 (F := F) c arg7 f7)
      = k0_pay134 (arg7.view.readAt (Elt F) (Rect.unit (s := S512x128) ![0, 0] S512x128.size inb_S512x128_S512x128_0_0).toLoadRect f7) := rfl

theorem last_v105 :
    (runLast.sl.v105 (F := F) c i arg2 arg3 arg4 arg5 arg6 arg8 arg14 f2 f3 f4 f5 f6 f8)
      = k0_pay158 k0_pay135 k0_pay137 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runLast.sl.v95 (F := F) c i arg2 arg3 arg5 arg6 arg14 f2 f3 f5 f6) := rfl

theorem last_v115 :
    (runLast.sl.v115 (F := F) c i arg2 arg3 arg4 arg5 arg6 arg7 arg8 arg9 arg14 arg15 f2 f3 f4 f5 f6 f7 f8 f9)
      = k0_pay161 k0_pay135 k0_pay136 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (arg2.view.readAt (Elt F) (Rect.unit (s := S8192x128) (k0_off1 i) S512x128.size (k0_off1_inb i)).toLoadRect f2) (runLast.sl.v95 (F := F) c i arg2 arg3 arg5 arg6 arg14 f2 f3 f5 f6) (runLast.sl.v107 (F := F) c i arg4 arg7 arg15 f4 f7) := rfl

theorem last_v118 :
    (runLast.sl.v118 (F := F) c i arg2 arg3 arg4 arg5 arg6 arg7 arg8 arg9 arg14 arg15 f2 f3 f4 f5 f6 f7 f8 f9)
      = k0_pay162 k0_pay135 k0_pay138 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runLast.sl.v95 (F := F) c i arg2 arg3 arg5 arg6 arg14 f2 f3 f5 f6) (runLast.sl.v107 (F := F) c i arg4 arg7 arg15 f4 f7) := rfl

theorem last_v133 :
    (runLast.sl.v133 (F := F) c i arg2 arg3 arg4 arg5 arg6 arg8 arg14 f2 f3 f4 f5 f6 f8)
      = k0_pay167 k0_pay140 (k0_pay166 k0_pay135 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runLast.sl.v123 (F := F) c i arg2 arg3 arg5 arg6 arg14 f2 f3 f5 f6)) := rfl

theorem last_v143 :
    (runLast.sl.v143 (F := F) c i arg2 arg3 arg4 arg5 arg6 arg7 arg8 arg9 arg14 arg15 f2 f3 f4 f5 f6 f7 f8 f9)
      = k0_pay170 k0_pay139 (k0_pay156 (arg9.view.readAt (Elt F) (Rect.unit (s := S1x16x2x512) (k0_off3 i) S1x1x2x512.size (k0_off3_inb i)).toLoadRect f9)) (k0_pay164 (arg3.view.readAt (Elt F) (Rect.unit (s := S8192x128) (k0_off1 i) S512x128.size (k0_off1_inb i)).toLoadRect f3)) (k0_pay165 k0_pay135 (k0_pay155 (arg8.view.readAt (Elt F) (Rect.unit (s := S1x16x2x512) (k0_off3 i) S1x1x2x512.size (k0_off3_inb i)).toLoadRect f8)) (runLast.sl.v123 (F := F) c i arg2 arg3 arg5 arg6 arg14 f2 f3 f5 f6)) (runLast.sl.v135 (F := F) c i arg4 arg7 arg15 f4 f7) := rfl

theorem last_v146 :
    (runLast.sl.v146 (F := F) c i arg2 arg3 arg4 arg5 arg6 arg7 arg8 arg9 arg14 arg15 f2 f3 f4 f5 f6 f7 f8 f9)
      = k0_pay171 k0_pay141 (k0_pay156 (arg9.view.readAt (Elt F) (Rect.unit (s := S1x16x2x512) (k0_off3 i) S1x1x2x512.size (k0_off3_inb i)).toLoadRect f9)) (k0_pay165 k0_pay135 (k0_pay155 (arg8.view.readAt (Elt F) (Rect.unit (s := S1x16x2x512) (k0_off3 i) S1x1x2x512.size (k0_off3_inb i)).toLoadRect f8)) (runLast.sl.v123 (F := F) c i arg2 arg3 arg5 arg6 arg14 f2 f3 f5 f6)) (runLast.sl.v135 (F := F) c i arg4 arg7 arg15 f4 f7) := rfl

theorem last_v154 :
    (runLast.sl.v154 (F := F) c i arg2 arg3 arg4 arg5 arg6 arg7 arg8 arg9 arg10 arg14 arg15 f2 f3 f4 f5 f6 f7 f8 f9 f10)
      = k0_pay172 k0_pay128 (runLast.sl.v9 (F := F) c arg6 f6) (k0_pay156 (arg9.view.readAt (Elt F) (Rect.unit (s := S1x16x2x512) (k0_off3 i) S1x1x2x512.size (k0_off3_inb i)).toLoadRect f9)) (k0_pay163 (runLast.sl.v7 (F := F) c arg5 f5) k0_pay135 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runLast.sl.v95 (F := F) c i arg2 arg3 arg5 arg6 arg14 f2 f3 f5 f6) (runLast.sl.v107 (F := F) c i arg4 arg7 arg15 f4 f7)) (k0_pay165 k0_pay135 (k0_pay155 (arg8.view.readAt (Elt F) (Rect.unit (s := S1x16x2x512) (k0_off3 i) S1x1x2x512.size (k0_off3_inb i)).toLoadRect f8)) (runLast.sl.v123 (F := F) c i arg2 arg3 arg5 arg6 arg14 f2 f3 f5 f6)) (runLast.sl.v135 (F := F) c i arg4 arg7 arg15 f4 f7) (arg10.view.readAt (Elt F) (Rect.unit (s := S8192x128) (k0_off1 i) S512x128.size (k0_off1_inb i)).toLoadRect f10) := rfl

theorem last_v36 :
    (runLast.sl.v36 (F := F) c i arg2 arg5 f2 f5)
      = k0_pay3 (runLast.sl.v7 (F := F) c arg5 f5) (arg2.view.readAt (Elt F) (Rect.unit (s := S8192x128) (k0_off1 i) S512x128.size (k0_off1_inb i)).toLoadRect f2) := rfl

theorem last_v65 :
    (runLast.sl.v65 (F := F) c i arg2 arg5 f2 f5)
      = k0_pay3 (runLast.sl.v7 (F := F) c arg5 f5) (arg2.view.readAt (Elt F) (Rect.unit (s := S8192x128) (k0_off2 i) S512x128.size (k0_off2_inb i)).toLoadRect f2) := rfl

theorem last_v47 :
    (runLast.sl.v47 (F := F) c i arg3 arg6 f3 f6)
      = k0_pay3 (runLast.sl.v9 (F := F) c arg6 f6) (arg3.view.readAt (Elt F) (Rect.unit (s := S8192x128) (k0_off1 i) S512x128.size (k0_off1_inb i)).toLoadRect f3) := rfl

theorem last_v76 :
    (runLast.sl.v76 (F := F) c i arg3 arg6 f3 f6)
      = k0_pay3 (runLast.sl.v9 (F := F) c arg6 f6) (arg3.view.readAt (Elt F) (Rect.unit (s := S8192x128) (k0_off2 i) S512x128.size (k0_off2_inb i)).toLoadRect f3) := rfl

theorem last_v40 :
    (runLast.sl.v40 (F := F) c i arg4 arg7 f4 f7)
      = k0_pay3 (runLast.sl.v13 (F := F) c arg7 f7) (arg4.view.readAt (Elt F) (Rect.unit (s := S8192x128) (k0_off1 i) S512x128.size (k0_off1_inb i)).toLoadRect f4) := rfl

theorem last_v51 :
    (runLast.sl.v51 (F := F) c i arg4 arg7 f4 f7)
      = k0_pay3 (runLast.sl.v14 (F := F) c arg7 f7) (arg4.view.readAt (Elt F) (Rect.unit (s := S8192x128) (k0_off1 i) S512x128.size (k0_off1_inb i)).toLoadRect f4) := rfl

theorem last_v69 :
    (runLast.sl.v69 (F := F) c i arg4 arg7 f4 f7)
      = k0_pay3 (runLast.sl.v13 (F := F) c arg7 f7) (arg4.view.readAt (Elt F) (Rect.unit (s := S8192x128) (k0_off2 i) S512x128.size (k0_off2_inb i)).toLoadRect f4) := rfl

theorem last_v80 :
    (runLast.sl.v80 (F := F) c i arg4 arg7 f4 f7)
      = k0_pay3 (runLast.sl.v14 (F := F) c arg7 f7) (arg4.view.readAt (Elt F) (Rect.unit (s := S8192x128) (k0_off2 i) S512x128.size (k0_off2_inb i)).toLoadRect f4) := rfl

theorem last_H11 : (runLast.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S512x128) ![0, 0] S512x128.size inb_S512x128_S512x128_0_0), k0_pay199 (cmpi .slt runLast.sl.v3 runLast.sl.v4) (midLast c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.1 (midLast c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.1⟩] := by
  unfold runLast.sl.H11_1 midLast
  rfl

theorem last_11 (hz : ¬ Scalar.cmpi .ne (Scalar.extui (Scalar.cmpi .eq (BitVec.ofNat 32 (i 1).val) 0#32)) 0#32 = 1#1) (h2 : ¬ k0_cond2 i = 1#1) :
    (runLast (F := F) c i arg2 harg2 arg3 harg3 arg4 harg4 arg5 harg5 arg6 harg6 arg7 harg7 arg8 harg8 arg9 harg9 arg10 harg10 arg11 harg11 arg12 harg12 arg13 harg13 arg14 harg14 arg15 harg15 hz h2 f2 f3 f4 f5 f6 f7 f8 f9 f10 f11 f12 f13 f14 f15).2.1
      = arg11.view.writes (Elt F) arg11.view.junk (runLast.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem last_H12 : (runLast.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S512x128) ![0, 0] S512x128.size inb_S512x128_S512x128_0_0), k0_pay200 (cmpi .slt runLast.sl.v3 runLast.sl.v4) (midLast c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.1 (midLast c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.1⟩] := by
  unfold runLast.sl.H12_1 midLast
  rfl

theorem last_12 (hz : ¬ Scalar.cmpi .ne (Scalar.extui (Scalar.cmpi .eq (BitVec.ofNat 32 (i 1).val) 0#32)) 0#32 = 1#1) (h2 : ¬ k0_cond2 i = 1#1) :
    (runLast (F := F) c i arg2 harg2 arg3 harg3 arg4 harg4 arg5 harg5 arg6 harg6 arg7 harg7 arg8 harg8 arg9 harg9 arg10 harg10 arg11 harg11 arg12 harg12 arg13 harg13 arg14 harg14 arg15 harg15 hz h2 f2 f3 f4 f5 f6 f7 f8 f9 f10 f11 f12 f13 f14 f15).2.2.1
      = arg12.view.writes (Elt F) arg12.view.junk (runLast.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem last_H13 : (runLast.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S1x512x2) ![0, 0, 0] S1x512x2.size inb_S1x512x2_S1x512x2_0_0_0), k0_pay1 (midLast c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.2 k0_pay201 (k0_pay202 (midLast c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.1)⟩] := by
  unfold runLast.sl.H13_1 runLast.sl.r runLast.sl.r_1 midLast
  rfl

theorem last_13 (hz : ¬ Scalar.cmpi .ne (Scalar.extui (Scalar.cmpi .eq (BitVec.ofNat 32 (i 1).val) 0#32)) 0#32 = 1#1) (h2 : ¬ k0_cond2 i = 1#1) :
    (runLast (F := F) c i arg2 harg2 arg3 harg3 arg4 harg4 arg5 harg5 arg6 harg6 arg7 harg7 arg8 harg8 arg9 harg9 arg10 harg10 arg11 harg11 arg12 harg12 arg13 harg13 arg14 harg14 arg15 harg15 hz h2 f2 f3 f4 f5 f6 f7 f8 f9 f10 f11 f12 f13 f14 f15).2.2.2.1
      = arg13.view.writes (Elt F) arg13.view.junk (runLast.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem last_10 (hz : ¬ Scalar.cmpi .ne (Scalar.extui (Scalar.cmpi .eq (BitVec.ofNat 32 (i 1).val) 0#32)) 0#32 = 1#1) (h2 : ¬ k0_cond2 i = 1#1) :
    (runLast (F := F) c i arg2 harg2 arg3 harg3 arg4 harg4 arg5 harg5 arg6 harg6 arg7 harg7 arg8 harg8 arg9 harg9 arg10 harg10 arg11 harg11 arg12 harg12 arg13 harg13 arg14 harg14 arg15 harg15 hz h2 f2 f3 f4 f5 f6 f7 f8 f9 f10 f11 f12 f13 f14 f15).1
      = (midLast c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 := by
  unfold midLast
  exact lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _

end

end Cert.Proof.Attn
end
-- ==== Proof.ValLast.lean ====
/- The point program on the last key tile, over the real numbers. -/
module

public import proofs.«01_k».proof.Proof.ValStep
public import proofs.«01_k».proof.Proof.PointLast

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := Ideal) c arg2) (f3 : At (F := Ideal) c arg3) (f4 : At (F := Ideal) c arg4) (f5 : At (F := Ideal) c arg5) (f6 : At (F := Ideal) c arg6) (f7 : At (F := Ideal) c arg7) (f8 : At (F := Ideal) c arg8) (f9 : At (F := Ideal) c arg9) (f10 : At (F := Ideal) c arg10) (f11 : At (F := Ideal) c arg11) (f12 : At (F := Ideal) c arg12) (f13 : At (F := Ideal) c arg13) (f14 : At (F := Ideal) c arg14) (f15 : At (F := Ideal) c arg15)
variable (w : Wd) (VV D : ℕ → ℕ → ℝ) (hki : w.ki = (i 1).val)
  (hV0 : w.V 0 = fun s l => if l < 64 then VV s l else 0) (hV1 : w.V 1 = fun s l => if l < 64 then 0 else VV s l)
  (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
  (h5 : arg5.view.read (Elt Ideal) f5 = up2 (φ := .bf16) (w.K 0)) (h6 : arg6.view.read (Elt Ideal) f6 = up2 (φ := .bf16) (w.K 1)) (h7 : arg7.view.read (Elt Ideal) f7 = up2 (φ := .bf16) VV)
  (h8 : arg8.view.read (Elt Ideal) f8 = upR (φ := .f32) w.M) (h9 : arg9.view.read (Elt Ideal) f9 = upR (φ := .f32) w.E)
  (h10 : arg10.view.read (Elt Ideal) f10 = up2 (φ := .f32) D)
  (hi : (i 1).val = 15)

include h5 in
theorem last_k0 : (runLast.sl.v7 (F := Ideal) c arg5 f5) = up2 (w.K 0) := by
  rw [last_v7, rd_win _ _ _ h5, id129_val]

include h6 in
theorem last_k1 : (runLast.sl.v9 (F := Ideal) c arg6 f6) = up2 (w.K 1) := by
  rw [last_v9, rd_win _ _ _ h6, id130_val]

include hV0 h7 in
theorem last_v0 : (runLast.sl.v13 (F := Ideal) c arg7 f7) = up2 (w.V 0) := by
  rw [last_v13, rd_win _ _ _ h7, vlo_val, hV0]

include hV1 h7 in
theorem last_v1 : (runLast.sl.v14 (F := Ideal) c arg7 f7) = up2 (w.V 1) := by
  rw [last_v14, rd_win _ _ _ h7, vhi_val, hV1]

include hki h2 h5 in
theorem last_s14_00 : ∀ g : At (F := Ideal) c arg14, arg14.view.readAt (Elt Ideal) (Rect.unit (s := S2x2x512x512) ![0, 0, 0, 0] S1x1x512x512.size inb_S2x2x512x512_S1x1x512x512_0_0_0_0).toLoadRect (arg14.view.writes (Elt Ideal) g (runLast.sl.H14_4 (F := Ideal) c i arg2 arg3 arg5 arg6 f2 f3 f5 f6)) = upT (φ := .f32) (w.ST 0 w.ki) := by
  intro g
  unfold runLast.sl.H14_4 runLast.sl.H14_2
  rw [rd_miss _ _ _ _ _ _ 0 (by decide), rd_miss _ _ _ _ _ _ 0 (by decide), rd_miss _ _ _ _ _ _ 1 (by decide), rd_hit, last_v36, last_k0 c arg5 f5 w h5, rd_tile arg2.view f2 (w.Q 0) h2 (k0_off1_inb i) _ (at1 hki)]
  exact st0_val _ _

include hki h3 h6 in
theorem last_s14_01 : ∀ g : At (F := Ideal) c arg14, arg14.view.readAt (Elt Ideal) (Rect.unit (s := S2x2x512x512) ![0, 1, 0, 0] S1x1x512x512.size inb_S2x2x512x512_S1x1x512x512_0_1_0_0).toLoadRect (arg14.view.writes (Elt Ideal) g (runLast.sl.H14_4 (F := Ideal) c i arg2 arg3 arg5 arg6 f2 f3 f5 f6)) = upT (φ := .f32) (w.ST 1 w.ki) := by
  intro g
  unfold runLast.sl.H14_4 runLast.sl.H14_2
  rw [rd_miss _ _ _ _ _ _ 0 (by decide), rd_miss _ _ _ _ _ _ 0 (by decide), rd_hit, last_v47, last_k1 c arg6 f6 w h6, rd_tile arg3.view f3 (w.Q 1) h3 (k0_off1_inb i) _ (at1 hki)]
  exact st0_val _ _

include hki hV0 h4 h7 in
theorem last_s15_00 : ∀ g : At (F := Ideal) c arg15, arg15.view.readAt (Elt Ideal) (Rect.unit (s := S2x2x512x512) ![0, 0, 0, 0] S1x1x512x512.size inb_S2x2x512x512_S1x1x512x512_0_0_0_0).toLoadRect (arg15.view.writes (Elt Ideal) g (runLast.sl.H15_4 (F := Ideal) c i arg4 arg7 f4 f7)) = upT (φ := .f32) (w.DP 0 w.ki) := by
  intro g
  unfold runLast.sl.H15_4 runLast.sl.H15_2
  rw [rd_miss _ _ _ _ _ _ 0 (by decide), rd_miss _ _ _ _ _ _ 0 (by decide), rd_miss _ _ _ _ _ _ 1 (by decide), rd_hit, last_v40, last_v0 c arg7 f7 w VV hV0 h7, rd_tile arg4.view f4 w.G h4 (k0_off1_inb i) _ (at1 hki)]
  exact st0_val _ _

include hki hV1 h4 h7 in
theorem last_s15_01 : ∀ g : At (F := Ideal) c arg15, arg15.view.readAt (Elt Ideal) (Rect.unit (s := S2x2x512x512) ![0, 1, 0, 0] S1x1x512x512.size inb_S2x2x512x512_S1x1x512x512_0_1_0_0).toLoadRect (arg15.view.writes (Elt Ideal) g (runLast.sl.H15_4 (F := Ideal) c i arg4 arg7 f4 f7)) = upT (φ := .f32) (w.DP 1 w.ki) := by
  intro g
  unfold runLast.sl.H15_4 runLast.sl.H15_2
  rw [rd_miss _ _ _ _ _ _ 0 (by decide), rd_miss _ _ _ _ _ _ 0 (by decide), rd_hit, last_v51, last_v1 c arg7 f7 w VV hV1 h7, rd_tile arg4.view f4 w.G h4 (k0_off1_inb i) _ (at1 hki)]
  exact st0_val _ _

include hki h2 h4 h5 h8 in
theorem last_dv0 : (runLast.sl.v105 (F := Ideal) c i arg2 arg3 arg4 arg5 arg6 arg8 arg14 f2 f3 f4 f5 f6 f8) = up2 (w.dvC 0 w.ki) := by
  have g_ := rd_tile arg4.view f4 w.G h4 (k0_off1_inb i) _ (at1 hki)
  have m_ := rd_row arg8.view f8 w.M h8 (k0_off3_inb i) _ (at3 hki)
  have v95_ : (runLast.sl.v95 (F := Ideal) c i arg2 arg3 arg5 arg6 arg14 f2 f3 f5 f6) = upT (φ := .f32) (w.ST 0 w.ki) := by
    refine last_s14_00 (w := w) (hki := hki) (h2 := h2) (h5 := h5) (g := arg14.view.junk) ..
  rw [last_v105]
  exact dg_dv0 w rfl g_ m_ v95_

include hki h3 h4 h6 h8 in
theorem last_dv1 : (runLast.sl.v133 (F := Ideal) c i arg2 arg3 arg4 arg5 arg6 arg8 arg14 f2 f3 f4 f5 f6 f8) = up2 (w.dvC 1 w.ki) := by
  have g_ := rd_tile arg4.view f4 w.G h4 (k0_off1_inb i) _ (at1 hki)
  have m_ := rd_row arg8.view f8 w.M h8 (k0_off3_inb i) _ (at3 hki)
  have v123_ : (runLast.sl.v123 (F := Ideal) c i arg2 arg3 arg5 arg6 arg14 f2 f3 f5 f6) = upT (φ := .f32) (w.ST 1 w.ki) := by
    refine last_s14_01 (w := w) (hki := hki) (h3 := h3) (h6 := h6) (g := arg14.view.junk) ..
  rw [last_v133]
  exact dg_dv1 w rfl g_ m_ v123_

include hki hV0 h2 h4 h5 h7 h8 h9 in
theorem last_dk0 : (runLast.sl.v115 (F := Ideal) c i arg2 arg3 arg4 arg5 arg6 arg7 arg8 arg9 arg14 arg15 f2 f3 f4 f5 f6 f7 f8 f9) = up2 (w.dkC 0 w.ki) := by
  have m_ := rd_row arg8.view f8 w.M h8 (k0_off3_inb i) _ (at3 hki)
  have e_ := rd_row arg9.view f9 w.E h9 (k0_off3_inb i) _ (at3 hki)
  have q_ := rd_tile arg2.view f2 (w.Q 0) h2 (k0_off1_inb i) _ (at1 hki)
  have v95_ : (runLast.sl.v95 (F := Ideal) c i arg2 arg3 arg5 arg6 arg14 f2 f3 f5 f6) = upT (φ := .f32) (w.ST 0 w.ki) := by
    refine last_s14_00 (w := w) (hki := hki) (h2 := h2) (h5 := h5) (g := arg14.view.junk) ..
  have v107_ : (runLast.sl.v107 (F := Ideal) c i arg4 arg7 arg15 f4 f7) = upT (φ := .f32) (w.DP 0 w.ki) := by
    refine last_s15_00 (w := w) (hki := hki) (VV := VV) (hV0 := hV0) (h4 := h4) (h7 := h7) (g := arg15.view.junk) ..
  rw [last_v115]
  exact dg_dk0 w rfl m_ e_ q_ v95_ v107_

include hki hV1 h3 h4 h6 h7 h8 h9 in
theorem last_dk1 : (runLast.sl.v143 (F := Ideal) c i arg2 arg3 arg4 arg5 arg6 arg7 arg8 arg9 arg14 arg15 f2 f3 f4 f5 f6 f7 f8 f9) = up2 (w.dkC 1 w.ki) := by
  have m_ := rd_row arg8.view f8 w.M h8 (k0_off3_inb i) _ (at3 hki)
  have e_ := rd_row arg9.view f9 w.E h9 (k0_off3_inb i) _ (at3 hki)
  have q1_ := rd_tile arg3.view f3 (w.Q 1) h3 (k0_off1_inb i) _ (at1 hki)
  have v123_ : (runLast.sl.v123 (F := Ideal) c i arg2 arg3 arg5 arg6 arg14 f2 f3 f5 f6) = upT (φ := .f32) (w.ST 1 w.ki) := by
    refine last_s14_01 (w := w) (hki := hki) (h3 := h3) (h6 := h6) (g := arg14.view.junk) ..
  have v135_ : (runLast.sl.v135 (F := Ideal) c i arg4 arg7 arg15 f4 f7) = upT (φ := .f32) (w.DP 1 w.ki) := by
    refine last_s15_01 (w := w) (hki := hki) (VV := VV) (hV1 := hV1) (h4 := h4) (h7 := h7) (g := arg15.view.junk) ..
  rw [last_v143]
  exact dg_dk1 w rfl m_ e_ q1_ v123_ v135_

include hki hV0 h2 h4 h5 h7 h8 h9 in
theorem last_dc0 : (runLast.sl.v118 (F := Ideal) c i arg2 arg3 arg4 arg5 arg6 arg7 arg8 arg9 arg14 arg15 f2 f3 f4 f5 f6 f7 f8 f9) = up2 (fun s _ => - w.dcC 0 w.ki s) := by
  have m_ := rd_row arg8.view f8 w.M h8 (k0_off3_inb i) _ (at3 hki)
  have e_ := rd_row arg9.view f9 w.E h9 (k0_off3_inb i) _ (at3 hki)
  have v95_ : (runLast.sl.v95 (F := Ideal) c i arg2 arg3 arg5 arg6 arg14 f2 f3 f5 f6) = upT (φ := .f32) (w.ST 0 w.ki) := by
    refine last_s14_00 (w := w) (hki := hki) (h2 := h2) (h5 := h5) (g := arg14.view.junk) ..
  have v107_ : (runLast.sl.v107 (F := Ideal) c i arg4 arg7 arg15 f4 f7) = upT (φ := .f32) (w.DP 0 w.ki) := by
    refine last_s15_00 (w := w) (hki := hki) (VV := VV) (hV0 := hV0) (h4 := h4) (h7 := h7) (g := arg15.view.junk) ..
  rw [last_v118]
  exact dg_dc0 w rfl m_ e_ v95_ v107_

include hki hV1 h3 h4 h6 h7 h8 h9 in
theorem last_dc1 : (runLast.sl.v146 (F := Ideal) c i arg2 arg3 arg4 arg5 arg6 arg7 arg8 arg9 arg14 arg15 f2 f3 f4 f5 f6 f7 f8 f9) = up2 (fun s _ => - w.dcC 1 w.ki s) := by
  have m_ := rd_row arg8.view f8 w.M h8 (k0_off3_inb i) _ (at3 hki)
  have e_ := rd_row arg9.view f9 w.E h9 (k0_off3_inb i) _ (at3 hki)
  have v123_ : (runLast.sl.v123 (F := Ideal) c i arg2 arg3 arg5 arg6 arg14 f2 f3 f5 f6) = upT (φ := .f32) (w.ST 1 w.ki) := by
    refine last_s14_01 (w := w) (hki := hki) (h3 := h3) (h6 := h6) (g := arg14.view.junk) ..
  have v135_ : (runLast.sl.v135 (F := Ideal) c i arg4 arg7 arg15 f4 f7) = upT (φ := .f32) (w.DP 1 w.ki) := by
    refine last_s15_01 (w := w) (hki := hki) (VV := VV) (hV1 := hV1) (h4 := h4) (h7 := h7) (g := arg15.view.junk) ..
  rw [last_v146]
  exact dg_dc1 w rfl m_ e_ v123_ v135_

include hki hV0 hV1 h2 h3 h4 h5 h6 h7 h8 h9 h10 in
theorem last_q : (runLast.sl.v154 (F := Ideal) c i arg2 arg3 arg4 arg5 arg6 arg7 arg8 arg9 arg10 arg14 arg15 f2 f3 f4 f5 f6 f7 f8 f9 f10) = up2 fun t l => D (512 * w.ki + t) l + w.dqC w.ki t l := by
  have m_ := rd_row arg8.view f8 w.M h8 (k0_off3_inb i) _ (at3 hki)
  have e_ := rd_row arg9.view f9 w.E h9 (k0_off3_inb i) _ (at3 hki)
  have k0_ := last_k0 c arg5 f5 w h5
  have k1_ := last_k1 c arg6 f6 w h6
  have v95_ : (runLast.sl.v95 (F := Ideal) c i arg2 arg3 arg5 arg6 arg14 f2 f3 f5 f6) = upT (φ := .f32) (w.ST 0 w.ki) := by
    refine last_s14_00 (w := w) (hki := hki) (h2 := h2) (h5 := h5) (g := arg14.view.junk) ..
  have v107_ : (runLast.sl.v107 (F := Ideal) c i arg4 arg7 arg15 f4 f7) = upT (φ := .f32) (w.DP 0 w.ki) := by
    refine last_s15_00 (w := w) (hki := hki) (VV := VV) (hV0 := hV0) (h4 := h4) (h7 := h7) (g := arg15.view.junk) ..
  have v123_ : (runLast.sl.v123 (F := Ideal) c i arg2 arg3 arg5 arg6 arg14 f2 f3 f5 f6) = upT (φ := .f32) (w.ST 1 w.ki) := by
    refine last_s14_01 (w := w) (hki := hki) (h3 := h3) (h6 := h6) (g := arg14.view.junk) ..
  have v135_ : (runLast.sl.v135 (F := Ideal) c i arg4 arg7 arg15 f4 f7) = upT (φ := .f32) (w.DP 1 w.ki) := by
    refine last_s15_01 (w := w) (hki := hki) (VV := VV) (hV1 := hV1) (h4 := h4) (h7 := h7) (g := arg15.view.junk) ..
  have a_ := rd_tile32 arg10.view f10 D h10 (k0_off1_inb i) _ (at1 hki)
  rw [last_v154, k0_, k1_]
  exact dg_dq w rfl m_ e_ v95_ v107_ v123_ v135_ D a_

include hki hV0 hV1 h2 h3 h4 h5 h6 h7 h8 h9 h10 in
theorem last_d10 : arg10.view.read (Elt Ideal) (arg10.view.writes (Elt Ideal) f10 (⟨(Rect.unit (s := S8192x128) (k0_off1 i) S512x128.size (k0_off1_inb i)), (runLast.sl.v154 (F := Ideal) c i arg2 arg3 arg4 arg5 arg6 arg7 arg8 arg9 arg10 arg14 arg15 f2 f3 f4 f5 f6 f7 f8 f9 f10)⟩ :: [])) = up2 (φ := .f32) (w.dq D (w.ki + 1)) := by
  rw [show (runLast.sl.v154 (F := Ideal) c i arg2 arg3 arg4 arg5 arg6 arg7 arg8 arg9 arg10 arg14 arg15 f2 f3 f4 f5 f6 f7 f8 f9 f10) = _ from last_q (w := w) (VV := VV) (hki := hki) (hV0 := hV0) (hV1 := hV1) (h2 := h2) (h3 := h3) (h4 := h4) (h5 := h5) (h6 := h6) (h7 := h7) (h8 := h8) (h9 := h9) (h10 := h10) ..]
  refine (wr_tile arg10.view f10 [] D (w.dqC w.ki) h10 (k0_off1_inb i) _ (at1 hki)).trans ?_
  exact congrArg up2 (funext fun r => funext fun l => (w.dq_base D r l).symm)

include hki hV0 hV1 h2 h3 h4 h5 h6 h7 h8 h9 h10 hi in
theorem last_val (hz : ¬ Scalar.cmpi .ne (Scalar.extui (Scalar.cmpi .eq (BitVec.ofNat 32 (i 1).val) 0#32)) 0#32 = 1#1) (hc2 : ¬ k0_cond2 i = 1#1) : PointVal c arg10 arg11 arg12 arg13 w D (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 f2 f3 f4 f5 f6 f7 f8 f9 f10 f11 f12 f13 f14 f15).1 (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 f2 f3 f4 f5 f6 f7 f8 f9 f10 f11 f12 f13 f14 f15).2.1 (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 f2 f3 f4 f5 f6 f7 f8 f9 f10 f11 f12 f13 f14 f15).2.2.1 (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 f2 f3 f4 f5 f6 f7 f8 f9 f10 f11 f12 f13 f14 f15).2.2.2.1 := by
  have v5_ := last_v5
  have k0_ := last_k0 c arg5 f5 w h5
  have k1_ := last_k1 c arg6 f6 w h6
  have hk : w.ki = 15 := by omega
  have ht : (k0_t1_loop i).trips = 0 := by rw [trips1 i]; omega
  have hm0 : (midLast (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.1 = (runLast.sl.v115 (F := Ideal) c i arg2 arg3 arg4 arg5 arg6 arg7 arg8 arg9 arg14 arg15 f2 f3 f4 f5 f6 f7 f8 f9) := by
    unfold midLast
    rw [show Scf.trips (k0_t1_loop i).lb (k0_t1_loop i).ub (k0_t1_loop i).st = 0 from ht, loopSt]
  have hm1 : (midLast (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.1 = (runLast.sl.v105 (F := Ideal) c i arg2 arg3 arg4 arg5 arg6 arg8 arg14 f2 f3 f4 f5 f6 f8) := by
    unfold midLast
    rw [show Scf.trips (k0_t1_loop i).lb (k0_t1_loop i).ub (k0_t1_loop i).st = 0 from ht, loopSt]
  have hm2 : (midLast (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.1 = (runLast.sl.v118 (F := Ideal) c i arg2 arg3 arg4 arg5 arg6 arg7 arg8 arg9 arg14 arg15 f2 f3 f4 f5 f6 f7 f8 f9) := by
    unfold midLast
    rw [show Scf.trips (k0_t1_loop i).lb (k0_t1_loop i).ub (k0_t1_loop i).st = 0 from ht, loopSt]
  have hm3 : (midLast (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.1 = (runLast.sl.v143 (F := Ideal) c i arg2 arg3 arg4 arg5 arg6 arg7 arg8 arg9 arg14 arg15 f2 f3 f4 f5 f6 f7 f8 f9) := by
    unfold midLast
    rw [show Scf.trips (k0_t1_loop i).lb (k0_t1_loop i).ub (k0_t1_loop i).st = 0 from ht, loopSt]
  have hm4 : (midLast (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.1 = (runLast.sl.v133 (F := Ideal) c i arg2 arg3 arg4 arg5 arg6 arg8 arg14 f2 f3 f4 f5 f6 f8) := by
    unfold midLast
    rw [show Scf.trips (k0_t1_loop i).lb (k0_t1_loop i).ub (k0_t1_loop i).st = 0 from ht, loopSt]
  have hm5 : (midLast (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.2 = (runLast.sl.v146 (F := Ideal) c i arg2 arg3 arg4 arg5 arg6 arg7 arg8 arg9 arg14 arg15 f2 f3 f4 f5 f6 f7 f8 f9) := by
    unfold midLast
    rw [show Scf.trips (k0_t1_loop i).lb (k0_t1_loop i).ub (k0_t1_loop i).st = 0 from ht, loopSt]
  have hm6 : (midLast (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 = arg10.view.writes (Elt Ideal) f10 [⟨(Rect.unit (s := S8192x128) (k0_off1 i) S512x128.size (k0_off1_inb i)), (runLast.sl.v154 (F := Ideal) c i arg2 arg3 arg4 arg5 arg6 arg7 arg8 arg9 arg10 arg14 arg15 f2 f3 f4 f5 f6 f7 f8 f9 f10)⟩] := by
    unfold midLast
    rw [show Scf.trips (k0_t1_loop i).lb (k0_t1_loop i).ub (k0_t1_loop i).st = 0 from ht, loopSt]
    rfl
  have y0 : (runLast.sl.v115 (F := Ideal) c i arg2 arg3 arg4 arg5 arg6 arg7 arg8 arg9 arg14 arg15 f2 f3 f4 f5 f6 f7 f8 f9) = up2 (φ := .f32) (w.dk 0 (w.ki + 1)) := (last_dk0 (w := w) (VV := VV) (hki := hki) (hV0 := hV0) (h2 := h2) (h4 := h4) (h5 := h5) (h7 := h7) (h8 := h8) (h9 := h9) ..).trans (congrArg up2 (funext fun s => funext fun l => (w.dk_one 0 s l).symm))
  have y1 : (runLast.sl.v105 (F := Ideal) c i arg2 arg3 arg4 arg5 arg6 arg8 arg14 f2 f3 f4 f5 f6 f8) = up2 (φ := .f32) (w.dv 0 (w.ki + 1)) := (last_dv0 (w := w) (hki := hki) (h2 := h2) (h4 := h4) (h5 := h5) (h8 := h8) ..).trans (congrArg up2 (funext fun s => funext fun l => (w.dv_one 0 s l).symm))
  have y2 : (runLast.sl.v118 (F := Ideal) c i arg2 arg3 arg4 arg5 arg6 arg7 arg8 arg9 arg14 arg15 f2 f3 f4 f5 f6 f7 f8 f9) = up2 (φ := .f32) (fun s _ => w.dc 0 (w.ki + 1) s) := (last_dc0 (w := w) (VV := VV) (hki := hki) (hV0 := hV0) (h2 := h2) (h4 := h4) (h5 := h5) (h7 := h7) (h8 := h8) (h9 := h9) ..).trans (congrArg up2 (funext fun s => funext fun l => (w.dc_one 0 s).symm))
  have y3 : (runLast.sl.v143 (F := Ideal) c i arg2 arg3 arg4 arg5 arg6 arg7 arg8 arg9 arg14 arg15 f2 f3 f4 f5 f6 f7 f8 f9) = up2 (φ := .f32) (w.dk 1 (w.ki + 1)) := (last_dk1 (w := w) (VV := VV) (hki := hki) (hV1 := hV1) (h3 := h3) (h4 := h4) (h6 := h6) (h7 := h7) (h8 := h8) (h9 := h9) ..).trans (congrArg up2 (funext fun s => funext fun l => (w.dk_one 1 s l).symm))
  have y4 : (runLast.sl.v133 (F := Ideal) c i arg2 arg3 arg4 arg5 arg6 arg8 arg14 f2 f3 f4 f5 f6 f8) = up2 (φ := .f32) (w.dv 1 (w.ki + 1)) := (last_dv1 (w := w) (hki := hki) (h3 := h3) (h4 := h4) (h6 := h6) (h8 := h8) ..).trans (congrArg up2 (funext fun s => funext fun l => (w.dv_one 1 s l).symm))
  have y5 : (runLast.sl.v146 (F := Ideal) c i arg2 arg3 arg4 arg5 arg6 arg7 arg8 arg9 arg14 arg15 f2 f3 f4 f5 f6 f7 f8 f9) = up2 (φ := .f32) (fun s _ => w.dc 1 (w.ki + 1) s) := (last_dc1 (w := w) (VV := VV) (hki := hki) (hV1 := hV1) (h3 := h3) (h4 := h4) (h6 := h6) (h7 := h7) (h8 := h8) (h9 := h9) ..).trans (congrArg up2 (funext fun s => funext fun l => (w.dc_one 1 s).symm))
  rw [hk] at y0 y1 y2 y3 y4 y5
  have yq : arg10.view.read (Elt Ideal) (arg10.view.writes (Elt Ideal) f10 (⟨(Rect.unit (s := S8192x128) (k0_off1 i) S512x128.size (k0_off1_inb i)), (runLast.sl.v154 (F := Ideal) c i arg2 arg3 arg4 arg5 arg6 arg7 arg8 arg9 arg10 arg14 arg15 f2 f3 f4 f5 f6 f7 f8 f9 f10)⟩ :: [])) = up2 (φ := .f32) (w.dq D (w.ki + 1)) := last_d10 (w := w) (VV := VV) (hki := hki) (hV0 := hV0) (hV1 := hV1) (h2 := h2) (h3 := h3) (h4 := h4) (h5 := h5) (h6 := h6) (h7 := h7) (h8 := h8) (h9 := h9) (h10 := h10) ..
  rw [hk] at yq
  refine ⟨?_, ?_, ?_, ?_⟩
  · rw [last_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2, hm6]
    exact yq
  · rw [last_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2, last_H11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, hm0, hm3, v5_, y0, y3, fin_dk]
    exact wr_all arg11.view _ z2 _ _
  · rw [last_12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2, last_H12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, hm1, hm4, v5_, y1, y4, fin_dv]
    exact wr_all arg12.view _ z2 _ _
  · rw [last_13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2, last_H13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, hm2, hm5, y2, y5, fin_dc]
    exact wr_all arg13.view _ z3 _ _

end

end Cert.Proof.Attn
end
-- ==== Proof.PointEven.lean ====
/- What one kind of grid point leaves, value by value. -/
module

public import proofs.«01_k».proof.Proof.Body

@[expose] public section

set_option maxHeartbeats 1000000

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15)

/-- Everything the loop leaves. -/
def midEven : St (F := F) c arg10 arg14 arg15 :=
  loopSt c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (cmpi CmpIPredicate.slt runEven.sl.v3 runEven.sl.v4) (runEven.sl.v7 c arg5 f5) (runEven.sl.v9 c arg6 f6) (runEven.sl.v13 c arg7 f7) (runEven.sl.v14 c arg7 f7) (runEven.sl.v18 i) (runEven.sl.v105 c i arg2 arg3 arg4 arg5 arg6 arg8 arg14 f2 f3 f4 f5 f6 f8) (runEven.sl.v115 c i arg2 arg3 arg4 arg5 arg6 arg7 arg8 arg9 arg14 arg15 f2 f3 f4 f5 f6 f7 f8 f9) (runEven.sl.v118 c i arg2 arg3 arg4 arg5 arg6 arg7 arg8 arg9 arg14 arg15 f2 f3 f4 f5 f6 f7 f8 f9) (runEven.sl.v133 c i arg2 arg3 arg4 arg5 arg6 arg8 arg14 f2 f3 f4 f5 f6 f8) (runEven.sl.v143 c i arg2 arg3 arg4 arg5 arg6 arg7 arg8 arg9 arg14 arg15 f2 f3 f4 f5 f6 f7 f8 f9) (runEven.sl.v146 c i arg2 arg3 arg4 arg5 arg6 arg7 arg8 arg9 arg14 arg15 f2 f3 f4 f5 f6 f7 f8 f9) (runEven.sl.v158 i) (runEven.sl.v172 i) (runEven.sl.v173 i) f2 f3 f4 f8 f9 (View.write (Elt F) (arg10.view.slice (Rect.unit (s := S8192x128) (k0_off1 i) S512x128.size (k0_off1_inb i))) (arg10.view.writes (Elt F) f10 []) (runEven.sl.v154 c i arg2 arg3 arg4 arg5 arg6 arg7 arg8 arg9 arg10 arg14 arg15 f2 f3 f4 f5 f6 f7 f8 f9 f10) Finset.univ, View.write (Elt F) (arg14.view.slice (Rect.unit (s := S2x2x512x512) ![1, 1, 0, 0] S1x1x512x512.size inb_S2x2x512x512_S1x1x512x512_1_1_0_0)) (arg14.view.writes (Elt F) arg14.view.junk (⟨Rect.unit (s := S2x2x512x512) ![1, 0, 0, 0] S1x1x512x512.size inb_S2x2x512x512_S1x1x512x512_1_0_0_0, runEven.sl.v65 c i arg2 arg5 f2 f5⟩ :: runEven.sl.H14_2 c i arg2 arg3 arg5 arg6 f2 f3 f5 f6)) (runEven.sl.v76 c i arg3 arg6 f3 f6) Finset.univ, View.write (Elt F) (arg15.view.slice (Rect.unit (s := S2x2x512x512) ![1, 1, 0, 0] S1x1x512x512.size inb_S2x2x512x512_S1x1x512x512_1_1_0_0)) (arg15.view.writes (Elt F) arg15.view.junk (⟨Rect.unit (s := S2x2x512x512) ![1, 0, 0, 0] S1x1x512x512.size inb_S2x2x512x512_S1x1x512x512_1_0_0_0, runEven.sl.v69 c i arg4 arg7 f4 f7⟩ :: runEven.sl.H15_2 c i arg4 arg7 f4 f7)) (runEven.sl.v80 c i arg4 arg7 f4 f7) Finset.univ, runEven.sl.v115 c i arg2 arg3 arg4 arg5 arg6 arg7 arg8 arg9 arg14 arg15 f2 f3 f4 f5 f6 f7 f8 f9, runEven.sl.v105 c i arg2 arg3 arg4 arg5 arg6 arg8 arg14 f2 f3 f4 f5 f6 f8, runEven.sl.v118 c i arg2 arg3 arg4 arg5 arg6 arg7 arg8 arg9 arg14 arg15 f2 f3 f4 f5 f6 f7 f8 f9, runEven.sl.v143 c i arg2 arg3 arg4 arg5 arg6 arg7 arg8 arg9 arg14 arg15 f2 f3 f4 f5 f6 f7 f8 f9, runEven.sl.v133 c i arg2 arg3 arg4 arg5 arg6 arg8 arg14 f2 f3 f4 f5 f6 f8, runEven.sl.v146 c i arg2 arg3 arg4 arg5 arg6 arg7 arg8 arg9 arg14 arg15 f2 f3 f4 f5 f6 f7 f8 f9) (Scf.trips (k0_t1_loop i).lb (k0_t1_loop i).ub (k0_t1_loop i).st)

theorem even_v5 :
    (cmpi .slt runEven.sl.v3 runEven.sl.v4)
      = k0_pay128 := rfl

theorem even_v7 :
    (runEven.sl.v7 (F := F) c arg5 f5)
      = k0_pay129 (arg5.view.readAt (Elt F) (Rect.unit (s := S512x128) ![0, 0] S512x128.size inb_S512x128_S512x128_0_0).toLoadRect f5) := rfl

theorem even_v9 :
    (runEven.sl.v9 (F := F) c arg6 f6)
      = k0_pay130 (arg6.view.readAt (Elt F) (Rect.unit (s := S512x128) ![0, 0] S512x128.size inb_S512x128_S512x128_0_0).toLoadRect f6) := rfl

theorem even_v13 :
    (runEven.sl.v13 (F := F) c arg7 f7)
      = k0_pay133 (arg7.view.readAt (Elt F) (Rect.unit (s := S512x128) ![0, 0] S512x128.size inb_S512x128_S512x128_0_0).toLoadRect f7) := rfl

theorem even_v14 :
    (runEven.sl.v14 (F := F) c arg7 f7)
      = k0_pay134 (arg7.view.readAt (Elt F) (Rect.unit (s := S512x128) ![0, 0] S512x128.size inb_S512x128_S512x128_0_0).toLoadRect f7) := rfl

theorem even_v105 :
    (runEven.sl.v105 (F := F) c i arg2 arg3 arg4 arg5 arg6 arg8 arg14 f2 f3 f4 f5 f6 f8)
      = k0_pay158 k0_pay135 k0_pay137 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runEven.sl.v95 (F := F) c i arg2 arg3 arg5 arg6 arg14 f2 f3 f5 f6) := rfl

theorem even_v115 :
    (runEven.sl.v115 (F := F) c i arg2 arg3 arg4 arg5 arg6 arg7 arg8 arg9 arg14 arg15 f2 f3 f4 f5 f6 f7 f8 f9)
      = k0_pay161 k0_pay135 k0_pay136 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (arg2.view.readAt (Elt F) (Rect.unit (s := S8192x128) (k0_off1 i) S512x128.size (k0_off1_inb i)).toLoadRect f2) (runEven.sl.v95 (F := F) c i arg2 arg3 arg5 arg6 arg14 f2 f3 f5 f6) (runEven.sl.v107 (F := F) c i arg4 arg7 arg15 f4 f7) := rfl

theorem even_v118 :
    (runEven.sl.v118 (F := F) c i arg2 arg3 arg4 arg5 arg6 arg7 arg8 arg9 arg14 arg15 f2 f3 f4 f5 f6 f7 f8 f9)
      = k0_pay162 k0_pay135 k0_pay138 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runEven.sl.v95 (F := F) c i arg2 arg3 arg5 arg6 arg14 f2 f3 f5 f6) (runEven.sl.v107 (F := F) c i arg4 arg7 arg15 f4 f7) := rfl

theorem even_v133 :
    (runEven.sl.v133 (F := F) c i arg2 arg3 arg4 arg5 arg6 arg8 arg14 f2 f3 f4 f5 f6 f8)
      = k0_pay167 k0_pay140 (k0_pay166 k0_pay135 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runEven.sl.v123 (F := F) c i arg2 arg3 arg5 arg6 arg14 f2 f3 f5 f6)) := rfl

theorem even_v143 :
    (runEven.sl.v143 (F := F) c i arg2 arg3 arg4 arg5 arg6 arg7 arg8 arg9 arg14 arg15 f2 f3 f4 f5 f6 f7 f8 f9)
      = k0_pay170 k0_pay139 (k0_pay156 (arg9.view.readAt (Elt F) (Rect.unit (s := S1x16x2x512) (k0_off3 i) S1x1x2x512.size (k0_off3_inb i)).toLoadRect f9)) (k0_pay164 (arg3.view.readAt (Elt F) (Rect.unit (s := S8192x128) (k0_off1 i) S512x128.size (k0_off1_inb i)).toLoadRect f3)) (k0_pay165 k0_pay135 (k0_pay155 (arg8.view.readAt (Elt F) (Rect.unit (s := S1x16x2x512) (k0_off3 i) S1x1x2x512.size (k0_off3_inb i)).toLoadRect f8)) (runEven.sl.v123 (F := F) c i arg2 arg3 arg5 arg6 arg14 f2 f3 f5 f6)) (runEven.sl.v135 (F := F) c i arg4 arg7 arg15 f4 f7) := rfl

theorem even_v146 :
    (runEven.sl.v146 (F := F) c i arg2 arg3 arg4 arg5 arg6 arg7 arg8 arg9 arg14 arg15 f2 f3 f4 f5 f6 f7 f8 f9)
      = k0_pay171 k0_pay141 (k0_pay156 (arg9.view.readAt (Elt F) (Rect.unit (s := S1x16x2x512) (k0_off3 i) S1x1x2x512.size (k0_off3_inb i)).toLoadRect f9)) (k0_pay165 k0_pay135 (k0_pay155 (arg8.view.readAt (Elt F) (Rect.unit (s := S1x16x2x512) (k0_off3 i) S1x1x2x512.size (k0_off3_inb i)).toLoadRect f8)) (runEven.sl.v123 (F := F) c i arg2 arg3 arg5 arg6 arg14 f2 f3 f5 f6)) (runEven.sl.v135 (F := F) c i arg4 arg7 arg15 f4 f7) := rfl

theorem even_v154 :
    (runEven.sl.v154 (F := F) c i arg2 arg3 arg4 arg5 arg6 arg7 arg8 arg9 arg10 arg14 arg15 f2 f3 f4 f5 f6 f7 f8 f9 f10)
      = k0_pay172 k0_pay128 (runEven.sl.v9 (F := F) c arg6 f6) (k0_pay156 (arg9.view.readAt (Elt F) (Rect.unit (s := S1x16x2x512) (k0_off3 i) S1x1x2x512.size (k0_off3_inb i)).toLoadRect f9)) (k0_pay163 (runEven.sl.v7 (F := F) c arg5 f5) k0_pay135 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runEven.sl.v95 (F := F) c i arg2 arg3 arg5 arg6 arg14 f2 f3 f5 f6) (runEven.sl.v107 (F := F) c i arg4 arg7 arg15 f4 f7)) (k0_pay165 k0_pay135 (k0_pay155 (arg8.view.readAt (Elt F) (Rect.unit (s := S1x16x2x512) (k0_off3 i) S1x1x2x512.size (k0_off3_inb i)).toLoadRect f8)) (runEven.sl.v123 (F := F) c i arg2 arg3 arg5 arg6 arg14 f2 f3 f5 f6)) (runEven.sl.v135 (F := F) c i arg4 arg7 arg15 f4 f7) (arg10.view.readAt (Elt F) (Rect.unit (s := S8192x128) (k0_off1 i) S512x128.size (k0_off1_inb i)).toLoadRect f10) := rfl

theorem even_v36 :
    (runEven.sl.v36 (F := F) c i arg2 arg5 f2 f5)
      = k0_pay3 (runEven.sl.v7 (F := F) c arg5 f5) (arg2.view.readAt (Elt F) (Rect.unit (s := S8192x128) (k0_off1 i) S512x128.size (k0_off1_inb i)).toLoadRect f2) := rfl

theorem even_v65 :
    (runEven.sl.v65 (F := F) c i arg2 arg5 f2 f5)
      = k0_pay3 (runEven.sl.v7 (F := F) c arg5 f5) (arg2.view.readAt (Elt F) (Rect.unit (s := S8192x128) (k0_off2 i) S512x128.size (k0_off2_inb i)).toLoadRect f2) := rfl

theorem even_v47 :
    (runEven.sl.v47 (F := F) c i arg3 arg6 f3 f6)
      = k0_pay3 (runEven.sl.v9 (F := F) c arg6 f6) (arg3.view.readAt (Elt F) (Rect.unit (s := S8192x128) (k0_off1 i) S512x128.size (k0_off1_inb i)).toLoadRect f3) := rfl

theorem even_v76 :
    (runEven.sl.v76 (F := F) c i arg3 arg6 f3 f6)
      = k0_pay3 (runEven.sl.v9 (F := F) c arg6 f6) (arg3.view.readAt (Elt F) (Rect.unit (s := S8192x128) (k0_off2 i) S512x128.size (k0_off2_inb i)).toLoadRect f3) := rfl

theorem even_v40 :
    (runEven.sl.v40 (F := F) c i arg4 arg7 f4 f7)
      = k0_pay3 (runEven.sl.v13 (F := F) c arg7 f7) (arg4.view.readAt (Elt F) (Rect.unit (s := S8192x128) (k0_off1 i) S512x128.size (k0_off1_inb i)).toLoadRect f4) := rfl

theorem even_v51 :
    (runEven.sl.v51 (F := F) c i arg4 arg7 f4 f7)
      = k0_pay3 (runEven.sl.v14 (F := F) c arg7 f7) (arg4.view.readAt (Elt F) (Rect.unit (s := S8192x128) (k0_off1 i) S512x128.size (k0_off1_inb i)).toLoadRect f4) := rfl

theorem even_v69 :
    (runEven.sl.v69 (F := F) c i arg4 arg7 f4 f7)
      = k0_pay3 (runEven.sl.v13 (F := F) c arg7 f7) (arg4.view.readAt (Elt F) (Rect.unit (s := S8192x128) (k0_off2 i) S512x128.size (k0_off2_inb i)).toLoadRect f4) := rfl

theorem even_v80 :
    (runEven.sl.v80 (F := F) c i arg4 arg7 f4 f7)
      = k0_pay3 (runEven.sl.v14 (F := F) c arg7 f7) (arg4.view.readAt (Elt F) (Rect.unit (s := S8192x128) (k0_off2 i) S512x128.size (k0_off2_inb i)).toLoadRect f4) := rfl

theorem even_v230 :
    (runEven.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg14.view.readAt (Elt F) (Rect.unit (s := S2x2x512x512) ![1, 0, 0, 0] S1x1x512x512.size inb_S2x2x512x512_S1x1x512x512_1_0_0_0).toLoadRect (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.1 := by
  unfold runEven.sl.v230 midEven
  exact congrArg (arg14.view.readAt (Elt F) (Rect.unit (s := S2x2x512x512) ![1, 0, 0, 0] S1x1x512x512.size inb_S2x2x512x512_S1x1x512x512_1_0_0_0).toLoadRect) (lo14_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem even_v240 :
    (runEven.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg15.view.readAt (Elt F) (Rect.unit (s := S2x2x512x512) ![1, 0, 0, 0] S1x1x512x512.size inb_S2x2x512x512_S1x1x512x512_1_0_0_0).toLoadRect (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.1 := by
  unfold runEven.sl.v240 midEven
  exact congrArg (arg15.view.readAt (Elt F) (Rect.unit (s := S2x2x512x512) ![1, 0, 0, 0] S1x1x512x512.size inb_S2x2x512x512_S1x1x512x512_1_0_0_0).toLoadRect) (lo15_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem even_v256 :
    (runEven.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg14.view.readAt (Elt F) (Rect.unit (s := S2x2x512x512) ![1, 1, 0, 0] S1x1x512x512.size inb_S2x2x512x512_S1x1x512x512_1_1_0_0).toLoadRect (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.1 := by
  unfold runEven.sl.v256 midEven
  exact congrArg (arg14.view.readAt (Elt F) (Rect.unit (s := S2x2x512x512) ![1, 1, 0, 0] S1x1x512x512.size inb_S2x2x512x512_S1x1x512x512_1_1_0_0).toLoadRect) (lo14_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem even_v266 :
    (runEven.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg15.view.readAt (Elt F) (Rect.unit (s := S2x2x512x512) ![1, 1, 0, 0] S1x1x512x512.size inb_S2x2x512x512_S1x1x512x512_1_1_0_0).toLoadRect (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.1 := by
  unfold runEven.sl.v266 midEven
  exact congrArg (arg15.view.readAt (Elt F) (Rect.unit (s := S2x2x512x512) ![1, 1, 0, 0] S1x1x512x512.size inb_S2x2x512x512_S1x1x512x512_1_1_0_0).toLoadRect) (lo15_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem even_H11 : (runEven.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S512x128) ![0, 0] S512x128.size inb_S512x128_S512x128_0_0), k0_pay199 (cmpi .slt runEven.sl.v3 runEven.sl.v4) (k0_pay15 (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.1 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (arg2.view.readAt (Elt F) (Rect.unit (s := S8192x128) ![7680, 0] S512x128.size inb_S8192x128_S512x128_7680_0).toLoadRect f2) (runEven.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)) (k0_pay21 (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.1 (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (arg3.view.readAt (Elt F) (Rect.unit (s := S8192x128) ![7680, 0] S512x128.size inb_S8192x128_S512x128_7680_0).toLoadRect f3) (runEven.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10))⟩] := by
  unfold runEven.sl.H11_1 runEven.sl.v248 midEven
  rfl

theorem even_11 (hz : ¬ Scalar.cmpi .ne (Scalar.extui (Scalar.cmpi .eq (BitVec.ofNat 32 (i 1).val) 0#32)) 0#32 = 1#1) (h2 : k0_cond2 i = 1#1) (h3 : ¬ k0_cond3 i = 1#1) :
    (runEven (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.1
      = arg11.view.writes (Elt F) arg11.view.junk (runEven.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem even_H12 : (runEven.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S512x128) ![0, 0] S512x128.size inb_S512x128_S512x128_0_0), k0_pay200 (cmpi .slt runEven.sl.v3 runEven.sl.v4) (k0_pay12 (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.1 (arg4.view.readAt (Elt F) (Rect.unit (s := S8192x128) ![7680, 0] S512x128.size inb_S8192x128_S512x128_7680_0).toLoadRect f4) (arg8.view.readAt (Elt F) (Rect.unit (s := S1x16x2x512) ![0, 15, 0, 0] S1x1x2x512.size inb_S1x16x2x512_S1x1x2x512_0_15_0_0).toLoadRect f8) (runEven.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)) (k0_pay18 (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.1 (k0_pay8 (arg4.view.readAt (Elt F) (Rect.unit (s := S8192x128) ![7680, 0] S512x128.size inb_S8192x128_S512x128_7680_0).toLoadRect f4)) (k0_pay9 (arg8.view.readAt (Elt F) (Rect.unit (s := S1x16x2x512) ![0, 15, 0, 0] S1x1x2x512.size inb_S1x16x2x512_S1x1x2x512_0_15_0_0).toLoadRect f8)) (runEven.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10))⟩] := by
  unfold runEven.sl.H12_1 runEven.sl.v238 midEven
  rfl

theorem even_12 (hz : ¬ Scalar.cmpi .ne (Scalar.extui (Scalar.cmpi .eq (BitVec.ofNat 32 (i 1).val) 0#32)) 0#32 = 1#1) (h2 : k0_cond2 i = 1#1) (h3 : ¬ k0_cond3 i = 1#1) :
    (runEven (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.1
      = arg12.view.writes (Elt F) arg12.view.junk (runEven.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem even_H13 : (runEven.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S1x512x2) ![0, 0, 0] S1x512x2.size inb_S1x512x2_S1x512x2_0_0_0), k0_pay1 (k0_pay22 (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.2 (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (runEven.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)) k0_pay201 (k0_pay202 (k0_pay16 (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.1 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runEven.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)))⟩] := by
  unfold runEven.sl.H13_1 runEven.sl.r_1 runEven.sl.r_2 runEven.sl.v251 midEven
  rfl

theorem even_13 (hz : ¬ Scalar.cmpi .ne (Scalar.extui (Scalar.cmpi .eq (BitVec.ofNat 32 (i 1).val) 0#32)) 0#32 = 1#1) (h2 : k0_cond2 i = 1#1) (h3 : ¬ k0_cond3 i = 1#1) :
    (runEven (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.2.1
      = arg13.view.writes (Elt F) arg13.view.junk (runEven.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem even_v280 :
    (runEven.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg10.view.readAt (Elt F) (Rect.unit (s := S8192x128) ![7680, 0] S512x128.size inb_S8192x128_S512x128_7680_0).toLoadRect (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 := by
  unfold runEven.sl.v280 midEven
  exact congrArg (arg10.view.readAt (Elt F) (Rect.unit (s := S8192x128) ![7680, 0] S512x128.size inb_S8192x128_S512x128_7680_0).toLoadRect) (lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ )

theorem even_10 (hz : ¬ Scalar.cmpi .ne (Scalar.extui (Scalar.cmpi .eq (BitVec.ofNat 32 (i 1).val) 0#32)) 0#32 = 1#1) (h2 : k0_cond2 i = 1#1) (h3 : ¬ k0_cond3 i = 1#1) :
    (runEven (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).1
      = arg10.view.writes (Elt F) (midEven c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 [⟨(Rect.unit (s := S8192x128) ![7680, 0] S512x128.size inb_S8192x128_S512x128_7680_0), k0_pay23 (cmpi .slt runEven.sl.v3 runEven.sl.v4) (runEven.sl.v7 (F := F) c arg5 f5) (runEven.sl.v9 (F := F) c arg6 f6) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (k0_pay14 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runEven.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)) (constant S512x128 .f32 0x00000000#32) (runEven.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)⟩] := by
  unfold midEven
  exact congrArg (fun z => arg10.view.writes (Elt F) z [⟨(Rect.unit (s := S8192x128) ![7680, 0] S512x128.size inb_S8192x128_S512x128_7680_0), k0_pay23 (cmpi .slt runEven.sl.v3 runEven.sl.v4) (runEven.sl.v7 (F := F) c arg5 f5) (runEven.sl.v9 (F := F) c arg6 f6) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (k0_pay14 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runEven.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)) (constant S512x128 .f32 0x00000000#32) (runEven.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runEven.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)⟩]) (lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ )

end

end Cert.Proof.Attn
end
-- ==== Proof.ValEven.lean ====
/- The point program on the key tiles with one tile left after the loop, over the real numbers. -/
module

public import proofs.«01_k».proof.Proof.ValStep
public import proofs.«01_k».proof.Proof.PointEven

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := Ideal) c arg2) (f3 : At (F := Ideal) c arg3) (f4 : At (F := Ideal) c arg4) (f5 : At (F := Ideal) c arg5) (f6 : At (F := Ideal) c arg6) (f7 : At (F := Ideal) c arg7) (f8 : At (F := Ideal) c arg8) (f9 : At (F := Ideal) c arg9) (f10 : At (F := Ideal) c arg10) (f11 : At (F := Ideal) c arg11) (f12 : At (F := Ideal) c arg12) (f13 : At (F := Ideal) c arg13) (f14 : At (F := Ideal) c arg14) (f15 : At (F := Ideal) c arg15)
variable (w : Wd) (VV D : ℕ → ℕ → ℝ) (hki : w.ki = (i 1).val)
  (hV0 : w.V 0 = fun s l => if l < 64 then VV s l else 0) (hV1 : w.V 1 = fun s l => if l < 64 then 0 else VV s l)
  (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
  (h5 : arg5.view.read (Elt Ideal) f5 = up2 (φ := .bf16) (w.K 0)) (h6 : arg6.view.read (Elt Ideal) f6 = up2 (φ := .bf16) (w.K 1)) (h7 : arg7.view.read (Elt Ideal) f7 = up2 (φ := .bf16) VV)
  (h8 : arg8.view.read (Elt Ideal) f8 = upR (φ := .f32) w.M) (h9 : arg9.view.read (Elt Ideal) f9 = upR (φ := .f32) w.E)
  (h10 : arg10.view.read (Elt Ideal) f10 = up2 (φ := .f32) D)
  (hi : (i 1).val < 15) (hp : (i 1).val % 2 = 0)

include h5 in
theorem even_k0 : (runEven.sl.v7 (F := Ideal) c arg5 f5) = up2 (w.K 0) := by
  rw [even_v7, rd_win _ _ _ h5, id129_val]

include h6 in
theorem even_k1 : (runEven.sl.v9 (F := Ideal) c arg6 f6) = up2 (w.K 1) := by
  rw [even_v9, rd_win _ _ _ h6, id130_val]

include hV0 h7 in
theorem even_v0 : (runEven.sl.v13 (F := Ideal) c arg7 f7) = up2 (w.V 0) := by
  rw [even_v13, rd_win _ _ _ h7, vlo_val, hV0]

include hV1 h7 in
theorem even_v1 : (runEven.sl.v14 (F := Ideal) c arg7 f7) = up2 (w.V 1) := by
  rw [even_v14, rd_win _ _ _ h7, vhi_val, hV1]

include hki h2 h5 in
theorem even_s14_00 : ∀ g : At (F := Ideal) c arg14, arg14.view.readAt (Elt Ideal) (Rect.unit (s := S2x2x512x512) ![0, 0, 0, 0] S1x1x512x512.size inb_S2x2x512x512_S1x1x512x512_0_0_0_0).toLoadRect (arg14.view.writes (Elt Ideal) g (runEven.sl.H14_4 (F := Ideal) c i arg2 arg3 arg5 arg6 f2 f3 f5 f6)) = upT (φ := .f32) (w.ST 0 w.ki) := by
  intro g
  unfold runEven.sl.H14_4 runEven.sl.H14_2
  rw [rd_miss _ _ _ _ _ _ 0 (by decide), rd_miss _ _ _ _ _ _ 0 (by decide), rd_miss _ _ _ _ _ _ 1 (by decide), rd_hit, even_v36, even_k0 c arg5 f5 w h5, rd_tile arg2.view f2 (w.Q 0) h2 (k0_off1_inb i) _ (at1 hki)]
  exact st0_val _ _

include hki h3 h6 in
theorem even_s14_01 : ∀ g : At (F := Ideal) c arg14, arg14.view.readAt (Elt Ideal) (Rect.unit (s := S2x2x512x512) ![0, 1, 0, 0] S1x1x512x512.size inb_S2x2x512x512_S1x1x512x512_0_1_0_0).toLoadRect (arg14.view.writes (Elt Ideal) g (runEven.sl.H14_4 (F := Ideal) c i arg2 arg3 arg5 arg6 f2 f3 f5 f6)) = upT (φ := .f32) (w.ST 1 w.ki) := by
  intro g
  unfold runEven.sl.H14_4 runEven.sl.H14_2
  rw [rd_miss _ _ _ _ _ _ 0 (by decide), rd_miss _ _ _ _ _ _ 0 (by decide), rd_hit, even_v47, even_k1 c arg6 f6 w h6, rd_tile arg3.view f3 (w.Q 1) h3 (k0_off1_inb i) _ (at1 hki)]
  exact st0_val _ _

include hki h2 h5 hi in
theorem even_s14_10 : ∀ g : At (F := Ideal) c arg14, arg14.view.readAt (Elt Ideal) (Rect.unit (s := S2x2x512x512) ![1, 0, 0, 0] S1x1x512x512.size inb_S2x2x512x512_S1x1x512x512_1_0_0_0).toLoadRect (arg14.view.writes (Elt Ideal) g (runEven.sl.H14_4 (F := Ideal) c i arg2 arg3 arg5 arg6 f2 f3 f5 f6)) = upT (φ := .f32) (w.ST 0 (w.ki + 1)) := by
  intro g
  unfold runEven.sl.H14_4 runEven.sl.H14_2
  rw [rd_miss _ _ _ _ _ _ 1 (by decide), rd_hit, even_v65, even_k0 c arg5 f5 w h5, rd_tile arg2.view f2 (w.Q 0) h2 (k0_off2_inb i) _ ((off2_eq i).trans (by rw [Nat.min_eq_left (by omega), hki]) : k0_off2 i = ![512 * (w.ki + 1), 0])]
  exact st0_val _ _

include hki h3 h6 hi in
theorem even_s14_11 : ∀ g : At (F := Ideal) c arg14, arg14.view.readAt (Elt Ideal) (Rect.unit (s := S2x2x512x512) ![1, 1, 0, 0] S1x1x512x512.size inb_S2x2x512x512_S1x1x512x512_1_1_0_0).toLoadRect (arg14.view.writes (Elt Ideal) g (runEven.sl.H14_4 (F := Ideal) c i arg2 arg3 arg5 arg6 f2 f3 f5 f6)) = upT (φ := .f32) (w.ST 1 (w.ki + 1)) := by
  intro g
  unfold runEven.sl.H14_4 runEven.sl.H14_2
  rw [rd_hit, even_v76, even_k1 c arg6 f6 w h6, rd_tile arg3.view f3 (w.Q 1) h3 (k0_off2_inb i) _ ((off2_eq i).trans (by rw [Nat.min_eq_left (by omega), hki]) : k0_off2 i = ![512 * (w.ki + 1), 0])]
  exact st0_val _ _

include hki hV0 h4 h7 in
theorem even_s15_00 : ∀ g : At (F := Ideal) c arg15, arg15.view.readAt (Elt Ideal) (Rect.unit (s := S2x2x512x512) ![0, 0, 0, 0] S1x1x512x512.size inb_S2x2x512x512_S1x1x512x512_0_0_0_0).toLoadRect (arg15.view.writes (Elt Ideal) g (runEven.sl.H15_4 (F := Ideal) c i arg4 arg7 f4 f7)) = upT (φ := .f32) (w.DP 0 w.ki) := by
  intro g
  unfold runEven.sl.H15_4 runEven.sl.H15_2
  rw [rd_miss _ _ _ _ _ _ 0 (by decide), rd_miss _ _ _ _ _ _ 0 (by decide), rd_miss _ _ _ _ _ _ 1 (by decide), rd_hit, even_v40, even_v0 c arg7 f7 w VV hV0 h7, rd_tile arg4.view f4 w.G h4 (k0_off1_inb i) _ (at1 hki)]
  exact st0_val _ _

include hki hV1 h4 h7 in
theorem even_s15_01 : ∀ g : At (F := Ideal) c arg15, arg15.view.readAt (Elt Ideal) (Rect.unit (s := S2x2x512x512) ![0, 1, 0, 0] S1x1x512x512.size inb_S2x2x512x512_S1x1x512x512_0_1_0_0).toLoadRect (arg15.view.writes (Elt Ideal) g (runEven.sl.H15_4 (F := Ideal) c i arg4 arg7 f4 f7)) = upT (φ := .f32) (w.DP 1 w.ki) := by
  intro g
  unfold runEven.sl.H15_4 runEven.sl.H15_2
  rw [rd_miss _ _ _ _ _ _ 0 (by decide), rd_miss _ _ _ _ _ _ 0 (by decide), rd_hit, even_v51, even_v1 c arg7 f7 w VV hV1 h7, rd_tile arg4.view f4 w.G h4 (k0_off1_inb i) _ (at1 hki)]
  exact st0_val _ _

include hki hV0 h4 h7 hi in
theorem even_s15_10 : ∀ g : At (F := Ideal) c arg15, arg15.view.readAt (Elt Ideal) (Rect.unit (s := S2x2x512x512) ![1, 0, 0, 0] S1x1x512x512.size inb_S2x2x512x512_S1x1x512x512_1_0_0_0).toLoadRect (arg15.view.writes (Elt Ideal) g (runEven.sl.H15_4 (F := Ideal) c i arg4 arg7 f4 f7)) = upT (φ := .f32) (w.DP 0 (w.ki + 1)) := by
  intro g
  unfold runEven.sl.H15_4 runEven.sl.H15_2
  rw [rd_miss _ _ _ _ _ _ 1 (by decide), rd_hit, even_v69, even_v0 c arg7 f7 w VV hV0 h7, rd_tile arg4.view f4 w.G h4 (k0_off2_inb i) _ ((off2_eq i).trans (by rw [Nat.min_eq_left (by omega), hki]) : k0_off2 i = ![512 * (w.ki + 1), 0])]
  exact st0_val _ _

include hki hV1 h4 h7 hi in
theorem even_s15_11 : ∀ g : At (F := Ideal) c arg15, arg15.view.readAt (Elt Ideal) (Rect.unit (s := S2x2x512x512) ![1, 1, 0, 0] S1x1x512x512.size inb_S2x2x512x512_S1x1x512x512_1_1_0_0).toLoadRect (arg15.view.writes (Elt Ideal) g (runEven.sl.H15_4 (F := Ideal) c i arg4 arg7 f4 f7)) = upT (φ := .f32) (w.DP 1 (w.ki + 1)) := by
  intro g
  unfold runEven.sl.H15_4 runEven.sl.H15_2
  rw [rd_hit, even_v80, even_v1 c arg7 f7 w VV hV1 h7, rd_tile arg4.view f4 w.G h4 (k0_off2_inb i) _ ((off2_eq i).trans (by rw [Nat.min_eq_left (by omega), hki]) : k0_off2 i = ![512 * (w.ki + 1), 0])]
  exact st0_val _ _

include hki h2 h4 h5 h8 in
theorem even_dv0 : (runEven.sl.v105 (F := Ideal) c i arg2 arg3 arg4 arg5 arg6 arg8 arg14 f2 f3 f4 f5 f6 f8) = up2 (w.dvC 0 w.ki) := by
  have g_ := rd_tile arg4.view f4 w.G h4 (k0_off1_inb i) _ (at1 hki)
  have m_ := rd_row arg8.view f8 w.M h8 (k0_off3_inb i) _ (at3 hki)
  have v95_ : (runEven.sl.v95 (F := Ideal) c i arg2 arg3 arg5 arg6 arg14 f2 f3 f5 f6) = upT (φ := .f32) (w.ST 0 w.ki) := by
    refine even_s14_00 (w := w) (hki := hki) (h2 := h2) (h5 := h5) (g := arg14.view.junk) ..
  rw [even_v105]
  exact dg_dv0 w rfl g_ m_ v95_

include hki h3 h4 h6 h8 in
theorem even_dv1 : (runEven.sl.v133 (F := Ideal) c i arg2 arg3 arg4 arg5 arg6 arg8 arg14 f2 f3 f4 f5 f6 f8) = up2 (w.dvC 1 w.ki) := by
  have g_ := rd_tile arg4.view f4 w.G h4 (k0_off1_inb i) _ (at1 hki)
  have m_ := rd_row arg8.view f8 w.M h8 (k0_off3_inb i) _ (at3 hki)
  have v123_ : (runEven.sl.v123 (F := Ideal) c i arg2 arg3 arg5 arg6 arg14 f2 f3 f5 f6) = upT (φ := .f32) (w.ST 1 w.ki) := by
    refine even_s14_01 (w := w) (hki := hki) (h3 := h3) (h6 := h6) (g := arg14.view.junk) ..
  rw [even_v133]
  exact dg_dv1 w rfl g_ m_ v123_

include hki hV0 h2 h4 h5 h7 h8 h9 in
theorem even_dk0 : (runEven.sl.v115 (F := Ideal) c i arg2 arg3 arg4 arg5 arg6 arg7 arg8 arg9 arg14 arg15 f2 f3 f4 f5 f6 f7 f8 f9) = up2 (w.dkC 0 w.ki) := by
  have m_ := rd_row arg8.view f8 w.M h8 (k0_off3_inb i) _ (at3 hki)
  have e_ := rd_row arg9.view f9 w.E h9 (k0_off3_inb i) _ (at3 hki)
  have q_ := rd_tile arg2.view f2 (w.Q 0) h2 (k0_off1_inb i) _ (at1 hki)
  have v95_ : (runEven.sl.v95 (F := Ideal) c i arg2 arg3 arg5 arg6 arg14 f2 f3 f5 f6) = upT (φ := .f32) (w.ST 0 w.ki) := by
    refine even_s14_00 (w := w) (hki := hki) (h2 := h2) (h5 := h5) (g := arg14.view.junk) ..
  have v107_ : (runEven.sl.v107 (F := Ideal) c i arg4 arg7 arg15 f4 f7) = upT (φ := .f32) (w.DP 0 w.ki) := by
    refine even_s15_00 (w := w) (hki := hki) (VV := VV) (hV0 := hV0) (h4 := h4) (h7 := h7) (g := arg15.view.junk) ..
  rw [even_v115]
  exact dg_dk0 w rfl m_ e_ q_ v95_ v107_

include hki hV1 h3 h4 h6 h7 h8 h9 in
theorem even_dk1 : (runEven.sl.v143 (F := Ideal) c i arg2 arg3 arg4 arg5 arg6 arg7 arg8 arg9 arg14 arg15 f2 f3 f4 f5 f6 f7 f8 f9) = up2 (w.dkC 1 w.ki) := by
  have m_ := rd_row arg8.view f8 w.M h8 (k0_off3_inb i) _ (at3 hki)
  have e_ := rd_row arg9.view f9 w.E h9 (k0_off3_inb i) _ (at3 hki)
  have q1_ := rd_tile arg3.view f3 (w.Q 1) h3 (k0_off1_inb i) _ (at1 hki)
  have v123_ : (runEven.sl.v123 (F := Ideal) c i arg2 arg3 arg5 arg6 arg14 f2 f3 f5 f6) = upT (φ := .f32) (w.ST 1 w.ki) := by
    refine even_s14_01 (w := w) (hki := hki) (h3 := h3) (h6 := h6) (g := arg14.view.junk) ..
  have v135_ : (runEven.sl.v135 (F := Ideal) c i arg4 arg7 arg15 f4 f7) = upT (φ := .f32) (w.DP 1 w.ki) := by
    refine even_s15_01 (w := w) (hki := hki) (VV := VV) (hV1 := hV1) (h4 := h4) (h7 := h7) (g := arg15.view.junk) ..
  rw [even_v143]
  exact dg_dk1 w rfl m_ e_ q1_ v123_ v135_

include hki hV0 h2 h4 h5 h7 h8 h9 in
theorem even_dc0 : (runEven.sl.v118 (F := Ideal) c i arg2 arg3 arg4 arg5 arg6 arg7 arg8 arg9 arg14 arg15 f2 f3 f4 f5 f6 f7 f8 f9) = up2 (fun s _ => - w.dcC 0 w.ki s) := by
  have m_ := rd_row arg8.view f8 w.M h8 (k0_off3_inb i) _ (at3 hki)
  have e_ := rd_row arg9.view f9 w.E h9 (k0_off3_inb i) _ (at3 hki)
  have v95_ : (runEven.sl.v95 (F := Ideal) c i arg2 arg3 arg5 arg6 arg14 f2 f3 f5 f6) = upT (φ := .f32) (w.ST 0 w.ki) := by
    refine even_s14_00 (w := w) (hki := hki) (h2 := h2) (h5 := h5) (g := arg14.view.junk) ..
  have v107_ : (runEven.sl.v107 (F := Ideal) c i arg4 arg7 arg15 f4 f7) = upT (φ := .f32) (w.DP 0 w.ki) := by
    refine even_s15_00 (w := w) (hki := hki) (VV := VV) (hV0 := hV0) (h4 := h4) (h7 := h7) (g := arg15.view.junk) ..
  rw [even_v118]
  exact dg_dc0 w rfl m_ e_ v95_ v107_

include hki hV1 h3 h4 h6 h7 h8 h9 in
theorem even_dc1 : (runEven.sl.v146 (F := Ideal) c i arg2 arg3 arg4 arg5 arg6 arg7 arg8 arg9 arg14 arg15 f2 f3 f4 f5 f6 f7 f8 f9) = up2 (fun s _ => - w.dcC 1 w.ki s) := by
  have m_ := rd_row arg8.view f8 w.M h8 (k0_off3_inb i) _ (at3 hki)
  have e_ := rd_row arg9.view f9 w.E h9 (k0_off3_inb i) _ (at3 hki)
  have v123_ : (runEven.sl.v123 (F := Ideal) c i arg2 arg3 arg5 arg6 arg14 f2 f3 f5 f6) = upT (φ := .f32) (w.ST 1 w.ki) := by
    refine even_s14_01 (w := w) (hki := hki) (h3 := h3) (h6 := h6) (g := arg14.view.junk) ..
  have v135_ : (runEven.sl.v135 (F := Ideal) c i arg4 arg7 arg15 f4 f7) = upT (φ := .f32) (w.DP 1 w.ki) := by
    refine even_s15_01 (w := w) (hki := hki) (VV := VV) (hV1 := hV1) (h4 := h4) (h7 := h7) (g := arg15.view.junk) ..
  rw [even_v146]
  exact dg_dc1 w rfl m_ e_ v123_ v135_

include hki hV0 hV1 h2 h3 h4 h5 h6 h7 h8 h9 h10 in
theorem even_q : (runEven.sl.v154 (F := Ideal) c i arg2 arg3 arg4 arg5 arg6 arg7 arg8 arg9 arg10 arg14 arg15 f2 f3 f4 f5 f6 f7 f8 f9 f10) = up2 fun t l => D (512 * w.ki + t) l + w.dqC w.ki t l := by
  have m_ := rd_row arg8.view f8 w.M h8 (k0_off3_inb i) _ (at3 hki)
  have e_ := rd_row arg9.view f9 w.E h9 (k0_off3_inb i) _ (at3 hki)
  have k0_ := even_k0 c arg5 f5 w h5
  have k1_ := even_k1 c arg6 f6 w h6
  have v95_ : (runEven.sl.v95 (F := Ideal) c i arg2 arg3 arg5 arg6 arg14 f2 f3 f5 f6) = upT (φ := .f32) (w.ST 0 w.ki) := by
    refine even_s14_00 (w := w) (hki := hki) (h2 := h2) (h5 := h5) (g := arg14.view.junk) ..
  have v107_ : (runEven.sl.v107 (F := Ideal) c i arg4 arg7 arg15 f4 f7) = upT (φ := .f32) (w.DP 0 w.ki) := by
    refine even_s15_00 (w := w) (hki := hki) (VV := VV) (hV0 := hV0) (h4 := h4) (h7 := h7) (g := arg15.view.junk) ..
  have v123_ : (runEven.sl.v123 (F := Ideal) c i arg2 arg3 arg5 arg6 arg14 f2 f3 f5 f6) = upT (φ := .f32) (w.ST 1 w.ki) := by
    refine even_s14_01 (w := w) (hki := hki) (h3 := h3) (h6 := h6) (g := arg14.view.junk) ..
  have v135_ : (runEven.sl.v135 (F := Ideal) c i arg4 arg7 arg15 f4 f7) = upT (φ := .f32) (w.DP 1 w.ki) := by
    refine even_s15_01 (w := w) (hki := hki) (VV := VV) (hV1 := hV1) (h4 := h4) (h7 := h7) (g := arg15.view.junk) ..
  have a_ := rd_tile32 arg10.view f10 D h10 (k0_off1_inb i) _ (at1 hki)
  rw [even_v154, k0_, k1_]
  exact dg_dq w rfl m_ e_ v95_ v107_ v123_ v135_ D a_

include hki hV0 hV1 h2 h3 h4 h5 h6 h7 h8 h9 h10 in
theorem even_d10 : arg10.view.read (Elt Ideal) (arg10.view.writes (Elt Ideal) f10 (⟨(Rect.unit (s := S8192x128) (k0_off1 i) S512x128.size (k0_off1_inb i)), (runEven.sl.v154 (F := Ideal) c i arg2 arg3 arg4 arg5 arg6 arg7 arg8 arg9 arg10 arg14 arg15 f2 f3 f4 f5 f6 f7 f8 f9 f10)⟩ :: [])) = up2 (φ := .f32) (w.dq D (w.ki + 1)) := by
  rw [show (runEven.sl.v154 (F := Ideal) c i arg2 arg3 arg4 arg5 arg6 arg7 arg8 arg9 arg10 arg14 arg15 f2 f3 f4 f5 f6 f7 f8 f9 f10) = _ from even_q (w := w) (VV := VV) (hki := hki) (hV0 := hV0) (hV1 := hV1) (h2 := h2) (h3 := h3) (h4 := h4) (h5 := h5) (h6 := h6) (h7 := h7) (h8 := h8) (h9 := h9) (h10 := h10) ..]
  refine (wr_tile arg10.view f10 [] D (w.dqC w.ki) h10 (k0_off1_inb i) _ (at1 hki)).trans ?_
  exact congrArg up2 (funext fun r => funext fun l => (w.dq_base D r l).symm)

include hki hV0 hV1 h2 h3 h4 h5 h6 h7 h8 h9 h10 hi hp in
theorem even_mid : TripVal c arg10 arg14 arg15 w 15 (w.dq D 15) (w.dk 0 15) (w.dv 0 15) (fun s _ => w.dc 0 15 s) (w.dk 1 15) (w.dv 1 15) (fun s _ => w.dc 1 15 s) (midEven (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 (midEven (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.1 (midEven (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.1 (midEven (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2 := by
  have ht := trips1 i
  unfold midEven
  refine loop_val' c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ w f2 f3 f4 f8 f9 _ _ _ _ D even_v5 (even_k0 c arg5 f5 w h5) (even_k1 c arg6 f6 w h6) (even_v0 c arg7 f7 w VV hV0 h7) (even_v1 c arg7 f7 w VV hV1 h7) h2 h3 h4 h8 h9 hki ⟨?_, ?_, ?_, ?_, ?_, ?_, ?_, ?_, ?_, ?_, ?_⟩ _ (by rw [ht]; omega)
  · exact (even_dk0 (w := w) (VV := VV) (hki := hki) (hV0 := hV0) (h2 := h2) (h4 := h4) (h5 := h5) (h7 := h7) (h8 := h8) (h9 := h9) ..).trans (congrArg up2 (funext fun s => funext fun l => (w.dk_one 0 s l).symm))
  · exact (even_dv0 (w := w) (hki := hki) (h2 := h2) (h4 := h4) (h5 := h5) (h8 := h8) ..).trans (congrArg up2 (funext fun s => funext fun l => (w.dv_one 0 s l).symm))
  · exact (even_dc0 (w := w) (VV := VV) (hki := hki) (hV0 := hV0) (h2 := h2) (h4 := h4) (h5 := h5) (h7 := h7) (h8 := h8) (h9 := h9) ..).trans (congrArg up2 (funext fun s => funext fun l => (w.dc_one 0 s).symm))
  · exact (even_dk1 (w := w) (VV := VV) (hki := hki) (hV1 := hV1) (h3 := h3) (h4 := h4) (h6 := h6) (h7 := h7) (h8 := h8) (h9 := h9) ..).trans (congrArg up2 (funext fun s => funext fun l => (w.dk_one 1 s l).symm))
  · exact (even_dv1 (w := w) (hki := hki) (h3 := h3) (h4 := h4) (h6 := h6) (h8 := h8) ..).trans (congrArg up2 (funext fun s => funext fun l => (w.dv_one 1 s l).symm))
  · exact (even_dc1 (w := w) (VV := VV) (hki := hki) (hV1 := hV1) (h3 := h3) (h4 := h4) (h6 := h6) (h7 := h7) (h8 := h8) (h9 := h9) ..).trans (congrArg up2 (funext fun s => funext fun l => (w.dc_one 1 s).symm))
  · exact even_d10 (w := w) (VV := VV) (hki := hki) (hV0 := hV0) (hV1 := hV1) (h2 := h2) (h3 := h3) (h4 := h4) (h5 := h5) (h6 := h6) (h7 := h7) (h8 := h8) (h9 := h9) (h10 := h10) ..
  · exact even_s14_10 (w := w) (hki := hki) (h2 := h2) (h5 := h5) (hi := hi) (g := arg14.view.junk) ..
  · exact even_s14_11 (w := w) (hki := hki) (h3 := h3) (h6 := h6) (hi := hi) (g := arg14.view.junk) ..
  · exact even_s15_10 (w := w) (hki := hki) (VV := VV) (hV0 := hV0) (h4 := h4) (h7 := h7) (hi := hi) (g := arg15.view.junk) ..
  · exact even_s15_11 (w := w) (hki := hki) (VV := VV) (hV1 := hV1) (h4 := h4) (h7 := h7) (hi := hi) (g := arg15.view.junk) ..

include hki hV0 hV1 h2 h3 h4 h5 h6 h7 h8 h9 h10 hi hp in
theorem even_val (hz : ¬ Scalar.cmpi .ne (Scalar.extui (Scalar.cmpi .eq (BitVec.ofNat 32 (i 1).val) 0#32)) 0#32 = 1#1) (hc2 : k0_cond2 i = 1#1) (hc3 : ¬ k0_cond3 i = 1#1) : PointVal c arg10 arg11 arg12 arg13 w D (runEven (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).1 (runEven (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.1 (runEven (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.2.1 (runEven (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.2.2.1 := by
  have v5_ := even_v5
  have k0_ := even_k0 c arg5 f5 w h5
  have k1_ := even_k1 c arg6 f6 w h6
  have hk : w.ki < 15 := by omega
  have g_ := rd_tile arg4.view f4 w.G h4 inb_S8192x128_S512x128_7680_0 15 rfl
  have m_ := rd_row arg8.view f8 w.M h8 inb_S1x16x2x512_S1x1x2x512_0_15_0_0 15 rfl
  have e_ := rd_row arg9.view f9 w.E h9 inb_S1x16x2x512_S1x1x2x512_0_15_0_0 15 rfl
  have q_ := rd_tile arg2.view f2 (w.Q 0) h2 inb_S8192x128_S512x128_7680_0 15 rfl
  have q1_ := rd_tile arg3.view f3 (w.Q 1) h3 inb_S8192x128_S512x128_7680_0 15 rfl
  obtain ⟨y0, y1, y2, y3, y4, y5, yq, ys0, ys1, yd0, yd1⟩ := even_mid c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 w VV D hki hV0 hV1 h2 h3 h4 h5 h6 h7 h8 h9 h10 hi hp
  have s_ := (even_v230 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans ys0
  have s1_ := (even_v256 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans ys1
  have d_ := (even_v240 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans yd0
  have d1_ := (even_v266 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans yd1
  have a_ := (even_v280 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans (rd_tile32 arg10.view _ _ yq inb_S8192x128_S512x128_7680_0 15 rfl)
  refine ⟨?_, ?_, ?_, ?_⟩
  · rw [even_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, v5_, k0_, k1_, dq_one w hk _ a_ m_ e_ s_ d_ s1_ d1_]
    refine (wr_tile arg10.view _ [] _ (w.dqC 15) yq _ 15 rfl).trans ?_
    exact congrArg up2 (funext fun r => funext fun l => (w.dq_succ D (show w.ki ≤ 15 by omega) r l).symm)
  · rw [even_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, even_H11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, v5_, y0, y3, dk0_one w hk _ m_ e_ q_ s_ d_, dk1_one w hk _ m_ e_ q1_ s1_ d1_, fin_dk]
    refine (wr_all arg11.view _ z2 _ _).trans ?_
    exact congrArg up2 (funext fun s => funext fun l => by rw [w.dk_succ (show w.ki ≤ 15 by omega), w.dk_succ (show w.ki ≤ 15 by omega)])
  · rw [even_12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, even_H12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, v5_, y1, y4, dv0_one w hk _ g_ m_ s_, dv1_one w hk _ g_ m_ s1_, fin_dv]
    refine (wr_all arg12.view _ z2 _ _).trans ?_
    exact congrArg up2 (funext fun s => funext fun l => by rw [w.dv_succ (show w.ki ≤ 15 by omega), w.dv_succ (show w.ki ≤ 15 by omega)])
  · rw [even_13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, even_H13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, y2, y5, dc0_one w hk _ m_ e_ s_ d_, dc1_one w hk _ m_ e_ s1_ d1_, fin_dc]
    refine (wr_all arg13.view _ z3 _ _).trans ?_
    exact congrArg upC (funext fun s => funext fun h => by rw [w.dc_succ (show w.ki ≤ 15 by omega), w.dc_succ (show w.ki ≤ 15 by omega)])

end

end Cert.Proof.Attn
end
-- ==== Proof.PointFirst.lean ====
/- What one kind of grid point leaves, value by value. -/
module

public import proofs.«01_k».proof.Proof.Body

@[expose] public section

set_option maxHeartbeats 1000000

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15)

/-- Everything the loop leaves. -/
def midFirst : St (F := F) c arg10 arg14 arg15 :=
  loopSt c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (cmpi CmpIPredicate.slt runFirst.sl.v3 runFirst.sl.v4) (runFirst.sl.v7 c arg5 f5) (runFirst.sl.v9 c arg6 f6) (runFirst.sl.v13 c arg7 f7) (runFirst.sl.v14 c arg7 f7) (runFirst.sl.v18 i) (runFirst.sl.v105 c i arg2 arg3 arg4 arg5 arg6 arg8 arg14 f2 f3 f4 f5 f6 f8) (runFirst.sl.v115 c i arg2 arg3 arg4 arg5 arg6 arg7 arg8 arg9 arg14 arg15 f2 f3 f4 f5 f6 f7 f8 f9) (runFirst.sl.v118 c i arg2 arg3 arg4 arg5 arg6 arg7 arg8 arg9 arg14 arg15 f2 f3 f4 f5 f6 f7 f8 f9) (runFirst.sl.v133 c i arg2 arg3 arg4 arg5 arg6 arg8 arg14 f2 f3 f4 f5 f6 f8) (runFirst.sl.v143 c i arg2 arg3 arg4 arg5 arg6 arg7 arg8 arg9 arg14 arg15 f2 f3 f4 f5 f6 f7 f8 f9) (runFirst.sl.v146 c i arg2 arg3 arg4 arg5 arg6 arg7 arg8 arg9 arg14 arg15 f2 f3 f4 f5 f6 f7 f8 f9) (runFirst.sl.v158 i) (runFirst.sl.v172 i) (runFirst.sl.v173 i) f2 f3 f4 f8 f9 (View.write (Elt F) (arg10.view.slice (Rect.unit (s := S8192x128) (k0_off1 i) S512x128.size (k0_off1_inb i))) (arg10.view.writes (Elt F) arg10.view.junk (runFirst.sl.H10_1 (F := F))) (runFirst.sl.v154 c i arg2 arg3 arg4 arg5 arg6 arg7 arg8 arg9 arg10 arg14 arg15 f2 f3 f4 f5 f6 f7 f8 f9) Finset.univ, View.write (Elt F) (arg14.view.slice (Rect.unit (s := S2x2x512x512) ![1, 1, 0, 0] S1x1x512x512.size inb_S2x2x512x512_S1x1x512x512_1_1_0_0)) (arg14.view.writes (Elt F) arg14.view.junk (⟨Rect.unit (s := S2x2x512x512) ![1, 0, 0, 0] S1x1x512x512.size inb_S2x2x512x512_S1x1x512x512_1_0_0_0, runFirst.sl.v65 c i arg2 arg5 f2 f5⟩ :: runFirst.sl.H14_2 c i arg2 arg3 arg5 arg6 f2 f3 f5 f6)) (runFirst.sl.v76 c i arg3 arg6 f3 f6) Finset.univ, View.write (Elt F) (arg15.view.slice (Rect.unit (s := S2x2x512x512) ![1, 1, 0, 0] S1x1x512x512.size inb_S2x2x512x512_S1x1x512x512_1_1_0_0)) (arg15.view.writes (Elt F) arg15.view.junk (⟨Rect.unit (s := S2x2x512x512) ![1, 0, 0, 0] S1x1x512x512.size inb_S2x2x512x512_S1x1x512x512_1_0_0_0, runFirst.sl.v69 c i arg4 arg7 f4 f7⟩ :: runFirst.sl.H15_2 c i arg4 arg7 f4 f7)) (runFirst.sl.v80 c i arg4 arg7 f4 f7) Finset.univ, runFirst.sl.v115 c i arg2 arg3 arg4 arg5 arg6 arg7 arg8 arg9 arg14 arg15 f2 f3 f4 f5 f6 f7 f8 f9, runFirst.sl.v105 c i arg2 arg3 arg4 arg5 arg6 arg8 arg14 f2 f3 f4 f5 f6 f8, runFirst.sl.v118 c i arg2 arg3 arg4 arg5 arg6 arg7 arg8 arg9 arg14 arg15 f2 f3 f4 f5 f6 f7 f8 f9, runFirst.sl.v143 c i arg2 arg3 arg4 arg5 arg6 arg7 arg8 arg9 arg14 arg15 f2 f3 f4 f5 f6 f7 f8 f9, runFirst.sl.v133 c i arg2 arg3 arg4 arg5 arg6 arg8 arg14 f2 f3 f4 f5 f6 f8, runFirst.sl.v146 c i arg2 arg3 arg4 arg5 arg6 arg7 arg8 arg9 arg14 arg15 f2 f3 f4 f5 f6 f7 f8 f9) (Scf.trips (k0_t1_loop i).lb (k0_t1_loop i).ub (k0_t1_loop i).st)

theorem first_v5 :
    (cmpi .slt runFirst.sl.v3 runFirst.sl.v4)
      = k0_pay128 := rfl

theorem first_v7 :
    (runFirst.sl.v7 (F := F) c arg5 f5)
      = k0_pay129 (arg5.view.readAt (Elt F) (Rect.unit (s := S512x128) ![0, 0] S512x128.size inb_S512x128_S512x128_0_0).toLoadRect f5) := rfl

theorem first_v9 :
    (runFirst.sl.v9 (F := F) c arg6 f6)
      = k0_pay130 (arg6.view.readAt (Elt F) (Rect.unit (s := S512x128) ![0, 0] S512x128.size inb_S512x128_S512x128_0_0).toLoadRect f6) := rfl

theorem first_v13 :
    (runFirst.sl.v13 (F := F) c arg7 f7)
      = k0_pay133 (arg7.view.readAt (Elt F) (Rect.unit (s := S512x128) ![0, 0] S512x128.size inb_S512x128_S512x128_0_0).toLoadRect f7) := rfl

theorem first_v14 :
    (runFirst.sl.v14 (F := F) c arg7 f7)
      = k0_pay134 (arg7.view.readAt (Elt F) (Rect.unit (s := S512x128) ![0, 0] S512x128.size inb_S512x128_S512x128_0_0).toLoadRect f7) := rfl

theorem first_v105 :
    (runFirst.sl.v105 (F := F) c i arg2 arg3 arg4 arg5 arg6 arg8 arg14 f2 f3 f4 f5 f6 f8)
      = k0_pay158 k0_pay135 k0_pay137 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runFirst.sl.v95 (F := F) c i arg2 arg3 arg5 arg6 arg14 f2 f3 f5 f6) := rfl

theorem first_v115 :
    (runFirst.sl.v115 (F := F) c i arg2 arg3 arg4 arg5 arg6 arg7 arg8 arg9 arg14 arg15 f2 f3 f4 f5 f6 f7 f8 f9)
      = k0_pay161 k0_pay135 k0_pay136 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (arg2.view.readAt (Elt F) (Rect.unit (s := S8192x128) (k0_off1 i) S512x128.size (k0_off1_inb i)).toLoadRect f2) (runFirst.sl.v95 (F := F) c i arg2 arg3 arg5 arg6 arg14 f2 f3 f5 f6) (runFirst.sl.v107 (F := F) c i arg4 arg7 arg15 f4 f7) := rfl

theorem first_v118 :
    (runFirst.sl.v118 (F := F) c i arg2 arg3 arg4 arg5 arg6 arg7 arg8 arg9 arg14 arg15 f2 f3 f4 f5 f6 f7 f8 f9)
      = k0_pay162 k0_pay135 k0_pay138 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runFirst.sl.v95 (F := F) c i arg2 arg3 arg5 arg6 arg14 f2 f3 f5 f6) (runFirst.sl.v107 (F := F) c i arg4 arg7 arg15 f4 f7) := rfl

theorem first_v133 :
    (runFirst.sl.v133 (F := F) c i arg2 arg3 arg4 arg5 arg6 arg8 arg14 f2 f3 f4 f5 f6 f8)
      = k0_pay167 k0_pay140 (k0_pay166 k0_pay135 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runFirst.sl.v123 (F := F) c i arg2 arg3 arg5 arg6 arg14 f2 f3 f5 f6)) := rfl

theorem first_v143 :
    (runFirst.sl.v143 (F := F) c i arg2 arg3 arg4 arg5 arg6 arg7 arg8 arg9 arg14 arg15 f2 f3 f4 f5 f6 f7 f8 f9)
      = k0_pay170 k0_pay139 (k0_pay156 (arg9.view.readAt (Elt F) (Rect.unit (s := S1x16x2x512) (k0_off3 i) S1x1x2x512.size (k0_off3_inb i)).toLoadRect f9)) (k0_pay164 (arg3.view.readAt (Elt F) (Rect.unit (s := S8192x128) (k0_off1 i) S512x128.size (k0_off1_inb i)).toLoadRect f3)) (k0_pay165 k0_pay135 (k0_pay155 (arg8.view.readAt (Elt F) (Rect.unit (s := S1x16x2x512) (k0_off3 i) S1x1x2x512.size (k0_off3_inb i)).toLoadRect f8)) (runFirst.sl.v123 (F := F) c i arg2 arg3 arg5 arg6 arg14 f2 f3 f5 f6)) (runFirst.sl.v135 (F := F) c i arg4 arg7 arg15 f4 f7) := rfl

theorem first_v146 :
    (runFirst.sl.v146 (F := F) c i arg2 arg3 arg4 arg5 arg6 arg7 arg8 arg9 arg14 arg15 f2 f3 f4 f5 f6 f7 f8 f9)
      = k0_pay171 k0_pay141 (k0_pay156 (arg9.view.readAt (Elt F) (Rect.unit (s := S1x16x2x512) (k0_off3 i) S1x1x2x512.size (k0_off3_inb i)).toLoadRect f9)) (k0_pay165 k0_pay135 (k0_pay155 (arg8.view.readAt (Elt F) (Rect.unit (s := S1x16x2x512) (k0_off3 i) S1x1x2x512.size (k0_off3_inb i)).toLoadRect f8)) (runFirst.sl.v123 (F := F) c i arg2 arg3 arg5 arg6 arg14 f2 f3 f5 f6)) (runFirst.sl.v135 (F := F) c i arg4 arg7 arg15 f4 f7) := rfl

theorem first_v154 :
    (runFirst.sl.v154 (F := F) c i arg2 arg3 arg4 arg5 arg6 arg7 arg8 arg9 arg10 arg14 arg15 f2 f3 f4 f5 f6 f7 f8 f9)
      = k0_pay172 k0_pay128 (runFirst.sl.v9 (F := F) c arg6 f6) (k0_pay156 (arg9.view.readAt (Elt F) (Rect.unit (s := S1x16x2x512) (k0_off3 i) S1x1x2x512.size (k0_off3_inb i)).toLoadRect f9)) (k0_pay163 (runFirst.sl.v7 (F := F) c arg5 f5) k0_pay135 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runFirst.sl.v95 (F := F) c i arg2 arg3 arg5 arg6 arg14 f2 f3 f5 f6) (runFirst.sl.v107 (F := F) c i arg4 arg7 arg15 f4 f7)) (k0_pay165 k0_pay135 (k0_pay155 (arg8.view.readAt (Elt F) (Rect.unit (s := S1x16x2x512) (k0_off3 i) S1x1x2x512.size (k0_off3_inb i)).toLoadRect f8)) (runFirst.sl.v123 (F := F) c i arg2 arg3 arg5 arg6 arg14 f2 f3 f5 f6)) (runFirst.sl.v135 (F := F) c i arg4 arg7 arg15 f4 f7) (arg10.view.readCov (runFirst.sl.H10_1 (F := F)) (Rect.unit (s := S8192x128) (k0_off1 i) S512x128.size (k0_off1_inb i)).toLoadRect) := rfl

theorem first_v36 :
    (runFirst.sl.v36 (F := F) c i arg2 arg5 f2 f5)
      = k0_pay3 (runFirst.sl.v7 (F := F) c arg5 f5) (arg2.view.readAt (Elt F) (Rect.unit (s := S8192x128) (k0_off1 i) S512x128.size (k0_off1_inb i)).toLoadRect f2) := rfl

theorem first_v65 :
    (runFirst.sl.v65 (F := F) c i arg2 arg5 f2 f5)
      = k0_pay3 (runFirst.sl.v7 (F := F) c arg5 f5) (arg2.view.readAt (Elt F) (Rect.unit (s := S8192x128) (k0_off2 i) S512x128.size (k0_off2_inb i)).toLoadRect f2) := rfl

theorem first_v47 :
    (runFirst.sl.v47 (F := F) c i arg3 arg6 f3 f6)
      = k0_pay3 (runFirst.sl.v9 (F := F) c arg6 f6) (arg3.view.readAt (Elt F) (Rect.unit (s := S8192x128) (k0_off1 i) S512x128.size (k0_off1_inb i)).toLoadRect f3) := rfl

theorem first_v76 :
    (runFirst.sl.v76 (F := F) c i arg3 arg6 f3 f6)
      = k0_pay3 (runFirst.sl.v9 (F := F) c arg6 f6) (arg3.view.readAt (Elt F) (Rect.unit (s := S8192x128) (k0_off2 i) S512x128.size (k0_off2_inb i)).toLoadRect f3) := rfl

theorem first_v40 :
    (runFirst.sl.v40 (F := F) c i arg4 arg7 f4 f7)
      = k0_pay3 (runFirst.sl.v13 (F := F) c arg7 f7) (arg4.view.readAt (Elt F) (Rect.unit (s := S8192x128) (k0_off1 i) S512x128.size (k0_off1_inb i)).toLoadRect f4) := rfl

theorem first_v51 :
    (runFirst.sl.v51 (F := F) c i arg4 arg7 f4 f7)
      = k0_pay3 (runFirst.sl.v14 (F := F) c arg7 f7) (arg4.view.readAt (Elt F) (Rect.unit (s := S8192x128) (k0_off1 i) S512x128.size (k0_off1_inb i)).toLoadRect f4) := rfl

theorem first_v69 :
    (runFirst.sl.v69 (F := F) c i arg4 arg7 f4 f7)
      = k0_pay3 (runFirst.sl.v13 (F := F) c arg7 f7) (arg4.view.readAt (Elt F) (Rect.unit (s := S8192x128) (k0_off2 i) S512x128.size (k0_off2_inb i)).toLoadRect f4) := rfl

theorem first_v80 :
    (runFirst.sl.v80 (F := F) c i arg4 arg7 f4 f7)
      = k0_pay3 (runFirst.sl.v14 (F := F) c arg7 f7) (arg4.view.readAt (Elt F) (Rect.unit (s := S8192x128) (k0_off2 i) S512x128.size (k0_off2_inb i)).toLoadRect f4) := rfl

theorem first_v230 :
    (runFirst.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = arg14.view.readAt (Elt F) (Rect.unit (s := S2x2x512x512) ![1, 0, 0, 0] S1x1x512x512.size inb_S2x2x512x512_S1x1x512x512_1_0_0_0).toLoadRect (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.1 := by
  unfold runFirst.sl.v230 midFirst
  exact congrArg (arg14.view.readAt (Elt F) (Rect.unit (s := S2x2x512x512) ![1, 0, 0, 0] S1x1x512x512.size inb_S2x2x512x512_S1x1x512x512_1_0_0_0).toLoadRect) (lo14_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem first_v240 :
    (runFirst.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = arg15.view.readAt (Elt F) (Rect.unit (s := S2x2x512x512) ![1, 0, 0, 0] S1x1x512x512.size inb_S2x2x512x512_S1x1x512x512_1_0_0_0).toLoadRect (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.1 := by
  unfold runFirst.sl.v240 midFirst
  exact congrArg (arg15.view.readAt (Elt F) (Rect.unit (s := S2x2x512x512) ![1, 0, 0, 0] S1x1x512x512.size inb_S2x2x512x512_S1x1x512x512_1_0_0_0).toLoadRect) (lo15_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem first_v256 :
    (runFirst.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = arg14.view.readAt (Elt F) (Rect.unit (s := S2x2x512x512) ![1, 1, 0, 0] S1x1x512x512.size inb_S2x2x512x512_S1x1x512x512_1_1_0_0).toLoadRect (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.1 := by
  unfold runFirst.sl.v256 midFirst
  exact congrArg (arg14.view.readAt (Elt F) (Rect.unit (s := S2x2x512x512) ![1, 1, 0, 0] S1x1x512x512.size inb_S2x2x512x512_S1x1x512x512_1_1_0_0).toLoadRect) (lo14_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem first_v266 :
    (runFirst.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = arg15.view.readAt (Elt F) (Rect.unit (s := S2x2x512x512) ![1, 1, 0, 0] S1x1x512x512.size inb_S2x2x512x512_S1x1x512x512_1_1_0_0).toLoadRect (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.1 := by
  unfold runFirst.sl.v266 midFirst
  exact congrArg (arg15.view.readAt (Elt F) (Rect.unit (s := S2x2x512x512) ![1, 1, 0, 0] S1x1x512x512.size inb_S2x2x512x512_S1x1x512x512_1_1_0_0).toLoadRect) (lo15_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem first_H11 : (runFirst.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = [⟨(Rect.unit (s := S512x128) ![0, 0] S512x128.size inb_S512x128_S512x128_0_0), k0_pay199 (cmpi .slt runFirst.sl.v3 runFirst.sl.v4) (k0_pay15 (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.2.1 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (arg2.view.readAt (Elt F) (Rect.unit (s := S8192x128) ![7680, 0] S512x128.size inb_S8192x128_S512x128_7680_0).toLoadRect f2) (runFirst.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)) (k0_pay21 (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.2.2.2.2.1 (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (arg3.view.readAt (Elt F) (Rect.unit (s := S8192x128) ![7680, 0] S512x128.size inb_S8192x128_S512x128_7680_0).toLoadRect f3) (runFirst.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9))⟩] := by
  unfold runFirst.sl.H11_1 runFirst.sl.v248 midFirst
  rfl

theorem first_11 (hz : Scalar.cmpi .ne (Scalar.extui (Scalar.cmpi .eq (BitVec.ofNat 32 (i 1).val) 0#32)) 0#32 = 1#1) (h2 : k0_cond2 i = 1#1) (h3 : ¬ k0_cond3 i = 1#1) :
    (runFirst (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.1
      = arg11.view.writes (Elt F) arg11.view.junk (runFirst.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) := rfl

theorem first_H12 : (runFirst.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = [⟨(Rect.unit (s := S512x128) ![0, 0] S512x128.size inb_S512x128_S512x128_0_0), k0_pay200 (cmpi .slt runFirst.sl.v3 runFirst.sl.v4) (k0_pay12 (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.2.2.1 (arg4.view.readAt (Elt F) (Rect.unit (s := S8192x128) ![7680, 0] S512x128.size inb_S8192x128_S512x128_7680_0).toLoadRect f4) (arg8.view.readAt (Elt F) (Rect.unit (s := S1x16x2x512) ![0, 15, 0, 0] S1x1x2x512.size inb_S1x16x2x512_S1x1x2x512_0_15_0_0).toLoadRect f8) (runFirst.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)) (k0_pay18 (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.2.2.2.2.2.1 (k0_pay8 (arg4.view.readAt (Elt F) (Rect.unit (s := S8192x128) ![7680, 0] S512x128.size inb_S8192x128_S512x128_7680_0).toLoadRect f4)) (k0_pay9 (arg8.view.readAt (Elt F) (Rect.unit (s := S1x16x2x512) ![0, 15, 0, 0] S1x1x2x512.size inb_S1x16x2x512_S1x1x2x512_0_15_0_0).toLoadRect f8)) (runFirst.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9))⟩] := by
  unfold runFirst.sl.H12_1 runFirst.sl.v238 midFirst
  rfl

theorem first_12 (hz : Scalar.cmpi .ne (Scalar.extui (Scalar.cmpi .eq (BitVec.ofNat 32 (i 1).val) 0#32)) 0#32 = 1#1) (h2 : k0_cond2 i = 1#1) (h3 : ¬ k0_cond3 i = 1#1) :
    (runFirst (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.1
      = arg12.view.writes (Elt F) arg12.view.junk (runFirst.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) := rfl

theorem first_H13 : (runFirst.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = [⟨(Rect.unit (s := S1x512x2) ![0, 0, 0] S1x512x2.size inb_S1x512x2_S1x512x2_0_0_0), k0_pay1 (k0_pay22 (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.2.2.2.2.2.2 (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (runFirst.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)) k0_pay201 (k0_pay202 (k0_pay16 (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.2.2.2.1 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runFirst.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)))⟩] := by
  unfold runFirst.sl.H13_1 runFirst.sl.r_1 runFirst.sl.r_2 runFirst.sl.v251 midFirst
  rfl

theorem first_13 (hz : Scalar.cmpi .ne (Scalar.extui (Scalar.cmpi .eq (BitVec.ofNat 32 (i 1).val) 0#32)) 0#32 = 1#1) (h2 : k0_cond2 i = 1#1) (h3 : ¬ k0_cond3 i = 1#1) :
    (runFirst (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.2.1
      = arg13.view.writes (Elt F) arg13.view.junk (runFirst.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) := rfl

theorem first_v280 :
    (runFirst.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)
      = arg10.view.readAt (Elt F) (Rect.unit (s := S8192x128) ![7680, 0] S512x128.size inb_S8192x128_S512x128_7680_0).toLoadRect (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).1 := by
  unfold runFirst.sl.v280 midFirst
  exact congrArg (arg10.view.readAt (Elt F) (Rect.unit (s := S8192x128) ![7680, 0] S512x128.size inb_S8192x128_S512x128_7680_0).toLoadRect) (lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ )

theorem first_10 (hz : Scalar.cmpi .ne (Scalar.extui (Scalar.cmpi .eq (BitVec.ofNat 32 (i 1).val) 0#32)) 0#32 = 1#1) (h2 : k0_cond2 i = 1#1) (h3 : ¬ k0_cond3 i = 1#1) :
    (runFirst (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).1
      = arg10.view.writes (Elt F) (midFirst c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).1 [⟨(Rect.unit (s := S8192x128) ![7680, 0] S512x128.size inb_S8192x128_S512x128_7680_0), k0_pay23 (cmpi .slt runFirst.sl.v3 runFirst.sl.v4) (runFirst.sl.v7 (F := F) c arg5 f5) (runFirst.sl.v9 (F := F) c arg6 f6) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (k0_pay14 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runFirst.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)) (constant S512x128 .f32 0x00000000#32) (runFirst.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)⟩] := by
  unfold midFirst
  exact congrArg (fun z => arg10.view.writes (Elt F) z [⟨(Rect.unit (s := S8192x128) ![7680, 0] S512x128.size inb_S8192x128_S512x128_7680_0), k0_pay23 (cmpi .slt runFirst.sl.v3 runFirst.sl.v4) (runFirst.sl.v7 (F := F) c arg5 f5) (runFirst.sl.v9 (F := F) c arg6 f6) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (k0_pay14 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runFirst.sl.v230 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v240 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)) (constant S512x128 .f32 0x00000000#32) (runFirst.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9) (runFirst.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9)⟩]) (lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ )

end

end Cert.Proof.Attn
end
-- ==== Proof.ValFirst.lean ====
/- The point program on the first key tile of a pair, over the real numbers. -/
module

public import proofs.«01_k».proof.Proof.ValStep
public import proofs.«01_k».proof.Proof.PointFirst

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := Ideal) c arg2) (f3 : At (F := Ideal) c arg3) (f4 : At (F := Ideal) c arg4) (f5 : At (F := Ideal) c arg5) (f6 : At (F := Ideal) c arg6) (f7 : At (F := Ideal) c arg7) (f8 : At (F := Ideal) c arg8) (f9 : At (F := Ideal) c arg9) (f10 : At (F := Ideal) c arg10) (f11 : At (F := Ideal) c arg11) (f12 : At (F := Ideal) c arg12) (f13 : At (F := Ideal) c arg13) (f14 : At (F := Ideal) c arg14) (f15 : At (F := Ideal) c arg15)
variable (w : Wd) (VV : ℕ → ℕ → ℝ) (hki : w.ki = (i 1).val)
  (hV0 : w.V 0 = fun s l => if l < 64 then VV s l else 0) (hV1 : w.V 1 = fun s l => if l < 64 then 0 else VV s l)
  (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
  (h5 : arg5.view.read (Elt Ideal) f5 = up2 (φ := .bf16) (w.K 0)) (h6 : arg6.view.read (Elt Ideal) f6 = up2 (φ := .bf16) (w.K 1)) (h7 : arg7.view.read (Elt Ideal) f7 = up2 (φ := .bf16) VV)
  (h8 : arg8.view.read (Elt Ideal) f8 = upR (φ := .f32) w.M) (h9 : arg9.view.read (Elt Ideal) f9 = upR (φ := .f32) w.E)
  (hi : (i 1).val < 15) (hp : (i 1).val % 2 = 0)

include h5 in
theorem first_k0 : (runFirst.sl.v7 (F := Ideal) c arg5 f5) = up2 (w.K 0) := by
  rw [first_v7, rd_win _ _ _ h5, id129_val]

include h6 in
theorem first_k1 : (runFirst.sl.v9 (F := Ideal) c arg6 f6) = up2 (w.K 1) := by
  rw [first_v9, rd_win _ _ _ h6, id130_val]

include hV0 h7 in
theorem first_v0 : (runFirst.sl.v13 (F := Ideal) c arg7 f7) = up2 (w.V 0) := by
  rw [first_v13, rd_win _ _ _ h7, vlo_val, hV0]

include hV1 h7 in
theorem first_v1 : (runFirst.sl.v14 (F := Ideal) c arg7 f7) = up2 (w.V 1) := by
  rw [first_v14, rd_win _ _ _ h7, vhi_val, hV1]

include hki h2 h5 in
theorem first_s14_00 : ∀ g : At (F := Ideal) c arg14, arg14.view.readAt (Elt Ideal) (Rect.unit (s := S2x2x512x512) ![0, 0, 0, 0] S1x1x512x512.size inb_S2x2x512x512_S1x1x512x512_0_0_0_0).toLoadRect (arg14.view.writes (Elt Ideal) g (runFirst.sl.H14_4 (F := Ideal) c i arg2 arg3 arg5 arg6 f2 f3 f5 f6)) = upT (φ := .f32) (w.ST 0 w.ki) := by
  intro g
  unfold runFirst.sl.H14_4 runFirst.sl.H14_2
  rw [rd_miss _ _ _ _ _ _ 0 (by decide), rd_miss _ _ _ _ _ _ 0 (by decide), rd_miss _ _ _ _ _ _ 1 (by decide), rd_hit, first_v36, first_k0 c arg5 f5 w h5, rd_tile arg2.view f2 (w.Q 0) h2 (k0_off1_inb i) _ (at1 hki)]
  exact st0_val _ _

include hki h3 h6 in
theorem first_s14_01 : ∀ g : At (F := Ideal) c arg14, arg14.view.readAt (Elt Ideal) (Rect.unit (s := S2x2x512x512) ![0, 1, 0, 0] S1x1x512x512.size inb_S2x2x512x512_S1x1x512x512_0_1_0_0).toLoadRect (arg14.view.writes (Elt Ideal) g (runFirst.sl.H14_4 (F := Ideal) c i arg2 arg3 arg5 arg6 f2 f3 f5 f6)) = upT (φ := .f32) (w.ST 1 w.ki) := by
  intro g
  unfold runFirst.sl.H14_4 runFirst.sl.H14_2
  rw [rd_miss _ _ _ _ _ _ 0 (by decide), rd_miss _ _ _ _ _ _ 0 (by decide), rd_hit, first_v47, first_k1 c arg6 f6 w h6, rd_tile arg3.view f3 (w.Q 1) h3 (k0_off1_inb i) _ (at1 hki)]
  exact st0_val _ _

include hki h2 h5 hi in
theorem first_s14_10 : ∀ g : At (F := Ideal) c arg14, arg14.view.readAt (Elt Ideal) (Rect.unit (s := S2x2x512x512) ![1, 0, 0, 0] S1x1x512x512.size inb_S2x2x512x512_S1x1x512x512_1_0_0_0).toLoadRect (arg14.view.writes (Elt Ideal) g (runFirst.sl.H14_4 (F := Ideal) c i arg2 arg3 arg5 arg6 f2 f3 f5 f6)) = upT (φ := .f32) (w.ST 0 (w.ki + 1)) := by
  intro g
  unfold runFirst.sl.H14_4 runFirst.sl.H14_2
  rw [rd_miss _ _ _ _ _ _ 1 (by decide), rd_hit, first_v65, first_k0 c arg5 f5 w h5, rd_tile arg2.view f2 (w.Q 0) h2 (k0_off2_inb i) _ ((off2_eq i).trans (by rw [Nat.min_eq_left (by omega), hki]) : k0_off2 i = ![512 * (w.ki + 1), 0])]
  exact st0_val _ _

include hki h3 h6 hi in
theorem first_s14_11 : ∀ g : At (F := Ideal) c arg14, arg14.view.readAt (Elt Ideal) (Rect.unit (s := S2x2x512x512) ![1, 1, 0, 0] S1x1x512x512.size inb_S2x2x512x512_S1x1x512x512_1_1_0_0).toLoadRect (arg14.view.writes (Elt Ideal) g (runFirst.sl.H14_4 (F := Ideal) c i arg2 arg3 arg5 arg6 f2 f3 f5 f6)) = upT (φ := .f32) (w.ST 1 (w.ki + 1)) := by
  intro g
  unfold runFirst.sl.H14_4 runFirst.sl.H14_2
  rw [rd_hit, first_v76, first_k1 c arg6 f6 w h6, rd_tile arg3.view f3 (w.Q 1) h3 (k0_off2_inb i) _ ((off2_eq i).trans (by rw [Nat.min_eq_left (by omega), hki]) : k0_off2 i = ![512 * (w.ki + 1), 0])]
  exact st0_val _ _

include hki hV0 h4 h7 in
theorem first_s15_00 : ∀ g : At (F := Ideal) c arg15, arg15.view.readAt (Elt Ideal) (Rect.unit (s := S2x2x512x512) ![0, 0, 0, 0] S1x1x512x512.size inb_S2x2x512x512_S1x1x512x512_0_0_0_0).toLoadRect (arg15.view.writes (Elt Ideal) g (runFirst.sl.H15_4 (F := Ideal) c i arg4 arg7 f4 f7)) = upT (φ := .f32) (w.DP 0 w.ki) := by
  intro g
  unfold runFirst.sl.H15_4 runFirst.sl.H15_2
  rw [rd_miss _ _ _ _ _ _ 0 (by decide), rd_miss _ _ _ _ _ _ 0 (by decide), rd_miss _ _ _ _ _ _ 1 (by decide), rd_hit, first_v40, first_v0 c arg7 f7 w VV hV0 h7, rd_tile arg4.view f4 w.G h4 (k0_off1_inb i) _ (at1 hki)]
  exact st0_val _ _

include hki hV1 h4 h7 in
theorem first_s15_01 : ∀ g : At (F := Ideal) c arg15, arg15.view.readAt (Elt Ideal) (Rect.unit (s := S2x2x512x512) ![0, 1, 0, 0] S1x1x512x512.size inb_S2x2x512x512_S1x1x512x512_0_1_0_0).toLoadRect (arg15.view.writes (Elt Ideal) g (runFirst.sl.H15_4 (F := Ideal) c i arg4 arg7 f4 f7)) = upT (φ := .f32) (w.DP 1 w.ki) := by
  intro g
  unfold runFirst.sl.H15_4 runFirst.sl.H15_2
  rw [rd_miss _ _ _ _ _ _ 0 (by decide), rd_miss _ _ _ _ _ _ 0 (by decide), rd_hit, first_v51, first_v1 c arg7 f7 w VV hV1 h7, rd_tile arg4.view f4 w.G h4 (k0_off1_inb i) _ (at1 hki)]
  exact st0_val _ _

include hki hV0 h4 h7 hi in
theorem first_s15_10 : ∀ g : At (F := Ideal) c arg15, arg15.view.readAt (Elt Ideal) (Rect.unit (s := S2x2x512x512) ![1, 0, 0, 0] S1x1x512x512.size inb_S2x2x512x512_S1x1x512x512_1_0_0_0).toLoadRect (arg15.view.writes (Elt Ideal) g (runFirst.sl.H15_4 (F := Ideal) c i arg4 arg7 f4 f7)) = upT (φ := .f32) (w.DP 0 (w.ki + 1)) := by
  intro g
  unfold runFirst.sl.H15_4 runFirst.sl.H15_2
  rw [rd_miss _ _ _ _ _ _ 1 (by decide), rd_hit, first_v69, first_v0 c arg7 f7 w VV hV0 h7, rd_tile arg4.view f4 w.G h4 (k0_off2_inb i) _ ((off2_eq i).trans (by rw [Nat.min_eq_left (by omega), hki]) : k0_off2 i = ![512 * (w.ki + 1), 0])]
  exact st0_val _ _

include hki hV1 h4 h7 hi in
theorem first_s15_11 : ∀ g : At (F := Ideal) c arg15, arg15.view.readAt (Elt Ideal) (Rect.unit (s := S2x2x512x512) ![1, 1, 0, 0] S1x1x512x512.size inb_S2x2x512x512_S1x1x512x512_1_1_0_0).toLoadRect (arg15.view.writes (Elt Ideal) g (runFirst.sl.H15_4 (F := Ideal) c i arg4 arg7 f4 f7)) = upT (φ := .f32) (w.DP 1 (w.ki + 1)) := by
  intro g
  unfold runFirst.sl.H15_4 runFirst.sl.H15_2
  rw [rd_hit, first_v80, first_v1 c arg7 f7 w VV hV1 h7, rd_tile arg4.view f4 w.G h4 (k0_off2_inb i) _ ((off2_eq i).trans (by rw [Nat.min_eq_left (by omega), hki]) : k0_off2 i = ![512 * (w.ki + 1), 0])]
  exact st0_val _ _

include hki h2 h4 h5 h8 in
theorem first_dv0 : (runFirst.sl.v105 (F := Ideal) c i arg2 arg3 arg4 arg5 arg6 arg8 arg14 f2 f3 f4 f5 f6 f8) = up2 (w.dvC 0 w.ki) := by
  have g_ := rd_tile arg4.view f4 w.G h4 (k0_off1_inb i) _ (at1 hki)
  have m_ := rd_row arg8.view f8 w.M h8 (k0_off3_inb i) _ (at3 hki)
  have v95_ : (runFirst.sl.v95 (F := Ideal) c i arg2 arg3 arg5 arg6 arg14 f2 f3 f5 f6) = upT (φ := .f32) (w.ST 0 w.ki) := by
    refine first_s14_00 (w := w) (hki := hki) (h2 := h2) (h5 := h5) (g := arg14.view.junk) ..
  rw [first_v105]
  exact dg_dv0 w rfl g_ m_ v95_

include hki h3 h4 h6 h8 in
theorem first_dv1 : (runFirst.sl.v133 (F := Ideal) c i arg2 arg3 arg4 arg5 arg6 arg8 arg14 f2 f3 f4 f5 f6 f8) = up2 (w.dvC 1 w.ki) := by
  have g_ := rd_tile arg4.view f4 w.G h4 (k0_off1_inb i) _ (at1 hki)
  have m_ := rd_row arg8.view f8 w.M h8 (k0_off3_inb i) _ (at3 hki)
  have v123_ : (runFirst.sl.v123 (F := Ideal) c i arg2 arg3 arg5 arg6 arg14 f2 f3 f5 f6) = upT (φ := .f32) (w.ST 1 w.ki) := by
    refine first_s14_01 (w := w) (hki := hki) (h3 := h3) (h6 := h6) (g := arg14.view.junk) ..
  rw [first_v133]
  exact dg_dv1 w rfl g_ m_ v123_

include hki hV0 h2 h4 h5 h7 h8 h9 in
theorem first_dk0 : (runFirst.sl.v115 (F := Ideal) c i arg2 arg3 arg4 arg5 arg6 arg7 arg8 arg9 arg14 arg15 f2 f3 f4 f5 f6 f7 f8 f9) = up2 (w.dkC 0 w.ki) := by
  have m_ := rd_row arg8.view f8 w.M h8 (k0_off3_inb i) _ (at3 hki)
  have e_ := rd_row arg9.view f9 w.E h9 (k0_off3_inb i) _ (at3 hki)
  have q_ := rd_tile arg2.view f2 (w.Q 0) h2 (k0_off1_inb i) _ (at1 hki)
  have v95_ : (runFirst.sl.v95 (F := Ideal) c i arg2 arg3 arg5 arg6 arg14 f2 f3 f5 f6) = upT (φ := .f32) (w.ST 0 w.ki) := by
    refine first_s14_00 (w := w) (hki := hki) (h2 := h2) (h5 := h5) (g := arg14.view.junk) ..
  have v107_ : (runFirst.sl.v107 (F := Ideal) c i arg4 arg7 arg15 f4 f7) = upT (φ := .f32) (w.DP 0 w.ki) := by
    refine first_s15_00 (w := w) (hki := hki) (VV := VV) (hV0 := hV0) (h4 := h4) (h7 := h7) (g := arg15.view.junk) ..
  rw [first_v115]
  exact dg_dk0 w rfl m_ e_ q_ v95_ v107_

include hki hV1 h3 h4 h6 h7 h8 h9 in
theorem first_dk1 : (runFirst.sl.v143 (F := Ideal) c i arg2 arg3 arg4 arg5 arg6 arg7 arg8 arg9 arg14 arg15 f2 f3 f4 f5 f6 f7 f8 f9) = up2 (w.dkC 1 w.ki) := by
  have m_ := rd_row arg8.view f8 w.M h8 (k0_off3_inb i) _ (at3 hki)
  have e_ := rd_row arg9.view f9 w.E h9 (k0_off3_inb i) _ (at3 hki)
  have q1_ := rd_tile arg3.view f3 (w.Q 1) h3 (k0_off1_inb i) _ (at1 hki)
  have v123_ : (runFirst.sl.v123 (F := Ideal) c i arg2 arg3 arg5 arg6 arg14 f2 f3 f5 f6) = upT (φ := .f32) (w.ST 1 w.ki) := by
    refine first_s14_01 (w := w) (hki := hki) (h3 := h3) (h6 := h6) (g := arg14.view.junk) ..
  have v135_ : (runFirst.sl.v135 (F := Ideal) c i arg4 arg7 arg15 f4 f7) = upT (φ := .f32) (w.DP 1 w.ki) := by
    refine first_s15_01 (w := w) (hki := hki) (VV := VV) (hV1 := hV1) (h4 := h4) (h7 := h7) (g := arg15.view.junk) ..
  rw [first_v143]
  exact dg_dk1 w rfl m_ e_ q1_ v123_ v135_

include hki hV0 h2 h4 h5 h7 h8 h9 in
theorem first_dc0 : (runFirst.sl.v118 (F := Ideal) c i arg2 arg3 arg4 arg5 arg6 arg7 arg8 arg9 arg14 arg15 f2 f3 f4 f5 f6 f7 f8 f9) = up2 (fun s _ => - w.dcC 0 w.ki s) := by
  have m_ := rd_row arg8.view f8 w.M h8 (k0_off3_inb i) _ (at3 hki)
  have e_ := rd_row arg9.view f9 w.E h9 (k0_off3_inb i) _ (at3 hki)
  have v95_ : (runFirst.sl.v95 (F := Ideal) c i arg2 arg3 arg5 arg6 arg14 f2 f3 f5 f6) = upT (φ := .f32) (w.ST 0 w.ki) := by
    refine first_s14_00 (w := w) (hki := hki) (h2 := h2) (h5 := h5) (g := arg14.view.junk) ..
  have v107_ : (runFirst.sl.v107 (F := Ideal) c i arg4 arg7 arg15 f4 f7) = upT (φ := .f32) (w.DP 0 w.ki) := by
    refine first_s15_00 (w := w) (hki := hki) (VV := VV) (hV0 := hV0) (h4 := h4) (h7 := h7) (g := arg15.view.junk) ..
  rw [first_v118]
  exact dg_dc0 w rfl m_ e_ v95_ v107_

include hki hV1 h3 h4 h6 h7 h8 h9 in
theorem first_dc1 : (runFirst.sl.v146 (F := Ideal) c i arg2 arg3 arg4 arg5 arg6 arg7 arg8 arg9 arg14 arg15 f2 f3 f4 f5 f6 f7 f8 f9) = up2 (fun s _ => - w.dcC 1 w.ki s) := by
  have m_ := rd_row arg8.view f8 w.M h8 (k0_off3_inb i) _ (at3 hki)
  have e_ := rd_row arg9.view f9 w.E h9 (k0_off3_inb i) _ (at3 hki)
  have v123_ : (runFirst.sl.v123 (F := Ideal) c i arg2 arg3 arg5 arg6 arg14 f2 f3 f5 f6) = upT (φ := .f32) (w.ST 1 w.ki) := by
    refine first_s14_01 (w := w) (hki := hki) (h3 := h3) (h6 := h6) (g := arg14.view.junk) ..
  have v135_ : (runFirst.sl.v135 (F := Ideal) c i arg4 arg7 arg15 f4 f7) = upT (φ := .f32) (w.DP 1 w.ki) := by
    refine first_s15_01 (w := w) (hki := hki) (VV := VV) (hV1 := hV1) (h4 := h4) (h7 := h7) (g := arg15.view.junk) ..
  rw [first_v146]
  exact dg_dc1 w rfl m_ e_ v123_ v135_

theorem first_z : arg10.view.read (Elt Ideal) (arg10.view.writes (Elt Ideal) arg10.view.junk (runFirst.sl.H10_1 (F := Ideal))) = up2 (φ := .f32) (fun _ _ => 0) := (wr_all arg10.view _ z2 _ _).trans zeros_val

include hki hV0 hV1 h2 h3 h4 h5 h6 h7 h8 h9 in
theorem first_q : (runFirst.sl.v154 (F := Ideal) c i arg2 arg3 arg4 arg5 arg6 arg7 arg8 arg9 arg10 arg14 arg15 f2 f3 f4 f5 f6 f7 f8 f9) = up2 fun t l => (fun _ _ => 0) (512 * w.ki + t) l + w.dqC w.ki t l := by
  have m_ := rd_row arg8.view f8 w.M h8 (k0_off3_inb i) _ (at3 hki)
  have e_ := rd_row arg9.view f9 w.E h9 (k0_off3_inb i) _ (at3 hki)
  have k0_ := first_k0 c arg5 f5 w h5
  have k1_ := first_k1 c arg6 f6 w h6
  have v95_ : (runFirst.sl.v95 (F := Ideal) c i arg2 arg3 arg5 arg6 arg14 f2 f3 f5 f6) = upT (φ := .f32) (w.ST 0 w.ki) := by
    refine first_s14_00 (w := w) (hki := hki) (h2 := h2) (h5 := h5) (g := arg14.view.junk) ..
  have v107_ : (runFirst.sl.v107 (F := Ideal) c i arg4 arg7 arg15 f4 f7) = upT (φ := .f32) (w.DP 0 w.ki) := by
    refine first_s15_00 (w := w) (hki := hki) (VV := VV) (hV0 := hV0) (h4 := h4) (h7 := h7) (g := arg15.view.junk) ..
  have v123_ : (runFirst.sl.v123 (F := Ideal) c i arg2 arg3 arg5 arg6 arg14 f2 f3 f5 f6) = upT (φ := .f32) (w.ST 1 w.ki) := by
    refine first_s14_01 (w := w) (hki := hki) (h3 := h3) (h6 := h6) (g := arg14.view.junk) ..
  have v135_ : (runFirst.sl.v135 (F := Ideal) c i arg4 arg7 arg15 f4 f7) = upT (φ := .f32) (w.DP 1 w.ki) := by
    refine first_s15_01 (w := w) (hki := hki) (VV := VV) (hV1 := hV1) (h4 := h4) (h7 := h7) (g := arg15.view.junk) ..
  have a_ := rd_tile32 arg10.view _ _ (first_z arg10) (k0_off1_inb i) _ (at1 hki)
  rw [first_v154, k0_, k1_]
  exact dg_dq w rfl m_ e_ v95_ v107_ v123_ v135_ (fun _ _ => 0) a_

include hki hV0 hV1 h2 h3 h4 h5 h6 h7 h8 h9 in
theorem first_d10 : arg10.view.read (Elt Ideal) (arg10.view.writes (Elt Ideal) arg10.view.junk (⟨(Rect.unit (s := S8192x128) (k0_off1 i) S512x128.size (k0_off1_inb i)), (runFirst.sl.v154 (F := Ideal) c i arg2 arg3 arg4 arg5 arg6 arg7 arg8 arg9 arg10 arg14 arg15 f2 f3 f4 f5 f6 f7 f8 f9)⟩ :: (runFirst.sl.H10_1 (F := Ideal)))) = up2 (φ := .f32) (w.dq (fun _ _ => 0) (w.ki + 1)) := by
  rw [show (runFirst.sl.v154 (F := Ideal) c i arg2 arg3 arg4 arg5 arg6 arg7 arg8 arg9 arg10 arg14 arg15 f2 f3 f4 f5 f6 f7 f8 f9) = _ from first_q (w := w) (VV := VV) (hki := hki) (hV0 := hV0) (hV1 := hV1) (h2 := h2) (h3 := h3) (h4 := h4) (h5 := h5) (h6 := h6) (h7 := h7) (h8 := h8) (h9 := h9) ..]
  refine (wr_tile arg10.view _ _ (fun _ _ => 0) (w.dqC w.ki) (first_z arg10) (k0_off1_inb i) _ (at1 hki)).trans ?_
  exact congrArg up2 (funext fun r => funext fun l => (w.dq_base (fun _ _ => 0) r l).symm)

include hki hV0 hV1 h2 h3 h4 h5 h6 h7 h8 h9 hi hp in
theorem first_mid : TripVal c arg10 arg14 arg15 w 15 (w.dq (fun _ _ => 0) 15) (w.dk 0 15) (w.dv 0 15) (fun s _ => w.dc 0 15 s) (w.dk 1 15) (w.dv 1 15) (fun s _ => w.dc 1 15 s) (midFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).1 (midFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.1 (midFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.1 (midFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).2.2.2 := by
  have ht := trips1 i
  unfold midFirst
  refine loop_val' c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ w f2 f3 f4 f8 f9 _ _ _ _ (fun _ _ => 0) first_v5 (first_k0 c arg5 f5 w h5) (first_k1 c arg6 f6 w h6) (first_v0 c arg7 f7 w VV hV0 h7) (first_v1 c arg7 f7 w VV hV1 h7) h2 h3 h4 h8 h9 hki ⟨?_, ?_, ?_, ?_, ?_, ?_, ?_, ?_, ?_, ?_, ?_⟩ _ (by rw [ht]; omega)
  · exact (first_dk0 (w := w) (VV := VV) (hki := hki) (hV0 := hV0) (h2 := h2) (h4 := h4) (h5 := h5) (h7 := h7) (h8 := h8) (h9 := h9) ..).trans (congrArg up2 (funext fun s => funext fun l => (w.dk_one 0 s l).symm))
  · exact (first_dv0 (w := w) (hki := hki) (h2 := h2) (h4 := h4) (h5 := h5) (h8 := h8) ..).trans (congrArg up2 (funext fun s => funext fun l => (w.dv_one 0 s l).symm))
  · exact (first_dc0 (w := w) (VV := VV) (hki := hki) (hV0 := hV0) (h2 := h2) (h4 := h4) (h5 := h5) (h7 := h7) (h8 := h8) (h9 := h9) ..).trans (congrArg up2 (funext fun s => funext fun l => (w.dc_one 0 s).symm))
  · exact (first_dk1 (w := w) (VV := VV) (hki := hki) (hV1 := hV1) (h3 := h3) (h4 := h4) (h6 := h6) (h7 := h7) (h8 := h8) (h9 := h9) ..).trans (congrArg up2 (funext fun s => funext fun l => (w.dk_one 1 s l).symm))
  · exact (first_dv1 (w := w) (hki := hki) (h3 := h3) (h4 := h4) (h6 := h6) (h8 := h8) ..).trans (congrArg up2 (funext fun s => funext fun l => (w.dv_one 1 s l).symm))
  · exact (first_dc1 (w := w) (VV := VV) (hki := hki) (hV1 := hV1) (h3 := h3) (h4 := h4) (h6 := h6) (h7 := h7) (h8 := h8) (h9 := h9) ..).trans (congrArg up2 (funext fun s => funext fun l => (w.dc_one 1 s).symm))
  · exact first_d10 (w := w) (VV := VV) (hki := hki) (hV0 := hV0) (hV1 := hV1) (h2 := h2) (h3 := h3) (h4 := h4) (h5 := h5) (h6 := h6) (h7 := h7) (h8 := h8) (h9 := h9) ..
  · exact first_s14_10 (w := w) (hki := hki) (h2 := h2) (h5 := h5) (hi := hi) (g := arg14.view.junk) ..
  · exact first_s14_11 (w := w) (hki := hki) (h3 := h3) (h6 := h6) (hi := hi) (g := arg14.view.junk) ..
  · exact first_s15_10 (w := w) (hki := hki) (VV := VV) (hV0 := hV0) (h4 := h4) (h7 := h7) (hi := hi) (g := arg15.view.junk) ..
  · exact first_s15_11 (w := w) (hki := hki) (VV := VV) (hV1 := hV1) (h4 := h4) (h7 := h7) (hi := hi) (g := arg15.view.junk) ..

include hki hV0 hV1 h2 h3 h4 h5 h6 h7 h8 h9 hi hp in
theorem first_val (hz : Scalar.cmpi .ne (Scalar.extui (Scalar.cmpi .eq (BitVec.ofNat 32 (i 1).val) 0#32)) 0#32 = 1#1) (hc2 : k0_cond2 i = 1#1) (hc3 : ¬ k0_cond3 i = 1#1) : PointVal c arg10 arg11 arg12 arg13 w (fun _ _ => 0) (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).1 (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.1 (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.2.1 (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.2.2.1 := by
  have v5_ := first_v5
  have k0_ := first_k0 c arg5 f5 w h5
  have k1_ := first_k1 c arg6 f6 w h6
  have hk : w.ki < 15 := by omega
  have g_ := rd_tile arg4.view f4 w.G h4 inb_S8192x128_S512x128_7680_0 15 rfl
  have m_ := rd_row arg8.view f8 w.M h8 inb_S1x16x2x512_S1x1x2x512_0_15_0_0 15 rfl
  have e_ := rd_row arg9.view f9 w.E h9 inb_S1x16x2x512_S1x1x2x512_0_15_0_0 15 rfl
  have q_ := rd_tile arg2.view f2 (w.Q 0) h2 inb_S8192x128_S512x128_7680_0 15 rfl
  have q1_ := rd_tile arg3.view f3 (w.Q 1) h3 inb_S8192x128_S512x128_7680_0 15 rfl
  obtain ⟨y0, y1, y2, y3, y4, y5, yq, ys0, ys1, yd0, yd1⟩ := first_mid c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 w VV hki hV0 hV1 h2 h3 h4 h5 h6 h7 h8 h9 hi hp
  have s_ := (first_v230 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).trans ys0
  have s1_ := (first_v256 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).trans ys1
  have d_ := (first_v240 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).trans yd0
  have d1_ := (first_v266 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).trans yd1
  have a_ := (first_v280 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9).trans (rd_tile32 arg10.view _ _ yq inb_S8192x128_S512x128_7680_0 15 rfl)
  refine ⟨?_, ?_, ?_, ?_⟩
  · rw [first_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, v5_, k0_, k1_, dq_one w hk _ a_ m_ e_ s_ d_ s1_ d1_]
    refine (wr_tile arg10.view _ [] _ (w.dqC 15) yq _ 15 rfl).trans ?_
    exact congrArg up2 (funext fun r => funext fun l => (w.dq_succ (fun _ _ => 0) (show w.ki ≤ 15 by omega) r l).symm)
  · rw [first_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, first_H11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9, v5_, y0, y3, dk0_one w hk _ m_ e_ q_ s_ d_, dk1_one w hk _ m_ e_ q1_ s1_ d1_, fin_dk]
    refine (wr_all arg11.view _ z2 _ _).trans ?_
    exact congrArg up2 (funext fun s => funext fun l => by rw [w.dk_succ (show w.ki ≤ 15 by omega), w.dk_succ (show w.ki ≤ 15 by omega)])
  · rw [first_12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, first_H12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9, v5_, y1, y4, dv0_one w hk _ g_ m_ s_, dv1_one w hk _ g_ m_ s1_, fin_dv]
    refine (wr_all arg12.view _ z2 _ _).trans ?_
    exact congrArg up2 (funext fun s => funext fun l => by rw [w.dv_succ (show w.ki ≤ 15 by omega), w.dv_succ (show w.ki ≤ 15 by omega)])
  · rw [first_13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, first_H13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9, y2, y5, dc0_one w hk _ m_ e_ s_ d_, dc1_one w hk _ m_ e_ s1_ d1_, fin_dc]
    refine (wr_all arg13.view _ z3 _ _).trans ?_
    exact congrArg upC (funext fun s => funext fun h => by rw [w.dc_succ (show w.ki ≤ 15 by omega), w.dc_succ (show w.ki ≤ 15 by omega)])

end

end Cert.Proof.Attn
end
-- ==== Proof.PointOdd.lean ====
/- What one kind of grid point leaves, value by value. -/
module

public import proofs.«01_k».proof.Proof.Body

@[expose] public section

set_option maxHeartbeats 1000000

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

variable {F : FTy → Type} [FloatOps F] [Named F]

local notation "𝕄" => MT nD τ sig Unit (Elt F) ℕ (UR sig nD τ) ℕ

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := F) c arg2) (f3 : At (F := F) c arg3) (f4 : At (F := F) c arg4) (f5 : At (F := F) c arg5) (f6 : At (F := F) c arg6) (f7 : At (F := F) c arg7) (f8 : At (F := F) c arg8) (f9 : At (F := F) c arg9) (f10 : At (F := F) c arg10) (f11 : At (F := F) c arg11) (f12 : At (F := F) c arg12) (f13 : At (F := F) c arg13) (f14 : At (F := F) c arg14) (f15 : At (F := F) c arg15)

/-- Everything the loop leaves. -/
def midOdd : St (F := F) c arg10 arg14 arg15 :=
  loopSt c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (cmpi CmpIPredicate.slt runOdd.sl.v3 runOdd.sl.v4) (runOdd.sl.v7 c arg5 f5) (runOdd.sl.v9 c arg6 f6) (runOdd.sl.v13 c arg7 f7) (runOdd.sl.v14 c arg7 f7) (runOdd.sl.v18 i) (runOdd.sl.v105 c i arg2 arg3 arg4 arg5 arg6 arg8 arg14 f2 f3 f4 f5 f6 f8) (runOdd.sl.v115 c i arg2 arg3 arg4 arg5 arg6 arg7 arg8 arg9 arg14 arg15 f2 f3 f4 f5 f6 f7 f8 f9) (runOdd.sl.v118 c i arg2 arg3 arg4 arg5 arg6 arg7 arg8 arg9 arg14 arg15 f2 f3 f4 f5 f6 f7 f8 f9) (runOdd.sl.v133 c i arg2 arg3 arg4 arg5 arg6 arg8 arg14 f2 f3 f4 f5 f6 f8) (runOdd.sl.v143 c i arg2 arg3 arg4 arg5 arg6 arg7 arg8 arg9 arg14 arg15 f2 f3 f4 f5 f6 f7 f8 f9) (runOdd.sl.v146 c i arg2 arg3 arg4 arg5 arg6 arg7 arg8 arg9 arg14 arg15 f2 f3 f4 f5 f6 f7 f8 f9) (runOdd.sl.v158 i) (runOdd.sl.v172 i) (runOdd.sl.v173 i) f2 f3 f4 f8 f9 (View.write (Elt F) (arg10.view.slice (Rect.unit (s := S8192x128) (k0_off1 i) S512x128.size (k0_off1_inb i))) (arg10.view.writes (Elt F) f10 []) (runOdd.sl.v154 c i arg2 arg3 arg4 arg5 arg6 arg7 arg8 arg9 arg10 arg14 arg15 f2 f3 f4 f5 f6 f7 f8 f9 f10) Finset.univ, View.write (Elt F) (arg14.view.slice (Rect.unit (s := S2x2x512x512) ![1, 1, 0, 0] S1x1x512x512.size inb_S2x2x512x512_S1x1x512x512_1_1_0_0)) (arg14.view.writes (Elt F) arg14.view.junk (⟨Rect.unit (s := S2x2x512x512) ![1, 0, 0, 0] S1x1x512x512.size inb_S2x2x512x512_S1x1x512x512_1_0_0_0, runOdd.sl.v65 c i arg2 arg5 f2 f5⟩ :: runOdd.sl.H14_2 c i arg2 arg3 arg5 arg6 f2 f3 f5 f6)) (runOdd.sl.v76 c i arg3 arg6 f3 f6) Finset.univ, View.write (Elt F) (arg15.view.slice (Rect.unit (s := S2x2x512x512) ![1, 1, 0, 0] S1x1x512x512.size inb_S2x2x512x512_S1x1x512x512_1_1_0_0)) (arg15.view.writes (Elt F) arg15.view.junk (⟨Rect.unit (s := S2x2x512x512) ![1, 0, 0, 0] S1x1x512x512.size inb_S2x2x512x512_S1x1x512x512_1_0_0_0, runOdd.sl.v69 c i arg4 arg7 f4 f7⟩ :: runOdd.sl.H15_2 c i arg4 arg7 f4 f7)) (runOdd.sl.v80 c i arg4 arg7 f4 f7) Finset.univ, runOdd.sl.v115 c i arg2 arg3 arg4 arg5 arg6 arg7 arg8 arg9 arg14 arg15 f2 f3 f4 f5 f6 f7 f8 f9, runOdd.sl.v105 c i arg2 arg3 arg4 arg5 arg6 arg8 arg14 f2 f3 f4 f5 f6 f8, runOdd.sl.v118 c i arg2 arg3 arg4 arg5 arg6 arg7 arg8 arg9 arg14 arg15 f2 f3 f4 f5 f6 f7 f8 f9, runOdd.sl.v143 c i arg2 arg3 arg4 arg5 arg6 arg7 arg8 arg9 arg14 arg15 f2 f3 f4 f5 f6 f7 f8 f9, runOdd.sl.v133 c i arg2 arg3 arg4 arg5 arg6 arg8 arg14 f2 f3 f4 f5 f6 f8, runOdd.sl.v146 c i arg2 arg3 arg4 arg5 arg6 arg7 arg8 arg9 arg14 arg15 f2 f3 f4 f5 f6 f7 f8 f9) (Scf.trips (k0_t1_loop i).lb (k0_t1_loop i).ub (k0_t1_loop i).st)

theorem odd_v5 :
    (cmpi .slt runOdd.sl.v3 runOdd.sl.v4)
      = k0_pay128 := rfl

theorem odd_v7 :
    (runOdd.sl.v7 (F := F) c arg5 f5)
      = k0_pay129 (arg5.view.readAt (Elt F) (Rect.unit (s := S512x128) ![0, 0] S512x128.size inb_S512x128_S512x128_0_0).toLoadRect f5) := rfl

theorem odd_v9 :
    (runOdd.sl.v9 (F := F) c arg6 f6)
      = k0_pay130 (arg6.view.readAt (Elt F) (Rect.unit (s := S512x128) ![0, 0] S512x128.size inb_S512x128_S512x128_0_0).toLoadRect f6) := rfl

theorem odd_v13 :
    (runOdd.sl.v13 (F := F) c arg7 f7)
      = k0_pay133 (arg7.view.readAt (Elt F) (Rect.unit (s := S512x128) ![0, 0] S512x128.size inb_S512x128_S512x128_0_0).toLoadRect f7) := rfl

theorem odd_v14 :
    (runOdd.sl.v14 (F := F) c arg7 f7)
      = k0_pay134 (arg7.view.readAt (Elt F) (Rect.unit (s := S512x128) ![0, 0] S512x128.size inb_S512x128_S512x128_0_0).toLoadRect f7) := rfl

theorem odd_v105 :
    (runOdd.sl.v105 (F := F) c i arg2 arg3 arg4 arg5 arg6 arg8 arg14 f2 f3 f4 f5 f6 f8)
      = k0_pay158 k0_pay135 k0_pay137 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runOdd.sl.v95 (F := F) c i arg2 arg3 arg5 arg6 arg14 f2 f3 f5 f6) := rfl

theorem odd_v115 :
    (runOdd.sl.v115 (F := F) c i arg2 arg3 arg4 arg5 arg6 arg7 arg8 arg9 arg14 arg15 f2 f3 f4 f5 f6 f7 f8 f9)
      = k0_pay161 k0_pay135 k0_pay136 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (arg2.view.readAt (Elt F) (Rect.unit (s := S8192x128) (k0_off1 i) S512x128.size (k0_off1_inb i)).toLoadRect f2) (runOdd.sl.v95 (F := F) c i arg2 arg3 arg5 arg6 arg14 f2 f3 f5 f6) (runOdd.sl.v107 (F := F) c i arg4 arg7 arg15 f4 f7) := rfl

theorem odd_v118 :
    (runOdd.sl.v118 (F := F) c i arg2 arg3 arg4 arg5 arg6 arg7 arg8 arg9 arg14 arg15 f2 f3 f4 f5 f6 f7 f8 f9)
      = k0_pay162 k0_pay135 k0_pay138 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runOdd.sl.v95 (F := F) c i arg2 arg3 arg5 arg6 arg14 f2 f3 f5 f6) (runOdd.sl.v107 (F := F) c i arg4 arg7 arg15 f4 f7) := rfl

theorem odd_v133 :
    (runOdd.sl.v133 (F := F) c i arg2 arg3 arg4 arg5 arg6 arg8 arg14 f2 f3 f4 f5 f6 f8)
      = k0_pay167 k0_pay140 (k0_pay166 k0_pay135 (k0_pay154 (arg4.view.readAt (Elt F) (Rect.unit (s := S8192x128) (k0_off1 i) S512x128.size (k0_off1_inb i)).toLoadRect f4)) (k0_pay155 (arg8.view.readAt (Elt F) (Rect.unit (s := S1x16x2x512) (k0_off3 i) S1x1x2x512.size (k0_off3_inb i)).toLoadRect f8)) (runOdd.sl.v123 (F := F) c i arg2 arg3 arg5 arg6 arg14 f2 f3 f5 f6)) := rfl

theorem odd_v143 :
    (runOdd.sl.v143 (F := F) c i arg2 arg3 arg4 arg5 arg6 arg7 arg8 arg9 arg14 arg15 f2 f3 f4 f5 f6 f7 f8 f9)
      = k0_pay170 k0_pay139 (k0_pay156 (arg9.view.readAt (Elt F) (Rect.unit (s := S1x16x2x512) (k0_off3 i) S1x1x2x512.size (k0_off3_inb i)).toLoadRect f9)) (k0_pay164 (arg3.view.readAt (Elt F) (Rect.unit (s := S8192x128) (k0_off1 i) S512x128.size (k0_off1_inb i)).toLoadRect f3)) (k0_pay165 k0_pay135 (k0_pay155 (arg8.view.readAt (Elt F) (Rect.unit (s := S1x16x2x512) (k0_off3 i) S1x1x2x512.size (k0_off3_inb i)).toLoadRect f8)) (runOdd.sl.v123 (F := F) c i arg2 arg3 arg5 arg6 arg14 f2 f3 f5 f6)) (runOdd.sl.v135 (F := F) c i arg4 arg7 arg15 f4 f7) := rfl

theorem odd_v146 :
    (runOdd.sl.v146 (F := F) c i arg2 arg3 arg4 arg5 arg6 arg7 arg8 arg9 arg14 arg15 f2 f3 f4 f5 f6 f7 f8 f9)
      = k0_pay171 k0_pay141 (k0_pay156 (arg9.view.readAt (Elt F) (Rect.unit (s := S1x16x2x512) (k0_off3 i) S1x1x2x512.size (k0_off3_inb i)).toLoadRect f9)) (k0_pay165 k0_pay135 (k0_pay155 (arg8.view.readAt (Elt F) (Rect.unit (s := S1x16x2x512) (k0_off3 i) S1x1x2x512.size (k0_off3_inb i)).toLoadRect f8)) (runOdd.sl.v123 (F := F) c i arg2 arg3 arg5 arg6 arg14 f2 f3 f5 f6)) (runOdd.sl.v135 (F := F) c i arg4 arg7 arg15 f4 f7) := rfl

theorem odd_v154 :
    (runOdd.sl.v154 (F := F) c i arg2 arg3 arg4 arg5 arg6 arg7 arg8 arg9 arg10 arg14 arg15 f2 f3 f4 f5 f6 f7 f8 f9 f10)
      = k0_pay172 k0_pay128 (runOdd.sl.v9 (F := F) c arg6 f6) (k0_pay156 (arg9.view.readAt (Elt F) (Rect.unit (s := S1x16x2x512) (k0_off3 i) S1x1x2x512.size (k0_off3_inb i)).toLoadRect f9)) (k0_pay163 (runOdd.sl.v7 (F := F) c arg5 f5) k0_pay135 (k0_pay155 (arg8.view.readAt (Elt F) (Rect.unit (s := S1x16x2x512) (k0_off3 i) S1x1x2x512.size (k0_off3_inb i)).toLoadRect f8)) (k0_pay156 (arg9.view.readAt (Elt F) (Rect.unit (s := S1x16x2x512) (k0_off3 i) S1x1x2x512.size (k0_off3_inb i)).toLoadRect f9)) (runOdd.sl.v95 (F := F) c i arg2 arg3 arg5 arg6 arg14 f2 f3 f5 f6) (runOdd.sl.v107 (F := F) c i arg4 arg7 arg15 f4 f7)) (k0_pay165 k0_pay135 (k0_pay155 (arg8.view.readAt (Elt F) (Rect.unit (s := S1x16x2x512) (k0_off3 i) S1x1x2x512.size (k0_off3_inb i)).toLoadRect f8)) (runOdd.sl.v123 (F := F) c i arg2 arg3 arg5 arg6 arg14 f2 f3 f5 f6)) (runOdd.sl.v135 (F := F) c i arg4 arg7 arg15 f4 f7) (arg10.view.readAt (Elt F) (Rect.unit (s := S8192x128) (k0_off1 i) S512x128.size (k0_off1_inb i)).toLoadRect f10) := rfl

theorem odd_v36 :
    (runOdd.sl.v36 (F := F) c i arg2 arg5 f2 f5)
      = k0_pay3 (runOdd.sl.v7 (F := F) c arg5 f5) (arg2.view.readAt (Elt F) (Rect.unit (s := S8192x128) (k0_off1 i) S512x128.size (k0_off1_inb i)).toLoadRect f2) := rfl

theorem odd_v65 :
    (runOdd.sl.v65 (F := F) c i arg2 arg5 f2 f5)
      = k0_pay3 (runOdd.sl.v7 (F := F) c arg5 f5) (arg2.view.readAt (Elt F) (Rect.unit (s := S8192x128) (k0_off2 i) S512x128.size (k0_off2_inb i)).toLoadRect f2) := rfl

theorem odd_v47 :
    (runOdd.sl.v47 (F := F) c i arg3 arg6 f3 f6)
      = k0_pay3 (runOdd.sl.v9 (F := F) c arg6 f6) (arg3.view.readAt (Elt F) (Rect.unit (s := S8192x128) (k0_off1 i) S512x128.size (k0_off1_inb i)).toLoadRect f3) := rfl

theorem odd_v76 :
    (runOdd.sl.v76 (F := F) c i arg3 arg6 f3 f6)
      = k0_pay3 (runOdd.sl.v9 (F := F) c arg6 f6) (arg3.view.readAt (Elt F) (Rect.unit (s := S8192x128) (k0_off2 i) S512x128.size (k0_off2_inb i)).toLoadRect f3) := rfl

theorem odd_v40 :
    (runOdd.sl.v40 (F := F) c i arg4 arg7 f4 f7)
      = k0_pay3 (runOdd.sl.v13 (F := F) c arg7 f7) (arg4.view.readAt (Elt F) (Rect.unit (s := S8192x128) (k0_off1 i) S512x128.size (k0_off1_inb i)).toLoadRect f4) := rfl

theorem odd_v51 :
    (runOdd.sl.v51 (F := F) c i arg4 arg7 f4 f7)
      = k0_pay3 (runOdd.sl.v14 (F := F) c arg7 f7) (arg4.view.readAt (Elt F) (Rect.unit (s := S8192x128) (k0_off1 i) S512x128.size (k0_off1_inb i)).toLoadRect f4) := rfl

theorem odd_v69 :
    (runOdd.sl.v69 (F := F) c i arg4 arg7 f4 f7)
      = k0_pay3 (runOdd.sl.v13 (F := F) c arg7 f7) (arg4.view.readAt (Elt F) (Rect.unit (s := S8192x128) (k0_off2 i) S512x128.size (k0_off2_inb i)).toLoadRect f4) := rfl

theorem odd_v80 :
    (runOdd.sl.v80 (F := F) c i arg4 arg7 f4 f7)
      = k0_pay3 (runOdd.sl.v14 (F := F) c arg7 f7) (arg4.view.readAt (Elt F) (Rect.unit (s := S8192x128) (k0_off2 i) S512x128.size (k0_off2_inb i)).toLoadRect f4) := rfl

theorem odd_v274 :
    (runOdd.sl.v274 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = k0_pay15 (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.1 (arg8.view.readAt (Elt F) (Rect.unit (s := S1x16x2x512) ![0, 14, 0, 0] S1x1x2x512.size inb_S1x16x2x512_S1x1x2x512_0_14_0_0).toLoadRect f8) (arg9.view.readAt (Elt F) (Rect.unit (s := S1x16x2x512) ![0, 14, 0, 0] S1x1x2x512.size inb_S1x16x2x512_S1x1x2x512_0_14_0_0).toLoadRect f9) (arg2.view.readAt (Elt F) (Rect.unit (s := S8192x128) ![7168, 0] S512x128.size inb_S8192x128_S512x128_7168_0).toLoadRect f2) (runOdd.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runOdd.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := by
  unfold runOdd.sl.v274 midOdd
  rfl

theorem odd_v264 :
    (runOdd.sl.v264 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = k0_pay12 (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.1 (arg4.view.readAt (Elt F) (Rect.unit (s := S8192x128) ![7168, 0] S512x128.size inb_S8192x128_S512x128_7168_0).toLoadRect f4) (arg8.view.readAt (Elt F) (Rect.unit (s := S1x16x2x512) ![0, 14, 0, 0] S1x1x2x512.size inb_S1x16x2x512_S1x1x2x512_0_14_0_0).toLoadRect f8) (runOdd.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := by
  unfold runOdd.sl.v264 midOdd
  rfl

theorem odd_v277 :
    (runOdd.sl.v277 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = k0_pay16 (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.1 (arg8.view.readAt (Elt F) (Rect.unit (s := S1x16x2x512) ![0, 14, 0, 0] S1x1x2x512.size inb_S1x16x2x512_S1x1x2x512_0_14_0_0).toLoadRect f8) (arg9.view.readAt (Elt F) (Rect.unit (s := S1x16x2x512) ![0, 14, 0, 0] S1x1x2x512.size inb_S1x16x2x512_S1x1x2x512_0_14_0_0).toLoadRect f9) (runOdd.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runOdd.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := by
  unfold runOdd.sl.v277 midOdd
  rfl

theorem odd_v300 :
    (runOdd.sl.v300 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = k0_pay21 (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.1 (k0_pay9 (arg8.view.readAt (Elt F) (Rect.unit (s := S1x16x2x512) ![0, 14, 0, 0] S1x1x2x512.size inb_S1x16x2x512_S1x1x2x512_0_14_0_0).toLoadRect f8)) (k0_pay10 (arg9.view.readAt (Elt F) (Rect.unit (s := S1x16x2x512) ![0, 14, 0, 0] S1x1x2x512.size inb_S1x16x2x512_S1x1x2x512_0_14_0_0).toLoadRect f9)) (arg3.view.readAt (Elt F) (Rect.unit (s := S8192x128) ![7168, 0] S512x128.size inb_S8192x128_S512x128_7168_0).toLoadRect f3) (runOdd.sl.v282 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runOdd.sl.v292 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := by
  unfold runOdd.sl.v300 midOdd
  rfl

theorem odd_v290 :
    (runOdd.sl.v290 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = k0_pay18 (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.1 (k0_pay8 (arg4.view.readAt (Elt F) (Rect.unit (s := S8192x128) ![7168, 0] S512x128.size inb_S8192x128_S512x128_7168_0).toLoadRect f4)) (k0_pay9 (arg8.view.readAt (Elt F) (Rect.unit (s := S1x16x2x512) ![0, 14, 0, 0] S1x1x2x512.size inb_S1x16x2x512_S1x1x2x512_0_14_0_0).toLoadRect f8)) (runOdd.sl.v282 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := by
  unfold runOdd.sl.v290 midOdd
  rfl

theorem odd_v303 :
    (runOdd.sl.v303 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = k0_pay22 (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2.2.2.2.2.2 (k0_pay9 (arg8.view.readAt (Elt F) (Rect.unit (s := S1x16x2x512) ![0, 14, 0, 0] S1x1x2x512.size inb_S1x16x2x512_S1x1x2x512_0_14_0_0).toLoadRect f8)) (k0_pay10 (arg9.view.readAt (Elt F) (Rect.unit (s := S1x16x2x512) ![0, 14, 0, 0] S1x1x2x512.size inb_S1x16x2x512_S1x1x2x512_0_14_0_0).toLoadRect f9)) (runOdd.sl.v282 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runOdd.sl.v292 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := by
  unfold runOdd.sl.v303 midOdd
  rfl

theorem odd_v256 :
    (runOdd.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg14.view.readAt (Elt F) (Rect.unit (s := S2x2x512x512) ![1, 0, 0, 0] S1x1x512x512.size inb_S2x2x512x512_S1x1x512x512_1_0_0_0).toLoadRect (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.1 := by
  unfold runOdd.sl.v256 midOdd
  exact congrArg (arg14.view.readAt (Elt F) (Rect.unit (s := S2x2x512x512) ![1, 0, 0, 0] S1x1x512x512.size inb_S2x2x512x512_S1x1x512x512_1_0_0_0).toLoadRect) (lo14_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem odd_v266 :
    (runOdd.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg15.view.readAt (Elt F) (Rect.unit (s := S2x2x512x512) ![1, 0, 0, 0] S1x1x512x512.size inb_S2x2x512x512_S1x1x512x512_1_0_0_0).toLoadRect (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.1 := by
  unfold runOdd.sl.v266 midOdd
  exact congrArg (arg15.view.readAt (Elt F) (Rect.unit (s := S2x2x512x512) ![1, 0, 0, 0] S1x1x512x512.size inb_S2x2x512x512_S1x1x512x512_1_0_0_0).toLoadRect) (lo15_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem odd_v282 :
    (runOdd.sl.v282 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg14.view.readAt (Elt F) (Rect.unit (s := S2x2x512x512) ![1, 1, 0, 0] S1x1x512x512.size inb_S2x2x512x512_S1x1x512x512_1_1_0_0).toLoadRect (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.1 := by
  unfold runOdd.sl.v282 midOdd
  exact congrArg (arg14.view.readAt (Elt F) (Rect.unit (s := S2x2x512x512) ![1, 1, 0, 0] S1x1x512x512.size inb_S2x2x512x512_S1x1x512x512_1_1_0_0).toLoadRect) (lo14_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem odd_v292 :
    (runOdd.sl.v292 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg15.view.readAt (Elt F) (Rect.unit (s := S2x2x512x512) ![1, 1, 0, 0] S1x1x512x512.size inb_S2x2x512x512_S1x1x512x512_1_1_0_0).toLoadRect (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.1 := by
  unfold runOdd.sl.v292 midOdd
  exact congrArg (arg15.view.readAt (Elt F) (Rect.unit (s := S2x2x512x512) ![1, 1, 0, 0] S1x1x512x512.size inb_S2x2x512x512_S1x1x512x512_1_1_0_0).toLoadRect) (lo15_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _)

theorem odd_v229 :
    (runOdd.sl.v229 (F := F) c arg2 arg5 f2 f5)
      = k0_pay3 (runOdd.sl.v7 (F := F) c arg5 f5) (arg2.view.readAt (Elt F) (Rect.unit (s := S8192x128) ![7680, 0] S512x128.size inb_S8192x128_S512x128_7680_0).toLoadRect f2) := rfl

theorem odd_v240 :
    (runOdd.sl.v240 (F := F) c arg3 arg6 f3 f6)
      = k0_pay3 (runOdd.sl.v9 (F := F) c arg6 f6) (arg3.view.readAt (Elt F) (Rect.unit (s := S8192x128) ![7680, 0] S512x128.size inb_S8192x128_S512x128_7680_0).toLoadRect f3) := rfl

theorem odd_v233 :
    (runOdd.sl.v233 (F := F) c arg4 arg7 f4 f7)
      = k0_pay3 (runOdd.sl.v13 (F := F) c arg7 f7) (arg4.view.readAt (Elt F) (Rect.unit (s := S8192x128) ![7680, 0] S512x128.size inb_S8192x128_S512x128_7680_0).toLoadRect f4) := rfl

theorem odd_v244 :
    (runOdd.sl.v244 (F := F) c arg4 arg7 f4 f7)
      = k0_pay3 (runOdd.sl.v14 (F := F) c arg7 f7) (arg4.view.readAt (Elt F) (Rect.unit (s := S8192x128) ![7680, 0] S512x128.size inb_S8192x128_S512x128_7680_0).toLoadRect f4) := rfl

theorem odd_H11 : (runOdd.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S512x128) ![0, 0] S512x128.size inb_S512x128_S512x128_0_0), k0_pay199 (cmpi .slt runOdd.sl.v3 runOdd.sl.v4) (k0_pay15 (runOdd.sl.v274 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (arg2.view.readAt (Elt F) (Rect.unit (s := S8192x128) ![7680, 0] S512x128.size inb_S8192x128_S512x128_7680_0).toLoadRect f2) (runOdd.sl.v325 (F := F) c arg2 arg3 arg5 arg6 arg14 f2 f3 f5 f6) (runOdd.sl.v335 (F := F) c arg4 arg7 arg15 f4 f7)) (k0_pay21 (runOdd.sl.v300 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (arg3.view.readAt (Elt F) (Rect.unit (s := S8192x128) ![7680, 0] S512x128.size inb_S8192x128_S512x128_7680_0).toLoadRect f3) (runOdd.sl.v351 (F := F) c arg2 arg3 arg5 arg6 arg14 f2 f3 f5 f6) (runOdd.sl.v361 (F := F) c arg4 arg7 arg15 f4 f7))⟩] := by
  unfold runOdd.sl.H11_1 runOdd.sl.v343
  rfl

theorem odd_11 (hz : ¬ Scalar.cmpi .ne (Scalar.extui (Scalar.cmpi .eq (BitVec.ofNat 32 (i 1).val) 0#32)) 0#32 = 1#1) (h2 : k0_cond2 i = 1#1) (h3 : k0_cond3 i = 1#1) :
    (runOdd (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.1
      = arg11.view.writes (Elt F) arg11.view.junk (runOdd.sl.H11_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem odd_H12 : (runOdd.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S512x128) ![0, 0] S512x128.size inb_S512x128_S512x128_0_0), k0_pay200 (cmpi .slt runOdd.sl.v3 runOdd.sl.v4) (k0_pay12 (runOdd.sl.v264 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (arg4.view.readAt (Elt F) (Rect.unit (s := S8192x128) ![7680, 0] S512x128.size inb_S8192x128_S512x128_7680_0).toLoadRect f4) (arg8.view.readAt (Elt F) (Rect.unit (s := S1x16x2x512) ![0, 15, 0, 0] S1x1x2x512.size inb_S1x16x2x512_S1x1x2x512_0_15_0_0).toLoadRect f8) (runOdd.sl.v325 (F := F) c arg2 arg3 arg5 arg6 arg14 f2 f3 f5 f6)) (k0_pay18 (runOdd.sl.v290 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (k0_pay8 (arg4.view.readAt (Elt F) (Rect.unit (s := S8192x128) ![7680, 0] S512x128.size inb_S8192x128_S512x128_7680_0).toLoadRect f4)) (k0_pay9 (arg8.view.readAt (Elt F) (Rect.unit (s := S1x16x2x512) ![0, 15, 0, 0] S1x1x2x512.size inb_S1x16x2x512_S1x1x2x512_0_15_0_0).toLoadRect f8)) (runOdd.sl.v351 (F := F) c arg2 arg3 arg5 arg6 arg14 f2 f3 f5 f6))⟩] := by
  unfold runOdd.sl.H12_1 runOdd.sl.v333 runOdd.sl.v359
  rfl

theorem odd_12 (hz : ¬ Scalar.cmpi .ne (Scalar.extui (Scalar.cmpi .eq (BitVec.ofNat 32 (i 1).val) 0#32)) 0#32 = 1#1) (h2 : k0_cond2 i = 1#1) (h3 : k0_cond3 i = 1#1) :
    (runOdd (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.1
      = arg12.view.writes (Elt F) arg12.view.junk (runOdd.sl.H12_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem odd_H13 : (runOdd.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = [⟨(Rect.unit (s := S1x512x2) ![0, 0, 0] S1x512x2.size inb_S1x512x2_S1x512x2_0_0_0), k0_pay1 (k0_pay22 (runOdd.sl.v303 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (runOdd.sl.v351 (F := F) c arg2 arg3 arg5 arg6 arg14 f2 f3 f5 f6) (runOdd.sl.v361 (F := F) c arg4 arg7 arg15 f4 f7)) k0_pay201 (k0_pay202 (k0_pay16 (runOdd.sl.v277 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runOdd.sl.v325 (F := F) c arg2 arg3 arg5 arg6 arg14 f2 f3 f5 f6) (runOdd.sl.v335 (F := F) c arg4 arg7 arg15 f4 f7)))⟩] := by
  unfold runOdd.sl.H13_1 runOdd.sl.r_1 runOdd.sl.r_2 runOdd.sl.v346
  rfl

theorem odd_13 (hz : ¬ Scalar.cmpi .ne (Scalar.extui (Scalar.cmpi .eq (BitVec.ofNat 32 (i 1).val) 0#32)) 0#32 = 1#1) (h2 : k0_cond2 i = 1#1) (h3 : k0_cond3 i = 1#1) :
    (runOdd (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).2.2.2.1
      = arg13.view.writes (Elt F) arg13.view.junk (runOdd.sl.H13_1 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem odd_v306 :
    (runOdd.sl.v306 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg10.view.readAt (Elt F) (Rect.unit (s := S8192x128) ![7168, 0] S512x128.size inb_S8192x128_S512x128_7168_0).toLoadRect (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 := by
  unfold runOdd.sl.v306 midOdd
  exact congrArg (arg10.view.readAt (Elt F) (Rect.unit (s := S8192x128) ![7168, 0] S512x128.size inb_S8192x128_S512x128_7168_0).toLoadRect) (lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ )

theorem odd_v311 :
    (runOdd.sl.v311 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = k0_pay23 (cmpi .slt runOdd.sl.v3 runOdd.sl.v4) (runOdd.sl.v7 (F := F) c arg5 f5) (runOdd.sl.v9 (F := F) c arg6 f6) (k0_pay9 (arg8.view.readAt (Elt F) (Rect.unit (s := S1x16x2x512) ![0, 14, 0, 0] S1x1x2x512.size inb_S1x16x2x512_S1x1x2x512_0_14_0_0).toLoadRect f8)) (k0_pay10 (arg9.view.readAt (Elt F) (Rect.unit (s := S1x16x2x512) ![0, 14, 0, 0] S1x1x2x512.size inb_S1x16x2x512_S1x1x2x512_0_14_0_0).toLoadRect f9)) (k0_pay14 (arg8.view.readAt (Elt F) (Rect.unit (s := S1x16x2x512) ![0, 14, 0, 0] S1x1x2x512.size inb_S1x16x2x512_S1x1x2x512_0_14_0_0).toLoadRect f8) (arg9.view.readAt (Elt F) (Rect.unit (s := S1x16x2x512) ![0, 14, 0, 0] S1x1x2x512.size inb_S1x16x2x512_S1x1x2x512_0_14_0_0).toLoadRect f9) (runOdd.sl.v256 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runOdd.sl.v266 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)) (constant S512x128 .f32 0x00000000#32) (runOdd.sl.v282 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runOdd.sl.v292 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) (runOdd.sl.v306 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) := rfl

theorem odd_v375 :
    (runOdd.sl.v375 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)
      = arg10.view.readAt (Elt F) (Rect.unit (s := S8192x128) ![7680, 0] S512x128.size inb_S8192x128_S512x128_7680_0).toLoadRect (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 := by
  unfold runOdd.sl.v375 midOdd
  exact congrArg (arg10.view.readAt (Elt F) (Rect.unit (s := S8192x128) ![7680, 0] S512x128.size inb_S8192x128_S512x128_7680_0).toLoadRect) (lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ )

theorem odd_10 (hz : ¬ Scalar.cmpi .ne (Scalar.extui (Scalar.cmpi .eq (BitVec.ofNat 32 (i 1).val) 0#32)) 0#32 = 1#1) (h2 : k0_cond2 i = 1#1) (h3 : k0_cond3 i = 1#1) :
    (runOdd (F := F) c i arg2 harg2 arg3 harg3 arg4 harg4 arg5 harg5 arg6 harg6 arg7 harg7 arg8 harg8 arg9 harg9 arg10 harg10 arg11 harg11 arg12 harg12 arg13 harg13 arg14 harg14 arg15 harg15 hz h2 h3 f2 f3 f4 f5 f6 f7 f8 f9 f10 f11 f12 f13 f14 f15).1
      = arg10.view.writes (Elt F) (midOdd c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 [⟨(Rect.unit (s := S8192x128) ![7680, 0] S512x128.size inb_S8192x128_S512x128_7680_0), k0_pay23 (cmpi .slt runOdd.sl.v3 runOdd.sl.v4) (runOdd.sl.v7 (F := F) c arg5 f5) (runOdd.sl.v9 (F := F) c arg6 f6) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (k0_pay14 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runOdd.sl.v325 (F := F) c arg2 arg3 arg5 arg6 arg14 f2 f3 f5 f6) (runOdd.sl.v335 (F := F) c arg4 arg7 arg15 f4 f7)) (constant S512x128 .f32 0x00000000#32) (runOdd.sl.v351 (F := F) c arg2 arg3 arg5 arg6 arg14 f2 f3 f5 f6) (runOdd.sl.v361 (F := F) c arg4 arg7 arg15 f4 f7) (runOdd.sl.v375 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)⟩, ⟨(Rect.unit (s := S8192x128) ![7168, 0] S512x128.size inb_S8192x128_S512x128_7168_0), (runOdd.sl.v311 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)⟩] := by
  unfold midOdd
  exact congrArg (fun z => arg10.view.writes (Elt F) z [⟨(Rect.unit (s := S8192x128) ![7680, 0] S512x128.size inb_S8192x128_S512x128_7680_0), k0_pay23 (cmpi .slt runOdd.sl.v3 runOdd.sl.v4) (runOdd.sl.v7 (F := F) c arg5 f5) (runOdd.sl.v9 (F := F) c arg6 f6) (k0_pay9 (arg8.view.readAt (Elt F) (Rect.unit (s := S1x16x2x512) ![0, 15, 0, 0] S1x1x2x512.size inb_S1x16x2x512_S1x1x2x512_0_15_0_0).toLoadRect f8)) (k0_pay10 (arg9.view.readAt (Elt F) (Rect.unit (s := S1x16x2x512) ![0, 15, 0, 0] S1x1x2x512.size inb_S1x16x2x512_S1x1x2x512_0_15_0_0).toLoadRect f9)) (k0_pay14 (arg8.view.readAt (Elt F) (Rect.unit (s := S1x16x2x512) ![0, 15, 0, 0] S1x1x2x512.size inb_S1x16x2x512_S1x1x2x512_0_15_0_0).toLoadRect f8) (arg9.view.readAt (Elt F) (Rect.unit (s := S1x16x2x512) ![0, 15, 0, 0] S1x1x2x512.size inb_S1x16x2x512_S1x1x2x512_0_15_0_0).toLoadRect f9) (runOdd.sl.v325 (F := F) c arg2 arg3 arg5 arg6 arg14 f2 f3 f5 f6) (runOdd.sl.v335 (F := F) c arg4 arg7 arg15 f4 f7)) (constant S512x128 .f32 0x00000000#32) (runOdd.sl.v351 (F := F) c arg2 arg3 arg5 arg6 arg14 f2 f3 f5 f6) (runOdd.sl.v361 (F := F) c arg4 arg7 arg15 f4 f7) (runOdd.sl.v375 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)⟩, ⟨(Rect.unit (s := S8192x128) ![7168, 0] S512x128.size inb_S8192x128_S512x128_7168_0), (runOdd.sl.v311 (F := F) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10)⟩]) (lo10_eq c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _ _ _ _ _ )

end

end Cert.Proof.Attn
end
-- ==== Proof.ValOdd.lean ====
/- The point program on the key tiles with two tiles left after the loop, over the real numbers. -/
module

public import proofs.«01_k».proof.Proof.ValStep
public import proofs.«01_k».proof.Proof.PointOdd

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

variable (f2 : At (F := Ideal) c arg2) (f3 : At (F := Ideal) c arg3) (f4 : At (F := Ideal) c arg4) (f5 : At (F := Ideal) c arg5) (f6 : At (F := Ideal) c arg6) (f7 : At (F := Ideal) c arg7) (f8 : At (F := Ideal) c arg8) (f9 : At (F := Ideal) c arg9) (f10 : At (F := Ideal) c arg10) (f11 : At (F := Ideal) c arg11) (f12 : At (F := Ideal) c arg12) (f13 : At (F := Ideal) c arg13) (f14 : At (F := Ideal) c arg14) (f15 : At (F := Ideal) c arg15)
variable (w : Wd) (VV D : ℕ → ℕ → ℝ) (hki : w.ki = (i 1).val)
  (hV0 : w.V 0 = fun s l => if l < 64 then VV s l else 0) (hV1 : w.V 1 = fun s l => if l < 64 then 0 else VV s l)
  (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
  (h5 : arg5.view.read (Elt Ideal) f5 = up2 (φ := .bf16) (w.K 0)) (h6 : arg6.view.read (Elt Ideal) f6 = up2 (φ := .bf16) (w.K 1)) (h7 : arg7.view.read (Elt Ideal) f7 = up2 (φ := .bf16) VV)
  (h8 : arg8.view.read (Elt Ideal) f8 = upR (φ := .f32) w.M) (h9 : arg9.view.read (Elt Ideal) f9 = upR (φ := .f32) w.E)
  (h10 : arg10.view.read (Elt Ideal) f10 = up2 (φ := .f32) D)
  (hi : (i 1).val < 15) (hp : (i 1).val % 2 = 1)

include h5 in
theorem odd_k0 : (runOdd.sl.v7 (F := Ideal) c arg5 f5) = up2 (w.K 0) := by
  rw [odd_v7, rd_win _ _ _ h5, id129_val]

include h6 in
theorem odd_k1 : (runOdd.sl.v9 (F := Ideal) c arg6 f6) = up2 (w.K 1) := by
  rw [odd_v9, rd_win _ _ _ h6, id130_val]

include hV0 h7 in
theorem odd_v0 : (runOdd.sl.v13 (F := Ideal) c arg7 f7) = up2 (w.V 0) := by
  rw [odd_v13, rd_win _ _ _ h7, vlo_val, hV0]

include hV1 h7 in
theorem odd_v1 : (runOdd.sl.v14 (F := Ideal) c arg7 f7) = up2 (w.V 1) := by
  rw [odd_v14, rd_win _ _ _ h7, vhi_val, hV1]

include hki h2 h5 in
theorem odd_s14_00 : ∀ g : At (F := Ideal) c arg14, arg14.view.readAt (Elt Ideal) (Rect.unit (s := S2x2x512x512) ![0, 0, 0, 0] S1x1x512x512.size inb_S2x2x512x512_S1x1x512x512_0_0_0_0).toLoadRect (arg14.view.writes (Elt Ideal) g (runOdd.sl.H14_4 (F := Ideal) c i arg2 arg3 arg5 arg6 f2 f3 f5 f6)) = upT (φ := .f32) (w.ST 0 w.ki) := by
  intro g
  unfold runOdd.sl.H14_4 runOdd.sl.H14_2
  rw [rd_miss _ _ _ _ _ _ 0 (by decide), rd_miss _ _ _ _ _ _ 0 (by decide), rd_miss _ _ _ _ _ _ 1 (by decide), rd_hit, odd_v36, odd_k0 c arg5 f5 w h5, rd_tile arg2.view f2 (w.Q 0) h2 (k0_off1_inb i) _ (at1 hki)]
  exact st0_val _ _

include hki h3 h6 in
theorem odd_s14_01 : ∀ g : At (F := Ideal) c arg14, arg14.view.readAt (Elt Ideal) (Rect.unit (s := S2x2x512x512) ![0, 1, 0, 0] S1x1x512x512.size inb_S2x2x512x512_S1x1x512x512_0_1_0_0).toLoadRect (arg14.view.writes (Elt Ideal) g (runOdd.sl.H14_4 (F := Ideal) c i arg2 arg3 arg5 arg6 f2 f3 f5 f6)) = upT (φ := .f32) (w.ST 1 w.ki) := by
  intro g
  unfold runOdd.sl.H14_4 runOdd.sl.H14_2
  rw [rd_miss _ _ _ _ _ _ 0 (by decide), rd_miss _ _ _ _ _ _ 0 (by decide), rd_hit, odd_v47, odd_k1 c arg6 f6 w h6, rd_tile arg3.view f3 (w.Q 1) h3 (k0_off1_inb i) _ (at1 hki)]
  exact st0_val _ _

include hki h2 h5 hi in
theorem odd_s14_10 : ∀ g : At (F := Ideal) c arg14, arg14.view.readAt (Elt Ideal) (Rect.unit (s := S2x2x512x512) ![1, 0, 0, 0] S1x1x512x512.size inb_S2x2x512x512_S1x1x512x512_1_0_0_0).toLoadRect (arg14.view.writes (Elt Ideal) g (runOdd.sl.H14_4 (F := Ideal) c i arg2 arg3 arg5 arg6 f2 f3 f5 f6)) = upT (φ := .f32) (w.ST 0 (w.ki + 1)) := by
  intro g
  unfold runOdd.sl.H14_4 runOdd.sl.H14_2
  rw [rd_miss _ _ _ _ _ _ 1 (by decide), rd_hit, odd_v65, odd_k0 c arg5 f5 w h5, rd_tile arg2.view f2 (w.Q 0) h2 (k0_off2_inb i) _ ((off2_eq i).trans (by rw [Nat.min_eq_left (by omega), hki]) : k0_off2 i = ![512 * (w.ki + 1), 0])]
  exact st0_val _ _

include hki h3 h6 hi in
theorem odd_s14_11 : ∀ g : At (F := Ideal) c arg14, arg14.view.readAt (Elt Ideal) (Rect.unit (s := S2x2x512x512) ![1, 1, 0, 0] S1x1x512x512.size inb_S2x2x512x512_S1x1x512x512_1_1_0_0).toLoadRect (arg14.view.writes (Elt Ideal) g (runOdd.sl.H14_4 (F := Ideal) c i arg2 arg3 arg5 arg6 f2 f3 f5 f6)) = upT (φ := .f32) (w.ST 1 (w.ki + 1)) := by
  intro g
  unfold runOdd.sl.H14_4 runOdd.sl.H14_2
  rw [rd_hit, odd_v76, odd_k1 c arg6 f6 w h6, rd_tile arg3.view f3 (w.Q 1) h3 (k0_off2_inb i) _ ((off2_eq i).trans (by rw [Nat.min_eq_left (by omega), hki]) : k0_off2 i = ![512 * (w.ki + 1), 0])]
  exact st0_val _ _

include hki hV0 h4 h7 in
theorem odd_s15_00 : ∀ g : At (F := Ideal) c arg15, arg15.view.readAt (Elt Ideal) (Rect.unit (s := S2x2x512x512) ![0, 0, 0, 0] S1x1x512x512.size inb_S2x2x512x512_S1x1x512x512_0_0_0_0).toLoadRect (arg15.view.writes (Elt Ideal) g (runOdd.sl.H15_4 (F := Ideal) c i arg4 arg7 f4 f7)) = upT (φ := .f32) (w.DP 0 w.ki) := by
  intro g
  unfold runOdd.sl.H15_4 runOdd.sl.H15_2
  rw [rd_miss _ _ _ _ _ _ 0 (by decide), rd_miss _ _ _ _ _ _ 0 (by decide), rd_miss _ _ _ _ _ _ 1 (by decide), rd_hit, odd_v40, odd_v0 c arg7 f7 w VV hV0 h7, rd_tile arg4.view f4 w.G h4 (k0_off1_inb i) _ (at1 hki)]
  exact st0_val _ _

include hki hV1 h4 h7 in
theorem odd_s15_01 : ∀ g : At (F := Ideal) c arg15, arg15.view.readAt (Elt Ideal) (Rect.unit (s := S2x2x512x512) ![0, 1, 0, 0] S1x1x512x512.size inb_S2x2x512x512_S1x1x512x512_0_1_0_0).toLoadRect (arg15.view.writes (Elt Ideal) g (runOdd.sl.H15_4 (F := Ideal) c i arg4 arg7 f4 f7)) = upT (φ := .f32) (w.DP 1 w.ki) := by
  intro g
  unfold runOdd.sl.H15_4 runOdd.sl.H15_2
  rw [rd_miss _ _ _ _ _ _ 0 (by decide), rd_miss _ _ _ _ _ _ 0 (by decide), rd_hit, odd_v51, odd_v1 c arg7 f7 w VV hV1 h7, rd_tile arg4.view f4 w.G h4 (k0_off1_inb i) _ (at1 hki)]
  exact st0_val _ _

include hki hV0 h4 h7 hi in
theorem odd_s15_10 : ∀ g : At (F := Ideal) c arg15, arg15.view.readAt (Elt Ideal) (Rect.unit (s := S2x2x512x512) ![1, 0, 0, 0] S1x1x512x512.size inb_S2x2x512x512_S1x1x512x512_1_0_0_0).toLoadRect (arg15.view.writes (Elt Ideal) g (runOdd.sl.H15_4 (F := Ideal) c i arg4 arg7 f4 f7)) = upT (φ := .f32) (w.DP 0 (w.ki + 1)) := by
  intro g
  unfold runOdd.sl.H15_4 runOdd.sl.H15_2
  rw [rd_miss _ _ _ _ _ _ 1 (by decide), rd_hit, odd_v69, odd_v0 c arg7 f7 w VV hV0 h7, rd_tile arg4.view f4 w.G h4 (k0_off2_inb i) _ ((off2_eq i).trans (by rw [Nat.min_eq_left (by omega), hki]) : k0_off2 i = ![512 * (w.ki + 1), 0])]
  exact st0_val _ _

include hki hV1 h4 h7 hi in
theorem odd_s15_11 : ∀ g : At (F := Ideal) c arg15, arg15.view.readAt (Elt Ideal) (Rect.unit (s := S2x2x512x512) ![1, 1, 0, 0] S1x1x512x512.size inb_S2x2x512x512_S1x1x512x512_1_1_0_0).toLoadRect (arg15.view.writes (Elt Ideal) g (runOdd.sl.H15_4 (F := Ideal) c i arg4 arg7 f4 f7)) = upT (φ := .f32) (w.DP 1 (w.ki + 1)) := by
  intro g
  unfold runOdd.sl.H15_4 runOdd.sl.H15_2
  rw [rd_hit, odd_v80, odd_v1 c arg7 f7 w VV hV1 h7, rd_tile arg4.view f4 w.G h4 (k0_off2_inb i) _ ((off2_eq i).trans (by rw [Nat.min_eq_left (by omega), hki]) : k0_off2 i = ![512 * (w.ki + 1), 0])]
  exact st0_val _ _

include hki h2 h4 h5 h8 in
theorem odd_dv0 : (runOdd.sl.v105 (F := Ideal) c i arg2 arg3 arg4 arg5 arg6 arg8 arg14 f2 f3 f4 f5 f6 f8) = up2 (w.dvC 0 w.ki) := by
  have g_ := rd_tile arg4.view f4 w.G h4 (k0_off1_inb i) _ (at1 hki)
  have m_ := rd_row arg8.view f8 w.M h8 (k0_off3_inb i) _ (at3 hki)
  have v95_ : (runOdd.sl.v95 (F := Ideal) c i arg2 arg3 arg5 arg6 arg14 f2 f3 f5 f6) = upT (φ := .f32) (w.ST 0 w.ki) := by
    refine odd_s14_00 (w := w) (hki := hki) (h2 := h2) (h5 := h5) (g := arg14.view.junk) ..
  rw [odd_v105]
  exact dg_dv0 w rfl g_ m_ v95_

include hki h3 h4 h6 h8 in
theorem odd_dv1 : (runOdd.sl.v133 (F := Ideal) c i arg2 arg3 arg4 arg5 arg6 arg8 arg14 f2 f3 f4 f5 f6 f8) = up2 (w.dvC 1 w.ki) := by
  have g_ := rd_tile arg4.view f4 w.G h4 (k0_off1_inb i) _ (at1 hki)
  have m_ := rd_row arg8.view f8 w.M h8 (k0_off3_inb i) _ (at3 hki)
  have v123_ : (runOdd.sl.v123 (F := Ideal) c i arg2 arg3 arg5 arg6 arg14 f2 f3 f5 f6) = upT (φ := .f32) (w.ST 1 w.ki) := by
    refine odd_s14_01 (w := w) (hki := hki) (h3 := h3) (h6 := h6) (g := arg14.view.junk) ..
  rw [odd_v133]
  exact dg_dv1 w rfl g_ m_ v123_

include hki hV0 h2 h4 h5 h7 h8 h9 in
theorem odd_dk0 : (runOdd.sl.v115 (F := Ideal) c i arg2 arg3 arg4 arg5 arg6 arg7 arg8 arg9 arg14 arg15 f2 f3 f4 f5 f6 f7 f8 f9) = up2 (w.dkC 0 w.ki) := by
  have m_ := rd_row arg8.view f8 w.M h8 (k0_off3_inb i) _ (at3 hki)
  have e_ := rd_row arg9.view f9 w.E h9 (k0_off3_inb i) _ (at3 hki)
  have q_ := rd_tile arg2.view f2 (w.Q 0) h2 (k0_off1_inb i) _ (at1 hki)
  have v95_ : (runOdd.sl.v95 (F := Ideal) c i arg2 arg3 arg5 arg6 arg14 f2 f3 f5 f6) = upT (φ := .f32) (w.ST 0 w.ki) := by
    refine odd_s14_00 (w := w) (hki := hki) (h2 := h2) (h5 := h5) (g := arg14.view.junk) ..
  have v107_ : (runOdd.sl.v107 (F := Ideal) c i arg4 arg7 arg15 f4 f7) = upT (φ := .f32) (w.DP 0 w.ki) := by
    refine odd_s15_00 (w := w) (hki := hki) (VV := VV) (hV0 := hV0) (h4 := h4) (h7 := h7) (g := arg15.view.junk) ..
  rw [odd_v115]
  exact dg_dk0 w rfl m_ e_ q_ v95_ v107_

include hki hV1 h3 h4 h6 h7 h8 h9 in
theorem odd_dk1 : (runOdd.sl.v143 (F := Ideal) c i arg2 arg3 arg4 arg5 arg6 arg7 arg8 arg9 arg14 arg15 f2 f3 f4 f5 f6 f7 f8 f9) = up2 (w.dkC 1 w.ki) := by
  have m_ := rd_row arg8.view f8 w.M h8 (k0_off3_inb i) _ (at3 hki)
  have e_ := rd_row arg9.view f9 w.E h9 (k0_off3_inb i) _ (at3 hki)
  have q1_ := rd_tile arg3.view f3 (w.Q 1) h3 (k0_off1_inb i) _ (at1 hki)
  have v123_ : (runOdd.sl.v123 (F := Ideal) c i arg2 arg3 arg5 arg6 arg14 f2 f3 f5 f6) = upT (φ := .f32) (w.ST 1 w.ki) := by
    refine odd_s14_01 (w := w) (hki := hki) (h3 := h3) (h6 := h6) (g := arg14.view.junk) ..
  have v135_ : (runOdd.sl.v135 (F := Ideal) c i arg4 arg7 arg15 f4 f7) = upT (φ := .f32) (w.DP 1 w.ki) := by
    refine odd_s15_01 (w := w) (hki := hki) (VV := VV) (hV1 := hV1) (h4 := h4) (h7 := h7) (g := arg15.view.junk) ..
  rw [odd_v143]
  exact dg_dk1 w rfl m_ e_ q1_ v123_ v135_

include hki hV0 h2 h4 h5 h7 h8 h9 in
theorem odd_dc0 : (runOdd.sl.v118 (F := Ideal) c i arg2 arg3 arg4 arg5 arg6 arg7 arg8 arg9 arg14 arg15 f2 f3 f4 f5 f6 f7 f8 f9) = up2 (fun s _ => - w.dcC 0 w.ki s) := by
  have m_ := rd_row arg8.view f8 w.M h8 (k0_off3_inb i) _ (at3 hki)
  have e_ := rd_row arg9.view f9 w.E h9 (k0_off3_inb i) _ (at3 hki)
  have v95_ : (runOdd.sl.v95 (F := Ideal) c i arg2 arg3 arg5 arg6 arg14 f2 f3 f5 f6) = upT (φ := .f32) (w.ST 0 w.ki) := by
    refine odd_s14_00 (w := w) (hki := hki) (h2 := h2) (h5 := h5) (g := arg14.view.junk) ..
  have v107_ : (runOdd.sl.v107 (F := Ideal) c i arg4 arg7 arg15 f4 f7) = upT (φ := .f32) (w.DP 0 w.ki) := by
    refine odd_s15_00 (w := w) (hki := hki) (VV := VV) (hV0 := hV0) (h4 := h4) (h7 := h7) (g := arg15.view.junk) ..
  rw [odd_v118]
  exact dg_dc0 w rfl m_ e_ v95_ v107_

include hki hV1 h3 h4 h6 h7 h8 h9 in
theorem odd_dc1 : (runOdd.sl.v146 (F := Ideal) c i arg2 arg3 arg4 arg5 arg6 arg7 arg8 arg9 arg14 arg15 f2 f3 f4 f5 f6 f7 f8 f9) = up2 (fun s _ => - w.dcC 1 w.ki s) := by
  have m_ := rd_row arg8.view f8 w.M h8 (k0_off3_inb i) _ (at3 hki)
  have e_ := rd_row arg9.view f9 w.E h9 (k0_off3_inb i) _ (at3 hki)
  have v123_ : (runOdd.sl.v123 (F := Ideal) c i arg2 arg3 arg5 arg6 arg14 f2 f3 f5 f6) = upT (φ := .f32) (w.ST 1 w.ki) := by
    refine odd_s14_01 (w := w) (hki := hki) (h3 := h3) (h6 := h6) (g := arg14.view.junk) ..
  have v135_ : (runOdd.sl.v135 (F := Ideal) c i arg4 arg7 arg15 f4 f7) = upT (φ := .f32) (w.DP 1 w.ki) := by
    refine odd_s15_01 (w := w) (hki := hki) (VV := VV) (hV1 := hV1) (h4 := h4) (h7 := h7) (g := arg15.view.junk) ..
  rw [odd_v146]
  exact dg_dc1 w rfl m_ e_ v123_ v135_

include hki hV0 hV1 h2 h3 h4 h5 h6 h7 h8 h9 h10 in
theorem odd_q : (runOdd.sl.v154 (F := Ideal) c i arg2 arg3 arg4 arg5 arg6 arg7 arg8 arg9 arg10 arg14 arg15 f2 f3 f4 f5 f6 f7 f8 f9 f10) = up2 fun t l => D (512 * w.ki + t) l + w.dqC w.ki t l := by
  have m_ := rd_row arg8.view f8 w.M h8 (k0_off3_inb i) _ (at3 hki)
  have e_ := rd_row arg9.view f9 w.E h9 (k0_off3_inb i) _ (at3 hki)
  have k0_ := odd_k0 c arg5 f5 w h5
  have k1_ := odd_k1 c arg6 f6 w h6
  have v95_ : (runOdd.sl.v95 (F := Ideal) c i arg2 arg3 arg5 arg6 arg14 f2 f3 f5 f6) = upT (φ := .f32) (w.ST 0 w.ki) := by
    refine odd_s14_00 (w := w) (hki := hki) (h2 := h2) (h5 := h5) (g := arg14.view.junk) ..
  have v107_ : (runOdd.sl.v107 (F := Ideal) c i arg4 arg7 arg15 f4 f7) = upT (φ := .f32) (w.DP 0 w.ki) := by
    refine odd_s15_00 (w := w) (hki := hki) (VV := VV) (hV0 := hV0) (h4 := h4) (h7 := h7) (g := arg15.view.junk) ..
  have v123_ : (runOdd.sl.v123 (F := Ideal) c i arg2 arg3 arg5 arg6 arg14 f2 f3 f5 f6) = upT (φ := .f32) (w.ST 1 w.ki) := by
    refine odd_s14_01 (w := w) (hki := hki) (h3 := h3) (h6 := h6) (g := arg14.view.junk) ..
  have v135_ : (runOdd.sl.v135 (F := Ideal) c i arg4 arg7 arg15 f4 f7) = upT (φ := .f32) (w.DP 1 w.ki) := by
    refine odd_s15_01 (w := w) (hki := hki) (VV := VV) (hV1 := hV1) (h4 := h4) (h7 := h7) (g := arg15.view.junk) ..
  have a_ := rd_tile32 arg10.view f10 D h10 (k0_off1_inb i) _ (at1 hki)
  rw [odd_v154, k0_, k1_]
  exact dg_dq w rfl m_ e_ v95_ v107_ v123_ v135_ D a_

include hki hV0 hV1 h2 h3 h4 h5 h6 h7 h8 h9 h10 in
theorem odd_d10 : arg10.view.read (Elt Ideal) (arg10.view.writes (Elt Ideal) f10 (⟨(Rect.unit (s := S8192x128) (k0_off1 i) S512x128.size (k0_off1_inb i)), (runOdd.sl.v154 (F := Ideal) c i arg2 arg3 arg4 arg5 arg6 arg7 arg8 arg9 arg10 arg14 arg15 f2 f3 f4 f5 f6 f7 f8 f9 f10)⟩ :: [])) = up2 (φ := .f32) (w.dq D (w.ki + 1)) := by
  rw [show (runOdd.sl.v154 (F := Ideal) c i arg2 arg3 arg4 arg5 arg6 arg7 arg8 arg9 arg10 arg14 arg15 f2 f3 f4 f5 f6 f7 f8 f9 f10) = _ from odd_q (w := w) (VV := VV) (hki := hki) (hV0 := hV0) (hV1 := hV1) (h2 := h2) (h3 := h3) (h4 := h4) (h5 := h5) (h6 := h6) (h7 := h7) (h8 := h8) (h9 := h9) (h10 := h10) ..]
  refine (wr_tile arg10.view f10 [] D (w.dqC w.ki) h10 (k0_off1_inb i) _ (at1 hki)).trans ?_
  exact congrArg up2 (funext fun r => funext fun l => (w.dq_base D r l).symm)

include hki hV0 hV1 h2 h3 h4 h5 h6 h7 h8 h9 h10 hi hp in
theorem odd_mid : TripVal c arg10 arg14 arg15 w 14 (w.dq D 14) (w.dk 0 14) (w.dv 0 14) (fun s _ => w.dc 0 14 s) (w.dk 1 14) (w.dv 1 14) (fun s _ => w.dc 1 14 s) (midOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).1 (midOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.1 (midOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.1 (midOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).2.2.2 := by
  have ht := trips1 i
  unfold midOdd
  refine loop_val' c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ w f2 f3 f4 f8 f9 _ _ _ _ D odd_v5 (odd_k0 c arg5 f5 w h5) (odd_k1 c arg6 f6 w h6) (odd_v0 c arg7 f7 w VV hV0 h7) (odd_v1 c arg7 f7 w VV hV1 h7) h2 h3 h4 h8 h9 hki ⟨?_, ?_, ?_, ?_, ?_, ?_, ?_, ?_, ?_, ?_, ?_⟩ _ (by rw [ht]; omega)
  · exact (odd_dk0 (w := w) (VV := VV) (hki := hki) (hV0 := hV0) (h2 := h2) (h4 := h4) (h5 := h5) (h7 := h7) (h8 := h8) (h9 := h9) ..).trans (congrArg up2 (funext fun s => funext fun l => (w.dk_one 0 s l).symm))
  · exact (odd_dv0 (w := w) (hki := hki) (h2 := h2) (h4 := h4) (h5 := h5) (h8 := h8) ..).trans (congrArg up2 (funext fun s => funext fun l => (w.dv_one 0 s l).symm))
  · exact (odd_dc0 (w := w) (VV := VV) (hki := hki) (hV0 := hV0) (h2 := h2) (h4 := h4) (h5 := h5) (h7 := h7) (h8 := h8) (h9 := h9) ..).trans (congrArg up2 (funext fun s => funext fun l => (w.dc_one 0 s).symm))
  · exact (odd_dk1 (w := w) (VV := VV) (hki := hki) (hV1 := hV1) (h3 := h3) (h4 := h4) (h6 := h6) (h7 := h7) (h8 := h8) (h9 := h9) ..).trans (congrArg up2 (funext fun s => funext fun l => (w.dk_one 1 s l).symm))
  · exact (odd_dv1 (w := w) (hki := hki) (h3 := h3) (h4 := h4) (h6 := h6) (h8 := h8) ..).trans (congrArg up2 (funext fun s => funext fun l => (w.dv_one 1 s l).symm))
  · exact (odd_dc1 (w := w) (VV := VV) (hki := hki) (hV1 := hV1) (h3 := h3) (h4 := h4) (h6 := h6) (h7 := h7) (h8 := h8) (h9 := h9) ..).trans (congrArg up2 (funext fun s => funext fun l => (w.dc_one 1 s).symm))
  · exact odd_d10 (w := w) (VV := VV) (hki := hki) (hV0 := hV0) (hV1 := hV1) (h2 := h2) (h3 := h3) (h4 := h4) (h5 := h5) (h6 := h6) (h7 := h7) (h8 := h8) (h9 := h9) (h10 := h10) ..
  · exact odd_s14_10 (w := w) (hki := hki) (h2 := h2) (h5 := h5) (hi := hi) (g := arg14.view.junk) ..
  · exact odd_s14_11 (w := w) (hki := hki) (h3 := h3) (h6 := h6) (hi := hi) (g := arg14.view.junk) ..
  · exact odd_s15_10 (w := w) (hki := hki) (VV := VV) (hV0 := hV0) (h4 := h4) (h7 := h7) (hi := hi) (g := arg15.view.junk) ..
  · exact odd_s15_11 (w := w) (hki := hki) (VV := VV) (hV1 := hV1) (h4 := h4) (h7 := h7) (hi := hi) (g := arg15.view.junk) ..

include hki hV0 hV1 h2 h3 h4 h5 h6 h7 h8 h9 h10 hi hp in
theorem odd_val (hz : ¬ Scalar.cmpi .ne (Scalar.extui (Scalar.cmpi .eq (BitVec.ofNat 32 (i 1).val) 0#32)) 0#32 = 1#1) (hc2 : k0_cond2 i = 1#1) (hc3 : k0_cond3 i = 1#1) : PointVal c arg10 arg11 arg12 arg13 w D (runOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).1 (runOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.1 (runOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.2.1 (runOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 hz hc2 hc3 f2 f3 f4 f5 f6 f7 f8 f9 f10 f11 f12 f13 f14 f15).2.2.2.1 := by
  have v5_ := odd_v5
  have k0_ := odd_k0 c arg5 f5 w h5
  have k1_ := odd_k1 c arg6 f6 w h6
  have hk : w.ki < 14 := by omega
  have hk5 : w.ki < 15 := by omega
  have g_ := rd_tile arg4.view f4 w.G h4 inb_S8192x128_S512x128_7680_0 15 rfl
  have m_ := rd_row arg8.view f8 w.M h8 inb_S1x16x2x512_S1x1x2x512_0_15_0_0 15 rfl
  have e_ := rd_row arg9.view f9 w.E h9 inb_S1x16x2x512_S1x1x2x512_0_15_0_0 15 rfl
  have q_ := rd_tile arg2.view f2 (w.Q 0) h2 inb_S8192x128_S512x128_7680_0 15 rfl
  have q1_ := rd_tile arg3.view f3 (w.Q 1) h3 inb_S8192x128_S512x128_7680_0 15 rfl
  have g4_ := rd_tile arg4.view f4 w.G h4 inb_S8192x128_S512x128_7168_0 14 rfl
  have m4_ := rd_row arg8.view f8 w.M h8 inb_S1x16x2x512_S1x1x2x512_0_14_0_0 14 rfl
  have e4_ := rd_row arg9.view f9 w.E h9 inb_S1x16x2x512_S1x1x2x512_0_14_0_0 14 rfl
  have q4_ := rd_tile arg2.view f2 (w.Q 0) h2 inb_S8192x128_S512x128_7168_0 14 rfl
  have q41_ := rd_tile arg3.view f3 (w.Q 1) h3 inb_S8192x128_S512x128_7168_0 14 rfl
  obtain ⟨y0, y1, y2, y3, y4, y5, yq, ys0, ys1, yd0, yd1⟩ := odd_mid c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 w VV D hki hV0 hV1 h2 h3 h4 h5 h6 h7 h8 h9 h10 hi hp
  have s_ := (odd_v256 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans ys0
  have s1_ := (odd_v282 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans ys1
  have d_ := (odd_v266 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans yd0
  have d1_ := (odd_v292 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans yd1
  have S_ : (runOdd.sl.v325 (F := Ideal) c arg2 arg3 arg5 arg6 arg14 f2 f3 f5 f6) = upT (φ := .f32) (w.ST 0 15) := by
    show arg14.view.readAt (Elt Ideal) (Rect.unit (s := S2x2x512x512) ![0, 0, 0, 0] S1x1x512x512.size inb_S2x2x512x512_S1x1x512x512_0_0_0_0).toLoadRect (arg14.view.writes (Elt Ideal) arg14.view.junk (runOdd.sl.H14_2_1 (F := Ideal) c arg2 arg3 arg5 arg6 f2 f3 f5 f6)) = _
    unfold runOdd.sl.H14_2_1
    rw [rd_miss _ _ _ _ _ _ 1 (by decide), rd_hit, odd_v229, k0_, q_]
    exact st0_val _ _
  have S1_ : (runOdd.sl.v351 (F := Ideal) c arg2 arg3 arg5 arg6 arg14 f2 f3 f5 f6) = upT (φ := .f32) (w.ST 1 15) := by
    show arg14.view.readAt (Elt Ideal) (Rect.unit (s := S2x2x512x512) ![0, 1, 0, 0] S1x1x512x512.size inb_S2x2x512x512_S1x1x512x512_0_1_0_0).toLoadRect (arg14.view.writes (Elt Ideal) arg14.view.junk (runOdd.sl.H14_2_1 (F := Ideal) c arg2 arg3 arg5 arg6 f2 f3 f5 f6)) = _
    unfold runOdd.sl.H14_2_1
    rw [rd_hit, odd_v240, k1_, q1_]
    exact st0_val _ _
  have Dd_ : (runOdd.sl.v335 (F := Ideal) c arg4 arg7 arg15 f4 f7) = upT (φ := .f32) (w.DP 0 15) := by
    show arg15.view.readAt (Elt Ideal) (Rect.unit (s := S2x2x512x512) ![0, 0, 0, 0] S1x1x512x512.size inb_S2x2x512x512_S1x1x512x512_0_0_0_0).toLoadRect (arg15.view.writes (Elt Ideal) arg15.view.junk (runOdd.sl.H15_2_1 (F := Ideal) c arg4 arg7 f4 f7)) = _
    unfold runOdd.sl.H15_2_1
    rw [rd_miss _ _ _ _ _ _ 1 (by decide), rd_hit, odd_v233, odd_v0 c arg7 f7 w VV hV0 h7, g_]
    exact st0_val _ _
  have D1_ : (runOdd.sl.v361 (F := Ideal) c arg4 arg7 arg15 f4 f7) = upT (φ := .f32) (w.DP 1 15) := by
    show arg15.view.readAt (Elt Ideal) (Rect.unit (s := S2x2x512x512) ![0, 1, 0, 0] S1x1x512x512.size inb_S2x2x512x512_S1x1x512x512_0_1_0_0).toLoadRect (arg15.view.writes (Elt Ideal) arg15.view.junk (runOdd.sl.H15_2_1 (F := Ideal) c arg4 arg7 f4 f7)) = _
    unfold runOdd.sl.H15_2_1
    rw [rd_hit, odd_v244, odd_v1 c arg7 f7 w VV hV1 h7, g_]
    exact st0_val _ _
  have u0 : (runOdd.sl.v274 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) = up2 (φ := .f32) (fun s l => w.dk 0 14 s l + w.dkC 0 14 s l) := by
    rw [odd_v274 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, y0]
    exact dk0_one w hk _ m4_ e4_ q4_ s_ d_
  have u1 : (runOdd.sl.v264 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) = up2 (φ := .f32) (fun s l => w.dv 0 14 s l + w.dvC 0 14 s l) := by
    rw [odd_v264 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, y1]
    exact dv0_one w hk _ g4_ m4_ s_
  have u2 : (runOdd.sl.v277 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) = up2 (φ := .f32) (fun s l => w.dc 0 14 s - w.dcC 0 14 s) := by
    rw [odd_v277 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, y2]
    exact dc0_one w hk _ m4_ e4_ s_ d_
  have u3 : (runOdd.sl.v300 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) = up2 (φ := .f32) (fun s l => w.dk 1 14 s l + w.dkC 1 14 s l) := by
    rw [odd_v300 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, y3]
    exact dk1_one w hk _ m4_ e4_ q41_ s1_ d1_
  have u4 : (runOdd.sl.v290 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) = up2 (φ := .f32) (fun s l => w.dv 1 14 s l + w.dvC 1 14 s l) := by
    rw [odd_v290 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, y4]
    exact dv1_one w hk _ g4_ m4_ s1_
  have u5 : (runOdd.sl.v303 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) = up2 (φ := .f32) (fun s l => w.dc 1 14 s - w.dcC 1 14 s) := by
    rw [odd_v303 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, y5]
    exact dc1_one w hk _ m4_ e4_ s1_ d1_
  have a4_ := (odd_v306 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans (rd_tile32 arg10.view _ _ yq inb_S8192x128_S512x128_7168_0 14 rfl)
  have a_ := (odd_v375 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10).trans (rd_tile32 arg10.view _ _ yq inb_S8192x128_S512x128_7680_0 15 rfl)
  have x4 : (runOdd.sl.v311 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10) = up2 (φ := .f32) (fun t l => w.dq D 14 (512 * 14 + t) l + w.dqC 14 t l) := by
    rw [odd_v311 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, odd_v5, k0_, k1_]
    exact dq_one w hk _ a4_ m4_ e4_ s_ d_ s1_ d1_
  refine ⟨?_, ?_, ?_, ?_⟩
  · rw [odd_10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, v5_, k0_, k1_]
    refine (wr_two arg10.view _ _ (w.dqC 14) (w.dqC 15) yq inb_S8192x128_S512x128_7168_0 inb_S8192x128_S512x128_7680_0 14 15 rfl rfl (by decide) x4 (dq_one w hk5 _ a_ m_ e_ S_ Dd_ S1_ D1_)).trans ?_
    exact congrArg up2 (funext fun r => funext fun l => by rw [w.dq_succ D (show w.ki ≤ 15 by omega), w.dq_succ D (show w.ki ≤ 14 by omega)])
  · rw [odd_11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, odd_H11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, v5_, u0, u3, dk0_one w hk5 _ m_ e_ q_ S_ Dd_, dk1_one w hk5 _ m_ e_ q1_ S1_ D1_, fin_dk]
    refine (wr_all arg11.view _ z2 _ _).trans ?_
    exact congrArg up2 (funext fun s => funext fun l => by rw [w.dk_succ (show w.ki ≤ 15 by omega), w.dk_succ (show w.ki ≤ 14 by omega), w.dk_succ (show w.ki ≤ 15 by omega), w.dk_succ (show w.ki ≤ 14 by omega)])
  · rw [odd_12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, odd_H12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, v5_, u1, u4, dv0_one w hk5 _ g_ m_ S_, dv1_one w hk5 _ g_ m_ S1_, fin_dv]
    refine (wr_all arg12.view _ z2 _ _).trans ?_
    exact congrArg up2 (funext fun s => funext fun l => by rw [w.dv_succ (show w.ki ≤ 15 by omega), w.dv_succ (show w.ki ≤ 14 by omega), w.dv_succ (show w.ki ≤ 15 by omega), w.dv_succ (show w.ki ≤ 14 by omega)])
  · rw [odd_13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 hz hc2 hc3, odd_H13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10, u2, u5, dc0_one w hk5 _ m_ e_ S_ Dd_, dc1_one w hk5 _ m_ e_ S1_ D1_, fin_dc]
    refine (wr_all arg13.view _ z3 _ _).trans ?_
    exact congrArg upC (funext fun s => funext fun h => by rw [w.dc_succ (show w.ki ≤ 15 by omega), w.dc_succ (show w.ki ≤ 14 by omega), w.dc_succ (show w.ki ≤ 15 by omega), w.dc_succ (show w.ki ≤ 14 by omega)])

end

end Cert.Proof.Attn
end
-- ==== Proof.ValBody.lean ====
/- The body at a grid point, over the real numbers: one statement for the four kinds of point. -/
module

public import proofs.«01_k».proof.Proof.ValLast
public import proofs.«01_k».proof.Proof.ValEven
public import proofs.«01_k».proof.Proof.ValFirst
public import proofs.«01_k».proof.Proof.ValOdd

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

local notation "𝕄" => MT nD τ sig Unit (Elt Ideal) ℕ (UR sig nD τ) ℕ

section

variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .bf16) (harg6 : arg6.IsWhole)
  (arg7 : Memref sig .tc .vmem S512x128 .bf16) (harg7 : arg7.IsWhole)
  (arg8 : Memref sig .tc .vmem S1x16x2x512 .f32) (harg8 : arg8.IsWhole)
  (arg9 : Memref sig .tc .vmem S1x16x2x512 .f32) (harg9 : arg9.IsWhole)
  (arg10 : Memref sig .tc .vmem S8192x128 .f32) (harg10 : arg10.IsWhole)
  (arg11 : Memref sig .tc .vmem S512x128 .f32) (harg11 : arg11.IsWhole)
  (arg12 : Memref sig .tc .vmem S512x128 .f32) (harg12 : arg12.IsWhole)
  (arg13 : Memref sig .tc .vmem S1x512x2 .f32) (harg13 : arg13.IsWhole)
  (arg14 : Memref sig .tc .vmem S2x2x512x512 .f32) (harg14 : arg14.IsWhole)
  (arg15 : Memref sig .tc .vmem S2x2x512x512 .f32) (harg15 : arg15.IsWhole)

set_option maxHeartbeats 2000000 in
/-- The body at a grid point from windows that hold real values: the operands are left as they were, the results at the point's values. -/
theorem body_val (f2 : At (F := Ideal) c arg2) (f3 : At (F := Ideal) c arg3) (f4 : At (F := Ideal) c arg4) (f5 : At (F := Ideal) c arg5) (f6 : At (F := Ideal) c arg6) (f7 : At (F := Ideal) c arg7) (f8 : At (F := Ideal) c arg8) (f9 : At (F := Ideal) c arg9) (f10 : At (F := Ideal) c arg10) (f11 : At (F := Ideal) c arg11) (f12 : At (F := Ideal) c arg12) (f13 : At (F := Ideal) c arg13) (f14 : At (F := Ideal) c arg14) (f15 : At (F := Ideal) c arg15)
  (w : Wd) (VV D : ℕ → ℕ → ℝ) (hki : w.ki = (i 1).val)
  (hV0 : w.V 0 = fun s l => if l < 64 then VV s l else 0) (hV1 : w.V 1 = fun s l => if l < 64 then 0 else VV s l)
  (h2 : arg2.view.read (Elt Ideal) f2 = up2 (φ := .bf16) (w.Q 0)) (h3 : arg3.view.read (Elt Ideal) f3 = up2 (φ := .bf16) (w.Q 1)) (h4 : arg4.view.read (Elt Ideal) f4 = up2 (φ := .bf16) w.G)
  (h5 : arg5.view.read (Elt Ideal) f5 = up2 (φ := .bf16) (w.K 0)) (h6 : arg6.view.read (Elt Ideal) f6 = up2 (φ := .bf16) (w.K 1)) (h7 : arg7.view.read (Elt Ideal) f7 = up2 (φ := .bf16) VV)
  (h8 : arg8.view.read (Elt Ideal) f8 = upR (φ := .f32) w.M) (h9 : arg9.view.read (Elt Ideal) f9 = upR (φ := .f32) w.E)
  (hD : (i 1).val = 0 → D = fun _ _ => 0) (h10 : (i 1).val ≠ 0 → arg10.view.read (Elt Ideal) f10 = up2 (φ := .f32) D) :
    (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15) : sProp 𝕄) ⊢
      wp frame (wpE (defs₀ (F := Ideal)) 𝒱₀ (c : Thread nD τ) none) Set.univ (cc0_attn_bwd (F := Ideal) i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(pt c arg2 f2 ∗ pt c arg3 f3 ∗ pt c arg4 f4 ∗ pt c arg5 f5 ∗ pt c arg6 f6 ∗ pt c arg7 f7 ∗ pt c arg8 f8 ∗ pt c arg9 f9 ∗ (∃ g10, ∃ g11, ∃ g12, ∃ g13, ⌜PointVal c arg10 arg11 arg12 arg13 w D g10 g11 g12 g13⌝ ∗ pt c arg10 g10 ∗ pt c arg11 g11 ∗ pt c arg12 g12 ∗ pt c arg13 g13) ∗ (∃ g, pt c arg14 g) ∗ (∃ g, pt c arg15 g))) := by
  by_cases hz : Scalar.cmpi .ne (Scalar.extui (Scalar.cmpi .eq (BitVec.ofNat 32 (i 1).val) 0#32)) 0#32 = 1#1
  · have h0 : (i 1).val = 0 := (zero_iff (i 1)).mp hz
    have c2 : k0_cond2 i = 1#1 := (cond2_iff i).mpr (by omega)
    have c3 : ¬ k0_cond3 i = 1#1 := fun h => by have := (cond3_iff i (by omega)).mp h; omega
    have hi : (i 1).val < 15 := by omega
    have hp : (i 1).val % 2 = 0 := by omega
    rw [hD h0]
    refine (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 hz c2 c3 f2 f3 f4 f5 f6 f7 f8 f9 f10 f11 f12 f13 f14 f15).2.2.2.2.2.2.trans (wp_mono _ _ _ fun _ => ?_)
    have hv := first_val (w := w) (VV := VV) (hki := hki) (hV0 := hV0) (hV1 := hV1) (h2 := h2) (h3 := h3) (h4 := h4) (h5 := h5) (h6 := h6) (h7 := h7) (h8 := h8) (h9 := h9) (hi := hi) (hp := hp) (hz := hz) (hc2 := c2) (hc3 := c3) (c := c) (i := i) (harg2 := harg2) (f2 := f2) (harg3 := harg3) (f3 := f3) (harg4 := harg4) (f4 := f4) (harg5 := harg5) (f5 := f5) (harg6 := harg6) (f6 := f6) (harg7 := harg7) (f7 := f7) (harg8 := harg8) (f8 := f8) (harg9 := harg9) (f9 := f9) (harg10 := harg10) (f10 := f10) (harg11 := harg11) (f11 := f11) (harg12 := harg12) (f12 := f12) (harg13 := harg13) (f13 := f13) (harg14 := harg14) (f14 := f14) (harg15 := harg15) (f15 := f15)
    iintro ⟨H2, H3, H4, H5, H6, H7, H8, H9, H10, H11, H12, H13, H14, H15⟩
    iframe H2 H3 H4 H5 H6 H7 H8 H9
    isplitl [H10 H11 H12 H13]
    · iexists _; iexists _; iexists _; iexists _
      isplitr; (· ipureintro; exact hv)
      iframe H10 H11 H12 H13
    isplitl [H14]; · iexists _; iexact H14
    iexists _; iexact H15
  · have h0 : (i 1).val ≠ 0 := fun h => hz ((zero_iff (i 1)).mpr h)
    replace h10 := h10 h0
    by_cases c2 : k0_cond2 i = 1#1
    · have hi : (i 1).val < 15 := (cond2_iff i).mp c2
      by_cases c3 : k0_cond3 i = 1#1
      · have hp : (i 1).val % 2 = 1 := (cond3_iff i hi).mp c3
        refine (runOdd (F := Ideal) c i arg2 harg2 arg3 harg3 arg4 harg4 arg5 harg5 arg6 harg6 arg7 harg7 arg8 harg8 arg9 harg9 arg10 harg10 arg11 harg11 arg12 harg12 arg13 harg13 arg14 harg14 arg15 harg15 hz c2 c3 f2 f3 f4 f5 f6 f7 f8 f9 f10 f11 f12 f13 f14 f15).2.2.2.2.2.2.trans (wp_mono _ _ _ fun _ => ?_)
        have hv := odd_val (w := w) (VV := VV) (hki := hki) (hV0 := hV0) (hV1 := hV1) (h2 := h2) (h3 := h3) (h4 := h4) (h5 := h5) (h6 := h6) (h7 := h7) (h8 := h8) (h9 := h9) (hi := hi) (hp := hp) (h10 := h10) (hz := hz) (hc2 := c2) (hc3 := c3) (c := c) (i := i) (harg2 := harg2) (f2 := f2) (harg3 := harg3) (f3 := f3) (harg4 := harg4) (f4 := f4) (harg5 := harg5) (f5 := f5) (harg6 := harg6) (f6 := f6) (harg7 := harg7) (f7 := f7) (harg8 := harg8) (f8 := f8) (harg9 := harg9) (f9 := f9) (harg10 := harg10) (f10 := f10) (harg11 := harg11) (f11 := f11) (harg12 := harg12) (f12 := f12) (harg13 := harg13) (f13 := f13) (harg14 := harg14) (f14 := f14) (harg15 := harg15) (f15 := f15)
        iintro ⟨H2, H3, H4, H5, H6, H7, H8, H9, H10, H11, H12, H13, H14, H15⟩
        iframe H2 H3 H4 H5 H6 H7 H8 H9
        isplitl [H10 H11 H12 H13]
        · iexists _; iexists _; iexists _; iexists _
          isplitr; (· ipureintro; exact hv)
          iframe H10 H11 H12 H13
        isplitl [H14]; · iexists _; iexact H14
        iexists _; iexact H15
      · have hp : (i 1).val % 2 = 0 := by
          have := mt (cond3_iff i hi).mpr c3
          omega
        refine (runEven (F := Ideal) c i arg2 harg2 arg3 harg3 arg4 harg4 arg5 harg5 arg6 harg6 arg7 harg7 arg8 harg8 arg9 harg9 arg10 harg10 arg11 harg11 arg12 harg12 arg13 harg13 arg14 harg14 arg15 harg15 hz c2 c3 f2 f3 f4 f5 f6 f7 f8 f9 f10 f11 f12 f13 f14 f15).2.2.2.2.2.2.trans (wp_mono _ _ _ fun _ => ?_)
        have hv := even_val (w := w) (VV := VV) (hki := hki) (hV0 := hV0) (hV1 := hV1) (h2 := h2) (h3 := h3) (h4 := h4) (h5 := h5) (h6 := h6) (h7 := h7) (h8 := h8) (h9 := h9) (hi := hi) (hp := hp) (h10 := h10) (hz := hz) (hc2 := c2) (hc3 := c3) (c := c) (i := i) (harg2 := harg2) (f2 := f2) (harg3 := harg3) (f3 := f3) (harg4 := harg4) (f4 := f4) (harg5 := harg5) (f5 := f5) (harg6 := harg6) (f6 := f6) (harg7 := harg7) (f7 := f7) (harg8 := harg8) (f8 := f8) (harg9 := harg9) (f9 := f9) (harg10 := harg10) (f10 := f10) (harg11 := harg11) (f11 := f11) (harg12 := harg12) (f12 := f12) (harg13 := harg13) (f13 := f13) (harg14 := harg14) (f14 := f14) (harg15 := harg15) (f15 := f15)
        iintro ⟨H2, H3, H4, H5, H6, H7, H8, H9, H10, H11, H12, H13, H14, H15⟩
        iframe H2 H3 H4 H5 H6 H7 H8 H9
        isplitl [H10 H11 H12 H13]
        · iexists _; iexists _; iexists _; iexists _
          isplitr; (· ipureintro; exact hv)
          iframe H10 H11 H12 H13
        isplitl [H14]; · iexists _; iexact H14
        iexists _; iexact H15
    · have hi : (i 1).val = 15 := by
        have h1 := mt (cond2_iff i).mpr c2
        have h2 : (i 1).val < 16 := (i 1).isLt
        omega
      refine (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 hz c2 f2 f3 f4 f5 f6 f7 f8 f9 f10 f11 f12 f13 f14 f15).2.2.2.2.2.2.trans (wp_mono _ _ _ fun _ => ?_)
      have hv := last_val (w := w) (VV := VV) (hki := hki) (hV0 := hV0) (hV1 := hV1) (h2 := h2) (h3 := h3) (h4 := h4) (h5 := h5) (h6 := h6) (h7 := h7) (h8 := h8) (h9 := h9) (hi := hi) (h10 := h10) (hz := hz) (hc2 := c2) (c := c) (i := i) (harg2 := harg2) (f2 := f2) (harg3 := harg3) (f3 := f3) (harg4 := harg4) (f4 := f4) (harg5 := harg5) (f5 := f5) (harg6 := harg6) (f6 := f6) (harg7 := harg7) (f7 := f7) (harg8 := harg8) (f8 := f8) (harg9 := harg9) (f9 := f9) (harg10 := harg10) (f10 := f10) (harg11 := harg11) (f11 := f11) (harg12 := harg12) (f12 := f12) (harg13 := harg13) (f13 := f13) (harg14 := harg14) (f14 := f14) (harg15 := harg15) (f15 := f15)
      iintro ⟨H2, H3, H4, H5, H6, H7, H8, H9, H10, H11, H12, H13, H14, H15⟩
      iframe H2 H3 H4 H5 H6 H7 H8 H9
      isplitl [H10 H11 H12 H13]
      · iexists _; iexists _; iexists _; iexists _
        isplitr; (· ipureintro; exact hv)
        iframe H10 H11 H12 H13
      isplitl [H14]; · iexists _; iexact H14
      iexists _; iexact H15

end

end Cert.Proof.Attn
end
-- ==== Proof.ValFrame.lean ====
/- The kernel's four results over the real numbers, from operands that hold real values. -/
module

public import Idealize.ShloMosaic.Lib.Pipeline.Value
public import proofs.«01_k».proof.Proof.FrameLight
public import proofs.«01_k».proof.Proof.ValBody

@[expose] public section

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open BIBase Laws ProofMode Sem
open Idealize.ShloMosaic.Pipeline (Dat Cfg Window BodyObligation cellOf)

local notation "𝕄" => MT nD τ sig Unit (Elt Ideal) ℕ (UR sig nD τ) ℕ

/-! ## The operands and what the points compute of them -/

/-- The region's operands as real arrays: the keys and queries with their added lanes by head of a pair, the values,
    the scaled gradient, and by pair, query tile, head of the pair and place the row maxima and the row sums. -/
structure Arr where
  K : ℕ → ℕ → ℕ → ℝ
  Q : ℕ → ℕ → ℕ → ℝ
  V : ℕ → ℕ → ℝ
  G : ℕ → ℕ → ℝ
  M : ℕ → ℕ → ℕ → ℕ → ℝ
  E : ℕ → ℕ → ℕ → ℕ → ℝ

namespace Arr
variable (a : Arr)

/-- The value block of pair `p`, key tile `k`. -/
def vb (p k s l : ℕ) : ℝ := a.V (512 * k + s) (128 * p + l)

/-- The data of pair `p`, key tile `k`. -/
def wd (p k : ℕ) : Wd where
  ki := k
  K h s l := a.K h (512 * k + s) (128 * p + l)
  V h := if h = 0 then fun s l => if l < 64 then a.vb p k s l else 0 else fun s l => if l < 64 then 0 else a.vb p k s l
  Q h r l := a.Q h r (128 * p + l)
  G r l := a.G r (128 * p + l)
  M n h t := a.M p n h t
  E n h t := a.E p n h t

theorem wd_V0 (p k : ℕ) : (a.wd p k).V 0 = fun s l => if l < 64 then a.vb p k s l else 0 := by
  funext s l; simp only [wd, if_true]
theorem wd_V1 (p k : ℕ) : (a.wd p k).V 1 = fun s l => if l < 64 then 0 else a.vb p k s l := by
  funext s l; simp only [wd, one_ne_zero, if_false]

/-- The queries' gradient of pair `p` after the first `n` key tiles. -/
def dq (p : ℕ) : ℕ → ℕ → ℕ → ℝ
  | 0 => fun _ _ => 0
  | k + 1 => (a.wd p k).dq (dq p k) 16

def oDq (t : ℕ) : FVec Ideal S8192x128 .f32 := up2 (a.dq (t / 16) (t % 16 + 1))
def oDk (t : ℕ) : FVec Ideal S512x128 .f32 := up2 fun s l => (if l < 64 then (a.wd (t / 16) (t % 16)).dk 0 16 s l else (a.wd (t / 16) (t % 16)).dk 1 16 s l) * Real.log 2
def oDv (t : ℕ) : FVec Ideal S512x128 .f32 := up2 fun s l => if l < 64 then (a.wd (t / 16) (t % 16)).dv 0 16 s l else (a.wd (t / 16) (t % 16)).dv 1 16 s l
def oDc (t : ℕ) : FVec Ideal S1x512x2 .f32 := upC fun s h => if h = 0 then (a.wd (t / 16) (t % 16)).dc 0 16 s else (a.wd (t / 16) (t % 16)).dc 1 16 s
end Arr

/-! ## The windows' blocks -/

theorem co0 (t : Fin cfg0.N) : (grid0.coords t 0).val = t.val / 16 := by revert t; decide
theorem co1 (t : Fin cfg0.N) : (grid0.coords t 1).val = t.val % 16 := by revert t; decide
theorem ix_0 (t : Fin cfg0.N) : (cfg0.win 0).index t = ![0, t.val / 16] := by revert t; decide
theorem ix_1 (t : Fin cfg0.N) : (cfg0.win 1).index t = ![0, t.val / 16] := by revert t; decide
theorem ix_2 (t : Fin cfg0.N) : (cfg0.win 2).index t = ![0, t.val / 16] := by revert t; decide
theorem ix_3 (t : Fin cfg0.N) : (cfg0.win 3).index t = ![t.val % 16, t.val / 16] := by revert t; decide
theorem ix_4 (t : Fin cfg0.N) : (cfg0.win 4).index t = ![t.val % 16, t.val / 16] := by revert t; decide
theorem ix_5 (t : Fin cfg0.N) : (cfg0.win 5).index t = ![t.val % 16, t.val / 16] := by revert t; decide
theorem ix_6 (t : Fin cfg0.N) : (cfg0.win 6).index t = ![t.val / 16, 0, 0, 0] := by revert t; decide
theorem ix_7 (t : Fin cfg0.N) : (cfg0.win 7).index t = ![t.val / 16, 0, 0, 0] := by revert t; decide
theorem ix_8 (t : Fin cfg0.N) : (cfg0.win 8).index t = ![0, t.val / 16] := by revert t; decide
theorem ix_9 (t : Fin cfg0.N) : (cfg0.win 9).index t = ![t.val % 16, t.val / 16] := by revert t; decide
theorem ix_10 (t : Fin cfg0.N) : (cfg0.win 10).index t = ![t.val % 16, t.val / 16] := by revert t; decide
theorem ix_11 (t : Fin cfg0.N) : (cfg0.win 11).index t = ![t.val / 16, t.val % 16, 0] := by revert t; decide
/-- An array of the region, by row and column. -/
def upA {φ : FTy} (f : ℕ → ℕ → ℝ) : FVec Ideal S8192x1024 φ := fun i => ((f (i 0).val (i 1).val : ℝ) : EReal)
/-- The row operands, by pair, tile, head of the pair and place. -/
def upM {φ : FTy} (f : ℕ → ℕ → ℕ → ℕ → ℝ) : FVec Ideal S8x16x2x512 φ := fun i => ((f (i 0).val (i 1).val (i 2).val (i 3).val : ℝ) : EReal)

variable (m : (ℓ : Loc nD τ sig) → Buf (Elt Ideal) ℓ) (ρ : Dev nD → PrngReg)

/-- The region's operands hold the real arrays. -/
structure Holds (a : Dev nD → Arr) : Prop where
  q0 (c : Dev nD) : V m c (Pipeline.arrRef spec0 0) = upA (φ := .bf16) ((a c).Q 0)
  q1 (c : Dev nD) : V m c (Pipeline.arrRef spec0 1) = upA (φ := .bf16) ((a c).Q 1)
  g (c : Dev nD) : V m c (Pipeline.arrRef spec0 2) = upA (φ := .bf16) (a c).G
  k0 (c : Dev nD) : V m c (Pipeline.arrRef spec0 3) = upA (φ := .bf16) ((a c).K 0)
  k1 (c : Dev nD) : V m c (Pipeline.arrRef spec0 4) = upA (φ := .bf16) ((a c).K 1)
  v (c : Dev nD) : V m c (Pipeline.arrRef spec0 5) = upA (φ := .bf16) (a c).V
  mr (c : Dev nD) : V m c (Pipeline.arrRef spec0 6) = upM (φ := .f32) (a c).M
  er (c : Dev nD) : V m c (Pipeline.arrRef spec0 7) = upM (φ := .f32) (a c).E

theorem blk_0 {a : Dev nD → Arr} (H : Holds m a) (c : Dev nD) (t : Fin cfg0.N) : (iblk m c 0 t : S8192x128.Idx → EReal) = up2 (φ := .bf16) (((a c).wd (t.val / 16) (t.val % 16)).Q 0) := by
  unfold iblk
  funext y
  rw [View.read_apply]
  refine (congrFun (H.q0 c) _).trans ?_
  have h0 := (cfg0.win 0).rect_emb_val t y 0
  have h1 := (cfg0.win 0).rect_emb_val t y 1
  rw [ix_0] at h0 h1
  refine congrArg (fun x : ℝ => (x : EReal)) (congrArg₂ ((a c).Q 0) (h0.trans ?_) (h1.trans ?_))
  · show 0 * _ + _ = _; omega
  · show t.val / 16 * 128 + _ = _; omega
theorem blk_1 {a : Dev nD → Arr} (H : Holds m a) (c : Dev nD) (t : Fin cfg0.N) : (iblk m c 1 t : S8192x128.Idx → EReal) = up2 (φ := .bf16) (((a c).wd (t.val / 16) (t.val % 16)).Q 1) := by
  unfold iblk
  funext y
  rw [View.read_apply]
  refine (congrFun (H.q1 c) _).trans ?_
  have h0 := (cfg0.win 1).rect_emb_val t y 0
  have h1 := (cfg0.win 1).rect_emb_val t y 1
  rw [ix_1] at h0 h1
  refine congrArg (fun x : ℝ => (x : EReal)) (congrArg₂ ((a c).Q 1) (h0.trans ?_) (h1.trans ?_))
  · show 0 * _ + _ = _; omega
  · show t.val / 16 * 128 + _ = _; omega
theorem blk_2 {a : Dev nD → Arr} (H : Holds m a) (c : Dev nD) (t : Fin cfg0.N) : (iblk m c 2 t : S8192x128.Idx → EReal) = up2 (φ := .bf16) (((a c).wd (t.val / 16) (t.val % 16)).G) := by
  unfold iblk
  funext y
  rw [View.read_apply]
  refine (congrFun (H.g c) _).trans ?_
  have h0 := (cfg0.win 2).rect_emb_val t y 0
  have h1 := (cfg0.win 2).rect_emb_val t y 1
  rw [ix_2] at h0 h1
  refine congrArg (fun x : ℝ => (x : EReal)) (congrArg₂ ((a c).G) (h0.trans ?_) (h1.trans ?_))
  · show 0 * _ + _ = _; omega
  · show t.val / 16 * 128 + _ = _; omega
theorem blk_3 {a : Dev nD → Arr} (H : Holds m a) (c : Dev nD) (t : Fin cfg0.N) : (iblk m c 3 t : S512x128.Idx → EReal) = up2 (φ := .bf16) (((a c).wd (t.val / 16) (t.val % 16)).K 0) := by
  unfold iblk
  funext y
  rw [View.read_apply]
  refine (congrFun (H.k0 c) _).trans ?_
  have h0 := (cfg0.win 3).rect_emb_val t y 0
  have h1 := (cfg0.win 3).rect_emb_val t y 1
  rw [ix_3] at h0 h1
  refine congrArg (fun x : ℝ => (x : EReal)) (congrArg₂ ((a c).K 0) (h0.trans ?_) (h1.trans ?_))
  · show t.val % 16 * 512 + _ = _; omega
  · show t.val / 16 * 128 + _ = _; omega
theorem blk_4 {a : Dev nD → Arr} (H : Holds m a) (c : Dev nD) (t : Fin cfg0.N) : (iblk m c 4 t : S512x128.Idx → EReal) = up2 (φ := .bf16) (((a c).wd (t.val / 16) (t.val % 16)).K 1) := by
  unfold iblk
  funext y
  rw [View.read_apply]
  refine (congrFun (H.k1 c) _).trans ?_
  have h0 := (cfg0.win 4).rect_emb_val t y 0
  have h1 := (cfg0.win 4).rect_emb_val t y 1
  rw [ix_4] at h0 h1
  refine congrArg (fun x : ℝ => (x : EReal)) (congrArg₂ ((a c).K 1) (h0.trans ?_) (h1.trans ?_))
  · show t.val % 16 * 512 + _ = _; omega
  · show t.val / 16 * 128 + _ = _; omega
theorem blk_5 {a : Dev nD → Arr} (H : Holds m a) (c : Dev nD) (t : Fin cfg0.N) : (iblk m c 5 t : S512x128.Idx → EReal) = up2 (φ := .bf16) ((a c).vb (t.val / 16) (t.val % 16)) := by
  unfold iblk
  funext y
  rw [View.read_apply]
  refine (congrFun (H.v c) _).trans ?_
  have h0 := (cfg0.win 5).rect_emb_val t y 0
  have h1 := (cfg0.win 5).rect_emb_val t y 1
  rw [ix_5] at h0 h1
  refine congrArg (fun x : ℝ => (x : EReal)) (congrArg₂ ((a c).V) (h0.trans ?_) (h1.trans ?_))
  · show t.val % 16 * 512 + _ = _; omega
  · show t.val / 16 * 128 + _ = _; omega
theorem blk_6 {a : Dev nD → Arr} (H : Holds m a) (c : Dev nD) (t : Fin cfg0.N) : (iblk m c 6 t : S1x16x2x512.Idx → EReal) = upR (φ := .f32) ((a c).wd (t.val / 16) (t.val % 16)).M := by
  unfold iblk
  funext y
  rw [View.read_apply]
  refine (congrFun (H.mr c) _).trans ?_
  have h0 := (cfg0.win 6).rect_emb_val t y 0
  have h1 := (cfg0.win 6).rect_emb_val t y 1
  have h2 := (cfg0.win 6).rect_emb_val t y 2
  have h3 := (cfg0.win 6).rect_emb_val t y 3
  rw [ix_6] at h0 h1 h2 h3
  have hy : (y 0).val = 0 := Nat.lt_one_iff.mp (y 0).isLt
  refine congrArg (fun x : ℝ => (x : EReal)) ?_
  have e0 : (((cfg0.win 6).blk t).view.emb y 0).val = t.val / 16 := h0.trans (by show t.val / 16 * 1 + _ = _; omega)
  have e1 : (((cfg0.win 6).blk t).view.emb y 1).val = (y 1).val := h1.trans (by show 0 * 16 + _ = _; omega)
  have e2 : (((cfg0.win 6).blk t).view.emb y 2).val = (y 2).val := h2.trans (by show 0 * 2 + _ = _; omega)
  have e3 : (((cfg0.win 6).blk t).view.emb y 3).val = (y 3).val := h3.trans (by show 0 * 512 + _ = _; omega)
  rw [← e0, ← e1, ← e2, ← e3]
  rfl
theorem blk_7 {a : Dev nD → Arr} (H : Holds m a) (c : Dev nD) (t : Fin cfg0.N) : (iblk m c 7 t : S1x16x2x512.Idx → EReal) = upR (φ := .f32) ((a c).wd (t.val / 16) (t.val % 16)).E := by
  unfold iblk
  funext y
  rw [View.read_apply]
  refine (congrFun (H.er c) _).trans ?_
  have h0 := (cfg0.win 7).rect_emb_val t y 0
  have h1 := (cfg0.win 7).rect_emb_val t y 1
  have h2 := (cfg0.win 7).rect_emb_val t y 2
  have h3 := (cfg0.win 7).rect_emb_val t y 3
  rw [ix_7] at h0 h1 h2 h3
  have hy : (y 0).val = 0 := Nat.lt_one_iff.mp (y 0).isLt
  refine congrArg (fun x : ℝ => (x : EReal)) ?_
  have e0 : (((cfg0.win 7).blk t).view.emb y 0).val = t.val / 16 := h0.trans (by show t.val / 16 * 1 + _ = _; omega)
  have e1 : (((cfg0.win 7).blk t).view.emb y 1).val = (y 1).val := h1.trans (by show 0 * 16 + _ = _; omega)
  have e2 : (((cfg0.win 7).blk t).view.emb y 2).val = (y 2).val := h2.trans (by show 0 * 2 + _ = _; omega)
  have e3 : (((cfg0.win 7).blk t).view.emb y 3).val = (y 3).val := h3.trans (by show 0 * 512 + _ = _; omega)
  rw [← e0, ← e1, ← e2, ← e3]
  rfl
/-! ## The proof data -/

/-- The proof data: the operands' windows hold their blocks, the results' windows the points' values. -/
def vdats (a : Dev nD → Arr) (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (a c).oDq t.val
    | ⟨9, _⟩ => (a c).oDk t.val
    | ⟨10, _⟩ => (a c).oDv t.val
    | ⟨11, _⟩ => (a c).oDc t.val
  Φ _ := Pipeline.ΦA spec0 c
  q _ := fullShare
  owed _ := 0

variable (a : Dev nD → Arr)

theorem vA_eq (c : Dev nD) (w : Fin cfg0.W) : (vdats m a 0 c).A w = V m c (Pipeline.arrRef spec0 w) := by
  dsimp only [vdats]

theorem vafter_0 (c : Dev nD) (t : Fin cfg0.N) : (vdats m a 0 c).after 0 t = iblk m c 0 t := by dsimp only [vdats]
theorem vbefore_0 (c : Dev nD) (t : Fin cfg0.N) (d) : (vdats m a 0 c).before 0 t d = iblk m c 0 t :=
  before0_0_of m (vdats m a 0 c) (vA_eq m a c 0) (vafter_0 m a c) t d
theorem vafter_1 (c : Dev nD) (t : Fin cfg0.N) : (vdats m a 0 c).after 1 t = iblk m c 1 t := by dsimp only [vdats]
theorem vbefore_1 (c : Dev nD) (t : Fin cfg0.N) (d) : (vdats m a 0 c).before 1 t d = iblk m c 1 t :=
  before0_1_of m (vdats m a 0 c) (vA_eq m a c 1) (vafter_1 m a c) t d
theorem vafter_2 (c : Dev nD) (t : Fin cfg0.N) : (vdats m a 0 c).after 2 t = iblk m c 2 t := by dsimp only [vdats]
theorem vbefore_2 (c : Dev nD) (t : Fin cfg0.N) (d) : (vdats m a 0 c).before 2 t d = iblk m c 2 t :=
  before0_2_of m (vdats m a 0 c) (vA_eq m a c 2) (vafter_2 m a c) t d
theorem vafter_3 (c : Dev nD) (t : Fin cfg0.N) : (vdats m a 0 c).after 3 t = iblk m c 3 t := by dsimp only [vdats]
theorem vbefore_3 (c : Dev nD) (t : Fin cfg0.N) (d) : (vdats m a 0 c).before 3 t d = iblk m c 3 t :=
  before0_3_of m (vdats m a 0 c) (vA_eq m a c 3) (vafter_3 m a c) t d
theorem vafter_4 (c : Dev nD) (t : Fin cfg0.N) : (vdats m a 0 c).after 4 t = iblk m c 4 t := by dsimp only [vdats]
theorem vbefore_4 (c : Dev nD) (t : Fin cfg0.N) (d) : (vdats m a 0 c).before 4 t d = iblk m c 4 t :=
  before0_4_of m (vdats m a 0 c) (vA_eq m a c 4) (vafter_4 m a c) t d
theorem vafter_5 (c : Dev nD) (t : Fin cfg0.N) : (vdats m a 0 c).after 5 t = iblk m c 5 t := by dsimp only [vdats]
theorem vbefore_5 (c : Dev nD) (t : Fin cfg0.N) (d) : (vdats m a 0 c).before 5 t d = iblk m c 5 t :=
  before0_5_of m (vdats m a 0 c) (vA_eq m a c 5) (vafter_5 m a c) t d
theorem vafter_6 (c : Dev nD) (t : Fin cfg0.N) : (vdats m a 0 c).after 6 t = iblk m c 6 t := by dsimp only [vdats]
theorem vbefore_6 (c : Dev nD) (t : Fin cfg0.N) (d) : (vdats m a 0 c).before 6 t d = iblk m c 6 t :=
  before0_6_of m (vdats m a 0 c) (vA_eq m a c 6) (vafter_6 m a c) t d
theorem vafter_7 (c : Dev nD) (t : Fin cfg0.N) : (vdats m a 0 c).after 7 t = iblk m c 7 t := by dsimp only [vdats]
theorem vbefore_7 (c : Dev nD) (t : Fin cfg0.N) (d) : (vdats m a 0 c).before 7 t d = iblk m c 7 t :=
  before0_7_of m (vdats m a 0 c) (vA_eq m a c 7) (vafter_7 m a c) t d
theorem vafter_8 (c : Dev nD) (t : Fin cfg0.N) : (vdats m a 0 c).after 8 t = (a c).oDq t.val := by dsimp only [vdats]
theorem vafter_9 (c : Dev nD) (t : Fin cfg0.N) : (vdats m a 0 c).after 9 t = (a c).oDk t.val := by dsimp only [vdats]
theorem vafter_10 (c : Dev nD) (t : Fin cfg0.N) : (vdats m a 0 c).after 10 t = (a c).oDv t.val := by dsimp only [vdats]
theorem vafter_11 (c : Dev nD) (t : Fin cfg0.N) : (vdats m a 0 c).after 11 t = (a c).oDc t.val := by dsimp only [vdats]
theorem vbefore_8 (c : Dev nD) (t : Fin cfg0.N) (h : t.val % 16 ≠ 0) (d) : (vdats m a 0 c).before 8 t d = up2 (φ := .f32) ((a c).dq (t.val / 16) (t.val % 16)) := by
  have hpos : t.val ≠ 0 := by omega
  refine (Dat.before_out_kept (vdats m a 0 c) 8 rfl t hpos ?_ (fun _ => rfl) (fun _ _ => rfl) d).trans ?_
  · refine Bool.eq_false_iff.mpr fun hf => ?_
    have := (flush0_8 _).mp hf
    dsimp only at this
    omega
  · show (a c).oDq (t.val - 1) = _
    unfold Arr.oDq
    rw [show (t.val - 1) / 16 = t.val / 16 by omega, show (t.val - 1) % 16 + 1 = t.val % 16 by omega]

def vPre (c : Dev nD) (t : Fin cfg0.N) : sProp 𝕄 :=
  iprop((vdats m a 0 c).Φ t.castSucc ∗ (vdats m a 0 c).owesAt () t.castSucc
    ∗ (∃ d, owns (c : Thread nD τ) (st0_0 t) fullShare ((vdats m a 0 c).before 0 t d)) ∗ (∃ d, owns (c : Thread nD τ) (st0_1 t) fullShare ((vdats m a 0 c).before 1 t d)) ∗ (∃ d, owns (c : Thread nD τ) (st0_2 t) fullShare ((vdats m a 0 c).before 2 t d)) ∗ (∃ d, owns (c : Thread nD τ) (st0_3 t) fullShare ((vdats m a 0 c).before 3 t d)) ∗ (∃ d, owns (c : Thread nD τ) (st0_4 t) fullShare ((vdats m a 0 c).before 4 t d)) ∗ (∃ d, owns (c : Thread nD τ) (st0_5 t) fullShare ((vdats m a 0 c).before 5 t d)) ∗ (∃ d, owns (c : Thread nD τ) (st0_6 t) fullShare ((vdats m a 0 c).before 6 t d)) ∗ (∃ d, owns (c : Thread nD τ) (st0_7 t) fullShare ((vdats m a 0 c).before 7 t d)) ∗ (∃ d, owns (c : Thread nD τ) (st0_8 t) fullShare ((vdats m a 0 c).before 8 t d)) ∗ (∃ d, owns (c : Thread nD τ) (st0_9 t) fullShare ((vdats m a 0 c).before 9 t d)) ∗ (∃ d, owns (c : Thread nD τ) (st0_10 t) fullShare ((vdats m a 0 c).before 10 t d)) ∗ (∃ d, owns (c : Thread nD τ) (st0_11 t) fullShare ((vdats m a 0 c).before 11 t d)))
def vPost (c : Dev nD) (t : Fin cfg0.N) : sProp 𝕄 :=
  iprop((vdats m a 0 c).Φ t.succ ∗ (vdats m a 0 c).owesAt () t.succ
    ∗ owns (c : Thread nD τ) (st0_0 t) fullShare ((vdats m a 0 c).after 0 t) ∗ owns (c : Thread nD τ) (st0_1 t) fullShare ((vdats m a 0 c).after 1 t) ∗ owns (c : Thread nD τ) (st0_2 t) fullShare ((vdats m a 0 c).after 2 t) ∗ owns (c : Thread nD τ) (st0_3 t) fullShare ((vdats m a 0 c).after 3 t) ∗ owns (c : Thread nD τ) (st0_4 t) fullShare ((vdats m a 0 c).after 4 t) ∗ owns (c : Thread nD τ) (st0_5 t) fullShare ((vdats m a 0 c).after 5 t) ∗ owns (c : Thread nD τ) (st0_6 t) fullShare ((vdats m a 0 c).after 6 t) ∗ owns (c : Thread nD τ) (st0_7 t) fullShare ((vdats m a 0 c).after 7 t) ∗ owns (c : Thread nD τ) (st0_8 t) fullShare ((vdats m a 0 c).after 8 t) ∗ owns (c : Thread nD τ) (st0_9 t) fullShare ((vdats m a 0 c).after 9 t) ∗ owns (c : Thread nD τ) (st0_10 t) fullShare ((vdats m a 0 c).after 10 t) ∗ owns (c : Thread nD τ) (st0_11 t) fullShare ((vdats m a 0 c).after 11 t))

set_option maxHeartbeats 4000000 in
theorem sound_val (H : Holds m a) (c : Dev nD) (t : Fin cfg0.N) :
    vPre m a c t ⊢ wp Idealize.ShloMosaic.frame (wpE (defs₀ (F := Ideal)) 𝒱₀ c none) Set.univ (bodyAt0 t) (fun _ => vPost m a c t) := by
  unfold vPre vPost bodyAt0
  rw [show (vdats m a 0 c).Φ t.succ = (vdats m a 0 c).Φ t.castSucc from rfl, show (vdats m a 0 c).Φ t.castSucc = Pipeline.ΦA spec0 c from rfl, PhiA_eq]
  unfold Dat.owesAt Pipeline.owesWithin
  rw [show (vdats m a 0 c).owed t.castSucc = 0 from rfl, show (vdats m a 0 c).owed t.succ = 0 from rfl]
  rw [vafter_0, vafter_1, vafter_2, vafter_3, vafter_4, vafter_5, vafter_6, vafter_7, vafter_8, vafter_9, vafter_10, vafter_11]
  simp only [vbefore_0, vbefore_1, vbefore_2, vbefore_3, vbefore_4, vbefore_5, vbefore_6, vbefore_7]
  unfold owns
  iintro ⟨⟨⟨⟨%d14, %f14, %e14, H14⟩, ⟨%d15, %f15, %e15, H15⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  have hc := co1 t
  iapply (wp_wand_r Idealize.ShloMosaic.frame (wpE (defs₀ (F := Ideal)) 𝒱₀ (c : Thread nD τ) none) Set.univ)
  isplitl [H0 H1 H2 H3 H4 H5 H6 H7 H8 H9 H10 H11 H14 H15]
  · iapply (body_val c (grid0.coords t) _ _ _ _ _ _ _ _ _ _ _ _ _ _ _ _ _ _ _ _ _ _ _ _ (Memref.whole cc0_scratch0) (Memref.isWhole_whole _) (Memref.whole cc0_scratch1) (Memref.isWhole_whole _) f0 f1 f2 f3 f4 f5 f6 f7 f8 f9 f10 f11 f14 f15
      ((a c).wd (t.val / 16) (t.val % 16)) ((a c).vb (t.val / 16) (t.val % 16)) ((a c).dq (t.val / 16) (t.val % 16)) hc.symm ((a c).wd_V0 _ _) ((a c).wd_V1 _ _)
      (e0.trans (blk_0 m H c t)) (e1.trans (blk_1 m H c t)) (e2.trans (blk_2 m H c t)) (e3.trans (blk_3 m H c t)) (e4.trans (blk_4 m H c t)) (e5.trans (blk_5 m H c t))
      (e6.trans (blk_6 m H c t)) (e7.trans (blk_7 m H c t))
      (fun h => by rw [show t.val % 16 = 0 from hc.symm.trans h]; rfl)
      (fun h => e8.trans (vbefore_8 m a c t (fun h' => h (hc.trans h')) d8)))
    sl_close
  iintro %_ ⟨H0, H1, H2, H3, H4, H5, H6, H7, ⟨%g8, %g9, %g10, %g11, %hv, H8, H9, H10, H11⟩, ⟨%g14, H14⟩, ⟨%g15, H15⟩⟩
  isplitl [H14 H15 Hg]
  · isplitl [H14 H15]
    · isplitl [H14]
      · iexists _; iexists g14; isplitr; (· ipureintro; rfl); iexact H14
      · iexists _; iexists g15; isplitr; (· ipureintro; rfl); iexact H15
    · iexact Hg
  isplitl [HW]; · iexact HW
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists g8; isplitr; (· ipureintro; exact hv.dq); iexact H8
  isplitl [H9]; · iexists g9; isplitr; (· ipureintro; exact hv.dk); iexact H9
  isplitl [H10]; · iexists g10; isplitr; (· ipureintro; exact hv.dv); iexact H10
  iexists g11; isplitr; (· ipureintro; exact hv.dc); iexact H11

theorem val_obligation (H : Holds m a) (c : Dev nD) : BodyObligation (vdats m a 0 c) (defs₀ (F := Ideal)) 𝒱₀ () Set.univ := fun t => by
  rw [bigSep_W0, bigSep_W0, defs₀_row]
  exact triple_restated (sound_val m a H c t) rfl .rfl fun _ => .rfl

set_option backward.isDefEq.respectTransparency.types false in
theorem val_main (H : Holds m a) : θ_run defs (onTc (τ := τ) (main (F := Ideal))) (s₀ m ρ)
    (fun r => Pipeline.FramePost cfgs (vdats m a) 0 (V m) r) :=
  Pipeline.θ_run_frame (Q' := _) cfgs (vdats m a) (0 : Fin 1) launch0 defs₀ 𝒱₀ m ρ main
    (hbody := fun c => (val_obligation m a H c).loose) (hshare := fun c => (vdats m a 0 c).share_full fun _ => rfl)
    (howed := fun _ _ => rfl) (V := V m) (hmain := hmain m 𝒱₀) (hA := vA_eq m a) (hΦ := fun _ _ => rfl)

end Cert.Proof.Attn
end
-- ==== Proof.Alg.lean ====
/- The gradient of forgetting attention over the real numbers, and the quantities it is built from. -/
module

public import proofs.«01_k».proof.Proof.Tile

@[expose] public section

noncomputable section

namespace Cert.Proof.Attn

open Idealize.ShloMosaic Idealize.ShloMosaic.TcCoe

/-- The five arguments over the real numbers: by position and lane the queries, keys, values and the output's gradient, by
    position and head the decay. Head `h` has the lanes `64 h` to `64 h + 63`. -/
structure Ins where
  q : ℕ → ℕ → ℝ
  k : ℕ → ℕ → ℝ
  v : ℕ → ℕ → ℝ
  c : ℕ → ℕ → ℝ
  d : ℕ → ℕ → ℝ

namespace Ins
variable (x : Ins)

/-- The score of head `h`, query `t`, key `u`. -/
def sc (h t u : ℕ) : ℝ := (∑ e : Fin 64, x.q t (64 * h + e) * x.k u (64 * h + e)) * (1 / 8) + x.c t h - x.c u h
/-- The score, or minus infinity where the key is later than the query. -/
def scE (h t u : ℕ) : EReal := if u ≤ t then ((x.sc h t u : ℝ) : EReal) else ⊥
/-- A row's greatest score. -/
def mxE (h t : ℕ) : EReal := Finset.univ.fold max ⊥ fun u : Fin 8192 => x.scE h t u
def mx (h t : ℕ) : ℝ := (x.mxE h t).toReal
/-- The unscaled weight, a row's sum of them, and the attention's output. -/
def w (h t u : ℕ) : ℝ := if u ≤ t then Real.exp (x.sc h t u - x.mx h t) else 0
def l (h t : ℕ) : ℝ := ∑ u : Fin 8192, x.w h t u
def o (h t e : ℕ) : ℝ := ∑ u : Fin 8192, x.w h t u / x.l h t * x.v u (64 * h + e)
/-- The output's gradient over the row's sum, and the row's sum of its product with the output. -/
def g (t n : ℕ) : ℝ := x.d t n / x.l (n / 64) t
def e (h t : ℕ) : ℝ := ∑ e : Fin 64, x.g t (64 * h + e) * x.o h t e
/-- The gradients of the weight and of the score. -/
def dp (h t u : ℕ) : ℝ := ∑ e : Fin 64, x.d t (64 * h + e) * x.v u (64 * h + e)
def ds (h t u : ℕ) : ℝ := x.w h t u * (x.dp h t u / x.l h t - x.e h t)

/-- The four gradients. -/
def gq (t n : ℕ) : ℝ := (∑ u : Fin 8192, x.ds (n / 64) t u * x.k u n) * (1 / 8)
def gk (u n : ℕ) : ℝ := (∑ t : Fin 8192, x.ds (n / 64) t u * x.q t n) * (1 / 8)
def gv (u n : ℕ) : ℝ := ∑ t : Fin 8192, x.w (n / 64) t u / x.l (n / 64) t * x.d t n
def gc (u h : ℕ) : ℝ := - ∑ t : Fin 8192, x.ds h t u

theorem mxE_ne_bot {h t : ℕ} (ht : t < 8192) : x.mxE h t ≠ ⊥ := by
  intro hb
  have h0 : x.scE h t (⟨t, ht⟩ : Fin 8192) ≤ x.mxE h t := (Finset.le_fold_max _).mpr (Or.inr ⟨_, Finset.mem_univ _, le_rfl⟩)
  rw [hb] at h0
  unfold scE at h0
  rw [if_pos (by simp)] at h0
  exact absurd (le_bot_iff.mp h0) (EReal.coe_ne_bot _)

theorem mxE_ne_top (h t : ℕ) : x.mxE h t ≠ ⊤ := by
  have : x.mxE h t < ⊤ := (Finset.fold_max_lt _).mpr ⟨bot_lt_top, fun u _ => by
    unfold scE; split
    · exact EReal.coe_lt_top _
    · exact bot_lt_top⟩
  exact this.ne

theorem mxE_eq {h t : ℕ} (ht : t < 8192) : x.mxE h t = ((x.mx h t : ℝ) : EReal) := (EReal.coe_toReal (x.mxE_ne_top h t) (x.mxE_ne_bot ht)).symm

theorem w_nonneg (h t u : ℕ) : 0 ≤ x.w h t u := by
  unfold w; split
  · exact (Real.exp_pos _).le
  · exact le_rfl

theorem l_pos (h t : ℕ) : 0 < x.l h t := by
  refine Finset.sum_pos' (fun u _ => x.w_nonneg h t u) ⟨⟨0, by norm_num⟩, Finset.mem_univ _, ?_⟩
  unfold w
  rw [if_pos (Nat.zero_le _)]
  exact Real.exp_pos _

theorem l_ne (h t : ℕ) : x.l h t ≠ 0 := (x.l_pos h t).ne'

/-- The score's gradient sums to zero along a row. -/
theorem ds_row (h t : ℕ) : ∑ u : Fin 8192, x.ds h t u = 0 := by
  have hl := x.l_ne h t
  have he : x.e h t = ∑ u : Fin 8192, x.w h t u * x.dp h t u / (x.l h t * x.l h t) := by
    unfold e o dp
    simp only [Finset.mul_sum, Finset.sum_div]
    rw [Finset.sum_comm]
    refine Finset.sum_congr rfl fun u _ => Finset.sum_congr rfl fun e _ => ?_
    unfold g
    rw [show (64 * h + e.val) / 64 = h by omega]
    field_simp
  unfold ds
  simp only [mul_sub, Finset.sum_sub_distrib, ← Finset.sum_mul]
  rw [he]
  change _ - x.l h t * _ = 0
  rw [Finset.mul_sum, ← Finset.sum_sub_distrib]
  refine Finset.sum_eq_zero fun u _ => ?_
  field_simp
  ring

theorem e_eq (h t : ℕ) : x.e h t = ∑ u : Fin 8192, x.w h t u * x.dp h t u / (x.l h t * x.l h t) := by
  have hl := x.l_ne h t
  unfold e o dp
  simp only [Finset.mul_sum, Finset.sum_div]
  rw [Finset.sum_comm]
  refine Finset.sum_congr rfl fun u _ => Finset.sum_congr rfl fun e _ => ?_
  unfold g
  rw [show (64 * h + e.val) / 64 = h by omega]
  field_simp

end Ins

end Cert.Proof.Attn
end
-- ==== Proof.Words.lean ====
/- The constants of the programs and the order of positions, over the real numbers. -/
module

public import proofs.«01_k».proof.Proof.Tile

@[expose] public section

noncomputable section

namespace Cert.Proof.Attn

open Idealize.ShloMosaic Idealize.ShloMosaic.TcCoe

theorem one_val : Ideal.ofBits .f32 0x3F800000#32 = ((1 : ℝ) : EReal) := by
  simp [Ideal.ofBits, Ideal.ieee]
  norm_num [← EReal.coe_mul]
theorem two_val : Ideal.ofBits .f32 0x40000000#32 = ((2 : ℝ) : EReal) := by
  simp [Ideal.ofBits, Ideal.ieee]
  norm_num [← EReal.coe_mul]
theorem bot_val : Ideal.ofBits .f32 0xFF800000#32 = ⊥ := by
  simp [Ideal.ofBits, Ideal.ieee]

theorem log2_pos : 0 < Real.log 2 := Real.log_pos (by norm_num)
theorem log2_ne : Real.log 2 ≠ 0 := log2_pos.ne'

theorem div_real (a : ℝ) {b : ℝ} (h : b ≠ 0) : Ideal.div ((a : ℝ) : EReal) ((b : ℝ) : EReal) = ((a / b : ℝ) : EReal) := by
  rw [Ideal.div_coe h, ← EReal.coe_mul, mul_one_div]
theorem exp_real (r : ℝ) : Ideal.exp ((r : ℝ) : EReal) = ((Real.exp r : ℝ) : EReal) := rfl

theorem sle_pos (a b : ℕ) (ha : a < 8192) (hb : b < 8192) : IntOp.cmpi .sle (BitVec.ofNat 32 a) (BitVec.ofNat 32 b) = if a ≤ b then 1#1 else 0#1 := by
  have : (BitVec.ofNat 32 a).sle (BitVec.ofNat 32 b) = decide (a ≤ b) := by
    rw [BitVec.sle_eq_decide, BitVec.toInt_eq_toNat_cond, BitVec.toInt_eq_toNat_cond]
    simp only [BitVec.toNat_ofNat]
    rw [Nat.mod_eq_of_lt (by omega), Nat.mod_eq_of_lt (by omega), if_pos (by omega), if_pos (by omega)]
    simp
  show BitVec.ofBool ((BitVec.ofNat 32 a).sle (BitVec.ofNat 32 b)) = _
  rw [this]
  by_cases h : a ≤ b <;> simp [h]

end Cert.Proof.Attn
end
-- ==== Proof.HostVal.lean ====
/- The kernel's operands over the real numbers. -/
module

public import proofs.«01_k».proof.Proof.HostRun
public import proofs.«01_k».proof.Proof.ValFrame
public import proofs.«01_k».proof.Proof.Alg
public import proofs.«01_k».proof.Proof.Words

@[expose] public section

noncomputable section

namespace Cert.Proof.Attn

/-- The added lanes of the queries and of the keys: the decay over the logarithm of two, and ones. -/
def Ins.qx (x : Ins) (h t j : ℕ) : ℝ := if j < 1 then x.c t h / Real.log 2 else if j < 3 then 0 else if j < 6 then 1 else 0
def Ins.kx (x : Ins) (h u j : ℕ) : ℝ := if j < 3 then 1 else if j < 4 then - (x.c u h / Real.log 2) else 0

/-- The kernel's operands. -/
def Ins.arr (x : Ins) : Arr where
  K h u n := if n % 128 / 64 = h then x.k u n else x.kx (n / 128 * 2 + h) u (n % 64)
  Q h t n := if n % 128 / 64 = h then x.q t n * (1 / 8) / Real.log 2 else x.qx (n / 128 * 2 + h) t (n % 64)
  V := x.v
  G := x.g
  M p n h t := x.mx (p * 2 + h) (n * 512 + t) / Real.log 2
  E p n h t := x.e (p * 2 + h) (n * 512 + t)

theorem Ins.arr_Q (x : Ins) (h t n : ℕ) : x.arr.Q h t n = if n % 128 / 64 = h then x.q t n * (1 / 8) / Real.log 2 else x.qx (n / 128 * 2 + h) t (n % 64) := rfl
theorem Ins.arr_K (x : Ins) (h u n : ℕ) : x.arr.K h u n = if n % 128 / 64 = h then x.k u n else x.kx (n / 128 * 2 + h) u (n % 64) := rfl

end Cert.Proof.Attn

namespace Cert.Proof.Attn.Host

open Cert.KernelIdeal Cert.KernelIdeal.Gen
open Idealize.ShloMosaic Idealize.ShloMosaic.TcCoe Idealize.SL.Sem Idealize.ShloMosaic.StableHlo

/-- The decay's array. -/
def upK (f : ℕ → ℕ → ℝ) : XC := fun i => ((f (i 0).val (i 1).val : ℝ) : EReal)

variable (x : Ins)

theorem h8_val (j) : h8 (upA x.q) (upA x.k) j = ((∑ e : Fin 64, x.q (j 1).val (64 * (j 0).val + e) * x.k (j 2).val (64 * (j 0).val + e) : ℝ) : EReal) := by
  pointwise [h8, h7, h6, h5, h4]
  rw [← coe_sum]
  refine Finset.sum_congr rfl fun e _ => ?_
  show ((_ : ℝ) : EReal) * ((_ : ℝ) : EReal) = _
  rw [mul_real]
  simp only [ix2, mul_comm (j 0).val 64]

theorem h17_val (j) : h17 (upA x.q) (upA x.k) (upK x.c) j = x.scE (j 0).val (j 1).val (j 2).val := by
  pointwise [h17, h16, h15, h14, h13, h12, h11, h10, h9, h3, hw1, hw2, hw0, h2, h1, h0, hcst, hcst_0]
  rw [sle_pos _ _ (j 2).isLt (j 1).isLt, select_ite, h8_val, eighth_val]
  unfold Ins.scE
  refine if_congr Iff.rfl ?_ bot_val
  show _ * _ + ((x.c (j 1).val (j 0).val : ℝ) : EReal) - ((x.c (j 2).val (j 0).val : ℝ) : EReal) = _
  rw [mul_real, add_real, sub_real]
  rfl

theorem h18_val (j) : h18 (upA x.q) (upA x.k) (upK x.c) j = ((x.mx (j 0).val (j 1).val : ℝ) : EReal) := by
  pointwise [h18, hcst_1]
  rw [← x.mxE_eq (j 1).isLt, bot_val]
  unfold Ins.mxE
  simp only [h17_val]
  rfl

theorem h22_val (j) : h22 (upA x.q) (upA x.k) (upK x.c) j = ((x.w (j 0).val (j 1).val (j 2).val : ℝ) : EReal) := by
  pointwise [h22, h21, h20, h19]
  rw [h17_val, h18_val]
  unfold Ins.scE Ins.w
  show Ideal.exp ((if (j 2).val ≤ (j 1).val then _ else _) - ((x.mx (j 0).val (j 1).val : ℝ) : EReal)) = _
  split
  · rw [sub_real, exp_real]
  · rfl

theorem h23_val (j) : h23 (upA x.q) (upA x.k) (upK x.c) j = ((x.l (j 0).val (j 1).val : ℝ) : EReal) := by
  pointwise [h23, hcst_2]
  simp only [h22_val, coe_sum, zero_add]
  rfl

theorem h29_val (j) : h29 (upA x.q) (upA x.k) (upA x.v) (upK x.c) j = ((x.o (j 0).val (j 1).val (j 2).val : ℝ) : EReal) := by
  pointwise [h29, h28, h27, h26, h25, h24]
  simp only [h22_val, h23_val]
  unfold Ins.o
  rw [← coe_sum]
  refine Finset.sum_congr rfl fun u _ => ?_
  show Ideal.div ((x.w (j 0).val (j 1).val u.val : ℝ) : EReal) ((x.l (j 0).val (j 1).val : ℝ) : EReal) * ((x.v _ _ : ℝ) : EReal) = _
  rw [div_real _ (x.l_ne _ _), mul_real]
  simp only [ix2, mul_comm (j 0).val 64]

theorem h34_val (j) : h34 (upA x.q) (upA x.k) (upK x.c) (upA x.d) j = ((x.g (j 1).val (64 * (j 0).val + (j 2).val) : ℝ) : EReal) := by
  have hj : (j 2).val < 64 := (j 2).isLt
  pointwise [h34, h33, h32, h31, h30]
  simp only [h23_val]
  show Ideal.div ((x.d (j 1).val ((j 0).val * 64 + (j 2).val) : ℝ) : EReal) ((x.l (j 0).val (j 1).val : ℝ) : EReal) = _
  rw [div_real _ (x.l_ne _ _)]
  unfold Ins.g
  rw [show (64 * (j 0).val + (j 2).val) / 64 = (j 0).val by omega, mul_comm 64]

theorem h36_val (j) : h36 (upA x.q) (upA x.k) (upA x.v) (upK x.c) (upA x.d) j = ((x.e (j 0).val (j 1).val : ℝ) : EReal) := by
  pointwise [h36, hcst_3, h35]
  simp only [h34_val, h29_val, mul_real, coe_sum, zero_add]
  rfl

theorem h39_val : h39 (upA x.q) (upA x.k) (upK x.c) (upA x.d) = upA (φ := .bf16) x.g := by
  funext j
  pointwise [h39, h38, h37]
  simp only [h34_val]
  show ((x.g (j 0).val (64 * ((j 1).val / 64) + (j 1).val % 64) : ℝ) : EReal) = ((x.g (j 0).val (j 1).val : ℝ) : EReal)
  rw [Nat.div_add_mod]

theorem h40_val (j) : h40 j = ((Real.log 2 : ℝ) : EReal) := by
  pointwise [h40, hcst_4]
  rw [two_val, Ideal.log_coe, if_neg (by norm_num)]

theorem h115_val : h115 (upA x.q) (upA x.k) (upK x.c) = upM (φ := .f32) x.arr.M := by
  funext j
  pointwise [h115, h114, h113, h112]
  simp only [h40_val, h18_val]
  rw [div_real _ log2_ne]
  rfl

theorem h117_val : h117 (upA x.q) (upA x.k) (upA x.v) (upK x.c) (upA x.d) = upM (φ := .f32) x.arr.E := by
  funext j
  pointwise [h117, h116]
  simp only [h36_val]
  rfl

theorem h111_val : h111 (upA x.v) = upA (φ := .bf16) x.v := by
  funext j
  pointwise [h111]
  rfl

theorem h42_val (j) : h42 (upK x.c) j = ((x.c (j 0).val (j 1).val / Real.log 2 : ℝ) : EReal) := by
  pointwise [h42, h41]
  rw [h40_val]
  exact div_real _ log2_ne
theorem h44_val (j) : h44 (upK x.c) j = ((x.c (j 0).val (j 1).val / Real.log 2 : ℝ) : EReal) := by
  pointwise [h44, h43]
  exact h42_val x j
theorem h45_val (j) : h45 (upK x.c) j = ((0 : ℝ) : EReal) := by
  pointwise [h45]
  rw [h42_val, h44_val, sub_real, sub_self]
theorem h47_val (j) : h47 (upK x.c) j = ((0 : ℝ) : EReal) := by
  pointwise [h47, h46]
  exact h45_val x j
theorem h49_val (j) : h49 (upK x.c) j = ((0 : ℝ) : EReal) := by
  pointwise [h49, h48]
  rw [h42_val, h44_val, h47_val, sub_real, sub_self, sub_real, sub_self]
theorem c1_val (j) : (hcst_6 j = ((1 : ℝ) : EReal) ∧ hcst_7 j = ((1 : ℝ) : EReal) ∧ hcst_8 j = ((1 : ℝ) : EReal))
    ∧ hcst_10 j = ((1 : ℝ) : EReal) ∧ hcst_11 j = ((1 : ℝ) : EReal) ∧ hcst_12 j = ((1 : ℝ) : EReal) := ⟨⟨one_val, one_val, one_val⟩, one_val, one_val, one_val⟩
theorem c0_val (j) : hcst_9 j = ((0 : ℝ) : EReal) ∧ hcst_13 j = ((0 : ℝ) : EReal) := ⟨Ideal.ofBits_zero_f32, Ideal.ofBits_zero_f32⟩
theorem c8_val (j) : hcst_5 j = ((1 / 8 : ℝ) : EReal) := eighth_val

theorem up_at (f : ℕ → ℕ → ℝ) (j : S8192x1024.Idx) : (upA (φ := .f32) f j : EReal) = ((f (j 0).val (j 1).val : ℝ) : EReal) := rfl

theorem up_c (f : ℕ → ℕ → ℝ) (i) : (upK f i : EReal) = ((f (i 0).val (i 1).val : ℝ) : EReal) := rfl

set_option maxHeartbeats 4000000 in
theorem h79_val : h79 (upA x.q) (upK x.c) = upA (φ := .bf16) (x.arr.Q 0) := by
  funext j
  have hj : (j 1).val < 1024 := (j 1).isLt
  pointwise [h79, h72, h71, h70, h69, h68, h67, h66, h65, h64, h63, h62, h61, h60, h59, h58, h57, h56, h55, h54, h53, h52, h51, h50]
  simp only [c8_val, h40_val, h44_val, h47_val, h49_val, c1_val, c0_val, up_at, ix2, mul_real, div_real _ log2_ne]
  show _ = ((x.arr.Q 0 (j 0).val (j 1).val : ℝ) : EReal)
  rw [Ins.arr_Q]
  unfold Ins.qx
  have hq (h : ¬ (j 1).val % 128 < 64) : (j 1).val / 128 * 128 + 64 + ((j 1).val % 128 - 64) = (j 1).val := by omega
  split_ifs <;> first | omega | rfl | (rw [hq ‹_›])

set_option maxHeartbeats 4000000 in
theorem h80_val : h80 (upA x.q) (upK x.c) = upA (φ := .bf16) (x.arr.Q 1) := by
  funext j
  have hj : (j 1).val < 1024 := (j 1).isLt
  pointwise [h80, h78, h77, h76, h75, h74, h73, h66, h65, h64, h63, h62, h61, h60, h59, h58, h57, h56, h55, h54, h53, h52, h51, h50]
  simp only [c8_val, h40_val, h44_val, h47_val, h49_val, c1_val, c0_val, up_at, ix2, mul_real, div_real _ log2_ne]
  show _ = ((x.arr.Q 1 (j 0).val (j 1).val : ℝ) : EReal)
  rw [Ins.arr_Q]
  unfold Ins.qx
  have hq (h : ¬ (j 1).val % 128 < 64) : (j 1).val / 128 * 128 + 64 + ((j 1).val % 128 - 64) = (j 1).val := by omega
  split_ifs <;> first | omega | rfl | (rw [hq ‹_›])

theorem h81_val (j) : h81 (upK x.c) j = ((- (x.c (j 0).val (j 1).val / Real.log 2) : ℝ) : EReal) := by
  pointwise [h81]
  rw [h44_val]
  exact (EReal.coe_neg _).symm
theorem h82_val (j) : h82 (upK x.c) j = ((0 : ℝ) : EReal) := by
  pointwise [h82]
  rw [h47_val, ← EReal.coe_neg, neg_zero]
theorem h83_val (j) : h83 (upK x.c) j = ((0 : ℝ) : EReal) := by
  pointwise [h83]
  rw [h49_val, ← EReal.coe_neg, neg_zero]

set_option maxHeartbeats 4000000 in
theorem h109_val : h109 (upA x.k) (upK x.c) = upA (φ := .bf16) (x.arr.K 0) := by
  funext j
  have hj : (j 1).val < 1024 := (j 1).isLt
  pointwise [h109, h102, h101, h100, h99, h98, h97, h96, h95, h94, h93, h92, h91, h90, h89, h88, h87, h86, h85, h84]
  simp only [c8_val, h40_val, h44_val, h47_val, h49_val, h81_val, h82_val, h83_val, c1_val, c0_val, up_at, ix2, mul_real, div_real _ log2_ne]
  show _ = ((x.arr.K 0 (j 0).val (j 1).val : ℝ) : EReal)
  rw [Ins.arr_K]
  unfold Ins.kx
  have hq (h : ¬ (j 1).val % 128 < 64) : (j 1).val / 128 * 128 + 64 + ((j 1).val % 128 - 64) = (j 1).val := by omega
  split_ifs <;> first | omega | rfl | (rw [hq ‹_›])

set_option maxHeartbeats 4000000 in
theorem h110_val : h110 (upA x.k) (upK x.c) = upA (φ := .bf16) (x.arr.K 1) := by
  funext j
  have hj : (j 1).val < 1024 := (j 1).isLt
  pointwise [h110, h108, h107, h106, h105, h104, h103, h96, h95, h94, h93, h92, h91, h90, h89, h88, h87, h86, h85, h84]
  simp only [c8_val, h40_val, h44_val, h47_val, h49_val, h81_val, h82_val, h83_val, c1_val, c0_val, up_at, ix2, mul_real, div_real _ log2_ne]
  show _ = ((x.arr.K 1 (j 0).val (j 1).val : ℝ) : EReal)
  rw [Ins.arr_K]
  unfold Ins.kx
  have hq (h : ¬ (j 1).val % 128 < 64) : (j 1).val / 128 * 128 + 64 + ((j 1).val % 128 - 64) = (j 1).val := by omega
  split_ifs <;> first | omega | rfl | (rw [hq ‹_›])

end Cert.Proof.Attn.Host
end
-- ==== Proof.ValOut.lean ====
/- The kernel's result arrays after the run, as real functions of the operands. -/
module

public import proofs.«01_k».proof.Proof.ValFrame
public import Idealize.ShloMosaic.Lib.Pipeline.ValueKit

@[expose] public section

noncomputable section

namespace Cert.Proof.Attn

open Cert.KernelIdeal Cert.KernelIdeal.Gen
open Idealize.ShloMosaic
open Idealize.ShloMosaic.TcCoe
open Idealize.SL Idealize.SL.Sem
open Idealize.ShloMosaic.Pipeline (Dat Cfg Window)

namespace Arr
variable (a : Arr)

/-- The gradients of the queries, keys, values and decay. -/
def rDq (r n : ℕ) : ℝ := a.dq (n / 128) 16 r (n % 128)
def rDk (r n : ℕ) : ℝ := (if n % 128 < 64 then (a.wd (n / 128) (r / 512)).dk 0 16 (r % 512) (n % 128) else (a.wd (n / 128) (r / 512)).dk 1 16 (r % 512) (n % 128)) * Real.log 2
def rDv (r n : ℕ) : ℝ := if n % 128 < 64 then (a.wd (n / 128) (r / 512)).dv 0 16 (r % 512) (n % 128) else (a.wd (n / 128) (r / 512)).dv 1 16 (r % 512) (n % 128)
def rDc (p r h : ℕ) : ℝ := if h = 0 then (a.wd p (r / 512)).dc 0 16 (r % 512) else (a.wd p (r / 512)).dc 1 16 (r % 512)
end Arr

def upD (f : ℕ → ℕ → ℕ → ℝ) : FVec Ideal S8x8192x2 .f32 := fun i => ((f (i 0).val (i 1).val (i 2).val : ℝ) : EReal)

variable (m : (ℓ : Loc nD τ sig) → Buf (Elt Ideal) ℓ) (ρ : Dev nD → PrngReg) (a : Dev nD → Arr)

theorem out_8 (c : Dev nD) : (vdats m a 0 c).arrAt 8 cfg0.N = upA (φ := .f32) (a c).rDq := by
  refine (vdats m a 0 c).arrAt_eq_of_covers 8 _ (by decide +kernel) fun t hf y => ?_
  have hf' := (flush0_8 t).mp hf
  have h0 := (cfg0.win 8).rect_emb_val t y 0
  have h1 := (cfg0.win 8).rect_emb_val t y 1
  rw [ix_8] at h0 h1
  rw [vafter_8]
  have e0 : (((cfg0.win 8).blk t).view.emb y 0).val = (y 0).val := h0.trans (by show 0 * _ + _ = _; omega)
  have e1 : (((cfg0.win 8).blk t).view.emb y 1).val = t.val / 16 * 128 + (y 1).val := h1
  have hy : (y 1).val < 128 := (y 1).isLt
  show (((a c).dq (t.val / 16) (t.val % 16 + 1) (y 0).val (y 1).val : ℝ) : EReal) = ((a c).rDq (((cfg0.win 8).blk t).view.emb y 0).val (((cfg0.win 8).blk t).view.emb y 1).val : ℝ)
  rw [e0, e1]
  unfold Arr.rDq
  rw [show (t.val / 16 * 128 + (y 1).val) / 128 = t.val / 16 by omega, show (t.val / 16 * 128 + (y 1).val) % 128 = (y 1).val by omega, hf']

theorem out_9 (c : Dev nD) : (vdats m a 0 c).arrAt 9 cfg0.N = upA (φ := .f32) (a c).rDk := by
  refine (vdats m a 0 c).arrAt_eq_of_covers 9 _ (by decide +kernel) fun t hf y => ?_
  have h0 := (cfg0.win 9).rect_emb_val t y 0
  have h1 := (cfg0.win 9).rect_emb_val t y 1
  rw [ix_9] at h0 h1
  rw [vafter_9]
  have e0 : (((cfg0.win 9).blk t).view.emb y 0).val = t.val % 16 * 512 + (y 0).val := h0
  have e1 : (((cfg0.win 9).blk t).view.emb y 1).val = t.val / 16 * 128 + (y 1).val := h1
  have hx : (y 0).val < 512 := (y 0).isLt
  have hy : (y 1).val < 128 := (y 1).isLt
  show (((if (y 1).val < 64 then ((a c).wd (t.val / 16) (t.val % 16)).dk 0 16 (y 0).val (y 1).val else ((a c).wd (t.val / 16) (t.val % 16)).dk 1 16 (y 0).val (y 1).val) * Real.log 2 : ℝ) : EReal) = ((a c).rDk (((cfg0.win 9).blk t).view.emb y 0).val (((cfg0.win 9).blk t).view.emb y 1).val : ℝ)
  rw [e0, e1]
  unfold Arr.rDk
  rw [show (t.val / 16 * 128 + (y 1).val) / 128 = t.val / 16 by omega, show (t.val / 16 * 128 + (y 1).val) % 128 = (y 1).val by omega,
    show (t.val % 16 * 512 + (y 0).val) / 512 = t.val % 16 by omega, show (t.val % 16 * 512 + (y 0).val) % 512 = (y 0).val by omega]

theorem out_10 (c : Dev nD) : (vdats m a 0 c).arrAt 10 cfg0.N = upA (φ := .f32) (a c).rDv := by
  refine (vdats m a 0 c).arrAt_eq_of_covers 10 _ (by decide +kernel) fun t hf y => ?_
  have h0 := (cfg0.win 10).rect_emb_val t y 0
  have h1 := (cfg0.win 10).rect_emb_val t y 1
  rw [ix_10] at h0 h1
  rw [vafter_10]
  have e0 : (((cfg0.win 10).blk t).view.emb y 0).val = t.val % 16 * 512 + (y 0).val := h0
  have e1 : (((cfg0.win 10).blk t).view.emb y 1).val = t.val / 16 * 128 + (y 1).val := h1
  have hx : (y 0).val < 512 := (y 0).isLt
  have hy : (y 1).val < 128 := (y 1).isLt
  show ((if (y 1).val < 64 then ((a c).wd (t.val / 16) (t.val % 16)).dv 0 16 (y 0).val (y 1).val else ((a c).wd (t.val / 16) (t.val % 16)).dv 1 16 (y 0).val (y 1).val : ℝ) : EReal) = ((a c).rDv (((cfg0.win 10).blk t).view.emb y 0).val (((cfg0.win 10).blk t).view.emb y 1).val : ℝ)
  rw [e0, e1]
  unfold Arr.rDv
  rw [show (t.val / 16 * 128 + (y 1).val) / 128 = t.val / 16 by omega, show (t.val / 16 * 128 + (y 1).val) % 128 = (y 1).val by omega,
    show (t.val % 16 * 512 + (y 0).val) / 512 = t.val % 16 by omega, show (t.val % 16 * 512 + (y 0).val) % 512 = (y 0).val by omega]

theorem out_11 (c : Dev nD) : (vdats m a 0 c).arrAt 11 cfg0.N = upD (a c).rDc := by
  refine (vdats m a 0 c).arrAt_eq_of_covers 11 _ (by decide +kernel) fun t hf y => ?_
  have h0 := (cfg0.win 11).rect_emb_val t y 0
  have h1 := (cfg0.win 11).rect_emb_val t y 1
  have h2 := (cfg0.win 11).rect_emb_val t y 2
  rw [ix_11] at h0 h1 h2
  rw [vafter_11]
  have hz : (y 0).val = 0 := Nat.lt_one_iff.mp (y 0).isLt
  have e0 : (((cfg0.win 11).blk t).view.emb y 0).val = t.val / 16 := h0.trans (by show t.val / 16 * 1 + _ = _; omega)
  have e1 : (((cfg0.win 11).blk t).view.emb y 1).val = t.val % 16 * 512 + (y 1).val := h1
  have e2 : (((cfg0.win 11).blk t).view.emb y 2).val = (y 2).val := h2.trans (by show 0 * 2 + _ = _; omega)
  have hx : (y 1).val < 512 := (y 1).isLt
  show ((if (y 2).val = 0 then ((a c).wd (t.val / 16) (t.val % 16)).dc 0 16 (y 1).val else ((a c).wd (t.val / 16) (t.val % 16)).dc 1 16 (y 1).val : ℝ) : EReal) = ((a c).rDc (((cfg0.win 11).blk t).view.emb y 0).val (((cfg0.win 11).blk t).view.emb y 1).val (((cfg0.win 11).blk t).view.emb y 2).val : ℝ)
  rw [e0, e1, e2]
  unfold Arr.rDc
  rw [show (t.val % 16 * 512 + (y 1).val) / 512 = t.val % 16 by omega, show (t.val % 16 * 512 + (y 1).val) % 512 = (y 1).val by omega]

/-- The kernel's run: the four results, and the arguments unchanged. -/
theorem val_run (H : Holds m a) : θ_run defs (onTc (τ := τ) (main (F := Ideal))) ⟨m, fun _ => 0, ρ⟩ (fun r => ∀ c : Dev nD,
      r.2.mem ((c.tc : Thread nD τ).loc main_v118_0) = upA (φ := .f32) (a c).rDq
      ∧ r.2.mem ((c.tc : Thread nD τ).loc main_v118_1) = upA (φ := .f32) (a c).rDk
      ∧ r.2.mem ((c.tc : Thread nD τ).loc main_v118_2) = upA (φ := .f32) (a c).rDv
      ∧ r.2.mem ((c.tc : Thread nD τ).loc main_v118_3) = upD (a c).rDc
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 8).trans (out_8 m a c), ((h c).1 9).trans (out_9 m a c), ((h c).1 10).trans (out_10 m a c), ((h c).1 11).trans (out_11 m a c),
    ((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c)⟩) (val_main m ρ a H)

end Cert.Proof.Attn
end
-- ==== Proof.KerAlg.lean ====
/- The kernel's tile sums are the gradients. -/
module

public import proofs.«01_k».proof.Proof.HostVal
public import proofs.«01_k».proof.Proof.ValOut

@[expose] public section

noncomputable section

namespace Cert.Proof.Attn

open Cert.KernelIdeal Cert.KernelIdeal.Gen
open Idealize.ShloMosaic Idealize.ShloMosaic.TcCoe

/-! ## Sums by halves of a pair's lanes and by tiles -/

theorem lanes (f : ℕ → ℝ) : ∑ l : Fin 128, f l = ∑ e : Fin 64, f e + ∑ e : Fin 64, f (64 + e) := by
  have := Fin.sum_univ_add (a := 64) (b := 64) (fun i : Fin (64 + 64) => f i)
  simpa [add_comm] using this

theorem lanes_head {h : ℕ} (hh : h < 2) (f : ℕ → ℝ) : ∑ l : Fin 128, f l = ∑ e : Fin 64, f (64 * h + e) + ∑ e : Fin 64, f (64 * (1 - h) + e) := by
  rw [lanes]
  interval_cases h
  · simp
  · simp [add_comm]

theorem tiles_range (F : ℕ → ℝ) (N : ℕ) : ∑ n ∈ Finset.range N, ∑ t : Fin 512, F (512 * n + t) = ∑ t ∈ Finset.range (512 * N), F t := by
  induction N with
  | zero => simp
  | succ N ih =>
    rw [Finset.sum_range_succ, ih, show 512 * (N + 1) = 512 * N + 512 by ring, Finset.sum_range_add, Finset.sum_range (n := 512)]

theorem tiles (F : ℕ → ℝ) : ∑ n ∈ Finset.range 16, ∑ t : Fin 512, F (512 * n + t) = ∑ t : Fin 8192, F t := by
  rw [tiles_range, Finset.sum_range]

theorem tiles_from {k : ℕ} (hk : k ≤ 16) (F : ℕ → ℝ) (h0 : ∀ t, t < 512 * k → F t = 0) :
    ∑ n ∈ Finset.Ico k 16, ∑ t : Fin 512, F (512 * n + t) = ∑ t : Fin 8192, F t := by
  rw [← tiles, Finset.range_eq_Ico, ← Finset.sum_Ico_consecutive _ (Nat.zero_le k) hk]
  rw [Finset.sum_eq_zero (s := Finset.Ico 0 k), zero_add]
  intro n hn
  have := (Finset.mem_Ico.mp hn).2
  exact Finset.sum_eq_zero fun t _ => h0 _ (by omega)

namespace Ins
variable (x : Ins)

/-! ## One tile's scores and their gradients -/

theorem w_later {h t u : ℕ} (hu : t < u) : x.w h t u = 0 := if_neg (by omega)
theorem ds_later {h t u : ℕ} (hu : t < u) : x.ds h t u = 0 := by unfold ds; rw [x.w_later hu, zero_mul]

theorem own_K {p h e : ℕ} (hh : h < 2) (he : e < 64) (u : ℕ) : x.arr.K h u (128 * p + (64 * h + e)) = x.k u (64 * (2 * p + h) + e) := by
  rw [arr_K, if_pos (by omega)]
  congr 1
  omega
theorem own_Q {p h e : ℕ} (hh : h < 2) (he : e < 64) (t : ℕ) : x.arr.Q h t (128 * p + (64 * h + e)) = x.q t (64 * (2 * p + h) + e) * (1 / 8) / Real.log 2 := by
  rw [arr_Q, if_pos (by omega), show 128 * p + (64 * h + e) = 64 * (2 * p + h) + e by omega]
theorem add_K {p h e : ℕ} (hh : h < 2) (he : e < 64) (u : ℕ) : x.arr.K h u (128 * p + (64 * (1 - h) + e)) = x.kx (2 * p + h) u e := by
  rw [arr_K, if_neg (by omega)]
  congr 1 <;> omega
theorem add_Q {p h e : ℕ} (hh : h < 2) (he : e < 64) (t : ℕ) : x.arr.Q h t (128 * p + (64 * (1 - h) + e)) = x.qx (2 * p + h) t e := by
  rw [arr_Q, if_neg (by omega)]
  congr 1 <;> omega

theorem added (h t u : ℕ) : ∑ e : Fin 64, x.kx h u e * x.qx h t e = (x.c t h - x.c u h) / Real.log 2 := by
  have step (e : Fin 64) : x.kx h u e * x.qx h t e = (if e = (⟨0, by norm_num⟩ : Fin 64) then x.c t h / Real.log 2 else 0) + (if e = (⟨3, by norm_num⟩ : Fin 64) then - (x.c u h / Real.log 2) else 0) := by
    unfold kx qx
    simp only [Fin.ext_iff]
    split_ifs <;> first | (exfalso; omega) | simp
  simp only [step, Finset.sum_add_distrib, Finset.sum_ite_eq', Finset.mem_univ, if_true]
  ring

variable {p k h : ℕ}

theorem tile_ST (hh : h < 2) (n s t : ℕ) : (x.arr.wd p k).ST h n s t = x.sc (2 * p + h) (512 * n + t) (512 * k + s) / Real.log 2 := by
  show ∑ l : Fin 128, x.arr.K h (512 * k + s) (128 * p + l) * x.arr.Q h (512 * n + t) (128 * p + l) = _
  rw [lanes_head hh (fun l => x.arr.K h (512 * k + s) (128 * p + l) * x.arr.Q h (512 * n + t) (128 * p + l))]
  have h1 (e : Fin 64) : x.arr.K h (512 * k + s) (128 * p + (64 * h + e)) * x.arr.Q h (512 * n + t) (128 * p + (64 * h + e))
      = x.q (512 * n + t) (64 * (2 * p + h) + e) * x.k (512 * k + s) (64 * (2 * p + h) + e) * (1 / 8) / Real.log 2 := by
    rw [x.own_K hh e.isLt, x.own_Q hh e.isLt]; ring
  have h2 (e : Fin 64) : x.arr.K h (512 * k + s) (128 * p + (64 * (1 - h) + e)) * x.arr.Q h (512 * n + t) (128 * p + (64 * (1 - h) + e))
      = x.kx (2 * p + h) (512 * k + s) e * x.qx (2 * p + h) (512 * n + t) e := by
    rw [x.add_K hh e.isLt, x.add_Q hh e.isLt]
  simp only [h1, h2, added]
  unfold sc
  rw [← Finset.sum_div, ← Finset.sum_mul]
  ring

theorem tile_p (hh : h < 2) {n s t : ℕ} (hk : k ≤ n) (hs : s < 512) (ht : t < 512) : (x.arr.wd p k).p h n s t = x.w (2 * p + h) (512 * n + t) (512 * k + s) := by
  unfold Wd.p w
  rw [x.tile_ST hh]
  change (if n = k ∧ ¬ s ≤ t then (0 : ℝ) else _) = _
  by_cases hc : 512 * k + s ≤ 512 * n + t
  · rw [if_pos hc, if_neg (show ¬ (n = k ∧ ¬ s ≤ t) by omega)]
    show (2 : ℝ) ^ (_ - x.mx (p * 2 + h) (n * 512 + t) / Real.log 2) = _
    rw [show p * 2 + h = 2 * p + h by omega, show n * 512 + t = 512 * n + t by omega, Real.rpow_def_of_pos (by norm_num)]
    congr 1
    have := log2_ne
    field_simp
  · rw [if_neg hc, if_pos (show n = k ∧ ¬ s ≤ t by omega)]

theorem tile_V (hh : h < 2) {e : ℕ} (he : e < 64) (s : ℕ) : (x.arr.wd p k).V h s (64 * h + e) = x.v (512 * k + s) (64 * (2 * p + h) + e) := by
  interval_cases h
  · rw [Arr.wd_V0]
    show (if 64 * 0 + e < 64 then x.v (512 * k + s) (128 * p + (64 * 0 + e)) else 0) = _
    rw [if_pos (by omega), show 128 * p + (64 * 0 + e) = 64 * (2 * p + 0) + e by omega]
  · rw [Arr.wd_V1]
    show (if 64 * 1 + e < 64 then 0 else x.v (512 * k + s) (128 * p + (64 * 1 + e))) = _
    rw [if_neg (by omega), show 128 * p + (64 * 1 + e) = 64 * (2 * p + 1) + e by omega]
theorem tile_V0 (hh : h < 2) {e : ℕ} (he : e < 64) (s : ℕ) : (x.arr.wd p k).V h s (64 * (1 - h) + e) = 0 := by
  interval_cases h
  · rw [Arr.wd_V0]
    exact if_neg (by omega)
  · rw [Arr.wd_V1]
    exact if_pos (by omega)
theorem tile_G (hh : h < 2) {e : ℕ} (he : e < 64) (t : ℕ) : (x.arr.wd p k).G t (64 * h + e) = x.d t (64 * (2 * p + h) + e) / x.l (2 * p + h) t := by
  show x.d t (128 * p + (64 * h + e)) / x.l ((128 * p + (64 * h + e)) / 64) t = _
  rw [show (128 * p + (64 * h + e)) / 64 = 2 * p + h by omega, show 128 * p + (64 * h + e) = 64 * (2 * p + h) + e by omega]

theorem tile_DP (hh : h < 2) (n s t : ℕ) : (x.arr.wd p k).DP h n s t = x.dp (2 * p + h) (512 * n + t) (512 * k + s) / x.l (2 * p + h) (512 * n + t) := by
  unfold Wd.DP
  rw [lanes_head hh (fun l => (x.arr.wd p k).V h s l * (x.arr.wd p k).G (512 * n + t) l)]
  have h1 (e : Fin 64) : (x.arr.wd p k).V h s (64 * h + e) * (x.arr.wd p k).G (512 * n + t) (64 * h + e)
      = x.d (512 * n + t) (64 * (2 * p + h) + e) * x.v (512 * k + s) (64 * (2 * p + h) + e) / x.l (2 * p + h) (512 * n + t) := by
    rw [x.tile_V hh e.isLt, x.tile_G hh e.isLt]; ring
  have h2 (e : Fin 64) : (x.arr.wd p k).V h s (64 * (1 - h) + e) * (x.arr.wd p k).G (512 * n + t) (64 * (1 - h) + e) = 0 := by
    rw [x.tile_V0 hh e.isLt, zero_mul]
  simp only [h1, h2, Finset.sum_const_zero, add_zero]
  rw [← Finset.sum_div]
  rfl

theorem tile_ds (hh : h < 2) {n s t : ℕ} (hk : k ≤ n) (hs : s < 512) (ht : t < 512) : (x.arr.wd p k).ds h n s t = x.ds (2 * p + h) (512 * n + t) (512 * k + s) := by
  unfold Wd.ds ds
  rw [x.tile_p hh hk hs ht, x.tile_DP hh]
  show _ * (_ - x.e (p * 2 + h) (n * 512 + t)) = _
  rw [show p * 2 + h = 2 * p + h by omega, show n * 512 + t = 512 * n + t by omega]

/-! ## The sums over tiles -/

theorem tile_dv (hh : h < 2) (hk : k < 16) {s e : ℕ} (hs : s < 512) (he : e < 64) : (x.arr.wd p k).dv h 16 s (64 * h + e) = x.gv (512 * k + s) (64 * (2 * p + h) + e) := by
  unfold gv
  rw [show (64 * (2 * p + h) + e) / 64 = 2 * p + h by omega]
  refine Eq.trans ?_ (tiles_from hk.le (fun t => x.w (2 * p + h) t (512 * k + s) / x.l (2 * p + h) t * x.d t (64 * (2 * p + h) + e)) fun t ht => by
    show x.w _ t _ / _ * _ = 0
    rw [x.w_later (by omega), zero_div, zero_mul])
  refine Finset.sum_congr rfl fun n hn => Finset.sum_congr rfl fun t _ => ?_
  rw [x.tile_p hh (Finset.mem_Ico.mp hn).1 hs t.isLt, x.tile_G hh he]
  ring

theorem tile_dk (hh : h < 2) (hk : k < 16) {s e : ℕ} (hs : s < 512) (he : e < 64) : (x.arr.wd p k).dk h 16 s (64 * h + e) * Real.log 2 = x.gk (512 * k + s) (64 * (2 * p + h) + e) := by
  unfold gk
  rw [show (64 * (2 * p + h) + e) / 64 = 2 * p + h by omega]
  rw [← tiles_from hk.le (fun t => x.ds (2 * p + h) t (512 * k + s) * x.q t (64 * (2 * p + h) + e)) fun t ht => by
    show x.ds _ t _ * _ = 0
    rw [x.ds_later (by omega), zero_mul]]
  show (∑ n ∈ Finset.Ico k 16, ∑ t : Fin 512, _) * _ = _
  simp only [Finset.sum_mul]
  refine Finset.sum_congr rfl fun n hn => Finset.sum_congr rfl fun t _ => ?_
  rw [x.tile_ds hh (Finset.mem_Ico.mp hn).1 hs t.isLt]
  show _ * x.arr.Q h (512 * n + t) (128 * p + (64 * h + e)) * _ = _
  rw [x.own_Q hh he]
  have := log2_ne
  field_simp

theorem tile_dc (hh : h < 2) (hk : k < 16) {s : ℕ} (hs : s < 512) : (x.arr.wd p k).dc h 16 s = x.gc (512 * k + s) (2 * p + h) := by
  unfold gc Wd.dc
  rw [← tiles_from hk.le (fun t => x.ds (2 * p + h) t (512 * k + s)) fun t ht => x.ds_later (by omega)]
  refine congrArg _ (Finset.sum_congr rfl fun n hn => Finset.sum_congr rfl fun t _ => ?_)
  exact x.tile_ds hh (Finset.mem_Ico.mp hn).1 hs t.isLt

theorem tile_dqC (hh : h < 2) {n t e : ℕ} (hk : k ≤ n) (ht : t < 512) (he : e < 64) :
    (x.arr.wd p k).dqC n t (64 * h + e) = (∑ s : Fin 512, x.ds (2 * p + h) (512 * n + t) (512 * k + s) * x.k (512 * k + s) (64 * (2 * p + h) + e)) * (1 / 8) := by
  have key : (x.arr.wd p k).dqC n t (64 * h + e) = (∑ s : Fin 512, (x.arr.wd p k).ds h n s t * (x.arr.wd p k).K h s (64 * h + e)) * (1 / 8) := by
    unfold Wd.dqC
    interval_cases h
    · rw [if_pos (by omega)]
    · rw [if_neg (by omega)]
  rw [key]
  refine congrArg (· * (1 / 8 : ℝ)) (Finset.sum_congr rfl fun s _ => ?_)
  rw [x.tile_ds hh hk s.isLt ht]
  show _ * x.arr.K h (512 * k + s) (128 * p + (64 * h + e)) = _
  rw [x.own_K hh he]

theorem tile_dq (hh : h < 2) {r e : ℕ} (hr : r < 8192) (he : e < 64) (N : ℕ) :
    x.arr.dq p N r (64 * h + e) = (∑ k ∈ Finset.range N, ∑ s : Fin 512, x.ds (2 * p + h) r (512 * k + s) * x.k (512 * k + s) (64 * (2 * p + h) + e)) * (1 / 8) := by
  induction N with
  | zero => simp [Arr.dq]
  | succ N ih =>
    rw [Finset.sum_range_succ, add_mul, ← ih]
    show x.arr.dq p N r (64 * h + e) + _ = _
    congr 1
    by_cases hN : N ≤ r / 512
    · rw [Finset.sum_ite_eq]
      change (if r / 512 ∈ Finset.Ico N 16 then _ else (0 : ℝ)) = _
      rw [if_pos (Finset.mem_Ico.mpr ⟨hN, by omega⟩), x.tile_dqC hh hN (by omega) he, show 512 * (r / 512) + r % 512 = r by omega]
    · rw [Finset.sum_eq_zero, Finset.sum_eq_zero, zero_mul]
      · intro s _
        rw [x.ds_later (by omega), zero_mul]
      · intro n hn
        have : N ≤ n := (Finset.mem_Ico.mp hn).1
        exact if_neg (by omega)

/-! ## The four results -/

theorem rDq_eq {r n : ℕ} (hr : r < 8192) : x.arr.rDq r n = x.gq r n := by
  obtain ⟨p, h, e, hh, he, rfl⟩ : ∃ p h e, h < 2 ∧ e < 64 ∧ n = 64 * (2 * p + h) + e := ⟨n / 128, n % 128 / 64, n % 64, by omega, by omega, by omega⟩
  unfold Arr.rDq gq
  rw [show (64 * (2 * p + h) + e) / 128 = p by omega, show (64 * (2 * p + h) + e) % 128 = 64 * h + e by omega, show (64 * (2 * p + h) + e) / 64 = 2 * p + h by omega,
    x.tile_dq hh hr he, tiles (fun u => x.ds (2 * p + h) r u * x.k u (64 * (2 * p + h) + e))]

theorem rDk_eq {r n : ℕ} (hr : r < 8192) : x.arr.rDk r n = x.gk r n := by
  obtain ⟨p, h, e, hh, he, rfl⟩ : ∃ p h e, h < 2 ∧ e < 64 ∧ n = 64 * (2 * p + h) + e := ⟨n / 128, n % 128 / 64, n % 64, by omega, by omega, by omega⟩
  have hd := x.tile_dk (p := p) (k := r / 512) hh (by omega) (s := r % 512) (by omega) he
  rw [show 512 * (r / 512) + r % 512 = r by omega] at hd
  rw [← hd]
  unfold Arr.rDk
  rw [show (64 * (2 * p + h) + e) / 128 = p by omega, show (64 * (2 * p + h) + e) % 128 = 64 * h + e by omega]
  congr 1
  interval_cases h
  · exact if_pos (by omega)
  · exact if_neg (by omega)

theorem rDv_eq {r n : ℕ} (hr : r < 8192) : x.arr.rDv r n = x.gv r n := by
  obtain ⟨p, h, e, hh, he, rfl⟩ : ∃ p h e, h < 2 ∧ e < 64 ∧ n = 64 * (2 * p + h) + e := ⟨n / 128, n % 128 / 64, n % 64, by omega, by omega, by omega⟩
  have hd := x.tile_dv (p := p) (k := r / 512) hh (by omega) (s := r % 512) (by omega) he
  rw [show 512 * (r / 512) + r % 512 = r by omega] at hd
  rw [← hd]
  unfold Arr.rDv
  rw [show (64 * (2 * p + h) + e) / 128 = p by omega, show (64 * (2 * p + h) + e) % 128 = 64 * h + e by omega]
  interval_cases h
  · exact if_pos (by omega)
  · exact if_neg (by omega)

theorem rDc_eq {p r h : ℕ} (hr : r < 8192) (hh : h < 2) : x.arr.rDc p r h = x.gc r (2 * p + h) := by
  have hd := x.tile_dc (p := p) (k := r / 512) hh (by omega) (s := r % 512) (by omega)
  rw [show 512 * (r / 512) + r % 512 = r by omega] at hd
  rw [← hd]
  unfold Arr.rDc
  interval_cases h
  · exact if_pos rfl
  · exact if_neg (by omega)

end Ins

end Cert.Proof.Attn
end
-- ==== Proof.Real.lean ====
/- Finite arguments hold real numbers. -/
module

public import proofs.«01_k».proof.Proof.KerAlg
public import proofs.«01_k».proof.Proof.Gen.KernelIdeal
public import Idealize.ShloMosaic.Lib.ReduceAll

@[expose] public section

noncomputable section

namespace Cert.Pre_finite.Gen

open Idealize.ShloMosaic

/-- The side conditions the precondition states. -/
theorem facts : Cert.Pre_finite.Facts where
  bcast_S_S8192x1024 := by decide
  reducesTo_S8192x1024_S_d0_1 := by decide
  h_S_ := by decide
  bcast_S_S8192x16 := by decide
  reducesTo_S8192x16_S_d0_1 := by decide

end Cert.Pre_finite.Gen

namespace Cert.Proof.Attn

open Cert.KernelIdeal Cert.KernelIdeal.Gen
open Idealize.ShloMosaic Idealize.ShloMosaic.TcCoe Idealize.SL.Sem
open Cert.Proof.Attn.Host (XA XC upK a0 a1 a2 a3 a4)

/-- An array's real numbers by row and column. -/
def reA (X : XA) (r n : ℕ) : ℝ := (X (Idealize.ShloMosaic.ix2 ⟨r % 8192, Nat.mod_lt _ (by norm_num)⟩ ⟨n % 1024, Nat.mod_lt _ (by norm_num)⟩) : EReal).toReal
def reC (X : XC) (r n : ℕ) : ℝ := (X (Idealize.ShloMosaic.ix2 ⟨r % 8192, Nat.mod_lt _ (by norm_num)⟩ ⟨n % 16, Nat.mod_lt _ (by norm_num)⟩) : EReal).toReal

theorem reA_eq {X : XA} (h : ∀ i, (X i : EReal) ≠ ⊤ ∧ (X i : EReal) ≠ ⊥) : X = upA (φ := .f32) (reA X) := by
  funext i
  have h0 : (i 0).val < 8192 := (i 0).isLt
  have h1 : (i 1).val < 1024 := (i 1).isLt
  have e : Idealize.ShloMosaic.ix2 ⟨(i 0).val % 8192, Nat.mod_lt _ (by norm_num)⟩ ⟨(i 1).val % 1024, Nat.mod_lt _ (by norm_num)⟩ = i :=
    funext fun a => Fin.ext (by match a with
      | ⟨0, _⟩ => exact Nat.mod_eq_of_lt h0
      | ⟨1, _⟩ => exact Nat.mod_eq_of_lt h1)
  show X i = (((X _ : EReal).toReal : ℝ) : EReal)
  rw [e]
  exact (EReal.coe_toReal (h i).1 (h i).2).symm
theorem reC_eq {X : XC} (h : ∀ i, (X i : EReal) ≠ ⊤ ∧ (X i : EReal) ≠ ⊥) : X = upK (reC X) := by
  funext i
  have h0 : (i 0).val < 8192 := (i 0).isLt
  have h1 : (i 1).val < 16 := (i 1).isLt
  have e : Idealize.ShloMosaic.ix2 ⟨(i 0).val % 8192, Nat.mod_lt _ (by norm_num)⟩ ⟨(i 1).val % 16, Nat.mod_lt _ (by norm_num)⟩ = i :=
    funext fun a => Fin.ext (by match a with
      | ⟨0, _⟩ => exact Nat.mod_eq_of_lt h0
      | ⟨1, _⟩ => exact Nat.mod_eq_of_lt h1)
  show X i = (((X _ : EReal).toReal : ℝ) : EReal)
  rw [e]
  exact (EReal.coe_toReal (h i).1 (h i).2).symm

instance : Subsingleton Cert.Pre_finite.S_.Idx := ⟨fun a b => funext fun i => i.elim0⟩

/-- A value whose absolute value is below infinity is real. -/
theorem real_of_lt (v : EReal) (h : (FloatOps.cmpf .olt (FloatOps.hostAbsf (F := Ideal) (φ := .f32) v) (FloatOps.ofBits (F := Ideal) .f32 0x7F800000#32) : BitVec 1) = 1#1) : v ≠ ⊤ ∧ v ≠ ⊥ := by
  have hi : Ideal.ofBits .f32 0x7F800000#32 = ⊤ := by simp [Ideal.ofBits, Ideal.ieee]
  have hb : Ideal.cmp .olt (max v (-v)) (Ideal.ofBits .f32 0x7F800000#32) = 1#1 := h
  rw [hi] at hb
  constructor
  · rintro rfl
    simp [Ideal.cmp] at hb
  · rintro rfl
    simp [Ideal.cmp] at hb

/-- The precondition: every argument is real everywhere. -/
theorem real_args [Cert.Pre_finite.Facts] (x0 x1 x2 : XA) (x3 : XC) (x4 : XA) (h : Cert.Pre_finite.fn (F := Ideal) x0 x1 x2 x3 x4 = fun _ => 1#1) :
    (∀ i, (x0 i : EReal) ≠ ⊤ ∧ (x0 i : EReal) ≠ ⊥) ∧ (∀ i, (x1 i : EReal) ≠ ⊤ ∧ (x1 i : EReal) ≠ ⊥) ∧ (∀ i, (x2 i : EReal) ≠ ⊤ ∧ (x2 i : EReal) ≠ ⊥)
      ∧ (∀ i, (x3 i : EReal) ≠ ⊤ ∧ (x3 i : EReal) ≠ ⊥) ∧ (∀ i, (x4 i : EReal) ≠ ⊤ ∧ (x4 i : EReal) ≠ ⊥) := by
  have h' := congrFun h (fun i => i.elim0)
  unfold Cert.Pre_finite.fn Cert.Pre_finite.fn_part1 at h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i)⟩

/-- The kernel's operands, from real arguments. -/
theorem holds (m : (ℓ : Loc nD τ sig) → Buf (Elt Ideal) ℓ) (x : Dev nD → Ins)
    (h : ∀ c, a0 m c = upA (φ := .f32) (x c).q ∧ a1 m c = upA (φ := .f32) (x c).k ∧ a2 m c = upA (φ := .f32) (x c).v ∧ a3 m c = upK (x c).c ∧ a4 m c = upA (φ := .f32) (x c).d) :
    Holds m (fun c => (x c).arr) where
  q0 c := by
    refine Eq.trans (Host.V_79 m c) ?_
    rw [(h c).1, (h c).2.2.2.1]
    exact Host.h79_val (x c)
  q1 c := by
    refine Eq.trans (Host.V_80 m c) ?_
    rw [(h c).1, (h c).2.2.2.1]
    exact Host.h80_val (x c)
  g c := by
    refine Eq.trans (Host.V_39 m c) ?_
    rw [(h c).1, (h c).2.1, (h c).2.2.2.1, (h c).2.2.2.2]
    exact Host.h39_val (x c)
  k0 c := by
    refine Eq.trans (Host.V_109 m c) ?_
    rw [(h c).2.1, (h c).2.2.2.1]
    exact Host.h109_val (x c)
  k1 c := by
    refine Eq.trans (Host.V_110 m c) ?_
    rw [(h c).2.1, (h c).2.2.2.1]
    exact Host.h110_val (x c)
  v c := by
    refine Eq.trans (Host.V_111 m c) ?_
    rw [(h c).2.2.1]
    exact Host.h111_val (x c)
  mr c := by
    refine Eq.trans (Host.V_115 m c) ?_
    rw [(h c).1, (h c).2.1, (h c).2.2.2.1]
    exact Host.h115_val (x c)
  er c := by
    refine Eq.trans (Host.V_117 m c) ?_
    rw [(h c).1, (h c).2.1, (h c).2.2.1, (h c).2.2.2.1, (h c).2.2.2.2]
    exact Host.h117_val (x c)

end Cert.Proof.Attn
end
-- ==== Proof.RefVal.lean ====
/- The reference's results over the real numbers. -/
module

public import proofs.«01_k».proof.Proof.Gen.ReferenceIdeal.Run
public import proofs.«01_k».proof.Proof.Gen.ReferenceIdeal.Read
public import proofs.«01_k».proof.Proof.Alg
public import proofs.«01_k».proof.Proof.Words

@[expose] public section

noncomputable section

namespace Cert.Proof.Attn.Ref

open Cert.ReferenceIdeal Cert.ReferenceIdeal.Gen Cert.ReferenceIdeal.Read
open Idealize.ShloMosaic Idealize.ShloMosaic.TcCoe Idealize.SL.Sem Idealize.ShloMosaic.StableHlo

/-- An array by row and column. -/
def uA (f : ℕ → ℕ → ℝ) : FVec Ideal S8192x1024 .f32 := fun i => ((f (i 0).val (i 1).val : ℝ) : EReal)
def uC (f : ℕ → ℕ → ℝ) : FVec Ideal S8192x16 .f32 := fun i => ((f (i 0).val (i 1).val : ℝ) : EReal)
theorem uA_at (f : ℕ → ℕ → ℝ) (j) : (uA f j : EReal) = ((f (j 0).val (j 1).val : ℝ) : EReal) := rfl
theorem uC_at (f : ℕ → ℕ → ℝ) (j) : (uC f j : EReal) = ((f (j 0).val (j 1).val : ℝ) : EReal) := rfl

variable (x : Ins)

theorem v1_val (j) : val_main_v1 (F := Ideal) (uA x.q) j = ((x.q (j 1).val (64 * (j 0).val + (j 2).val) : ℝ) : EReal) := by
  pointwise [val_main_v1, val_main_v0]
  simp only [uA_at, ix2, mul_comm (j 0).val 64]
theorem v3_val (j) : val_main_v3 (F := Ideal) (uA x.k) j = ((x.k (j 1).val (64 * (j 0).val + (j 2).val) : ℝ) : EReal) := by
  pointwise [val_main_v3, val_main_v2]
  simp only [uA_at, ix2, mul_comm (j 0).val 64]
theorem v5_val (j) : val_main_v5 (F := Ideal) (uA x.v) j = ((x.v (j 1).val (64 * (j 0).val + (j 2).val) : ℝ) : EReal) := by
  pointwise [val_main_v5, val_main_v4]
  simp only [uA_at, ix2, mul_comm (j 0).val 64]
theorem v55_val (j) : val_main_v55 (F := Ideal) (uA x.d) j = ((x.d (j 1).val (64 * (j 0).val + (j 2).val) : ℝ) : EReal) := by
  pointwise [val_main_v55, val_main_v54]
  simp only [uA_at, ix2, mul_comm (j 0).val 64]

theorem v15_val (j) : val_main_v15 (F := Ideal) (uA x.q) (uA x.k) (uC x.c) j = ((x.sc (j 0).val (j 1).val (j 2).val : ℝ) : EReal) := by
  pointwise [val_main_v15, val_main_v14, val_main_v13, val_main_v12, val_main_v11, val_main_v10, val_main_v9, val_main_v8, val_main_v7, val_main_v6, val_main_cst]
  simp only [v1_val, v3_val, uC_at, eighth_val, mul_real, coe_sum, add_real, sub_real]
  rfl

theorem mask_val (j) : val_main_v22_1 (F := Ideal) j = if (j 2).val ≤ (j 1).val then 1#1 else 0#1 := by
  pointwise [val_main_v22_1, val_main_v21, val_main_v20, val_main_v19, val_main_v18, val_main_v17, val_main_v16]
  exact sle_pos _ _ (j 2).isLt (j 1).isLt

theorem v22_val (j) : val_main_v22_0 (F := Ideal) (uA x.q) (uA x.k) (uC x.c) j = x.scE (j 0).val (j 1).val (j 2).val := by
  pointwise [val_main_v22_0, val_main_call0_v2, val_main_call0_v0, val_main_cst_0]
  rw [mask_val, select_ite, v15_val]
  exact if_congr Iff.rfl rfl bot_val

theorem v23_val (j) : val_main_v23 (F := Ideal) (uA x.q) (uA x.k) (uC x.c) j = ((x.mx (j 0).val (j 1).val : ℝ) : EReal) := by
  pointwise [val_main_v23, val_main_cst_1]
  rw [← x.mxE_eq (j 1).isLt, bot_val]
  unfold Ins.mxE
  simp only [v22_val]
  rfl

theorem v41_val (j) : val_main_v41 (F := Ideal) (uA x.q) (uA x.k) (uC x.c) j = ((x.mx (j 0).val (j 1).val : ℝ) : EReal) := by
  rw [val_main_v41_apply, val_main_v40_apply, val_main_v30_apply, val_main_v29_apply, val_main_cst_3_apply, v23_val]
  show max (Ideal.ofBits .f32 0xFF800000#32) _ = _
  rw [bot_val, max_eq_right bot_le]

theorem v43_val (j) : val_main_v43 (F := Ideal) (uA x.q) (uA x.k) (uC x.c) j = ((x.w (j 0).val (j 1).val (j 2).val : ℝ) : EReal) := by
  rw [val_main_v43_apply, val_main_v42_apply, v41_val, v22_val]
  unfold Ins.scE Ins.w
  show Ideal.exp ((if (j 2).val ≤ (j 1).val then _ else _) - ((x.mx (j 0).val (j 1).val : ℝ) : EReal)) = _
  split
  · rw [sub_real, exp_real]
  · rfl

end Cert.Proof.Attn.Ref
end
-- ==== Proof.RefOut.lean ====
/- The reference's four results over the real numbers. -/
module

public import proofs.«01_k».proof.Proof.RefVal

@[expose] public section

noncomputable section

namespace Cert.Proof.Attn.Ref

open Cert.ReferenceIdeal Cert.ReferenceIdeal.Gen Cert.ReferenceIdeal.Read
open Idealize.ShloMosaic Idealize.ShloMosaic.TcCoe Idealize.SL.Sem Idealize.ShloMosaic.StableHlo

variable (x : Ins)

theorem v44_val (j) : val_main_v44 (F := Ideal) (uA x.q) (uA x.k) (uC x.c) j = ((x.l (j 0).val (j 1).val : ℝ) : EReal) := by
  pointwise [val_main_v44, val_main_cst_9]
  simp only [v43_val, coe_sum]
  rfl

theorem v45_val (j) : val_main_v45 (F := Ideal) (uA x.q) (uA x.k) (uC x.c) j = ((x.l (j 0).val (j 1).val : ℝ) : EReal) := by
  pointwise [val_main_v45]
  exact v44_val x _

theorem v47_val (j) : val_main_v47 (F := Ideal) (uA x.q) (uA x.k) (uC x.c) j = ((x.w (j 0).val (j 1).val (j 2).val / x.l (j 0).val (j 1).val : ℝ) : EReal) := by
  pointwise [val_main_v47, val_main_v46]
  rw [v45_val, v43_val]
  exact div_real _ (x.l_ne _ _)

theorem v50_val (j) : val_main_v50 (F := Ideal) (uA x.q) (uA x.k) (uC x.c) j = ((1 / (x.l (j 0).val (j 1).val * x.l (j 0).val (j 1).val) : ℝ) : EReal) := by
  pointwise [val_main_v50, val_main_v49, val_main_v48, val_main_cst_10]
  rw [v45_val, mul_real]
  exact div_real 1 (mul_ne_zero (x.l_ne _ _) (x.l_ne _ _))

theorem v58_val (j) : val_main_v58 (F := Ideal) (uA x.v) (uA x.d) j = ((x.dp (j 0).val (j 1).val (j 2).val : ℝ) : EReal) := by
  pointwise [val_main_v58]
  simp only [v55_val, v5_val, mul_real, coe_sum]
  rfl

theorem v62_val (j) : val_main_v62 (F := Ideal) (uA x.q) (uA x.k) (uA x.v) (uC x.c) (uA x.d) j = ((x.e (j 0).val (j 1).val : ℝ) : EReal) := by
  pointwise [val_main_v62, val_main_v61, val_main_v60, val_main_v59, val_main_cst_11]
  rw [x.e_eq]
  simp only [v58_val, v50_val, v43_val, mul_real, coe_sum]
  refine congrArg _ (Finset.sum_congr rfl fun u _ => ?_)
  simp only [ix3]
  ring

theorem v70_val (j) : val_main_v70 (F := Ideal) (uA x.q) (uA x.k) (uA x.v) (uC x.c) (uA x.d) j = ((x.ds (j 0).val (j 1).val (j 2).val : ℝ) : EReal) := by
  pointwise [val_main_v70, val_main_v69, val_main_v68, val_main_v67, val_main_v66, val_main_v65, val_main_v64, val_main_v63, val_main_cst_12]
  rw [v58_val, v45_val, v43_val]
  simp only [ix2, ix3, v62_val]
  rw [div_real _ (x.l_ne _ _), Fin.sum_univ_one, ← EReal.coe_neg, add_real, mul_real]
  refine congrArg _ ?_
  unfold Ins.ds
  ring

theorem v71_val (j) : val_main_v71 (F := Ideal) (uA x.q) (uA x.k) (uA x.v) (uC x.c) (uA x.d) j = ((x.ds (j 0).val (j 1).val (j 2).val : ℝ) : EReal) := by
  rw [val_main_v71_apply, mask_val, select_ite, v70_val, val_main_call1_v0_apply, val_main_call1_cst_apply]
  split
  · rfl
  · rename_i h
    unfold Ins.ds Ins.w
    rw [if_neg h, zero_mul]
    exact Ideal.ofBits_zero .f32

theorem v73_val (j) : val_main_v73 (F := Ideal) (uA x.q) (uA x.k) (uA x.v) (uC x.c) (uA x.d) j = ((x.gc (j 1).val (j 0).val : ℝ) : EReal) := by
  pointwise [val_main_v73, val_main_v72, val_main_cst_13]
  simp only [v71_val, ix3, ← EReal.coe_neg, coe_sum]
  unfold Ins.gc
  rw [← Finset.sum_neg_distrib]

theorem v76_val (j) : val_main_v76 (F := Ideal) (uA x.q) (uA x.k) (uA x.v) (uC x.c) (uA x.d) j = ((0 : ℝ) : EReal) := by
  pointwise [val_main_v76, val_main_cst_15]
  simp only [v71_val, ix3, coe_sum]
  rw [x.ds_row]

theorem v79_val (j) : val_main_v79 (F := Ideal) (uA x.q) (uA x.k) (uA x.v) (uC x.c) (uA x.d) j = ((x.gc (j 1).val (j 0).val : ℝ) : EReal) := by
  pointwise [val_main_v79, val_main_v75, val_main_v74, val_main_v78, val_main_v77, val_main_cst_14, val_main_cst_16]
  simp only [v73_val, v76_val, Fin.sum_univ_one, add_real, add_zero, ix2, ix3]

theorem v92_val (j) : val_main_v92 (F := Ideal) (uA x.q) (uA x.k) (uA x.v) (uC x.c) (uA x.d) j = ((x.gc (j 1).val (2 * (j 0).val + (j 2).val) : ℝ) : EReal) := by
  pointwise [val_main_v92, val_main_v91, val_main_v84]
  simp only [v79_val, ix2, ix3, mul_comm (j 0).val 2]

theorem v81_val (j) : val_main_v81 (F := Ideal) (uA x.q) (uA x.k) (uA x.v) (uC x.c) (uA x.d) j = ((x.ds (j 0).val (j 1).val (j 2).val * (1 / 8) : ℝ) : EReal) := by
  rw [val_main_v81_apply, v71_val, val_main_v80_apply, val_main_cst_17_apply]
  show _ * Ideal.ofBits .f32 0x3E000000#32 = _
  rw [eighth_val, mul_real]

theorem v82_val (j) : val_main_v82 (F := Ideal) (uA x.q) (uA x.k) (uA x.v) (uC x.c) (uA x.d) j = ((x.gk (j 1).val (64 * (j 0).val + (j 2).val) : ℝ) : EReal) := by
  pointwise [val_main_v82]
  simp only [v81_val, v1_val, mul_real, coe_sum, ix3]
  have h : (j 2).val < 64 := (j 2).isLt
  refine congrArg _ ?_
  unfold Ins.gk
  rw [show (64 * (j 0).val + (j 2).val) / 64 = (j 0).val by omega, Finset.sum_mul]
  refine Finset.sum_congr rfl fun t _ => ?_
  ring

theorem v83_val (j) : val_main_v83 (F := Ideal) (uA x.q) (uA x.k) (uA x.v) (uC x.c) (uA x.d) j = ((x.gq (j 1).val (64 * (j 0).val + (j 2).val) : ℝ) : EReal) := by
  pointwise [val_main_v83]
  simp only [v81_val, v3_val, mul_real, coe_sum, ix3]
  have h : (j 2).val < 64 := (j 2).isLt
  refine congrArg _ ?_
  unfold Ins.gq
  rw [show (64 * (j 0).val + (j 2).val) / 64 = (j 0).val by omega, Finset.sum_mul]
  refine Finset.sum_congr rfl fun t _ => ?_
  ring

theorem v57_val (j) : val_main_v57 (F := Ideal) (uA x.q) (uA x.k) (uC x.c) (uA x.d) j = ((x.gv (j 1).val (64 * (j 0).val + (j 2).val) : ℝ) : EReal) := by
  pointwise [val_main_v57, val_main_v56]
  simp only [v55_val, v47_val, mul_real, coe_sum, ix3]
  have h : (j 2).val < 64 := (j 2).isLt
  refine congrArg _ ?_
  unfold Ins.gv
  rw [show (64 * (j 0).val + (j 2).val) / 64 = (j 0).val by omega]
  refine Finset.sum_congr rfl fun t _ => ?_
  ring

theorem v90_val (j) : val_main_v90 (F := Ideal) (uA x.q) (uA x.k) (uA x.v) (uC x.c) (uA x.d) j = ((x.gq (j 0).val (j 1).val : ℝ) : EReal) := by
  pointwise [val_main_v90, val_main_v89]
  simp only [v83_val, ix2, ix3]
  rw [show 64 * ((j 1).val / 64) + (j 1).val % 64 = (j 1).val by omega]

theorem v88_val (j) : val_main_v88 (F := Ideal) (uA x.q) (uA x.k) (uA x.v) (uC x.c) (uA x.d) j = ((x.gk (j 0).val (j 1).val : ℝ) : EReal) := by
  pointwise [val_main_v88, val_main_v87]
  simp only [v82_val, ix2, ix3]
  rw [show 64 * ((j 1).val / 64) + (j 1).val % 64 = (j 1).val by omega]

theorem v86_val (j) : val_main_v86 (F := Ideal) (uA x.q) (uA x.k) (uC x.c) (uA x.d) j = ((x.gv (j 0).val (j 1).val : ℝ) : EReal) := by
  pointwise [val_main_v86, val_main_v85]
  simp only [v57_val, ix2, ix3]
  rw [show 64 * ((j 1).val / 64) + (j 1).val % 64 = (j 1).val by omega]

end Cert.Proof.Attn.Ref
end
-- ==== Proof.Value.lean ====
/- The kernel's four results are the reference's. -/
module

public import proofs.«01_k».proof.Proof.Real
public import proofs.«01_k».proof.Proof.RefOut
public import proofs.«01_k».proof.Proof.Gen.ReferenceIdeal

@[expose] public section

noncomputable section

namespace Cert.Proof.Claims

open Idealize.ShloMosaic Idealize.ShloMosaic.TcCoe Idealize.SL.Sem
open Cert.Proof.Attn
open Cert.Proof.Attn.Host (XA XC upK a0 a1 a2 a3 a4)

/-- The real numbers of a device's five arguments. -/
def ins (m : (ℓ : Loc Cert.KernelIdeal.nD Cert.KernelIdeal.τ Cert.KernelIdeal.sig) → Buf (Elt Ideal) ℓ) (c : Dev Cert.KernelIdeal.nD) : Ins where
  q := reA (a0 m c)
  k := reA (a1 m c)
  v := reA (a2 m c)
  c := reC (a3 m c)
  d := reA (a4 m c)

theorem ins_eq [Cert.Pre_finite.Facts] (m : (ℓ : Loc Cert.KernelIdeal.nD Cert.KernelIdeal.τ Cert.KernelIdeal.sig) → Buf (Elt Ideal) ℓ) (h : Cert.Pre_KernelIdeal_finite m) (c : Dev Cert.KernelIdeal.nD) :
    a0 m c = upA (φ := .f32) (ins m c).q ∧ a1 m c = upA (φ := .f32) (ins m c).k ∧ a2 m c = upA (φ := .f32) (ins m c).v ∧ a3 m c = upK (ins m c).c ∧ a4 m c = upA (φ := .f32) (ins m c).d := by
  obtain ⟨h0, h1, h2, h3, h4⟩ := real_args _ _ _ _ _ (h c)
  exact ⟨reA_eq h0, reA_eq h1, reA_eq h2, reC_eq h3, reA_eq h4⟩

variable (x : Ins)

theorem same_q : Cert.ReferenceIdeal.Read.val_main_v90 (F := Ideal) (Ref.uA x.q) (Ref.uA x.k) (Ref.uA x.v) (Ref.uC x.c) (Ref.uA x.d) = upA (φ := .f32) x.arr.rDq := by
  funext j
  have h0 : (j 0).val < 8192 := (j 0).isLt
  refine (Ref.v90_val x j).trans ?_
  rw [← x.rDq_eq h0]
  rfl
theorem same_k : Cert.ReferenceIdeal.Read.val_main_v88 (F := Ideal) (Ref.uA x.q) (Ref.uA x.k) (Ref.uA x.v) (Ref.uC x.c) (Ref.uA x.d) = upA (φ := .f32) x.arr.rDk := by
  funext j
  have h0 : (j 0).val < 8192 := (j 0).isLt
  refine (Ref.v88_val x j).trans ?_
  rw [← x.rDk_eq h0]
  rfl
theorem same_v : Cert.ReferenceIdeal.Read.val_main_v86 (F := Ideal) (Ref.uA x.q) (Ref.uA x.k) (Ref.uC x.c) (Ref.uA x.d) = upA (φ := .f32) x.arr.rDv := by
  funext j
  have h0 : (j 0).val < 8192 := (j 0).isLt
  refine (Ref.v86_val x j).trans ?_
  rw [← x.rDv_eq h0]
  rfl
theorem same_c : Cert.ReferenceIdeal.Read.val_main_v92 (F := Ideal) (Ref.uA x.q) (Ref.uA x.k) (Ref.uA x.v) (Ref.uC x.c) (Ref.uA x.d) = upD x.arr.rDc := by
  funext j
  have h0 : (j 1).val < 8192 := (j 1).isLt
  have h1 : (j 2).val < 2 := (j 2).isLt
  refine (Ref.v92_val x j).trans ?_
  rw [← x.rDc_eq h0 h1]
  rfl

/-- From finite arguments the kernel and the reference compute the same four gradients. -/
theorem algebraic [Cert.Pre_finite.Facts] : Cert.algebraic_KernelIdeal_ReferenceIdeal_pre_finite := by
  intro m ρ m' ρ' hpre hagree
  have hin := ins_eq m hpre
  refine ⟨_, _, _, _, val_run m ρ (fun c => (ins m c).arr) (holds m (ins m) hin), ?_⟩
  refine (θ_run Cert.ReferenceIdeal.defs _ _).mono (fun _ h c => ?_) (Cert.ReferenceIdeal.Value.run (F := Ideal) m' ρ')
  obtain ⟨g0, g1, g2, g3, g4⟩ := hagree c
  obtain ⟨i0, i1, i2, i3, i4⟩ := hin c
  have e0 := g0.trans i0
  have e1 := g1.trans i1
  have e2 := g2.trans i2
  have e3 := g3.trans i3
  have e4 := g4.trans i4
  obtain ⟨r0, r1, r2, r3, ra⟩ := h c
  refine ⟨r0.trans ?_, r1.trans ?_, r2.trans ?_, r3.trans ?_, ra⟩
  · refine (Cert.ReferenceIdeal.Read.val_main_v90_eq m' c).trans ?_
    rw [e0, e1, e2, e3, e4]
    exact same_q (ins m c)
  · refine (Cert.ReferenceIdeal.Read.val_main_v88_eq m' c).trans ?_
    rw [e0, e1, e2, e3, e4]
    exact same_k (ins m c)
  · refine (Cert.ReferenceIdeal.Read.val_main_v86_eq m' c).trans ?_
    rw [e0, e1, e3, e4]
    exact same_v (ins m c)
  · refine (Cert.ReferenceIdeal.Read.val_main_v92_eq m' c).trans ?_
    rw [e0, e1, e2, e3, e4]
    exact same_c (ins m c)

end Cert.Proof.Claims
end
-- ==== Proof.ProdSum.lean ====
/- Sums over the positions of a product, block by block, and arrays read at natural coordinates. -/
module

public import proofs.«01_k».proof.Defs
public import Idealize.ShloMosaic.Lib.Quiescent
public import Idealize.ShloMosaic.Lib.Pipeline.Value
public import Idealize.ShloMosaic.Lib.ValueIdx
public import Idealize.ShloMosaic.Lib.ValueLayout
public import Idealize.ShloMosaic.PureOps.Ideal.Laws

@[expose] public section

noncomputable section

namespace Cert.Proof.Prod

open Idealize.ShloMosaic Idealize.ShloMosaic.ValueIdx

theorem mul_eq {a b x y : EReal} (h : a = b) (h' : x = y) : a * x = b * y := by rw [h, h']
theorem add_eq {a b x y : EReal} (h : a = b) (h' : x = y) : a + x = b + y := by rw [h, h']

/-- An array of two or three dimensions read at natural coordinates, zero outside. -/
def gat2 {a b : ℕ} (f : (⟨2, ![a, b]⟩ : Shape).Idx → EReal) (i j : ℕ) : EReal := if h : i < a ∧ j < b then f (ix2 ⟨i, h.1⟩ ⟨j, h.2⟩) else 0
def gat3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

theorem gat2_eq {a b : ℕ} (f : (⟨2, ![a, b]⟩ : Shape).Idx → EReal) (y : (⟨2, ![a, b]⟩ : Shape).Idx) {i j : ℕ} (h0 : (y 0).val = i) (h1 : (y 1).val = j) :
    f y = gat2 f i j := by
  subst h0 h1
  unfold gat2
  rw [dif_pos ⟨(y 0).isLt, (y 1).isLt⟩]
  exact congrArg f (eq_ix2 y)
theorem gat3_eq {a b c : ℕ} (f : (⟨3, ![a, b, c]⟩ : Shape).Idx → EReal) (y : (⟨3, ![a, b, c]⟩ : Shape).Idx) {i j k : ℕ} (h0 : (y 0).val = i)
    (h1 : (y 1).val = j) (h2 : (y 2).val = k) : f y = gat3 f i j k := by
  subst h0 h1 h2
  unfold gat3
  rw [dif_pos ⟨(y 0).isLt, (y 1).isLt, (y 2).isLt⟩]
  exact congrArg f (eq_ix3 y)

/-- Two dimensions as three, the first of length one. -/
theorem stacked {a b : ℕ} (f : (⟨2, ![a, b]⟩ : Shape).Idx → EReal) (h) (y : (⟨3, ![1, a, b]⟩ : Shape).Idx) :
    broadcastInDim ⟨3, ![1, a, b]⟩ ![1, 2] h f y = gat2 f (y 1).val (y 2).val := by
  rw [broadcastInDim_apply _ h f y (ix2 (y 1) (y 2)) (fun x => by
    have h1 : (y 1).val < a := (y 1).isLt
    have h2 : (y 2).val < b := (y 2).isLt
    match x with
    | ⟨0, _⟩ => show (y 1).val = if a = 1 then 0 else (y 1).val; split <;> omega
    | ⟨1, _⟩ => show (y 2).val = if b = 1 then 0 else (y 2).val; split <;> omega)]
  exact gat2_eq f _ rfl rfl

/-- A sum in blocks is the whole sum. -/
theorem sum_blocks (f : ℕ → EReal) (b : ℕ) : ∀ a : ℕ, ∑ s ∈ Finset.range a, ∑ k : Fin b, f (b * s + k.val) = ∑ k : Fin (a * b), f k.val
  | 0 => by
    rw [Fin.sum_univ_eq_sum_range (fun k => f k)]
    simp
  | a + 1 => by
    rw [Finset.sum_range_succ, sum_blocks f b a, Fin.sum_univ_eq_sum_range (fun k => f k), Fin.sum_univ_eq_sum_range (fun k => f (b * a + k)),
      Fin.sum_univ_eq_sum_range (fun k => f k), Nat.succ_mul, Finset.sum_range_add, Nat.mul_comm a b]

/-- A product's sum over one contracted dimension, with each operand's index named. -/
theorem matmul_sum {sl sr so : Shape} {φ₁ φ₂ : FTy} (d : DotDims sl sr so) (n : ℕ) (hr : d.contr.rank = 1) (hs : d.contr.size ⟨0, by omega⟩ = n)
    (x : FVec Ideal sl φ₁) (y : FVec Ideal sr φ₂) (i : so.Idx) (f : Fin n → sl.Idx) (g : Fin n → sr.Idx)
    (hf : ∀ q k, (q ⟨0, by omega⟩).val = k.val → ∀ a, (d.lhsIdx i q a).val = (f k a).val)
    (hg : ∀ q k, (q ⟨0, by omega⟩).val = k.val → ∀ a, (d.rhsIdx i q a).val = (g k a).val) :
    (matmul d none x y (constant so .f32 0x00000000#32) i : EReal) = ∑ k : Fin n, (x (f k) : EReal) * y (g k) := by
  simp only [matmul]
  rw [Ideal.matmul_constant_zero_apply, ← Equiv.sum_comp (ValueIdx.contrEquiv1 d n hr hs).symm]
  refine Finset.sum_congr rfl fun k _ => ?_
  have hk := ValueIdx.contrEquiv1_symm_val d n hr hs k
  rw [show d.lhsIdx i ((ValueIdx.contrEquiv1 d n hr hs).symm k) = f k from funext fun a => Fin.ext (hf _ k hk a),
    show d.rhsIdx i ((ValueIdx.contrEquiv1 d n hr hs).symm k) = g k from funext fun a => Fin.ext (hg _ k hk a)]

/-- A product over the first dimension of both operands, added to an array. -/
theorem add_product {n a b : ℕ} {φ₁ φ₂ : FTy} (d : DotDims ⟨2, ![n, a]⟩ ⟨2, ![n, b]⟩ ⟨2, ![a, b]⟩) (hd : d.lhsContracting = [0] ∧ d.rhsContracting = [0]
    ∧ d.lhsNonContracting = [1] ∧ d.rhsNonContracting = [1] ∧ d.lhsBatch = [] ∧ d.rhsBatch = []) (hr : d.contr.rank = 1) (hs : d.contr.size ⟨0, by omega⟩ = n)
    (acc : FVec Ideal ⟨2, ![a, b]⟩ .f32) (x : FVec Ideal ⟨2, ![n, a]⟩ φ₁) (y : FVec Ideal ⟨2, ![n, b]⟩ φ₂) (y' : (⟨3, ![1, n, b]⟩ : Shape).Idx → EReal)
    (hy : ∀ k j, y (ix2 k j) = y' (ix3 0 k j)) (i : (⟨2, ![a, b]⟩ : Shape).Idx) :
    (addf acc (matmul d none x y (constant ⟨2, ![a, b]⟩ .f32 0x00000000#32)) i : EReal)
      = (acc i : EReal) + ∑ k : Fin n, (x (ix2 k (i 0)) : EReal) * y' (ix3 0 k (i 1)) := by
  obtain ⟨a1, a2, a3, a4, a5, a6, w⟩ := d
  obtain ⟨rfl, rfl, rfl, rfl, rfl, rfl⟩ := hd
  refine congrArg (fun z : EReal => (acc i : EReal) + z) ((matmul_sum _ n hr hs x y i (fun k => ix2 k (i 0)) (fun k => ix2 k (i 1))
    (fun q k hk z => ?_) (fun q k hk z => ?_)).trans (Finset.sum_congr rfl fun k _ => congrArg (fun z : EReal => (x (ix2 k (i 0)) : EReal) * z) (hy _ _)))
  · match z with
    | ⟨0, _⟩ => exact (DotDims.lhsIdx_val_of_single _ rfl i q).trans hk
    | ⟨1, _⟩ => rfl
  · match z with
    | ⟨0, _⟩ => exact (DotDims.rhsIdx_val_of_single _ rfl i q).trans hk
    | ⟨1, _⟩ => rfl

/-- A plain product, added to an array. -/
theorem plain_product {n a b : ℕ} {φ₁ φ₂ : FTy} (d : DotDims ⟨2, ![a, n]⟩ ⟨2, ![n, b]⟩ ⟨2, ![a, b]⟩) (hd : d.lhsContracting = [1] ∧ d.rhsContracting = [0]
    ∧ d.lhsNonContracting = [0] ∧ d.rhsNonContracting = [1] ∧ d.lhsBatch = [] ∧ d.rhsBatch = []) (hr : d.contr.rank = 1) (hs : d.contr.size ⟨0, by omega⟩ = n)
    (acc : FVec Ideal ⟨2, ![a, b]⟩ .f32) (x : FVec Ideal ⟨2, ![a, n]⟩ φ₁) (y : FVec Ideal ⟨2, ![n, b]⟩ φ₂) (i : (⟨2, ![a, b]⟩ : Shape).Idx) :
    (addf acc (matmul d none x y (constant ⟨2, ![a, b]⟩ .f32 0x00000000#32)) i : EReal)
      = (acc i : EReal) + ∑ k : Fin n, (x (ix2 (i 0) k) : EReal) * y (ix2 k (i 1)) := by
  obtain ⟨a1, a2, a3, a4, a5, a6, w⟩ := d
  obtain ⟨rfl, rfl, rfl, rfl, rfl, rfl⟩ := hd
  refine congrArg (fun z : EReal => (acc i : EReal) + z) (matmul_sum _ n hr hs x y i (fun k => ix2 (i 0) k) (fun k => ix2 k (i 1))
    (fun q k hk z => ?_) (fun q k hk z => ?_))
  · match z with
    | ⟨0, _⟩ => rfl
    | ⟨1, _⟩ => exact (DotDims.lhsIdx_val_of_single _ rfl i q).trans hk
  · match z with
    | ⟨0, _⟩ => exact (DotDims.rhsIdx_val_of_single _ rfl i q).trans hk
    | ⟨1, _⟩ => rfl

/-- The sum over the block of 1024 positions of grid point `n`, for a row `y` and a column `z` of its block of the result: `A` and `B` are
    the arguments, `b` column blocks to a row block, `e` of them to a part of `B`, blocks of `u` rows and `w` columns. -/
def part (A : ℕ → ℕ → EReal) (B : ℕ → ℕ → ℕ → EReal) (b e u w n y z : ℕ) : EReal :=
  ∑ k : Fin 1024, A (1024 * (n % 8) + k.val) (u * (n / 8 / b) + y) * B (n / 8 % b / e) (1024 * (n % 8) + k.val) (w * (n / 8 % b % e) + z)

/-- The eight points of a block of the result sum over all the positions. -/
theorem parts (A : ℕ → ℕ → EReal) (B : ℕ → ℕ → ℕ → EReal) (b e u w r i j : ℕ) (hu : r / b = i / u) (hw : r % b = j / w) :
    ∑ s ∈ Finset.range 8, part A B b e u w (8 * r + s) (i % u) (j % w)
      = ∑ k : Fin 8192, A k.val i * B (j / (w * e)) k.val (j % (w * e)) := by
  rw [← sum_blocks (fun k => A k i * B (j / (w * e)) k (j % (w * e))) 1024 8]
  refine Finset.sum_congr rfl fun s hs => ?_
  have hs8 : s < 8 := Finset.mem_range.mp hs
  unfold part
  rw [show (8 * r + s) % 8 = s by omega, show (8 * r + s) / 8 = r by omega, hu, hw, Nat.div_add_mod, Nat.div_div_eq_div_mul, Nat.add_comm,
    ← Nat.mod_mul]

/-- A running sum from zero over eight points. -/
theorem fold {N : ℕ} {ι : Type} (a : (n : ℕ) → n < N → ι → EReal) (g : (n : ℕ) → n < N → (ι → EReal) → ι → EReal) (z : ι → EReal) (P : ℕ → ι → EReal)
    (hz : ∀ y, z y = 0) (ha : ∀ n h, a n h = g n h z) (hg : ∀ n h acc y, g n h acc y = acc y + P n y) (r : ℕ) (h : r + 7 < N) (y : ι) :
    Pipeline.accAt a g r 7 h y = ∑ s ∈ Finset.range 8, P (r + s) y := by
  rw [Pipeline.accAt_add_apply a g (fun _ => (0 : EReal)) P r 7 (fun h i => by rw [ha, hg, hz]) (fun n h acc i _ _ => hg n h acc i) 7 (le_refl 7) h y,
    zero_add]

end Cert.Proof.Prod

end
-- ==== Proof.UpGrad.lean ====
/- The gradient of the feed-forward part's first matrix. -/
module

public import proofs.«01_k».proof.Proof.ProdSum
public import proofs.«01_k».proof.Proof.Gen.UpGrad.Frame
public import proofs.«01_k».proof.Proof.Gen.UpGradIdeal.Value
public import proofs.«01_k».proof.Proof.Gen.UpGradRefIdeal.Run
public import proofs.«01_k».proof.Proof.Gen.UpGradRefIdeal.Read

@[expose] public section

set_option maxRecDepth 16384

noncomputable section

namespace Cert.Proof.Prod.UpGrad

open Idealize.ShloMosaic TcCoe ValueIdx StableHlo Idealize.SL.Sem Cert.UpGradIdeal Cert.UpGradIdeal.Gen Cert.UpGradIdeal.Value

theorem frame_p : Cert.quiescent_UpGrad := fun m ρ _ => UpGrad.Gen.frame m ρ
theorem frame_pi : Cert.quiescent_UpGradIdeal := fun m ρ _ => UpGradIdeal.Gen.frame m ρ
theorem frame_ri : Cert.quiescent_UpGradRefIdeal := fun m ρ _ =>
  (θ_run UpGradRefIdeal.defs _ _).mono (fun r h => ⟨fun c => (h c).2, sem_eq_zero_of_no_sems (by decide) r.2⟩)
    (UpGradRefIdeal.Value.run (F := Ideal) m ρ)

variable (m : (ℓ : Loc nD τ sig) → Buf (Elt Ideal) ℓ) (c : Dev nD)

/-- The arguments, whole and at coordinates. -/
abbrev arg0 : S8192x1024.Idx → EReal := m ((c.tc : Thread nD τ).loc main_arg0)
abbrev arg1 : S2x8192x2816.Idx → EReal := m ((c.tc : Thread nD τ).loc main_arg1)
def A (k i : ℕ) : EReal := gat2 (arg0 m c) k i
def B (p k j : ℕ) : EReal := gat3 (arg1 m c) p k j

theorem host0 (y : S8192x1024.Idx) : (V m c main_v0 : S8192x1024.Idx → EReal) y = A m c (y 0).val (y 1).val := by
  have e : V m c main_v0 = truncf (F := Ideal) .bf16 (arg0 m c) bitsLt_bf16_f32 := by
    unfold V
    after_results
  rw [e]
  exact gat2_eq (arg0 m c) y rfl rfl
theorem host1 (y : S2x8192x2816.Idx) : (V m c main_v1 : S2x8192x2816.Idx → EReal) y = B m c (y 0).val (y 1).val (y 2).val := by
  have e : V m c main_v1 = truncf (F := Ideal) .bf16 (arg1 m c) bitsLt_bf16_f32 := by
    unfold V
    after_results
  rw [e]
  exact gat3_eq (arg1 m c) y rfl rfl rfl

theorem at0 : ∀ t : Fin cfg0.N, win0_0.index t (0 : Fin 2) = t.val % 8 ∧ win0_0.index t (1 : Fin 2) = t.val / 8 / 4 :=
  (by decide +kernel : ∀ t : Fin grid0.N, _)
theorem at1 : ∀ t : Fin cfg0.N, win0_1.index t (0 : Fin 3) = t.val / 8 % 4 / 2 ∧ win0_1.index t (1 : Fin 3) = t.val % 8
    ∧ win0_1.index t (2 : Fin 3) = t.val / 8 % 4 % 2 :=
  (by decide +kernel : ∀ t : Fin grid0.N, _)

/-- The blocks of a grid point, in the arguments. -/
theorem blk0 (t : Fin cfg0.N) (y : S1024x1024.Idx) : (iblk m c 0 t : S1024x1024.Idx → EReal) y
    = A m c (1024 * (t.val % 8) + (y 0).val) (1024 * (t.val / 8 / 4) + (y 1).val) := by
  obtain ⟨e0, e1⟩ := at0 t
  refine (host0 m c (((cfg0.win 0).blk t).view.emb y)).trans (congr (congrArg (A m c) ?_) ?_)
  · show win0_0.index t (0 : Fin 2) * 1024 + 1 * (y 0).val = _; rw [e0]; omega
  · show win0_0.index t (1 : Fin 2) * 1024 + 1 * (y 1).val = _; rw [e1]; omega
theorem blk1 (t : Fin cfg0.N) (y : S1x1024x1408.Idx) : (iblk m c 1 t : S1x1024x1408.Idx → EReal) y
    = B m c (t.val / 8 % 4 / 2) (1024 * (t.val % 8) + (y 1).val) (1408 * (t.val / 8 % 4 % 2) + (y 2).val) := by
  obtain ⟨e0, e1, e2⟩ := at1 t
  have h0 : (y 0).val < 1 := (y 0).isLt
  refine (host1 m c (((cfg0.win 1).blk t).view.emb y)).trans (congr (congr (congrArg (B m c) ?_) ?_) ?_)
  · show win0_1.index t (0 : Fin 3) * 1 + 1 * (y 0).val = _; rw [e0]; omega
  · show win0_1.index t (1 : Fin 3) * 1024 + 1 * (y 1).val = _; rw [e1]; omega
  · show win0_1.index t (2 : Fin 3) * 1408 + 1 * (y 2).val = _; rw [e2]; omega

/-- What the body adds at a grid point. -/
theorem step (n : ℕ) (h : n < cfg0.N) (acc : S1024x1408.Idx → EReal) (y : S1024x1408.Idx) :
    (step2 (F := Ideal) m c n h acc y : EReal) = acc y + part (A m c) (B m c) 4 2 1024 1408 n (y 0).val (y 1).val := by
  unfold step2 k0_pay2
  simp only [shapeCast_self]
  refine (add_product dot_S1024x1024_S1024x1408_S1024x1408_0_0_1_1_n_n ⟨rfl, rfl, rfl, rfl, rfl, rfl⟩ rfl rfl acc _ _ (iblk m c 1 ⟨n, h⟩) (shapeCast_1ab_ab_apply _ _) y).trans
    (congrArg (fun z : EReal => acc y + z) (Finset.sum_congr rfl fun k _ => ?_))
  exact mul_eq (blk0 m c ⟨n, h⟩ (ix2 k (y 0))) (blk1 m c ⟨n, h⟩ (ix3 0 k (y 1)))

/-- The kernel's result. -/
theorem result (i : S1024x5632.Idx) : (G2 m c : S1024x5632.Idx → EReal) i
    = ∑ k : Fin 8192, A m c k.val (i 0).val * B m c ((i 1).val / 2816) k.val ((i 1).val % 2816) := by
  have h0 : (i 0).val < 1024 := (i 0).isLt
  have h1 : (i 1).val < 5632 := (i 1).isLt
  have e : run2Of i = 4 * ((i 0).val / 1024 - 0) + 1 * ((i 1).val / 1408 - 0) := rfl
  have hr : 8 * run2Of i + 7 < cfg0.N := by rw [show cfg0.N = 32 from N_0, e]; omega
  unfold G2
  rw [dif_pos hr]
  exact (fold (reset2 (F := Ideal) m c) (step2 (F := Ideal) m c) (k0_pay1 (F := Ideal)) _ (fun _ => Ideal.ofBits_zero_f32) (fun _ _ => rfl)
    (step m c) _ hr (loc2Of i)).trans (parts (A m c) (B m c) 4 2 1024 1408 (run2Of i) _ _ (by rw [e]; omega) (by rw [e]; omega))

/-- The reference's result. -/
theorem ref (i : S1024x5632.Idx) : (UpGradRefIdeal.Read.val_main_v5 (F := Ideal) (arg0 m c) (arg1 m c) i : EReal)
    = ∑ k : Fin 8192, A m c k.val (i 0).val * B m c ((i 1).val / 2816) k.val ((i 1).val % 2816) := by
  have h1 : (i 1).val < 5632 := (i 1).isLt
  rw [UpGradRefIdeal.Read.val_main_v5_apply, UpGradRefIdeal.Read.val_main_v4_apply]
  refine Finset.sum_congr rfl fun k _ => ?_
  have hk : k.val < 8192 := k.isLt
  rw [UpGradRefIdeal.Read.val_main_v1_apply, UpGradRefIdeal.Read.val_main_v0_apply, mul_comm]
  refine mul_eq (gat2_eq (arg0 m c) _ rfl rfl) (gat3_eq (arg1 m c) _ ?_ ?_ ?_)
  · show (k.val * 5632 + (i 1).val) / 2816 % 2 = (i 1).val / 2816; omega
  · show (k.val * 5632 + (i 1).val) / 5632 = k.val; omega
  · show (k.val * 5632 + (i 1).val) % 2816 = (i 1).val % 2816; omega

theorem algebraic : Cert.algebraic_UpGradIdeal_UpGradRefIdeal := by
  intro m ρ m' ρ' hpre hagree
  refine ⟨_, Cert.UpGradIdeal.Value.run (F := Ideal) m ρ, ?_⟩
  refine (θ_run UpGradRefIdeal.defs _ _).mono (fun _ h c => ?_) (UpGradRefIdeal.Value.run (F := Ideal) m' ρ')
  obtain ⟨g0, g1⟩ := hagree c
  refine ⟨(h c).1.trans ?_, (h c).2⟩
  refine (UpGradRefIdeal.Read.val_main_v5_eq (F := Ideal) _ _).trans ?_
  rw [g0, g1]
  exact funext fun i => (ref m c i).trans (result m c i).symm

end Cert.Proof.Prod.UpGrad

end
-- ==== Proof.DownGrad.lean ====
/- The gradient of the feed-forward part's second matrix. -/
module

public import proofs.«01_k».proof.Proof.ProdSum
public import proofs.«01_k».proof.Proof.Gen.DownGrad.Frame
public import proofs.«01_k».proof.Proof.Gen.DownGradIdeal.Value
public import proofs.«01_k».proof.Proof.Gen.DownGradRefIdeal.Run
public import proofs.«01_k».proof.Proof.Gen.DownGradRefIdeal.Read

@[expose] public section

set_option maxRecDepth 16384

noncomputable section

namespace Cert.Proof.Prod.DownGrad

open Idealize.ShloMosaic TcCoe ValueIdx StableHlo Idealize.SL.Sem Cert.DownGradIdeal Cert.DownGradIdeal.Gen Cert.DownGradIdeal.Value

theorem frame_p : Cert.quiescent_DownGrad := fun m ρ _ => DownGrad.Gen.frame m ρ
theorem frame_pi : Cert.quiescent_DownGradIdeal := fun m ρ _ => DownGradIdeal.Gen.frame m ρ
theorem frame_ri : Cert.quiescent_DownGradRefIdeal := fun m ρ _ =>
  (θ_run DownGradRefIdeal.defs _ _).mono (fun r h => ⟨fun c => (h c).2, sem_eq_zero_of_no_sems (by decide) r.2⟩)
    (DownGradRefIdeal.Value.run (F := Ideal) m ρ)

variable (m : (ℓ : Loc nD τ sig) → Buf (Elt Ideal) ℓ) (c : Dev nD)

/-- The arguments, whole and at coordinates. -/
abbrev arg0 : S8192x2816.Idx → EReal := m ((c.tc : Thread nD τ).loc main_arg0)
abbrev arg1 : S8192x1024.Idx → EReal := m ((c.tc : Thread nD τ).loc main_arg1)
def A (k i : ℕ) : EReal := gat2 (arg0 m c) k i
def B (_ k j : ℕ) : EReal := gat2 (arg1 m c) k j

theorem host0 (y : S8192x2816.Idx) : (V m c main_v0 : S8192x2816.Idx → EReal) y = A m c (y 0).val (y 1).val := by
  have e : V m c main_v0 = truncf (F := Ideal) .bf16 (arg0 m c) bitsLt_bf16_f32 := by
    unfold V
    after_results
  rw [e]
  exact gat2_eq (arg0 m c) y rfl rfl
theorem host1 (y : S1x8192x1024.Idx) : (V m c main_v1 : S1x8192x1024.Idx → EReal) y = B m c (y 0).val (y 1).val (y 2).val := by
  have e : V m c main_v1 = broadcastInDim S1x8192x1024 ![1, 2] bcast_S8192x1024_S1x8192x1024_1_2 (arg1 m c) := by
    unfold V
    after_results
  rw [e]
  exact stacked (arg1 m c) _ y

theorem at0 : ∀ t : Fin cfg0.N, win0_0.index t (0 : Fin 2) = t.val % 8 ∧ win0_0.index t (1 : Fin 2) = t.val / 8 / 1 :=
  (by decide +kernel : ∀ t : Fin grid0.N, _)
theorem at1 : ∀ t : Fin cfg0.N, win0_1.index t (0 : Fin 3) = t.val / 8 % 1 / 1 ∧ win0_1.index t (1 : Fin 3) = t.val % 8
    ∧ win0_1.index t (2 : Fin 3) = t.val / 8 % 1 % 1 :=
  (by decide +kernel : ∀ t : Fin grid0.N, _)

/-- The blocks of a grid point, in the arguments. -/
theorem blk0 (t : Fin cfg0.N) (y : S1024x1408.Idx) : (iblk m c 0 t : S1024x1408.Idx → EReal) y
    = A m c (1024 * (t.val % 8) + (y 0).val) (1408 * (t.val / 8 / 1) + (y 1).val) := by
  obtain ⟨e0, e1⟩ := at0 t
  refine (host0 m c (((cfg0.win 0).blk t).view.emb y)).trans (congr (congrArg (A m c) ?_) ?_)
  · show win0_0.index t (0 : Fin 2) * 1024 + 1 * (y 0).val = _; rw [e0]; omega
  · show win0_0.index t (1 : Fin 2) * 1408 + 1 * (y 1).val = _; rw [e1]; omega
theorem blk1 (t : Fin cfg0.N) (y : S1x1024x1024.Idx) : (iblk m c 1 t : S1x1024x1024.Idx → EReal) y
    = B m c (t.val / 8 % 1 / 1) (1024 * (t.val % 8) + (y 1).val) (1024 * (t.val / 8 % 1 % 1) + (y 2).val) := by
  obtain ⟨e0, e1, e2⟩ := at1 t
  have h0 : (y 0).val < 1 := (y 0).isLt
  refine (host1 m c (((cfg0.win 1).blk t).view.emb y)).trans (congr (congr (congrArg (B m c) ?_) ?_) ?_)
  · show win0_1.index t (0 : Fin 3) * 1 + 1 * (y 0).val = _; rw [e0]; omega
  · show win0_1.index t (1 : Fin 3) * 1024 + 1 * (y 1).val = _; rw [e1]; omega
  · show win0_1.index t (2 : Fin 3) * 1024 + 1 * (y 2).val = _; rw [e2]; omega

/-- What the body adds at a grid point. -/
theorem step (n : ℕ) (h : n < cfg0.N) (acc : S1408x1024.Idx → EReal) (y : S1408x1024.Idx) :
    (step2 (F := Ideal) m c n h acc y : EReal) = acc y + part (A m c) (B m c) 1 1 1408 1024 n (y 0).val (y 1).val := by
  unfold step2 k0_pay2
  simp only [shapeCast_self]
  refine (add_product dot_S1024x1408_S1024x1024_S1408x1024_0_0_1_1_n_n ⟨rfl, rfl, rfl, rfl, rfl, rfl⟩ rfl rfl acc _ _ (iblk m c 1 ⟨n, h⟩) (shapeCast_1ab_ab_apply _ _) y).trans
    (congrArg (fun z : EReal => acc y + z) (Finset.sum_congr rfl fun k _ => ?_))
  exact mul_eq (blk0 m c ⟨n, h⟩ (ix2 k (y 0))) (blk1 m c ⟨n, h⟩ (ix3 0 k (y 1)))

/-- The kernel's result. -/
theorem result (i : S2816x1024.Idx) : (G2 m c : S2816x1024.Idx → EReal) i
    = ∑ k : Fin 8192, A m c k.val (i 0).val * B m c ((i 1).val / 1024) k.val ((i 1).val % 1024) := by
  have h0 : (i 0).val < 2816 := (i 0).isLt
  have h1 : (i 1).val < 1024 := (i 1).isLt
  have e : run2Of i = 1 * ((i 0).val / 1408 - 0) + 1 * ((i 1).val / 1024 - 0) := rfl
  have hr : 8 * run2Of i + 7 < cfg0.N := by rw [show cfg0.N = 16 from N_0, e]; omega
  unfold G2
  rw [dif_pos hr]
  exact (fold (reset2 (F := Ideal) m c) (step2 (F := Ideal) m c) (k0_pay1 (F := Ideal)) _ (fun _ => Ideal.ofBits_zero_f32) (fun _ _ => rfl)
    (step m c) _ hr (loc2Of i)).trans (parts (A m c) (B m c) 1 1 1408 1024 (run2Of i) _ _ (by rw [e]; omega) (by rw [e]; omega))

/-- The reference's result. -/
theorem ref (i : S2816x1024.Idx) : (DownGradRefIdeal.Read.val_main_v3 (F := Ideal) (arg0 m c) (arg1 m c) i : EReal)
    = ∑ k : Fin 8192, A m c k.val (i 0).val * B m c ((i 1).val / 1024) k.val ((i 1).val % 1024) := by
  have h1 : (i 1).val < 1024 := (i 1).isLt
  rw [DownGradRefIdeal.Read.val_main_v3_apply, DownGradRefIdeal.Read.val_main_v2_apply]
  refine Finset.sum_congr rfl fun k _ => ?_
  have hk : k.val < 8192 := k.isLt
  rw [mul_comm]
  exact mul_eq (gat2_eq (arg0 m c) _ rfl rfl) (gat2_eq (arg1 m c) _ rfl (by
    show (i 1).val = (i 1).val % 1024; omega))

theorem algebraic : Cert.algebraic_DownGradIdeal_DownGradRefIdeal := by
  intro m ρ m' ρ' hpre hagree
  refine ⟨_, Cert.DownGradIdeal.Value.run (F := Ideal) m ρ, ?_⟩
  refine (θ_run DownGradRefIdeal.defs _ _).mono (fun _ h c => ?_) (DownGradRefIdeal.Value.run (F := Ideal) m' ρ')
  obtain ⟨g0, g1⟩ := hagree c
  refine ⟨(h c).1.trans ?_, (h c).2⟩
  refine (DownGradRefIdeal.Read.val_main_v3_eq (F := Ideal) _ _).trans ?_
  rw [g0, g1]
  exact funext fun i => (ref m c i).trans (result m c i).symm

end Cert.Proof.Prod.DownGrad

end
-- ==== Proof.InGrad.lean ====
/- The gradient of the mixer's first matrix. -/
module

public import proofs.«01_k».proof.Proof.ProdSum
public import proofs.«01_k».proof.Proof.Gen.InGrad.Frame
public import proofs.«01_k».proof.Proof.Gen.InGradIdeal.Value
public import proofs.«01_k».proof.Proof.Gen.InGradRefIdeal.Run
public import proofs.«01_k».proof.Proof.Gen.InGradRefIdeal.Read

@[expose] public section

set_option maxRecDepth 16384

noncomputable section

namespace Cert.Proof.Prod.InGrad

open Idealize.ShloMosaic TcCoe ValueIdx StableHlo Idealize.SL.Sem Cert.InGradIdeal Cert.InGradIdeal.Gen Cert.InGradIdeal.Value

theorem frame_p : Cert.quiescent_InGrad := fun m ρ _ => InGrad.Gen.frame m ρ
theorem frame_pi : Cert.quiescent_InGradIdeal := fun m ρ _ => InGradIdeal.Gen.frame m ρ
theorem frame_ri : Cert.quiescent_InGradRefIdeal := fun m ρ _ =>
  (θ_run InGradRefIdeal.defs _ _).mono (fun r h => ⟨fun c => (h c).2, sem_eq_zero_of_no_sems (by decide) r.2⟩)
    (InGradRefIdeal.Value.run (F := Ideal) m ρ)

variable (m : (ℓ : Loc nD τ sig) → Buf (Elt Ideal) ℓ) (c : Dev nD)

/-- The arguments, whole and at coordinates. -/
abbrev arg0 : S8192x1024.Idx → EReal := m ((c.tc : Thread nD τ).loc main_arg0)
abbrev arg1 : S3x8192x1024.Idx → EReal := m ((c.tc : Thread nD τ).loc main_arg1)
def A (k i : ℕ) : EReal := gat2 (arg0 m c) k i
def B (p k j : ℕ) : EReal := gat3 (arg1 m c) p k j

theorem host0 (y : S8192x1024.Idx) : (V m c main_v0 : S8192x1024.Idx → EReal) y = A m c (y 0).val (y 1).val := by
  have e : V m c main_v0 = truncf (F := Ideal) .bf16 (arg0 m c) bitsLt_bf16_f32 := by
    unfold V
    after_results
  rw [e]
  exact gat2_eq (arg0 m c) y rfl rfl
theorem host1 (y : S3x8192x1024.Idx) : (V m c main_v1 : S3x8192x1024.Idx → EReal) y = B m c (y 0).val (y 1).val (y 2).val := by
  have e : V m c main_v1 = truncf (F := Ideal) .bf16 (arg1 m c) bitsLt_bf16_f32 := by
    unfold V
    after_results
  rw [e]
  exact gat3_eq (arg1 m c) y rfl rfl rfl

theorem at0 : ∀ t : Fin cfg0.N, win0_0.index t (0 : Fin 2) = t.val % 8 ∧ win0_0.index t (1 : Fin 2) = t.val / 8 / 3 :=
  (by decide +kernel : ∀ t : Fin grid0.N, _)
theorem at1 : ∀ t : Fin cfg0.N, win0_1.index t (0 : Fin 3) = t.val / 8 % 3 / 1 ∧ win0_1.index t (1 : Fin 3) = t.val % 8
    ∧ win0_1.index t (2 : Fin 3) = t.val / 8 % 3 % 1 :=
  (by decide +kernel : ∀ t : Fin grid0.N, _)

/-- The blocks of a grid point, in the arguments. -/
theorem blk0 (t : Fin cfg0.N) (y : S1024x1024.Idx) : (iblk m c 0 t : S1024x1024.Idx → EReal) y
    = A m c (1024 * (t.val % 8) + (y 0).val) (1024 * (t.val / 8 / 3) + (y 1).val) := by
  obtain ⟨e0, e1⟩ := at0 t
  refine (host0 m c (((cfg0.win 0).blk t).view.emb y)).trans (congr (congrArg (A m c) ?_) ?_)
  · show win0_0.index t (0 : Fin 2) * 1024 + 1 * (y 0).val = _; rw [e0]; omega
  · show win0_0.index t (1 : Fin 2) * 1024 + 1 * (y 1).val = _; rw [e1]; omega
theorem blk1 (t : Fin cfg0.N) (y : S1x1024x1024.Idx) : (iblk m c 1 t : S1x1024x1024.Idx → EReal) y
    = B m c (t.val / 8 % 3 / 1) (1024 * (t.val % 8) + (y 1).val) (1024 * (t.val / 8 % 3 % 1) + (y 2).val) := by
  obtain ⟨e0, e1, e2⟩ := at1 t
  have h0 : (y 0).val < 1 := (y 0).isLt
  refine (host1 m c (((cfg0.win 1).blk t).view.emb y)).trans (congr (congr (congrArg (B m c) ?_) ?_) ?_)
  · show win0_1.index t (0 : Fin 3) * 1 + 1 * (y 0).val = _; rw [e0]; omega
  · show win0_1.index t (1 : Fin 3) * 1024 + 1 * (y 1).val = _; rw [e1]; omega
  · show win0_1.index t (2 : Fin 3) * 1024 + 1 * (y 2).val = _; rw [e2]; omega

/-- What the body adds at a grid point. -/
theorem step (n : ℕ) (h : n < cfg0.N) (acc : S1024x1024.Idx → EReal) (y : S1024x1024.Idx) :
    (step2 (F := Ideal) m c n h acc y : EReal) = acc y + part (A m c) (B m c) 3 1 1024 1024 n (y 0).val (y 1).val := by
  unfold step2 k0_pay2
  simp only [shapeCast_self]
  refine (add_product dot_S1024x1024_S1024x1024_S1024x1024_0_0_1_1_n_n ⟨rfl, rfl, rfl, rfl, rfl, rfl⟩ rfl rfl acc _ _ (iblk m c 1 ⟨n, h⟩) (shapeCast_1ab_ab_apply _ _) y).trans
    (congrArg (fun z : EReal => acc y + z) (Finset.sum_congr rfl fun k _ => ?_))
  exact mul_eq (blk0 m c ⟨n, h⟩ (ix2 k (y 0))) (blk1 m c ⟨n, h⟩ (ix3 0 k (y 1)))

/-- The kernel's result. -/
theorem result (i : S1024x3072.Idx) : (G2 m c : S1024x3072.Idx → EReal) i
    = ∑ k : Fin 8192, A m c k.val (i 0).val * B m c ((i 1).val / 1024) k.val ((i 1).val % 1024) := by
  have h0 : (i 0).val < 1024 := (i 0).isLt
  have h1 : (i 1).val < 3072 := (i 1).isLt
  have e : run2Of i = 3 * ((i 0).val / 1024 - 0) + 1 * ((i 1).val / 1024 - 0) := rfl
  have hr : 8 * run2Of i + 7 < cfg0.N := by rw [show cfg0.N = 24 from N_0, e]; omega
  unfold G2
  rw [dif_pos hr]
  exact (fold (reset2 (F := Ideal) m c) (step2 (F := Ideal) m c) (k0_pay1 (F := Ideal)) _ (fun _ => Ideal.ofBits_zero_f32) (fun _ _ => rfl)
    (step m c) _ hr (loc2Of i)).trans (parts (A m c) (B m c) 3 1 1024 1024 (run2Of i) _ _ (by rw [e]; omega) (by rw [e]; omega))

/-- The reference's result. -/
theorem ref (i : S1024x3072.Idx) : (InGradRefIdeal.Read.val_main_v5 (F := Ideal) (arg0 m c) (arg1 m c) i : EReal)
    = ∑ k : Fin 8192, A m c k.val (i 0).val * B m c ((i 1).val / 1024) k.val ((i 1).val % 1024) := by
  have h1 : (i 1).val < 3072 := (i 1).isLt
  rw [InGradRefIdeal.Read.val_main_v5_apply, InGradRefIdeal.Read.val_main_v4_apply]
  refine Finset.sum_congr rfl fun k _ => ?_
  have hk : k.val < 8192 := k.isLt
  rw [InGradRefIdeal.Read.val_main_v1_apply, InGradRefIdeal.Read.val_main_v0_apply, mul_comm]
  refine mul_eq (gat2_eq (arg0 m c) _ rfl rfl) (gat3_eq (arg1 m c) _ ?_ ?_ ?_)
  · show (k.val * 3072 + (i 1).val) / 1024 % 3 = (i 1).val / 1024; omega
  · show (k.val * 3072 + (i 1).val) / 3072 = k.val; omega
  · show (k.val * 3072 + (i 1).val) % 1024 = (i 1).val % 1024; omega

theorem algebraic : Cert.algebraic_InGradIdeal_InGradRefIdeal := by
  intro m ρ m' ρ' hpre hagree
  refine ⟨_, Cert.InGradIdeal.Value.run (F := Ideal) m ρ, ?_⟩
  refine (θ_run InGradRefIdeal.defs _ _).mono (fun _ h c => ?_) (InGradRefIdeal.Value.run (F := Ideal) m' ρ')
  obtain ⟨g0, g1⟩ := hagree c
  refine ⟨(h c).1.trans ?_, (h c).2⟩
  refine (InGradRefIdeal.Read.val_main_v5_eq (F := Ideal) _ _).trans ?_
  rw [g0, g1]
  exact funext fun i => (ref m c i).trans (result m c i).symm

end Cert.Proof.Prod.InGrad

end
-- ==== Proof.OutGrad.lean ====
/- The gradient of the output matrices of mixer and attention. -/
module

public import proofs.«01_k».proof.Proof.ProdSum
public import proofs.«01_k».proof.Proof.Gen.OutGrad.Frame
public import proofs.«01_k».proof.Proof.Gen.OutGradIdeal.Value
public import proofs.«01_k».proof.Proof.Gen.OutGradRefIdeal.Run
public import proofs.«01_k».proof.Proof.Gen.OutGradRefIdeal.Read

@[expose] public section

set_option maxRecDepth 16384

noncomputable section

namespace Cert.Proof.Prod.OutGrad

open Idealize.ShloMosaic TcCoe ValueIdx StableHlo Idealize.SL.Sem Cert.OutGradIdeal Cert.OutGradIdeal.Gen Cert.OutGradIdeal.Value

theorem frame_p : Cert.quiescent_OutGrad := fun m ρ _ => OutGrad.Gen.frame m ρ
theorem frame_pi : Cert.quiescent_OutGradIdeal := fun m ρ _ => OutGradIdeal.Gen.frame m ρ
theorem frame_ri : Cert.quiescent_OutGradRefIdeal := fun m ρ _ =>
  (θ_run OutGradRefIdeal.defs _ _).mono (fun r h => ⟨fun c => (h c).2, sem_eq_zero_of_no_sems (by decide) r.2⟩)
    (OutGradRefIdeal.Value.run (F := Ideal) m ρ)

variable (m : (ℓ : Loc nD τ sig) → Buf (Elt Ideal) ℓ) (c : Dev nD)

/-- The arguments, whole and at coordinates. -/
abbrev arg0 : S8192x1024.Idx → EReal := m ((c.tc : Thread nD τ).loc main_arg0)
abbrev arg1 : S8192x1024.Idx → EReal := m ((c.tc : Thread nD τ).loc main_arg1)
def A (k i : ℕ) : EReal := gat2 (arg0 m c) k i
def B (_ k j : ℕ) : EReal := gat2 (arg1 m c) k j

theorem host0 (y : S8192x1024.Idx) : (V m c main_v0 : S8192x1024.Idx → EReal) y = A m c (y 0).val (y 1).val := by
  have e : V m c main_v0 = truncf (F := Ideal) .bf16 (arg0 m c) bitsLt_bf16_f32 := by
    unfold V
    after_results
  rw [e]
  exact gat2_eq (arg0 m c) y rfl rfl
theorem host1 (y : S1x8192x1024.Idx) : (V m c main_v1 : S1x8192x1024.Idx → EReal) y = B m c (y 0).val (y 1).val (y 2).val := by
  have e : V m c main_v1 = broadcastInDim S1x8192x1024 ![1, 2] bcast_S8192x1024_S1x8192x1024_1_2 (arg1 m c) := by
    unfold V
    after_results
  rw [e]
  exact stacked (arg1 m c) _ y

theorem at0 : ∀ t : Fin cfg0.N, win0_0.index t (0 : Fin 2) = t.val % 8 ∧ win0_0.index t (1 : Fin 2) = t.val / 8 / 1 :=
  (by decide +kernel : ∀ t : Fin grid0.N, _)
theorem at1 : ∀ t : Fin cfg0.N, win0_1.index t (0 : Fin 3) = t.val / 8 % 1 / 1 ∧ win0_1.index t (1 : Fin 3) = t.val % 8
    ∧ win0_1.index t (2 : Fin 3) = t.val / 8 % 1 % 1 :=
  (by decide +kernel : ∀ t : Fin grid0.N, _)

/-- The blocks of a grid point, in the arguments. -/
theorem blk0 (t : Fin cfg0.N) (y : S1024x1024.Idx) : (iblk m c 0 t : S1024x1024.Idx → EReal) y
    = A m c (1024 * (t.val % 8) + (y 0).val) (1024 * (t.val / 8 / 1) + (y 1).val) := by
  obtain ⟨e0, e1⟩ := at0 t
  refine (host0 m c (((cfg0.win 0).blk t).view.emb y)).trans (congr (congrArg (A m c) ?_) ?_)
  · show win0_0.index t (0 : Fin 2) * 1024 + 1 * (y 0).val = _; rw [e0]; omega
  · show win0_0.index t (1 : Fin 2) * 1024 + 1 * (y 1).val = _; rw [e1]; omega
theorem blk1 (t : Fin cfg0.N) (y : S1x1024x1024.Idx) : (iblk m c 1 t : S1x1024x1024.Idx → EReal) y
    = B m c (t.val / 8 % 1 / 1) (1024 * (t.val % 8) + (y 1).val) (1024 * (t.val / 8 % 1 % 1) + (y 2).val) := by
  obtain ⟨e0, e1, e2⟩ := at1 t
  have h0 : (y 0).val < 1 := (y 0).isLt
  refine (host1 m c (((cfg0.win 1).blk t).view.emb y)).trans (congr (congr (congrArg (B m c) ?_) ?_) ?_)
  · show win0_1.index t (0 : Fin 3) * 1 + 1 * (y 0).val = _; rw [e0]; omega
  · show win0_1.index t (1 : Fin 3) * 1024 + 1 * (y 1).val = _; rw [e1]; omega
  · show win0_1.index t (2 : Fin 3) * 1024 + 1 * (y 2).val = _; rw [e2]; omega

/-- What the body adds at a grid point. -/
theorem step (n : ℕ) (h : n < cfg0.N) (acc : S1024x1024.Idx → EReal) (y : S1024x1024.Idx) :
    (step2 (F := Ideal) m c n h acc y : EReal) = acc y + part (A m c) (B m c) 1 1 1024 1024 n (y 0).val (y 1).val := by
  unfold step2 k0_pay2
  simp only [shapeCast_self]
  refine (add_product dot_S1024x1024_S1024x1024_S1024x1024_0_0_1_1_n_n ⟨rfl, rfl, rfl, rfl, rfl, rfl⟩ rfl rfl acc _ _ (iblk m c 1 ⟨n, h⟩) (shapeCast_1ab_ab_apply _ _) y).trans
    (congrArg (fun z : EReal => acc y + z) (Finset.sum_congr rfl fun k _ => ?_))
  exact mul_eq (blk0 m c ⟨n, h⟩ (ix2 k (y 0))) (blk1 m c ⟨n, h⟩ (ix3 0 k (y 1)))

/-- The kernel's result. -/
theorem result (i : S1024x1024.Idx) : (G2 m c : S1024x1024.Idx → EReal) i
    = ∑ k : Fin 8192, A m c k.val (i 0).val * B m c ((i 1).val / 1024) k.val ((i 1).val % 1024) := by
  have h0 : (i 0).val < 1024 := (i 0).isLt
  have h1 : (i 1).val < 1024 := (i 1).isLt
  have e : run2Of i = 1 * ((i 0).val / 1024 - 0) + 1 * ((i 1).val / 1024 - 0) := rfl
  have hr : 8 * run2Of i + 7 < cfg0.N := by rw [show cfg0.N = 8 from N_0, e]; omega
  unfold G2
  rw [dif_pos hr]
  exact (fold (reset2 (F := Ideal) m c) (step2 (F := Ideal) m c) (k0_pay1 (F := Ideal)) _ (fun _ => Ideal.ofBits_zero_f32) (fun _ _ => rfl)
    (step m c) _ hr (loc2Of i)).trans (parts (A m c) (B m c) 1 1 1024 1024 (run2Of i) _ _ (by rw [e]; omega) (by rw [e]; omega))

/-- The reference's result. -/
theorem ref (i : S1024x1024.Idx) : (OutGradRefIdeal.Read.val_main_v3 (F := Ideal) (arg0 m c) (arg1 m c) i : EReal)
    = ∑ k : Fin 8192, A m c k.val (i 0).val * B m c ((i 1).val / 1024) k.val ((i 1).val % 1024) := by
  have h1 : (i 1).val < 1024 := (i 1).isLt
  rw [OutGradRefIdeal.Read.val_main_v3_apply, OutGradRefIdeal.Read.val_main_v2_apply]
  refine Finset.sum_congr rfl fun k _ => ?_
  have hk : k.val < 8192 := k.isLt
  rw [mul_comm]
  exact mul_eq (gat2_eq (arg0 m c) _ rfl rfl) (gat2_eq (arg1 m c) _ rfl (by
    show (i 1).val = (i 1).val % 1024; omega))

theorem algebraic : Cert.algebraic_OutGradIdeal_OutGradRefIdeal := by
  intro m ρ m' ρ' hpre hagree
  refine ⟨_, Cert.OutGradIdeal.Value.run (F := Ideal) m ρ, ?_⟩
  refine (θ_run OutGradRefIdeal.defs _ _).mono (fun _ h c => ?_) (OutGradRefIdeal.Value.run (F := Ideal) m' ρ')
  obtain ⟨g0, g1⟩ := hagree c
  refine ⟨(h c).1.trans ?_, (h c).2⟩
  refine (OutGradRefIdeal.Read.val_main_v3_eq (F := Ideal) _ _).trans ?_
  rw [g0, g1]
  exact funext fun i => (ref m c i).trans (result m c i).symm

end Cert.Proof.Prod.OutGrad

end
-- ==== Proof.QgGrad.lean ====
/- The gradient of the query and gate matrix. -/
module

public import proofs.«01_k».proof.Proof.ProdSum
public import proofs.«01_k».proof.Proof.Gen.QgGrad.Frame
public import proofs.«01_k».proof.Proof.Gen.QgGradIdeal.Value
public import proofs.«01_k».proof.Proof.Gen.QgGradRefIdeal.Run
public import proofs.«01_k».proof.Proof.Gen.QgGradRefIdeal.Read

@[expose] public section

set_option maxRecDepth 16384

noncomputable section

namespace Cert.Proof.Prod.QgGrad

open Idealize.ShloMosaic TcCoe ValueIdx StableHlo Idealize.SL.Sem Cert.QgGradIdeal Cert.QgGradIdeal.Gen Cert.QgGradIdeal.Value

theorem frame_p : Cert.quiescent_QgGrad := fun m ρ _ => QgGrad.Gen.frame m ρ
theorem frame_pi : Cert.quiescent_QgGradIdeal := fun m ρ _ => QgGradIdeal.Gen.frame m ρ
theorem frame_ri : Cert.quiescent_QgGradRefIdeal := fun m ρ _ =>
  (θ_run QgGradRefIdeal.defs _ _).mono (fun r h => ⟨fun c => (h c).2, sem_eq_zero_of_no_sems (by decide) r.2⟩)
    (QgGradRefIdeal.Value.run (F := Ideal) m ρ)

variable (m : (ℓ : Loc nD τ sig) → Buf (Elt Ideal) ℓ) (c : Dev nD)

/-- The arguments, whole and at coordinates. -/
abbrev arg0 : S8192x1024.Idx → EReal := m ((c.tc : Thread nD τ).loc main_arg0)
abbrev arg1 : S2x8192x1024.Idx → EReal := m ((c.tc : Thread nD τ).loc main_arg1)
def A (k i : ℕ) : EReal := gat2 (arg0 m c) k i
def B (p k j : ℕ) : EReal := gat3 (arg1 m c) p k j

theorem host0 (y : S8192x1024.Idx) : (V m c main_v0 : S8192x1024.Idx → EReal) y = A m c (y 0).val (y 1).val := by
  have e : V m c main_v0 = truncf (F := Ideal) .bf16 (arg0 m c) bitsLt_bf16_f32 := by
    unfold V
    after_results
  rw [e]
  exact gat2_eq (arg0 m c) y rfl rfl
theorem host1 (y : S2x8192x1024.Idx) : (V m c main_v1 : S2x8192x1024.Idx → EReal) y = B m c (y 0).val (y 1).val (y 2).val := by
  have e : V m c main_v1 = truncf (F := Ideal) .bf16 (arg1 m c) bitsLt_bf16_f32 := by
    unfold V
    after_results
  rw [e]
  exact gat3_eq (arg1 m c) y rfl rfl rfl

theorem at0 : ∀ t : Fin cfg0.N, win0_0.index t (0 : Fin 2) = t.val % 8 ∧ win0_0.index t (1 : Fin 2) = t.val / 8 / 2 :=
  (by decide +kernel : ∀ t : Fin grid0.N, _)
theorem at1 : ∀ t : Fin cfg0.N, win0_1.index t (0 : Fin 3) = t.val / 8 % 2 / 1 ∧ win0_1.index t (1 : Fin 3) = t.val % 8
    ∧ win0_1.index t (2 : Fin 3) = t.val / 8 % 2 % 1 :=
  (by decide +kernel : ∀ t : Fin grid0.N, _)

/-- The blocks of a grid point, in the arguments. -/
theorem blk0 (t : Fin cfg0.N) (y : S1024x1024.Idx) : (iblk m c 0 t : S1024x1024.Idx → EReal) y
    = A m c (1024 * (t.val % 8) + (y 0).val) (1024 * (t.val / 8 / 2) + (y 1).val) := by
  obtain ⟨e0, e1⟩ := at0 t
  refine (host0 m c (((cfg0.win 0).blk t).view.emb y)).trans (congr (congrArg (A m c) ?_) ?_)
  · show win0_0.index t (0 : Fin 2) * 1024 + 1 * (y 0).val = _; rw [e0]; omega
  · show win0_0.index t (1 : Fin 2) * 1024 + 1 * (y 1).val = _; rw [e1]; omega
theorem blk1 (t : Fin cfg0.N) (y : S1x1024x1024.Idx) : (iblk m c 1 t : S1x1024x1024.Idx → EReal) y
    = B m c (t.val / 8 % 2 / 1) (1024 * (t.val % 8) + (y 1).val) (1024 * (t.val / 8 % 2 % 1) + (y 2).val) := by
  obtain ⟨e0, e1, e2⟩ := at1 t
  have h0 : (y 0).val < 1 := (y 0).isLt
  refine (host1 m c (((cfg0.win 1).blk t).view.emb y)).trans (congr (congr (congrArg (B m c) ?_) ?_) ?_)
  · show win0_1.index t (0 : Fin 3) * 1 + 1 * (y 0).val = _; rw [e0]; omega
  · show win0_1.index t (1 : Fin 3) * 1024 + 1 * (y 1).val = _; rw [e1]; omega
  · show win0_1.index t (2 : Fin 3) * 1024 + 1 * (y 2).val = _; rw [e2]; omega

/-- What the body adds at a grid point. -/
theorem step (n : ℕ) (h : n < cfg0.N) (acc : S1024x1024.Idx → EReal) (y : S1024x1024.Idx) :
    (step2 (F := Ideal) m c n h acc y : EReal) = acc y + part (A m c) (B m c) 2 1 1024 1024 n (y 0).val (y 1).val := by
  unfold step2 k0_pay2
  simp only [shapeCast_self]
  refine (add_product dot_S1024x1024_S1024x1024_S1024x1024_0_0_1_1_n_n ⟨rfl, rfl, rfl, rfl, rfl, rfl⟩ rfl rfl acc _ _ (iblk m c 1 ⟨n, h⟩) (shapeCast_1ab_ab_apply _ _) y).trans
    (congrArg (fun z : EReal => acc y + z) (Finset.sum_congr rfl fun k _ => ?_))
  exact mul_eq (blk0 m c ⟨n, h⟩ (ix2 k (y 0))) (blk1 m c ⟨n, h⟩ (ix3 0 k (y 1)))

/-- The kernel's result. -/
theorem result (i : S1024x2048.Idx) : (G2 m c : S1024x2048.Idx → EReal) i
    = ∑ k : Fin 8192, A m c k.val (i 0).val * B m c ((i 1).val / 1024) k.val ((i 1).val % 1024) := by
  have h0 : (i 0).val < 1024 := (i 0).isLt
  have h1 : (i 1).val < 2048 := (i 1).isLt
  have e : run2Of i = 2 * ((i 0).val / 1024 - 0) + 1 * ((i 1).val / 1024 - 0) := rfl
  have hr : 8 * run2Of i + 7 < cfg0.N := by rw [show cfg0.N = 16 from N_0, e]; omega
  unfold G2
  rw [dif_pos hr]
  exact (fold (reset2 (F := Ideal) m c) (step2 (F := Ideal) m c) (k0_pay1 (F := Ideal)) _ (fun _ => Ideal.ofBits_zero_f32) (fun _ _ => rfl)
    (step m c) _ hr (loc2Of i)).trans (parts (A m c) (B m c) 2 1 1024 1024 (run2Of i) _ _ (by rw [e]; omega) (by rw [e]; omega))

/-- The reference's result. -/
theorem ref (i : S1024x2048.Idx) : (QgGradRefIdeal.Read.val_main_v5 (F := Ideal) (arg0 m c) (arg1 m c) i : EReal)
    = ∑ k : Fin 8192, A m c k.val (i 0).val * B m c ((i 1).val / 1024) k.val ((i 1).val % 1024) := by
  have h1 : (i 1).val < 2048 := (i 1).isLt
  rw [QgGradRefIdeal.Read.val_main_v5_apply, QgGradRefIdeal.Read.val_main_v4_apply]
  refine Finset.sum_congr rfl fun k _ => ?_
  have hk : k.val < 8192 := k.isLt
  rw [QgGradRefIdeal.Read.val_main_v1_apply, QgGradRefIdeal.Read.val_main_v0_apply, mul_comm]
  refine mul_eq (gat2_eq (arg0 m c) _ rfl rfl) (gat3_eq (arg1 m c) _ ?_ ?_ ?_)
  · show (k.val * 2048 + (i 1).val) / 1024 % 2 = (i 1).val / 1024; omega
  · show (k.val * 2048 + (i 1).val) / 2048 = k.val; omega
  · show (k.val * 2048 + (i 1).val) % 1024 = (i 1).val % 1024; omega

theorem algebraic : Cert.algebraic_QgGradIdeal_QgGradRefIdeal := by
  intro m ρ m' ρ' hpre hagree
  refine ⟨_, Cert.QgGradIdeal.Value.run (F := Ideal) m ρ, ?_⟩
  refine (θ_run QgGradRefIdeal.defs _ _).mono (fun _ h c => ?_) (QgGradRefIdeal.Value.run (F := Ideal) m' ρ')
  obtain ⟨g0, g1⟩ := hagree c
  refine ⟨(h c).1.trans ?_, (h c).2⟩
  refine (QgGradRefIdeal.Read.val_main_v5_eq (F := Ideal) _ _).trans ?_
  rw [g0, g1]
  exact funext fun i => (ref m c i).trans (result m c i).symm

end Cert.Proof.Prod.QgGrad

end
-- ==== Proof.KvfGrad.lean ====
/- The gradient of the key, value and forget-gate matrix. -/
module

public import proofs.«01_k».proof.Proof.ProdSum
public import proofs.«01_k».proof.Proof.Gen.KvfGrad.Frame
public import proofs.«01_k».proof.Proof.Gen.KvfGradIdeal.Value
public import proofs.«01_k».proof.Proof.Gen.KvfGradRefIdeal.Run
public import proofs.«01_k».proof.Proof.Gen.KvfGradRefIdeal.Read

@[expose] public section

set_option maxRecDepth 16384

noncomputable section

namespace Cert.Proof.Prod.KvfGrad

open Idealize.ShloMosaic TcCoe ValueIdx StableHlo Idealize.SL.Sem Cert.KvfGradIdeal Cert.KvfGradIdeal.Gen Cert.KvfGradIdeal.Value

theorem frame_p : Cert.quiescent_KvfGrad := fun m ρ _ => KvfGrad.Gen.frame m ρ
theorem frame_pi : Cert.quiescent_KvfGradIdeal := fun m ρ _ => KvfGradIdeal.Gen.frame m ρ
theorem frame_ri : Cert.quiescent_KvfGradRefIdeal := fun m ρ _ =>
  (θ_run KvfGradRefIdeal.defs _ _).mono (fun r h => ⟨fun c => (h c).2, sem_eq_zero_of_no_sems (by decide) r.2⟩)
    (KvfGradRefIdeal.Value.run (F := Ideal) m ρ)

variable (m : (ℓ : Loc nD τ sig) → Buf (Elt Ideal) ℓ) (c : Dev nD)

/-- The arguments, whole and at coordinates. -/
abbrev arg0 : S8192x1024.Idx → EReal := m ((c.tc : Thread nD τ).loc main_arg0)
abbrev arg1 : S1x8192x2176.Idx → EReal := m ((c.tc : Thread nD τ).loc main_arg1)
def A (k i : ℕ) : EReal := gat2 (arg0 m c) k i
def B (p k j : ℕ) : EReal := gat3 (arg1 m c) p k j

theorem host0 (y : S8192x1024.Idx) : (V m c main_v0 : S8192x1024.Idx → EReal) y = A m c (y 0).val (y 1).val := by
  have e : V m c main_v0 = truncf (F := Ideal) .bf16 (arg0 m c) bitsLt_bf16_f32 := by
    unfold V
    after_results
  rw [e]
  exact gat2_eq (arg0 m c) y rfl rfl
theorem host1 (y : S1x8192x2176.Idx) : (V m c main_v1 : S1x8192x2176.Idx → EReal) y = B m c (y 0).val (y 1).val (y 2).val := by
  have e : V m c main_v1 = truncf (F := Ideal) .bf16 (arg1 m c) bitsLt_bf16_f32 := by
    unfold V
    after_results
  rw [e]
  exact gat3_eq (arg1 m c) y rfl rfl rfl

theorem at0 : ∀ t : Fin cfg0.N, win0_0.index t (0 : Fin 2) = t.val % 8 ∧ win0_0.index t (1 : Fin 2) = t.val / 8 / 1 :=
  (by decide +kernel : ∀ t : Fin grid0.N, _)
theorem at1 : ∀ t : Fin cfg0.N, win0_1.index t (0 : Fin 3) = t.val / 8 % 1 / 1 ∧ win0_1.index t (1 : Fin 3) = t.val % 8
    ∧ win0_1.index t (2 : Fin 3) = t.val / 8 % 1 % 1 :=
  (by decide +kernel : ∀ t : Fin grid0.N, _)

/-- The blocks of a grid point, in the arguments. -/
theorem blk0 (t : Fin cfg0.N) (y : S1024x1024.Idx) : (iblk m c 0 t : S1024x1024.Idx → EReal) y
    = A m c (1024 * (t.val % 8) + (y 0).val) (1024 * (t.val / 8 / 1) + (y 1).val) := by
  obtain ⟨e0, e1⟩ := at0 t
  refine (host0 m c (((cfg0.win 0).blk t).view.emb y)).trans (congr (congrArg (A m c) ?_) ?_)
  · show win0_0.index t (0 : Fin 2) * 1024 + 1 * (y 0).val = _; rw [e0]; omega
  · show win0_0.index t (1 : Fin 2) * 1024 + 1 * (y 1).val = _; rw [e1]; omega
theorem blk1 (t : Fin cfg0.N) (y : S1x1024x2176.Idx) : (iblk m c 1 t : S1x1024x2176.Idx → EReal) y
    = B m c (t.val / 8 % 1 / 1) (1024 * (t.val % 8) + (y 1).val) (2176 * (t.val / 8 % 1 % 1) + (y 2).val) := by
  obtain ⟨e0, e1, e2⟩ := at1 t
  have h0 : (y 0).val < 1 := (y 0).isLt
  refine (host1 m c (((cfg0.win 1).blk t).view.emb y)).trans (congr (congr (congrArg (B m c) ?_) ?_) ?_)
  · show win0_1.index t (0 : Fin 3) * 1 + 1 * (y 0).val = _; rw [e0]; omega
  · show win0_1.index t (1 : Fin 3) * 1024 + 1 * (y 1).val = _; rw [e1]; omega
  · show win0_1.index t (2 : Fin 3) * 2176 + 1 * (y 2).val = _; rw [e2]; omega

/-- What the body adds at a grid point. -/
theorem step (n : ℕ) (h : n < cfg0.N) (acc : S1024x2176.Idx → EReal) (y : S1024x2176.Idx) :
    (step2 (F := Ideal) m c n h acc y : EReal) = acc y + part (A m c) (B m c) 1 1 1024 2176 n (y 0).val (y 1).val := by
  unfold step2 k0_pay2
  simp only [shapeCast_self]
  refine (add_product dot_S1024x1024_S1024x2176_S1024x2176_0_0_1_1_n_n ⟨rfl, rfl, rfl, rfl, rfl, rfl⟩ rfl rfl acc _ _ (iblk m c 1 ⟨n, h⟩) (shapeCast_1ab_ab_apply _ _) y).trans
    (congrArg (fun z : EReal => acc y + z) (Finset.sum_congr rfl fun k _ => ?_))
  exact mul_eq (blk0 m c ⟨n, h⟩ (ix2 k (y 0))) (blk1 m c ⟨n, h⟩ (ix3 0 k (y 1)))

/-- The kernel's result. -/
theorem result (i : S1024x2176.Idx) : (G2 m c : S1024x2176.Idx → EReal) i
    = ∑ k : Fin 8192, A m c k.val (i 0).val * B m c ((i 1).val / 2176) k.val ((i 1).val % 2176) := by
  have h0 : (i 0).val < 1024 := (i 0).isLt
  have h1 : (i 1).val < 2176 := (i 1).isLt
  have e : run2Of i = 1 * ((i 0).val / 1024 - 0) + 1 * ((i 1).val / 2176 - 0) := rfl
  have hr : 8 * run2Of i + 7 < cfg0.N := by rw [show cfg0.N = 8 from N_0, e]; omega
  unfold G2
  rw [dif_pos hr]
  exact (fold (reset2 (F := Ideal) m c) (step2 (F := Ideal) m c) (k0_pay1 (F := Ideal)) _ (fun _ => Ideal.ofBits_zero_f32) (fun _ _ => rfl)
    (step m c) _ hr (loc2Of i)).trans (parts (A m c) (B m c) 1 1 1024 2176 (run2Of i) _ _ (by rw [e]; omega) (by rw [e]; omega))

/-- The reference's result. -/
theorem ref (i : S1024x2176.Idx) : (KvfGradRefIdeal.Read.val_main_v5 (F := Ideal) (arg0 m c) (arg1 m c) i : EReal)
    = ∑ k : Fin 8192, A m c k.val (i 0).val * B m c ((i 1).val / 2176) k.val ((i 1).val % 2176) := by
  have h1 : (i 1).val < 2176 := (i 1).isLt
  rw [KvfGradRefIdeal.Read.val_main_v5_apply, KvfGradRefIdeal.Read.val_main_v4_apply]
  refine Finset.sum_congr rfl fun k _ => ?_
  have hk : k.val < 8192 := k.isLt
  rw [KvfGradRefIdeal.Read.val_main_v1_apply, KvfGradRefIdeal.Read.val_main_v0_apply, mul_comm]
  refine mul_eq (gat2_eq (arg0 m c) _ rfl rfl) (gat3_eq (arg1 m c) _ ?_ ?_ ?_)
  · show 0 = (i 1).val / 2176; omega
  · show (k.val * 2176 + (i 1).val) / 2176 = k.val; omega
  · show (k.val * 2176 + (i 1).val) % 2176 = (i 1).val % 2176; omega

theorem algebraic : Cert.algebraic_KvfGradIdeal_KvfGradRefIdeal := by
  intro m ρ m' ρ' hpre hagree
  refine ⟨_, Cert.KvfGradIdeal.Value.run (F := Ideal) m ρ, ?_⟩
  refine (θ_run KvfGradRefIdeal.defs _ _).mono (fun _ h c => ?_) (KvfGradRefIdeal.Value.run (F := Ideal) m' ρ')
  obtain ⟨g0, g1⟩ := hagree c
  refine ⟨(h c).1.trans ?_, (h c).2⟩
  refine (KvfGradRefIdeal.Read.val_main_v5_eq (F := Ideal) _ _).trans ?_
  rw [g0, g1]
  exact funext fun i => (ref m c i).trans (result m c i).symm

end Cert.Proof.Prod.KvfGrad

end
-- ==== Proof.Down.lean ====
/- The feed-forward part's second product, added to the residual stream. -/
module

public import proofs.«01_k».proof.Proof.ProdSum
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read

@[expose] public section

set_option maxRecDepth 16384

noncomputable section

namespace Cert.Proof.Prod.Down

open Idealize.ShloMosaic TcCoe ValueIdx StableHlo Idealize.SL.Sem Cert.DownIdeal Cert.DownIdeal.Gen Cert.DownIdeal.Value

theorem frame_p : Cert.quiescent_Down := fun m ρ _ => Down.Gen.frame m ρ
theorem frame_pi : Cert.quiescent_DownIdeal := fun m ρ _ => DownIdeal.Gen.frame m ρ
theorem frame_ri : Cert.quiescent_DownRefIdeal := fun m ρ _ =>
  (θ_run DownRefIdeal.defs _ _).mono (fun r h => ⟨fun c => (h c).2, sem_eq_zero_of_no_sems (by decide) r.2⟩)
    (DownRefIdeal.Value.run (F := Ideal) m ρ)

variable (m : (ℓ : Loc nD τ sig) → Buf (Elt Ideal) ℓ) (c : Dev nD)

abbrev arg0 : S8192x2816.Idx → EReal := m ((c.tc : Thread nD τ).loc main_arg0)
abbrev arg1 : S2816x1024.Idx → EReal := m ((c.tc : Thread nD τ).loc main_arg1)
abbrev arg2 : S8192x1024.Idx → EReal := m ((c.tc : Thread nD τ).loc main_arg2)

theorem host0 : (V m c main_v0 : S8192x2816.Idx → EReal) = arg0 m c := by
  have e : V m c main_v0 = truncf (F := Ideal) .bf16 (arg0 m c) bitsLt_bf16_f32 := by
    unfold V
    after_results
  exact e
theorem host1 : (V m c main_v1 : S2816x1024.Idx → EReal) = arg1 m c := by
  have e : V m c main_v1 = truncf (F := Ideal) .bf16 (arg1 m c) bitsLt_bf16_f32 := by
    unfold V
    after_results
  exact e

theorem at_ : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0
    ∧ win0_3.index t (0 : Fin 2) = t.val ∧ win0_3.index t (1 : Fin 2) = 0 ∧ (cfg0.win 3).flush t = true :=
  (by decide +kernel : ∀ t : Fin grid0.N, _)

/-- The blocks of a grid point, in the arguments. -/
theorem blk0 (t : Fin cfg0.N) (y : S512x2816.Idx) : (iblk m c 0 t : S512x2816.Idx → EReal) y = gat2 (arg0 m c) (512 * t.val + (y 0).val) (y 1).val := by
  obtain ⟨e0, e1, -⟩ := at_ t
  refine (congrFun (host0 m c) (((cfg0.win 0).blk t).view.emb y)).trans (gat2_eq (arg0 m c) _ ?_ ?_)
  · show win0_0.index t (0 : Fin 2) * 512 + 1 * (y 0).val = _; rw [e0]; omega
  · show win0_0.index t (1 : Fin 2) * 2816 + 1 * (y 1).val = _; rw [e1]; omega
theorem blk1 (t : Fin cfg0.N) (y : S2816x1024.Idx) : (iblk m c 1 t : S2816x1024.Idx → EReal) y = gat2 (arg1 m c) (y 0).val (y 1).val := by
  obtain ⟨-, -, e0, e1, -⟩ := at_ t
  refine (congrFun (host1 m c) (((cfg0.win 1).blk t).view.emb y)).trans (gat2_eq (arg1 m c) _ ?_ ?_)
  · show win0_1.index t (0 : Fin 2) * 2816 + 1 * (y 0).val = _; rw [e0]; omega
  · show win0_1.index t (1 : Fin 2) * 1024 + 1 * (y 1).val = _; rw [e1]; omega
theorem blk2 (t : Fin cfg0.N) (y : S512x1024.Idx) : (iblk m c 2 t : S512x1024.Idx → EReal) y = gat2 (arg2 m c) (512 * t.val + (y 0).val) (y 1).val := by
  obtain ⟨-, -, -, -, e0, e1, -⟩ := at_ t
  refine (congrFun (V_main_arg2 m c) (((cfg0.win 2).blk t).view.emb y)).trans (gat2_eq (arg2 m c) _ ?_ ?_)
  · show win0_2.index t (0 : Fin 2) * 512 + 1 * (y 0).val = _; rw [e0]; omega
  · show win0_2.index t (1 : Fin 2) * 1024 + 1 * (y 1).val = _; rw [e1]; omega

/-- The reference's result at coordinates. -/
theorem ref (i : S8192x1024.Idx) : (DownRefIdeal.Read.val_main_v1 (F := Ideal) (arg0 m c) (arg1 m c) (arg2 m c) i : EReal)
    = gat2 (arg2 m c) (i 0).val (i 1).val + ∑ k : Fin 2816, gat2 (arg0 m c) (i 0).val k.val * gat2 (arg1 m c) k.val (i 1).val := by
  rw [DownRefIdeal.Read.val_main_v1_apply, DownRefIdeal.Read.val_main_v0_apply]
  exact add_eq (gat2_eq (arg2 m c) i rfl rfl) (Finset.sum_congr rfl fun k _ =>
    mul_eq (gat2_eq (arg0 m c) _ rfl rfl) (gat2_eq (arg1 m c) _ rfl rfl))

/-- What the body leaves at a grid point. -/
theorem point (t : Fin cfg0.N) (y : S512x1024.Idx) : (out0_3 (F := Ideal) (iblk m c 0 t) (iblk m c 1 t) (iblk m c 2 t) y : EReal)
    = gat2 (arg2 m c) (512 * t.val + (y 0).val) (y 1).val
      + ∑ k : Fin 2816, gat2 (arg0 m c) (512 * t.val + (y 0).val) k.val * gat2 (arg1 m c) k.val (y 1).val := by
  have hz : (![0, 0] : Fin 2 → ℕ) = fun _ => 0 := funext fun a => match a with
    | ⟨0, _⟩ => rfl
    | ⟨1, _⟩ => rfl
  refine (congrFun (View.canon_unit_zero hz _ _) y).trans ?_
  unfold k0_pay1
  rw [View.ld_unit_zero hz, View.ld_unit_zero hz, View.ld_unit_zero hz]
  simp only [shapeCast_self]
  refine (plain_product dot_S512x2816_S2816x1024_S512x1024_1_0_0_1_n_n ⟨rfl, rfl, rfl, rfl, rfl, rfl⟩ rfl rfl _ _ _ y).trans
    (add_eq (blk2 m c t y) (Finset.sum_congr rfl fun k _ => ?_))
  exact mul_eq (blk0 m c t (ix2 (y 0) k)) (blk1 m c t (ix2 k (y 1)))

theorem mem (t : Fin cfg0.N) (i : S8192x1024.Idx) : i ∈ ((cfg0.win 3).blk t).view.set
    ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- The kernel's result. -/
theorem result : (dats m 0 c).arrAt 3 cfg0.N = DownRefIdeal.Read.val_main_v1 (F := Ideal) (arg0 m c) (arg1 m c) (arg2 m c) := by
  refine (dats m 0 c).arrAt_eq_of_cover 3 _ (fun t _ => ?_) (fun i => ?_)
  · obtain ⟨-, -, -, -, -, -, e0, e1, -⟩ := at_ t
    rw [flushed3]
    funext y
    refine (point m c t y).trans (Eq.trans ?_ (ref m c (((cfg0.win 3).blk t).view.emb y)).symm)
    have f0 : (((cfg0.win 3).blk t).view.emb y 0).val = 512 * t.val + (y 0).val := by
      show win0_3.index t (0 : Fin 2) * 512 + 1 * (y 0).val = _; rw [e0]; omega
    have f1 : (((cfg0.win 3).blk t).view.emb y 1).val = (y 1).val := by
      show win0_3.index t (1 : Fin 2) * 1024 + 1 * (y 1).val = _; rw [e1]; omega
    rw [f0, f1]
  · have h0 : (i 0).val < 8192 := (i 0).isLt
    have h1 : (i 1).val < 1024 := (i 1).isLt
    have hN : cfg0.N = 16 := N_0
    obtain ⟨-, -, -, -, -, -, e0, e1, hf⟩ := at_ ⟨(i 0).val / 512, by omega⟩
    refine ⟨⟨(i 0).val / 512, by omega⟩, hf, ?_⟩
    refine (mem _ i).2 ?_
    intro a
    match a with
    | ⟨0, _⟩ => show win0_3.index _ (0 : Fin 2) * 512 ≤ (i 0).val ∧ (i 0).val < win0_3.index _ (0 : Fin 2) * 512 + 512; rw [e0]; dsimp only; omega
    | ⟨1, _⟩ => show win0_3.index _ (1 : Fin 2) * 1024 ≤ (i 1).val ∧ (i 1).val < win0_3.index _ (1 : Fin 2) * 1024 + 1024; rw [e1]; omega

theorem algebraic : Cert.algebraic_DownIdeal_DownRefIdeal := by
  intro m ρ m' ρ' hpre hagree
  refine ⟨_, Cert.DownIdeal.Value.run_blocks (F := Ideal) m ρ, ?_⟩
  refine (θ_run DownRefIdeal.defs _ _).mono (fun _ h c => ?_) (DownRefIdeal.Value.run (F := Ideal) m' ρ')
  obtain ⟨g0, g1, g2⟩ := hagree c
  refine ⟨(h c).1.trans ?_, (h c).2⟩
  refine (DownRefIdeal.Read.val_main_v1_eq (F := Ideal) _ _ _).trans ?_
  rw [g0, g1, g2]
  exact (result m c).symm

end Cert.Proof.Prod.Down

end
-- ==== Proof.Out.lean ====
/- The output product, added to the residual stream. -/
module

public import proofs.«01_k».proof.Proof.ProdSum
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read

@[expose] public section

set_option maxRecDepth 16384

noncomputable section

namespace Cert.Proof.Prod.Out

open Idealize.ShloMosaic TcCoe ValueIdx StableHlo Idealize.SL.Sem Cert.OutIdeal Cert.OutIdeal.Gen Cert.OutIdeal.Value

theorem frame_p : Cert.quiescent_Out := fun m ρ _ => Out.Gen.frame m ρ
theorem frame_pi : Cert.quiescent_OutIdeal := fun m ρ _ => OutIdeal.Gen.frame m ρ
theorem frame_ri : Cert.quiescent_OutRefIdeal := fun m ρ _ =>
  (θ_run OutRefIdeal.defs _ _).mono (fun r h => ⟨fun c => (h c).2, sem_eq_zero_of_no_sems (by decide) r.2⟩)
    (OutRefIdeal.Value.run (F := Ideal) m ρ)

variable (m : (ℓ : Loc nD τ sig) → Buf (Elt Ideal) ℓ) (c : Dev nD)

abbrev arg0 : S8192x1024.Idx → EReal := m ((c.tc : Thread nD τ).loc main_arg0)
abbrev arg1 : S1024x1024.Idx → EReal := m ((c.tc : Thread nD τ).loc main_arg1)
abbrev arg2 : S8192x1024.Idx → EReal := m ((c.tc : Thread nD τ).loc main_arg2)

theorem host0 : (V m c main_v0 : S8192x1024.Idx → EReal) = arg0 m c := by
  have e : V m c main_v0 = truncf (F := Ideal) .bf16 (arg0 m c) bitsLt_bf16_f32 := by
    unfold V
    after_results
  exact e
theorem host1 : (V m c main_v1 : S1024x1024.Idx → EReal) = arg1 m c := by
  have e : V m c main_v1 = truncf (F := Ideal) .bf16 (arg1 m c) bitsLt_bf16_f32 := by
    unfold V
    after_results
  exact e

theorem at_ : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0
    ∧ win0_3.index t (0 : Fin 2) = t.val ∧ win0_3.index t (1 : Fin 2) = 0 ∧ (cfg0.win 3).flush t = true :=
  (by decide +kernel : ∀ t : Fin grid0.N, _)

/-- The blocks of a grid point, in the arguments. -/
theorem blk0 (t : Fin cfg0.N) (y : S512x1024.Idx) : (iblk m c 0 t : S512x1024.Idx → EReal) y = gat2 (arg0 m c) (512 * t.val + (y 0).val) (y 1).val := by
  obtain ⟨e0, e1, -⟩ := at_ t
  refine (congrFun (host0 m c) (((cfg0.win 0).blk t).view.emb y)).trans (gat2_eq (arg0 m c) _ ?_ ?_)
  · show win0_0.index t (0 : Fin 2) * 512 + 1 * (y 0).val = _; rw [e0]; omega
  · show win0_0.index t (1 : Fin 2) * 1024 + 1 * (y 1).val = _; rw [e1]; omega
theorem blk1 (t : Fin cfg0.N) (y : S1024x1024.Idx) : (iblk m c 1 t : S1024x1024.Idx → EReal) y = gat2 (arg1 m c) (y 0).val (y 1).val := by
  obtain ⟨-, -, e0, e1, -⟩ := at_ t
  refine (congrFun (host1 m c) (((cfg0.win 1).blk t).view.emb y)).trans (gat2_eq (arg1 m c) _ ?_ ?_)
  · show win0_1.index t (0 : Fin 2) * 1024 + 1 * (y 0).val = _; rw [e0]; omega
  · show win0_1.index t (1 : Fin 2) * 1024 + 1 * (y 1).val = _; rw [e1]; omega
theorem blk2 (t : Fin cfg0.N) (y : S512x1024.Idx) : (iblk m c 2 t : S512x1024.Idx → EReal) y = gat2 (arg2 m c) (512 * t.val + (y 0).val) (y 1).val := by
  obtain ⟨-, -, -, -, e0, e1, -⟩ := at_ t
  refine (congrFun (V_main_arg2 m c) (((cfg0.win 2).blk t).view.emb y)).trans (gat2_eq (arg2 m c) _ ?_ ?_)
  · show win0_2.index t (0 : Fin 2) * 512 + 1 * (y 0).val = _; rw [e0]; omega
  · show win0_2.index t (1 : Fin 2) * 1024 + 1 * (y 1).val = _; rw [e1]; omega

/-- The reference's result at coordinates. -/
theorem ref (i : S8192x1024.Idx) : (OutRefIdeal.Read.val_main_v1 (F := Ideal) (arg0 m c) (arg1 m c) (arg2 m c) i : EReal)
    = gat2 (arg2 m c) (i 0).val (i 1).val + ∑ k : Fin 1024, gat2 (arg0 m c) (i 0).val k.val * gat2 (arg1 m c) k.val (i 1).val := by
  rw [OutRefIdeal.Read.val_main_v1_apply, OutRefIdeal.Read.val_main_v0_apply]
  exact add_eq (gat2_eq (arg2 m c) i rfl rfl) (Finset.sum_congr rfl fun k _ =>
    mul_eq (gat2_eq (arg0 m c) _ rfl rfl) (gat2_eq (arg1 m c) _ rfl rfl))

/-- What the body leaves at a grid point. -/
theorem point (t : Fin cfg0.N) (y : S512x1024.Idx) : (out0_3 (F := Ideal) (iblk m c 0 t) (iblk m c 1 t) (iblk m c 2 t) y : EReal)
    = gat2 (arg2 m c) (512 * t.val + (y 0).val) (y 1).val
      + ∑ k : Fin 1024, gat2 (arg0 m c) (512 * t.val + (y 0).val) k.val * gat2 (arg1 m c) k.val (y 1).val := by
  have hz : (![0, 0] : Fin 2 → ℕ) = fun _ => 0 := funext fun a => match a with
    | ⟨0, _⟩ => rfl
    | ⟨1, _⟩ => rfl
  refine (congrFun (View.canon_unit_zero hz _ _) y).trans ?_
  unfold k0_pay1
  rw [View.ld_unit_zero hz, View.ld_unit_zero hz, View.ld_unit_zero hz]
  simp only [shapeCast_self]
  refine (plain_product dot_S512x1024_S1024x1024_S512x1024_1_0_0_1_n_n ⟨rfl, rfl, rfl, rfl, rfl, rfl⟩ rfl rfl _ _ _ y).trans
    (add_eq (blk2 m c t y) (Finset.sum_congr rfl fun k _ => ?_))
  exact mul_eq (blk0 m c t (ix2 (y 0) k)) (blk1 m c t (ix2 k (y 1)))

theorem mem (t : Fin cfg0.N) (i : S8192x1024.Idx) : i ∈ ((cfg0.win 3).blk t).view.set
    ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- The kernel's result. -/
theorem result : (dats m 0 c).arrAt 3 cfg0.N = OutRefIdeal.Read.val_main_v1 (F := Ideal) (arg0 m c) (arg1 m c) (arg2 m c) := by
  refine (dats m 0 c).arrAt_eq_of_cover 3 _ (fun t _ => ?_) (fun i => ?_)
  · obtain ⟨-, -, -, -, -, -, e0, e1, -⟩ := at_ t
    rw [flushed3]
    funext y
    refine (point m c t y).trans (Eq.trans ?_ (ref m c (((cfg0.win 3).blk t).view.emb y)).symm)
    have f0 : (((cfg0.win 3).blk t).view.emb y 0).val = 512 * t.val + (y 0).val := by
      show win0_3.index t (0 : Fin 2) * 512 + 1 * (y 0).val = _; rw [e0]; omega
    have f1 : (((cfg0.win 3).blk t).view.emb y 1).val = (y 1).val := by
      show win0_3.index t (1 : Fin 2) * 1024 + 1 * (y 1).val = _; rw [e1]; omega
    rw [f0, f1]
  · have h0 : (i 0).val < 8192 := (i 0).isLt
    have h1 : (i 1).val < 1024 := (i 1).isLt
    have hN : cfg0.N = 16 := N_0
    obtain ⟨-, -, -, -, -, -, e0, e1, hf⟩ := at_ ⟨(i 0).val / 512, by omega⟩
    refine ⟨⟨(i 0).val / 512, by omega⟩, hf, ?_⟩
    refine (mem _ i).2 ?_
    intro a
    match a with
    | ⟨0, _⟩ => show win0_3.index _ (0 : Fin 2) * 512 ≤ (i 0).val ∧ (i 0).val < win0_3.index _ (0 : Fin 2) * 512 + 512; rw [e0]; dsimp only; omega
    | ⟨1, _⟩ => show win0_3.index _ (1 : Fin 2) * 1024 ≤ (i 1).val ∧ (i 1).val < win0_3.index _ (1 : Fin 2) * 1024 + 1024; rw [e1]; omega

theorem algebraic : Cert.algebraic_OutIdeal_OutRefIdeal := by
  intro m ρ m' ρ' hpre hagree
  refine ⟨_, Cert.OutIdeal.Value.run_blocks (F := Ideal) m ρ, ?_⟩
  refine (θ_run OutRefIdeal.defs _ _).mono (fun _ h c => ?_) (OutRefIdeal.Value.run (F := Ideal) m' ρ')
  obtain ⟨g0, g1, g2⟩ := hagree c
  refine ⟨(h c).1.trans ?_, (h c).2⟩
  refine (OutRefIdeal.Read.val_main_v1_eq (F := Ideal) _ _ _).trans ?_
  rw [g0, g1, g2]
  exact (result m c).symm

end Cert.Proof.Prod.Out

end
-- ==== Proof.Adam.lean ====
/- The optimiser's step of every weight: the kernel and the reference have one formula, element by element. -/
module

public import proofs.«01_k».proof.Defs
public import Idealize.ShloMosaic.Lib.Quiescent
public import proofs.«01_k».proof.Proof.Gen.AdamNorm.Frame
public import proofs.«01_k».proof.Proof.Gen.AdamNormIdeal.Value
public import proofs.«01_k».proof.Proof.Gen.AdamNormRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamKvNorm.Frame
public import proofs.«01_k».proof.Proof.Gen.AdamKvNormIdeal.Value
public import proofs.«01_k».proof.Proof.Gen.AdamKvNormRefIdeal.Run
public import proofs.«01_k».proof.Proof.Gen.AdamKvf.Frame
public import proofs.«01_k».proof.Proof.Gen.AdamKvfIdeal.Value
public import proofs.«01_k».proof.Proof.Gen.AdamKvfRefIdeal.Run
public import proofs.«01_k».proof.Proof.Gen.AdamBf.Frame
public import proofs.«01_k».proof.Proof.Gen.AdamBfIdeal.Value
public import proofs.«01_k».proof.Proof.Gen.AdamBfRefIdeal.Run
public import proofs.«01_k».proof.Proof.Gen.AdamKNorm.Frame
public import proofs.«01_k».proof.Proof.Gen.AdamKNormIdeal.Value
public import proofs.«01_k».proof.Proof.Gen.AdamKNormRefIdeal.Run
public import proofs.«01_k».proof.Proof.Gen.AdamQg.Frame
public import proofs.«01_k».proof.Proof.Gen.AdamQgIdeal.Value
public import proofs.«01_k».proof.Proof.Gen.AdamQgRefIdeal.Run
public import proofs.«01_k».proof.Proof.Gen.AdamQNorm.Frame
public import proofs.«01_k».proof.Proof.Gen.AdamQNormIdeal.Value
public import proofs.«01_k».proof.Proof.Gen.AdamQNormRefIdeal.Run
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamFConv.Frame
public import proofs.«01_k».proof.Proof.Gen.AdamFConvIdeal.Value
public import proofs.«01_k».proof.Proof.Gen.AdamFConvRefIdeal.Run
public import proofs.«01_k».proof.Proof.Gen.AdamDown.Frame
public import proofs.«01_k».proof.Proof.Gen.AdamDownIdeal.Value
public import proofs.«01_k».proof.Proof.Gen.AdamDownRefIdeal.Run

@[expose] public section

noncomputable section

namespace Cert.Proof.Adam

open Idealize.ShloMosaic TcCoe StableHlo Idealize.SL.Sem

/-- The new first and second moments and the change of the weight, at one element. -/
abbrev mom (g m : Ideal .f32) : Ideal .f32 :=
  FloatOps.addf (FloatOps.mulf (FloatOps.ofBits .f32 0x3F666666#32) m) (FloatOps.mulf (FloatOps.ofBits .f32 0x3DCCCCCD#32) g)
abbrev sq (g v : Ideal .f32) : Ideal .f32 :=
  FloatOps.addf (FloatOps.mulf (FloatOps.ofBits .f32 0x3F7FBE77#32) v) (FloatOps.mulf (FloatOps.ofBits .f32 0x3A83126F#32) (FloatOps.mulf g g))
abbrev delta (w g m v : Ideal .f32) : Ideal .f32 :=
  FloatOps.mulf (FloatOps.ofBits .f32 0xBA83126F#32) (FloatOps.addf
    (FloatOps.divf (FloatOps.divf (mom g m) (FloatOps.ofBits .f32 0x3F26BD02#32))
      (FloatOps.addf (FloatOps.sqrt (FloatOps.divf (sq g v) (FloatOps.ofBits .f32 0x3C231ACC#32))) (FloatOps.ofBits .f32 0x322BCC77#32)))
    (FloatOps.mulf (FloatOps.ofBits .f32 0x3C23D70A#32) w))

/-- The three results of arguments that agree. -/
theorem step {s : Shape} {w g m v w' g' m' v' d n q : s.Idx → Ideal .f32} {K : Prop} (e : w' = w ∧ g' = g ∧ m' = m ∧ v' = v)
    (h : d = (fun i => delta (w' i) (g' i) (m' i) (v' i)) ∧ n = (fun i => mom (g' i) (m' i)) ∧ q = (fun i => sq (g' i) (v' i)) ∧ K) :
    d = (fun i => delta (w i) (g i) (m i) (v i)) ∧ n = (fun i => mom (g i) (m i)) ∧ q = (fun i => sq (g i) (v i)) ∧ K := by
  obtain ⟨rfl, rfl, rfl, rfl⟩ := e
  exact h

theorem norm : Cert.quiescent_AdamNorm ∧ Cert.quiescent_AdamNormIdeal ∧ Cert.quiescent_AdamNormRefIdeal ∧ Cert.algebraic_AdamNormIdeal_AdamNormRefIdeal :=
  ⟨fun m ρ _ => AdamNorm.Gen.frame m ρ, fun m ρ _ => AdamNormIdeal.Gen.frame m ρ, fun m ρ _ =>
    (θ_run AdamNormRefIdeal.defs _ _).mono (fun r h => ⟨fun c => (h c).2.2.2, sem_eq_zero_of_no_sems (by decide) r.2⟩)
      (AdamNormRefIdeal.Value.run (F := Ideal) m ρ),
    fun m ρ m' ρ' _ e => ⟨_, _, _, AdamNormIdeal.Value.run (F := Ideal) m ρ,
      (θ_run AdamNormRefIdeal.defs _ _).mono (fun _ h c => step (e c) (h c)) (AdamNormRefIdeal.Value.run (F := Ideal) m' ρ')⟩⟩

theorem mix : Cert.quiescent_AdamIn ∧ Cert.quiescent_AdamInIdeal ∧ Cert.quiescent_AdamInRefIdeal ∧ Cert.algebraic_AdamInIdeal_AdamInRefIdeal :=
  ⟨fun m ρ _ => AdamIn.Gen.frame m ρ, fun m ρ _ => AdamInIdeal.Gen.frame m ρ, fun m ρ _ =>
    (θ_run AdamInRefIdeal.defs _ _).mono (fun r h => ⟨fun c => (h c).2.2.2, sem_eq_zero_of_no_sems (by decide) r.2⟩)
      (AdamInRefIdeal.Value.run (F := Ideal) m ρ),
    fun m ρ m' ρ' _ e => ⟨_, _, _, AdamInIdeal.Value.run (F := Ideal) m ρ,
      (θ_run AdamInRefIdeal.defs _ _).mono (fun _ h c => step (e c) (h c)) (AdamInRefIdeal.Value.run (F := Ideal) m' ρ')⟩⟩

theorem conv : Cert.quiescent_AdamConv ∧ Cert.quiescent_AdamConvIdeal ∧ Cert.quiescent_AdamConvRefIdeal ∧ Cert.algebraic_AdamConvIdeal_AdamConvRefIdeal :=
  ⟨fun m ρ _ => AdamConv.Gen.frame m ρ, fun m ρ _ => AdamConvIdeal.Gen.frame m ρ, fun m ρ _ =>
    (θ_run AdamConvRefIdeal.defs _ _).mono (fun r h => ⟨fun c => (h c).2.2.2, sem_eq_zero_of_no_sems (by decide) r.2⟩)
      (AdamConvRefIdeal.Value.run (F := Ideal) m ρ),
    fun m ρ m' ρ' _ e => ⟨_, _, _, AdamConvIdeal.Value.run (F := Ideal) m ρ,
      (θ_run AdamConvRefIdeal.defs _ _).mono (fun _ h c => step (e c) (h c)) (AdamConvRefIdeal.Value.run (F := Ideal) m' ρ')⟩⟩

theorem out : Cert.quiescent_AdamOut ∧ Cert.quiescent_AdamOutIdeal ∧ Cert.quiescent_AdamOutRefIdeal ∧ Cert.algebraic_AdamOutIdeal_AdamOutRefIdeal :=
  ⟨fun m ρ _ => AdamOut.Gen.frame m ρ, fun m ρ _ => AdamOutIdeal.Gen.frame m ρ, fun m ρ _ =>
    (θ_run AdamOutRefIdeal.defs _ _).mono (fun r h => ⟨fun c => (h c).2.2.2, sem_eq_zero_of_no_sems (by decide) r.2⟩)
      (AdamOutRefIdeal.Value.run (F := Ideal) m ρ),
    fun m ρ m' ρ' _ e => ⟨_, _, _, AdamOutIdeal.Value.run (F := Ideal) m ρ,
      (θ_run AdamOutRefIdeal.defs _ _).mono (fun _ h c => step (e c) (h c)) (AdamOutRefIdeal.Value.run (F := Ideal) m' ρ')⟩⟩

theorem kvNorm : Cert.quiescent_AdamKvNorm ∧ Cert.quiescent_AdamKvNormIdeal ∧ Cert.quiescent_AdamKvNormRefIdeal ∧ Cert.algebraic_AdamKvNormIdeal_AdamKvNormRefIdeal :=
  ⟨fun m ρ _ => AdamKvNorm.Gen.frame m ρ, fun m ρ _ => AdamKvNormIdeal.Gen.frame m ρ, fun m ρ _ =>
    (θ_run AdamKvNormRefIdeal.defs _ _).mono (fun r h => ⟨fun c => (h c).2.2.2, sem_eq_zero_of_no_sems (by decide) r.2⟩)
      (AdamKvNormRefIdeal.Value.run (F := Ideal) m ρ),
    fun m ρ m' ρ' _ e => ⟨_, _, _, AdamKvNormIdeal.Value.run (F := Ideal) m ρ,
      (θ_run AdamKvNormRefIdeal.defs _ _).mono (fun _ h c => step (e c) (h c)) (AdamKvNormRefIdeal.Value.run (F := Ideal) m' ρ')⟩⟩

theorem kvf : Cert.quiescent_AdamKvf ∧ Cert.quiescent_AdamKvfIdeal ∧ Cert.quiescent_AdamKvfRefIdeal ∧ Cert.algebraic_AdamKvfIdeal_AdamKvfRefIdeal :=
  ⟨fun m ρ _ => AdamKvf.Gen.frame m ρ, fun m ρ _ => AdamKvfIdeal.Gen.frame m ρ, fun m ρ _ =>
    (θ_run AdamKvfRefIdeal.defs _ _).mono (fun r h => ⟨fun c => (h c).2.2.2, sem_eq_zero_of_no_sems (by decide) r.2⟩)
      (AdamKvfRefIdeal.Value.run (F := Ideal) m ρ),
    fun m ρ m' ρ' _ e => ⟨_, _, _, AdamKvfIdeal.Value.run (F := Ideal) m ρ,
      (θ_run AdamKvfRefIdeal.defs _ _).mono (fun _ h c => step (e c) (h c)) (AdamKvfRefIdeal.Value.run (F := Ideal) m' ρ')⟩⟩

theorem bf : Cert.quiescent_AdamBf ∧ Cert.quiescent_AdamBfIdeal ∧ Cert.quiescent_AdamBfRefIdeal ∧ Cert.algebraic_AdamBfIdeal_AdamBfRefIdeal :=
  ⟨fun m ρ _ => AdamBf.Gen.frame m ρ, fun m ρ _ => AdamBfIdeal.Gen.frame m ρ, fun m ρ _ =>
    (θ_run AdamBfRefIdeal.defs _ _).mono (fun r h => ⟨fun c => (h c).2.2.2, sem_eq_zero_of_no_sems (by decide) r.2⟩)
      (AdamBfRefIdeal.Value.run (F := Ideal) m ρ),
    fun m ρ m' ρ' _ e => ⟨_, _, _, AdamBfIdeal.Value.run (F := Ideal) m ρ,
      (θ_run AdamBfRefIdeal.defs _ _).mono (fun _ h c => step (e c) (h c)) (AdamBfRefIdeal.Value.run (F := Ideal) m' ρ')⟩⟩

theorem kNorm : Cert.quiescent_AdamKNorm ∧ Cert.quiescent_AdamKNormIdeal ∧ Cert.quiescent_AdamKNormRefIdeal ∧ Cert.algebraic_AdamKNormIdeal_AdamKNormRefIdeal :=
  ⟨fun m ρ _ => AdamKNorm.Gen.frame m ρ, fun m ρ _ => AdamKNormIdeal.Gen.frame m ρ, fun m ρ _ =>
    (θ_run AdamKNormRefIdeal.defs _ _).mono (fun r h => ⟨fun c => (h c).2.2.2, sem_eq_zero_of_no_sems (by decide) r.2⟩)
      (AdamKNormRefIdeal.Value.run (F := Ideal) m ρ),
    fun m ρ m' ρ' _ e => ⟨_, _, _, AdamKNormIdeal.Value.run (F := Ideal) m ρ,
      (θ_run AdamKNormRefIdeal.defs _ _).mono (fun _ h c => step (e c) (h c)) (AdamKNormRefIdeal.Value.run (F := Ideal) m' ρ')⟩⟩

theorem qg : Cert.quiescent_AdamQg ∧ Cert.quiescent_AdamQgIdeal ∧ Cert.quiescent_AdamQgRefIdeal ∧ Cert.algebraic_AdamQgIdeal_AdamQgRefIdeal :=
  ⟨fun m ρ _ => AdamQg.Gen.frame m ρ, fun m ρ _ => AdamQgIdeal.Gen.frame m ρ, fun m ρ _ =>
    (θ_run AdamQgRefIdeal.defs _ _).mono (fun r h => ⟨fun c => (h c).2.2.2, sem_eq_zero_of_no_sems (by decide) r.2⟩)
      (AdamQgRefIdeal.Value.run (F := Ideal) m ρ),
    fun m ρ m' ρ' _ e => ⟨_, _, _, AdamQgIdeal.Value.run (F := Ideal) m ρ,
      (θ_run AdamQgRefIdeal.defs _ _).mono (fun _ h c => step (e c) (h c)) (AdamQgRefIdeal.Value.run (F := Ideal) m' ρ')⟩⟩

theorem qNorm : Cert.quiescent_AdamQNorm ∧ Cert.quiescent_AdamQNormIdeal ∧ Cert.quiescent_AdamQNormRefIdeal ∧ Cert.algebraic_AdamQNormIdeal_AdamQNormRefIdeal :=
  ⟨fun m ρ _ => AdamQNorm.Gen.frame m ρ, fun m ρ _ => AdamQNormIdeal.Gen.frame m ρ, fun m ρ _ =>
    (θ_run AdamQNormRefIdeal.defs _ _).mono (fun r h => ⟨fun c => (h c).2.2.2, sem_eq_zero_of_no_sems (by decide) r.2⟩)
      (AdamQNormRefIdeal.Value.run (F := Ideal) m ρ),
    fun m ρ m' ρ' _ e => ⟨_, _, _, AdamQNormIdeal.Value.run (F := Ideal) m ρ,
      (θ_run AdamQNormRefIdeal.defs _ _).mono (fun _ h c => step (e c) (h c)) (AdamQNormRefIdeal.Value.run (F := Ideal) m' ρ')⟩⟩

theorem up : Cert.quiescent_AdamUp ∧ Cert.quiescent_AdamUpIdeal ∧ Cert.quiescent_AdamUpRefIdeal ∧ Cert.algebraic_AdamUpIdeal_AdamUpRefIdeal :=
  ⟨fun m ρ _ => AdamUp.Gen.frame m ρ, fun m ρ _ => AdamUpIdeal.Gen.frame m ρ, fun m ρ _ =>
    (θ_run AdamUpRefIdeal.defs _ _).mono (fun r h => ⟨fun c => (h c).2.2.2, sem_eq_zero_of_no_sems (by decide) r.2⟩)
      (AdamUpRefIdeal.Value.run (F := Ideal) m ρ),
    fun m ρ m' ρ' _ e => ⟨_, _, _, AdamUpIdeal.Value.run (F := Ideal) m ρ,
      (θ_run AdamUpRefIdeal.defs _ _).mono (fun _ h c => step (e c) (h c)) (AdamUpRefIdeal.Value.run (F := Ideal) m' ρ')⟩⟩

theorem fConv : Cert.quiescent_AdamFConv ∧ Cert.quiescent_AdamFConvIdeal ∧ Cert.quiescent_AdamFConvRefIdeal ∧ Cert.algebraic_AdamFConvIdeal_AdamFConvRefIdeal :=
  ⟨fun m ρ _ => AdamFConv.Gen.frame m ρ, fun m ρ _ => AdamFConvIdeal.Gen.frame m ρ, fun m ρ _ =>
    (θ_run AdamFConvRefIdeal.defs _ _).mono (fun r h => ⟨fun c => (h c).2.2.2, sem_eq_zero_of_no_sems (by decide) r.2⟩)
      (AdamFConvRefIdeal.Value.run (F := Ideal) m ρ),
    fun m ρ m' ρ' _ e => ⟨_, _, _, AdamFConvIdeal.Value.run (F := Ideal) m ρ,
      (θ_run AdamFConvRefIdeal.defs _ _).mono (fun _ h c => step (e c) (h c)) (AdamFConvRefIdeal.Value.run (F := Ideal) m' ρ')⟩⟩

theorem down : Cert.quiescent_AdamDown ∧ Cert.quiescent_AdamDownIdeal ∧ Cert.quiescent_AdamDownRefIdeal ∧ Cert.algebraic_AdamDownIdeal_AdamDownRefIdeal :=
  ⟨fun m ρ _ => AdamDown.Gen.frame m ρ, fun m ρ _ => AdamDownIdeal.Gen.frame m ρ, fun m ρ _ =>
    (θ_run AdamDownRefIdeal.defs _ _).mono (fun r h => ⟨fun c => (h c).2.2.2, sem_eq_zero_of_no_sems (by decide) r.2⟩)
      (AdamDownRefIdeal.Value.run (F := Ideal) m ρ),
    fun m ρ m' ρ' _ e => ⟨_, _, _, AdamDownIdeal.Value.run (F := Ideal) m ρ,
      (θ_run AdamDownRefIdeal.defs _ _).mono (fun _ h c => step (e c) (h c)) (AdamDownRefIdeal.Value.run (F := Ideal) m' ρ')⟩⟩

end Cert.Proof.Adam

end
-- ==== Proof.lean ====
module

public import proofs.«01_k».proof.Defs
public import proofs.«01_k».proof.Proof.Frames
public import proofs.«01_k».proof.Proof.Value
public import proofs.«01_k».proof.Proof.UpGrad
public import proofs.«01_k».proof.Proof.DownGrad
public import proofs.«01_k».proof.Proof.InGrad
public import proofs.«01_k».proof.Proof.OutGrad
public import proofs.«01_k».proof.Proof.QgGrad
public import proofs.«01_k».proof.Proof.KvfGrad
public import proofs.«01_k».proof.Proof.Down
public import proofs.«01_k».proof.Proof.Out
public import proofs.«01_k».proof.Proof.Adam
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

theorem claim : Cert.Claim :=
  have hPre : Cert.Pre_finite.Facts := Cert.Pre_finite.Gen.facts
  ⟨Cert.Kernel.Gen.facts, Cert.KernelIdeal.Gen.facts, Cert.ReferenceIdeal.Gen.facts,
    Cert.UpGrad.Gen.facts, Cert.UpGradIdeal.Gen.facts, Cert.UpGradRefIdeal.Gen.facts,
    Cert.DownGrad.Gen.facts, Cert.DownGradIdeal.Gen.facts, Cert.DownGradRefIdeal.Gen.facts,
    Cert.InGrad.Gen.facts, Cert.InGradIdeal.Gen.facts, Cert.InGradRefIdeal.Gen.facts,
    Cert.OutGrad.Gen.facts, Cert.OutGradIdeal.Gen.facts, Cert.OutGradRefIdeal.Gen.facts,
    Cert.QgGrad.Gen.facts, Cert.QgGradIdeal.Gen.facts, Cert.QgGradRefIdeal.Gen.facts,
    Cert.KvfGrad.Gen.facts, Cert.KvfGradIdeal.Gen.facts, Cert.KvfGradRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.AdamNorm.Gen.facts, Cert.AdamNormIdeal.Gen.facts, Cert.AdamNormRefIdeal.Gen.facts,
    Cert.AdamIn.Gen.facts, Cert.AdamInIdeal.Gen.facts, Cert.AdamInRefIdeal.Gen.facts,
    Cert.AdamConv.Gen.facts, Cert.AdamConvIdeal.Gen.facts, Cert.AdamConvRefIdeal.Gen.facts,
    Cert.AdamOut.Gen.facts, Cert.AdamOutIdeal.Gen.facts, Cert.AdamOutRefIdeal.Gen.facts,
    Cert.AdamKvNorm.Gen.facts, Cert.AdamKvNormIdeal.Gen.facts, Cert.AdamKvNormRefIdeal.Gen.facts,
    Cert.AdamKvf.Gen.facts, Cert.AdamKvfIdeal.Gen.facts, Cert.AdamKvfRefIdeal.Gen.facts,
    Cert.AdamBf.Gen.facts, Cert.AdamBfIdeal.Gen.facts, Cert.AdamBfRefIdeal.Gen.facts,
    Cert.AdamKNorm.Gen.facts, Cert.AdamKNormIdeal.Gen.facts, Cert.AdamKNormRefIdeal.Gen.facts,
    Cert.AdamQg.Gen.facts, Cert.AdamQgIdeal.Gen.facts, Cert.AdamQgRefIdeal.Gen.facts,
    Cert.AdamQNorm.Gen.facts, Cert.AdamQNormIdeal.Gen.facts, Cert.AdamQNormRefIdeal.Gen.facts,
    Cert.AdamUp.Gen.facts, Cert.AdamUpIdeal.Gen.facts, Cert.AdamUpRefIdeal.Gen.facts,
    Cert.AdamFConv.Gen.facts, Cert.AdamFConvIdeal.Gen.facts, Cert.AdamFConvRefIdeal.Gen.facts,
    Cert.AdamDown.Gen.facts, Cert.AdamDownIdeal.Gen.facts, Cert.AdamDownRefIdeal.Gen.facts, hPre,
    Claims.frame_p, Claims.frame_pi, Claims.frame_pi_pre, Claims.frame_ri, Claims.frame_ri_pre,
    Prod.UpGrad.frame_p, Prod.UpGrad.frame_pi, Prod.UpGrad.frame_ri,
    Prod.DownGrad.frame_p, Prod.DownGrad.frame_pi, Prod.DownGrad.frame_ri,
    Prod.InGrad.frame_p, Prod.InGrad.frame_pi, Prod.InGrad.frame_ri,
    Prod.OutGrad.frame_p, Prod.OutGrad.frame_pi, Prod.OutGrad.frame_ri,
    Prod.QgGrad.frame_p, Prod.QgGrad.frame_pi, Prod.QgGrad.frame_ri,
    Prod.KvfGrad.frame_p, Prod.KvfGrad.frame_pi, Prod.KvfGrad.frame_ri,
    Prod.Down.frame_p, Prod.Down.frame_pi, Prod.Down.frame_ri,
    Prod.Out.frame_p, Prod.Out.frame_pi, Prod.Out.frame_ri,
    Adam.norm.1, Adam.norm.2.1, Adam.norm.2.2.1,
    Adam.mix.1, Adam.mix.2.1, Adam.mix.2.2.1,
    Adam.conv.1, Adam.conv.2.1, Adam.conv.2.2.1,
    Adam.out.1, Adam.out.2.1, Adam.out.2.2.1,
    Adam.kvNorm.1, Adam.kvNorm.2.1, Adam.kvNorm.2.2.1,
    Adam.kvf.1, Adam.kvf.2.1, Adam.kvf.2.2.1,
    Adam.bf.1, Adam.bf.2.1, Adam.bf.2.2.1,
    Adam.kNorm.1, Adam.kNorm.2.1, Adam.kNorm.2.2.1,
    Adam.qg.1, Adam.qg.2.1, Adam.qg.2.2.1,
    Adam.qNorm.1, Adam.qNorm.2.1, Adam.qNorm.2.2.1,
    Adam.up.1, Adam.up.2.1, Adam.up.2.2.1,
    Adam.fConv.1, Adam.fConv.2.1, Adam.fConv.2.2.1,
    Adam.down.1, Adam.down.2.1, Adam.down.2.2.1,
    Claims.preserves, Claims.algebraic,
    trivial, Prod.UpGrad.algebraic,
    trivial, Prod.DownGrad.algebraic,
    trivial, Prod.InGrad.algebraic,
    trivial, Prod.OutGrad.algebraic,
    trivial, Prod.QgGrad.algebraic,
    trivial, Prod.KvfGrad.algebraic,
    trivial, Prod.Down.algebraic,
    trivial, Prod.Out.algebraic,
    trivial, Adam.norm.2.2.2,
    trivial, Adam.mix.2.2.2,
    trivial, Adam.conv.2.2.2,
    trivial, Adam.out.2.2.2,
    trivial, Adam.kvNorm.2.2.2,
    trivial, Adam.kvf.2.2.2,
    trivial, Adam.bf.2.2.2,
    trivial, Adam.kNorm.2.2.2,
    trivial, Adam.qg.2.2.2,
    trivial, Adam.qNorm.2.2.2,
    trivial, Adam.up.2.2.2,
    trivial, Adam.fConv.2.2.2,
    trivial, Adam.down.2.2.2⟩

end Cert.Proof

end
